-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite21 [hPre_finite21 : Cert.Pre_finite21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))).1 = (fun _ => 1#1)
    ∧ (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))).2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite21 [hPre_finite21 : Cert.Pre_finite21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1))).1 = (fun _ => 1#1)
    ∧ (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1))).2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Kernel21Ideal_pre_finite21 [hKernel21Ideal : Cert.Kernel21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Reference21Ideal_pre_finite21 [hReference21Ideal : Cert.Reference21Ideal.Facts] [hPre_finite21 : Cert.Pre_finite21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v178) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v52) = v0 c
          ∧ r.2.mem ((c.tc : Thread Cert.Reference14Ideal.nD Cert.Reference14Ideal.τ).loc Cert.Reference14Ideal.main_v51) = v1 c
          ∧ r.2.mem ((c.tc : Thread Cert.Reference14Ideal.nD Cert.Reference14Ideal.τ).loc Cert.Reference14Ideal.main_v54) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v20) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v57) = v0 c
          ∧ r.2.mem ((c.tc : Thread Cert.Reference16Ideal.nD Cert.Reference16Ideal.τ).loc Cert.Reference16Ideal.main_v58) = v1 c
          ∧ r.2.mem ((c.tc : Thread Cert.Reference16Ideal.nD Cert.Reference16Ideal.τ).loc Cert.Reference16Ideal.main_v59) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v43) = v0 c
          ∧ r.2.mem ((c.tc : Thread Cert.Reference17Ideal.nD Cert.Reference17Ideal.τ).loc Cert.Reference17Ideal.main_v42) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v43) = v0 c
          ∧ r.2.mem ((c.tc : Thread Cert.Reference18Ideal.nD Cert.Reference18Ideal.τ).loc Cert.Reference18Ideal.main_v42) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v18) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_v22) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal_pre_finite21 [hKernel21Ideal : Cert.Kernel21Ideal.Facts] [hReference21Ideal : Cert.Reference21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v79) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v40) = v1 c
          ∧ r.2.mem ((c.tc : Thread Cert.Reference25Ideal.nD Cert.Reference25Ideal.τ).loc Cert.Reference25Ideal.main_v45) = v2 c
          ∧ r.2.mem ((c.tc : Thread Cert.Reference25Ideal.nD Cert.Reference25Ideal.τ).loc Cert.Reference25Ideal.main_v50) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts) (hPre_finite21 : Cert.Pre_finite21.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite21 (hKernel21Ideal := hKernel21Ideal) (hPre_finite21 := hPre_finite21)
    ∧ quiescent_Reference21Ideal (hReference21Ideal := hReference21Ideal)
    ∧ quiescent_Reference21Ideal_pre_finite21 (hReference21Ideal := hReference21Ideal) (hPre_finite21 := hPre_finite21)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite21 (hKernel21Ideal := hKernel21Ideal) (hReference21Ideal := hReference21Ideal) (hPre_finite21 := hPre_finite21)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite.lean ====
abbrev S4096x1280 : Shape := ⟨2, ![4096, 1280]⟩
abbrev S1x128 : Shape := ⟨2, ![1, 128]⟩
abbrev S4096x1024 : Shape := ⟨2, ![4096, 1024]⟩
abbrev S_ : Shape := ⟨0, ![]⟩

class Facts : Prop where
  bcast_S_S4096x1280 : S_.BroadcastsInDim S4096x1280 (![] : Fin 0 → Fin S4096x1280.rank)
  bcast_S_S1x128 : S_.BroadcastsInDim S1x128 (![] : Fin 0 → Fin S1x128.rank)
  bcast_S_S4096x1024 : S_.BroadcastsInDim S4096x1024 (![] : Fin 0 → Fin S4096x1024.rank)

variable [Facts]

def fn {F : FTy → Type} [FloatOps F] (main_arg0 : FVec F S4096x1280 .f32) (main_arg1 : FVec F S1x128 .f32) (main_arg2 : FVec F S4096x1024 .bf16) : IVec S4096x1280 1 × IVec S1x128 1 × IVec S4096x1024 1 :=
  let main_cst : FVec F S_ .f32 := constant S_ .f32 0xFF800000#32
  let main_v0 : FVec F S4096x1280 .f32 := broadcastInDim S4096x1280 ![] bcast_S_S4096x1280 main_cst
  let main_v1 : IVec S4096x1280 1 := cmpf .ogt main_arg0 main_v0
  let main_cst_0 : FVec F S_ .f32 := constant S_ .f32 0x7F800000#32
  let main_v2 : FVec F S4096x1280 .f32 := broadcastInDim S4096x1280 ![] bcast_S_S4096x1280 main_cst_0
  let main_v3 : IVec S4096x1280 1 := cmpf .olt main_arg0 main_v2
  let main_v4 : IVec S4096x1280 1 := andi main_v1 main_v3
  let main_cst_1 : FVec F S_ .f32 := constant S_ .f32 0xFF800000#32
  let main_v5 : FVec F S1x128 .f32 := broadcastInDim S1x128 ![] bcast_S_S1x128 main_cst_1
  let main_v6 : IVec S1x128 1 := cmpf .ogt main_arg1 main_v5
  let main_cst_2 : FVec F S_ .f32 := constant S_ .f32 0x7F800000#32
  let main_v7 : FVec F S1x128 .f32 := broadcastInDim S1x128 ![] bcast_S_S1x128 main_cst_2
  let main_v8 : IVec S1x128 1 := cmpf .olt main_arg1 main_v7
  let main_v9 : IVec S1x128 1 := andi main_v6 main_v8
  let main_cst_3 : FVec F S_ .bf16 := constant S_ .bf16 0xFF80#16
  let main_v10 : FVec F S4096x1024 .bf16 := broadcastInDim S4096x1024 ![] bcast_S_S4096x1024 main_cst_3
  let main_v11 : IVec S4096x1024 1 := cmpf .ogt main_arg2 main_v10
  let main_cst_4 : FVec F S_ .bf16 := constant S_ .bf16 0x7F80#16
  let main_v12 : FVec F S4096x1024 .bf16 := broadcastInDim S4096x1024 ![] bcast_S_S4096x1024 main_cst_4
  let main_v13 : IVec S4096x1024 1 := cmpf .olt main_arg2 main_v12
  let main_v14 : IVec S4096x1024 1 := andi main_v11 main_v13
  (main_v4, main_v9, main_v14)
-- ==== Pre_finite21.lean ====
abbrev S4096x1280 : Shape := ⟨2, ![4096, 1280]⟩
abbrev S1x128 : Shape := ⟨2, ![1, 128]⟩
abbrev S_ : Shape := ⟨0, ![]⟩

class Facts : Prop where
  bcast_S_S4096x1280 : S_.BroadcastsInDim S4096x1280 (![] : Fin 0 → Fin S4096x1280.rank)
  bcast_S_S1x128 : S_.BroadcastsInDim S1x128 (![] : Fin 0 → Fin S1x128.rank)

variable [Facts]

def fn {F : FTy → Type} [FloatOps F] (main_arg0 : FVec F S4096x1280 .f32) (main_arg1 : FVec F S1x128 .f32) : IVec S4096x1280 1 × IVec S1x128 1 :=
  let main_cst : FVec F S_ .f32 := constant S_ .f32 0xFF800000#32
  let main_v0 : FVec F S4096x1280 .f32 := broadcastInDim S4096x1280 ![] bcast_S_S4096x1280 main_cst
  let main_v1 : IVec S4096x1280 1 := cmpf .ogt main_arg0 main_v0
  let main_cst_0 : FVec F S_ .f32 := constant S_ .f32 0x7F800000#32
  let main_v2 : FVec F S4096x1280 .f32 := broadcastInDim S4096x1280 ![] bcast_S_S4096x1280 main_cst_0
  let main_v3 : IVec S4096x1280 1 := cmpf .olt main_arg0 main_v2
  let main_v4 : IVec S4096x1280 1 := andi main_v1 main_v3
  let main_cst_1 : FVec F S_ .f32 := constant S_ .f32 0xFF800000#32
  let main_v5 : FVec F S1x128 .f32 := broadcastInDim S1x128 ![] bcast_S_S1x128 main_cst_1
  let main_v6 : IVec S1x128 1 := cmpf .ogt main_arg1 main_v5
  let main_cst_2 : FVec F S_ .f32 := constant S_ .f32 0x7F800000#32
  let main_v7 : FVec F S1x128 .f32 := broadcastInDim S1x128 ![] bcast_S_S1x128 main_cst_2
  let main_v8 : IVec S1x128 1 := cmpf .olt main_arg1 main_v7
  let main_v9 : IVec S1x128 1 := andi main_v6 main_v8
  (main_v4, main_v9)
-- ==== Kernel.lean ====
abbrev S4096x1280 : Shape := ⟨2, ![4096, 1280]⟩
abbrev S1x128 : Shape := ⟨2, ![1, 128]⟩
abbrev S4096x1024 : Shape := ⟨2, ![4096, 1024]⟩
abbrev S1x1280 : Shape := ⟨2, ![1, 1280]⟩
abbrev S128x1024 : Shape := ⟨2, ![128, 1024]⟩
abbrev S128x128 : Shape := ⟨2, ![128, 128]⟩
abbrev S128x1280 : Shape := ⟨2, ![128, 1280]⟩
abbrev S2x128x128 : Shape := ⟨3, ![2, 128, 128]⟩
abbrev S1024x128 : Shape := ⟨2, ![1024, 128]⟩
abbrev S1 : Shape := ⟨1, ![1]⟩
abbrev S1x1 : Shape := ⟨2, ![1, 1]⟩
abbrev S128 : Shape := ⟨1, ![128]⟩
abbrev S128x1 : Shape := ⟨2, ![128, 1]⟩
abbrev S1x128x1 : Shape := ⟨3, ![1, 128, 1]⟩
abbrev S1x1x1 : Shape := ⟨3, ![1, 1, 1]⟩
abbrev S1x128x128 : Shape := ⟨3, ![1, 128, 128]⟩

abbrev nBuf : Space → Nat
  | .hbm => 6
  | .vmem => 18
  | .smem => 0
  | _ => 0

abbrev bufTy : (tb : Table) → Fin (tcTables nBuf tb) → BufTy
  | .hbm, ⟨0, _⟩ => ⟨S4096x1280, .f32⟩
  | .hbm, ⟨1, _⟩ => ⟨S1x128, .f32⟩
  | .hbm, ⟨2, _⟩ => ⟨S4096x1024, .bf16⟩
  | .hbm, ⟨3, _⟩ => ⟨S4096x1280, .bf16⟩
  | .hbm, ⟨4, _⟩ => ⟨S1x128, .f32⟩
  | .hbm, ⟨5, _⟩ => ⟨S1x1280, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x1024, .bf16⟩
  | .local _ .vmem, ⟨12, _⟩ => ⟨S128x1024, .bf16⟩
  | .local _ .vmem, ⟨13, _⟩ => ⟨S128x1280, .bf16⟩
  | .local _ .vmem, ⟨14, _⟩ => ⟨S128x1280, .bf16⟩
  | .local _ .vmem, ⟨15, _⟩ => ⟨S1x128, .f32⟩
  | .local _ .vmem, ⟨16, _⟩ => ⟨S1x1280, .f32⟩
  | .local _ .vmem, ⟨17, _⟩ => ⟨S2x128x128, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c9_i32 : BitVec 32 := 9#32
  let c0_i32 : BitVec 32 := 0#32
  ![v0.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1280 : Shape := ⟨2, ![4096, 1280]⟩
abbrev S1x128 : Shape := ⟨2, ![1, 128]⟩
abbrev S4096x1024 : Shape := ⟨2, ![4096, 1024]⟩
abbrev S4096x128 : Shape := ⟨2, ![4096, 128]⟩
abbrev S4096x16x64 : Shape := ⟨3, ![4096, 16, 64]⟩
abbrev S4096x2x64 : Shape := ⟨3, ![4096, 2, 64]⟩
abbrev S1x16 : Shape := ⟨2, ![1, 16]⟩
abbrev S16 : Shape := ⟨1, ![16]⟩
abbrev S32x128x2x8x64 : Shape := ⟨5, ![32, 128, 2, 8, 64]⟩
abbrev S32 : Shape := ⟨1, ![32]⟩
abbrev S32x1x1 : Shape := ⟨3, ![32, 1, 1]⟩
abbrev S_ : Shape := ⟨0, ![]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩
abbrev S32x2x64x256 : Shape := ⟨4, ![32, 2, 64, 256]⟩
abbrev S2x8x1 : Shape := ⟨3, ![2, 8, 1]⟩
abbrev S32x2x128x8x64 : Shape := ⟨5, ![32, 2, 128, 8, 64]⟩
abbrev S32x2x256x64 : Shape := ⟨4, ![32, 2, 256, 64]⟩
abbrev S1280 : Shape := ⟨1, ![1280]⟩
abbrev S1x1280 : Shape := ⟨2, ![1, 1280]⟩

abbrev nBuf : Space → Nat
  | .hbm => 225
  | .vmem => 0
  | .smem => 0
  | _ => 0

abbrev hbmTy0_0 (i : Nat) : BufTy := match i % 128 with
  | 0 => ⟨S4096x1280, .f32⟩
  | 1 => ⟨S1x128, .f32⟩
  | 2 => ⟨S4096x1024, .bf16⟩
  | 3 => ⟨S4096x1024, .f32⟩
  | 4 => ⟨S4096x128, .f32⟩
  | 5 => ⟨S4096x128, .f32⟩
  | 6 => ⟨S4096x16x64, .f32⟩
  | 7 => ⟨S4096x2x64, .f32⟩
  | 8 => ⟨S4096x2x64, .f32⟩
  | 9 => ⟨S1x16, .f32⟩
  | 10 => ⟨S16, .f32⟩
  | 11 => ⟨S32x128x2x8x64, .f32⟩
  | 12 => ⟨S32, .i32⟩
  | 13 => ⟨S32x1x1, .i32⟩
  | 14 => ⟨S_, .i32⟩
  | 15 => ⟨S32x1x1, .i32⟩
  | 16 => ⟨S32x1x1, .i32⟩
  | 17 => ⟨S128, .i32⟩
  | 18 => ⟨S1x128x1, .i32⟩
  | 19 => ⟨S32x128x1, .i32⟩
  | 20 => ⟨S32x128x1, .i32⟩
  | 21 => ⟨S32x128x1, .i32⟩
  | 22 => ⟨S32, .i32⟩
  | 23 => ⟨S32x1x1, .i32⟩
  | 24 => ⟨S_, .i32⟩
  | 25 => ⟨S32x1x1, .i32⟩
  | 26 => ⟨S32x1x1, .i32⟩
  | 27 => ⟨S_, .i32⟩
  | 28 => ⟨S32x1x1, .i32⟩
  | 29 => ⟨S32x1x1, .i32⟩
  | 30 => ⟨S256, .i32⟩
  | 31 => ⟨S1x1x256, .i32⟩
  | 32 => ⟨S32x1x256, .i32⟩
  | 33 => ⟨S32x1x256, .i32⟩
  | 34 => ⟨S32x1x256, .i32⟩
  | 35 => ⟨S32x128x256, .i32⟩
  | 36 => ⟨S32x128x256, .i32⟩
  | 37 => ⟨S32x128x256, .i32⟩
  | 38 => ⟨S_, .i32⟩
  | 39 => ⟨S32x128x256, .i32⟩
  | 40 => ⟨S32x128x256, .i1⟩
  | 41 => ⟨S_, .i32⟩
  | 42 => ⟨S32x128x256, .i32⟩
  | 43 => ⟨S32x128x256, .i1⟩
  | 44 => ⟨S32x128x256, .i1⟩
  | 45 => ⟨S_, .i32⟩
  | 46 => ⟨S32x1x256, .i32⟩
  | 47 => ⟨S32x1x256, .i1⟩
  | 48 => ⟨S32x128x256, .i1⟩
  | 49 => ⟨S32x128x256, .i1⟩
  | 50 => ⟨S_, .f32⟩
  | 51 => ⟨S128x2x64, .f32⟩
  | 52 => ⟨S4224x2x64, .f32⟩
  | 53 => ⟨S_, .f32⟩
  | 54 => ⟨S128x2x64, .f32⟩
  | 55 => ⟨S33x128x2x64, .f32⟩
  | 56 => ⟨S_, .f32⟩
  | 57 => ⟨S128x2x64, .f32⟩
  | 58 => ⟨S4224x2x64, .f32⟩
  | 59 => ⟨S_, .f32⟩
  | 60 => ⟨S128x2x64, .f32⟩
  | 61 => ⟨S33x128x2x64, .f32⟩
  | 62 => ⟨S32x128x2x64, .f32⟩
  | 63 => ⟨S32x128x2x64, .f32⟩
  | 64 => ⟨S32x256x2x64, .f32⟩
  | 65 => ⟨S32x128x2x64, .f32⟩
  | 66 => ⟨S32x128x2x64, .f32⟩
  | 67 => ⟨S32x256x2x64, .f32⟩
  | 68 => ⟨S32x2x256x128x8, .f32⟩
  | 69 => ⟨S32x2x8x128x256, .f32⟩
  | 70 => ⟨S_, .f32⟩
  | 71 => ⟨S32x2x8x128x256, .f32⟩
  | 72 => ⟨S32x2x8x128x256, .f32⟩
  | 73 => ⟨S32x1x1x128x256, .i1⟩
  | 74 => ⟨S_, .f32⟩
  | 75 => ⟨S_, .f32⟩
  | 76 => ⟨S32x2x8x128x256, .i1⟩
  | 77 => ⟨S32x2x8x128x256, .f32⟩
  | 78 => ⟨S32x2x8x128x256, .f32⟩
  | 79 => ⟨S_, .f32⟩
  | 80 => ⟨S32x2x8x128x256, .f32⟩
  | 81 => ⟨S2x8, .f32⟩
  | 82 => ⟨S1x2x8x1x1, .f32⟩
  | 83 => ⟨S_, .f32⟩
  | 84 => ⟨S32x2x8x128, .f32⟩
  | 85 => ⟨S32x2x8x128x1, .f32⟩
  | 86 => ⟨S32x2x8x128x256, .f32⟩
  | 87 => ⟨S32x2x8x128x256, .i1⟩
  | 88 => ⟨S32x2x8x128x256, .f32⟩
  | 89 => ⟨S_, .f32⟩
  | 90 => ⟨S32x2x8x128, .f32⟩
  | 91 => ⟨S32x2x8x128x1, .f32⟩
  | 92 => ⟨S32x2x8x128x1, .f32⟩
  | 93 => ⟨S32x2x8x128x1, .f32⟩
  | 94 => ⟨S32x2x8x128x1, .f32⟩
  | 95 => ⟨S32x2x8x128x1, .i1⟩
  | 96 => ⟨S32x2x8x128x1, .f32⟩
  | 97 => ⟨S32x2x8x128x1, .i1⟩
  | 98 => ⟨S_, .f32⟩
  | 99 => ⟨S32x2x8x128x1, .f32⟩
  | 100 => ⟨S_, .f32⟩
  | 101 => ⟨S32x2x8x128x1, .f32⟩
  | 102 => ⟨S_, .f32⟩
  | 103 => ⟨S32x2x8x128x1, .f32⟩
  | 104 => ⟨S32x2x8x128x1, .f32⟩
  | 105 => ⟨S32x2x8x128x1, .f32⟩
  | 106 => ⟨S32x2x8x128x1, .f32⟩
  | 107 => ⟨S32x2x8x128x1, .i1⟩
  | 108 => ⟨S32x2x8x128x1, .f32⟩
  | 109 => ⟨S32x2x8x128x1, .i1⟩
  | 110 => ⟨S_, .f32⟩
  | 111 => ⟨S32x2x8x128x1, .f32⟩
  | 112 => ⟨S_, .f32⟩
  | 113 => ⟨S32x2x8x128x1, .f32⟩
  | 114 => ⟨S_, .f32⟩
  | 115 => ⟨S32x2x8x128x1, .f32⟩
  | 116 => ⟨S32x2x8x128x1, .f32⟩
  | 117 => ⟨S32x2x8x128x1, .f32⟩
  | 118 => ⟨S32x2x8x128x256, .f32⟩
  | 119 => ⟨S32x2x8x128x256, .f32⟩
  | 120 => ⟨S32x2x8x128x256, .f32⟩
  | 121 => ⟨S_, .f32⟩
  | 122 => ⟨S32x2x8x128, .f32⟩
  | 123 => ⟨S32x2x8x128x1, .f32⟩
  | 124 => ⟨S32x2x8x128x1, .f32⟩
  | 125 => ⟨S32x2x8x128x1, .f32⟩
  | 126 => ⟨S32x2x8x128x1, .f32⟩
  | 127 => ⟨S32x2x8x128x1, .f32⟩
  | _ => ⟨S4096x1280, .f32⟩

abbrev hbmTy0_1 (i : Nat) : BufTy := match i % 128 with
  | 0 => ⟨S32x2x8x128x256, .f32⟩
  | 1 => ⟨S32x2x8x128x256, .f32⟩
  | 2 => ⟨S32x2x8x128x1, .f32⟩
  | 3 => ⟨S_, .f32⟩
  | 4 => ⟨S32x2x8x128x1, .f32⟩
  | 5 => ⟨S32x2x8x128x1, .f32⟩
  | 6 => ⟨S32x2x64x8x128, .f32⟩
  | 7 => ⟨S32x128x2x8x64, .f32⟩
  | 8 => ⟨S4096x1024, .f32⟩
  | 9 => ⟨S4096x1024, .f32⟩
  | 10 => ⟨S32x128x2x8x64, .f32⟩
  | 11 => ⟨S32x2x64x8x128, .f32⟩
  | 12 => ⟨S32x2x8x128x256, .f32⟩
  | 13 => ⟨S32x2x64x256, .f32⟩
  | 14 => ⟨S32x256x2x64, .f32⟩
  | 15 => ⟨S32x2x8x128x256, .f32⟩
  | 16 => ⟨S32x2x8x128x256, .f32⟩
  | 17 => ⟨S32x2x8x128x256, .f32⟩
  | 18 => ⟨S_, .f32⟩
  | 19 => ⟨S32x2x8x128, .f32⟩
  | 20 => ⟨S32x2x8x128x1, .f32⟩
  | 21 => ⟨S32x2x8x128x1, .f32⟩
  | 22 => ⟨S32x2x8x128x256, .f32⟩
  | 23 => ⟨S32x2x8x128x256, .f32⟩
  | 24 => ⟨S32x2x8x128x1, .f32⟩
  | 25 => ⟨S_, .f32⟩
  | 26 => ⟨S2x8x1, .f32⟩
  | 27 => ⟨S1x2x8x1x1, .f32⟩
  | 28 => ⟨S32x2x8x128x1, .f32⟩
  | 29 => ⟨S_, .f32⟩
  | 30 => ⟨S32x2x8x128, .f32⟩
  | 31 => ⟨S32x2x8x128x256, .f32⟩
  | 32 => ⟨S32x2x8x128x256, .f32⟩
  | 33 => ⟨S32x2x8x128x256, .f32⟩
  | 34 => ⟨S32x2x8x128x256, .f32⟩
  | 35 => ⟨S_, .f32⟩
  | 36 => ⟨S32x2x8x128, .f32⟩
  | 37 => ⟨S32x2x8x128x1, .f32⟩
  | 38 => ⟨S32x2x8x128x1, .f32⟩
  | 39 => ⟨S32x2x8x128x1, .f32⟩
  | 40 => ⟨S_, .f32⟩
  | 41 => ⟨S2x8x1, .f32⟩
  | 42 => ⟨S1x2x8x1x1, .f32⟩
  | 43 => ⟨S1x2x8x1x1, .f32⟩
  | 44 => ⟨S32x2x8x128x1, .f32⟩
  | 45 => ⟨S_, .f32⟩
  | 46 => ⟨S32x2x8x128, .f32⟩
  | 47 => ⟨S32x2x8x128, .f32⟩
  | 48 => ⟨S32x2x8x128x256, .f32⟩
  | 49 => ⟨S32x2x8x128x256, .f32⟩
  | 50 => ⟨S32x2x8x128x256, .f32⟩
  | 51 => ⟨S_, .f32⟩
  | 52 => ⟨S2x8, .f32⟩
  | 53 => ⟨S16, .f32⟩
  | 54 => ⟨S_, .f32⟩
  | 55 => ⟨S32x2x8x128x256, .f32⟩
  | 56 => ⟨S32x2x8x128x256, .f32⟩
  | 57 => ⟨S_, .f32⟩
  | 58 => ⟨S32x2x8x128x256, .f32⟩
  | 59 => ⟨S32x2x8x128x256, .f32⟩
  | 60 => ⟨S32x2x256x128x8, .f32⟩
  | 61 => ⟨S32x2x128x8x64, .f32⟩
  | 62 => ⟨S32x128x2x8x64, .f32⟩
  | 63 => ⟨S32x2x256x64, .f32⟩
  | 64 => ⟨S32x256x2x64, .f32⟩
  | 65 => ⟨S32x128x2x64, .f32⟩
  | 66 => ⟨S32x128x2x64, .f32⟩
  | 67 => ⟨S_, .f32⟩
  | 68 => ⟨S33x128x2x64, .f32⟩
  | 69 => ⟨S_, .f32⟩
  | 70 => ⟨S33x128x2x64, .f32⟩
  | 71 => ⟨S33x128x2x64, .f32⟩
  | 72 => ⟨S32x128x2x64, .f32⟩
  | 73 => ⟨S32x128x2x64, .f32⟩
  | 74 => ⟨S_, .f32⟩
  | 75 => ⟨S33x128x2x64, .f32⟩
  | 76 => ⟨S_, .f32⟩
  | 77 => ⟨S33x128x2x64, .f32⟩
  | 78 => ⟨S33x128x2x64, .f32⟩
  | 79 => ⟨S4224x2x64, .f32⟩
  | 80 => ⟨S128x2x64, .f32⟩
  | 81 => ⟨S4096x2x64, .f32⟩
  | 82 => ⟨S4224x2x64, .f32⟩
  | 83 => ⟨S128x2x64, .f32⟩
  | 84 => ⟨S4096x2x64, .f32⟩
  | 85 => ⟨S4096x16x64, .f32⟩
  | 86 => ⟨S1x16, .f32⟩
  | 87 => ⟨S_, .f32⟩
  | 88 => ⟨S1x128, .f32⟩
  | 89 => ⟨S4096x128, .f32⟩
  | 90 => ⟨S4096x128, .f32⟩
  | 91 => ⟨S4096x1024, .f32⟩
  | 92 => ⟨S4096x1280, .f32⟩
  | 93 => ⟨S4096x1280, .bf16⟩
  | 94 => ⟨S_, .f32⟩
  | 95 => ⟨S1280, .f32⟩
  | 96 => ⟨S1x1280, .f32⟩
  | _ => ⟨S4096x1280, .f32⟩

abbrev hbmTy (i : Nat) : BufTy := match i / 128 with
  | 0 => hbmTy0_0 i
  | 1 => hbmTy0_1 i
  | _ => ⟨S4096x1280, .f32⟩

abbrev bufTy : (tb : Table) → Fin (tcTables nBuf tb) → BufTy
  | .hbm, ⟨i, _⟩ => hbmTy i
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_call0_v0 : Ref sig .tc := ⟨.hbm, 75, rfl⟩
abbrev main_v60_1 : Ref sig .tc := ⟨.hbm, 76, rfl⟩
abbrev main_call0_v2 : Ref sig .tc := ⟨.hbm, 77, rfl⟩
abbrev main_v60_0 : Ref sig .tc := ⟨.hbm, 78, rfl⟩
abbrev main_call0_cst : Ref sig .tc := ⟨.hbm, 79, rfl⟩
abbrev main_v60_2 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_19 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_20 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_21 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_22 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_23 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_24 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_25 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_26 : Ref sig .tc := ⟨.hbm, 179, rfl⟩
abbrev main_v143 : Ref sig .tc := ⟨.hbm, 180, rfl⟩
abbrev main_v144 : Ref sig .tc := ⟨.hbm, 181, rfl⟩
abbrev main_call1_cst : Ref sig .tc := ⟨.hbm, 182, rfl⟩
abbrev main_call1_v0 : Ref sig .tc := ⟨.hbm, 183, rfl⟩
abbrev main_v145 : Ref sig .tc := ⟨.hbm, 184, rfl⟩
abbrev main_cst_27 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_28 : Ref sig .tc := ⟨.hbm, 195, rfl⟩
abbrev main_v155 : Ref sig .tc := ⟨.hbm, 196, rfl⟩
abbrev main_cst_29 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_30 : Ref sig .tc := ⟨.hbm, 202, rfl⟩
abbrev main_v160 : Ref sig .tc := ⟨.hbm, 203, rfl⟩
abbrev main_cst_31 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_32 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_33 : Ref sig .tc := ⟨.hbm, 222, rfl⟩
abbrev main_v177 : Ref sig .tc := ⟨.hbm, 223, rfl⟩
abbrev main_v178 : Ref sig .tc := ⟨.hbm, 224, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x4096, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S1x1024x1024, .bf16⟩
  | .hbm, ⟨3, _⟩ => ⟨S1024x1024, .bf16⟩
  | .hbm, ⟨4, _⟩ => ⟨S1x1024x1024, .bf16⟩
  | .hbm, ⟨5, _⟩ => ⟨S1024x1024, .bf16⟩
  | .hbm, ⟨6, _⟩ => ⟨S1x1024x1024, .bf16⟩
  | .hbm, ⟨7, _⟩ => ⟨S1024x1024, .bf16⟩
  | .hbm, ⟨8, _⟩ => ⟨S1x1024x1024, .bf16⟩
  | .hbm, ⟨9, _⟩ => ⟨S1024x1024, .bf16⟩
  | .hbm, ⟨10, _⟩ => ⟨S1024x4096, .bf16⟩
  | .hbm, ⟨11, _⟩ => ⟨S1024x4096, .f32⟩
  | .hbm, ⟨12, _⟩ => ⟨S4096x1024, .f32⟩
  | .hbm, ⟨13, _⟩ => ⟨S4096x4096, .f32⟩
  | .hbm, ⟨14, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel6.lean ====
abbrev S4096x1024 : Shape := ⟨2, ![4096, 1024]⟩
abbrev S1024x5376 : Shape := ⟨2, ![1024, 5376]⟩
abbrev S4096x5376 : Shape := ⟨2, ![4096, 5376]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .bf16⟩
  | .hbm, ⟨2, _⟩ => ⟨S4096x5376, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x5376 : Shape := ⟨2, ![1024, 5376]⟩
abbrev S4096x5376 : Shape := ⟨2, ![4096, 5376]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5376, .bf16⟩
  | .hbm, ⟨2, _⟩ => ⟨S4096x1024, .f32⟩
  | .hbm, ⟨3, _⟩ => ⟨S1024x5376, .f32⟩
  | .hbm, ⟨4, _⟩ => ⟨S4096x5376, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x5376 : Shape := ⟨2, ![4096, 5376]⟩
abbrev S4096x1024 : Shape := ⟨2, ![4096, 1024]⟩
abbrev S5376x1024 : Shape := ⟨2, ![5376, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S5376x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![7, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5376 : Shape := ⟨2, ![4096, 5376]⟩
abbrev S4096x1024 : Shape := ⟨2, ![4096, 1024]⟩
abbrev S_ : Shape := ⟨0, ![]⟩
abbrev S1024x5376 : Shape := ⟨2, ![1024, 5376]⟩
abbrev S5376x1024 : Shape := ⟨2, ![5376, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S_, .f32⟩
  | .hbm, ⟨3, _⟩ => ⟨S1024x5376, .f32⟩
  | .hbm, ⟨4, _⟩ => ⟨S4096x1024, .f32⟩
  | .hbm, ⟨5, _⟩ => ⟨S4096x5376, .f32⟩
  | .hbm, ⟨6, _⟩ => ⟨S4096x5376, .f32⟩
  | .hbm, ⟨7, _⟩ => ⟨S5376x1024, .f32⟩
  | .hbm, ⟨8, _⟩ => ⟨S1024x5376, .f32⟩
  | .hbm, ⟨9, _⟩ => ⟨S5376x1024, .f32⟩
  | .hbm, ⟨10, _⟩ => ⟨S5376x1024, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x1280 : Shape := ⟨2, ![1024, 1280]⟩
abbrev S1x1280 : Shape := ⟨2, ![1, 1280]⟩
abbrev S4096x1280 : Shape := ⟨2, ![4096, 1280]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S1x1280, .f32⟩
  | .hbm, ⟨3, _⟩ => ⟨S4096x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1x1280, .f32⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x1024 : Shape := ⟨2, ![4096, 1024]⟩
abbrev S1024x1280 : Shape := ⟨2, ![1024, 1280]⟩
abbrev S1x1280 : Shape := ⟨2, ![1, 1280]⟩
abbrev S4096x1280 : Shape := ⟨2, ![4096, 1280]⟩
abbrev S1280 : Shape := ⟨1, ![1280]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S1x1280, .f32⟩
  | .hbm, ⟨3, _⟩ => ⟨S4096x1024, .f32⟩
  | .hbm, ⟨4, _⟩ => ⟨S1024x1280, .f32⟩
  | .hbm, ⟨5, _⟩ => ⟨S4096x1280, .f32⟩
  | .hbm, ⟨6, _⟩ => ⟨S1280, .f32⟩
  | .hbm, ⟨7, _⟩ => ⟨S1x1280, .f32⟩
  | .hbm, ⟨8, _⟩ => ⟨S4096x1280, .f32⟩
  | .hbm, ⟨9, _⟩ => ⟨S4096x1280, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S4096x1280 : Shape := ⟨2, ![4096, 1280]⟩
abbrev S1024x1280 : Shape := ⟨2, ![1024, 1280]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S1024x1280, .bf16⟩
  | .local _ .vmem, ⟨0, _⟩ => ⟨S4096x1024, .bf16⟩
  | .local _ .vmem, ⟨1, _⟩ => ⟨S4096x1280, .bf16⟩
  | .local _ .vmem, ⟨2, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x1280 : Shape := ⟨2, ![4096, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S_, .f32⟩
  | .hbm, ⟨3, _⟩ => ⟨S1024x1280, .f32⟩
  | .hbm, ⟨4, _⟩ => ⟨S4096x1024, .f32⟩
  | .hbm, ⟨5, _⟩ => ⟨S4096x1280, .f32⟩
  | .hbm, ⟨6, _⟩ => ⟨S4096x1280, .f32⟩
  | .hbm, ⟨7, _⟩ => ⟨S1280x1024, .f32⟩
  | .hbm, ⟨8, _⟩ => ⟨S1024x1280, .f32⟩
  | .hbm, ⟨9, _⟩ => ⟨S1024x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x4096 : Shape := ⟨2, ![1024, 4096]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024x1024, .bf16⟩
  | .hbm, ⟨6, _⟩ => ⟨S1024x1024, .bf16⟩
  | .hbm, ⟨7, _⟩ => ⟨S1x1024x1024, .bf16⟩
  | .hbm, ⟨8, _⟩ => ⟨S1024x1024, .bf16⟩
  | .hbm, ⟨9, _⟩ => ⟨S1x1024x1024, .bf16⟩
  | .hbm, ⟨10, _⟩ => ⟨S1024x1024, .bf16⟩
  | .hbm, ⟨11, _⟩ => ⟨S1x1024x1024, .bf16⟩
  | .hbm, ⟨12, _⟩ => ⟨S1024x1024, .bf16⟩
  | .hbm, ⟨13, _⟩ => ⟨S1024x4096, .bf16⟩
  | .hbm, ⟨14, _⟩ => ⟨S_, .f32⟩
  | .hbm, ⟨15, _⟩ => ⟨S4096x1024, .f32⟩
  | .hbm, ⟨16, _⟩ => ⟨S1024x4096, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel15.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel16.lean ====
abbrev S4096x4096 : Shape := ⟨2, ![4096, 4096]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S1x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel17.lean ====
abbrev S4096x1280 : Shape := ⟨2, ![4096, 1280]⟩
abbrev S1024x1280 : Shape := ⟨2, ![1024, 1280]⟩
abbrev S4096x1024 : Shape := ⟨2, ![4096, 1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1280, .bf16⟩
  | .hbm, ⟨1, _⟩ => ⟨S1024x1280, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1024x1280, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S4096x1280 : Shape := ⟨2, ![4096, 1280]⟩
abbrev S1024x1280 : Shape := ⟨2, ![1024, 1280]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1024x1280, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S1024x1280, .f32⟩
  | .hbm, ⟨8, _⟩ => ⟨S4096x1280, .f32⟩
  | .hbm, ⟨9, _⟩ => ⟨S4096x1280, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel18.lean ====
abbrev S4096x5376 : Shape := ⟨2, ![4096, 5376]⟩
abbrev S1024x5376 : Shape := ⟨2, ![1024, 5376]⟩
abbrev S4096x1024 : Shape := ⟨2, ![4096, 1024]⟩
abbrev S1x1024 : Shape := ⟨2, ![1, 1024]⟩
abbrev S256x5376 : Shape := ⟨2, ![256, 5376]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5376, .bf16⟩
  | .hbm, ⟨1, _⟩ => ⟨S1024x5376, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S256x5376, .bf16⟩
  | .local _ .vmem, ⟨1, _⟩ => ⟨S256x5376, .bf16⟩
  | .local _ .vmem, ⟨2, _⟩ => ⟨S1024x5376, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S4096x5376 : Shape := ⟨2, ![4096, 5376]⟩
abbrev S1024x5376 : Shape := ⟨2, ![1024, 5376]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S1024x5376, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S1024x5376, .f32⟩
  | .hbm, ⟨8, _⟩ => ⟨S4096x5376, .f32⟩
  | .hbm, ⟨9, _⟩ => ⟨S4096x5376, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel19.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel21.lean ====
abbrev S4096x1280 : Shape := ⟨2, ![4096, 1280]⟩
abbrev S1x128 : Shape := ⟨2, ![1, 128]⟩
abbrev S4096x1024 : Shape := ⟨2, ![4096, 1024]⟩
abbrev S128x1024 : Shape := ⟨2, ![128, 1024]⟩
abbrev S128x128 : Shape := ⟨2, ![128, 128]⟩
abbrev S1024x128 : Shape := ⟨2, ![1024, 128]⟩
abbrev S1 : Shape := ⟨1, ![1]⟩
abbrev S1x1 : Shape := ⟨2, ![1, 1]⟩
abbrev S128 : Shape := ⟨1, ![128]⟩
abbrev S128x1 : Shape := ⟨2, ![128, 1]⟩

abbrev nBuf : Space → Nat
  | .hbm => 3
  | .vmem => 13
  | .smem => 0
  | _ => 0

abbrev bufTy : (tb : Table) → Fin (tcTables nBuf tb) → BufTy
  | .hbm, ⟨0, _⟩ => ⟨S4096x1280, .f32⟩
  | .hbm, ⟨1, _⟩ => ⟨S1x128, .f32⟩
  | .hbm, ⟨2, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x1024, .bf16⟩
  | .local _ .vmem, ⟨12, _⟩ => ⟨S128x1024, .bf16⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4096x1280 : Shape := ⟨2, ![4096, 1280]⟩
abbrev S1x128 : Shape := ⟨2, ![1, 128]⟩
abbrev S4096x1024 : Shape := ⟨2, ![4096, 1024]⟩
abbrev S4096x128 : Shape := ⟨2, ![4096, 128]⟩
abbrev S4096x16x64 : Shape := ⟨3, ![4096, 16, 64]⟩
abbrev S4096x2x64 : Shape := ⟨3, ![4096, 2, 64]⟩
abbrev S1x16 : Shape := ⟨2, ![1, 16]⟩
abbrev S16 : Shape := ⟨1, ![16]⟩
abbrev S32x128x2x8x64 : Shape := ⟨5, ![32, 128, 2, 8, 64]⟩
abbrev S32 : Shape := ⟨1, ![32]⟩
abbrev S32x1x1 : Shape := ⟨3, ![32, 1, 1]⟩
abbrev S_ : Shape := ⟨0, ![]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S32x1x1x128x256 : Shape := ⟨5, ![32, 1, 1, 128, 256]⟩
abbrev S2x8 : Shape := ⟨2, ![2, 8]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩

abbrev nBuf : Space → Nat
  | .hbm => 97
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1x128, .f32⟩
  | .hbm, ⟨2, _⟩ => ⟨S4096x1024, .f32⟩
  | .hbm, ⟨3, _⟩ => ⟨S4096x128, .f32⟩
  | .hbm, ⟨4, _⟩ => ⟨S4096x128, .f32⟩
  | .hbm, ⟨5, _⟩ => ⟨S4096x16x64, .f32⟩
  | .hbm, ⟨6, _⟩ => ⟨S4096x2x64, .f32⟩
  | .hbm, ⟨7, _⟩ => ⟨S4096x2x64, .f32⟩
  | .hbm, ⟨8, _⟩ => ⟨S1x16, .f32⟩
  | .hbm, ⟨9, _⟩ => ⟨S16, .f32⟩
  | .hbm, ⟨10, _⟩ => ⟨S32x128x2x8x64, .f32⟩
  | .hbm, ⟨11, _⟩ => ⟨S32, .i32⟩
  | .hbm, ⟨12, _⟩ => ⟨S32x1x1, .i32⟩
  | .hbm, ⟨13, _⟩ => ⟨S_, .i32⟩
  | .hbm, ⟨14, _⟩ => ⟨S32x1x1, .i32⟩
  | .hbm, ⟨15, _⟩ => ⟨S32x1x1, .i32⟩
  | .hbm, ⟨16, _⟩ => ⟨S128, .i32⟩
  | .hbm, ⟨17, _⟩ => ⟨S1x128x1, .i32⟩
  | .hbm, ⟨18, _⟩ => ⟨S32x128x1, .i32⟩
  | .hbm, ⟨19, _⟩ => ⟨S32x128x1, .i32⟩
  | .hbm, ⟨20, _⟩ => ⟨S32x128x1, .i32⟩
  | .hbm, ⟨21, _⟩ => ⟨S32, .i32⟩
  | .hbm, ⟨22, _⟩ => ⟨S32x1x1, .i32⟩
  | .hbm, ⟨23, _⟩ => ⟨S_, .i32⟩
  | .hbm, ⟨24, _⟩ => ⟨S32x1x1, .i32⟩
  | .hbm, ⟨25, _⟩ => ⟨S32x1x1, .i32⟩
  | .hbm, ⟨26, _⟩ => ⟨S_, .i32⟩
  | .hbm, ⟨27, _⟩ => ⟨S32x1x1, .i32⟩
  | .hbm, ⟨28, _⟩ => ⟨S32x1x1, .i32⟩
  | .hbm, ⟨29, _⟩ => ⟨S256, .i32⟩
  | .hbm, ⟨30, _⟩ => ⟨S1x1x256, .i32⟩
  | .hbm, ⟨31, _⟩ => ⟨S32x1x256, .i32⟩
  | .hbm, ⟨32, _⟩ => ⟨S32x1x256, .i32⟩
  | .hbm, ⟨33, _⟩ => ⟨S32x1x256, .i32⟩
  | .hbm, ⟨34, _⟩ => ⟨S32x128x256, .i32⟩
  | .hbm, ⟨35, _⟩ => ⟨S32x128x256, .i32⟩
  | .hbm, ⟨36, _⟩ => ⟨S32x128x256, .i32⟩
  | .hbm, ⟨37, _⟩ => ⟨S_, .i32⟩
  | .hbm, ⟨38, _⟩ => ⟨S32x128x256, .i32⟩
  | .hbm, ⟨39, _⟩ => ⟨S32x128x256, .i1⟩
  | .hbm, ⟨40, _⟩ => ⟨S_, .i32⟩
  | .hbm, ⟨41, _⟩ => ⟨S32x128x256, .i32⟩
  | .hbm, ⟨42, _⟩ => ⟨S32x128x256, .i1⟩
  | .hbm, ⟨43, _⟩ => ⟨S32x128x256, .i1⟩
  | .hbm, ⟨44, _⟩ => ⟨S_, .i32⟩
  | .hbm, ⟨45, _⟩ => ⟨S32x1x256, .i32⟩
  | .hbm, ⟨46, _⟩ => ⟨S32x1x256, .i1⟩
  | .hbm, ⟨47, _⟩ => ⟨S32x128x256, .i1⟩
  | .hbm, ⟨48, _⟩ => ⟨S32x128x256, .i1⟩
  | .hbm, ⟨49, _⟩ => ⟨S_, .f32⟩
  | .hbm, ⟨50, _⟩ => ⟨S128x2x64, .f32⟩
  | .hbm, ⟨51, _⟩ => ⟨S4224x2x64, .f32⟩
  | .hbm, ⟨52, _⟩ => ⟨S33x128x2x64, .f32⟩
  | .hbm, ⟨53, _⟩ => ⟨S_, .f32⟩
  | .hbm, ⟨54, _⟩ => ⟨S128x2x64, .f32⟩
  | .hbm, ⟨55, _⟩ => ⟨S4224x2x64, .f32⟩
  | .hbm, ⟨56, _⟩ => ⟨S33x128x2x64, .f32⟩
  | .hbm, ⟨57, _⟩ => ⟨S32x128x2x64, .f32⟩
  | .hbm, ⟨58, _⟩ => ⟨S32x128x2x64, .f32⟩
  | .hbm, ⟨59, _⟩ => ⟨S32x256x2x64, .f32⟩
  | .hbm, ⟨60, _⟩ => ⟨S32x128x2x64, .f32⟩
  | .hbm, ⟨61, _⟩ => ⟨S32x128x2x64, .f32⟩
  | .hbm, ⟨62, _⟩ => ⟨S32x256x2x64, .f32⟩
  | .hbm, ⟨63, _⟩ => ⟨S32x2x256x128x8, .f32⟩
  | .hbm, ⟨64, _⟩ => ⟨S32x2x8x128x256, .f32⟩
  | .hbm, ⟨65, _⟩ => ⟨S_, .f32⟩
  | .hbm, ⟨66, _⟩ => ⟨S32x2x8x128x256, .f32⟩
  | .hbm, ⟨67, _⟩ => ⟨S32x2x8x128x256, .f32⟩
  | .hbm, ⟨68, _⟩ => ⟨S32x1x1x128x256, .i1⟩
  | .hbm, ⟨69, _⟩ => ⟨S_, .f32⟩
  | .hbm, ⟨70, _⟩ => ⟨S_, .f32⟩
  | .hbm, ⟨71, _⟩ => ⟨S32x2x8x128x256, .i1⟩
  | .hbm, ⟨72, _⟩ => ⟨S32x2x8x128x256, .f32⟩
  | .hbm, ⟨73, _⟩ => ⟨S32x2x8x128x256, .f32⟩
  | .hbm, ⟨74, _⟩ => ⟨S2x8, .f32⟩
  | .hbm, ⟨75, _⟩ => ⟨S1x2x8x1x1, .f32⟩
  | .hbm, ⟨76, _⟩ => ⟨S_, .f32⟩
  | .hbm, ⟨77, _⟩ => ⟨S32x2x8x128, .f32⟩
  | .hbm, ⟨78, _⟩ => ⟨S32x2x8x128x1, .f32⟩
  | .hbm, ⟨79, _⟩ => ⟨S32x2x8x128x1, .f32⟩
  | .hbm, ⟨80, _⟩ => ⟨S32x2x8x128x1, .f32⟩
  | .hbm, ⟨81, _⟩ => ⟨S32x2x8x128x256, .f32⟩
  | .hbm, ⟨82, _⟩ => ⟨S32x2x8x128x256, .f32⟩
  | .hbm, ⟨83, _⟩ => ⟨S32x2x8x128x256, .f32⟩
  | .hbm, ⟨84, _⟩ => ⟨S_, .f32⟩
  | .hbm, ⟨85, _⟩ => ⟨S32x2x8x128, .f32⟩
  | .hbm, ⟨86, _⟩ => ⟨S32x2x8x128x1, .f32⟩
  | .hbm, ⟨87, _⟩ => ⟨S32x2x8x128x1, .f32⟩
  | .hbm, ⟨88, _⟩ => ⟨S32x2x8x128x1, .f32⟩
  | .hbm, ⟨89, _⟩ => ⟨S32x2x8x128x1, .f32⟩
  | .hbm, ⟨90, _⟩ => ⟨S32x2x8x128x1, .f32⟩
  | .hbm, ⟨91, _⟩ => ⟨S32x2x8x128x256, .f32⟩
  | .hbm, ⟨92, _⟩ => ⟨S32x2x8x128x256, .f32⟩
  | .hbm, ⟨93, _⟩ => ⟨S32x2x64x8x128, .f32⟩
  | .hbm, ⟨94, _⟩ => ⟨S32x128x2x8x64, .f32⟩
  | .hbm, ⟨95, _⟩ => ⟨S4096x1024, .f32⟩
  | .hbm, ⟨96, _⟩ => ⟨S4096x1024, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_0 : Ref sig .tc := ⟨.hbm, 23, rfl⟩
abbrev main_v20 : Ref sig .tc := ⟨.hbm, 24, rfl⟩
abbrev main_v21 : Ref sig .tc := ⟨.hbm, 25, rfl⟩
abbrev main_c_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_2 : Ref sig .tc := ⟨.hbm, 37, rfl⟩
abbrev main_v32 : Ref sig .tc := ⟨.hbm, 38, rfl⟩
abbrev main_v33 : Ref sig .tc := ⟨.hbm, 39, rfl⟩
abbrev main_c_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel23.lean ====
abbrev S1x512x1024 : Shape := ⟨3, ![1, 512, 1024]⟩
abbrev S2816x1024 : Shape := ⟨2, ![2816, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S2816x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S1x512x1024 : Shape := ⟨3, ![1, 512, 1024]⟩
abbrev S2816x1024 : Shape := ⟨2, ![2816, 1024]⟩
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S2816x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S1x512x1024, .f32⟩
  | .hbm, ⟨6, _⟩ => ⟨S_, .f32⟩
  | .hbm, ⟨7, _⟩ => ⟨S1x512x1024, .f32⟩
  | .hbm, ⟨8, _⟩ => ⟨S1x512x1024, .f32⟩
  | .hbm, ⟨9, _⟩ => ⟨S_, .f32⟩
  | .hbm, ⟨10, _⟩ => ⟨S1x512x1024, .f32⟩
  | .hbm, ⟨11, _⟩ => ⟨S1x512x1024, .f32⟩
  | .hbm, ⟨12, _⟩ => ⟨S1x512x1024, .f32⟩
  | .hbm, ⟨13, _⟩ => ⟨S_, .f32⟩
  | .hbm, ⟨14, _⟩ => ⟨S1x512x1024, .f32⟩
  | .hbm, ⟨15, _⟩ => ⟨S1x512x1024, .f32⟩
  | .hbm, ⟨16, _⟩ => ⟨S1x512x1024, .f32⟩
  | .hbm, ⟨17, _⟩ => ⟨S_, .f32⟩
  | .hbm, ⟨18, _⟩ => ⟨S1x512x1024, .f32⟩
  | .hbm, ⟨19, _⟩ => ⟨S1x512x1024, .f32⟩
  | .hbm, ⟨20, _⟩ => ⟨S1x512x1024, .f32⟩
  | .hbm, ⟨21, _⟩ => ⟨S_, .f32⟩
  | .hbm, ⟨22, _⟩ => ⟨S1x512x1024, .f32⟩
  | .hbm, ⟨23, _⟩ => ⟨S1x512x1024, .f32⟩
  | .hbm, ⟨24, _⟩ => ⟨S_, .f32⟩
  | .hbm, ⟨25, _⟩ => ⟨S1x512x1024, .f32⟩
  | .hbm, ⟨26, _⟩ => ⟨S1x512x1024, .f32⟩
  | .hbm, ⟨27, _⟩ => ⟨S1x512x1024, .f32⟩
  | .hbm, ⟨28, _⟩ => ⟨S_, .f32⟩
  | .hbm, ⟨29, _⟩ => ⟨S1x512x1024, .f32⟩
  | .hbm, ⟨30, _⟩ => ⟨S1x512x1024, .f32⟩
  | .hbm, ⟨31, _⟩ => ⟨S1x512x1024, .f32⟩
  | .hbm, ⟨32, _⟩ => ⟨S_, .f32⟩
  | .hbm, ⟨33, _⟩ => ⟨S1x512x1024, .f32⟩
  | .hbm, ⟨34, _⟩ => ⟨S1x512x1024, .f32⟩
  | .hbm, ⟨35, _⟩ => ⟨S1x512x1024, .f32⟩
  | .hbm, ⟨36, _⟩ => ⟨S_, .f32⟩
  | .hbm, ⟨37, _⟩ => ⟨S1x512x1024, .f32⟩
  | .hbm, ⟨38, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel24.lean ====
abbrev S1x256x1024 : Shape := ⟨3, ![1, 256, 1024]⟩
abbrev S2816x1024 : Shape := ⟨2, ![2816, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S2816x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S1x256x1024 : Shape := ⟨3, ![1, 256, 1024]⟩
abbrev S2816x1024 : Shape := ⟨2, ![2816, 1024]⟩
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S2816x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S1x256x1024, .f32⟩
  | .hbm, ⟨6, _⟩ => ⟨S_, .f32⟩
  | .hbm, ⟨7, _⟩ => ⟨S1x256x1024, .f32⟩
  | .hbm, ⟨8, _⟩ => ⟨S1x256x1024, .f32⟩
  | .hbm, ⟨9, _⟩ => ⟨S_, .f32⟩
  | .hbm, ⟨10, _⟩ => ⟨S1x256x1024, .f32⟩
  | .hbm, ⟨11, _⟩ => ⟨S1x256x1024, .f32⟩
  | .hbm, ⟨12, _⟩ => ⟨S1x256x1024, .f32⟩
  | .hbm, ⟨13, _⟩ => ⟨S_, .f32⟩
  | .hbm, ⟨14, _⟩ => ⟨S1x256x1024, .f32⟩
  | .hbm, ⟨15, _⟩ => ⟨S1x256x1024, .f32⟩
  | .hbm, ⟨16, _⟩ => ⟨S1x256x1024, .f32⟩
  | .hbm, ⟨17, _⟩ => ⟨S_, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S_, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S_, .f32⟩
  | .hbm, ⟨29, _⟩ => ⟨S1x256x1024, .f32⟩
  | .hbm, ⟨30, _⟩ => ⟨S1x256x1024, .f32⟩
  | .hbm, ⟨31, _⟩ => ⟨S1x256x1024, .f32⟩
  | .hbm, ⟨32, _⟩ => ⟨S_, .f32⟩
  | .hbm, ⟨33, _⟩ => ⟨S1x256x1024, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel25.lean ====
abbrev S2x1024x1024 : Shape := ⟨3, ![2, 1024, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S2x1024x1024 : Shape := ⟨3, ![2, 1024, 1024]⟩
abbrev S2048x1024 : Shape := ⟨2, ![2048, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S1024x1024, .f32⟩
  | .hbm, ⟨9, _⟩ => ⟨S1x1024x1024, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1x1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1x1024x1024, .f32⟩
  | .hbm, ⟨49, _⟩ => ⟨S1024x1024, .f32⟩
  | .hbm, ⟨50, _⟩ => ⟨S1x1024x1024, .f32⟩
  | .hbm, ⟨51, _⟩ => ⟨S1x1024x1024, .f32⟩
  | .hbm, ⟨52, _⟩ => ⟨S2x1024x1024, .f32⟩
  | .hbm, ⟨53, _⟩ => ⟨S1x1024x1024, .f32⟩
  | .hbm, ⟨54, _⟩ => ⟨S1024x1024, .f32⟩
  | .hbm, ⟨55, _⟩ => ⟨S1x1024x1024, .f32⟩
  | .hbm, ⟨56, _⟩ => ⟨S1x1024x1024, .f32⟩
  | .hbm, ⟨57, _⟩ => ⟨S2x1024x1024, .f32⟩
  | .hbm, ⟨58, _⟩ => ⟨S1x1024x1024, .f32⟩
  | .hbm, ⟨59, _⟩ => ⟨S1024x1024, .f32⟩
  | .hbm, ⟨60, _⟩ => ⟨S1x1024x1024, .f32⟩
  | .hbm, ⟨61, _⟩ => ⟨S1x1024x1024, .f32⟩
  | .hbm, ⟨62, _⟩ => ⟨S2x1024x1024, .f32⟩
  | .hbm, ⟨63, _⟩ => ⟨S1x1024x1024, .f32⟩
  | .hbm, ⟨64, _⟩ => ⟨S1024x1024, .f32⟩
  | .hbm, ⟨65, _⟩ => ⟨S1x1024x1024, .f32⟩
  | .hbm, ⟨66, _⟩ => ⟨S1x1024x1024, .f32⟩
  | .hbm, ⟨67, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel26.lean ====
abbrev S320x1x1024 : Shape := ⟨3, ![320, 1, 1024]⟩
abbrev S80x1x1024 : Shape := ⟨3, ![80, 1, 1024]⟩

abbrev nBuf : Space → Nat
  | .hbm => 7
  | .vmem => 14
  | .smem => 0
  | _ => 0

abbrev bufTy : (tb : Table) → Fin (tcTables nBuf tb) → BufTy
  | .hbm, ⟨0, _⟩ => ⟨S320x1x1024, .f32⟩
  | .hbm, ⟨1, _⟩ => ⟨S320x1x1024, .f32⟩
  | .hbm, ⟨2, _⟩ => ⟨S320x1x1024, .f32⟩
  | .hbm, ⟨3, _⟩ => ⟨S320x1x1024, .f32⟩
  | .hbm, ⟨4, _⟩ => ⟨S320x1x1024, .f32⟩
  | .hbm, ⟨5, _⟩ => ⟨S320x1x1024, .f32⟩
  | .hbm, ⟨6, _⟩ => ⟨S320x1x1024, .f32⟩
  | .local _ .vmem, ⟨0, _⟩ => ⟨S80x1x1024, .f32⟩
  | .local _ .vmem, ⟨1, _⟩ => ⟨S80x1x1024, .f32⟩
  | .local _ .vmem, ⟨2, _⟩ => ⟨S80x1x1024, .f32⟩
  | .local _ .vmem, ⟨3, _⟩ => ⟨S80x1x1024, .f32⟩
  | .local _ .vmem, ⟨4, _⟩ => ⟨S80x1x1024, .f32⟩
  | .local _ .vmem, ⟨5, _⟩ => ⟨S80x1x1024, .f32⟩
  | .local _ .vmem, ⟨6, _⟩ => ⟨S80x1x1024, .f32⟩
  | .local _ .vmem, ⟨7, _⟩ => ⟨S80x1x1024, .f32⟩
  | .local _ .vmem, ⟨8, _⟩ => ⟨S80x1x1024, .f32⟩
  | .local _ .vmem, ⟨9, _⟩ => ⟨S80x1x1024, .f32⟩
  | .local _ .vmem, ⟨10, _⟩ => ⟨S80x1x1024, .f32⟩
  | .local _ .vmem, ⟨11, _⟩ => ⟨S80x1x1024, .f32⟩
  | .local _ .vmem, ⟨12, _⟩ => ⟨S80x1x1024, .f32⟩
  | .local _ .vmem, ⟨13, _⟩ => ⟨S80x1x1024, .f32⟩
  | _, _ => ⟨S320x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S80x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S320x1x1024 : Shape := ⟨3, ![320, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S320x1x1024, .f32⟩
  | .hbm, ⟨1, _⟩ => ⟨S320x1x1024, .f32⟩
  | .hbm, ⟨2, _⟩ => ⟨S320x1x1024, .f32⟩
  | .hbm, ⟨3, _⟩ => ⟨S320x1x1024, .f32⟩
  | .hbm, ⟨4, _⟩ => ⟨S_, .f32⟩
  | .hbm, ⟨5, _⟩ => ⟨S320x1x1024, .f32⟩
  | .hbm, ⟨6, _⟩ => ⟨S320x1x1024, .f32⟩
  | .hbm, ⟨7, _⟩ => ⟨S_, .f32⟩
  | .hbm, ⟨8, _⟩ => ⟨S320x1x1024, .f32⟩
  | .hbm, ⟨9, _⟩ => ⟨S320x1x1024, .f32⟩
  | .hbm, ⟨10, _⟩ => ⟨S320x1x1024, .f32⟩
  | .hbm, ⟨11, _⟩ => ⟨S_, .f32⟩
  | .hbm, ⟨12, _⟩ => ⟨S320x1x1024, .f32⟩
  | .hbm, ⟨13, _⟩ => ⟨S320x1x1024, .f32⟩
  | .hbm, ⟨14, _⟩ => ⟨S320x1x1024, .f32⟩
  | .hbm, ⟨15, _⟩ => ⟨S_, .f32⟩
  | .hbm, ⟨16, _⟩ => ⟨S320x1x1024, .f32⟩
  | .hbm, ⟨17, _⟩ => ⟨S320x1x1024, .f32⟩
  | .hbm, ⟨18, _⟩ => ⟨S320x1x1024, .f32⟩
  | .hbm, ⟨19, _⟩ => ⟨S_, .f32⟩
  | .hbm, ⟨20, _⟩ => ⟨S320x1x1024, .f32⟩
  | .hbm, ⟨21, _⟩ => ⟨S320x1x1024, .f32⟩
  | .hbm, ⟨22, _⟩ => ⟨S_, .f32⟩
  | .hbm, ⟨23, _⟩ => ⟨S320x1x1024, .f32⟩
  | .hbm, ⟨24, _⟩ => ⟨S320x1x1024, .f32⟩
  | .hbm, ⟨25, _⟩ => ⟨S320x1x1024, .f32⟩
  | .hbm, ⟨26, _⟩ => ⟨S_, .f32⟩
  | .hbm, ⟨27, _⟩ => ⟨S320x1x1024, .f32⟩
  | .hbm, ⟨28, _⟩ => ⟨S320x1x1024, .f32⟩
  | .hbm, ⟨29, _⟩ => ⟨S320x1x1024, .f32⟩
  | .hbm, ⟨30, _⟩ => ⟨S_, .f32⟩
  | .hbm, ⟨31, _⟩ => ⟨S320x1x1024, .f32⟩
  | .hbm, ⟨32, _⟩ => ⟨S320x1x1024, .f32⟩
  | .hbm, ⟨33, _⟩ => ⟨S320x1x1024, .f32⟩
  | .hbm, ⟨34, _⟩ => ⟨S_, .f32⟩
  | .hbm, ⟨35, _⟩ => ⟨S320x1x1024, .f32⟩
  | .hbm, ⟨36, _⟩ => ⟨S320x1x1024, .f32⟩
  | _, _ => ⟨S320x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1284x1x1024 : Shape := ⟨3, ![1284, 1, 1024]⟩
abbrev S107x1x1024 : Shape := ⟨3, ![107, 1, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1284x1x1024, .f32⟩
  | .hbm, ⟨1, _⟩ => ⟨S1284x1x1024, .f32⟩
  | .hbm, ⟨2, _⟩ => ⟨S1284x1x1024, .f32⟩
  | .hbm, ⟨3, _⟩ => ⟨S1284x1x1024, .f32⟩
  | .hbm, ⟨4, _⟩ => ⟨S1284x1x1024, .f32⟩
  | .hbm, ⟨5, _⟩ => ⟨S1284x1x1024, .f32⟩
  | .hbm, ⟨6, _⟩ => ⟨S1284x1x1024, .f32⟩
  | .local _ .vmem, ⟨0, _⟩ => ⟨S107x1x1024, .f32⟩
  | .local _ .vmem, ⟨1, _⟩ => ⟨S107x1x1024, .f32⟩
  | .local _ .vmem, ⟨2, _⟩ => ⟨S107x1x1024, .f32⟩
  | .local _ .vmem, ⟨3, _⟩ => ⟨S107x1x1024, .f32⟩
  | .local _ .vmem, ⟨4, _⟩ => ⟨S107x1x1024, .f32⟩
  | .local _ .vmem, ⟨5, _⟩ => ⟨S107x1x1024, .f32⟩
  | .local _ .vmem, ⟨6, _⟩ => ⟨S107x1x1024, .f32⟩
  | .local _ .vmem, ⟨7, _⟩ => ⟨S107x1x1024, .f32⟩
  | .local _ .vmem, ⟨8, _⟩ => ⟨S107x1x1024, .f32⟩
  | .local _ .vmem, ⟨9, _⟩ => ⟨S107x1x1024, .f32⟩
  | .local _ .vmem, ⟨10, _⟩ => ⟨S107x1x1024, .f32⟩
  | .local _ .vmem, ⟨11, _⟩ => ⟨S107x1x1024, .f32⟩
  | .local _ .vmem, ⟨12, _⟩ => ⟨S107x1x1024, .f32⟩
  | .local _ .vmem, ⟨13, _⟩ => ⟨S107x1x1024, .f32⟩
  | _, _ => ⟨S1284x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S107x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S107x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S107x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S107x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S107x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S107x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S107x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S1284x1x1024 : Shape := ⟨3, ![1284, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1284x1x1024, .f32⟩
  | .hbm, ⟨1, _⟩ => ⟨S1284x1x1024, .f32⟩
  | .hbm, ⟨2, _⟩ => ⟨S1284x1x1024, .f32⟩
  | .hbm, ⟨3, _⟩ => ⟨S1284x1x1024, .f32⟩
  | .hbm, ⟨4, _⟩ => ⟨S_, .f32⟩
  | .hbm, ⟨5, _⟩ => ⟨S1284x1x1024, .f32⟩
  | .hbm, ⟨6, _⟩ => ⟨S1284x1x1024, .f32⟩
  | .hbm, ⟨7, _⟩ => ⟨S_, .f32⟩
  | .hbm, ⟨8, _⟩ => ⟨S1284x1x1024, .f32⟩
  | .hbm, ⟨9, _⟩ => ⟨S1284x1x1024, .f32⟩
  | .hbm, ⟨10, _⟩ => ⟨S1284x1x1024, .f32⟩
  | .hbm, ⟨11, _⟩ => ⟨S_, .f32⟩
  | .hbm, ⟨12, _⟩ => ⟨S1284x1x1024, .f32⟩
  | .hbm, ⟨13, _⟩ => ⟨S1284x1x1024, .f32⟩
  | .hbm, ⟨14, _⟩ => ⟨S1284x1x1024, .f32⟩
  | .hbm, ⟨15, _⟩ => ⟨S_, .f32⟩
  | .hbm, ⟨16, _⟩ => ⟨S1284x1x1024, .f32⟩
  | .hbm, ⟨17, _⟩ => ⟨S1284x1x1024, .f32⟩
  | .hbm, ⟨18, _⟩ => ⟨S1284x1x1024, .f32⟩
  | .hbm, ⟨19, _⟩ => ⟨S_, .f32⟩
  | .hbm, ⟨20, _⟩ => ⟨S1284x1x1024, .f32⟩
  | .hbm, ⟨21, _⟩ => ⟨S1284x1x1024, .f32⟩
  | .hbm, ⟨22, _⟩ => ⟨S_, .f32⟩
  | .hbm, ⟨23, _⟩ => ⟨S1284x1x1024, .f32⟩
  | .hbm, ⟨24, _⟩ => ⟨S1284x1x1024, .f32⟩
  | .hbm, ⟨25, _⟩ => ⟨S1284x1x1024, .f32⟩
  | .hbm, ⟨26, _⟩ => ⟨S_, .f32⟩
  | .hbm, ⟨27, _⟩ => ⟨S1284x1x1024, .f32⟩
  | .hbm, ⟨28, _⟩ => ⟨S1284x1x1024, .f32⟩
  | .hbm, ⟨29, _⟩ => ⟨S1284x1x1024, .f32⟩
  | .hbm, ⟨30, _⟩ => ⟨S_, .f32⟩
  | .hbm, ⟨31, _⟩ => ⟨S1284x1x1024, .f32⟩
  | .hbm, ⟨32, _⟩ => ⟨S1284x1x1024, .f32⟩
  | .hbm, ⟨33, _⟩ => ⟨S1284x1x1024, .f32⟩
  | .hbm, ⟨34, _⟩ => ⟨S_, .f32⟩
  | .hbm, ⟨35, _⟩ => ⟨S1284x1x1024, .f32⟩
  | .hbm, ⟨36, _⟩ => ⟨S1284x1x1024, .f32⟩
  | _, _ => ⟨S1284x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference28Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference29Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x8x128x128 : Shape := ⟨4, ![1, 8, 128, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1x8x128x128, .f32⟩
  | .hbm, ⟨5, _⟩ => ⟨S1x8x128x128, .f32⟩
  | .hbm, ⟨6, _⟩ => ⟨S1x8x128x128, .f32⟩
  | .local _ .vmem, ⟨0, _⟩ => ⟨S1x8x128x128, .f32⟩
  | .local _ .vmem, ⟨1, _⟩ => ⟨S1x8x128x128, .f32⟩
  | .local _ .vmem, ⟨2, _⟩ => ⟨S1x8x128x128, .f32⟩
  | .local _ .vmem, ⟨3, _⟩ => ⟨S1x8x128x128, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x128x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference30Ideal.lean ====
abbrev S1x8x128x128 : Shape := ⟨4, ![1, 8, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S_, .f32⟩
  | .hbm, ⟨5, _⟩ => ⟨S1x8x128x128, .f32⟩
  | .hbm, ⟨6, _⟩ => ⟨S1x8x128x128, .f32⟩
  | .hbm, ⟨7, _⟩ => ⟨S_, .f32⟩
  | .hbm, ⟨8, _⟩ => ⟨S1x8x128x128, .f32⟩
  | .hbm, ⟨9, _⟩ => ⟨S1x8x128x128, .f32⟩
  | .hbm, ⟨10, _⟩ => ⟨S1x8x128x128, .f32⟩
  | .hbm, ⟨11, _⟩ => ⟨S_, .f32⟩
  | .hbm, ⟨12, _⟩ => ⟨S1x8x128x128, .f32⟩
  | .hbm, ⟨13, _⟩ => ⟨S1x8x128x128, .f32⟩
  | .hbm, ⟨14, _⟩ => ⟨S1x8x128x128, .f32⟩
  | .hbm, ⟨15, _⟩ => ⟨S_, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S_, .f32⟩
  | .hbm, ⟨20, _⟩ => ⟨S1x8x128x128, .f32⟩
  | .hbm, ⟨21, _⟩ => ⟨S1x8x128x128, .f32⟩
  | .hbm, ⟨22, _⟩ => ⟨S_, .f32⟩
  | .hbm, ⟨23, _⟩ => ⟨S1x8x128x128, .f32⟩
  | .hbm, ⟨24, _⟩ => ⟨S1x8x128x128, .f32⟩
  | .hbm, ⟨25, _⟩ => ⟨S1x8x128x128, .f32⟩
  | .hbm, ⟨26, _⟩ => ⟨S_, .f32⟩
  | .hbm, ⟨27, _⟩ => ⟨S1x8x128x128, .f32⟩
  | .hbm, ⟨28, _⟩ => ⟨S1x8x128x128, .f32⟩
  | .hbm, ⟨29, _⟩ => ⟨S1x8x128x128, .f32⟩
  | .hbm, ⟨30, _⟩ => ⟨S_, .f32⟩
  | .hbm, ⟨31, _⟩ => ⟨S1x8x128x128, .f32⟩
  | .hbm, ⟨32, _⟩ => ⟨S1x8x128x128, .f32⟩
  | .hbm, ⟨33, _⟩ => ⟨S1x8x128x128, .f32⟩
  | .hbm, ⟨34, _⟩ => ⟨S_, .f32⟩
  | .hbm, ⟨35, _⟩ => ⟨S1x8x128x128, .f32⟩
  | .hbm, ⟨36, _⟩ => ⟨S1x8x128x128, .f32⟩
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1x8x128 : Shape := ⟨3, ![1, 8, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference31Ideal.lean ====
abbrev S1x8x128 : Shape := ⟨3, ![1, 8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S1x8x128, .f32⟩
  | .hbm, ⟨6, _⟩ => ⟨S1x8x128, .f32⟩
  | .hbm, ⟨7, _⟩ => ⟨S_, .f32⟩
  | .hbm, ⟨8, _⟩ => ⟨S1x8x128, .f32⟩
  | .hbm, ⟨9, _⟩ => ⟨S1x8x128, .f32⟩
  | .hbm, ⟨10, _⟩ => ⟨S1x8x128, .f32⟩
  | .hbm, ⟨11, _⟩ => ⟨S_, .f32⟩
  | .hbm, ⟨12, _⟩ => ⟨S1x8x128, .f32⟩
  | .hbm, ⟨13, _⟩ => ⟨S1x8x128, .f32⟩
  | .hbm, ⟨14, _⟩ => ⟨S1x8x128, .f32⟩
  | .hbm, ⟨15, _⟩ => ⟨S_, .f32⟩
  | .hbm, ⟨16, _⟩ => ⟨S1x8x128, .f32⟩
  | .hbm, ⟨17, _⟩ => ⟨S1x8x128, .f32⟩
  | .hbm, ⟨18, _⟩ => ⟨S1x8x128, .f32⟩
  | .hbm, ⟨19, _⟩ => ⟨S_, .f32⟩
  | .hbm, ⟨20, _⟩ => ⟨S1x8x128, .f32⟩
  | .hbm, ⟨21, _⟩ => ⟨S1x8x128, .f32⟩
  | .hbm, ⟨22, _⟩ => ⟨S_, .f32⟩
  | .hbm, ⟨23, _⟩ => ⟨S1x8x128, .f32⟩
  | .hbm, ⟨24, _⟩ => ⟨S1x8x128, .f32⟩
  | .hbm, ⟨25, _⟩ => ⟨S1x8x128, .f32⟩
  | .hbm, ⟨26, _⟩ => ⟨S_, .f32⟩
  | .hbm, ⟨27, _⟩ => ⟨S1x8x128, .f32⟩
  | .hbm, ⟨28, _⟩ => ⟨S1x8x128, .f32⟩
  | .hbm, ⟨29, _⟩ => ⟨S1x8x128, .f32⟩
  | .hbm, ⟨30, _⟩ => ⟨S_, .f32⟩
  | .hbm, ⟨31, _⟩ => ⟨S1x8x128, .f32⟩
  | .hbm, ⟨32, _⟩ => ⟨S1x8x128, .f32⟩
  | .hbm, ⟨33, _⟩ => ⟨S1x8x128, .f32⟩
  | .hbm, ⟨34, _⟩ => ⟨S_, .f32⟩
  | .hbm, ⟨35, _⟩ => ⟨S1x8x128, .f32⟩
  | .hbm, ⟨36, _⟩ => ⟨S1x8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference32Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference33Ideal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1x4x512 : Shape := ⟨3, ![1, 4, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S1x4x512, .f32⟩
  | .hbm, ⟨5, _⟩ => ⟨S1x4x512, .f32⟩
  | .hbm, ⟨6, _⟩ => ⟨S1x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | _, _ => ⟨S1x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference34Ideal.lean ====
abbrev S1x4x512 : Shape := ⟨3, ![1, 4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S_, .f32⟩
  | .hbm, ⟨5, _⟩ => ⟨S1x4x512, .f32⟩
  | .hbm, ⟨6, _⟩ => ⟨S1x4x512, .f32⟩
  | .hbm, ⟨7, _⟩ => ⟨S_, .f32⟩
  | .hbm, ⟨8, _⟩ => ⟨S1x4x512, .f32⟩
  | .hbm, ⟨9, _⟩ => ⟨S1x4x512, .f32⟩
  | .hbm, ⟨10, _⟩ => ⟨S1x4x512, .f32⟩
  | .hbm, ⟨11, _⟩ => ⟨S_, .f32⟩
  | .hbm, ⟨12, _⟩ => ⟨S1x4x512, .f32⟩
  | .hbm, ⟨13, _⟩ => ⟨S1x4x512, .f32⟩
  | .hbm, ⟨14, _⟩ => ⟨S1x4x512, .f32⟩
  | .hbm, ⟨15, _⟩ => ⟨S_, .f32⟩
  | .hbm, ⟨16, _⟩ => ⟨S1x4x512, .f32⟩
  | .hbm, ⟨17, _⟩ => ⟨S1x4x512, .f32⟩
  | .hbm, ⟨18, _⟩ => ⟨S1x4x512, .f32⟩
  | .hbm, ⟨19, _⟩ => ⟨S_, .f32⟩
  | .hbm, ⟨20, _⟩ => ⟨S1x4x512, .f32⟩
  | .hbm, ⟨21, _⟩ => ⟨S1x4x512, .f32⟩
  | .hbm, ⟨22, _⟩ => ⟨S_, .f32⟩
  | .hbm, ⟨23, _⟩ => ⟨S1x4x512, .f32⟩
  | .hbm, ⟨24, _⟩ => ⟨S1x4x512, .f32⟩
  | .hbm, ⟨25, _⟩ => ⟨S1x4x512, .f32⟩
  | .hbm, ⟨26, _⟩ => ⟨S_, .f32⟩
  | .hbm, ⟨27, _⟩ => ⟨S1x4x512, .f32⟩
  | .hbm, ⟨28, _⟩ => ⟨S1x4x512, .f32⟩
  | .hbm, ⟨29, _⟩ => ⟨S1x4x512, .f32⟩
  | .hbm, ⟨30, _⟩ => ⟨S_, .f32⟩
  | .hbm, ⟨31, _⟩ => ⟨S1x4x512, .f32⟩
  | .hbm, ⟨32, _⟩ => ⟨S1x4x512, .f32⟩
  | .hbm, ⟨33, _⟩ => ⟨S1x4x512, .f32⟩
  | .hbm, ⟨34, _⟩ => ⟨S_, .f32⟩
  | .hbm, ⟨35, _⟩ => ⟨S1x4x512, .f32⟩
  | .hbm, ⟨36, _⟩ => ⟨S1x4x512, .f32⟩
  | _, _ => ⟨S1x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1x320 : Shape := ⟨2, ![1, 320]⟩

abbrev nBuf : Space → Nat
  | .hbm => 7
  | .vmem => 7
  | .smem => 0
  | _ => 0

abbrev bufTy : (tb : Table) → Fin (tcTables nBuf tb) → BufTy
  | .hbm, ⟨0, _⟩ => ⟨S1x320, .f32⟩
  | .hbm, ⟨1, _⟩ => ⟨S1x320, .f32⟩
  | .hbm, ⟨2, _⟩ => ⟨S1x320, .f32⟩
  | .hbm, ⟨3, _⟩ => ⟨S1x320, .f32⟩
  | .hbm, ⟨4, _⟩ => ⟨S1x320, .f32⟩
  | .hbm, ⟨5, _⟩ => ⟨S1x320, .f32⟩
  | .hbm, ⟨6, _⟩ => ⟨S1x320, .f32⟩
  | .local _ .vmem, ⟨0, _⟩ => ⟨S1x320, .f32⟩
  | .local _ .vmem, ⟨1, _⟩ => ⟨S1x320, .f32⟩
  | .local _ .vmem, ⟨2, _⟩ => ⟨S1x320, .f32⟩
  | .local _ .vmem, ⟨3, _⟩ => ⟨S1x320, .f32⟩
  | .local _ .vmem, ⟨4, _⟩ => ⟨S1x320, .f32⟩
  | .local _ .vmem, ⟨5, _⟩ => ⟨S1x320, .f32⟩
  | .local _ .vmem, ⟨6, _⟩ => ⟨S1x320, .f32⟩
  | _, _ => ⟨S1x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference35Ideal.lean ====
abbrev S1x320 : Shape := ⟨2, ![1, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x320, .f32⟩
  | .hbm, ⟨1, _⟩ => ⟨S1x320, .f32⟩
  | .hbm, ⟨2, _⟩ => ⟨S1x320, .f32⟩
  | .hbm, ⟨3, _⟩ => ⟨S1x320, .f32⟩
  | .hbm, ⟨4, _⟩ => ⟨S_, .f32⟩
  | .hbm, ⟨5, _⟩ => ⟨S1x320, .f32⟩
  | .hbm, ⟨6, _⟩ => ⟨S1x320, .f32⟩
  | .hbm, ⟨7, _⟩ => ⟨S_, .f32⟩
  | .hbm, ⟨8, _⟩ => ⟨S1x320, .f32⟩
  | .hbm, ⟨9, _⟩ => ⟨S1x320, .f32⟩
  | .hbm, ⟨10, _⟩ => ⟨S1x320, .f32⟩
  | .hbm, ⟨11, _⟩ => ⟨S_, .f32⟩
  | .hbm, ⟨12, _⟩ => ⟨S1x320, .f32⟩
  | .hbm, ⟨13, _⟩ => ⟨S1x320, .f32⟩
  | .hbm, ⟨14, _⟩ => ⟨S1x320, .f32⟩
  | .hbm, ⟨15, _⟩ => ⟨S_, .f32⟩
  | .hbm, ⟨16, _⟩ => ⟨S1x320, .f32⟩
  | .hbm, ⟨17, _⟩ => ⟨S1x320, .f32⟩
  | .hbm, ⟨18, _⟩ => ⟨S1x320, .f32⟩
  | .hbm, ⟨19, _⟩ => ⟨S_, .f32⟩
  | .hbm, ⟨20, _⟩ => ⟨S1x320, .f32⟩
  | .hbm, ⟨21, _⟩ => ⟨S1x320, .f32⟩
  | .hbm, ⟨22, _⟩ => ⟨S_, .f32⟩
  | .hbm, ⟨23, _⟩ => ⟨S1x320, .f32⟩
  | .hbm, ⟨24, _⟩ => ⟨S1x320, .f32⟩
  | .hbm, ⟨25, _⟩ => ⟨S1x320, .f32⟩
  | .hbm, ⟨26, _⟩ => ⟨S_, .f32⟩
  | .hbm, ⟨27, _⟩ => ⟨S1x320, .f32⟩
  | .hbm, ⟨28, _⟩ => ⟨S1x320, .f32⟩
  | .hbm, ⟨29, _⟩ => ⟨S1x320, .f32⟩
  | .hbm, ⟨30, _⟩ => ⟨S_, .f32⟩
  | .hbm, ⟨31, _⟩ => ⟨S1x320, .f32⟩
  | .hbm, ⟨32, _⟩ => ⟨S1x320, .f32⟩
  | .hbm, ⟨33, _⟩ => ⟨S1x320, .f32⟩
  | .hbm, ⟨34, _⟩ => ⟨S_, .f32⟩
  | .hbm, ⟨35, _⟩ => ⟨S1x320, .f32⟩
  | .hbm, ⟨36, _⟩ => ⟨S1x320, .f32⟩
  | _, _ => ⟨S1x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference36Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Mlp.Base.lean ====
/- What the value proofs of the products share: the three products of arrays of extended reals, what a block of a product is,
   and small facts of indices. -/
module

public import Idealize.ShloMosaic.Lib.Pointwise

@[expose] public section

noncomputable section

namespace Cert.Mlp

open Idealize.ShloMosaic

theorem zero2 : (![0, 0] : Fin 2 → Nat) = fun _ => 0 := funext fun a => by fin_cases a <;> rfl

theorem zero3 : (![0, 0, 0] : Fin 3 → Nat) = fun _ => 0 := funext fun a => by fin_cases a <;> rfl

/-- Two rank-three indices with equal coordinates are equal. -/
theorem idx_ext3 {n : Fin 3 → ℕ} {x y : (a : Fin 3) → Fin (n a)} (h0 : (x 0 : ℕ) = y 0) (h1 : (x 1 : ℕ) = y 1) (h2 : (x 2 : ℕ) = y 2) :
    x = y :=
  funext fun a => Fin.ext (match a with | ⟨0, _⟩ => h0 | ⟨1, _⟩ => h1 | ⟨2, _⟩ => h2)

/-- A coordinate lies in the tile that its quotient names. -/
theorem tile_mem {q d b : ℕ} (h : q = d / b) (hb : 0 < b) : q * b ≤ d ∧ d < q * b + b := by
  subst h
  exact ⟨Nat.div_mul_le_self d b, by have := Nat.lt_div_mul_add (a := d) hb; omega⟩

theorem tile_zero (k b : ℕ) : k = 0 * b + k := by rw [Nat.zero_mul, Nat.zero_add]

/-- The indices of an array with two axes. -/
abbrev Ix (a b : ℕ) : Type := (⟨2, ![a, b]⟩ : Shape).Idx

/-- An array of extended reals with two axes. -/
abbrev Arr (a b : ℕ) : Type := Ix a b → EReal

variable {M K N m n : ℕ}

/-- Rows by columns. -/
def nn (x : Arr M K) (w : Arr K N) : Arr M N := fun i => ∑ k : Fin K, x (ix2 (i 0) k) * w (ix2 k (i 1))

/-- Columns by columns. -/
def tn (x : Arr K M) (w : Arr K N) : Arr M N := fun i => ∑ k : Fin K, x (ix2 k (i 0)) * w (ix2 k (i 1))

/-- Rows by rows. -/
def nt (x : Arr M K) (w : Arr N K) : Arr M N := fun i => ∑ k : Fin K, x (ix2 (i 0) k) * w (ix2 (i 1) k)

/-- A block's index in the whole array: tile `p` of the rows, tile `q` of the columns. -/
structure At (p q : ℕ) (e : Ix m n → Ix M N) : Prop where
  row : ∀ z, (e z 0).val = p * m + (z 0).val
  col : ∀ z, (e z 1).val = q * n + (z 1).val

/-- The index from its coordinates. -/
theorem At.eq {p q : ℕ} {e : Ix m n → Ix M N} (h : At p q e) (z : Ix m n) {i : Ix M N} (h0 : (i 0).val = p * m + (z 0).val)
    (h1 : (i 1).val = q * n + (z 1).val) : e z = i :=
  Shape.idx_ext₂ ((h.row z).trans h0.symm) ((h.col z).trans h1.symm)

/-- Two blocks in the same place have the same indices. -/
theorem At.same {p q p' q' : ℕ} {e e' : Ix m n → Ix M N} (h : At p q e) (h' : At p' q' e') (hp : p = p') (hq : q = q') (z : Ix m n) : e z = e' z := by
  subst hp hq
  exact h.eq z (h'.row z) (h'.col z)

/-- A row's entry above a block's column. -/
theorem At.row_eq {p q u v : ℕ} {eb : Ix 1 n → Ix 1 N} {eo : Ix m n → Ix M N} (hb : At u v eb) (ho : At p q eo) (hu : u = 0) (hv : v = q) (y : Ix m n) :
    eb (ix2 0 (y 1)) = ix2 0 (eo y 1) := by
  subst hu hv
  exact hb.eq _ (tile_zero _ _) (ho.col y)

section
variable {p q r s u v : ℕ} {eo : Ix m n → Ix M N}

theorem nn_blk {x : Arr M K} {w : Arr K N} {xb : Arr m K} {wb : Arr K n} (ex : Ix m K → Ix M K) (ew : Ix K n → Ix K N)
    (hx : ∀ z, xb z = x (ex z)) (hw : ∀ z, wb z = w (ew z)) (ax : At r s ex) (aw : At u v ew) (ao : At p q eo)
    (hr : r = p) (hs : s = 0) (hu : u = 0) (hv : v = q) (y : Ix m n) : nn xb wb y = nn x w (eo y) := by
  subst hr hs hu hv
  exact Finset.sum_congr rfl fun k _ => congrArg₂ (· * ·)
    ((hx _).trans (congrArg x (ax.eq (ix2 (y 0) k) (i := ix2 (eo y 0) k) (ao.row y) (tile_zero _ _))))
    ((hw _).trans (congrArg w (aw.eq (ix2 k (y 1)) (i := ix2 k (eo y 1)) (tile_zero _ _) (ao.col y))))

theorem tn_blk {x : Arr K M} {w : Arr K N} {xb : Arr K m} {wb : Arr K n} (ex : Ix K m → Ix K M) (ew : Ix K n → Ix K N)
    (hx : ∀ z, xb z = x (ex z)) (hw : ∀ z, wb z = w (ew z)) (ax : At r s ex) (aw : At u v ew) (ao : At p q eo)
    (hr : r = 0) (hs : s = p) (hu : u = 0) (hv : v = q) (y : Ix m n) : tn xb wb y = tn x w (eo y) := by
  subst hr hs hu hv
  exact Finset.sum_congr rfl fun k _ => congrArg₂ (· * ·)
    ((hx _).trans (congrArg x (ax.eq (ix2 k (y 0)) (i := ix2 k (eo y 0)) (tile_zero _ _) (ao.row y))))
    ((hw _).trans (congrArg w (aw.eq (ix2 k (y 1)) (i := ix2 k (eo y 1)) (tile_zero _ _) (ao.col y))))

theorem nt_blk {x : Arr M K} {w : Arr N K} {xb : Arr m K} {wb : Arr n K} (ex : Ix m K → Ix M K) (ew : Ix n K → Ix N K)
    (hx : ∀ z, xb z = x (ex z)) (hw : ∀ z, wb z = w (ew z)) (ax : At r s ex) (aw : At u v ew) (ao : At p q eo)
    (hr : r = p) (hs : s = 0) (hu : u = q) (hv : v = 0) (y : Ix m n) : nt xb wb y = nt x w (eo y) := by
  subst hr hs hu hv
  exact Finset.sum_congr rfl fun k _ => congrArg₂ (· * ·)
    ((hx _).trans (congrArg x (ax.eq (ix2 (y 0) k) (i := ix2 (eo y 0) k) (ao.row y) (tile_zero _ _))))
    ((hw _).trans (congrArg w (aw.eq (ix2 (y 1) k) (i := ix2 (eo y 1) k) (ao.col y) (tile_zero _ _))))

end

end Cert.Mlp

end
-- ==== Proof.Mlp.Da.lean ====
/- The gradient of the squared-ReLU layer by its pre-activation: what the pipelined product leaves in its result array is,
   index by index, what the reference computes. -/
module

public import proofs.«01_k».proof.Proof.Gen.Kernel2Ideal.Value
public import proofs.«01_k».proof.Proof.Gen.Reference2Ideal.Read
public import proofs.«01_k».proof.Proof.Mlp.Base

@[expose] public section

noncomputable section

namespace Cert.Kernel2Ideal.Da

open Cert.Kernel2Ideal Cert.Kernel2Ideal.Gen Idealize.ShloMosaic Idealize.ShloMosaic.TcCoe Idealize.SL.Sem
open Idealize.ShloMosaic.Pipeline (Dat)

/-- One block's result at an index. -/
theorem pay_apply (x : FVec Ideal S2048x1024 .f32) (w : FVec Ideal S1024x1024 .bf16) (a : FVec Ideal S2048x1024 .bf16)
    (y : S2048x1024.Idx) :
    (k0_pay1 (F := Ideal) x w a y : EReal) = (∑ k : Fin 1024, x (ix2 (y 0) k) * w (ix2 (y 1) k)) * (Ideal.ofBits .f32 0x40000000#32 * max (a y) 0) := by
  pointwise [k0_pay1]

/-- The whole array the blocks are cut from. -/
def G (x : FVec Ideal S4096x1024 .f32) (w : FVec Ideal S4096x1024 .bf16) (a : FVec Ideal S4096x4096 .bf16) : FVec Ideal S4096x4096 .bf16 :=
  fun i => (((∑ k : Fin 1024, x (ix2 (i 0) k) * w (ix2 (i 1) k)) * (Ideal.ofBits .f32 0x40000000#32 * max (a i) 0) : EReal))

variable (m : (ℓ : Loc nD τ sig) → Buf (Elt Ideal) ℓ) (c : Dev nD)

/-- Where each window's block stands against the result's. -/
theorem idx_facts : ∀ t : Fin cfg0.N, win0_0.index t 0 = win0_3.index t 0 ∧ win0_0.index t 1 = 0 ∧ win0_1.index t 0 = win0_3.index t 1
    ∧ win0_1.index t 1 = 0 ∧ win0_2.index t 0 = win0_3.index t 0 ∧ win0_2.index t 1 = win0_3.index t 1 :=
  (by decide +kernel : ∀ t : Fin grid0.N, _)

theorem flushed_eq (t : Fin cfg0.N) :
    (dats m 0 c).flushed 3 t = (win0_3.blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero Mlp.zero2, View.ld_unit_zero Mlp.zero2, View.ld_unit_zero Mlp.zero2, View.ld_unit_zero Mlp.zero2]
  obtain ⟨e0, e1, e2, e3, e4, e5⟩ := idx_facts t
  funext y
  refine (pay_apply _ _ _ _).trans ?_
  show _ = G _ _ _ ((win0_3.rect t).emb y)
  unfold G
  have q0 : ((win0_3.rect t).emb y 0).val = win0_3.index t 0 * 2048 + (y 0).val := win0_3.rect_emb_val t y 0
  have q1 : ((win0_3.rect t).emb y 1).val = win0_3.index t 1 * 1024 + (y 1).val := win0_3.rect_emb_val t y 1
  have h0 : ∀ k : Fin 1024, iblk m c 0 t (ix2 (y 0) k) = m ((c : Thread nD τ).loc main_arg0) (ix2 ((win0_3.rect t).emb y 0) k) := fun k =>
    congrArg (m ((c : Thread nD τ).loc main_arg0)) (Shape.idx_ext₂ (x := (win0_0.rect t).emb (ix2 (y 0) k))
      ((win0_0.rect_emb_val t (ix2 (y 0) k) 0).trans ((congrArg (fun n => n * 2048 + (y 0).val) e0).trans q0.symm))
      (win0_0.rect_emb_val_of_index_zero t 1 e1 (ix2 (y 0) k)))
  have h1 : ∀ k : Fin 1024, iblk m c 1 t (ix2 (y 1) k) = m ((c : Thread nD τ).loc main_arg1) (ix2 ((win0_3.rect t).emb y 1) k) := fun k =>
    congrArg (m ((c : Thread nD τ).loc main_arg1)) (Shape.idx_ext₂ (x := (win0_1.rect t).emb (ix2 (y 1) k))
      ((win0_1.rect_emb_val t (ix2 (y 1) k) 0).trans ((congrArg (fun n => n * 1024 + (y 1).val) e2).trans q1.symm))
      (win0_1.rect_emb_val_of_index_zero t 1 e3 (ix2 (y 1) k)))
  have h2 : iblk m c 2 t y = m ((c : Thread nD τ).loc main_arg2) ((win0_3.rect t).emb y) :=
    congrArg (m ((c : Thread nD τ).loc main_arg2)) (Shape.idx_ext₂ (x := (win0_2.rect t).emb y)
      ((win0_2.rect_emb_val t y 0).trans ((congrArg (fun n => n * 2048 + (y 0).val) e4).trans q0.symm))
      ((win0_2.rect_emb_val t y 1).trans ((congrArg (fun n => n * 1024 + (y 1).val) e5).trans q1.symm)))
  refine congrArg₂ (· * ·) (Finset.sum_congr rfl fun k _ => congrArg₂ (· * ·) (h0 k) (h1 k)) ?_
  exact congrArg (fun z => Ideal.ofBits FTy.f32 1073741824#32 * max z 0) h2

/-- Which indices a point's block holds. -/
theorem mem_blk (t : Fin cfg0.N) (i : S4096x4096.Idx) :
    i ∈ ((cfg0.win 3).blk t).view.set ↔ ∀ a, win0_3.index t a * S2048x1024.size a ≤ (i a).val ∧ (i a).val < win0_3.index t a * S2048x1024.size a + S2048x1024.size a := by
  show i ∈ ((View.whole main_v0).slice (win0_3.rect t)).set ↔ _
  rw [View.set_slice_whole, Rect.mem_set_unit]

theorem cover (i : S4096x4096.Idx) : ∃ t : Fin cfg0.N, (cfg0.win 3).flush t = true ∧ i ∈ ((cfg0.win 3).blk t).view.set := by
  have key : ∀ (a : Fin 2) (b : Fin 4), ∃ t : Fin grid0.N, win0_3.index t 0 = a.val ∧ win0_3.index t 1 = b.val := by decide +kernel
  have h0 : (i 0).val < 4096 := (i 0).isLt
  have h1 : (i 1).val < 4096 := (i 1).isLt
  obtain ⟨t, ha, hb⟩ := key ⟨(i 0).val / 2048, by omega⟩ ⟨(i 1).val / 1024, by omega⟩
  refine ⟨t, flush0_3 t, (mem_blk t i).mpr fun a => ?_⟩
  match a with
  | ⟨0, _⟩ => show win0_3.index t 0 * 2048 ≤ (i 0).val ∧ (i 0).val < win0_3.index t 0 * 2048 + 2048; rw [ha]; dsimp only; constructor <;> omega
  | ⟨1, _⟩ => show win0_3.index t 1 * 1024 ≤ (i 1).val ∧ (i 1).val < win0_3.index t 1 * 1024 + 1024; rw [hb]; dsimp only; constructor <;> omega

theorem final : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

open Cert.Reference2Ideal.Read in
/-- The reference's value is the same function. -/
theorem ref (x : FVec Ideal S4096x1024 .f32) (w : FVec Ideal S4096x1024 .bf16) (a : FVec Ideal S4096x4096 .bf16) :
    val_main_v14 (F := Ideal) x w a = G x w a := by
  funext i
  unfold G
  pointwise [val_main_v14, val_main_v13, val_main_v12, val_main_v11, val_main_v10, val_main_v8, val_main_v7, val_main_v4, val_main_v3,
    val_main_v2, val_main_call0_v0, val_main_call0_cst, val_main_v1, val_main_v0, val_main_cst, val_main_cst_1, val_main_cst_2]
  split_ifs with h
  · rfl
  · rw [max_eq_right (not_lt.mp h), mul_zero, mul_zero]

end Cert.Kernel2Ideal.Da

end
-- ==== Proof.Mlp.Dwdown.lean ====
/- The gradient of the second weight of the squared-ReLU layer: what the pipelined product leaves in its result array is, index
   by index, what the reference computes. -/
module

public import proofs.«01_k».proof.Proof.Mlp.Base
public import proofs.«01_k».proof.Proof.Gen.Kernel3Ideal.Value
public import proofs.«01_k».proof.Proof.Gen.Reference3Ideal.Read

@[expose] public section

noncomputable section

namespace Cert.Kernel3Ideal.Dwdown

open Cert.Kernel3Ideal Cert.Kernel3Ideal.Gen Idealize.ShloMosaic Idealize.ShloMosaic.TcCoe Idealize.SL.Sem
open Idealize.ShloMosaic.Pipeline (Dat)

/-- One block's result at an index. -/
theorem pay_apply (a : FVec Ideal S4096x1024 .bf16) (d : FVec Ideal S4096x512 .f32) (y : S1024x512.Idx) :
    (k0_pay1 (F := Ideal) a d y : EReal)
      = ∑ k : Fin 4096, (max (a (ix2 k (y 0))) 0 * max (a (ix2 k (y 0))) 0) * d (ix2 k (y 1)) := by
  pointwise [k0_pay1]

/-- The whole array the blocks are cut from. -/
def G (a : FVec Ideal S4096x4096 .bf16) (d : FVec Ideal S4096x1024 .f32) : FVec Ideal S4096x1024 .bf16 :=
  fun i => ((∑ k : Fin 4096, (max (a (ix2 k (i 0))) 0 * max (a (ix2 k (i 0))) 0) * d (ix2 k (i 1)) : EReal))

variable (m : (ℓ : Loc nD τ sig) → Buf (Elt Ideal) ℓ) (c : Dev nD)

/-- Where each window's block stands against the result's. -/
theorem idx_facts : ∀ t : Fin cfg0.N, win0_0.index t 0 = 0 ∧ win0_0.index t 1 = win0_2.index t 0 ∧ win0_1.index t 0 = 0
    ∧ win0_1.index t 1 = win0_2.index t 1 :=
  (by decide +kernel : ∀ t : Fin grid0.N, _)

theorem flushed_eq (t : Fin cfg0.N) :
    (dats m 0 c).flushed 2 t = (win0_2.blk t).view.read (Elt Ideal)
      (G (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  refine (pay_apply _ _ _).trans ?_
  show _ = G _ _ ((win0_2.rect t).emb y)
  unfold G
  have q0 : ((win0_2.rect t).emb y 0).val = win0_2.index t 0 * 1024 + (y 0).val := win0_2.rect_emb_val t y 0
  have q1 : ((win0_2.rect t).emb y 1).val = win0_2.index t 1 * 512 + (y 1).val := win0_2.rect_emb_val t y 1
  have h0 : ∀ k : Fin 4096, iblk m c 0 t (ix2 k (y 0)) = m ((c : Thread nD τ).loc main_arg0) (ix2 k ((win0_2.rect t).emb y 0)) := fun k =>
    congrArg (m ((c : Thread nD τ).loc main_arg0)) (Shape.idx_ext₂ (x := (win0_0.rect t).emb (ix2 k (y 0)))
      (win0_0.rect_emb_val_of_index_zero t 0 e0 (ix2 k (y 0)))
      ((win0_0.rect_emb_val t (ix2 k (y 0)) 1).trans ((congrArg (fun n => n * 1024 + (y 0).val) e1).trans q0.symm)))
  have h1 : ∀ k : Fin 4096, iblk m c 1 t (ix2 k (y 1)) = m ((c : Thread nD τ).loc main_arg1) (ix2 k ((win0_2.rect t).emb y 1)) := fun k =>
    congrArg (m ((c : Thread nD τ).loc main_arg1)) (Shape.idx_ext₂ (x := (win0_1.rect t).emb (ix2 k (y 1)))
      (win0_1.rect_emb_val_of_index_zero t 0 e2 (ix2 k (y 1)))
      ((win0_1.rect_emb_val t (ix2 k (y 1)) 1).trans ((congrArg (fun n => n * 512 + (y 1).val) e3).trans q1.symm)))
  exact Finset.sum_congr rfl fun k _ => congrArg₂ (· * ·) (congrArg (fun z => max z 0 * max z 0) (h0 k)) (h1 k)

/-- Which indices a point's block holds. -/
theorem mem_blk (t : Fin cfg0.N) (i : S4096x1024.Idx) :
    i ∈ ((cfg0.win 2).blk t).view.set ↔ ∀ a, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]

theorem cover (i : S4096x1024.Idx) : ∃ t : Fin cfg0.N, (cfg0.win 2).flush t = true ∧ i ∈ ((cfg0.win 2).blk t).view.set := by
  have key : ∀ (a : Fin 4) (b : Fin 2), ∃ t : Fin grid0.N, win0_2.index t 0 = a.val ∧ win0_2.index t 1 = b.val := by decide +kernel
  have h0 : (i 0).val < 4096 := (i 0).isLt
  have h1 : (i 1).val < 1024 := (i 1).isLt
  obtain ⟨t, ha, hb⟩ := key ⟨(i 0).val / 1024, by omega⟩ ⟨(i 1).val / 512, by omega⟩
  refine ⟨t, flush0_2 t, (mem_blk t i).mpr fun a => ?_⟩
  match a with
  | ⟨0, _⟩ => show win0_2.index t 0 * 1024 ≤ (i 0).val ∧ (i 0).val < win0_2.index t 0 * 1024 + 1024; rw [ha]; dsimp only; constructor <;> omega
  | ⟨1, _⟩ => show win0_2.index t 1 * 512 ≤ (i 1).val ∧ (i 1).val < win0_2.index t 1 * 512 + 512; rw [hb]; dsimp only; constructor <;> omega

theorem final : (dats m 0 c).arrAt 2 cfg0.N
    = G (m ((c : Thread nD τ).loc main_arg0)) (m ((c : Thread nD τ).loc main_arg1)) :=
  (dats m 0 c).arrAt_eq_of_cover 2 _ (fun t _ => flushed_eq m c t) cover

open Cert.Reference3Ideal.Read in
/-- The reference's value is the same function. -/
theorem ref (a : FVec Ideal S4096x4096 .bf16) (d : FVec Ideal S4096x1024 .f32) : val_main_v7 (F := Ideal) a d = G a d := by
  funext i
  unfold G
  pointwise [val_main_v7, val_main_v6, val_main_v5, val_main_v3, val_main_v2, val_main_call0_v0, val_main_call0_cst, val_main_v0]
  exact Finset.sum_congr rfl fun k _ => mul_comm _ _

end Cert.Kernel3Ideal.Dwdown

end
-- ==== Proof.Mlp.Dwup.lean ====
/- The gradient of the first weight of the squared-ReLU layer, laid out by column tile: what the pipelined product leaves in its
   result array is, index by index, what the reference computes. -/
module

public import proofs.«01_k».proof.Proof.Mlp.Base
public import proofs.«01_k».proof.Proof.Gen.Kernel4Ideal.Value
public import proofs.«01_k».proof.Proof.Gen.Reference4Ideal.Read

@[expose] public section

noncomputable section

namespace Cert.Kernel4Ideal.Dwup

open Cert.Kernel4Ideal Cert.Kernel4Ideal.Gen Idealize.ShloMosaic Idealize.ShloMosaic.TcCoe Idealize.SL.Sem
open Idealize.ShloMosaic.Pipeline (Dat)

/-- One block's result at an index. -/
theorem pay_apply (a : FVec Ideal S4096x1024 .bf16) (d : FVec Ideal S4096x1024 .bf16) (y : S1x1024x1024.Idx) :
    (k0_pay1 (F := Ideal) a d y : EReal) = ∑ k : Fin 4096, a (ix2 k (y 1)) * d (ix2 k (y 2)) := by
  pointwise [k0_pay1]

/-- A column of the flat gradient from its tile and its column there. -/
def col (p : Fin 4) (q : Fin 1024) : Fin 4096 := ⟨p.val * 1024 + q.val, by omega⟩

/-- The whole array the blocks are cut from. -/
def G (a : FVec Ideal S4096x1024 .bf16) (d : FVec Ideal S4096x4096 .bf16) : FVec Ideal S4x1024x1024 .bf16 :=
  fun i => ((∑ k : Fin 4096, a (ix2 k (i 1)) * d (ix2 k (col (i 0) (i 2))) : EReal))

variable (m : (ℓ : Loc nD τ sig) → Buf (Elt Ideal) ℓ) (c : Dev nD)

/-- Where each window's block stands against the result's. -/
theorem idx_facts : ∀ t : Fin cfg0.N, win0_0.index t 0 = 0 ∧ win0_0.index t 1 = win0_2.index t 1 ∧ win0_1.index t 0 = 0
    ∧ win0_1.index t 1 = win0_2.index t 0 ∧ win0_2.index t 2 = 0 :=
  (by decide +kernel : ∀ t : Fin grid0.N, _)

theorem flushed_eq (t : Fin cfg0.N) :
    (dats m 0 c).flushed 2 t = (win0_2.blk t).view.read (Elt Ideal)
      (G (m ((c : Thread nD τ).loc main_arg0)) (m ((c : Thread nD τ).loc main_arg1))) := by
  rw [Value.flushed2]
  unfold out0_2
  rw [View.canon_unit_zero Mlp.zero3, View.ld_unit_zero Mlp.zero2, View.ld_unit_zero Mlp.zero2]
  obtain ⟨e0, e1, e2, e3, e4⟩ := idx_facts t
  funext y
  refine (pay_apply _ _ _).trans ?_
  show _ = G _ _ ((win0_2.rect t).emb y)
  unfold G
  have q0 : ((win0_2.rect t).emb y 0).val = win0_2.index t 0 * 1 + (y 0).val := win0_2.rect_emb_val t y 0
  have q1 : ((win0_2.rect t).emb y 1).val = win0_2.index t 1 * 1024 + (y 1).val := win0_2.rect_emb_val t y 1
  have q2 : ((win0_2.rect t).emb y 2).val = (y 2).val := win0_2.rect_emb_val_of_index_zero t 2 e4 y
  have y0 : (y 0).val < 1 := (y 0).isLt
  have h0 : ∀ k : Fin 4096, iblk m c 0 t (ix2 k (y 1)) = m ((c : Thread nD τ).loc main_arg0) (ix2 k ((win0_2.rect t).emb y 1)) := fun k =>
    congrArg (m ((c : Thread nD τ).loc main_arg0)) (Shape.idx_ext₂ (x := (win0_0.rect t).emb (ix2 k (y 1)))
      (win0_0.rect_emb_val_of_index_zero t 0 e0 (ix2 k (y 1)))
      ((win0_0.rect_emb_val t (ix2 k (y 1)) 1).trans ((congrArg (fun n => n * 1024 + (y 1).val) e1).trans q1.symm)))
  have qc : win0_2.index t 0 * 1024 + (y 2).val = (col ((win0_2.rect t).emb y 0) ((win0_2.rect t).emb y 2)).val := by
    show _ = ((win0_2.rect t).emb y 0).val * 1024 + ((win0_2.rect t).emb y 2).val
    rw [q0, q2]; omega
  have h1 : ∀ k : Fin 4096, iblk m c 1 t (ix2 k (y 2)) = m ((c : Thread nD τ).loc main_arg1) (ix2 k (col ((win0_2.rect t).emb y 0) ((win0_2.rect t).emb y 2))) := fun k =>
    congrArg (m ((c : Thread nD τ).loc main_arg1)) (Shape.idx_ext₂ (x := (win0_1.rect t).emb (ix2 k (y 2)))
      (win0_1.rect_emb_val_of_index_zero t 0 e2 (ix2 k (y 2)))
      ((win0_1.rect_emb_val t (ix2 k (y 2)) 1).trans ((congrArg (fun n => n * 1024 + (y 2).val) e3).trans qc)))
  exact Finset.sum_congr rfl fun k _ => congrArg₂ (· * ·) (h0 k) (h1 k)

/-- Which indices a point's block holds. -/
theorem mem_blk (t : Fin cfg0.N) (i : S4x1024x1024.Idx) :
    i ∈ ((cfg0.win 2).blk t).view.set ↔ ∀ a, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]

theorem cover (i : S4x1024x1024.Idx) : ∃ t : Fin cfg0.N, (cfg0.win 2).flush t = true ∧ i ∈ ((cfg0.win 2).blk t).view.set := by
  have key : ∀ a : Fin 4, ∃ t : Fin grid0.N, win0_2.index t 0 = a.val ∧ win0_2.index t 1 = 0 ∧ win0_2.index t 2 = 0 := by decide +kernel
  have h1 : (i 1).val < 1024 := (i 1).isLt
  have h2 : (i 2).val < 1024 := (i 2).isLt
  obtain ⟨t, ha, hb, hc⟩ := key (i 0)
  refine ⟨t, flush0_2 t, (mem_blk t i).mpr fun a => ?_⟩
  match a with
  | ⟨0, _⟩ => show win0_2.index t 0 * 1 ≤ (i 0).val ∧ (i 0).val < win0_2.index t 0 * 1 + 1; rw [ha]; constructor <;> omega
  | ⟨1, _⟩ => show win0_2.index t 1 * 1024 ≤ (i 1).val ∧ (i 1).val < win0_2.index t 1 * 1024 + 1024; rw [hb]; constructor <;> omega
  | ⟨2, _⟩ => show win0_2.index t 2 * 1024 ≤ (i 2).val ∧ (i 2).val < win0_2.index t 2 * 1024 + 1024; rw [hc]; constructor <;> omega

theorem final : (dats m 0 c).arrAt 2 cfg0.N
    = G (m ((c : Thread nD τ).loc main_arg0)) (m ((c : Thread nD τ).loc main_arg1)) :=
  (dats m 0 c).arrAt_eq_of_cover 2 _ (fun t _ => flushed_eq m c t) cover

open Cert.Reference4Ideal.Read in
/-- The reference's value is the same function. -/
theorem ref (a : FVec Ideal S4096x1024 .bf16) (d : FVec Ideal S4096x4096 .bf16) : val_main_v8 (F := Ideal) a d = G a d := by
  funext i
  unfold G
  pointwise [val_main_v8, val_main_v7, val_main_v6, val_main_v5, val_main_v4, val_main_v3, val_main_v0]
  exact Finset.sum_congr rfl fun k _ => mul_comm _ _

end Cert.Kernel4Ideal.Dwup

end
-- ==== Proof.Attention.Spec.lean ====
/- One query head in one block of the windowed attention with a sink, and its gradients, by coordinates in the extended reals:
   what both the kernel's grid points and the reference compute. -/
module

public import Idealize.ShloMosaic.Lib.Pointwise

@[expose] public section

noncomputable section

namespace Cert.Att

open Idealize.ShloMosaic

/-- The scale of the scores. -/
def eighth : EReal := Ideal.ofBits .f32 0x3E000000#32

theorem neg_inf : Ideal.ofBits .f32 0xFF800000#32 = ⊥ := by simp [Ideal.ofBits, Ideal.ieee]

/-! ## One row of scores -/

section
variable {n : ℕ} (s : Fin n → EReal) (c : EReal) (dp : Fin n → EReal)

/-- The largest score and the sink. -/
def mx : EReal := max (Finset.univ.fold max ⊥ s) c
def ex (l : Fin n) : EReal := Ideal.exp (s l - mx s c)
def exs : EReal := Ideal.exp (c - mx s c)
def den : EReal := ∑ l, ex s c l + exs s c
def prob (l : Fin n) : EReal := Ideal.div (ex s c l) (den s c)
/-- The derivative by the denominator. -/
def dden : EReal := - ∑ l, dp l * Ideal.div 1 (den s c * den s c) * ex s c l
/-- The derivative by a score. -/
def dscore (l : Fin n) : EReal := (Ideal.div (dp l) (den s c) + dden s c dp) * ex s c l
end

/-! ## One head -/

/-- What one query head reads in one block: its queries, the output's gradient, the keys and values of the block and of the
    block before, its sink, and whether there is no block before. -/
structure Head where
  (first : Prop)
  (q o kc kp vc vp : Fin 128 → Fin 64 → EReal)
  (c : EReal)

namespace Head
open Classical
variable (H : Head) (r l : Fin 128) (d : Fin 64)

def s : EReal :=
  if l ≤ r then (∑ d, H.q r d * H.kc l d) * eighth else if H.first then ⊥ else (∑ d, H.q r d * H.kp l d) * eighth
def dp : EReal := if l ≤ r then ∑ d, H.o r d * H.vc l d else ∑ d, H.o r d * H.vp l d
def p : EReal := prob (H.s r) H.c l
def ds : EReal := dscore (H.s r) H.c (H.dp r) l
/-- The part of the own block, and that of the block before. -/
def dsc : EReal := (if l ≤ r then H.ds r l else 0) * eighth
def dsp : EReal := (if H.first then 0 else if l ≤ r then 0 else H.ds r l) * eighth
def dq : EReal := ∑ l, H.dsp r l * H.kp l d + ∑ l, H.dsc r l * H.kc l d
def dkc : EReal := ∑ r, H.dsc r l * H.q r d
def dkp : EReal := ∑ r, H.dsp r l * H.q r d
def dvc : EReal := ∑ r, H.o r d * (if l ≤ r then H.p r l else 0)
def dvp : EReal := ∑ r, H.o r d * (if l ≤ r then 0 else H.p r l)
def dsink : EReal := ∑ r, dden (H.s r) H.c (H.dp r) * exs (H.s r) H.c
end Head

/-! ## Sums over blocks -/

/-- Row `r` of head `g`'s block. -/
def row (g : Fin 8) (r : Fin 128) : Fin 1024 := ⟨128 * g.val + r.val, by omega⟩

/-- Lane `d` of half `b`. -/
def ln (b : Fin 2) (d : Fin 64) : Fin 128 := ⟨64 * b.val + d.val, by omega⟩

theorem sum_rows (f : Fin 1024 → EReal) : ∑ x, f x = ∑ g : Fin 8, ∑ r : Fin 128, f (row g r) := by
  rw [← Fintype.sum_prod_type', ← (finProdFinEquiv (m := 8) (n := 128)).sum_comp]
  exact Finset.sum_congr rfl fun x _ => congrArg f (Fin.ext (by simp [row, finProdFinEquiv]; omega))

theorem sum_lanes (f : Fin 128 → EReal) : ∑ x, f x = ∑ b : Fin 2, ∑ d : Fin 64, f (ln b d) := by
  rw [← Fintype.sum_prod_type', ← (finProdFinEquiv (m := 2) (n := 64)).sum_comp]
  exact Finset.sum_congr rfl fun x _ => congrArg f (Fin.ext (by simp [ln, finProdFinEquiv]; omega))

/-- A sum over the lanes of which only one half counts. -/
theorem sum_half (b : Fin 2) (f : Fin 128 → EReal) (h : ∀ b' d, b' ≠ b → f (ln b' d) = 0) : ∑ x, f x = ∑ d, f (ln b d) := by
  rw [sum_lanes, Finset.sum_eq_single b (fun b' _ hb => Finset.sum_eq_zero fun d _ => h b' d hb) (fun h => absurd (Finset.mem_univ b) h)]

end Cert.Att

end
-- ==== Proof.Attention.Band.lean ====
/- The two blocks of keys a block's queries may see, laid end to end, against the one row of 128 scores in which each lane takes
   the own block's key or the one of the block before. -/
module

public import proofs.«01_k».proof.Proof.Attention.Spec

@[expose] public section

noncomputable section

namespace Cert.Att

open Idealize.ShloMosaic

/-- Key `l` of the block before, and of the own block. -/
def lo (l : Fin 128) : Fin 256 := ⟨l.val, by omega⟩
def hi (l : Fin 128) : Fin 256 := ⟨128 + l.val, by omega⟩

theorem lo_or_hi (t : Fin 256) : (∃ l, t = lo l) ∨ ∃ l, t = hi l := by
  by_cases h : t.val < 128
  · exact .inl ⟨⟨t.val, h⟩, rfl⟩
  · exact .inr ⟨⟨t.val - 128, by omega⟩, Fin.ext (by simp only [hi]; omega)⟩

theorem sum_two (f : Fin 256 → EReal) : ∑ t, f t = ∑ l, f (lo l) + ∑ l, f (hi l) :=
  (Fin.sum_univ_add (a := 128) (b := 128) f)

/-- A sum over both blocks in which each lane counts once. -/
theorem sum_band (r : Fin 128) (f : Fin 256 → EReal) (e : Fin 128 → EReal) (own : ∀ l, l ≤ r → f (hi l) = e l ∧ f (lo l) = 0)
    (past : ∀ l, ¬ l ≤ r → f (lo l) = e l ∧ f (hi l) = 0) : ∑ t, f t = ∑ l, e l := by
  rw [sum_two, ← Finset.sum_add_distrib]
  refine Finset.sum_congr rfl fun l _ => ?_
  by_cases h : l ≤ r
  · rw [(own l h).1, (own l h).2, zero_add]
  · rw [(past l h).1, (past l h).2, add_zero]

theorem exp_bot : Ideal.exp ⊥ = 0 := rfl

theorem ex_bot {n : ℕ} (s : Fin n → EReal) (c : EReal) (l : Fin n) (h : s l = ⊥) : ex s c l = 0 := by
  unfold ex
  rw [h, sub_eq_add_neg, EReal.bot_add, exp_bot]

/-- The rows of one query: `S`, `D` over both blocks, `s`, `d` over the lanes. -/
structure Band (r : Fin 128) (S D : Fin 256 → EReal) (s d : Fin 128 → EReal) : Prop where
  own : ∀ l, l ≤ r → S (hi l) = s l ∧ D (hi l) = d l ∧ S (lo l) = ⊥
  past : ∀ l, ¬ l ≤ r → S (lo l) = s l ∧ (D (lo l) = d l ∨ s l = ⊥) ∧ S (hi l) = ⊥

namespace Band
variable {r : Fin 128} {S D : Fin 256 → EReal} {s d : Fin 128 → EReal} (B : Band r S D s d) (c : EReal) (l : Fin 128)
include B

theorem mx_eq : mx S c = mx s c := by
  refine congrArg (max · c) (le_antisymm (α := EReal) ?_ ?_)
  · refine Finset.sup_le (f := S) fun t _ => ?_
    rcases lo_or_hi t with ⟨l, rfl⟩ | ⟨l, rfl⟩ <;> by_cases h : l ≤ r
    · rw [(B.own l h).2.2]; exact bot_le
    · rw [(B.past l h).1]; exact Finset.le_sup (f := s) (Finset.mem_univ l)
    · rw [(B.own l h).1]; exact Finset.le_sup (f := s) (Finset.mem_univ l)
    · rw [(B.past l h).2.2]; exact bot_le
  · refine Finset.sup_le (f := s) fun l _ => ?_
    by_cases h : l ≤ r
    · rw [← (B.own l h).1]; exact Finset.le_sup (f := S) (Finset.mem_univ (hi l))
    · rw [← (B.past l h).1]; exact Finset.le_sup (f := S) (Finset.mem_univ (lo l))

theorem exs_eq : exs S c = exs s c := by rw [exs, exs, B.mx_eq]

theorem ex_hi (h : l ≤ r) : ex S c (hi l) = ex s c l := by rw [ex, ex, B.mx_eq, (B.own l h).1]
theorem ex_lo (h : ¬ l ≤ r) : ex S c (lo l) = ex s c l := by rw [ex, ex, B.mx_eq, (B.past l h).1]
theorem ex_lo' (h : l ≤ r) : ex S c (lo l) = 0 := ex_bot S c _ (B.own l h).2.2
theorem ex_hi' (h : ¬ l ≤ r) : ex S c (hi l) = 0 := ex_bot S c _ (B.past l h).2.2

theorem den_eq : den S c = den s c := by
  rw [den, den, B.exs_eq, sum_band r (ex S c) (ex s c) (fun l h => ⟨B.ex_hi c l h, B.ex_lo' c l h⟩) (fun l h => ⟨B.ex_lo c l h, B.ex_hi' c l h⟩)]

theorem dden_eq : dden S c D = dden s c d := by
  rw [dden, dden, B.den_eq, sum_band r _ (fun l => d l * Ideal.div 1 (den s c * den s c) * ex s c l)]
  · intro l h
    rw [B.ex_hi c l h, B.ex_lo' c l h, mul_zero, (B.own l h).2.1]
    exact ⟨rfl, rfl⟩
  · intro l h
    rw [B.ex_lo c l h, B.ex_hi' c l h, mul_zero]
    refine ⟨?_, rfl⟩
    rcases (B.past l h).2.1 with e | e
    · rw [e]
    · rw [ex_bot s c l e, mul_zero, mul_zero]

theorem dscore_hi (h : l ≤ r) : dscore S c D (hi l) = dscore s c d l := by
  rw [dscore, dscore, B.den_eq, B.dden_eq, B.ex_hi c l h, (B.own l h).2.1]

theorem dscore_lo (h : ¬ l ≤ r) : dscore S c D (lo l) = dscore s c d l := by
  rw [dscore, dscore, B.den_eq, B.dden_eq, B.ex_lo c l h]
  rcases (B.past l h).2.1 with e | e
  · rw [e]
  · rw [ex_bot s c l e, mul_zero, mul_zero]

theorem prob_hi (hd : den s c ≠ 0) : prob S c (hi l) = if l ≤ r then prob s c l else 0 := by
  rw [prob, prob, B.den_eq]
  split
  · next h => rw [B.ex_hi c l h]
  · next h => rw [B.ex_hi' c l h, Ideal.div, if_neg hd, zero_mul]

theorem prob_lo (hd : den s c ≠ 0) : prob S c (lo l) = if l ≤ r then 0 else prob s c l := by
  rw [prob, prob, B.den_eq]
  split
  · next h => rw [B.ex_lo' c l h, Ideal.div, if_neg hd, zero_mul]
  · next h => rw [B.ex_lo c l h]

end Band

/-! ## With finite scores the derivative by the largest score is zero -/

/-- A finite number. -/
def IsReal (x : EReal) : Prop := ∃ a : ℝ, x = a

section
variable {n : ℕ} {s : Fin n → EReal} {c : EReal} {d : Fin n → EReal} (hs : ∀ l, s l = ⊥ ∨ IsReal (s l)) (hc : IsReal c)

theorem coe_sum {ι : Type} (t : Finset ι) (g : ι → ℝ) : ((∑ i ∈ t, g i : ℝ) : EReal) = ∑ i ∈ t, (g i : EReal) :=
  map_sum (⟨⟨Real.toEReal, EReal.coe_zero⟩, EReal.coe_add⟩ : ℝ →+ EReal) g t

theorem fin_sum {ι : Type} (t : Finset ι) (f : ι → EReal) (h : ∀ i, IsReal (f i)) : IsReal (∑ i ∈ t, f i) := by
  choose g hg using h
  exact ⟨∑ i ∈ t, g i, by simp only [hg, coe_sum]⟩

theorem fin_mul {x y : EReal} (hx : IsReal x) (hy : IsReal y) : IsReal (x * y) := by
  obtain ⟨a, rfl⟩ := hx
  obtain ⟨b, rfl⟩ := hy
  exact ⟨a * b, by push_cast; rfl⟩

include hs hc in
theorem mx_fin : IsReal (mx s c) := by
  obtain ⟨c, rfl⟩ := hc
  have top : mx s c ≠ ⊤ := by
    refine (max_lt (α := EReal) ((Finset.sup_lt_iff (bot_lt_top (α := EReal)) (f := s)).mpr fun l _ => ?_) (EReal.coe_lt_top c)).ne
    rcases hs l with h | ⟨a, h⟩ <;> rw [h]
    · exact bot_lt_top
    · exact EReal.coe_lt_top a
  have bot : mx s c ≠ ⊥ := (lt_of_lt_of_le (EReal.bot_lt_coe c) (le_max_right _ _)).ne'
  exact ⟨(mx s c).toReal, (EReal.coe_toReal top bot).symm⟩

include hs hc in
theorem ex_real : ∃ e : Fin n → ℝ, (∀ l, 0 ≤ e l) ∧ ∀ l, ex s c l = e l := by
  obtain ⟨m, hm⟩ := mx_fin hs hc
  have h : ∀ l, ∃ e : ℝ, 0 ≤ e ∧ ex s c l = e := fun l => by
    rcases hs l with h | ⟨a, h⟩
    · exact ⟨0, le_refl 0, by rw [ex_bot s c l h]; rfl⟩
    · exact ⟨Real.exp (a - m), (Real.exp_pos _).le, by rw [ex, hm, h, ← EReal.coe_sub]; rfl⟩
  choose e he using h
  exact ⟨e, fun l => (he l).1, fun l => (he l).2⟩

include hs hc in
theorem exs_real : ∃ e : ℝ, 0 < e ∧ exs s c = e := by
  obtain ⟨m, hm⟩ := mx_fin hs hc
  obtain ⟨c, rfl⟩ := hc
  exact ⟨Real.exp (c - m), Real.exp_pos _, by rw [exs, hm, ← EReal.coe_sub]; rfl⟩

include hs hc in
theorem den_ne : den s c ≠ 0 := by
  obtain ⟨e, h0, he⟩ := ex_real hs hc
  obtain ⟨a, ha, hae⟩ := exs_real hs hc
  have hsum : den s c = ((∑ l, e l + a : ℝ) : EReal) := by
    simp only [den, he, hae, EReal.coe_add, coe_sum]
  rw [hsum]
  exact_mod_cast (add_pos_of_nonneg_of_pos (Finset.sum_nonneg fun l _ => h0 l) ha).ne'

include hs hc in
/-- What the maximum passes back sums to nothing. -/
theorem dmx_zero (hd : ∀ l, IsReal (d l)) : -(dden s c d * exs s c) + ∑ l, -(dscore s c d l) = 0 := by
  obtain ⟨e, h0, he⟩ := ex_real hs hc
  obtain ⟨a, ha, hae⟩ := exs_real hs hc
  choose x hx using hd
  have hsum : den s c = ((∑ l, e l + a : ℝ) : EReal) := by
    simp only [den, he, hae, EReal.coe_add, coe_sum]
  have hpos : (∑ l, e l + a) ≠ 0 := (add_pos_of_nonneg_of_pos (Finset.sum_nonneg fun l _ => h0 l) ha).ne'
  generalize hD : (∑ l, e l + a) = D at hsum hpos
  have hdd : dden s c d = ((-∑ l, x l * (1 / (D * D)) * e l : ℝ) : EReal) := by
    simp only [dden, hsum, he, hx]
    rw [← EReal.coe_mul, Ideal.div_coe (mul_ne_zero hpos hpos)]
    simp only [one_mul, EReal.coe_neg, coe_sum, EReal.coe_mul]
  generalize hK : ∑ l, x l * (1 / (D * D)) * e l = K at hdd
  have hds : ∀ l, dscore s c d l = (((x l * (1 / D) + -K) * e l : ℝ) : EReal) := fun l => by
    simp only [dscore, hdd, hsum, he, hx]
    rw [Ideal.div_coe hpos]
    simp only [EReal.coe_mul, EReal.coe_add]
  simp only [hds, hdd, hae, ← EReal.coe_neg, ← EReal.coe_mul, ← coe_sum, ← EReal.coe_add]
  have e1 : K = (∑ l, x l * e l) / (D * D) := by
    rw [← hK, Finset.sum_div]
    exact Finset.sum_congr rfl fun l _ => by ring
  have e2 : ∑ l, -((x l * (1 / D) + -K) * e l) = -((∑ l, x l * e l) / D) + K * ∑ l, e l := by
    rw [Finset.sum_div, Finset.mul_sum, ← Finset.sum_neg_distrib, ← Finset.sum_add_distrib]
    exact Finset.sum_congr rfl fun l _ => by ring
  have e3 : ∑ l, e l = D - a := by rw [← hD]; ring
  have key : -(-K * a) + ∑ l, -((x l * (1 / D) + -K) * e l) = 0 := by
    rw [e2, e3, e1]
    field_simp
    ring
  rw [key, EReal.coe_zero]

end

/-! ## The heads, from the arrays -/

/-- Row `r` of block `n`. -/
def rw4 (n : Fin 32) (r : Fin 128) : Fin 4096 := ⟨128 * n.val + r.val, by omega⟩

/-- The block before; the first block's is itself. -/
def before (n : Fin 32) : Fin 32 := ⟨n.val - 1, by omega⟩

/-- What head `g` of key head `j` reads in block `n`. -/
def headOf (A : (⟨2, ![4096, 1280]⟩ : Shape).Idx → EReal) (s : (⟨2, ![1, 128]⟩ : Shape).Idx → EReal) (o : (⟨2, ![4096, 1024]⟩ : Shape).Idx → EReal)
    (n : Fin 32) (g : Fin 8) (j : Fin 2) : Head where
  first := n.val = 0
  q r d := A (ix2 (rw4 n r) ⟨512 * j.val + 64 * g.val + d.val, by omega⟩)
  o r d := o (ix2 (rw4 n r) ⟨512 * j.val + 64 * g.val + d.val, by omega⟩)
  kc l d := A (ix2 (rw4 n l) ⟨1024 + (64 * j.val + d.val), by omega⟩)
  kp l d := A (ix2 (rw4 (before n) l) ⟨1024 + (64 * j.val + d.val), by omega⟩)
  vc l d := A (ix2 (rw4 n l) ⟨1152 + (64 * j.val + d.val), by omega⟩)
  vp l d := A (ix2 (rw4 (before n) l) ⟨1152 + (64 * j.val + d.val), by omega⟩)
  c := s (ix2 0 ⟨8 * j.val + g.val, by omega⟩)

theorem at2 {a b : ℕ} (f : (⟨2, ![a, b]⟩ : Shape).Idx → EReal) {x x' : Fin a} {y y' : Fin b} (h0 : x.val = x'.val) (h1 : y.val = y'.val) :
    f (ix2 x y) = f (ix2 x' y') := by
  rw [Fin.ext h0, Fin.ext h1]

end Cert.Att

end
-- ==== Proof.Attention.Ref.lean ====
module

public import proofs.«01_k».proof.Proof.Attention.Band
public import proofs.«01_k».proof.Proof.Gen.ReferenceIdeal.Read

@[expose] public section

noncomputable section

open Idealize.ShloMosaic

namespace Cert.ReferenceIdeal.Att

open Cert.Att Cert.ReferenceIdeal.Read Cert.ReferenceIdeal Cert.ReferenceIdeal.Gen Idealize.ShloMosaic Idealize.ShloMosaic.TcCoe Idealize.SL.Sem

variable (A : FVec Ideal S4096x1280 .f32) (s : FVec Ideal S1x128 .f32) (o : FVec Ideal S4096x1024 .bf16)
variable (n : Fin 32) (j : Fin 2) (g : Fin 8) (r : Fin 128) (t : Fin 256) (d : Fin 64)

theorem toInt_small (x : ℤ) (h0 : -2 ^ 31 ≤ x) (h1 : x < 2 ^ 31) : (BitVec.ofInt 32 x).toInt = x := by
  rw [BitVec.toInt_ofInt]
  exact Int.bmod_eq_of_le (by omega) (by omega)

theorem int_sge (x y : ℤ) (hx : -2 ^ 31 ≤ x ∧ x < 2 ^ 31) (hy : -2 ^ 31 ≤ y ∧ y < 2 ^ 31) :
    IntOp.cmpi .sge (BitVec.ofInt 32 x) (BitVec.ofInt 32 y) = BitVec.ofBool (decide (y ≤ x)) := by
  show BitVec.ofBool ((BitVec.ofInt 32 y).sle (BitVec.ofInt 32 x)) = _
  rw [BitVec.sle_eq_decide, toInt_small x hx.1 hx.2, toInt_small y hy.1 hy.2]

theorem int_slt (x y : ℤ) (hx : -2 ^ 31 ≤ x ∧ x < 2 ^ 31) (hy : -2 ^ 31 ≤ y ∧ y < 2 ^ 31) :
    IntOp.cmpi .slt (BitVec.ofInt 32 x) (BitVec.ofInt 32 y) = BitVec.ofBool (decide (x < y)) := by
  show BitVec.ofBool ((BitVec.ofInt 32 x).slt (BitVec.ofInt 32 y)) = _
  rw [BitVec.slt_eq_decide, toInt_small x hx.1 hx.2, toInt_small y hy.1 hy.2]

theorem mask_apply : val_main_v40 (F := Ideal) (ix3 n r t) = BitVec.ofBool (decide (t.val ≤ r.val + 128 ∧ r.val < t.val ∧ 128 ≤ 128 * n.val + t.val)) := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_c, val_main_c_0, val_main_c_1, val_main_c_2, val_main_c_3, val_main_c_4]
  have c0 : (0#32) = BitVec.ofInt 32 0 := rfl
  have c1 : (128#32) = BitVec.ofInt 32 128 := rfl
  simp only [IntOp.addi, IntOp.subi, IntOp.muli, c0, c1, BitVec.sub_eq_add_neg, ← BitVec.ofInt_natCast, ← BitVec.ofInt_mul, ← BitVec.ofInt_neg, ← BitVec.ofInt_add]
  rw [int_sge _ _ (by omega) (by omega), int_slt _ _ (by omega) (by omega), int_sge _ _ (by omega) (by omega)]
  simp only [IntOp.andi, BitVec.ofBool_and_ofBool, ← Bool.decide_and]
  refine congrArg BitVec.ofBool (decide_eq_decide.mpr ?_)
  omega

variable (l : Fin 128)
theorem kband_hi : val_main_v51 (F := Ideal) A (ix4 n (hi l) j d) = (headOf A s o n g j).kc l d := by
  pointwise [val_main_v51, val_main_v50, val_main_v49, val_main_v44, val_main_v42, val_main_v41, val_main_v4, val_main_v1, val_main_cst]
  have h : (hi l).val = 128 + l.val := rfl
  rw [dif_neg (by omega), dif_neg (by omega)]
  exact at2 A (by simp only [rw4]; omega) (by simp only []; omega)

theorem kband_lo : val_main_v51 (F := Ideal) A (ix4 n (lo l) j d) = if n.val = 0 then 0 else (headOf A s o n g j).kp l d := by
  pointwise [val_main_v51, val_main_v50, val_main_v49, val_main_v44, val_main_v42, val_main_v41, val_main_v4, val_main_v1, val_main_cst]
  have h : (lo l).val = l.val := rfl
  rw [dif_pos (by omega)]
  by_cases h0 : n.val = 0
  · rw [dif_pos (by omega), if_pos h0]
  · rw [dif_neg (by omega), if_neg h0]
    exact at2 A (by simp only [rw4, before]; omega) (by simp only []; omega)

theorem vband_hi : val_main_v54 (F := Ideal) A (ix4 n (hi l) j d) = (headOf A s o n g j).vc l d := by
  pointwise [val_main_v54, val_main_v53, val_main_v52, val_main_v48, val_main_v46, val_main_v45, val_main_v5, val_main_v2, val_main_cst_6]
  have h : (hi l).val = 128 + l.val := rfl
  rw [dif_neg (by omega), dif_neg (by omega)]
  exact at2 A (by simp only [rw4]; omega) (by simp only []; omega)

theorem vband_lo : val_main_v54 (F := Ideal) A (ix4 n (lo l) j d) = if n.val = 0 then 0 else (headOf A s o n g j).vp l d := by
  pointwise [val_main_v54, val_main_v53, val_main_v52, val_main_v48, val_main_v46, val_main_v45, val_main_v5, val_main_v2, val_main_cst_6]
  have h : (lo l).val = l.val := rfl
  rw [dif_pos (by omega)]
  by_cases h0 : n.val = 0
  · rw [dif_pos (by omega), if_pos h0]
  · rw [dif_neg (by omega), if_neg h0]
    exact at2 A (by simp only [rw4, before]; omega) (by simp only []; omega)

theorem q_apply : val_main_v8 (F := Ideal) A (ix5 n r j g d) = (headOf A s o n g j).q r d := by
  pointwise [val_main_v8, val_main_v3, val_main_v0]
  exact at2 A (by simp only [rw4]; omega) (by simp only []; omega)

theorem o_apply : val_main_v109 (F := Ideal) o (ix5 n j d g r) = (headOf A s o n g j).o r d := by
  pointwise [val_main_v109, val_main_v108, val_main_v107]
  exact at2 o (by simp only [rw4]; omega) (by simp only []; omega)

theorem c_apply (n' : Fin 32) : val_main_v62 (F := Ideal) s (ix5 0 j g 0 0) = (headOf A s o n g j).c := by
  pointwise [val_main_v62, val_main_v61, val_main_v7, val_main_v6]
  exact at2 s rfl (by simp only []; omega)

/-- The masked scores and the gradients of the probabilities, over both blocks. -/
def S : Fin 256 → EReal := fun t => val_main_v60_0 (F := Ideal) A (ix5 n j g r t)
def D : Fin 256 → EReal := fun t => val_main_v110 (F := Ideal) A o (ix5 n j g r t)

theorem S_eq : S A n j g r t = if t.val ≤ r.val + 128 ∧ r.val < t.val ∧ 128 ≤ 128 * n.val + t.val then (∑ x, val_main_v51 (F := Ideal) A (ix4 n t j x) * val_main_v8 (F := Ideal) A (ix5 n r j g x)) * eighth else ⊥ := by
  unfold S
  pointwise [val_main_v60_0, val_main_v60_1, val_main_v59, val_main_v58, val_main_v57, val_main_v56, val_main_v55, val_main_cst_8, val_main_call0_v2, val_main_call0_v0, val_main_cst_9]
  rw [mask_apply, Scalar.select_ofBool]
  have e : (id (constant (F := Ideal) S_ FTy.f32 4286578688#32) ix0 : EReal) = ⊥ := neg_inf
  rw [e]
  simp only [decide_eq_true_eq]
  rfl

theorem D_eq : D A o n j g r t = ∑ x, val_main_v109 (F := Ideal) o (ix5 n j x g r) * val_main_v54 (F := Ideal) A (ix4 n t j x) := by
  unfold D
  pointwise [val_main_v110]

open Classical in
theorem band : Band r (S A n j g r) (D A o n j g r) ((headOf A s o n g j).s r) ((headOf A s o n g j).dp r) where
  own l h := by
    have h' : l.val ≤ r.val := h
    have eh : (hi l).val = 128 + l.val := rfl
    have el : (lo l).val = l.val := rfl
    refine ⟨?_, ?_, ?_⟩
    · rw [S_eq, if_pos (by omega), Head.s, if_pos h]
      simp only [kband_hi A s o n j g, q_apply A s o]
      simp only [mul_comm (Head.kc _ _ _)]
    · rw [D_eq, Head.dp, if_pos h]
      simp only [vband_hi A s o n j g, o_apply A s o]
    · rw [S_eq, if_neg (by omega)]
  past l h := by
    have h' : ¬ l.val ≤ r.val := h
    have eh : (hi l).val = 128 + l.val := rfl
    have el : (lo l).val = l.val := rfl
    by_cases h0 : n.val = 0
    · have e : (headOf A s o n g j).s r l = ⊥ := by
        rw [Head.s, if_neg h, if_pos (show (headOf A s o n g j).first from h0)]
      refine ⟨?_, .inr e, ?_⟩
      · rw [S_eq, if_neg (by omega), e]
      · rw [S_eq, if_neg (by omega)]
    · refine ⟨?_, .inl ?_, ?_⟩
      · rw [S_eq, if_pos (by omega), Head.s, if_neg h, if_neg (show ¬ (headOf A s o n g j).first from h0)]
        simp only [kband_lo A s o n j g, q_apply A s o, if_neg h0]
        simp only [mul_comm (Head.kp _ _ _)]
      · rw [D_eq, Head.dp, if_neg h]
        simp only [vband_lo A s o n j g, o_apply A s o, if_neg h0]
      · rw [S_eq, if_neg (by omega)]

/-! ## The forward pass and the derivatives, by row -/

theorem fold_sup (f : Fin 256 → EReal) : Finset.univ.fold max ⊥ f = Finset.univ.sup f := rfl

theorem fold_apply : val_main_v63 (F := Ideal) A (ix4 n j g r) = Finset.univ.fold max ⊥ (S A n j g r) := by
  pointwise [val_main_v63, val_main_cst_10]
  rw [neg_inf]
  rfl

theorem top_apply : val_main_v63 (F := Ideal) A (ix4 n j g r) = Finset.univ.sup (S A n j g r) := (fold_apply A n j g r).trans (fold_sup _)

theorem max_apply' (y : FVec Ideal S32x2x8x128 .f32) (w : FVec Ideal S1x2x8x1x1 .f32) :
    (maximumf (F := Ideal) (broadcastInDim S32x2x8x128x1 ![0, 1, 2, 3] bcast_S32x2x8x128_S32x2x8x128x1_0_1_2_3 y)
      (broadcastInDim S32x2x8x128x1 ![0, 1, 2, 3, 4] bcast_S1x2x8x1x1_S32x2x8x128x1_0_1_2_3_4 w) (ix5 n j g r 0) : EReal) = max (y (ix4 n j g r)) (w (ix5 0 j g 0 0)) := by
  pointwise []

theorem max_apply : val_main_v71 (F := Ideal) A s (ix5 n j g r 0) = max (val_main_v63 (F := Ideal) A (ix4 n j g r)) (val_main_v62 (F := Ideal) s (ix5 0 j g 0 0)) := by
  unfold val_main_v71 val_main_v70 val_main_v69
  exact max_apply' n j g r _ _

theorem m_apply : val_main_v71 (F := Ideal) A s (ix5 n j g r 0) = mx (S A n j g r) (headOf A s o n g j).c := by
  rw [max_apply, fold_apply, c_apply A s o n j g n, mx]

theorem e_apply : val_main_v92 (F := Ideal) A s (ix5 n j g r t) = ex (S A n j g r) (headOf A s o n g j).c t := by
  pointwise [val_main_v92, val_main_v91, val_main_v90]
  rw [m_apply A s o]
  rfl

theorem es_apply : val_main_v97 (F := Ideal) A s (ix5 n j g r 0) = exs (S A n j g r) (headOf A s o n g j).c := by
  pointwise [val_main_v97, val_main_v96, val_main_v95]
  rw [m_apply A s o, c_apply A s o n j g n]
  rfl

theorem den_apply : val_main_v98 (F := Ideal) A s (ix5 n j g r 0) = den (S A n j g r) (headOf A s o n g j).c := by
  pointwise [val_main_v98, val_main_v94, val_main_v93, val_main_cst_18]
  simp only [e_apply A s o, es_apply A s o]
  rfl

theorem p_apply : val_main_v100 (F := Ideal) A s (ix5 n j g r t) = prob (S A n j g r) (headOf A s o n g j).c t := by
  pointwise [val_main_v100, val_main_v99]
  rw [e_apply A s o, den_apply A s o]
  rfl

theorem dden_apply : val_main_v118 (F := Ideal) A s o (ix5 n j g r 0) = dden (S A n j g r) (headOf A s o n g j).c (D A o n j g r) := by
  pointwise [val_main_v118, val_main_v117, val_main_v116, val_main_v115, val_main_v114, val_main_v113, val_main_v103, val_main_v102, val_main_v101, val_main_cst_19, val_main_cst_20]
  simp only [e_apply A s o, den_apply A s o]
  rfl

theorem ds_apply : val_main_v128 (F := Ideal) A s o (ix5 n j g r t) = dscore (S A n j g r) (headOf A s o n g j).c (D A o n j g r) t := by
  pointwise [val_main_v128, val_main_v127, val_main_v126, val_main_v125, val_main_v120, val_main_v119, val_main_cst_22]
  simp only [e_apply A s o, den_apply A s o]
  rw [Fin.sum_univ_one, dden_apply A s o]
  rfl

theorem dm_apply : val_main_v132 (F := Ideal) A s o (ix5 n j g r 0) =
    -(dden (S A n j g r) (headOf A s o n g j).c (D A o n j g r) * exs (S A n j g r) (headOf A s o n g j).c) + ∑ t, -(dscore (S A n j g r) (headOf A s o n g j).c (D A o n j g r) t) := by
  pointwise [val_main_v132, val_main_v131, val_main_v130, val_main_v129, val_main_v124, val_main_v121, val_main_cst_23]
  simp only [ds_apply A s o, dden_apply A s o, es_apply A s o]

theorem one_word (p : Prop) [Decidable p] : (FloatOps.uitofp (F := Ideal) FTy.f32 (BitVec.ofBool (decide p)) : EReal) = if p then 1 else 0 := by
  by_cases h : p <;> simp [h, FloatOps.uitofp]

theorem tie_apply : val_main_v67 (F := Ideal) A (ix5 n j g r t) = if S A n j g r t = Finset.univ.sup (S A n j g r) then (1 : EReal) else 0 := by
  pointwise [val_main_v67, val_main_v66, val_main_v65, val_main_v64]
  rw [top_apply]
  exact one_word _

/-- Some score is the largest. -/
theorem ties_ne : val_main_v68 (F := Ideal) A (ix4 n j g r) ≠ (0 : EReal) := by
  have e : val_main_v68 (F := Ideal) A (ix4 n j g r) = ∑ t, (if S A n j g r t = Finset.univ.sup (S A n j g r) then (1 : EReal) else 0) := by
    pointwise [val_main_v68, val_main_cst_11]
    simp only [tie_apply]
  rw [e]
  obtain ⟨t, -, ht⟩ := Finset.exists_mem_eq_sup Finset.univ ⟨0, Finset.mem_univ _⟩ (S A n j g r)
  have h1 : (if S A n j g r t = Finset.univ.sup (S A n j g r) then (1 : EReal) else 0) = 1 := if_pos ht.symm
  have h2 := Finset.single_le_sum (f := fun t => if S A n j g r t = Finset.univ.sup (S A n j g r) then (1 : EReal) else 0) (s := Finset.univ)
    (fun i _ => by split <;> simp) (Finset.mem_univ t)
  rw [h1] at h2
  exact (lt_of_lt_of_le zero_lt_one h2).ne'

end Cert.ReferenceIdeal.Att

end
-- ==== Proof.Attention.Grads.lean ====
/- The derivatives of the reference attention with finite arrays: the gradient through the maximum vanishes, and the others are those of the sixteen heads. -/
module

public import proofs.«01_k».proof.Proof.Attention.Ref

@[expose] public section

noncomputable section

open Idealize.ShloMosaic

namespace Cert.ReferenceIdeal.Att

open Cert.Att Cert.ReferenceIdeal.Read Cert.ReferenceIdeal Cert.ReferenceIdeal.Gen Idealize.ShloMosaic Idealize.ShloMosaic.TcCoe Idealize.SL.Sem

variable (A : FVec Ideal S4096x1280 .f32) (s : FVec Ideal S1x128 .f32) (o : FVec Ideal S4096x1024 .bf16)
variable (n : Fin 32) (j : Fin 2) (g : Fin 8) (r : Fin 128) (t : Fin 256) (d : Fin 64) (l : Fin 128)

/-! ## With finite arrays -/

theorem eighth_fin : IsReal eighth := ⟨1 / 8, by unfold eighth; simp [Ideal.ofBits, Ideal.ieee, -EReal.coe_mul]; norm_num⟩

variable (hA : ∀ i, IsReal (A i)) (hs : ∀ i, IsReal (s i)) (ho : ∀ i, IsReal (o i))

include hA in
theorem kv_fin : IsReal (val_main_v51 (F := Ideal) A (ix4 n t j d)) ∧ IsReal (val_main_v54 (F := Ideal) A (ix4 n t j d)) := by
  rcases lo_or_hi t with ⟨l, rfl⟩ | ⟨l, rfl⟩
  · rw [kband_lo A (fun _ => 0) (fun _ => 0) n j 0, vband_lo A (fun _ => 0) (fun _ => 0) n j 0]
    split
    · exact ⟨⟨0, rfl⟩, ⟨0, rfl⟩⟩
    · exact ⟨hA _, hA _⟩
  · rw [kband_hi A (fun _ => 0) (fun _ => 0) n j 0, vband_hi A (fun _ => 0) (fun _ => 0) n j 0]
    exact ⟨hA _, hA _⟩

include hA in
theorem S_fin : S A n j g r t = ⊥ ∨ IsReal (S A n j g r t) := by
  rw [S_eq]
  split
  · refine .inr (fin_mul (fin_sum _ _ fun x => fin_mul (kv_fin A n j t x hA).1 ?_) eighth_fin)
    rw [q_apply A (fun _ => 0) (fun _ => 0)]
    exact hA _
  · exact .inl rfl

include hA ho in
theorem D_fin : IsReal (D A o n j g r t) := by
  rw [D_eq]
  refine fin_sum _ _ fun x => fin_mul ?_ (kv_fin A n j t x hA).2
  rw [o_apply A (fun _ => 0) o]
  exact ho _

include hA hs ho
theorem dm_zero : val_main_v132 (F := Ideal) A s o (ix5 n j g r 0) = (0 : EReal) := by
  rw [dm_apply]
  exact dmx_zero (fun t => S_fin A n j g r t hA) (hs _) (fun t => D_fin A o n j g r t hA ho)

theorem den_ne' : den ((headOf A s o n g j).s r) (headOf A s o n g j).c ≠ 0 := by
  rw [← (band A s o n j g r).den_eq]
  exact den_ne (fun t => S_fin A n j g r t hA) (hs _)

omit hA hs ho in
theorem sum_unit (y : FVec Ideal S32x2x8x128x1 .f32) :
    (Host.reduceAdd (F := Ideal) y (val_main_cst_25 (F := Ideal)) reducesTo_S32x2x8x128x1_S32x2x8x128_d4 h_S_ (ix4 n j g r) : EReal) = ∑ x, y (ix5 n j g r x) := by
  pointwise [val_main_cst_25]

theorem spread_zero : val_main_v139 (F := Ideal) A s o (ix4 n j g r) = (0 : EReal) := by
  have e : val_main_v138 (F := Ideal) A s o (ix4 n j g r) = (0 : EReal) := by
    unfold val_main_v138
    refine (sum_unit n j g r _).trans (Finset.sum_eq_zero fun x _ => ?_)
    rw [Subsingleton.elim x 0, val_main_v137_apply, dm_zero A s o n j g r hA hs ho]
    exact zero_mul _
  rw [val_main_v139_apply, e]
  generalize hy : val_main_v68 (F := Ideal) A (ix4 n j g r) = y
  have hn : (y : EReal) ≠ 0 := fun h => ties_ne A n j g r (hy.trans h)
  show Ideal.div 0 y = 0
  rw [Ideal.div, if_neg hn, zero_mul]

/-- The gradient of the masked scores. -/
theorem dS_apply : val_main_v145 (F := Ideal) A s o (ix5 n j g r t) =
    if t.val ≤ r.val + 128 ∧ r.val < t.val ∧ 128 ≤ 128 * n.val + t.val then dscore (S A n j g r) (headOf A s o n g j).c (D A o n j g r) t else (0 : EReal) := by
  pointwise [val_main_v145, val_main_v142, val_main_v141, val_main_v140, val_main_v60_1, val_main_v59, val_main_call1_v0, val_main_call1_cst]
  rw [mask_apply, Scalar.select_ofBool, spread_zero A s o n j g r hA hs ho, ds_apply]
  simp only [zero_mul, add_zero, decide_eq_true_eq]

open Classical in
theorem dS_hi : val_main_v147 (F := Ideal) A s o (ix5 n j g r (hi l)) = (headOf A s o n g j).dsc r l := by
  have eh : (hi l).val = 128 + l.val := rfl
  pointwise [val_main_v147, val_main_v146, val_main_cst_27]
  rw [dS_apply A s o n j g r _ hA hs ho, Head.dsc, Head.ds]
  refine congrArg (· * eighth) ?_
  by_cases h : l ≤ r
  · have h' : l.val ≤ r.val := h
    rw [if_pos h, if_pos (by omega), (band A s o n j g r).dscore_hi _ _ h]
  · have h' : ¬ l.val ≤ r.val := h
    rw [if_neg h, if_neg (by omega)]

open Classical in
theorem dS_lo : val_main_v147 (F := Ideal) A s o (ix5 n j g r (lo l)) = (headOf A s o n g j).dsp r l := by
  have eh : (lo l).val = l.val := rfl
  pointwise [val_main_v147, val_main_v146, val_main_cst_27]
  rw [dS_apply A s o n j g r _ hA hs ho, Head.dsp, Head.ds]
  refine congrArg (· * eighth) ?_
  by_cases h0 : n.val = 0
  · rw [if_pos (show (headOf A s o n g j).first from h0), if_neg (by omega)]
  · rw [if_neg (show ¬ (headOf A s o n g j).first from h0)]
    by_cases h : l ≤ r
    · have h' : l.val ≤ r.val := h
      rw [if_pos h, if_neg (by omega)]
    · have h' : ¬ l.val ≤ r.val := h
      rw [if_neg h, if_pos (by omega), (band A s o n j g r).dscore_lo _ _ h]

/-! ## The gradients, by block and head -/

open Classical in
theorem dq_apply : val_main_v149 (F := Ideal) A s o (ix5 n j r g d) = (headOf A s o n g j).dq r d := by
  pointwise [val_main_v149, val_main_v148]
  rw [sum_two, Head.dq]
  congr 1
  · refine Finset.sum_congr rfl fun l _ => ?_
    rw [dS_lo A s o n j g r l hA hs ho, kband_lo A s o n j g]
    split
    · next h => rw [Head.dsp, if_pos (show (headOf A s o n g j).first from h), zero_mul, zero_mul, zero_mul]
    · rfl
  · refine Finset.sum_congr rfl fun l _ => ?_
    rw [dS_hi A s o n j g r l hA hs ho, kband_hi A s o n j g]

theorem dk_hi : val_main_v151 (F := Ideal) A s o (ix4 n j (hi l) d) = ∑ g, (headOf A s o n g j).dkc l d := by
  pointwise [val_main_v151, val_main_v148]
  simp only [dS_hi A s o n j _ _ l hA hs ho, q_apply A s o]
  exact Finset.sum_comm

theorem dk_lo : val_main_v151 (F := Ideal) A s o (ix4 n j (lo l) d) = ∑ g, (headOf A s o n g j).dkp l d := by
  pointwise [val_main_v151, val_main_v148]
  simp only [dS_lo A s o n j _ _ l hA hs ho, q_apply A s o]
  exact Finset.sum_comm

theorem dv_hi : val_main_v111 (F := Ideal) A s o (ix4 n j d (hi l)) = ∑ g, (headOf A s o n g j).dvc l d := by
  pointwise [val_main_v111]
  simp only [p_apply A s o, (band A s o n j _ _).prob_hi _ l (den_ne' A s o n j _ _ hA hs ho), o_apply A s o]
  rfl

theorem dv_lo : val_main_v111 (F := Ideal) A s o (ix4 n j d (lo l)) = ∑ g, (headOf A s o n g j).dvp l d := by
  pointwise [val_main_v111]
  simp only [p_apply A s o, (band A s o n j _ _).prob_lo _ l (den_ne' A s o n j _ _ hA hs ho), o_apply A s o]
  rfl

/-! ## The sinks -/

omit hA hs ho

theorem sum_blocks (v : S32x2x8x128x1.Idx → EReal) (c : EReal) :
    Ideal.hostReduceAdd reducesTo_S32x2x8x128x1_S2x8x1_d0_3 v c (ix3 j g 0) = c + ∑ n, ∑ r, v (ix5 n j g r 0) := by
  refine congrArg (c + ·) ((Finset.sum_filter_eq_sum_of_fiber _ (fun k : Fin 32 × Fin 128 => (ix5 k.1 j g k.2 (0 : Fin 1) : S32x2x8x128x1.Idx))
    (fun _ _ e => Prod.ext (congrFun e 0) (congrFun e 3)) (fun i => ⟨?_, ?_⟩) v).trans (Fintype.sum_prod_type _))
  · intro e
    refine ⟨(i 0, i 3), ?_⟩
    funext a
    apply Fin.ext
    match a with
    | ⟨0, _⟩ => rfl
    | ⟨1, _⟩ => exact (congrArg Fin.val (congrFun e ⟨0, by decide⟩)).symm
    | ⟨2, _⟩ => exact (congrArg Fin.val (congrFun e ⟨1, by decide⟩)).symm
    | ⟨3, _⟩ => rfl
    | ⟨4, _⟩ => exact (congrArg Fin.val (congrFun e ⟨2, by decide⟩)).symm
  · rintro ⟨k, rfl⟩
    funext b
    apply Fin.ext
    match b with
    | ⟨0, _⟩ => rfl
    | ⟨1, _⟩ => rfl
    | ⟨2, _⟩ => rfl

theorem sum_units (v : S1x2x8x1x1.Idx → EReal) (c : EReal) :
    Ideal.hostReduceAdd reducesTo_S1x2x8x1x1_S2x8_d0_3_4 v c (ix2 j g) = c + v (ix5 0 j g 0 0) := by
  refine congrArg (c + ·) ((Finset.sum_filter_eq_sum_of_fiber _ (fun _ : Unit => (ix5 (0 : Fin 1) j g (0 : Fin 1) (0 : Fin 1) : S1x2x8x1x1.Idx))
    (fun _ _ _ => rfl) (fun i => ⟨?_, ?_⟩) v).trans (Fintype.sum_unique _))
  · intro e
    refine ⟨(), ?_⟩
    funext a
    apply Fin.ext
    match a with
    | ⟨0, h⟩ => exact congrArg Fin.val (Subsingleton.elim (0 : Fin 1) (i ⟨0, h⟩))
    | ⟨1, _⟩ => exact (congrArg Fin.val (congrFun e ⟨0, by decide⟩)).symm
    | ⟨2, _⟩ => exact (congrArg Fin.val (congrFun e ⟨1, by decide⟩)).symm
    | ⟨3, h⟩ => exact congrArg Fin.val (Subsingleton.elim (0 : Fin 1) (i ⟨3, h⟩))
    | ⟨4, h⟩ => exact congrArg Fin.val (Subsingleton.elim (0 : Fin 1) (i ⟨4, h⟩))
  · rintro ⟨k, rfl⟩
    funext b
    apply Fin.ext
    match b with
    | ⟨0, _⟩ => rfl
    | ⟨1, _⟩ => rfl

include hA hs ho

open Classical in
theorem dsink_apply : val_main_v143 (F := Ideal) A s o (ix2 j g) = ∑ n, (headOf A s o n g j).dsink := by
  have e1 : val_main_v122 (F := Ideal) A s o (ix3 j g 0) = ∑ n, (headOf A s o n g j).dsink := by
    pointwise [val_main_v122, val_main_cst_21]
    rw [sum_blocks, zero_add]
    refine Finset.sum_congr rfl fun n _ => Finset.sum_congr rfl fun r _ => ?_
    rw [val_main_v121_apply, dden_apply, es_apply A s o, (band A s o n j g r).dden_eq, (band A s o n j g r).exs_eq]
    rfl
  have e2 : val_main_v134 (F := Ideal) A s o (ix3 j g 0) = (0 : EReal) := by
    pointwise [val_main_v134, val_main_cst_24]
    rw [sum_blocks, zero_add]
    refine Finset.sum_eq_zero fun n _ => Finset.sum_eq_zero fun r _ => ?_
    rw [val_main_v133_apply, dm_zero A s o n j g r hA hs ho]
    exact zero_mul _
  pointwise [val_main_v143, val_main_cst_26]
  rw [sum_units]
  pointwise [val_main_v136, val_main_v135, val_main_v123]
  rw [e1, e2, add_zero]

/-! ## The gradients of the keys and values, of each block and the next -/

omit hA hs ho in
theorem shift_sum (y : FVec Ideal S32x256x2x64 .f32) (p : EReal) (f : Fin 32 → EReal) (hp : y (ix4 n (hi l) j d) = p) (hq : ∀ n, y (ix4 n (lo l) j d) = f n) :
    (addf (F := Ideal)
      (pad S33x128x2x64 ![1, 0, 0, 0] ![0, 0, 0, 0] ![0, 0, 0, 0] (extractStridedSlice S32x128x2x64 ![0, 128, 0, 0] y slices_S32x256x2x64_S32x128x2x64_0_128_0_0) (val_main_cst_28 (F := Ideal)) pads_S32x128x2x64_S33x128x2x64_100_000_000_000 h_S_)
      (pad S33x128x2x64 ![0, 0, 0, 0] ![1, 0, 0, 0] ![0, 0, 0, 0] (extractStridedSlice S32x128x2x64 ![0, 0, 0, 0] y slices_S32x256x2x64_S32x128x2x64_0_0_0_0) (val_main_cst_28 (F := Ideal)) pads_S32x128x2x64_S33x128x2x64_010_000_000_000 h_S_)
      (ix4 ⟨n.val + 1, by omega⟩ l j d) : EReal) = p + (if h : n.val + 1 < 32 then f ⟨n.val + 1, h⟩ else 0) := by
  pointwise [val_main_cst_28]
  simp only [← hq, ← hp, hi, lo, Nat.add_sub_cancel, n.isLt, dite_true]

theorem dk_apply : val_main_v162 (F := Ideal) A s o (ix4 ⟨n.val + 1, by omega⟩ l j d) =
    ∑ g, (headOf A s o n g j).dkc l d + (if h : n.val + 1 < 32 then ∑ g, (headOf A s o ⟨n.val + 1, h⟩ g j).dkp l d else 0) := by
  unfold val_main_v162 val_main_v161 val_main_v160 val_main_v159 val_main_v158
  refine shift_sum n j d l _ _ (fun n => ∑ g, (headOf A s o n g j).dkp l d) ?_ fun n => ?_
  · pointwise [val_main_v152]
    exact dk_hi A s o n j d l hA hs ho
  · pointwise [val_main_v152]
    exact dk_lo A s o n j d l hA hs ho

theorem dv_apply : val_main_v157 (F := Ideal) A s o (ix4 ⟨n.val + 1, by omega⟩ l j d) =
    ∑ g, (headOf A s o n g j).dvc l d + (if h : n.val + 1 < 32 then ∑ g, (headOf A s o ⟨n.val + 1, h⟩ g j).dvp l d else 0) := by
  unfold val_main_v157 val_main_v156 val_main_v155 val_main_v154 val_main_v153
  refine shift_sum n j d l _ _ (fun n => ∑ g, (headOf A s o n g j).dvp l d) ?_ fun n => ?_
  · pointwise [val_main_v112]
    exact dv_hi A s o n j d l hA hs ho
  · pointwise [val_main_v112]
    exact dv_lo A s o n j d l hA hs ho

end Cert.ReferenceIdeal.Att

end
-- ==== Proof.Attention.Stages.lean ====
/- The stages of one grid point of the attention's backward call, as functions of the blocks it loads: each is the
   printed operations of one head (or of one key head's eight query heads) with the head's number a parameter. -/
module

public import proofs.«01_k».proof.Proof.Gen.KernelIdeal.Value

@[expose] public section

set_option maxRecDepth 16384

noncomputable section

namespace Cert.KernelIdeal.Att

open Cert.KernelIdeal Cert.KernelIdeal.Gen Idealize.ShloMosaic Idealize.ShloMosaic.TcCoe Idealize.SL.Sem

variable {F : FTy → Type} [FloatOps F]

/-- A block of 128 rows and 128 lanes, the eight blocks of a key head's query heads, a column and a single number. -/
abbrev M (F : FTy → Type) := FVec F S128x128 .f32
abbrev M8 (F : FTy → Type) := FVec F S1024x128 .f32
abbrev Col (F : FTy → Type) := FVec F S128x1 .f32
abbrev Row (F : FTy → Type) := FVec F S1x128 .f32

/-- The zero block. -/
def zM : M F := broadcast S128x128 (Scalar.ofBits .f32 0x00000000#32)
def zM8 : M8 F := broadcast S1024x128 (Scalar.ofBits .f32 0x00000000#32)

def left : IVec S128x128 1 := k0_pay8
def own : IVec S128x128 1 := k0_pay9
def own8 : IVec S1024x128 1 := k0_pay10

/-- Eight blocks one above the other. -/
def cat8 {α : Type} (a b c d e f g h : S128x128.Idx → α) : S1024x128.Idx → α :=
  concatenate S1024x128 0 [⟨S128x128, a⟩, ⟨S128x128, b⟩, ⟨S128x128, c⟩, ⟨S128x128, d⟩, ⟨S128x128, e⟩, ⟨S128x128, f⟩, ⟨S128x128, g⟩, ⟨S128x128, h⟩]
    concatenates_S128x128_S128x128_S128x128_S128x128_S128x128_S128x128_S128x128_S128x128_S1024x128_d0

/-- The lanes of a block moved by 64. -/
def swap (a : M F) : M F := dynamicRotate 1 64#32 none a rotates_S128x128_d1

/-- Key head 0's lanes in both halves, and key head 1's. -/
def both0 (a : M F) : M F := select left a (swap a)
def both1 (a : M F) : M F := select left (swap a) a

/-- Four pairs of heads as eight blocks, each with the other head's lanes at zero. -/
def heads8 (a b c d : M F) : M8 F :=
  cat8 (select left a zM) (select left zM a) (select left b zM) (select left zM b)
    (select left c zM) (select left zM c) (select left d zM) (select left zM d)

/-- The rows of the eight heads against a key block. -/
def rowsNT (a : M8 F) (k : M F) : M8 F :=
  matmul dot_S1024x128_S128x128_S1024x128_1_1_0_0_n_n none (truncf .bf16 a bitsLt_bf16_f32) (truncf .bf16 k bitsLt_bf16_f32)
    (constant S1024x128 .f32 0x00000000#32)

/-- The score of one head: its own block under the diagonal, the block before it above. -/
def scoreV (first : BitVec 1) (sc sp : M F) : M F :=
  select own (mulf sc (broadcast S128x128 (Scalar.ofBits .f32 0x3E000000#32)))
    (Scalar.select first (broadcast S128x128 (Scalar.ofBits .f32 0xFF800000#32))
      (mulf sp (broadcast S128x128 (Scalar.ofBits .f32 0x3E000000#32))))

/-- The lanes of a row that are lane `k`. -/
def laneIs (k : BitVec 32) : IVec S1x128 1 :=
  cmpi .eq (extractStridedSlice S1x128 ![0, 0] (iota .tc S128x128 32 [1] iota_S128x128_d1_w32) slices_S128x128_o0_0_S1x128)
    (broadcast S1x128 k)

def zRow : Row F := broadcast S1x128 (Scalar.ofBits .f32 0x00000000#32)

/-- The sink of head `k`. -/
def sinkV (sink : Row F) (k : BitVec 32) : FVec F S1x1 .f32 :=
  shapeCast S1x1 (multiReduction .add [1] S1 (select (laneIs k) sink zRow) 0x00000000#32 reduces_S1x128_S1 (.inl rfl) rfl)
    shapeCasts_S1_S1x1

def maxV (s : M F) (c : FVec F S1x1 .f32) : Col F :=
  maximumf (shapeCast S128x1 (multiReduction .maximumf [1] S128 s 0xFF800000#32 reduces_S128x128_S128 (.inl rfl) rfl)
    shapeCasts_S128_S128x1) (broadcastTo S128x1 c broadcasts_S1x1_S128x1)

def expV (s : M F) (c : FVec F S1x1 .f32) : M F :=
  exp (subf s (broadcastTo S128x128 (maxV s c) broadcasts_S128x1_S128x128))

def expSinkV (s : M F) (c : FVec F S1x1 .f32) : Col F :=
  exp (subf (broadcastTo S128x1 c broadcasts_S1x1_S128x1) (maxV s c))

/-- The sums of a block's rows. -/
def rowSumV (a : M F) : Col F :=
  shapeCast S128x1 (multiReduction .add [1] S128 a 0x00000000#32 reduces_S128x128_S128 (.inl rfl) rfl) shapeCasts_S128_S128x1

def denV (s : M F) (c : FVec F S1x1 .f32) : Col F := addf (rowSumV (expV s c)) (expSinkV s c)

def probV (s : M F) (c : FVec F S1x1 .f32) : M F :=
  divf (expV s c) (broadcastTo S128x128 (denV s c) broadcasts_S128x1_S128x128)

def recV (s : M F) (c : FVec F S1x1 .f32) : Col F :=
  divf (broadcast S128x1 (Scalar.ofBits .f32 0x3F800000#32)) (mulf (denV s c) (denV s c))

/-- The derivative by the denominator. -/
def ddenV (s : M F) (c : FVec F S1x1 .f32) (dp : M F) : Col F :=
  subf (broadcast S128x1 (Scalar.ofBits .f32 0x00000000#32))
    (rowSumV (mulf (mulf dp (broadcastTo S128x128 (recV s c) broadcasts_S128x1_S128x128)) (expV s c)))

/-- The derivative by the score. -/
def dsV (s : M F) (c : FVec F S1x1 .f32) (dp : M F) : M F :=
  mulf (addf (divf dp (broadcastTo S128x128 (denV s c) broadcasts_S128x1_S128x128))
    (broadcastTo S128x128 (shapeCast S128x1 (multiReduction .add [1] S128 (ddenV s c dp) 0x00000000#32 reduces_S128x1_S128 (.inl rfl) rfl)
      shapeCasts_S128_S128x1) broadcasts_S128x1_S128x128)) (expV s c)

def one3 (x : FVec F S1x1x1 .f32) : FVec F S1x1 .f32 :=
  shapeCast S1x1 (broadcast S1 (extractAt ![0, 0, 0] x inpos_S1x1x1_p0_0_0)) shapeCasts_S1_S1x1

/-- The derivative by head `k`'s sink, in its lane. -/
def dsinkV (s : M F) (c : FVec F S1x1 .f32) (dp : M F) (k : BitVec 32) : Row F :=
  select (laneIs k) (broadcastTo S1x128
    (one3 (shapeCast S1x1x1 (multiReduction .add [1, 2] S1 (shapeCast S1x1x1
      (one3 (shapeCast S1x1x1 (multiReduction .add [1, 2] S1 (shapeCast S1x128x1 (mulf (ddenV s c dp) (expSinkV s c)) shapeCasts_S128x1_S1x128x1)
        0x00000000#32 reduces_S1x128x1_S1 (.inl rfl) rfl) shapeCasts_S1_S1x1x1))
      shapeCasts_S1x1_S1x1x1) 0x00000000#32 reduces_S1x1x1_S1 (.inl rfl) rfl) shapeCasts_S1_S1x1x1)) broadcasts_S1x1_S1x128) zRow

/-- The derivative by the scaled score of the block before, and of the own block. -/
def dprevV (first : BitVec 1) (ds : M F) : M F :=
  mulf (Scalar.select first zM (select own zM ds)) (broadcast S128x128 (Scalar.ofBits .f32 0x3E000000#32))
def dcurV (ds : M F) : M F :=
  mulf (select own ds zM) (broadcast S128x128 (Scalar.ofBits .f32 0x3E000000#32))

theorem blk_slices (g : Fin 8) : S1024x128.Slices ![128 * g.val, 0] S128x128 := by
  revert g; decide

/-- One head's block of eight. -/
def blk (g : Fin 8) (a : M8 F) : M F := extractStridedSlice S128x128 ![128 * g.val, 0] a (blk_slices g)

/-- What one key head's part of a grid point reads: the queries and the output's gradients of its four pairs of
    heads, its own keys and values and those of the block before (in both halves of the lanes), the sinks, the first
    head's lane, and whether there is no block before. -/
structure Half (F : FTy → Type) where
  (first : BitVec 1)
  (q : Fin 4 → M F)
  (o : Fin 4 → FVec F S128x128 .bf16)
  (kp kc vp vc : M F)
  (sink : Row F)
  (lane : Nat)

namespace Half
variable (H : Half F)

def q8 : M8 F := heads8 (H.q 0) (H.q 1) (H.q 2) (H.q 3)
def o8 : M8 F := heads8 (extf .f32 (H.o 0) bitsLt_bf16_f32) (extf .f32 (H.o 1) bitsLt_bf16_f32) (extf .f32 (H.o 2) bitsLt_bf16_f32) (extf .f32 (H.o 3) bitsLt_bf16_f32)
def sc8 : M8 F := rowsNT H.q8 H.kc
def sp8 : M8 F := rowsNT H.q8 H.kp
def s (g : Fin 8) : M F := scoreV H.first (blk g H.sc8) (blk g H.sp8)
def c (g : Fin 8) : FVec F S1x1 .f32 := sinkV H.sink (BitVec.ofNat 32 (H.lane + g.val))
def p (g : Fin 8) : M F := probV (H.s g) (H.c g)
def p8 : M8 F := cat8 (H.p 0) (H.p 1) (H.p 2) (H.p 3) (H.p 4) (H.p 5) (H.p 6) (H.p 7)

/-- The product of the eight blocks' columns. -/
def colsTN (a : M8 F) (b : FVec F S1024x128 .bf16) : M F :=
  matmul dot_S1024x128_S1024x128_S128x128_0_0_1_1_n_n none a b (constant S128x128 .f32 0x00000000#32)
def bf (a : M F) : M F := extf .f32 (truncf .bf16 a bitsLt_bf16_f32) bitsLt_bf16_f32
def bf8 (a : M8 F) : M8 F := extf .f32 (truncf .bf16 a bitsLt_bf16_f32) bitsLt_bf16_f32

def dvp : M F := bf (transpose S128x128 [1, 0] (colsTN H.o8 (truncf .bf16 (select own8 zM8 H.p8) bitsLt_bf16_f32)) transposes_S128x128_p1_0_S128x128)
def dvc : M F := bf (transpose S128x128 [1, 0] (colsTN H.o8 (truncf .bf16 (select own8 H.p8 zM8) bitsLt_bf16_f32)) transposes_S128x128_p1_0_S128x128)

def outNT (v : M F) : M8 F :=
  bf8 (matmul dot_S1024x128_S128x128_S1024x128_1_1_0_0_n_n none H.o8 (truncf .bf16 v bitsLt_bf16_f32) (constant S1024x128 .f32 0x00000000#32))
def dp8 : M8 F := addf (select own8 zM8 (H.outNT H.vp)) (select own8 (H.outNT H.vc) zM8)
def dp (g : Fin 8) : M F := blk g H.dp8
def ds (g : Fin 8) : M F := dsV (H.s g) (H.c g) (H.dp g)
def dsp8 : M8 F := cat8 (dprevV H.first (H.ds 0)) (dprevV H.first (H.ds 1)) (dprevV H.first (H.ds 2)) (dprevV H.first (H.ds 3))
  (dprevV H.first (H.ds 4)) (dprevV H.first (H.ds 5)) (dprevV H.first (H.ds 6)) (dprevV H.first (H.ds 7))
def dsc8 : M8 F := cat8 (dcurV (H.ds 0)) (dcurV (H.ds 1)) (dcurV (H.ds 2)) (dcurV (H.ds 3))
  (dcurV (H.ds 4)) (dcurV (H.ds 5)) (dcurV (H.ds 6)) (dcurV (H.ds 7))
def dkp : M F := bf (colsTN H.dsp8 (truncf .bf16 H.q8 bitsLt_bf16_f32))
def dkc : M F := bf (colsTN H.dsc8 (truncf .bf16 H.q8 bitsLt_bf16_f32))
def prodNN (a : M8 F) (k : M F) : M8 F :=
  bf8 (matmul dot_S1024x128_S128x128_S1024x128_1_0_0_1_n_n none a (truncf .bf16 k bitsLt_bf16_f32) (constant S1024x128 .f32 0x00000000#32))
def dq8 : M8 F := addf (prodNN H.dsp8 H.kp) (prodNN H.dsc8 H.kc)
def pair (a b : M F) : M F := addf (select left zM b) (select left a zM)
def dq (t : Fin 4) : M F := pair (blk ⟨2 * t.val, by omega⟩ H.dq8) (blk ⟨2 * t.val + 1, by omega⟩ H.dq8)
def dsink (g : Fin 8) : Row F := dsinkV (H.s g) (H.c g) (H.dp g) (BitVec.ofNat 32 (H.lane + g.val))

end Half

/-- The two key heads' gradients, each in both halves of the lanes, as one block. -/
def merge (x y : M F) : M F :=
  addf (addf (select left zM y) (select left x zM)) (swap (addf (select left y zM) (select left zM x)))

/-- What a grid point reads. -/
structure In (F : FTy → Type) where
  (first : BitVec 1)
  (q : Fin 8 → M F)
  (o : Fin 8 → FVec F S128x128 .bf16)
  (kp kc vp vc : M F)
  (sink : Row F)

namespace In
variable (I : In F)
def h0 : Half F := ⟨I.first, ![I.q 0, I.q 1, I.q 2, I.q 3], ![I.o 0, I.o 1, I.o 2, I.o 3], both0 I.kp, both0 I.kc, both0 I.vp, both0 I.vc, I.sink, 0⟩
def h1 : Half F := ⟨I.first, ![I.q 4, I.q 5, I.q 6, I.q 7], ![I.o 4, I.o 5, I.o 6, I.o 7], both1 I.kp, both1 I.kc, both1 I.vp, both1 I.vc, I.sink, 8⟩
def dkp : M F := merge I.h0.dkp I.h1.dkp
def dkc : M F := merge I.h0.dkc I.h1.dkc
def dvp : M F := merge I.h0.dvp I.h1.dvp
def dvc : M F := merge I.h0.dvc I.h1.dvc
def dsink1 : Row F := addf (addf (addf (addf (addf (addf (addf (I.h1.dsink 7) (I.h1.dsink 6)) (I.h1.dsink 5)) (I.h1.dsink 4)) (I.h1.dsink 3))
  (I.h1.dsink 2)) (I.h1.dsink 1)) (I.h1.dsink 0)
def dsink : Row F := addf (addf (addf (addf (addf (addf (addf (addf I.dsink1 (I.h0.dsink 7)) (I.h0.dsink 6)) (I.h0.dsink 5)) (I.h0.dsink 4)) (I.h0.dsink 3))
  (I.h0.dsink 2)) (I.h0.dsink 1)) (I.h0.dsink 0)
end In

end Cert.KernelIdeal.Att

end
-- ==== Proof.Attention.Half.lean ====
/- What one key head's part of a grid point computes, by coordinates: each of its eight query heads is one head of the
   attention, and the key head's gradients are the sums over the eight. -/
module

public import proofs.«01_k».proof.Proof.Attention.Stages
public import proofs.«01_k».proof.Proof.Attention.Spec

@[expose] public section

set_option maxRecDepth 16384

noncomputable section

open Idealize.ShloMosaic

namespace Cert.KernelIdeal.Att

open Cert.KernelIdeal Cert.KernelIdeal.Gen Cert.Att Idealize.ShloMosaic.TcCoe Idealize.SL.Sem

/-! ## Masks -/

theorem toInt_word (x : ℕ) (hx : x < 2 ^ 31) : (BitVec.ofNat 32 x).toInt = (x : ℤ) := by
  have h : (BitVec.ofNat 32 x).toNat = x := by rw [BitVec.toNat_ofNat, Nat.mod_eq_of_lt (by omega)]
  rw [BitVec.toInt_eq_toNat_of_lt (by rw [h]; omega), h]

theorem word_slt (x y : ℕ) (hx : x < 2 ^ 31) (hy : y < 2 ^ 31) : (BitVec.ofNat 32 x).slt (BitVec.ofNat 32 y) = decide (x < y) := by
  rw [BitVec.slt_eq_decide, toInt_word x hx, toInt_word y hy]
  simp

theorem word_sle (x y : ℕ) (hx : x < 2 ^ 31) (hy : y < 2 ^ 31) : (BitVec.ofNat 32 x).sle (BitVec.ofNat 32 y) = decide (x ≤ y) := by
  rw [BitVec.sle_eq_decide, toInt_word x hx, toInt_word y hy]
  simp

theorem word_eq (x y : ℕ) (hx : x < 2 ^ 31) (hy : y < 2 ^ 31) : (BitVec.ofNat 32 x == BitVec.ofNat 32 y) = decide (x = y) := by
  rw [Bool.eq_iff_iff]
  simp only [beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact this
  · rintro rfl; rfl

theorem select_prop {α : Type} (m : BitVec 1) (a b : α) : Scalar.select m a b = @ite α (m = 1) (Classical.propDecidable _) a b := by
  unfold Scalar.select
  split <;> simp_all

theorem left_apply (x y : Fin 128) : left (ix2 x y) = BitVec.ofBool (decide (y.val < 64)) := by
  pointwise [left, k0_pay8]
  exact congrArg BitVec.ofBool (word_slt y.val 64 (by omega) (by omega))

theorem own_apply (x y : Fin 128) : own (ix2 x y) = BitVec.ofBool (decide (y ≤ x)) := by
  pointwise [own, k0_pay9]
  exact congrArg BitVec.ofBool (word_sle y.val x.val (by omega) (by omega))

theorem laneIs_apply (k : ℕ) (hk : k < 16) (y : Fin 128) : laneIs (BitVec.ofNat 32 k) (ix2 0 y) = BitVec.ofBool (decide (y.val = k)) := by
  pointwise [laneIs]
  exact congrArg BitVec.ofBool (word_eq y.val k (by omega) (by omega))

/-! ## Eight blocks -/

theorem cat8_apply {α : Type} (f : Fin 8 → S128x128.Idx → α) (g : Fin 8) (r l : Fin 128) :
    cat8 (f 0) (f 1) (f 2) (f 3) (f 4) (f 5) (f 6) (f 7) (ix2 (row g r) l) = f g (ix2 r l) := by
  have e (j : Fin 8) (x : ℕ) (hx : x < 128) (h : x = r.val) : f j (ix2 ⟨x, hx⟩ l) = f j (ix2 r l) :=
    congrArg (fun y => f j (ix2 y l)) (Fin.ext h)
  have hr := r.isLt
  generalize hx : row g r = x
  have hv : x.val = 128 * g.val + r.val := by rw [← hx]; rfl
  pointwise [cat8]
  rcases g with ⟨g, hg⟩
  simp only at hv
  split
  · obtain rfl : g = 0 := by omega
    exact e 0 _ _ (by omega)
  split
  · obtain rfl : g = 1 := by omega
    exact e 1 _ _ (by omega)
  split
  · obtain rfl : g = 2 := by omega
    exact e 2 _ _ (by omega)
  split
  · obtain rfl : g = 3 := by omega
    exact e 3 _ _ (by omega)
  split
  · obtain rfl : g = 4 := by omega
    exact e 4 _ _ (by omega)
  split
  · obtain rfl : g = 5 := by omega
    exact e 5 _ _ (by omega)
  split
  · obtain rfl : g = 6 := by omega
    exact e 6 _ _ (by omega)
  · obtain rfl : g = 7 := by omega
    exact e 7 _ _ (by omega)

theorem own8_apply (g : Fin 8) (r l : Fin 128) : own8 (ix2 (row g r) l) = BitVec.ofBool (decide (l ≤ r)) :=
  (cat8_apply (fun _ => k0_pay9) g r l).trans (own_apply r l)

theorem blk_apply (g : Fin 8) (a : M8 Ideal) (r l : Fin 128) : blk g a (ix2 r l) = a (ix2 (row g r) l) := by
  pointwise [blk]
  rfl

/-- The pair of a head, and its half. -/
def pr (g : Fin 8) : Fin 4 := ⟨g.val / 2, by omega⟩
def hf (g : Fin 8) : Fin 2 := ⟨g.val % 2, by omega⟩

theorem heads8_apply (a : Fin 4 → M Ideal) (g : Fin 8) (r : Fin 128) (b : Fin 2) (d : Fin 64) :
    heads8 (a 0) (a 1) (a 2) (a 3) (ix2 (row g r) (ln b d)) = if b = hf g then a (pr g) (ix2 r (ln b d)) else (0 : EReal) := by
  refine (cat8_apply ![select left (a 0) zM, select left zM (a 0), select left (a 1) zM, select left zM (a 1), select left (a 2) zM,
    select left zM (a 2), select left (a 3) zM, select left zM (a 3)] g r (ln b d)).trans ?_
  fin_cases b <;> fin_cases g <;> simp [select, left_apply, zM, ln, hf, pr, Scalar.select, broadcast]

/-! ## One head's stages -/

variable (H : Half Ideal) (g : Fin 8) (r l : Fin 128) (b : Fin 2) (d : Fin 64)

/-- Head `g` of the eight. -/
def Half.head : Head where
  first := H.first = 1
  q r d := H.q (pr g) (ix2 r (ln (hf g) d))
  o r d := H.o (pr g) (ix2 r (ln (hf g) d))
  kc l d := H.kc (ix2 l (ln 0 d))
  kp l d := H.kp (ix2 l (ln 0 d))
  vc l d := H.vc (ix2 l (ln 0 d))
  vp l d := H.vp (ix2 l (ln 0 d))
  c := H.c g (ix2 0 0)

/-- A block whose halves are equal. -/
def Twice (k : M Ideal) : Prop := ∀ l b d, k (ix2 l (ln b d)) = k (ix2 l (ln 0 d))

/-- The key head's blocks have equal halves. -/
structure Half.Both : Prop where
  kc : Twice H.kc
  kp : Twice H.kp
  vc : Twice H.vc
  vp : Twice H.vp

theorem q8_apply : H.q8 (ix2 (row g r) (ln b d)) = if b = hf g then (H.head g).q r d else (0 : EReal) := by
  refine (heads8_apply H.q g r b d).trans ?_
  split
  · next h => subst h; rfl
  · rfl

theorem o8_apply : H.o8 (ix2 (row g r) (ln b d)) = if b = hf g then (H.head g).o r d else (0 : EReal) := by
  refine (heads8_apply (fun t => extf .f32 (H.o t) bitsLt_bf16_f32) g r b d).trans ?_
  split
  · next h => subst h; rfl
  · rfl

theorem rowsNT_apply (a : M8 Ideal) (k : M Ideal) (x : Fin 1024) : rowsNT a k (ix2 x l) = ∑ y, (a (ix2 x y) * k (ix2 l y) : EReal) := by
  pointwise [rowsNT]

theorem outNT_apply (v : M Ideal) (x : Fin 1024) : H.outNT v (ix2 x l) = ∑ y, (H.o8 (ix2 x y) * v (ix2 l y) : EReal) := by
  pointwise [Half.outNT, Half.bf8]

theorem prodNN_apply (a : M8 Ideal) (k : M Ideal) (x : Fin 1024) : Half.prodNN a k (ix2 x l) = ∑ y, (a (ix2 x y) * k (ix2 y l) : EReal) := by
  pointwise [Half.prodNN, Half.bf8]

theorem colsTN_apply (a : M8 Ideal) (k : FVec Ideal S1024x128 .bf16) : Half.colsTN a k (ix2 r l) = ∑ y, (a (ix2 y r) * k (ix2 y l) : EReal) := by
  pointwise [Half.colsTN]

/-- A head's lanes against a block with equal halves. -/
theorem half_sum {f : Fin 128 → EReal} {u : Fin 64 → EReal} (hf' : ∀ b d, f (ln b d) = if b = hf g then u d else 0) {k : M Ideal} (hk : Twice k) :
    ∑ y, f y * k (ix2 l y) = ∑ d, u d * (k (ix2 l (ln 0 d)) : EReal) := by
  rw [sum_half (hf g) _ fun b' d hb => by rw [hf', if_neg hb, zero_mul]]
  exact Finset.sum_congr rfl fun d _ => by rw [hf', if_pos rfl, hk]

variable (hB : H.Both)
include hB

theorem sc8_apply : H.sc8 (ix2 (row g r) l) = ∑ d, (H.head g).q r d * (H.head g).kc l d :=
  (rowsNT_apply l _ _ _).trans (half_sum g l (q8_apply H g r) hB.kc)

theorem sp8_apply : H.sp8 (ix2 (row g r) l) = ∑ d, (H.head g).q r d * (H.head g).kp l d :=
  (rowsNT_apply l _ _ _).trans (half_sum g l (q8_apply H g r) hB.kp)

theorem s_apply : H.s g (ix2 r l) = (H.head g).s r l := by
  have e : H.s g (ix2 r l) = Scalar.select (own (ix2 r l)) (blk g H.sc8 (ix2 r l) * eighth : EReal)
      (Scalar.select H.first (Ideal.ofBits .f32 0xFF800000#32) (blk g H.sp8 (ix2 r l) * eighth : EReal)) := by
    pointwise [Half.s, scoreV, eighth]
  rw [e, own_apply, blk_apply, blk_apply, sc8_apply H g r l hB, sp8_apply H g r l hB, neg_inf, Scalar.select_ofBool, select_prop]
  simp only [decide_eq_true_eq]
  rfl

theorem ex_apply : expV (H.s g) (H.c g) (ix2 r l) = ex ((H.head g).s r) (H.head g).c l := by
  pointwise [expV, maxV]
  simp only [s_apply H g _ _ hB]
  rw [neg_inf]; rfl

theorem exs_apply : expSinkV (H.s g) (H.c g) (ix2 r 0) = exs ((H.head g).s r) (H.head g).c := by
  pointwise [expSinkV, maxV]
  simp only [s_apply H g _ _ hB]
  rw [neg_inf]; rfl

theorem den_apply : denV (H.s g) (H.c g) (ix2 r 0) = den ((H.head g).s r) (H.head g).c := by
  have e : denV (H.s g) (H.c g) (ix2 r 0) = (∑ l, expV (H.s g) (H.c g) (ix2 r l) + expSinkV (H.s g) (H.c g) (ix2 r 0) : EReal) := by
    pointwise [denV, rowSumV]
  rw [e, exs_apply H g r hB]
  simp only [ex_apply H g _ _ hB]
  rfl

theorem p_apply : H.p g (ix2 r l) = (H.head g).p r l := by
  have e : H.p g (ix2 r l) = Ideal.div (expV (H.s g) (H.c g) (ix2 r l)) (denV (H.s g) (H.c g) (ix2 r 0)) := by
    pointwise [Half.p, probV]
  rw [e, ex_apply H g r l hB, den_apply H g r hB]
  rfl

theorem dp_apply : H.dp g (ix2 r l) = (H.head g).dp r l := by
  have e : H.dp8 (ix2 (row g r) l) = (Scalar.select (own8 (ix2 (row g r) l)) 0 (H.outNT H.vp (ix2 (row g r) l)) +
      Scalar.select (own8 (ix2 (row g r) l)) (H.outNT H.vc (ix2 (row g r) l)) 0 : EReal) := by
    pointwise [Half.dp8, zM8]
  rw [Half.dp, blk_apply, e, own8_apply, outNT_apply, outNT_apply, half_sum g l (o8_apply H g r) hB.vp, half_sum g l (o8_apply H g r) hB.vc,
    Scalar.select_ofBool, Scalar.select_ofBool]
  simp only [decide_eq_true_eq, Head.dp]
  split
  · rw [zero_add]; rfl
  · rw [add_zero]; rfl

theorem dden_apply : ddenV (H.s g) (H.c g) (H.dp g) (ix2 r 0) = dden ((H.head g).s r) (H.head g).c ((H.head g).dp r) := by
  have e : ddenV (H.s g) (H.c g) (H.dp g) (ix2 r 0) = (0 - ∑ l, H.dp g (ix2 r l) *
      Ideal.div 1 (denV (H.s g) (H.c g) (ix2 r 0) * denV (H.s g) (H.c g) (ix2 r 0)) * expV (H.s g) (H.c g) (ix2 r l) : EReal) := by
    pointwise [ddenV, rowSumV, recV]
  rw [e, den_apply H g r hB, zero_sub]
  simp only [ex_apply H g _ _ hB, dp_apply H g _ _ hB]
  rfl

theorem ds_apply : H.ds g (ix2 r l) = (H.head g).ds r l := by
  have e : H.ds g (ix2 r l) = ((Ideal.div (H.dp g (ix2 r l)) (denV (H.s g) (H.c g) (ix2 r 0)) + ∑ x : Fin 1, ddenV (H.s g) (H.c g) (H.dp g) (ix2 r x)) *
      expV (H.s g) (H.c g) (ix2 r l) : EReal) := by
    pointwise [Half.ds, dsV]
  rw [e, den_apply H g r hB, ex_apply H g r l hB, dp_apply H g r l hB]
  simp only [Finset.univ_unique, Finset.sum_singleton]
  exact congrArg (fun x : EReal => (_ + x) * _) (dden_apply H g r hB)

theorem dsp_apply : H.dsp8 (ix2 (row g r) l) = (H.head g).dsp r l := by
  have e : dprevV H.first (H.ds g) (ix2 r l) = (Scalar.select H.first 0 (Scalar.select (own (ix2 r l)) 0 (H.ds g (ix2 r l))) * eighth : EReal) := by
    pointwise [dprevV, zM, eighth]
  refine (cat8_apply (fun g => dprevV H.first (H.ds g)) g r l).trans (e.trans ?_)
  rw [own_apply, Scalar.select_ofBool, ds_apply H g r l hB, select_prop]
  simp only [decide_eq_true_eq, Head.dsp, show (H.head g).first = (H.first = 1) from rfl]

theorem dsc_apply : H.dsc8 (ix2 (row g r) l) = (H.head g).dsc r l := by
  have e : dcurV (H.ds g) (ix2 r l) = (Scalar.select (own (ix2 r l)) (H.ds g (ix2 r l)) 0 * eighth : EReal) := by
    pointwise [dcurV, zM, eighth]
  refine (cat8_apply (fun g => dcurV (H.ds g)) g r l).trans (e.trans ?_)
  rw [own_apply, Scalar.select_ofBool, ds_apply H g r l hB]
  simp only [decide_eq_true_eq]
  rfl

theorem dq8_apply : H.dq8 (ix2 (row g r) (ln b d)) = (H.head g).dq r d := by
  have e : H.dq8 (ix2 (row g r) (ln b d)) = (Half.prodNN H.dsp8 H.kp (ix2 (row g r) (ln b d)) + Half.prodNN H.dsc8 H.kc (ix2 (row g r) (ln b d)) : EReal) := by
    pointwise [Half.dq8]
  rw [e, prodNN_apply, prodNN_apply]
  simp only [dsp_apply H g _ _ hB, dsc_apply H g _ _ hB, hB.kp _ b d, hB.kc _ b d]
  rfl

/-- The lanes of the eight heads' sum. -/
theorem dkp_apply : H.dkp (ix2 l (ln b d)) = ∑ g, (if b = hf g then (H.head g).dkp l d else 0 : EReal) := by
  have e : H.dkp (ix2 l (ln b d)) = ∑ x, (H.dsp8 (ix2 x l) * H.q8 (ix2 x (ln b d)) : EReal) := by
    pointwise [Half.dkp, Half.bf]
    exact (colsTN_apply _ _ _ _).trans (by pointwise [])
  rw [e, sum_rows]
  refine Finset.sum_congr rfl fun g _ => ?_
  simp only [dsp_apply H g _ _ hB, q8_apply]
  split
  · rfl
  · simp

theorem dkc_apply : H.dkc (ix2 l (ln b d)) = ∑ g, (if b = hf g then (H.head g).dkc l d else 0 : EReal) := by
  have e : H.dkc (ix2 l (ln b d)) = ∑ x, (H.dsc8 (ix2 x l) * H.q8 (ix2 x (ln b d)) : EReal) := by
    pointwise [Half.dkc, Half.bf]
    exact (colsTN_apply _ _ _ _).trans (by pointwise [])
  rw [e, sum_rows]
  refine Finset.sum_congr rfl fun g _ => ?_
  simp only [dsc_apply H g _ _ hB, q8_apply]
  split
  · rfl
  · simp

theorem p8_apply : H.p8 (ix2 (row g r) l) = (H.head g).p r l :=
  (cat8_apply H.p g r l).trans (p_apply H g r l hB)

theorem dvp_apply : H.dvp (ix2 l (ln b d)) = ∑ g, (if b = hf g then (H.head g).dvp l d else 0 : EReal) := by
  have e : H.dvp (ix2 l (ln b d)) = ∑ x, (H.o8 (ix2 x (ln b d)) * Scalar.select (own8 (ix2 x l)) 0 (H.p8 (ix2 x l)) : EReal) := by
    pointwise [Half.dvp, Half.bf]
    exact (colsTN_apply _ _ _ _).trans (by pointwise [zM8])
  rw [e, sum_rows]
  refine Finset.sum_congr rfl fun g _ => ?_
  simp only [p8_apply H g _ _ hB, o8_apply, own8_apply, Scalar.select_ofBool, decide_eq_true_eq]
  split
  · rfl
  · simp

theorem dvc_apply : H.dvc (ix2 l (ln b d)) = ∑ g, (if b = hf g then (H.head g).dvc l d else 0 : EReal) := by
  have e : H.dvc (ix2 l (ln b d)) = ∑ x, (H.o8 (ix2 x (ln b d)) * Scalar.select (own8 (ix2 x l)) (H.p8 (ix2 x l)) 0 : EReal) := by
    pointwise [Half.dvc, Half.bf]
    exact (colsTN_apply _ _ _ _).trans (by pointwise [zM8])
  rw [e, sum_rows]
  refine Finset.sum_congr rfl fun g _ => ?_
  simp only [p8_apply H g _ _ hB, o8_apply, own8_apply, Scalar.select_ofBool, decide_eq_true_eq]
  split
  · rfl
  · simp

theorem dsink_apply (hl : H.lane + g.val < 16) : H.dsink g (ix2 0 l) = if l.val = H.lane + g.val then (H.head g).dsink else (0 : EReal) := by
  have e : H.dsink g (ix2 0 l) = Scalar.select (laneIs (BitVec.ofNat 32 (H.lane + g.val)) (ix2 0 l))
      (∑ _x : Fin 1, ∑ _x : Fin 1, ∑ r, ∑ _x : Fin 1, ddenV (H.s g) (H.c g) (H.dp g) (ix2 r 0) * expSinkV (H.s g) (H.c g) (ix2 r 0)) (0 : EReal) := by
    generalize hk : laneIs (BitVec.ofNat 32 (H.lane + g.val)) = k
    unfold Half.dsink
    unfold dsinkV
    rw [hk]
    pointwise [one3, zRow]
  rw [e, laneIs_apply _ hl, Scalar.select_ofBool]
  simp only [decide_eq_true_eq, dden_apply H g _ hB, exs_apply H g _ hB, Finset.univ_unique, Finset.sum_singleton]
  rfl

end Cert.KernelIdeal.Att

end
-- ==== Proof.Attention.Point.lean ====
/- What a grid point of the attention's backward call computes, by coordinates: the gradients of its sixteen heads. -/
module

public import proofs.«01_k».proof.Proof.Attention.Half

@[expose] public section

set_option maxRecDepth 16384

noncomputable section

open Idealize.ShloMosaic

namespace Cert.KernelIdeal.Att

open Cert.KernelIdeal Cert.KernelIdeal.Gen Cert.Att Idealize.ShloMosaic.TcCoe Idealize.SL.Sem

variable (a x y : M Ideal) (g : Fin 8) (r l : Fin 128) (b j : Fin 2) (d : Fin 64)

theorem swap_apply : swap a (ix2 r l) = a (ix2 r ⟨(l.val + 64) % 128, Nat.mod_lt _ (by omega)⟩) := by
  pointwise [swap]
  rfl

theorem swap_ln0 : swap a (ix2 r (ln 0 d)) = a (ix2 r (ln 1 d)) :=
  (swap_apply a r _).trans (congrArg (fun z => a (ix2 r z)) (Fin.ext (by simp [ln]; omega)))

theorem swap_ln1 : swap a (ix2 r (ln 1 d)) = a (ix2 r (ln 0 d)) :=
  (swap_apply a r _).trans (congrArg (fun z => a (ix2 r z)) (Fin.ext (by simp [ln]; omega)))

theorem left_ln0 : left (ix2 r (ln 0 d)) = BitVec.ofBool true := by rw [left_apply]; simp [ln]
theorem left_ln1 : left (ix2 r (ln 1 d)) = BitVec.ofBool false := by rw [left_apply]; simp [ln]

theorem both0_apply : both0 a (ix2 l (ln b d)) = a (ix2 l (ln 0 d)) := by
  show Scalar.select (left (ix2 l (ln b d))) (a (ix2 l (ln b d))) (swap a (ix2 l (ln b d))) = _
  fin_cases b
  · exact (congrArg (Scalar.select · _ _) (left_ln0 l d)).trans rfl
  · exact (congrArg (Scalar.select · _ _) (left_ln1 l d)).trans (swap_ln1 a l d)

theorem both1_apply : both1 a (ix2 l (ln b d)) = a (ix2 l (ln 1 d)) := by
  show Scalar.select (left (ix2 l (ln b d))) (swap a (ix2 l (ln b d))) (a (ix2 l (ln b d))) = _
  fin_cases b
  · exact (congrArg (Scalar.select · _ _) (left_ln0 l d)).trans (swap_ln0 a l d)
  · exact (congrArg (Scalar.select · _ _) (left_ln1 l d)).trans rfl

theorem twice0 : Twice (both0 a) := fun l b d => (both0_apply a l b d).trans (both0_apply a l 0 d).symm
theorem twice1 : Twice (both1 a) := fun l b d => (both1_apply a l b d).trans (both1_apply a l 0 d).symm

theorem pair_apply : Half.pair x y (ix2 r (ln b d)) = (if b = 0 then x (ix2 r (ln b d)) else y (ix2 r (ln b d)) : EReal) := by
  have e : Half.pair x y (ix2 r (ln b d)) = (Scalar.select (left (ix2 r (ln b d))) 0 (y (ix2 r (ln b d))) +
      Scalar.select (left (ix2 r (ln b d))) (x (ix2 r (ln b d))) 0 : EReal) := by
    pointwise [Half.pair, zM]
  rw [e]
  fin_cases b
  · show (Scalar.select (left (ix2 r (ln 0 d))) _ _ + Scalar.select (left (ix2 r (ln 0 d))) _ _ : EReal) = _
    rw [left_ln0, Scalar.select_ofBool, Scalar.select_ofBool]; exact zero_add _
  · show (Scalar.select (left (ix2 r (ln 1 d))) _ _ + Scalar.select (left (ix2 r (ln 1 d))) _ _ : EReal) = _
    rw [left_ln1, Scalar.select_ofBool, Scalar.select_ofBool]; exact add_zero _

theorem merge_apply : merge x y (ix2 l (ln j d)) = (if j = 0 then x (ix2 l (ln 0 d)) + x (ix2 l (ln 1 d)) else y (ix2 l (ln 0 d)) + y (ix2 l (ln 1 d)) : EReal) := by
  have e : merge x y (ix2 l (ln j d)) = ((Scalar.select (left (ix2 l (ln j d))) 0 (y (ix2 l (ln j d))) +
      Scalar.select (left (ix2 l (ln j d))) (x (ix2 l (ln j d))) 0) +
      swap (addf (select left y zM) (select left zM x)) (ix2 l (ln j d)) : EReal) := by
    unfold merge
    generalize swap (addf (select left y zM) (select left zM x)) = w
    pointwise [zM]
  have e' (z : Fin 128) : addf (select left y zM) (select left zM x) (ix2 l z) = (Scalar.select (left (ix2 l z)) (y (ix2 l z)) 0 + Scalar.select (left (ix2 l z)) 0 (x (ix2 l z)) : EReal) := by
    pointwise [zM]
  rw [e]
  fin_cases j
  · show (Scalar.select (left (ix2 l (ln 0 d))) _ _ + Scalar.select (left (ix2 l (ln 0 d))) _ _ + swap (F := Ideal) _ (ix2 l (ln 0 d)) : EReal) = _
    rw [swap_ln0, e', left_ln0, left_ln1]
    simp only [Scalar.select_ofBool]
    simp
  · show (Scalar.select (left (ix2 l (ln 1 d))) _ _ + Scalar.select (left (ix2 l (ln 1 d))) _ _ + swap (F := Ideal) _ (ix2 l (ln 1 d)) : EReal) = _
    rw [swap_ln1, e', left_ln0, left_ln1]
    simp only [Scalar.select_ofBool]
    simp [add_comm]

/-- The lane of a head's sink. -/
def sl (j : Fin 2) (g : Fin 8) : Fin 128 := ⟨8 * j.val + g.val, by omega⟩

theorem sinkV_apply (s : Row Ideal) (k : Fin 128) (hk : k.val < 16) : sinkV s (BitVec.ofNat 32 k.val) (ix2 0 0) = s (ix2 0 k) := by
  have e : sinkV s (BitVec.ofNat 32 k.val) (ix2 0 0) = ∑ x, (Scalar.select (laneIs (BitVec.ofNat 32 k.val) (ix2 0 x)) (s (ix2 0 x)) 0 : EReal) := by
    generalize hm : laneIs (BitVec.ofNat 32 k.val) = m
    unfold sinkV
    rw [hm]
    pointwise [zRow]
  rw [e, Finset.sum_eq_single k]
  · rw [laneIs_apply _ hk, Scalar.select_ofBool]; simp
  · intro x _ hx
    rw [laneIs_apply _ hk, Scalar.select_ofBool, if_neg]
    simpa using fun h => hx (Fin.ext h)
  · simp

variable (I : In Ideal)

/-- Head `g` of key head `j`. -/
def In.head : Head where
  first := I.first = 1
  q r d := I.q ⟨4 * j.val + g.val / 2, by omega⟩ (ix2 r (ln (hf g) d))
  o r d := I.o ⟨4 * j.val + g.val / 2, by omega⟩ (ix2 r (ln (hf g) d))
  kc l d := I.kc (ix2 l (ln j d))
  kp l d := I.kp (ix2 l (ln j d))
  vc l d := I.vc (ix2 l (ln j d))
  vp l d := I.vp (ix2 l (ln j d))
  c := I.sink (ix2 0 (sl j g))

theorem h0_both : I.h0.Both := ⟨twice0 _, twice0 _, twice0 _, twice0 _⟩
theorem h1_both : I.h1.Both := ⟨twice1 _, twice1 _, twice1 _, twice1 _⟩

theorem h0_head : I.h0.head g = I.head g 0 := by
  have hc : I.h0.c g (ix2 0 0) = I.sink (ix2 0 (sl 0 g)) := by
    refine Eq.trans ?_ (sinkV_apply I.sink (sl 0 g) (by simp [sl]; omega))
    simp [Half.c, In.h0, sl]
  have e1 (u : M Ideal) : (fun l d => both0 u (ix2 l (ln 0 d)) : Fin 128 → Fin 64 → EReal) = fun l d => u (ix2 l (ln 0 d)) :=
    funext fun l => funext fun d => both0_apply u l 0 d
  unfold Half.head In.head
  congr 1
  · fin_cases g <;> rfl
  · fin_cases g <;> rfl
  · exact e1 _
  · exact e1 _
  · exact e1 _
  · exact e1 _

theorem h1_head : I.h1.head g = I.head g 1 := by
  have hc : I.h1.c g (ix2 0 0) = I.sink (ix2 0 (sl 1 g)) := by
    refine Eq.trans ?_ (sinkV_apply I.sink (sl 1 g) (by simp [sl]; omega))
    simp [Half.c, In.h1, sl]
  have e1 (u : M Ideal) : (fun l d => both1 u (ix2 l (ln 0 d)) : Fin 128 → Fin 64 → EReal) = fun l d => u (ix2 l (ln 1 d)) :=
    funext fun l => funext fun d => both1_apply u l 0 d
  unfold Half.head In.head
  congr 1
  · fin_cases g <;> rfl
  · fin_cases g <;> rfl
  · exact e1 _
  · exact e1 _
  · exact e1 _
  · exact e1 _

/-! ## The gradients -/

/-- The head of half `b` of pair `t`. -/
def hd (t : Fin 4) (b : Fin 2) : Fin 8 := ⟨2 * t.val + b.val, by omega⟩

theorem dq_apply (H : Half Ideal) (hB : H.Both) (t : Fin 4) : H.dq t (ix2 r (ln b d)) = (H.head (hd t b)).dq r d := by
  rw [Half.dq, pair_apply, blk_apply, blk_apply, dq8_apply H _ r b d hB, dq8_apply H _ r b d hB]
  fin_cases b <;> rfl

theorem dq0_apply (t : Fin 4) : I.h0.dq t (ix2 r (ln b d)) = (I.head (hd t b) 0).dq r d := by
  rw [dq_apply r b d _ (h0_both I), h0_head]

theorem dq1_apply (t : Fin 4) : I.h1.dq t (ix2 r (ln b d)) = (I.head (hd t b) 1).dq r d := by
  rw [dq_apply r b d _ (h1_both I), h1_head]

/-- The two halves' heads are all the heads. -/
theorem halves_sum (f : Fin 8 → EReal) : (∑ g, if (0 : Fin 2) = hf g then f g else 0) + (∑ g, if (1 : Fin 2) = hf g then f g else 0) = ∑ g, f g := by
  rw [← Finset.sum_add_distrib]
  refine Finset.sum_congr rfl fun g _ => ?_
  fin_cases g <;> simp [hf]

theorem In.dkp_apply : I.dkp (ix2 l (ln j d)) = ∑ g, (I.head g j).dkp l d := by
  rw [In.dkp, merge_apply]
  simp only [Att.dkp_apply _ l _ d (h0_both I), Att.dkp_apply _ l _ d (h1_both I), halves_sum, h0_head, h1_head]
  fin_cases j <;> rfl

theorem In.dkc_apply : I.dkc (ix2 l (ln j d)) = ∑ g, (I.head g j).dkc l d := by
  rw [In.dkc, merge_apply]
  simp only [Att.dkc_apply _ l _ d (h0_both I), Att.dkc_apply _ l _ d (h1_both I), halves_sum, h0_head, h1_head]
  fin_cases j <;> rfl

theorem In.dvp_apply : I.dvp (ix2 l (ln j d)) = ∑ g, (I.head g j).dvp l d := by
  rw [In.dvp, merge_apply]
  simp only [Att.dvp_apply _ l _ d (h0_both I), Att.dvp_apply _ l _ d (h1_both I), halves_sum, h0_head, h1_head]
  fin_cases j <;> rfl

theorem In.dvc_apply : I.dvc (ix2 l (ln j d)) = ∑ g, (I.head g j).dvc l d := by
  rw [In.dvc, merge_apply]
  simp only [Att.dvc_apply _ l _ d (h0_both I), Att.dvc_apply _ l _ d (h1_both I), halves_sum, h0_head, h1_head]
  fin_cases j <;> rfl

theorem h0_dsink : I.h0.dsink g (ix2 0 l) = if l = sl 0 g then (I.head g 0).dsink else (0 : EReal) := by
  rw [Att.dsink_apply _ g l (h0_both I) (show 0 + g.val < 16 by omega), h0_head]
  exact if_congr (by rw [Fin.ext_iff]; simp [In.h0, sl]) rfl rfl

theorem h1_dsink : I.h1.dsink g (ix2 0 l) = if l = sl 1 g then (I.head g 1).dsink else (0 : EReal) := by
  rw [Att.dsink_apply _ g l (h1_both I) (show 8 + g.val < 16 by omega), h1_head]
  exact if_congr (by rw [Fin.ext_iff]; simp [In.h1, sl]) rfl rfl

theorem In.dsink_apply : I.dsink (ix2 0 l) = ∑ j, ∑ g, if l = sl j g then (I.head g j).dsink else (0 : EReal) := by
  have e : I.dsink (ix2 0 l) = (((((((((((((((I.h1.dsink 7 (ix2 0 l) + I.h1.dsink 6 (ix2 0 l)) + I.h1.dsink 5 (ix2 0 l)) + I.h1.dsink 4 (ix2 0 l)) + I.h1.dsink 3 (ix2 0 l)) + I.h1.dsink 2 (ix2 0 l)) + I.h1.dsink 1 (ix2 0 l)) + I.h1.dsink 0 (ix2 0 l)) +
      I.h0.dsink 7 (ix2 0 l)) + I.h0.dsink 6 (ix2 0 l)) + I.h0.dsink 5 (ix2 0 l)) + I.h0.dsink 4 (ix2 0 l)) + I.h0.dsink 3 (ix2 0 l)) + I.h0.dsink 2 (ix2 0 l)) + I.h0.dsink 1 (ix2 0 l)) + I.h0.dsink 0 (ix2 0 l) : EReal) := rfl
  rw [e]
  simp only [h0_dsink, h1_dsink, Fin.sum_univ_eight, Fin.sum_univ_two]
  ac_rfl

end Cert.KernelIdeal.Att

end
-- ==== Proof.Attention.Groups.lean ====
/- What each named operation group of a grid point's body gives when its operands are the stages of what the point
   reads: the stage it is. -/
module

public import proofs.«01_k».proof.Proof.Attention.Stages

@[expose] public section

set_option maxRecDepth 16384

noncomputable section

namespace Cert.KernelIdeal.Att

open Cert.KernelIdeal Cert.KernelIdeal.Gen Idealize.ShloMosaic Idealize.ShloMosaic.TcCoe Idealize.SL.Sem

/-- The lane numbers. -/
def lanes : IVec S128x128 32 := iota .tc S128x128 32 [1] iota_S128x128_d1_w32
def lanes0 : IVec S1x128 32 := extractStridedSlice S1x128 ![0, 0] lanes slices_S128x128_o0_0_S1x128

variable {F : FTy → Type} [FloatOps F] (I : In F)

/-- The sums over a block's rows, a column's own, the greatest of each row, and a column's whole sum. -/
def rowAdd (a : M F) : FVec F S128 .f32 := multiReduction .add [1] S128 a 0x00000000#32 reduces_S128x128_S128 (.inl rfl) rfl
def colAdd (a : Col F) : FVec F S128 .f32 := multiReduction .add [1] S128 a 0x00000000#32 reduces_S128x1_S128 (.inl rfl) rfl
def rowMax (a : M F) : FVec F S128 .f32 := multiReduction .maximumf [1] S128 a 0xFF800000#32 reduces_S128x128_S128 (.inl rfl) rfl
def sumCol (a : FVec F S1x128x1 .f32) : FVec F S1 .f32 := multiReduction .add [1, 2] S1 a 0x00000000#32 reduces_S1x128x1_S1 (.inl rfl) rfl
def sumOne (a : FVec F S1x1x1 .f32) : FVec F S1 .f32 := multiReduction .add [1, 2] S1 a 0x00000000#32 reduces_S1x1x1_S1 (.inl rfl) rfl
def keepL (a : M F) : M F := select left a zM
def keepR (a : M F) : M F := select left zM a
def sinkRow (k : BitVec 32) (a : Row F) : Row F := select (laneIs k) a zRow
def entry (a : FVec F S1x1x1 .f32) : F .f32 := extractAt ![0, 0, 0] a inpos_S1x1x1_p0_0_0
def L0 : BitVec 32 := 0#32
def L1 : BitVec 32 := 1#32
def L2 : BitVec 32 := 2#32
def L3 : BitVec 32 := 3#32
def L4 : BitVec 32 := 4#32
def L5 : BitVec 32 := 5#32
def L6 : BitVec 32 := 6#32
def L7 : BitVec 32 := 7#32
def L8 : BitVec 32 := 8#32
def L9 : BitVec 32 := 9#32
def L10 : BitVec 32 := 10#32
def L11 : BitVec 32 := 11#32
def L12 : BitVec 32 := 12#32
def L13 : BitVec 32 := 13#32
def L14 : BitVec 32 := 14#32
def L15 : BitVec 32 := 15#32
def zeroS : F .f32 := Scalar.ofBits .f32 0x00000000#32
def eighthS : F .f32 := Scalar.ofBits .f32 0x3E000000#32
def oneS : F .f32 := Scalar.ofBits .f32 0x3F800000#32
def infS : F .f32 := Scalar.ofBits .f32 0xFF800000#32

theorem pay11 : k0_pay11 I.kc = (swap I.kc) := rfl
theorem pay12 : k0_pay12 I.kc = I.h0.kc := rfl
theorem pay13 : k0_pay13 I.kc k0_pay8 (swap I.kc) = I.h1.kc := rfl
theorem pay15 : k0_pay15 I.kp k0_pay8 = I.h1.kp := rfl
theorem pay17 : k0_pay17 I.vc k0_pay8 = I.h0.vc := rfl
theorem pay18 : k0_pay18 I.vc k0_pay8 = I.h1.vc := rfl
theorem pay20 : k0_pay20 I.vp k0_pay8 = I.h0.vp := rfl
theorem pay21 : k0_pay21 I.vp k0_pay8 = I.h1.vp := rfl
theorem pay23 : k0_pay23 (I.q 0) (I.q 1) (I.q 2) (I.q 3) k0_pay8 = (truncf .bf16 I.h0.q8 bitsLt_bf16_f32) := rfl
theorem pay24 : k0_pay24 I.h0.kc = (truncf .bf16 I.h0.kc bitsLt_bf16_f32) := rfl
theorem pay26 : k0_pay26 (I.q 0) (I.q 1) (I.q 2) (I.q 3) k0_pay8 I.h0.kc = (blk 0 I.h0.sc8) := rfl
theorem pay27 : k0_pay27 (I.q 0) (I.q 1) (I.q 2) (I.q 3) k0_pay8 I.h0.kc = (blk 1 I.h0.sc8) := rfl
theorem pay28 : k0_pay28 (I.q 0) (I.q 1) (I.q 2) (I.q 3) k0_pay8 I.h0.kc = (blk 2 I.h0.sc8) := rfl
theorem pay29 : k0_pay29 (I.q 0) (I.q 1) (I.q 2) (I.q 3) k0_pay8 I.h0.kc = (blk 3 I.h0.sc8) := rfl
theorem pay30 : k0_pay30 (I.q 0) (I.q 1) (I.q 2) (I.q 3) k0_pay8 I.h0.kc = (blk 4 I.h0.sc8) := rfl
theorem pay31 : k0_pay31 (I.q 0) (I.q 1) (I.q 2) (I.q 3) k0_pay8 I.h0.kc = (blk 5 I.h0.sc8) := rfl
theorem pay32 : k0_pay32 (I.q 0) (I.q 1) (I.q 2) (I.q 3) k0_pay8 I.h0.kc = (blk 6 I.h0.sc8) := rfl
theorem pay33 : k0_pay33 (I.q 0) (I.q 1) (I.q 2) (I.q 3) k0_pay8 I.h0.kc = (blk 7 I.h0.sc8) := rfl
theorem pay34 : k0_pay34 (I.q 0) (I.q 1) (I.q 2) (I.q 3) k0_pay8 = (truncf .bf16 I.h0.q8 bitsLt_bf16_f32) := rfl
theorem pay35 : k0_pay35 I.kp k0_pay8 = (truncf .bf16 I.h0.kp bitsLt_bf16_f32) := rfl
theorem pay36 : k0_pay36 (I.q 0) (I.q 1) (I.q 2) (I.q 3) I.kp k0_pay8 = I.h0.sp8 := rfl
theorem pay37 : k0_pay37 (I.q 0) (I.q 1) (I.q 2) (I.q 3) I.kp k0_pay8 = (blk 0 I.h0.sp8) := rfl
theorem pay38 : k0_pay38 (I.q 0) (I.q 1) (I.q 2) (I.q 3) I.kp k0_pay8 = (blk 1 I.h0.sp8) := rfl
theorem pay39 : k0_pay39 (I.q 0) (I.q 1) (I.q 2) (I.q 3) I.kp k0_pay8 = (blk 2 I.h0.sp8) := rfl
theorem pay40 : k0_pay40 (I.q 0) (I.q 1) (I.q 2) (I.q 3) I.kp k0_pay8 = (blk 3 I.h0.sp8) := rfl
theorem pay41 : k0_pay41 (I.q 0) (I.q 1) (I.q 2) (I.q 3) I.kp k0_pay8 = (blk 4 I.h0.sp8) := rfl
theorem pay42 : k0_pay42 (I.q 0) (I.q 1) (I.q 2) (I.q 3) I.kp k0_pay8 = (blk 5 I.h0.sp8) := rfl
theorem pay43 : k0_pay43 I.h0.sp8 = (blk 6 I.h0.sp8) := rfl
theorem pay44 : k0_pay44 I.h0.sp8 = (blk 7 I.h0.sp8) := rfl
theorem pay46 : k0_pay46 lanes = (laneIs L0) := rfl
theorem pay49 : k0_pay49 I.first I.sink lanes k0_pay9 (blk 0 I.h0.sc8) (blk 0 I.h0.sp8) = (expV (I.h0.s 0) (I.h0.c 0)) := rfl
theorem pay50 : k0_pay50 I.first I.sink lanes k0_pay9 (blk 0 I.h0.sc8) (blk 0 I.h0.sp8) = (expSinkV (I.h0.s 0) (I.h0.c 0)) := rfl
theorem pay51 : k0_pay51 I.first I.sink lanes k0_pay9 (blk 0 I.h0.sc8) (blk 0 I.h0.sp8) = (denV (I.h0.s 0) (I.h0.c 0)) := rfl
theorem pay52 : k0_pay52 I.first I.sink lanes k0_pay9 (blk 0 I.h0.sc8) (blk 0 I.h0.sp8) = (I.h0.p 0) := rfl
theorem pay53 : k0_pay53 I.first I.sink lanes k0_pay9 (blk 0 I.h0.sc8) (blk 0 I.h0.sp8) = (recV (I.h0.s 0) (I.h0.c 0)) := rfl
theorem pay54 : k0_pay54 I.first k0_pay9 (blk 1 I.h0.sc8) (blk 1 I.h0.sp8) = (I.h0.s 1) := rfl
theorem pay55 : k0_pay55 lanes = (laneIs L1) := rfl
theorem pay56 : k0_pay56 I.sink lanes = (sinkRow L1 I.sink) := rfl
theorem pay59 : k0_pay59 (I.h0.s 1) (sinkRow L1 I.sink) = (expV (I.h0.s 1) (I.h0.c 1)) := rfl
theorem pay60 : k0_pay60 (I.h0.s 1) (sinkRow L1 I.sink) = (expSinkV (I.h0.s 1) (I.h0.c 1)) := rfl
theorem pay61 : k0_pay61 (I.h0.s 1) (sinkRow L1 I.sink) = (denV (I.h0.s 1) (I.h0.c 1)) := rfl
theorem pay62 : k0_pay62 (I.h0.s 1) (sinkRow L1 I.sink) = (I.h0.p 1) := rfl
theorem pay63 : k0_pay63 (I.h0.s 1) (sinkRow L1 I.sink) = (recV (I.h0.s 1) (I.h0.c 1)) := rfl
theorem pay65 : k0_pay65 lanes = (laneIs L2) := rfl
theorem pay68 : k0_pay68 I.first I.sink lanes k0_pay9 (blk 2 I.h0.sc8) (blk 2 I.h0.sp8) = (expV (I.h0.s 2) (I.h0.c 2)) := rfl
theorem pay69 : k0_pay69 I.first I.sink lanes k0_pay9 (blk 2 I.h0.sc8) (blk 2 I.h0.sp8) = (expSinkV (I.h0.s 2) (I.h0.c 2)) := rfl
theorem pay70 : k0_pay70 I.first I.sink lanes k0_pay9 (blk 2 I.h0.sc8) (blk 2 I.h0.sp8) = (denV (I.h0.s 2) (I.h0.c 2)) := rfl
theorem pay71 : k0_pay71 I.first I.sink lanes k0_pay9 (blk 2 I.h0.sc8) (blk 2 I.h0.sp8) = (broadcastTo S128x128 (denV (I.h0.s 2) (I.h0.c 2)) broadcasts_S128x1_S128x128) := rfl
theorem pay72 : k0_pay72 (expV (I.h0.s 2) (I.h0.c 2)) (broadcastTo S128x128 (denV (I.h0.s 2) (I.h0.c 2)) broadcasts_S128x1_S128x128) = (I.h0.p 2) := rfl
theorem pay73 : k0_pay73 (denV (I.h0.s 2) (I.h0.c 2)) = (recV (I.h0.s 2) (I.h0.c 2)) := rfl
theorem pay75 : k0_pay75 lanes = (laneIs L3) := rfl
theorem pay78 : k0_pay78 I.first I.sink lanes k0_pay9 (blk 3 I.h0.sc8) (blk 3 I.h0.sp8) = (expV (I.h0.s 3) (I.h0.c 3)) := rfl
theorem pay79 : k0_pay79 I.first I.sink lanes k0_pay9 (blk 3 I.h0.sc8) (blk 3 I.h0.sp8) = (expSinkV (I.h0.s 3) (I.h0.c 3)) := rfl
theorem pay80 : k0_pay80 I.first I.sink lanes k0_pay9 (blk 3 I.h0.sc8) (blk 3 I.h0.sp8) = (denV (I.h0.s 3) (I.h0.c 3)) := rfl
theorem pay81 : k0_pay81 I.first I.sink lanes k0_pay9 (blk 3 I.h0.sc8) (blk 3 I.h0.sp8) = (I.h0.p 3) := rfl
theorem pay82 : k0_pay82 I.first I.sink lanes k0_pay9 (blk 3 I.h0.sc8) (blk 3 I.h0.sp8) = (recV (I.h0.s 3) (I.h0.c 3)) := rfl
theorem pay83 : k0_pay83 I.first k0_pay9 (blk 4 I.h0.sc8) (blk 4 I.h0.sp8) = (I.h0.s 4) := rfl
theorem pay84 : k0_pay84 lanes = (laneIs L4) := rfl
theorem pay87 : k0_pay87 I.sink (I.h0.s 4) (laneIs L4) = (expV (I.h0.s 4) (I.h0.c 4)) := rfl
theorem pay88 : k0_pay88 I.sink (I.h0.s 4) (laneIs L4) = (expSinkV (I.h0.s 4) (I.h0.c 4)) := rfl
theorem pay89 : k0_pay89 I.sink (I.h0.s 4) (laneIs L4) = (denV (I.h0.s 4) (I.h0.c 4)) := rfl
theorem pay90 : k0_pay90 I.sink (I.h0.s 4) (laneIs L4) = (I.h0.p 4) := rfl
theorem pay91 : k0_pay91 I.sink (I.h0.s 4) (laneIs L4) = (recV (I.h0.s 4) (I.h0.c 4)) := rfl
theorem pay93 : k0_pay93 lanes = (laneIs L5) := rfl
theorem pay96 : k0_pay96 I.first I.sink lanes k0_pay9 (blk 5 I.h0.sc8) (blk 5 I.h0.sp8) = (expV (I.h0.s 5) (I.h0.c 5)) := rfl
theorem pay97 : k0_pay97 I.first I.sink lanes k0_pay9 (blk 5 I.h0.sc8) (blk 5 I.h0.sp8) = (rowSumV (expV (I.h0.s 5) (I.h0.c 5))) := rfl
theorem pay98 : k0_pay98 I.first I.sink lanes k0_pay9 (blk 5 I.h0.sc8) (blk 5 I.h0.sp8) = (subf (broadcastTo S128x1 (I.h0.c 5) broadcasts_S1x1_S128x1) (maxV (I.h0.s 5) (I.h0.c 5))) := rfl
theorem pay99 : k0_pay99 (subf (broadcastTo S128x1 (I.h0.c 5) broadcasts_S1x1_S128x1) (maxV (I.h0.s 5) (I.h0.c 5))) = (expSinkV (I.h0.s 5) (I.h0.c 5)) := rfl
theorem pay100 : k0_pay100 (rowSumV (expV (I.h0.s 5) (I.h0.c 5))) (subf (broadcastTo S128x1 (I.h0.c 5) broadcasts_S1x1_S128x1) (maxV (I.h0.s 5) (I.h0.c 5))) = (denV (I.h0.s 5) (I.h0.c 5)) := rfl
theorem pay101 : k0_pay101 (expV (I.h0.s 5) (I.h0.c 5)) (rowSumV (expV (I.h0.s 5) (I.h0.c 5))) (subf (broadcastTo S128x1 (I.h0.c 5) broadcasts_S1x1_S128x1) (maxV (I.h0.s 5) (I.h0.c 5))) = (I.h0.p 5) := rfl
theorem pay102 : k0_pay102 (rowSumV (expV (I.h0.s 5) (I.h0.c 5))) (subf (broadcastTo S128x1 (I.h0.c 5) broadcasts_S1x1_S128x1) (maxV (I.h0.s 5) (I.h0.c 5))) = (recV (I.h0.s 5) (I.h0.c 5)) := rfl
theorem pay104 : k0_pay104 lanes = (laneIs L6) := rfl
theorem pay107 : k0_pay107 I.first I.sink lanes k0_pay9 (blk 6 I.h0.sc8) (blk 6 I.h0.sp8) = (expV (I.h0.s 6) (I.h0.c 6)) := rfl
theorem pay108 : k0_pay108 I.first I.sink lanes k0_pay9 (blk 6 I.h0.sc8) (blk 6 I.h0.sp8) = (expSinkV (I.h0.s 6) (I.h0.c 6)) := rfl
theorem pay109 : k0_pay109 I.first I.sink lanes k0_pay9 (blk 6 I.h0.sc8) (blk 6 I.h0.sp8) = (denV (I.h0.s 6) (I.h0.c 6)) := rfl
theorem pay110 : k0_pay110 I.first I.sink lanes k0_pay9 (blk 6 I.h0.sc8) (blk 6 I.h0.sp8) = (I.h0.p 6) := rfl
theorem pay111 : k0_pay111 I.first I.sink lanes k0_pay9 (blk 6 I.h0.sc8) (blk 6 I.h0.sp8) = (recV (I.h0.s 6) (I.h0.c 6)) := rfl
theorem pay112 : k0_pay112 I.first k0_pay9 (blk 7 I.h0.sc8) (blk 7 I.h0.sp8) = (I.h0.s 7) := rfl
theorem pay113 : k0_pay113 lanes = lanes0 := rfl
theorem pay114 : k0_pay114 lanes0 = (laneIs L7) := rfl
theorem pay117 : k0_pay117 I.sink (I.h0.s 7) lanes0 = (expV (I.h0.s 7) (I.h0.c 7)) := rfl
theorem pay118 : k0_pay118 I.sink (I.h0.s 7) lanes0 = (expSinkV (I.h0.s 7) (I.h0.c 7)) := rfl
theorem pay119 : k0_pay119 I.sink (I.h0.s 7) lanes0 = (denV (I.h0.s 7) (I.h0.c 7)) := rfl
theorem pay120 : k0_pay120 I.sink (I.h0.s 7) lanes0 = (recV (I.h0.s 7) (I.h0.c 7)) := rfl
theorem pay122 : k0_pay122 I.sink k0_pay10 (I.h0.p 0) (I.h0.p 1) (I.h0.p 2) (I.h0.p 3) (I.h0.p 4) (I.h0.p 5) (I.h0.p 6) (I.h0.s 7) lanes0 = (truncf .bf16 (select k0_pay10 I.h0.p8 zM8) bitsLt_bf16_f32) := rfl
theorem pay123 : k0_pay123 I.h0.vc = (truncf .bf16 I.h0.vc bitsLt_bf16_f32) := rfl
theorem pay124 : k0_pay124 I.sink k0_pay10 (I.h0.p 0) (I.h0.p 1) (I.h0.p 2) (I.h0.p 3) (I.h0.p 4) (I.h0.p 5) (I.h0.p 6) (I.h0.s 7) lanes0 = (truncf .bf16 (select k0_pay10 zM8 I.h0.p8) bitsLt_bf16_f32) := rfl
theorem pay125 : k0_pay125 I.h0.vp = (truncf .bf16 I.h0.vp bitsLt_bf16_f32) := rfl
theorem pay126 : k0_pay126 (I.q 4) k0_pay8 = (keepL (I.q 4)) := rfl
theorem pay127 : k0_pay127 (I.q 4) k0_pay8 = (keepR (I.q 4)) := rfl
theorem pay128 : k0_pay128 (I.q 5) k0_pay8 = (keepL (I.q 5)) := rfl
theorem pay129 : k0_pay129 (I.q 5) k0_pay8 = (keepR (I.q 5)) := rfl
theorem pay130 : k0_pay130 (I.q 6) k0_pay8 = (keepL (I.q 6)) := rfl
theorem pay131 : k0_pay131 (I.q 6) k0_pay8 = (keepR (I.q 6)) := rfl
theorem pay133 : k0_pay133 (I.q 7) k0_pay8 (keepL (I.q 4)) (keepR (I.q 4)) (keepL (I.q 5)) (keepR (I.q 5)) (keepL (I.q 6)) (keepR (I.q 6)) zeroS = (truncf .bf16 I.h1.q8 bitsLt_bf16_f32) := rfl
theorem pay134 : k0_pay134 I.h1.kc = (truncf .bf16 I.h1.kc bitsLt_bf16_f32) := rfl
theorem pay136 : k0_pay136 (I.q 7) k0_pay8 I.h1.kc (keepL (I.q 4)) (keepR (I.q 4)) (keepL (I.q 5)) (keepR (I.q 5)) (keepL (I.q 6)) (keepR (I.q 6)) zeroS = (blk 1 I.h1.sc8) := rfl
theorem pay137 : k0_pay137 (I.q 7) k0_pay8 I.h1.kc (keepL (I.q 4)) (keepR (I.q 4)) (keepL (I.q 5)) (keepR (I.q 5)) (keepL (I.q 6)) (keepR (I.q 6)) zeroS = (blk 2 I.h1.sc8) := rfl
theorem pay138 : k0_pay138 (I.q 7) k0_pay8 I.h1.kc (keepL (I.q 4)) (keepR (I.q 4)) (keepL (I.q 5)) (keepR (I.q 5)) (keepL (I.q 6)) (keepR (I.q 6)) zeroS = (blk 3 I.h1.sc8) := rfl
theorem pay139 : k0_pay139 (I.q 7) k0_pay8 I.h1.kc (keepL (I.q 4)) (keepR (I.q 4)) (keepL (I.q 5)) (keepR (I.q 5)) (keepL (I.q 6)) (keepR (I.q 6)) zeroS = (blk 4 I.h1.sc8) := rfl
theorem pay140 : k0_pay140 (I.q 7) k0_pay8 I.h1.kc (keepL (I.q 4)) (keepR (I.q 4)) (keepL (I.q 5)) (keepR (I.q 5)) (keepL (I.q 6)) (keepR (I.q 6)) zeroS = (blk 5 I.h1.sc8) := rfl
theorem pay141 : k0_pay141 (I.q 7) k0_pay8 I.h1.kc (keepL (I.q 4)) (keepR (I.q 4)) (keepL (I.q 5)) (keepR (I.q 5)) (keepL (I.q 6)) (keepR (I.q 6)) zeroS = (blk 6 I.h1.sc8) := rfl
theorem pay142 : k0_pay142 (I.q 7) k0_pay8 I.h1.kc (keepL (I.q 4)) (keepR (I.q 4)) (keepL (I.q 5)) (keepR (I.q 5)) (keepL (I.q 6)) (keepR (I.q 6)) zeroS = (blk 7 I.h1.sc8) := rfl
theorem pay143 : k0_pay143 (I.q 7) k0_pay8 (keepL (I.q 4)) (keepR (I.q 4)) (keepL (I.q 5)) (keepR (I.q 5)) (keepL (I.q 6)) (keepR (I.q 6)) zeroS = (truncf .bf16 I.h1.q8 bitsLt_bf16_f32) := rfl
theorem pay144 : k0_pay144 I.h1.kp = (truncf .bf16 I.h1.kp bitsLt_bf16_f32) := rfl
theorem pay146 : k0_pay146 (I.q 7) k0_pay8 I.h1.kp (keepL (I.q 4)) (keepR (I.q 4)) (keepL (I.q 5)) (keepR (I.q 5)) (keepL (I.q 6)) (keepR (I.q 6)) zeroS = (blk 1 I.h1.sp8) := rfl
theorem pay147 : k0_pay147 (I.q 7) k0_pay8 I.h1.kp (keepL (I.q 4)) (keepR (I.q 4)) (keepL (I.q 5)) (keepR (I.q 5)) (keepL (I.q 6)) (keepR (I.q 6)) zeroS = (blk 2 I.h1.sp8) := rfl
theorem pay148 : k0_pay148 (I.q 7) k0_pay8 I.h1.kp (keepL (I.q 4)) (keepR (I.q 4)) (keepL (I.q 5)) (keepR (I.q 5)) (keepL (I.q 6)) (keepR (I.q 6)) zeroS = (blk 3 I.h1.sp8) := rfl
theorem pay149 : k0_pay149 (I.q 7) k0_pay8 I.h1.kp (keepL (I.q 4)) (keepR (I.q 4)) (keepL (I.q 5)) (keepR (I.q 5)) (keepL (I.q 6)) (keepR (I.q 6)) zeroS = (blk 4 I.h1.sp8) := rfl
theorem pay150 : k0_pay150 (I.q 7) k0_pay8 I.h1.kp (keepL (I.q 4)) (keepR (I.q 4)) (keepL (I.q 5)) (keepR (I.q 5)) (keepL (I.q 6)) (keepR (I.q 6)) zeroS = (blk 5 I.h1.sp8) := rfl
theorem pay151 : k0_pay151 (I.q 7) k0_pay8 I.h1.kp (keepL (I.q 4)) (keepR (I.q 4)) (keepL (I.q 5)) (keepR (I.q 5)) (keepL (I.q 6)) (keepR (I.q 6)) zeroS = (blk 6 I.h1.sp8) := rfl
theorem pay152 : k0_pay152 (I.q 7) k0_pay8 I.h1.kp (keepL (I.q 4)) (keepR (I.q 4)) (keepL (I.q 5)) (keepR (I.q 5)) (keepL (I.q 6)) (keepR (I.q 6)) zeroS = (blk 7 I.h1.sp8) := rfl
theorem pay154 : k0_pay154 lanes = (laneIs L8) := rfl
theorem pay155 : k0_pay155 I.sink lanes = (I.h1.c 0) := rfl
theorem pay156 : k0_pay156 (I.q 7) I.first I.sink lanes k0_pay8 k0_pay9 I.h1.kc I.h1.kp (keepL (I.q 4)) (keepR (I.q 4)) (keepL (I.q 5)) (keepR (I.q 5)) (keepL (I.q 6)) (keepR (I.q 6)) zeroS = (maxV (I.h1.s 0) (I.h1.c 0)) := rfl
theorem pay157 : k0_pay157 (I.q 7) I.first I.sink lanes k0_pay8 k0_pay9 I.h1.kc I.h1.kp (keepL (I.q 4)) (keepR (I.q 4)) (keepL (I.q 5)) (keepR (I.q 5)) (keepL (I.q 6)) (keepR (I.q 6)) zeroS = (expV (I.h1.s 0) (I.h1.c 0)) := rfl
theorem pay158 : k0_pay158 (I.q 7) I.first I.sink lanes k0_pay8 k0_pay9 I.h1.kc I.h1.kp (keepL (I.q 4)) (keepR (I.q 4)) (keepL (I.q 5)) (keepR (I.q 5)) (keepL (I.q 6)) (keepR (I.q 6)) zeroS = (rowAdd (expV (I.h1.s 0) (I.h1.c 0))) := rfl
theorem pay159 : k0_pay159 (I.h1.c 0) (maxV (I.h1.s 0) (I.h1.c 0)) = (expSinkV (I.h1.s 0) (I.h1.c 0)) := rfl
theorem pay160 : k0_pay160 (I.h1.c 0) (maxV (I.h1.s 0) (I.h1.c 0)) (rowAdd (expV (I.h1.s 0) (I.h1.c 0))) = (denV (I.h1.s 0) (I.h1.c 0)) := rfl
theorem pay161 : k0_pay161 (I.h1.c 0) (maxV (I.h1.s 0) (I.h1.c 0)) (expV (I.h1.s 0) (I.h1.c 0)) (rowAdd (expV (I.h1.s 0) (I.h1.c 0))) = (I.h1.p 0) := rfl
theorem pay162 : k0_pay162 (I.h1.c 0) (maxV (I.h1.s 0) (I.h1.c 0)) (rowAdd (expV (I.h1.s 0) (I.h1.c 0))) = (recV (I.h1.s 0) (I.h1.c 0)) := rfl
theorem pay164 : k0_pay164 lanes = (laneIs L9) := rfl
theorem pay167 : k0_pay167 I.first I.sink lanes k0_pay9 (blk 1 I.h1.sc8) (blk 1 I.h1.sp8) = (expV (I.h1.s 1) (I.h1.c 1)) := rfl
theorem pay168 : k0_pay168 I.first I.sink lanes k0_pay9 (blk 1 I.h1.sc8) (blk 1 I.h1.sp8) = (expSinkV (I.h1.s 1) (I.h1.c 1)) := rfl
theorem pay169 : k0_pay169 I.first I.sink lanes k0_pay9 (blk 1 I.h1.sc8) (blk 1 I.h1.sp8) = (denV (I.h1.s 1) (I.h1.c 1)) := rfl
theorem pay170 : k0_pay170 I.first I.sink lanes k0_pay9 (blk 1 I.h1.sc8) (blk 1 I.h1.sp8) = (I.h1.p 1) := rfl
theorem pay171 : k0_pay171 I.first I.sink lanes k0_pay9 (blk 1 I.h1.sc8) (blk 1 I.h1.sp8) = (recV (I.h1.s 1) (I.h1.c 1)) := rfl
theorem pay172 : k0_pay172 (blk 2 I.h1.sc8) = (mulf (blk 2 I.h1.sc8) (broadcast S128x128 eighthS)) := rfl
theorem pay173 : k0_pay173 (blk 2 I.h1.sp8) = (mulf (blk 2 I.h1.sp8) (broadcast S128x128 eighthS)) := rfl
theorem pay174 : (k0_pay174 : FVec F S128x128 .f32) = (broadcast S128x128 infS) := rfl
theorem pay176 : k0_pay176 lanes = (laneIs L10) := rfl
theorem pay179 : k0_pay179 I.first I.sink lanes k0_pay9 (mulf (blk 2 I.h1.sc8) (broadcast S128x128 eighthS)) (mulf (blk 2 I.h1.sp8) (broadcast S128x128 eighthS)) (broadcast S128x128 infS) = (expV (I.h1.s 2) (I.h1.c 2)) := rfl
theorem pay180 : k0_pay180 I.first I.sink lanes k0_pay9 (mulf (blk 2 I.h1.sc8) (broadcast S128x128 eighthS)) (mulf (blk 2 I.h1.sp8) (broadcast S128x128 eighthS)) (broadcast S128x128 infS) = (expSinkV (I.h1.s 2) (I.h1.c 2)) := rfl
theorem pay181 : k0_pay181 I.first I.sink lanes k0_pay9 (mulf (blk 2 I.h1.sc8) (broadcast S128x128 eighthS)) (mulf (blk 2 I.h1.sp8) (broadcast S128x128 eighthS)) (broadcast S128x128 infS) = (denV (I.h1.s 2) (I.h1.c 2)) := rfl
theorem pay182 : k0_pay182 I.first I.sink lanes k0_pay9 (mulf (blk 2 I.h1.sc8) (broadcast S128x128 eighthS)) (mulf (blk 2 I.h1.sp8) (broadcast S128x128 eighthS)) (broadcast S128x128 infS) = (I.h1.p 2) := rfl
theorem pay183 : k0_pay183 I.first I.sink lanes k0_pay9 (mulf (blk 2 I.h1.sc8) (broadcast S128x128 eighthS)) (mulf (blk 2 I.h1.sp8) (broadcast S128x128 eighthS)) (broadcast S128x128 infS) = (recV (I.h1.s 2) (I.h1.c 2)) := rfl
theorem pay185 : k0_pay185 lanes = (laneIs L11) := rfl
theorem pay186 : k0_pay186 I.sink lanes = (I.h1.c 3) := rfl
theorem pay187 : k0_pay187 I.first I.sink lanes k0_pay9 (blk 3 I.h1.sc8) (blk 3 I.h1.sp8) = (maxV (I.h1.s 3) (I.h1.c 3)) := rfl
theorem pay188 : k0_pay188 I.first I.sink lanes k0_pay9 (blk 3 I.h1.sc8) (blk 3 I.h1.sp8) = (subf (I.h1.s 3) (broadcastTo S128x128 (maxV (I.h1.s 3) (I.h1.c 3)) broadcasts_S128x1_S128x128)) := rfl
theorem pay189 : k0_pay189 (subf (I.h1.s 3) (broadcastTo S128x128 (maxV (I.h1.s 3) (I.h1.c 3)) broadcasts_S128x1_S128x128)) = (expV (I.h1.s 3) (I.h1.c 3)) := rfl
theorem pay190 : k0_pay190 (I.h1.c 3) (maxV (I.h1.s 3) (I.h1.c 3)) = (expSinkV (I.h1.s 3) (I.h1.c 3)) := rfl
theorem pay191 : k0_pay191 (I.h1.c 3) (maxV (I.h1.s 3) (I.h1.c 3)) (subf (I.h1.s 3) (broadcastTo S128x128 (maxV (I.h1.s 3) (I.h1.c 3)) broadcasts_S128x1_S128x128)) = (denV (I.h1.s 3) (I.h1.c 3)) := rfl
theorem pay192 : k0_pay192 (I.h1.c 3) (maxV (I.h1.s 3) (I.h1.c 3)) (subf (I.h1.s 3) (broadcastTo S128x128 (maxV (I.h1.s 3) (I.h1.c 3)) broadcasts_S128x1_S128x128)) = (I.h1.p 3) := rfl
theorem pay193 : k0_pay193 (I.h1.c 3) (maxV (I.h1.s 3) (I.h1.c 3)) (subf (I.h1.s 3) (broadcastTo S128x128 (maxV (I.h1.s 3) (I.h1.c 3)) broadcasts_S128x1_S128x128)) = (recV (I.h1.s 3) (I.h1.c 3)) := rfl
theorem pay195 : k0_pay195 lanes = (laneIs L12) := rfl
theorem pay198 : k0_pay198 I.first I.sink lanes k0_pay9 (blk 4 I.h1.sc8) (blk 4 I.h1.sp8) = (expV (I.h1.s 4) (I.h1.c 4)) := rfl
theorem pay199 : k0_pay199 I.first I.sink lanes k0_pay9 (blk 4 I.h1.sc8) (blk 4 I.h1.sp8) = (expSinkV (I.h1.s 4) (I.h1.c 4)) := rfl
theorem pay200 : k0_pay200 I.first I.sink lanes k0_pay9 (blk 4 I.h1.sc8) (blk 4 I.h1.sp8) = (denV (I.h1.s 4) (I.h1.c 4)) := rfl
theorem pay201 : k0_pay201 I.first I.sink lanes k0_pay9 (blk 4 I.h1.sc8) (blk 4 I.h1.sp8) = (I.h1.p 4) := rfl
theorem pay202 : k0_pay202 I.first I.sink lanes k0_pay9 (blk 4 I.h1.sc8) (blk 4 I.h1.sp8) = (recV (I.h1.s 4) (I.h1.c 4)) := rfl
theorem pay203 : k0_pay203 (blk 5 I.h1.sc8) = (mulf (blk 5 I.h1.sc8) (broadcast S128x128 eighthS)) := rfl
theorem pay204 : (k0_pay204 : FVec F S128x128 .f32) = (broadcast S128x128 eighthS) := rfl
theorem pay206 : k0_pay206 lanes = (laneIs L13) := rfl
theorem pay209 : k0_pay209 I.first I.sink lanes k0_pay9 (blk 5 I.h1.sp8) (mulf (blk 5 I.h1.sc8) (broadcast S128x128 eighthS)) (broadcast S128x128 eighthS) = (expV (I.h1.s 5) (I.h1.c 5)) := rfl
theorem pay210 : k0_pay210 I.first I.sink lanes k0_pay9 (blk 5 I.h1.sp8) (mulf (blk 5 I.h1.sc8) (broadcast S128x128 eighthS)) (broadcast S128x128 eighthS) = (expSinkV (I.h1.s 5) (I.h1.c 5)) := rfl
theorem pay211 : k0_pay211 I.first I.sink lanes k0_pay9 (blk 5 I.h1.sp8) (mulf (blk 5 I.h1.sc8) (broadcast S128x128 eighthS)) (broadcast S128x128 eighthS) = (denV (I.h1.s 5) (I.h1.c 5)) := rfl
theorem pay212 : k0_pay212 I.first I.sink lanes k0_pay9 (blk 5 I.h1.sp8) (mulf (blk 5 I.h1.sc8) (broadcast S128x128 eighthS)) (broadcast S128x128 eighthS) = (I.h1.p 5) := rfl
theorem pay213 : k0_pay213 I.first I.sink lanes k0_pay9 (blk 5 I.h1.sp8) (mulf (blk 5 I.h1.sc8) (broadcast S128x128 eighthS)) (broadcast S128x128 eighthS) = (recV (I.h1.s 5) (I.h1.c 5)) := rfl
theorem pay214 : k0_pay214 I.first k0_pay9 (blk 6 I.h1.sc8) (blk 6 I.h1.sp8) = (I.h1.s 6) := rfl
theorem pay215 : k0_pay215 lanes = (laneIs L14) := rfl
theorem pay216 : k0_pay216 I.sink lanes = (I.h1.c 6) := rfl
theorem pay217 : k0_pay217 I.first k0_pay9 (blk 6 I.h1.sc8) (blk 6 I.h1.sp8) = (shapeCast S128x1 (rowMax (I.h1.s 6)) shapeCasts_S128_S128x1) := rfl
theorem pay218 : k0_pay218 I.sink lanes = (broadcastTo S128x1 (I.h1.c 6) broadcasts_S1x1_S128x1) := rfl
theorem pay220 : k0_pay220 (I.h1.s 6) (shapeCast S128x1 (rowMax (I.h1.s 6)) shapeCasts_S128_S128x1) (broadcastTo S128x1 (I.h1.c 6) broadcasts_S1x1_S128x1) = (expV (I.h1.s 6) (I.h1.c 6)) := rfl
theorem pay221 : k0_pay221 (I.h1.c 6) (shapeCast S128x1 (rowMax (I.h1.s 6)) shapeCasts_S128_S128x1) (broadcastTo S128x1 (I.h1.c 6) broadcasts_S1x1_S128x1) = (expSinkV (I.h1.s 6) (I.h1.c 6)) := rfl
theorem pay222 : k0_pay222 (I.h1.s 6) (I.h1.c 6) (shapeCast S128x1 (rowMax (I.h1.s 6)) shapeCasts_S128_S128x1) (broadcastTo S128x1 (I.h1.c 6) broadcasts_S1x1_S128x1) = (denV (I.h1.s 6) (I.h1.c 6)) := rfl
theorem pay223 : k0_pay223 (I.h1.s 6) (I.h1.c 6) (shapeCast S128x1 (rowMax (I.h1.s 6)) shapeCasts_S128_S128x1) (broadcastTo S128x1 (I.h1.c 6) broadcasts_S1x1_S128x1) = (recV (I.h1.s 6) (I.h1.c 6)) := rfl
theorem pay225 : k0_pay225 lanes = (laneIs L15) := rfl
theorem pay228 : k0_pay228 I.first I.sink lanes k0_pay9 (blk 7 I.h1.sc8) (blk 7 I.h1.sp8) = (expV (I.h1.s 7) (I.h1.c 7)) := rfl
theorem pay229 : k0_pay229 I.first I.sink lanes k0_pay9 (blk 7 I.h1.sc8) (blk 7 I.h1.sp8) = (expSinkV (I.h1.s 7) (I.h1.c 7)) := rfl
theorem pay230 : k0_pay230 I.first I.sink lanes k0_pay9 (blk 7 I.h1.sc8) (blk 7 I.h1.sp8) = (denV (I.h1.s 7) (I.h1.c 7)) := rfl
theorem pay231 : k0_pay231 I.first I.sink lanes k0_pay9 (blk 7 I.h1.sc8) (blk 7 I.h1.sp8) = (recV (I.h1.s 7) (I.h1.c 7)) := rfl
theorem pay232 : k0_pay232 I.first I.sink lanes k0_pay9 (blk 7 I.h1.sc8) (blk 7 I.h1.sp8) (I.h1.p 0) (I.h1.p 1) (I.h1.p 2) (I.h1.p 3) (I.h1.p 4) (I.h1.p 5) (I.h1.s 6) (I.h1.c 6) (shapeCast S128x1 (rowMax (I.h1.s 6)) shapeCasts_S128_S128x1) (broadcastTo S128x1 (I.h1.c 6) broadcasts_S1x1_S128x1) = I.h1.p8 := rfl
theorem pay233 : k0_pay233 k0_pay10 I.h1.p8 zeroS = (truncf .bf16 (select k0_pay10 I.h1.p8 zM8) bitsLt_bf16_f32) := rfl
theorem pay234 : k0_pay234 I.h1.vc = (truncf .bf16 I.h1.vc bitsLt_bf16_f32) := rfl
theorem pay235 : k0_pay235 I.h1.vp = (truncf .bf16 I.h1.vp bitsLt_bf16_f32) := rfl
theorem pay236 : k0_pay236 (I.o 0) = (extf .f32 (I.o 0) bitsLt_bf16_f32) := rfl
theorem pay237 : k0_pay237 (I.o 1) = (extf .f32 (I.o 1) bitsLt_bf16_f32) := rfl
theorem pay238 : k0_pay238 (I.o 2) = (extf .f32 (I.o 2) bitsLt_bf16_f32) := rfl
theorem pay239 : k0_pay239 (I.o 3) = (extf .f32 (I.o 3) bitsLt_bf16_f32) := rfl
theorem pay240 : k0_pay240 k0_pay8 (I.o 4) (I.o 5) (I.o 6) (I.o 7) = I.h1.o8 := rfl
theorem pay241 : k0_pay241 k0_pay8 k0_pay10 I.h1.p8 (I.o 4) (I.o 5) (I.o 6) (I.o 7) = (matmul dot_S1024x128_S1024x128_S128x128_0_0_1_1_n_n none I.h1.o8 (truncf .bf16 (select k0_pay10 zM8 I.h1.p8) bitsLt_bf16_f32) (constant S128x128 .f32 0x00000000#32)) := rfl
theorem pay242 : k0_pay242 (matmul dot_S1024x128_S1024x128_S128x128_0_0_1_1_n_n none I.h1.o8 (truncf .bf16 (select k0_pay10 zM8 I.h1.p8) bitsLt_bf16_f32) (constant S128x128 .f32 0x00000000#32)) = I.h1.dvp := rfl
theorem pay243 : k0_pay243 (truncf .bf16 (select k0_pay10 I.h1.p8 zM8) bitsLt_bf16_f32) I.h1.o8 = I.h1.dvc := rfl
theorem pay245 : k0_pay245 k0_pay10 (truncf .bf16 I.h1.vc bitsLt_bf16_f32) (truncf .bf16 I.h1.vp bitsLt_bf16_f32) I.h1.o8 = (I.h1.dp 0) := rfl
theorem pay246 : k0_pay246 k0_pay10 (truncf .bf16 I.h1.vc bitsLt_bf16_f32) (truncf .bf16 I.h1.vp bitsLt_bf16_f32) I.h1.o8 = (I.h1.dp 1) := rfl
theorem pay247 : k0_pay247 k0_pay10 (truncf .bf16 I.h1.vc bitsLt_bf16_f32) (truncf .bf16 I.h1.vp bitsLt_bf16_f32) I.h1.o8 = (I.h1.dp 2) := rfl
theorem pay248 : k0_pay248 k0_pay10 (truncf .bf16 I.h1.vc bitsLt_bf16_f32) (truncf .bf16 I.h1.vp bitsLt_bf16_f32) I.h1.o8 = (I.h1.dp 3) := rfl
theorem pay249 : k0_pay249 k0_pay10 (truncf .bf16 I.h1.vc bitsLt_bf16_f32) (truncf .bf16 I.h1.vp bitsLt_bf16_f32) I.h1.o8 = (I.h1.dp 4) := rfl
theorem pay250 : k0_pay250 k0_pay10 (truncf .bf16 I.h1.vc bitsLt_bf16_f32) (truncf .bf16 I.h1.vp bitsLt_bf16_f32) I.h1.o8 = (I.h1.dp 5) := rfl
theorem pay251 : k0_pay251 k0_pay10 (truncf .bf16 I.h1.vc bitsLt_bf16_f32) (truncf .bf16 I.h1.vp bitsLt_bf16_f32) I.h1.o8 = (I.h1.dp 6) := rfl
theorem pay254 : k0_pay254 k0_pay10 (expV (I.h1.s 7) (I.h1.c 7)) (denV (I.h1.s 7) (I.h1.c 7)) (recV (I.h1.s 7) (I.h1.c 7)) (truncf .bf16 I.h1.vc bitsLt_bf16_f32) (truncf .bf16 I.h1.vp bitsLt_bf16_f32) I.h1.o8 = (I.h1.ds 7) := rfl
theorem pay255 : k0_pay255 k0_pay10 (expV (I.h1.s 7) (I.h1.c 7)) (expSinkV (I.h1.s 7) (I.h1.c 7)) (recV (I.h1.s 7) (I.h1.c 7)) (truncf .bf16 I.h1.vc bitsLt_bf16_f32) (truncf .bf16 I.h1.vp bitsLt_bf16_f32) I.h1.o8 = (shapeCast S1x1x1 (sumOne (shapeCast S1x1x1 (shapeCast S1x1 (broadcast S1 (entry (shapeCast S1x1x1 (sumCol (shapeCast S1x128x1 (mulf (ddenV (I.h1.s 7) (I.h1.c 7) (I.h1.dp 7)) (expSinkV (I.h1.s 7) (I.h1.c 7))) shapeCasts_S128x1_S1x128x1)) shapeCasts_S1_S1x1x1))) shapeCasts_S1_S1x1) shapeCasts_S1x1_S1x1x1)) shapeCasts_S1_S1x1x1) := rfl
theorem pay256 : (k0_pay256 : FVec F S128x128 .f32) = zM := rfl
theorem pay257 : k0_pay257 I.first k0_pay9 (I.h1.ds 7) = (dprevV I.first (I.h1.ds 7)) := rfl
theorem pay258 : k0_pay258 k0_pay9 (I.h1.ds 7) = (dcurV (I.h1.ds 7)) := rfl
theorem pay260 : k0_pay260 (expV (I.h1.s 6) (I.h1.c 6)) (denV (I.h1.s 6) (I.h1.c 6)) (recV (I.h1.s 6) (I.h1.c 6)) (I.h1.dp 6) = (I.h1.ds 6) := rfl
theorem pay261 : k0_pay261 (laneIs L14) (expV (I.h1.s 6) (I.h1.c 6)) (expSinkV (I.h1.s 6) (I.h1.c 6)) (recV (I.h1.s 6) (I.h1.c 6)) (laneIs L15) (I.h1.dp 6) (shapeCast S1x1x1 (sumOne (shapeCast S1x1x1 (shapeCast S1x1 (broadcast S1 (entry (shapeCast S1x1x1 (sumCol (shapeCast S1x128x1 (mulf (ddenV (I.h1.s 7) (I.h1.c 7) (I.h1.dp 7)) (expSinkV (I.h1.s 7) (I.h1.c 7))) shapeCasts_S128x1_S1x128x1)) shapeCasts_S1_S1x1x1))) shapeCasts_S1_S1x1) shapeCasts_S1x1_S1x1x1)) shapeCasts_S1_S1x1x1) = (addf (I.h1.dsink 7) (I.h1.dsink 6)) := rfl
theorem pay262 : (k0_pay262 : FVec F S128x128 .f32) = zM := rfl
theorem pay263 : k0_pay263 k0_pay9 (expV (I.h1.s 6) (I.h1.c 6)) (denV (I.h1.s 6) (I.h1.c 6)) (recV (I.h1.s 6) (I.h1.c 6)) (I.h1.dp 6) = (select k0_pay9 zM (I.h1.ds 6)) := rfl
theorem pay264 : k0_pay264 I.first (select k0_pay9 zM (I.h1.ds 6)) = (dprevV I.first (I.h1.ds 6)) := rfl
theorem pay265 : k0_pay265 k0_pay9 (I.h1.ds 6) zM = (dcurV (I.h1.ds 6)) := rfl
theorem pay268 : k0_pay268 (laneIs L13) (expV (I.h1.s 5) (I.h1.c 5)) (expSinkV (I.h1.s 5) (I.h1.c 5)) (recV (I.h1.s 5) (I.h1.c 5)) (I.h1.dp 5) (addf (I.h1.dsink 7) (I.h1.dsink 6)) = (addf (addf (I.h1.dsink 7) (I.h1.dsink 6)) (I.h1.dsink 5)) := rfl
theorem pay269 : (k0_pay269 : FVec F S128x128 .f32) = zM := rfl
theorem pay270 : k0_pay270 I.first k0_pay9 (expV (I.h1.s 5) (I.h1.c 5)) (denV (I.h1.s 5) (I.h1.c 5)) (recV (I.h1.s 5) (I.h1.c 5)) (I.h1.dp 5) = (dprevV I.first (I.h1.ds 5)) := rfl
theorem pay271 : k0_pay271 k0_pay9 (expV (I.h1.s 5) (I.h1.c 5)) (denV (I.h1.s 5) (I.h1.c 5)) (recV (I.h1.s 5) (I.h1.c 5)) (I.h1.dp 5) = (dcurV (I.h1.ds 5)) := rfl
theorem pay274 : k0_pay274 (laneIs L12) (expV (I.h1.s 4) (I.h1.c 4)) (expSinkV (I.h1.s 4) (I.h1.c 4)) (recV (I.h1.s 4) (I.h1.c 4)) (I.h1.dp 4) (addf (addf (I.h1.dsink 7) (I.h1.dsink 6)) (I.h1.dsink 5)) = (addf (addf (addf (I.h1.dsink 7) (I.h1.dsink 6)) (I.h1.dsink 5)) (I.h1.dsink 4)) := rfl
theorem pay275 : (k0_pay275 : FVec F S128x128 .f32) = zM := rfl
theorem pay276 : k0_pay276 I.first k0_pay9 (expV (I.h1.s 4) (I.h1.c 4)) (denV (I.h1.s 4) (I.h1.c 4)) (recV (I.h1.s 4) (I.h1.c 4)) (I.h1.dp 4) = (dprevV I.first (I.h1.ds 4)) := rfl
theorem pay277 : k0_pay277 k0_pay9 (expV (I.h1.s 4) (I.h1.c 4)) (denV (I.h1.s 4) (I.h1.c 4)) (recV (I.h1.s 4) (I.h1.c 4)) (I.h1.dp 4) = (dcurV (I.h1.ds 4)) := rfl
theorem pay278 : k0_pay278 (expV (I.h1.s 3) (I.h1.c 3)) (recV (I.h1.s 3) (I.h1.c 3)) (I.h1.dp 3) = (ddenV (I.h1.s 3) (I.h1.c 3) (I.h1.dp 3)) := rfl
theorem pay279 : k0_pay279 (denV (I.h1.s 3) (I.h1.c 3)) = (broadcastTo S128x128 (denV (I.h1.s 3) (I.h1.c 3)) broadcasts_S128x1_S128x128) := rfl
theorem pay281 : k0_pay281 (laneIs L11) (expSinkV (I.h1.s 3) (I.h1.c 3)) (addf (addf (addf (I.h1.dsink 7) (I.h1.dsink 6)) (I.h1.dsink 5)) (I.h1.dsink 4)) (ddenV (I.h1.s 3) (I.h1.c 3) (I.h1.dp 3)) = (addf (addf (addf (addf (I.h1.dsink 7) (I.h1.dsink 6)) (I.h1.dsink 5)) (I.h1.dsink 4)) (I.h1.dsink 3)) := rfl
theorem pay282 : (k0_pay282 : FVec F S128x128 .f32) = zM := rfl
theorem pay283 : k0_pay283 I.first k0_pay9 (expV (I.h1.s 3) (I.h1.c 3)) (I.h1.dp 3) (ddenV (I.h1.s 3) (I.h1.c 3) (I.h1.dp 3)) (broadcastTo S128x128 (denV (I.h1.s 3) (I.h1.c 3)) broadcasts_S128x1_S128x128) = (dprevV I.first (I.h1.ds 3)) := rfl
theorem pay284 : k0_pay284 k0_pay9 (expV (I.h1.s 3) (I.h1.c 3)) (I.h1.dp 3) (ddenV (I.h1.s 3) (I.h1.c 3) (I.h1.dp 3)) (broadcastTo S128x128 (denV (I.h1.s 3) (I.h1.c 3)) broadcasts_S128x1_S128x128) = (dcurV (I.h1.ds 3)) := rfl
theorem pay285 : k0_pay285 (expV (I.h1.s 2) (I.h1.c 2)) (recV (I.h1.s 2) (I.h1.c 2)) (I.h1.dp 2) = (ddenV (I.h1.s 2) (I.h1.c 2) (I.h1.dp 2)) := rfl
theorem pay286 : k0_pay286 (denV (I.h1.s 2) (I.h1.c 2)) (I.h1.dp 2) = (divf (I.h1.dp 2) (broadcastTo S128x128 (denV (I.h1.s 2) (I.h1.c 2)) broadcasts_S128x1_S128x128)) := rfl
theorem pay287 : k0_pay287 (expV (I.h1.s 2) (I.h1.c 2)) (expSinkV (I.h1.s 2) (I.h1.c 2)) (recV (I.h1.s 2) (I.h1.c 2)) (I.h1.dp 2) = (shapeCast S1x1 (broadcast S1 (entry (shapeCast S1x1x1 (sumCol (shapeCast S1x128x1 (mulf (ddenV (I.h1.s 2) (I.h1.c 2) (I.h1.dp 2)) (expSinkV (I.h1.s 2) (I.h1.c 2))) shapeCasts_S128x1_S1x128x1)) shapeCasts_S1_S1x1x1))) shapeCasts_S1_S1x1) := rfl
theorem pay289 : k0_pay289 (laneIs L10) (addf (addf (addf (addf (I.h1.dsink 7) (I.h1.dsink 6)) (I.h1.dsink 5)) (I.h1.dsink 4)) (I.h1.dsink 3)) (shapeCast S1x1 (broadcast S1 (entry (shapeCast S1x1x1 (sumCol (shapeCast S1x128x1 (mulf (ddenV (I.h1.s 2) (I.h1.c 2) (I.h1.dp 2)) (expSinkV (I.h1.s 2) (I.h1.c 2))) shapeCasts_S128x1_S1x128x1)) shapeCasts_S1_S1x1x1))) shapeCasts_S1_S1x1) = (addf (addf (addf (addf (addf (I.h1.dsink 7) (I.h1.dsink 6)) (I.h1.dsink 5)) (I.h1.dsink 4)) (I.h1.dsink 3)) (I.h1.dsink 2)) := rfl
theorem pay290 : (k0_pay290 : FVec F S128x128 .f32) = zM := rfl
theorem pay291 : k0_pay291 I.first k0_pay9 (expV (I.h1.s 2) (I.h1.c 2)) (ddenV (I.h1.s 2) (I.h1.c 2) (I.h1.dp 2)) (divf (I.h1.dp 2) (broadcastTo S128x128 (denV (I.h1.s 2) (I.h1.c 2)) broadcasts_S128x1_S128x128)) = (dprevV I.first (I.h1.ds 2)) := rfl
theorem pay292 : k0_pay292 k0_pay9 (expV (I.h1.s 2) (I.h1.c 2)) (ddenV (I.h1.s 2) (I.h1.c 2) (I.h1.dp 2)) (divf (I.h1.dp 2) (broadcastTo S128x128 (denV (I.h1.s 2) (I.h1.c 2)) broadcasts_S128x1_S128x128)) = (dcurV (I.h1.ds 2)) := rfl
theorem pay294 : k0_pay294 (expV (I.h1.s 1) (I.h1.c 1)) (denV (I.h1.s 1) (I.h1.c 1)) (recV (I.h1.s 1) (I.h1.c 1)) (I.h1.dp 1) = (I.h1.ds 1) := rfl
theorem pay295 : k0_pay295 (expV (I.h1.s 1) (I.h1.c 1)) (expSinkV (I.h1.s 1) (I.h1.c 1)) (recV (I.h1.s 1) (I.h1.c 1)) (I.h1.dp 1) = (entry (shapeCast S1x1x1 (sumOne (shapeCast S1x1x1 (shapeCast S1x1 (broadcast S1 (entry (shapeCast S1x1x1 (sumCol (shapeCast S1x128x1 (mulf (ddenV (I.h1.s 1) (I.h1.c 1) (I.h1.dp 1)) (expSinkV (I.h1.s 1) (I.h1.c 1))) shapeCasts_S128x1_S1x128x1)) shapeCasts_S1_S1x1x1))) shapeCasts_S1_S1x1) shapeCasts_S1x1_S1x1x1)) shapeCasts_S1_S1x1x1)) := rfl
theorem pay296 : (k0_pay296 : FVec F S128x128 .f32) = zM := rfl
theorem pay297 : k0_pay297 I.first k0_pay9 (I.h1.ds 1) = (dprevV I.first (I.h1.ds 1)) := rfl
theorem pay298 : k0_pay298 k0_pay9 (I.h1.ds 1) = (dcurV (I.h1.ds 1)) := rfl
theorem pay300 : k0_pay300 (expV (I.h1.s 0) (I.h1.c 0)) (denV (I.h1.s 0) (I.h1.c 0)) (recV (I.h1.s 0) (I.h1.c 0)) (I.h1.dp 0) = (I.h1.ds 0) := rfl
theorem pay301 : k0_pay301 (laneIs L8) (expV (I.h1.s 0) (I.h1.c 0)) (expSinkV (I.h1.s 0) (I.h1.c 0)) (recV (I.h1.s 0) (I.h1.c 0)) (laneIs L9) (I.h1.dp 0) (addf (addf (addf (addf (addf (I.h1.dsink 7) (I.h1.dsink 6)) (I.h1.dsink 5)) (I.h1.dsink 4)) (I.h1.dsink 3)) (I.h1.dsink 2)) (entry (shapeCast S1x1x1 (sumOne (shapeCast S1x1x1 (shapeCast S1x1 (broadcast S1 (entry (shapeCast S1x1x1 (sumCol (shapeCast S1x128x1 (mulf (ddenV (I.h1.s 1) (I.h1.c 1) (I.h1.dp 1)) (expSinkV (I.h1.s 1) (I.h1.c 1))) shapeCasts_S128x1_S1x128x1)) shapeCasts_S1_S1x1x1))) shapeCasts_S1_S1x1) shapeCasts_S1x1_S1x1x1)) shapeCasts_S1_S1x1x1)) = I.dsink1 := rfl
theorem pay302 : (k0_pay302 : FVec F S128x128 .f32) = zM := rfl
theorem pay303 : k0_pay303 k0_pay9 (expV (I.h1.s 0) (I.h1.c 0)) (denV (I.h1.s 0) (I.h1.c 0)) (recV (I.h1.s 0) (I.h1.c 0)) (I.h1.dp 0) = (select k0_pay9 zM (I.h1.ds 0)) := rfl
theorem pay305 : k0_pay305 I.first (truncf .bf16 I.h1.q8 bitsLt_bf16_f32) (dprevV I.first (I.h1.ds 7)) (dprevV I.first (I.h1.ds 6)) (dprevV I.first (I.h1.ds 5)) (dprevV I.first (I.h1.ds 4)) (dprevV I.first (I.h1.ds 3)) (dprevV I.first (I.h1.ds 2)) (dprevV I.first (I.h1.ds 1)) (select k0_pay9 zM (I.h1.ds 0)) = I.h1.dkp := rfl
theorem pay307 : k0_pay307 k0_pay9 (truncf .bf16 I.h1.q8 bitsLt_bf16_f32) (dcurV (I.h1.ds 7)) (dcurV (I.h1.ds 6)) (dcurV (I.h1.ds 5)) (dcurV (I.h1.ds 4)) (dcurV (I.h1.ds 3)) (dcurV (I.h1.ds 2)) (dcurV (I.h1.ds 1)) (I.h1.ds 0) zM = I.h1.dkc := rfl
theorem pay309 : k0_pay309 I.first k0_pay9 (truncf .bf16 I.h1.kc bitsLt_bf16_f32) (truncf .bf16 I.h1.kp bitsLt_bf16_f32) (dprevV I.first (I.h1.ds 7)) (dcurV (I.h1.ds 7)) (dprevV I.first (I.h1.ds 6)) (dcurV (I.h1.ds 6)) (dprevV I.first (I.h1.ds 5)) (dcurV (I.h1.ds 5)) (dprevV I.first (I.h1.ds 4)) (dcurV (I.h1.ds 4)) (dprevV I.first (I.h1.ds 3)) (dcurV (I.h1.ds 3)) (dprevV I.first (I.h1.ds 2)) (dcurV (I.h1.ds 2)) (dprevV I.first (I.h1.ds 1)) (dcurV (I.h1.ds 1)) (I.h1.ds 0) zM (select k0_pay9 zM (I.h1.ds 0)) = (blk 0 I.h1.dq8) := rfl
theorem pay310 : k0_pay310 I.first k0_pay9 (truncf .bf16 I.h1.kc bitsLt_bf16_f32) (truncf .bf16 I.h1.kp bitsLt_bf16_f32) (dprevV I.first (I.h1.ds 7)) (dcurV (I.h1.ds 7)) (dprevV I.first (I.h1.ds 6)) (dcurV (I.h1.ds 6)) (dprevV I.first (I.h1.ds 5)) (dcurV (I.h1.ds 5)) (dprevV I.first (I.h1.ds 4)) (dcurV (I.h1.ds 4)) (dprevV I.first (I.h1.ds 3)) (dcurV (I.h1.ds 3)) (dprevV I.first (I.h1.ds 2)) (dcurV (I.h1.ds 2)) (dprevV I.first (I.h1.ds 1)) (dcurV (I.h1.ds 1)) (I.h1.ds 0) zM (select k0_pay9 zM (I.h1.ds 0)) = (blk 1 I.h1.dq8) := rfl
theorem pay311 : k0_pay311 I.first k0_pay8 k0_pay9 (truncf .bf16 I.h1.kc bitsLt_bf16_f32) (truncf .bf16 I.h1.kp bitsLt_bf16_f32) (dprevV I.first (I.h1.ds 7)) (dcurV (I.h1.ds 7)) (dprevV I.first (I.h1.ds 6)) (dcurV (I.h1.ds 6)) (dprevV I.first (I.h1.ds 5)) (dcurV (I.h1.ds 5)) (dprevV I.first (I.h1.ds 4)) (dcurV (I.h1.ds 4)) (dprevV I.first (I.h1.ds 3)) (dcurV (I.h1.ds 3)) (dprevV I.first (I.h1.ds 2)) (dcurV (I.h1.ds 2)) (dprevV I.first (I.h1.ds 1)) (dcurV (I.h1.ds 1)) (I.h1.ds 0) zM (select k0_pay9 zM (I.h1.ds 0)) = (I.h1.dq 3) := rfl
theorem pay312 : k0_pay312 I.first k0_pay8 k0_pay9 (truncf .bf16 I.h1.kc bitsLt_bf16_f32) (truncf .bf16 I.h1.kp bitsLt_bf16_f32) (dprevV I.first (I.h1.ds 7)) (dcurV (I.h1.ds 7)) (dprevV I.first (I.h1.ds 6)) (dcurV (I.h1.ds 6)) (dprevV I.first (I.h1.ds 5)) (dcurV (I.h1.ds 5)) (dprevV I.first (I.h1.ds 4)) (dcurV (I.h1.ds 4)) (dprevV I.first (I.h1.ds 3)) (dcurV (I.h1.ds 3)) (dprevV I.first (I.h1.ds 2)) (dcurV (I.h1.ds 2)) (dprevV I.first (I.h1.ds 1)) (dcurV (I.h1.ds 1)) (I.h1.ds 0) zM (select k0_pay9 zM (I.h1.ds 0)) = (I.h1.dq 2) := rfl
theorem pay313 : k0_pay313 I.first k0_pay8 k0_pay9 (truncf .bf16 I.h1.kc bitsLt_bf16_f32) (truncf .bf16 I.h1.kp bitsLt_bf16_f32) (dprevV I.first (I.h1.ds 7)) (dcurV (I.h1.ds 7)) (dprevV I.first (I.h1.ds 6)) (dcurV (I.h1.ds 6)) (dprevV I.first (I.h1.ds 5)) (dcurV (I.h1.ds 5)) (dprevV I.first (I.h1.ds 4)) (dcurV (I.h1.ds 4)) (dprevV I.first (I.h1.ds 3)) (dcurV (I.h1.ds 3)) (dprevV I.first (I.h1.ds 2)) (dcurV (I.h1.ds 2)) (dprevV I.first (I.h1.ds 1)) (dcurV (I.h1.ds 1)) (I.h1.ds 0) zM (select k0_pay9 zM (I.h1.ds 0)) = (I.h1.dq 1) := rfl
theorem pay314 : (k0_pay314 : FVec F S128x128 .f32) = zM := rfl
theorem pay315 : k0_pay315 k0_pay8 (blk 0 I.h1.dq8) (blk 1 I.h1.dq8) zM = (I.h1.dq 0) := rfl
theorem pay317 : k0_pay317 k0_pay8 (truncf .bf16 (select k0_pay10 zM8 I.h0.p8) bitsLt_bf16_f32) (extf .f32 (I.o 0) bitsLt_bf16_f32) (extf .f32 (I.o 1) bitsLt_bf16_f32) (extf .f32 (I.o 2) bitsLt_bf16_f32) (extf .f32 (I.o 3) bitsLt_bf16_f32) = I.h0.dvp := rfl
theorem pay318 : k0_pay318 k0_pay8 (truncf .bf16 (select k0_pay10 I.h0.p8 zM8) bitsLt_bf16_f32) (extf .f32 (I.o 0) bitsLt_bf16_f32) (extf .f32 (I.o 1) bitsLt_bf16_f32) (extf .f32 (I.o 2) bitsLt_bf16_f32) (extf .f32 (I.o 3) bitsLt_bf16_f32) = I.h0.dvc := rfl
theorem pay320 : k0_pay320 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 0) := rfl
theorem pay321 : k0_pay321 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 1) := rfl
theorem pay322 : k0_pay322 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 2) := rfl
theorem pay323 : k0_pay323 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 3) := rfl
theorem pay324 : k0_pay324 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 4) := rfl
theorem pay325 : k0_pay325 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 5) := rfl
theorem pay326 : k0_pay326 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 6) := rfl
theorem pay327 : k0_pay327 k0_pay8 k0_pay10 (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (I.h0.dp 7) := rfl
theorem pay328 : k0_pay328 k0_pay8 k0_pay10 (expV (I.h0.s 7) (I.h0.c 7)) (recV (I.h0.s 7) (I.h0.c 7)) (truncf .bf16 I.h0.vc bitsLt_bf16_f32) (truncf .bf16 I.h0.vp bitsLt_bf16_f32) (extf .f32 (I.o 0) bitsLt_bf16_f32) (extf .f32 (I.o 1) bitsLt_bf16_f32) (extf .f32 (I.o 2) bitsLt_bf16_f32) (extf .f32 (I.o 3) bitsLt_bf16_f32) = (rowAdd (mulf (mulf (I.h0.dp 7) (broadcastTo S128x128 (recV (I.h0.s 7) (I.h0.c 7)) broadcasts_S128x1_S128x128)) (expV (I.h0.s 7) (I.h0.c 7)))) := rfl
theorem pay331 : k0_pay331 (laneIs L7) (expSinkV (I.h0.s 7) (I.h0.c 7)) I.dsink1 (rowAdd (mulf (mulf (I.h0.dp 7) (broadcastTo S128x128 (recV (I.h0.s 7) (I.h0.c 7)) broadcasts_S128x1_S128x128)) (expV (I.h0.s 7) (I.h0.c 7)))) = (addf I.dsink1 (I.h0.dsink 7)) := rfl
theorem pay332 : (k0_pay332 : FVec F S128x128 .f32) = zM := rfl
theorem pay333 : k0_pay333 I.first k0_pay9 (expV (I.h0.s 7) (I.h0.c 7)) (denV (I.h0.s 7) (I.h0.c 7)) (I.h0.dp 7) (rowAdd (mulf (mulf (I.h0.dp 7) (broadcastTo S128x128 (recV (I.h0.s 7) (I.h0.c 7)) broadcasts_S128x1_S128x128)) (expV (I.h0.s 7) (I.h0.c 7)))) = (dprevV I.first (I.h0.ds 7)) := rfl
theorem pay334 : k0_pay334 k0_pay9 (expV (I.h0.s 7) (I.h0.c 7)) (denV (I.h0.s 7) (I.h0.c 7)) (I.h0.dp 7) (rowAdd (mulf (mulf (I.h0.dp 7) (broadcastTo S128x128 (recV (I.h0.s 7) (I.h0.c 7)) broadcasts_S128x1_S128x128)) (expV (I.h0.s 7) (I.h0.c 7)))) = (dcurV (I.h0.ds 7)) := rfl
theorem pay335 : k0_pay335 (expV (I.h0.s 6) (I.h0.c 6)) (recV (I.h0.s 6) (I.h0.c 6)) (I.h0.dp 6) = (ddenV (I.h0.s 6) (I.h0.c 6) (I.h0.dp 6)) := rfl
theorem pay336 : k0_pay336 (denV (I.h0.s 6) (I.h0.c 6)) (I.h0.dp 6) = (divf (I.h0.dp 6) (broadcastTo S128x128 (denV (I.h0.s 6) (I.h0.c 6)) broadcasts_S128x1_S128x128)) := rfl
theorem pay337 : k0_pay337 (expV (I.h0.s 6) (I.h0.c 6)) (expSinkV (I.h0.s 6) (I.h0.c 6)) (recV (I.h0.s 6) (I.h0.c 6)) (I.h0.dp 6) = (sumCol (shapeCast S1x128x1 (mulf (ddenV (I.h0.s 6) (I.h0.c 6) (I.h0.dp 6)) (expSinkV (I.h0.s 6) (I.h0.c 6))) shapeCasts_S128x1_S1x128x1)) := rfl
theorem pay339 : k0_pay339 (laneIs L6) (addf I.dsink1 (I.h0.dsink 7)) (sumCol (shapeCast S1x128x1 (mulf (ddenV (I.h0.s 6) (I.h0.c 6) (I.h0.dp 6)) (expSinkV (I.h0.s 6) (I.h0.c 6))) shapeCasts_S128x1_S1x128x1)) = (addf (addf I.dsink1 (I.h0.dsink 7)) (I.h0.dsink 6)) := rfl
theorem pay340 : (k0_pay340 : FVec F S128x128 .f32) = zM := rfl
theorem pay341 : k0_pay341 I.first k0_pay9 (expV (I.h0.s 6) (I.h0.c 6)) (ddenV (I.h0.s 6) (I.h0.c 6) (I.h0.dp 6)) (divf (I.h0.dp 6) (broadcastTo S128x128 (denV (I.h0.s 6) (I.h0.c 6)) broadcasts_S128x1_S128x128)) = (dprevV I.first (I.h0.ds 6)) := rfl
theorem pay342 : k0_pay342 k0_pay9 (expV (I.h0.s 6) (I.h0.c 6)) (ddenV (I.h0.s 6) (I.h0.c 6) (I.h0.dp 6)) (divf (I.h0.dp 6) (broadcastTo S128x128 (denV (I.h0.s 6) (I.h0.c 6)) broadcasts_S128x1_S128x128)) = (dcurV (I.h0.ds 6)) := rfl
theorem pay344 : k0_pay344 (expV (I.h0.s 5) (I.h0.c 5)) (expSinkV (I.h0.s 5) (I.h0.c 5)) (recV (I.h0.s 5) (I.h0.c 5)) (I.h0.dp 5) = (shapeCast S1x1 (broadcast S1 (entry (shapeCast S1x1x1 (sumCol (shapeCast S1x128x1 (mulf (ddenV (I.h0.s 5) (I.h0.c 5) (I.h0.dp 5)) (expSinkV (I.h0.s 5) (I.h0.c 5))) shapeCasts_S128x1_S1x128x1)) shapeCasts_S1_S1x1x1))) shapeCasts_S1_S1x1) := rfl
theorem pay345 : k0_pay345 (expV (I.h0.s 5) (I.h0.c 5)) (denV (I.h0.s 5) (I.h0.c 5)) (recV (I.h0.s 5) (I.h0.c 5)) (I.h0.dp 5) = (I.h0.ds 5) := rfl
theorem pay346 : k0_pay346 (laneIs L5) (addf (addf I.dsink1 (I.h0.dsink 7)) (I.h0.dsink 6)) (shapeCast S1x1 (broadcast S1 (entry (shapeCast S1x1x1 (sumCol (shapeCast S1x128x1 (mulf (ddenV (I.h0.s 5) (I.h0.c 5) (I.h0.dp 5)) (expSinkV (I.h0.s 5) (I.h0.c 5))) shapeCasts_S128x1_S1x128x1)) shapeCasts_S1_S1x1x1))) shapeCasts_S1_S1x1) = (addf (addf (addf I.dsink1 (I.h0.dsink 7)) (I.h0.dsink 6)) (I.h0.dsink 5)) := rfl
theorem pay347 : (k0_pay347 : FVec F S128x128 .f32) = zM := rfl
theorem pay348 : k0_pay348 I.first k0_pay9 (I.h0.ds 5) = (dprevV I.first (I.h0.ds 5)) := rfl
theorem pay349 : k0_pay349 k0_pay9 (I.h0.ds 5) = (dcurV (I.h0.ds 5)) := rfl
theorem pay351 : k0_pay351 (expV (I.h0.s 4) (I.h0.c 4)) (denV (I.h0.s 4) (I.h0.c 4)) (recV (I.h0.s 4) (I.h0.c 4)) (I.h0.dp 4) = (I.h0.ds 4) := rfl
theorem pay352 : k0_pay352 (expV (I.h0.s 4) (I.h0.c 4)) (expSinkV (I.h0.s 4) (I.h0.c 4)) (recV (I.h0.s 4) (I.h0.c 4)) (I.h0.dp 4) = (broadcastTo S1x128 (shapeCast S1x1 (broadcast S1 (entry (shapeCast S1x1x1 (sumOne (shapeCast S1x1x1 (shapeCast S1x1 (broadcast S1 (entry (shapeCast S1x1x1 (sumCol (shapeCast S1x128x1 (mulf (ddenV (I.h0.s 4) (I.h0.c 4) (I.h0.dp 4)) (expSinkV (I.h0.s 4) (I.h0.c 4))) shapeCasts_S128x1_S1x128x1)) shapeCasts_S1_S1x1x1))) shapeCasts_S1_S1x1) shapeCasts_S1x1_S1x1x1)) shapeCasts_S1_S1x1x1))) shapeCasts_S1_S1x1) broadcasts_S1x1_S1x128) := rfl
theorem pay353 : (k0_pay353 : FVec F S1x128 .f32) = zRow := rfl
theorem pay354 : (k0_pay354 : FVec F S128x128 .f32) = zM := rfl
theorem pay355 : k0_pay355 I.first k0_pay9 (I.h0.ds 4) = (dprevV I.first (I.h0.ds 4)) := rfl
theorem pay356 : k0_pay356 k0_pay9 (I.h0.ds 4) = (dcurV (I.h0.ds 4)) := rfl
theorem pay359 : k0_pay359 (laneIs L3) (expV (I.h0.s 3) (I.h0.c 3)) (expSinkV (I.h0.s 3) (I.h0.c 3)) (recV (I.h0.s 3) (I.h0.c 3)) (laneIs L4) (I.h0.dp 3) (addf (addf (addf I.dsink1 (I.h0.dsink 7)) (I.h0.dsink 6)) (I.h0.dsink 5)) (broadcastTo S1x128 (shapeCast S1x1 (broadcast S1 (entry (shapeCast S1x1x1 (sumOne (shapeCast S1x1x1 (shapeCast S1x1 (broadcast S1 (entry (shapeCast S1x1x1 (sumCol (shapeCast S1x128x1 (mulf (ddenV (I.h0.s 4) (I.h0.c 4) (I.h0.dp 4)) (expSinkV (I.h0.s 4) (I.h0.c 4))) shapeCasts_S128x1_S1x128x1)) shapeCasts_S1_S1x1x1))) shapeCasts_S1_S1x1) shapeCasts_S1x1_S1x1x1)) shapeCasts_S1_S1x1x1))) shapeCasts_S1_S1x1) broadcasts_S1x1_S1x128) zRow = (addf (addf (addf (addf (addf I.dsink1 (I.h0.dsink 7)) (I.h0.dsink 6)) (I.h0.dsink 5)) (I.h0.dsink 4)) (I.h0.dsink 3)) := rfl
theorem pay360 : (k0_pay360 : FVec F S128x128 .f32) = zM := rfl
theorem pay361 : k0_pay361 k0_pay9 (expV (I.h0.s 3) (I.h0.c 3)) (denV (I.h0.s 3) (I.h0.c 3)) (recV (I.h0.s 3) (I.h0.c 3)) (I.h0.dp 3) = (select k0_pay9 (I.h0.ds 3) zM) := rfl
theorem pay362 : k0_pay362 I.first k0_pay9 (expV (I.h0.s 3) (I.h0.c 3)) (denV (I.h0.s 3) (I.h0.c 3)) (recV (I.h0.s 3) (I.h0.c 3)) (I.h0.dp 3) = (Scalar.select I.first zM (select k0_pay9 zM (I.h0.ds 3))) := rfl
theorem pay363 : k0_pay363 (Scalar.select I.first zM (select k0_pay9 zM (I.h0.ds 3))) eighthS = (dprevV I.first (I.h0.ds 3)) := rfl
theorem pay364 : k0_pay364 (select k0_pay9 (I.h0.ds 3) zM) = (dcurV (I.h0.ds 3)) := rfl
theorem pay367 : k0_pay367 (laneIs L2) (expV (I.h0.s 2) (I.h0.c 2)) (expSinkV (I.h0.s 2) (I.h0.c 2)) (recV (I.h0.s 2) (I.h0.c 2)) (I.h0.dp 2) (addf (addf (addf (addf (addf I.dsink1 (I.h0.dsink 7)) (I.h0.dsink 6)) (I.h0.dsink 5)) (I.h0.dsink 4)) (I.h0.dsink 3)) = (addf (addf (addf (addf (addf (addf I.dsink1 (I.h0.dsink 7)) (I.h0.dsink 6)) (I.h0.dsink 5)) (I.h0.dsink 4)) (I.h0.dsink 3)) (I.h0.dsink 2)) := rfl
theorem pay368 : (k0_pay368 : FVec F S128x128 .f32) = zM := rfl
theorem pay369 : k0_pay369 I.first k0_pay9 (expV (I.h0.s 2) (I.h0.c 2)) (denV (I.h0.s 2) (I.h0.c 2)) (recV (I.h0.s 2) (I.h0.c 2)) (I.h0.dp 2) = (dprevV I.first (I.h0.ds 2)) := rfl
theorem pay370 : k0_pay370 k0_pay9 (expV (I.h0.s 2) (I.h0.c 2)) (denV (I.h0.s 2) (I.h0.c 2)) (recV (I.h0.s 2) (I.h0.c 2)) (I.h0.dp 2) = (dcurV (I.h0.ds 2)) := rfl
theorem pay371 : k0_pay371 (expV (I.h0.s 1) (I.h0.c 1)) (recV (I.h0.s 1) (I.h0.c 1)) (I.h0.dp 1) = (rowAdd (mulf (mulf (I.h0.dp 1) (broadcastTo S128x128 (recV (I.h0.s 1) (I.h0.c 1)) broadcasts_S128x1_S128x128)) (expV (I.h0.s 1) (I.h0.c 1)))) := rfl
theorem pay374 : k0_pay374 (laneIs L1) (expSinkV (I.h0.s 1) (I.h0.c 1)) (addf (addf (addf (addf (addf (addf I.dsink1 (I.h0.dsink 7)) (I.h0.dsink 6)) (I.h0.dsink 5)) (I.h0.dsink 4)) (I.h0.dsink 3)) (I.h0.dsink 2)) (rowAdd (mulf (mulf (I.h0.dp 1) (broadcastTo S128x128 (recV (I.h0.s 1) (I.h0.c 1)) broadcasts_S128x1_S128x128)) (expV (I.h0.s 1) (I.h0.c 1)))) = (addf (addf (addf (addf (addf (addf (addf I.dsink1 (I.h0.dsink 7)) (I.h0.dsink 6)) (I.h0.dsink 5)) (I.h0.dsink 4)) (I.h0.dsink 3)) (I.h0.dsink 2)) (I.h0.dsink 1)) := rfl
theorem pay375 : (k0_pay375 : FVec F S128x128 .f32) = zM := rfl
theorem pay376 : k0_pay376 I.first k0_pay9 (expV (I.h0.s 1) (I.h0.c 1)) (denV (I.h0.s 1) (I.h0.c 1)) (I.h0.dp 1) (rowAdd (mulf (mulf (I.h0.dp 1) (broadcastTo S128x128 (recV (I.h0.s 1) (I.h0.c 1)) broadcasts_S128x1_S128x128)) (expV (I.h0.s 1) (I.h0.c 1)))) = (dprevV I.first (I.h0.ds 1)) := rfl
theorem pay377 : k0_pay377 k0_pay9 (expV (I.h0.s 1) (I.h0.c 1)) (denV (I.h0.s 1) (I.h0.c 1)) (I.h0.dp 1) (rowAdd (mulf (mulf (I.h0.dp 1) (broadcastTo S128x128 (recV (I.h0.s 1) (I.h0.c 1)) broadcasts_S128x1_S128x128)) (expV (I.h0.s 1) (I.h0.c 1)))) = (dcurV (I.h0.ds 1)) := rfl
theorem pay378 : k0_pay378 (expV (I.h0.s 0) (I.h0.c 0)) (recV (I.h0.s 0) (I.h0.c 0)) (I.h0.dp 0) = (ddenV (I.h0.s 0) (I.h0.c 0) (I.h0.dp 0)) := rfl
theorem pay379 : k0_pay379 (denV (I.h0.s 0) (I.h0.c 0)) (I.h0.dp 0) = (divf (I.h0.dp 0) (broadcastTo S128x128 (denV (I.h0.s 0) (I.h0.c 0)) broadcasts_S128x1_S128x128)) := rfl
theorem pay380 : k0_pay380 (expV (I.h0.s 0) (I.h0.c 0)) (expSinkV (I.h0.s 0) (I.h0.c 0)) (recV (I.h0.s 0) (I.h0.c 0)) (I.h0.dp 0) = (sumCol (shapeCast S1x128x1 (mulf (ddenV (I.h0.s 0) (I.h0.c 0) (I.h0.dp 0)) (expSinkV (I.h0.s 0) (I.h0.c 0))) shapeCasts_S128x1_S1x128x1)) := rfl
theorem pay382 : k0_pay382 (laneIs L0) (addf (addf (addf (addf (addf (addf (addf I.dsink1 (I.h0.dsink 7)) (I.h0.dsink 6)) (I.h0.dsink 5)) (I.h0.dsink 4)) (I.h0.dsink 3)) (I.h0.dsink 2)) (I.h0.dsink 1)) (sumCol (shapeCast S1x128x1 (mulf (ddenV (I.h0.s 0) (I.h0.c 0) (I.h0.dp 0)) (expSinkV (I.h0.s 0) (I.h0.c 0))) shapeCasts_S128x1_S1x128x1)) = I.dsink := rfl
theorem pay383 : (k0_pay383 : FVec F S128x128 .f32) = zM := rfl
theorem pay385 : k0_pay385 I.first k0_pay9 (truncf .bf16 I.h0.q8 bitsLt_bf16_f32) (expV (I.h0.s 0) (I.h0.c 0)) (dprevV I.first (I.h0.ds 7)) (dprevV I.first (I.h0.ds 6)) (dprevV I.first (I.h0.ds 5)) (dprevV I.first (I.h0.ds 4)) (dprevV I.first (I.h0.ds 3)) (dprevV I.first (I.h0.ds 2)) (dprevV I.first (I.h0.ds 1)) (ddenV (I.h0.s 0) (I.h0.c 0) (I.h0.dp 0)) (divf (I.h0.dp 0) (broadcastTo S128x128 (denV (I.h0.s 0) (I.h0.c 0)) broadcasts_S128x1_S128x128)) = I.h0.dkp := rfl
theorem pay387 : k0_pay387 k0_pay9 (truncf .bf16 I.h0.q8 bitsLt_bf16_f32) (expV (I.h0.s 0) (I.h0.c 0)) (dcurV (I.h0.ds 7)) (dcurV (I.h0.ds 6)) (dcurV (I.h0.ds 5)) (dcurV (I.h0.ds 4)) (dcurV (I.h0.ds 3)) (dcurV (I.h0.ds 2)) (dcurV (I.h0.ds 1)) (ddenV (I.h0.s 0) (I.h0.c 0) (I.h0.dp 0)) (divf (I.h0.dp 0) (broadcastTo S128x128 (denV (I.h0.s 0) (I.h0.c 0)) broadcasts_S128x1_S128x128)) = I.h0.dkc := rfl
theorem pay388 : k0_pay388 I.first k0_pay9 (truncf .bf16 I.h0.kc bitsLt_bf16_f32) (truncf .bf16 I.h0.kp bitsLt_bf16_f32) (expV (I.h0.s 0) (I.h0.c 0)) (dprevV I.first (I.h0.ds 7)) (dcurV (I.h0.ds 7)) (dprevV I.first (I.h0.ds 6)) (dcurV (I.h0.ds 6)) (dprevV I.first (I.h0.ds 5)) (dcurV (I.h0.ds 5)) (dprevV I.first (I.h0.ds 4)) (dcurV (I.h0.ds 4)) (dprevV I.first (I.h0.ds 3)) (dcurV (I.h0.ds 3)) (dprevV I.first (I.h0.ds 2)) (dcurV (I.h0.ds 2)) (dprevV I.first (I.h0.ds 1)) (dcurV (I.h0.ds 1)) (ddenV (I.h0.s 0) (I.h0.c 0) (I.h0.dp 0)) (divf (I.h0.dp 0) (broadcastTo S128x128 (denV (I.h0.s 0) (I.h0.c 0)) broadcasts_S128x1_S128x128)) = I.h0.dq8 := rfl
theorem pay389 : k0_pay389 I.first k0_pay9 (truncf .bf16 I.h0.kc bitsLt_bf16_f32) (truncf .bf16 I.h0.kp bitsLt_bf16_f32) (expV (I.h0.s 0) (I.h0.c 0)) (dprevV I.first (I.h0.ds 7)) (dcurV (I.h0.ds 7)) (dprevV I.first (I.h0.ds 6)) (dcurV (I.h0.ds 6)) (dprevV I.first (I.h0.ds 5)) (dcurV (I.h0.ds 5)) (dprevV I.first (I.h0.ds 4)) (dcurV (I.h0.ds 4)) (dprevV I.first (I.h0.ds 3)) (dcurV (I.h0.ds 3)) (dprevV I.first (I.h0.ds 2)) (dcurV (I.h0.ds 2)) (dprevV I.first (I.h0.ds 1)) (dcurV (I.h0.ds 1)) (ddenV (I.h0.s 0) (I.h0.c 0) (I.h0.dp 0)) (divf (I.h0.dp 0) (broadcastTo S128x128 (denV (I.h0.s 0) (I.h0.c 0)) broadcasts_S128x1_S128x128)) = (blk 0 I.h0.dq8) := rfl
theorem pay390 : k0_pay390 I.first k0_pay9 (truncf .bf16 I.h0.kc bitsLt_bf16_f32) (truncf .bf16 I.h0.kp bitsLt_bf16_f32) (expV (I.h0.s 0) (I.h0.c 0)) (dprevV I.first (I.h0.ds 7)) (dcurV (I.h0.ds 7)) (dprevV I.first (I.h0.ds 6)) (dcurV (I.h0.ds 6)) (dprevV I.first (I.h0.ds 5)) (dcurV (I.h0.ds 5)) (dprevV I.first (I.h0.ds 4)) (dcurV (I.h0.ds 4)) (dprevV I.first (I.h0.ds 3)) (dcurV (I.h0.ds 3)) (dprevV I.first (I.h0.ds 2)) (dcurV (I.h0.ds 2)) (dprevV I.first (I.h0.ds 1)) (dcurV (I.h0.ds 1)) (ddenV (I.h0.s 0) (I.h0.c 0) (I.h0.dp 0)) (divf (I.h0.dp 0) (broadcastTo S128x128 (denV (I.h0.s 0) (I.h0.c 0)) broadcasts_S128x1_S128x128)) = (blk 1 I.h0.dq8) := rfl
theorem pay391 : k0_pay391 I.first k0_pay9 (truncf .bf16 I.h0.kc bitsLt_bf16_f32) (truncf .bf16 I.h0.kp bitsLt_bf16_f32) (expV (I.h0.s 0) (I.h0.c 0)) (dprevV I.first (I.h0.ds 7)) (dcurV (I.h0.ds 7)) (dprevV I.first (I.h0.ds 6)) (dcurV (I.h0.ds 6)) (dprevV I.first (I.h0.ds 5)) (dcurV (I.h0.ds 5)) (dprevV I.first (I.h0.ds 4)) (dcurV (I.h0.ds 4)) (dprevV I.first (I.h0.ds 3)) (dcurV (I.h0.ds 3)) (dprevV I.first (I.h0.ds 2)) (dcurV (I.h0.ds 2)) (dprevV I.first (I.h0.ds 1)) (dcurV (I.h0.ds 1)) (ddenV (I.h0.s 0) (I.h0.c 0) (I.h0.dp 0)) (divf (I.h0.dp 0) (broadcastTo S128x128 (denV (I.h0.s 0) (I.h0.c 0)) broadcasts_S128x1_S128x128)) = (blk 2 I.h0.dq8) := rfl
theorem pay392 : k0_pay392 I.first k0_pay9 (truncf .bf16 I.h0.kc bitsLt_bf16_f32) (truncf .bf16 I.h0.kp bitsLt_bf16_f32) (expV (I.h0.s 0) (I.h0.c 0)) (dprevV I.first (I.h0.ds 7)) (dcurV (I.h0.ds 7)) (dprevV I.first (I.h0.ds 6)) (dcurV (I.h0.ds 6)) (dprevV I.first (I.h0.ds 5)) (dcurV (I.h0.ds 5)) (dprevV I.first (I.h0.ds 4)) (dcurV (I.h0.ds 4)) (dprevV I.first (I.h0.ds 3)) (dcurV (I.h0.ds 3)) (dprevV I.first (I.h0.ds 2)) (dcurV (I.h0.ds 2)) (dprevV I.first (I.h0.ds 1)) (dcurV (I.h0.ds 1)) (ddenV (I.h0.s 0) (I.h0.c 0) (I.h0.dp 0)) (divf (I.h0.dp 0) (broadcastTo S128x128 (denV (I.h0.s 0) (I.h0.c 0)) broadcasts_S128x1_S128x128)) = (blk 3 I.h0.dq8) := rfl
theorem pay393 : k0_pay393 I.first k0_pay9 (truncf .bf16 I.h0.kc bitsLt_bf16_f32) (truncf .bf16 I.h0.kp bitsLt_bf16_f32) (expV (I.h0.s 0) (I.h0.c 0)) (dprevV I.first (I.h0.ds 7)) (dcurV (I.h0.ds 7)) (dprevV I.first (I.h0.ds 6)) (dcurV (I.h0.ds 6)) (dprevV I.first (I.h0.ds 5)) (dcurV (I.h0.ds 5)) (dprevV I.first (I.h0.ds 4)) (dcurV (I.h0.ds 4)) (dprevV I.first (I.h0.ds 3)) (dcurV (I.h0.ds 3)) (dprevV I.first (I.h0.ds 2)) (dcurV (I.h0.ds 2)) (dprevV I.first (I.h0.ds 1)) (dcurV (I.h0.ds 1)) (ddenV (I.h0.s 0) (I.h0.c 0) (I.h0.dp 0)) (divf (I.h0.dp 0) (broadcastTo S128x128 (denV (I.h0.s 0) (I.h0.c 0)) broadcasts_S128x1_S128x128)) = (blk 4 I.h0.dq8) := rfl
theorem pay394 : k0_pay394 I.first k0_pay9 (truncf .bf16 I.h0.kc bitsLt_bf16_f32) (truncf .bf16 I.h0.kp bitsLt_bf16_f32) (expV (I.h0.s 0) (I.h0.c 0)) (dprevV I.first (I.h0.ds 7)) (dcurV (I.h0.ds 7)) (dprevV I.first (I.h0.ds 6)) (dcurV (I.h0.ds 6)) (dprevV I.first (I.h0.ds 5)) (dcurV (I.h0.ds 5)) (dprevV I.first (I.h0.ds 4)) (dcurV (I.h0.ds 4)) (dprevV I.first (I.h0.ds 3)) (dcurV (I.h0.ds 3)) (dprevV I.first (I.h0.ds 2)) (dcurV (I.h0.ds 2)) (dprevV I.first (I.h0.ds 1)) (dcurV (I.h0.ds 1)) (ddenV (I.h0.s 0) (I.h0.c 0) (I.h0.dp 0)) (divf (I.h0.dp 0) (broadcastTo S128x128 (denV (I.h0.s 0) (I.h0.c 0)) broadcasts_S128x1_S128x128)) = (blk 5 I.h0.dq8) := rfl
theorem pay395 : k0_pay395 k0_pay8 I.h0.dq8 = (I.h0.dq 3) := rfl
theorem pay396 : k0_pay396 k0_pay8 (blk 4 I.h0.dq8) (blk 5 I.h0.dq8) = (I.h0.dq 2) := rfl
theorem pay397 : k0_pay397 k0_pay8 (blk 2 I.h0.dq8) (blk 3 I.h0.dq8) = (I.h0.dq 1) := rfl
theorem pay398 : k0_pay398 k0_pay8 (blk 0 I.h0.dq8) (blk 1 I.h0.dq8) = (I.h0.dq 0) := rfl
theorem pay399 : k0_pay399 k0_pay8 I.h1.dvp I.h0.dvp = I.dvp := rfl
theorem pay400 : k0_pay400 k0_pay8 I.h1.dvc I.h0.dvc = I.dvc := rfl
theorem pay401 : (k0_pay401 : FVec F S128x128 .f32) = zM := rfl
theorem pay402 : k0_pay402 k0_pay8 I.h1.dkp = (keepR I.h1.dkp) := rfl
theorem pay403 : k0_pay403 k0_pay8 I.h1.dkp = (keepL I.h1.dkp) := rfl
theorem pay404 : k0_pay404 k0_pay8 I.h0.dkp (keepR I.h1.dkp) (keepL I.h1.dkp) = I.dkp := rfl

end Cert.KernelIdeal.Att

end
-- ==== Proof.Attention.Words.lean ====
module

public import proofs.«01_k».proof.Proof.Attention.Groups

/-! What the body's named values of a grid point are: the stages' compositions. -/

@[expose] public section

noncomputable section

namespace Cert.KernelIdeal.Att

open Cert.KernelIdeal Cert.KernelIdeal.Gen Idealize.ShloMosaic Idealize.ShloMosaic.TcCoe Idealize.SL.Sem

variable {F : FTy → Type} [FloatOps F]
variable (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x1024 .bf16) (harg7 : arg7.IsWhole)
  (x0 : Vec F S128x1024 .f32) (x1 : Vec F S128x128 .f32) (x2 : Vec F S128x128 .f32) (x3 : Vec F S128x128 .f32) (x4 : Vec F S128x128 .f32) (x5 : Vec F S1x128 .f32) (x6 : Vec F S128x1024 .bf16)

theorem pair_inb (t : Fin 8) : ∀ a, (![0, 128 * t.val] : Fin 2 → Nat) a + S128x128.size a ≤ S128x1024.size a := by
  revert t; decide

/-- What the point reads, as the body loads it. -/
def loaded : In F where
  first := kernelRun0_B.sl.v12 i
  q t := View.readAt (Elt F) arg1.view (Rect.unit (s := S128x1024) ![0, 128 * t.val] S128x128.size (pair_inb t)).toLoadRect (harg1.unread x0)
  o t := View.readAt (Elt F) arg7.view (Rect.unit (s := S128x1024) ![0, 128 * t.val] S128x128.size (pair_inb t)).toLoadRect (harg7.unread x6)
  kp := View.readAt (Elt F) arg2.view (Rect.unit (s := S128x128) ![0, 0] S128x128.size inb_S128x128_S128x128_0_0).toLoadRect (harg2.unread x1)
  kc := View.readAt (Elt F) arg3.view (Rect.unit (s := S128x128) ![0, 0] S128x128.size inb_S128x128_S128x128_0_0).toLoadRect (harg3.unread x2)
  vp := View.readAt (Elt F) arg4.view (Rect.unit (s := S128x128) ![0, 0] S128x128.size inb_S128x128_S128x128_0_0).toLoadRect (harg4.unread x3)
  vc := View.readAt (Elt F) arg5.view (Rect.unit (s := S128x128) ![0, 0] S128x128.size inb_S128x128_S128x128_0_0).toLoadRect (harg5.unread x4)
  sink := View.readAt (Elt F) arg6.view (Rect.unit (s := S1x128) ![0, 0] S1x128.size inb_S1x128_S1x128_0_0).toLoadRect (harg6.unread x5)

/-- The values of a point of case B, each the stages' composition of what the point reads. -/
theorem wordsB (I : In F) (hI : I = (loaded i arg1 harg1 arg2 harg2 arg3 harg3 arg4 harg4 arg5 harg5 arg6 harg6 arg7 harg7 x0 x1 x2 x3 x4 x5 x6)) :
    kernelRun0_B.sl.r_284 c i arg1 harg1 arg2 harg2 arg3 harg3 arg4 harg4 arg5 harg5 arg6 harg6 arg7 harg7 x0 x1 x2 x3 x4 x5 x6 = I.h0.dq 0 ∧
    kernelRun0_B.sl.r_283 c i arg1 harg1 arg2 harg2 arg3 harg3 arg4 harg4 arg5 harg5 arg6 harg6 arg7 harg7 x0 x1 x2 x3 x4 x5 x6 = I.h0.dq 1 ∧
    kernelRun0_B.sl.r_282 c i arg1 harg1 arg2 harg2 arg3 harg3 arg4 harg4 arg5 harg5 arg6 harg6 arg7 harg7 x0 x1 x2 x3 x4 x5 x6 = I.h0.dq 2 ∧
    kernelRun0_B.sl.r_281 c i arg1 harg1 arg2 harg2 arg3 harg3 arg4 harg4 arg5 harg5 arg6 harg6 arg7 harg7 x0 x1 x2 x3 x4 x5 x6 = I.h0.dq 3 ∧
    kernelRun0_B.sl.r_226 c i arg1 harg1 arg2 harg2 arg3 harg3 arg4 harg4 arg5 harg5 arg6 harg6 arg7 harg7 x0 x1 x2 x3 x4 x5 x6 = I.h1.dq 0 ∧
    kernelRun0_B.sl.r_225 c i arg1 harg1 arg2 harg2 arg3 harg3 arg4 harg4 arg5 harg5 arg6 harg6 arg7 harg7 x0 x1 x2 x3 x4 x5 x6 = I.h1.dq 1 ∧
    kernelRun0_B.sl.r_224 c i arg1 harg1 arg2 harg2 arg3 harg3 arg4 harg4 arg5 harg5 arg6 harg6 arg7 harg7 x0 x1 x2 x3 x4 x5 x6 = I.h1.dq 2 ∧
    kernelRun0_B.sl.r_223 c i arg1 harg1 arg2 harg2 arg3 harg3 arg4 harg4 arg5 harg5 arg6 harg6 arg7 harg7 x0 x1 x2 x3 x4 x5 x6 = I.h1.dq 3 ∧
    kernelRun0_B.sl.r_285 c i arg1 harg1 arg2 harg2 arg3 harg3 arg6 harg6 arg7 harg7 x0 x1 x2 x5 x6 = I.dvp ∧
    kernelRun0_B.sl.r_286 c i arg1 harg1 arg2 harg2 arg3 harg3 arg6 harg6 arg7 harg7 x0 x1 x2 x5 x6 = I.dvc ∧
    kernelRun0_B.sl.r_289 c i arg1 harg1 arg2 harg2 arg3 harg3 arg4 harg4 arg5 harg5 arg6 harg6 arg7 harg7 x0 x1 x2 x3 x4 x5 x6 = I.dkp ∧
    kernelRun0_B.sl.r_220 c i arg1 harg1 arg2 harg2 arg3 harg3 arg4 harg4 arg5 harg5 arg6 harg6 arg7 harg7 x0 x1 x2 x3 x4 x5 x6 = I.h1.dkc ∧
    kernelRun0_B.sl.r_273 c i arg1 harg1 arg2 harg2 arg3 harg3 arg4 harg4 arg5 harg5 arg6 harg6 arg7 harg7 x0 x1 x2 x3 x4 x5 x6 = I.h0.dkc ∧
    kernelRun0_B.sl.r_271 c i arg1 harg1 arg2 harg2 arg3 harg3 arg4 harg4 arg5 harg5 arg6 harg6 arg7 harg7 x0 x1 x2 x3 x4 x5 x6 = I.dsink := by
  have q0 : kernelRun0_B.sl.r c arg1 harg1 x0 = I.q 0 := by rw [hI]; rfl
  have q1 : kernelRun0_B.sl.r_1 c arg1 harg1 x0 = I.q 1 := by rw [hI]; rfl
  have q2 : kernelRun0_B.sl.r_2 c arg1 harg1 x0 = I.q 2 := by rw [hI]; rfl
  have q3 : kernelRun0_B.sl.r_3 c arg1 harg1 x0 = I.q 3 := by rw [hI]; rfl
  have q4 : kernelRun0_B.sl.r_4 c arg1 harg1 x0 = I.q 4 := by rw [hI]; rfl
  have q5 : kernelRun0_B.sl.r_5 c arg1 harg1 x0 = I.q 5 := by rw [hI]; rfl
  have q6 : kernelRun0_B.sl.r_6 c arg1 harg1 x0 = I.q 6 := by rw [hI]; rfl
  have q7 : kernelRun0_B.sl.r_7 c arg1 harg1 x0 = I.q 7 := by rw [hI]; rfl
  have o0 : View.readAt (Elt F) arg7.view (Rect.unit (s := S128x1024) ![0, 0] S128x128.size inb_S128x1024_S128x128_0_0).toLoadRect (harg7.unread x6) = I.o 0 := by rw [hI]; rfl
  have o1 : View.readAt (Elt F) arg7.view (Rect.unit (s := S128x1024) ![0, 128] S128x128.size inb_S128x1024_S128x128_0_128).toLoadRect (harg7.unread x6) = I.o 1 := by rw [hI]; rfl
  have o2 : View.readAt (Elt F) arg7.view (Rect.unit (s := S128x1024) ![0, 256] S128x128.size inb_S128x1024_S128x128_0_256).toLoadRect (harg7.unread x6) = I.o 2 := by rw [hI]; rfl
  have o3 : View.readAt (Elt F) arg7.view (Rect.unit (s := S128x1024) ![0, 384] S128x128.size inb_S128x1024_S128x128_0_384).toLoadRect (harg7.unread x6) = I.o 3 := by rw [hI]; rfl
  have o4 : View.readAt (Elt F) arg7.view (Rect.unit (s := S128x1024) ![0, 512] S128x128.size inb_S128x1024_S128x128_0_512).toLoadRect (harg7.unread x6) = I.o 4 := by rw [hI]; rfl
  have o5 : View.readAt (Elt F) arg7.view (Rect.unit (s := S128x1024) ![0, 640] S128x128.size inb_S128x1024_S128x128_0_640).toLoadRect (harg7.unread x6) = I.o 5 := by rw [hI]; rfl
  have o6 : View.readAt (Elt F) arg7.view (Rect.unit (s := S128x1024) ![0, 768] S128x128.size inb_S128x1024_S128x128_0_768).toLoadRect (harg7.unread x6) = I.o 6 := by rw [hI]; rfl
  have o7 : View.readAt (Elt F) arg7.view (Rect.unit (s := S128x1024) ![0, 896] S128x128.size inb_S128x1024_S128x128_0_896).toLoadRect (harg7.unread x6) = I.o 7 := by rw [hI]; rfl
  have e8 : kernelRun0_B.sl.r_8 c arg2 harg2 x1 = I.kp := by rw [hI]; rfl
  have e9 : kernelRun0_B.sl.r_9 c arg3 harg3 x2 = I.kc := by rw [hI]; rfl
  have e10 : kernelRun0_B.sl.r_10 c arg4 harg4 x3 = I.vp := by rw [hI]; rfl
  have e11 : kernelRun0_B.sl.r_11 c arg5 harg5 x4 = I.vc := by rw [hI]; rfl
  have e12 : kernelRun0_B.sl.r_12 c arg6 harg6 x5 = I.sink := by rw [hI]; rfl
  have f2 : View.readAt (Elt F) arg2.view (Rect.unit (s := S128x128) ![0, 0] S128x128.size inb_S128x128_S128x128_0_0).toLoadRect (harg2.unread x1) = I.kp := by rw [hI]; rfl
  have f3 : View.readAt (Elt F) arg3.view (Rect.unit (s := S128x128) ![0, 0] S128x128.size inb_S128x128_S128x128_0_0).toLoadRect (harg3.unread x2) = I.kc := by rw [hI]; rfl
  have f4 : View.readAt (Elt F) arg4.view (Rect.unit (s := S128x128) ![0, 0] S128x128.size inb_S128x128_S128x128_0_0).toLoadRect (harg4.unread x3) = I.vp := by rw [hI]; rfl
  have f5 : View.readAt (Elt F) arg5.view (Rect.unit (s := S128x128) ![0, 0] S128x128.size inb_S128x128_S128x128_0_0).toLoadRect (harg5.unread x4) = I.vc := by rw [hI]; rfl
  have f6 : View.readAt (Elt F) arg6.view (Rect.unit (s := S1x128) ![0, 0] S1x128.size inb_S1x128_S1x128_0_0).toLoadRect (harg6.unread x5) = I.sink := by rw [hI]; rfl
  have e0 : kernelRun0_B.sl.v12 i = I.first := by rw [hI]; rfl
  clear hI
  have ec : kernelRun0_B.sl.cst_106 (F := F) = zeroS := rfl
  have ed : kernelRun0_B.sl.cst_352 (F := F) = eighthS := rfl
  have e18 : kernelRun0_B.sl.v18 = lanes := rfl
  simp only [q0, q1, q2, q3, q4, q5, q6, q7, o0, o1, o2, o3, o4, o5, o6, o7, e0, e8, e9, e10, e11, e12, e18, ec, ed, f2, f3, f4, f5, f6,
    kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189, kernelRun0_B.sl.r_190, kernelRun0_B.sl.r_191, kernelRun0_B.sl.r_192, kernelRun0_B.sl.r_193, kernelRun0_B.sl.r_194, kernelRun0_B.sl.r_195, kernelRun0_B.sl.r_196, kernelRun0_B.sl.r_197, kernelRun0_B.sl.r_198, kernelRun0_B.sl.r_199, kernelRun0_B.sl.r_200, kernelRun0_B.sl.r_201, kernelRun0_B.sl.r_202, kernelRun0_B.sl.r_203, kernelRun0_B.sl.r_204, kernelRun0_B.sl.r_205, kernelRun0_B.sl.r_206, kernelRun0_B.sl.r_207, kernelRun0_B.sl.r_208, kernelRun0_B.sl.r_209, kernelRun0_B.sl.r_210, kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.r_226, kernelRun0_B.sl.r_227, kernelRun0_B.sl.r_228, kernelRun0_B.sl.r_229, kernelRun0_B.sl.r_230, kernelRun0_B.sl.r_231, kernelRun0_B.sl.r_232, kernelRun0_B.sl.r_233, kernelRun0_B.sl.r_234, kernelRun0_B.sl.r_235, kernelRun0_B.sl.r_236, kernelRun0_B.sl.r_237, kernelRun0_B.sl.r_238, kernelRun0_B.sl.r_239, kernelRun0_B.sl.r_240, kernelRun0_B.sl.r_241, kernelRun0_B.sl.r_242, kernelRun0_B.sl.r_243, kernelRun0_B.sl.r_244, kernelRun0_B.sl.r_245, kernelRun0_B.sl.r_246, kernelRun0_B.sl.r_247, kernelRun0_B.sl.r_248, kernelRun0_B.sl.r_249, kernelRun0_B.sl.r_250, kernelRun0_B.sl.r_251, kernelRun0_B.sl.r_252, kernelRun0_B.sl.r_253, kernelRun0_B.sl.r_254, kernelRun0_B.sl.r_255, kernelRun0_B.sl.r_256, kernelRun0_B.sl.r_257, kernelRun0_B.sl.r_258, kernelRun0_B.sl.r_259, kernelRun0_B.sl.r_260, kernelRun0_B.sl.r_261, kernelRun0_B.sl.r_262, kernelRun0_B.sl.r_263, kernelRun0_B.sl.r_264, kernelRun0_B.sl.r_265, kernelRun0_B.sl.r_266, kernelRun0_B.sl.r_267, kernelRun0_B.sl.r_268, kernelRun0_B.sl.r_269, kernelRun0_B.sl.r_270, kernelRun0_B.sl.r_271, kernelRun0_B.sl.r_272, kernelRun0_B.sl.r_273, kernelRun0_B.sl.r_274, kernelRun0_B.sl.r_275, kernelRun0_B.sl.r_276, kernelRun0_B.sl.r_277, kernelRun0_B.sl.r_278, kernelRun0_B.sl.r_279, kernelRun0_B.sl.r_280, kernelRun0_B.sl.r_281, kernelRun0_B.sl.r_282, kernelRun0_B.sl.r_283, kernelRun0_B.sl.r_284, kernelRun0_B.sl.r_285, kernelRun0_B.sl.r_286, kernelRun0_B.sl.r_287, kernelRun0_B.sl.r_288, kernelRun0_B.sl.r_289,
    pay11, pay12, pay13, pay15, pay17, pay18, pay20, pay21, pay23, pay24, pay26, pay27, pay28, pay29, pay30, pay31, pay32, pay33, pay34, pay35, pay36, pay37, pay38, pay39, pay40, pay41, pay42, pay43, pay44, pay46, pay49, pay50, pay51, pay52, pay53, pay54, pay55, pay56, pay59, pay60, pay61, pay62, pay63, pay65, pay68, pay69, pay70, pay71, pay72, pay73, pay75, pay78, pay79, pay80, pay81, pay82, pay83, pay84, pay87, pay88, pay89, pay90, pay91, pay93, pay96, pay97, pay98, pay99, pay100, pay101, pay102, pay104, pay107, pay108, pay109, pay110, pay111, pay112, pay113, pay114, pay117, pay118, pay119, pay120, pay122, pay123, pay124, pay125, pay126, pay127, pay128, pay129, pay130, pay131, pay133, pay134, pay136, pay137, pay138, pay139, pay140, pay141, pay142, pay143, pay144, pay146, pay147, pay148, pay149, pay150, pay151, pay152, pay154, pay155, pay156, pay157, pay158, pay159, pay160, pay161, pay162, pay164, pay167, pay168, pay169, pay170, pay171, pay172, pay173, pay174, pay176, pay179, pay180, pay181, pay182, pay183, pay185, pay186, pay187, pay188, pay189, pay190, pay191, pay192, pay193, pay195, pay198, pay199, pay200, pay201, pay202, pay203, pay204, pay206, pay209, pay210, pay211, pay212, pay213, pay214, pay215, pay216, pay217, pay218, pay220, pay221, pay222, pay223, pay225, pay228, pay229, pay230, pay231, pay232, pay233, pay234, pay235, pay236, pay237, pay238, pay239, pay240, pay241, pay242, pay243, pay245, pay246, pay247, pay248, pay249, pay250, pay251, pay254, pay255, pay256, pay257, pay258, pay260, pay261, pay262, pay263, pay264, pay265, pay268, pay269, pay270, pay271, pay274, pay275, pay276, pay277, pay278, pay279, pay281, pay282, pay283, pay284, pay285, pay286, pay287, pay289, pay290, pay291, pay292, pay294, pay295, pay296, pay297, pay298, pay300, pay301, pay302, pay303, pay305, pay307, pay309, pay310, pay311, pay312, pay313, pay314, pay315, pay317, pay318, pay320, pay321, pay322, pay323, pay324, pay325, pay326, pay327, pay328, pay331, pay332, pay333, pay334, pay335, pay336, pay337, pay339, pay340, pay341, pay342, pay344, pay345, pay346, pay347, pay348, pay349, pay351, pay352, pay353, pay354, pay355, pay356, pay359, pay360, pay361, pay362, pay363, pay364, pay367, pay368, pay369, pay370, pay371, pay374, pay375, pay376, pay377, pay378, pay379, pay380, pay382, pay383, pay385, pay387, pay388, pay389, pay390, pay391, pay392, pay393, pay394, pay395, pay396, pay397, pay398, pay399, pay400, pay401, pay402, pay403, pay404, and_self]

/-- The values of a point of case A, each the stages' composition of what the point reads. -/
theorem wordsA (I : In F) (hI : I = (loaded i arg1 harg1 arg2 harg2 arg3 harg3 arg4 harg4 arg5 harg5 arg6 harg6 arg7 harg7 x0 x1 x2 x3 x4 x5 x6)) :
    kernelRun0_A.sl.r_284 c i arg1 harg1 arg2 harg2 arg3 harg3 arg4 harg4 arg5 harg5 arg6 harg6 arg7 harg7 x0 x1 x2 x3 x4 x5 x6 = I.h0.dq 0 ∧
    kernelRun0_A.sl.r_283 c i arg1 harg1 arg2 harg2 arg3 harg3 arg4 harg4 arg5 harg5 arg6 harg6 arg7 harg7 x0 x1 x2 x3 x4 x5 x6 = I.h0.dq 1 ∧
    kernelRun0_A.sl.r_282 c i arg1 harg1 arg2 harg2 arg3 harg3 arg4 harg4 arg5 harg5 arg6 harg6 arg7 harg7 x0 x1 x2 x3 x4 x5 x6 = I.h0.dq 2 ∧
    kernelRun0_A.sl.r_281 c i arg1 harg1 arg2 harg2 arg3 harg3 arg4 harg4 arg5 harg5 arg6 harg6 arg7 harg7 x0 x1 x2 x3 x4 x5 x6 = I.h0.dq 3 ∧
    kernelRun0_A.sl.r_226 c i arg1 harg1 arg2 harg2 arg3 harg3 arg4 harg4 arg5 harg5 arg6 harg6 arg7 harg7 x0 x1 x2 x3 x4 x5 x6 = I.h1.dq 0 ∧
    kernelRun0_A.sl.r_225 c i arg1 harg1 arg2 harg2 arg3 harg3 arg4 harg4 arg5 harg5 arg6 harg6 arg7 harg7 x0 x1 x2 x3 x4 x5 x6 = I.h1.dq 1 ∧
    kernelRun0_A.sl.r_224 c i arg1 harg1 arg2 harg2 arg3 harg3 arg4 harg4 arg5 harg5 arg6 harg6 arg7 harg7 x0 x1 x2 x3 x4 x5 x6 = I.h1.dq 2 ∧
    kernelRun0_A.sl.r_223 c i arg1 harg1 arg2 harg2 arg3 harg3 arg4 harg4 arg5 harg5 arg6 harg6 arg7 harg7 x0 x1 x2 x3 x4 x5 x6 = I.h1.dq 3 ∧
    kernelRun0_A.sl.r_285 c i arg1 harg1 arg2 harg2 arg3 harg3 arg6 harg6 arg7 harg7 x0 x1 x2 x5 x6 = I.dvp ∧
    kernelRun0_A.sl.r_286 c i arg1 harg1 arg2 harg2 arg3 harg3 arg6 harg6 arg7 harg7 x0 x1 x2 x5 x6 = I.dvc ∧
    kernelRun0_A.sl.r_289 c i arg1 harg1 arg2 harg2 arg3 harg3 arg4 harg4 arg5 harg5 arg6 harg6 arg7 harg7 x0 x1 x2 x3 x4 x5 x6 = I.dkp ∧
    kernelRun0_A.sl.r_220 c i arg1 harg1 arg2 harg2 arg3 harg3 arg4 harg4 arg5 harg5 arg6 harg6 arg7 harg7 x0 x1 x2 x3 x4 x5 x6 = I.h1.dkc ∧
    kernelRun0_A.sl.r_273 c i arg1 harg1 arg2 harg2 arg3 harg3 arg4 harg4 arg5 harg5 arg6 harg6 arg7 harg7 x0 x1 x2 x3 x4 x5 x6 = I.h0.dkc ∧
    kernelRun0_A.sl.r_271 c i arg1 harg1 arg2 harg2 arg3 harg3 arg4 harg4 arg5 harg5 arg6 harg6 arg7 harg7 x0 x1 x2 x3 x4 x5 x6 = I.dsink := by
  have q0 : kernelRun0_A.sl.r c arg1 harg1 x0 = I.q 0 := by rw [hI]; rfl
  have q1 : kernelRun0_A.sl.r_1 c arg1 harg1 x0 = I.q 1 := by rw [hI]; rfl
  have q2 : kernelRun0_A.sl.r_2 c arg1 harg1 x0 = I.q 2 := by rw [hI]; rfl
  have q3 : kernelRun0_A.sl.r_3 c arg1 harg1 x0 = I.q 3 := by rw [hI]; rfl
  have q4 : kernelRun0_A.sl.r_4 c arg1 harg1 x0 = I.q 4 := by rw [hI]; rfl
  have q5 : kernelRun0_A.sl.r_5 c arg1 harg1 x0 = I.q 5 := by rw [hI]; rfl
  have q6 : kernelRun0_A.sl.r_6 c arg1 harg1 x0 = I.q 6 := by rw [hI]; rfl
  have q7 : kernelRun0_A.sl.r_7 c arg1 harg1 x0 = I.q 7 := by rw [hI]; rfl
  have o0 : View.readAt (Elt F) arg7.view (Rect.unit (s := S128x1024) ![0, 0] S128x128.size inb_S128x1024_S128x128_0_0).toLoadRect (harg7.unread x6) = I.o 0 := by rw [hI]; rfl
  have o1 : View.readAt (Elt F) arg7.view (Rect.unit (s := S128x1024) ![0, 128] S128x128.size inb_S128x1024_S128x128_0_128).toLoadRect (harg7.unread x6) = I.o 1 := by rw [hI]; rfl
  have o2 : View.readAt (Elt F) arg7.view (Rect.unit (s := S128x1024) ![0, 256] S128x128.size inb_S128x1024_S128x128_0_256).toLoadRect (harg7.unread x6) = I.o 2 := by rw [hI]; rfl
  have o3 : View.readAt (Elt F) arg7.view (Rect.unit (s := S128x1024) ![0, 384] S128x128.size inb_S128x1024_S128x128_0_384).toLoadRect (harg7.unread x6) = I.o 3 := by rw [hI]; rfl
  have o4 : View.readAt (Elt F) arg7.view (Rect.unit (s := S128x1024) ![0, 512] S128x128.size inb_S128x1024_S128x128_0_512).toLoadRect (harg7.unread x6) = I.o 4 := by rw [hI]; rfl
  have o5 : View.readAt (Elt F) arg7.view (Rect.unit (s := S128x1024) ![0, 640] S128x128.size inb_S128x1024_S128x128_0_640).toLoadRect (harg7.unread x6) = I.o 5 := by rw [hI]; rfl
  have o6 : View.readAt (Elt F) arg7.view (Rect.unit (s := S128x1024) ![0, 768] S128x128.size inb_S128x1024_S128x128_0_768).toLoadRect (harg7.unread x6) = I.o 6 := by rw [hI]; rfl
  have o7 : View.readAt (Elt F) arg7.view (Rect.unit (s := S128x1024) ![0, 896] S128x128.size inb_S128x1024_S128x128_0_896).toLoadRect (harg7.unread x6) = I.o 7 := by rw [hI]; rfl
  have e8 : kernelRun0_A.sl.r_8 c arg2 harg2 x1 = I.kp := by rw [hI]; rfl
  have e9 : kernelRun0_A.sl.r_9 c arg3 harg3 x2 = I.kc := by rw [hI]; rfl
  have e10 : kernelRun0_A.sl.r_10 c arg4 harg4 x3 = I.vp := by rw [hI]; rfl
  have e11 : kernelRun0_A.sl.r_11 c arg5 harg5 x4 = I.vc := by rw [hI]; rfl
  have e12 : kernelRun0_A.sl.r_12 c arg6 harg6 x5 = I.sink := by rw [hI]; rfl
  have f2 : View.readAt (Elt F) arg2.view (Rect.unit (s := S128x128) ![0, 0] S128x128.size inb_S128x128_S128x128_0_0).toLoadRect (harg2.unread x1) = I.kp := by rw [hI]; rfl
  have f3 : View.readAt (Elt F) arg3.view (Rect.unit (s := S128x128) ![0, 0] S128x128.size inb_S128x128_S128x128_0_0).toLoadRect (harg3.unread x2) = I.kc := by rw [hI]; rfl
  have f4 : View.readAt (Elt F) arg4.view (Rect.unit (s := S128x128) ![0, 0] S128x128.size inb_S128x128_S128x128_0_0).toLoadRect (harg4.unread x3) = I.vp := by rw [hI]; rfl
  have f5 : View.readAt (Elt F) arg5.view (Rect.unit (s := S128x128) ![0, 0] S128x128.size inb_S128x128_S128x128_0_0).toLoadRect (harg5.unread x4) = I.vc := by rw [hI]; rfl
  have f6 : View.readAt (Elt F) arg6.view (Rect.unit (s := S1x128) ![0, 0] S1x128.size inb_S1x128_S1x128_0_0).toLoadRect (harg6.unread x5) = I.sink := by rw [hI]; rfl
  have e0 : kernelRun0_A.sl.v12 i = I.first := by rw [hI]; rfl
  clear hI
  have ec : kernelRun0_A.sl.cst_106 (F := F) = zeroS := rfl
  have ed : kernelRun0_A.sl.cst_352 (F := F) = eighthS := rfl
  have e18 : kernelRun0_A.sl.v18 = lanes := rfl
  simp only [q0, q1, q2, q3, q4, q5, q6, q7, o0, o1, o2, o3, o4, o5, o6, o7, e0, e8, e9, e10, e11, e12, e18, ec, ed, f2, f3, f4, f5, f6,
    kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289,
    pay11, pay12, pay13, pay15, pay17, pay18, pay20, pay21, pay23, pay24, pay26, pay27, pay28, pay29, pay30, pay31, pay32, pay33, pay34, pay35, pay36, pay37, pay38, pay39, pay40, pay41, pay42, pay43, pay44, pay46, pay49, pay50, pay51, pay52, pay53, pay54, pay55, pay56, pay59, pay60, pay61, pay62, pay63, pay65, pay68, pay69, pay70, pay71, pay72, pay73, pay75, pay78, pay79, pay80, pay81, pay82, pay83, pay84, pay87, pay88, pay89, pay90, pay91, pay93, pay96, pay97, pay98, pay99, pay100, pay101, pay102, pay104, pay107, pay108, pay109, pay110, pay111, pay112, pay113, pay114, pay117, pay118, pay119, pay120, pay122, pay123, pay124, pay125, pay126, pay127, pay128, pay129, pay130, pay131, pay133, pay134, pay136, pay137, pay138, pay139, pay140, pay141, pay142, pay143, pay144, pay146, pay147, pay148, pay149, pay150, pay151, pay152, pay154, pay155, pay156, pay157, pay158, pay159, pay160, pay161, pay162, pay164, pay167, pay168, pay169, pay170, pay171, pay172, pay173, pay174, pay176, pay179, pay180, pay181, pay182, pay183, pay185, pay186, pay187, pay188, pay189, pay190, pay191, pay192, pay193, pay195, pay198, pay199, pay200, pay201, pay202, pay203, pay204, pay206, pay209, pay210, pay211, pay212, pay213, pay214, pay215, pay216, pay217, pay218, pay220, pay221, pay222, pay223, pay225, pay228, pay229, pay230, pay231, pay232, pay233, pay234, pay235, pay236, pay237, pay238, pay239, pay240, pay241, pay242, pay243, pay245, pay246, pay247, pay248, pay249, pay250, pay251, pay254, pay255, pay256, pay257, pay258, pay260, pay261, pay262, pay263, pay264, pay265, pay268, pay269, pay270, pay271, pay274, pay275, pay276, pay277, pay278, pay279, pay281, pay282, pay283, pay284, pay285, pay286, pay287, pay289, pay290, pay291, pay292, pay294, pay295, pay296, pay297, pay298, pay300, pay301, pay302, pay303, pay305, pay307, pay309, pay310, pay311, pay312, pay313, pay314, pay315, pay317, pay318, pay320, pay321, pay322, pay323, pay324, pay325, pay326, pay327, pay328, pay331, pay332, pay333, pay334, pay335, pay336, pay337, pay339, pay340, pay341, pay342, pay344, pay345, pay346, pay347, pay348, pay349, pay351, pay352, pay353, pay354, pay355, pay356, pay359, pay360, pay361, pay362, pay363, pay364, pay367, pay368, pay369, pay370, pay371, pay374, pay375, pay376, pay377, pay378, pay379, pay380, pay382, pay383, pay385, pay387, pay388, pay389, pay390, pay391, pay392, pay393, pay394, pay395, pay396, pay397, pay398, pay399, pay400, pay401, pay402, pay403, pay404, and_self]

end Cert.KernelIdeal.Att

end
-- ==== Proof.Attention.Out.lean ====
module

public import proofs.«01_k».proof.Proof.Attention.Point
public import proofs.«01_k».proof.Proof.Attention.Words
public import proofs.«01_k».proof.Proof.Mlp.Base
public import proofs.«01_k».proof.Proof.Gen.KernelIdeal.Value
public import Idealize.ShloMosaic.Lib.Pipeline.ReadBack

/-! What a grid point leaves: its block of the gradient, the two sums it keeps, and the two slabs it carries to the block before. -/

@[expose] public section

noncomputable section

open Idealize.ShloMosaic

namespace Cert.KernelIdeal.Att

open Cert.Att Cert.KernelIdeal Cert.KernelIdeal.Gen Idealize.ShloMosaic Idealize.ShloMosaic.TcCoe Idealize.SL.Sem

theorem idx_ext2 {n : Fin 2 → ℕ} {x y : (a : Fin 2) → Fin (n a)} (h0 : (x 0 : ℕ) = y 0) (h1 : (x 1 : ℕ) = y 1) : x = y := by
  funext a
  apply Fin.ext
  fin_cases a
  · exact h0
  · exact h1

/-- A slab of what the point before carried. -/
def slabOf (K : FVec Ideal S2x128x128 .f32) (k : Fin 2) : M Ideal := fun z => K (ix3 k (z 0) (z 1))

/-- The ten column blocks of the gradient: eight of the queries, the keys' and the values'. -/
def col (I : In Ideal) (K : FVec Ideal S2x128x128 .f32) : Fin 10 → M Ideal :=
  ![I.h0.dq 0, I.h0.dq 1, I.h0.dq 2, I.h0.dq 3, I.h1.dq 0, I.h1.dq 1, I.h1.dq 2, I.h1.dq 3, addf I.dkc (slabOf K 0), addf I.dvc (slabOf K 1)]

/-- The block of rows the point leaves. -/
def rowsOf (I : In Ideal) (K : FVec Ideal S2x128x128 .f32) : FVec Ideal S128x1280 .bf16 := fun z =>
  (col I K ⟨(z 1).val / 128, by have : (z 1).val < 1280 := (z 1).isLt; omega⟩ (ix2 (z 0) ⟨(z 1).val % 128, Nat.mod_lt _ (by omega)⟩) : EReal)

/-- The sum over the rows so far, and this block's. -/
def sumsOf (I : In Ideal) (K : FVec Ideal S2x128x128 .f32) (old : FVec Ideal S1x1280 .f32) : FVec Ideal S1x1280 .f32 := fun z =>
  (old z + ∑ r : Fin 128, rowsOf I K (ix2 r (z 1)) : EReal)

/-- What the point carries on: nothing from the first block. -/
def carryOf (I : In Ideal) : FVec Ideal S2x128x128 .f32 := fun z =>
  ((if (z 0).val = 0 then I.dkp else I.dvp) (ix2 (z 1) (z 2)) * k0_pay1 (F := Ideal) I.first 1#1 : EReal)

section
variable (I : In Ideal) (K : FVec Ideal S2x128x128 .f32) (old : FVec Ideal S1x1280 .f32)

theorem rows_emb (k : Fin 10) {n : ℕ} (hn : n = 128 * k.val) (inb : ∀ a, (![0, n] : Fin 2 → ℕ) a + (![128, 128] : Fin 2 → ℕ) a ≤ S128x1280.size a) (x : S128x128.Idx) :
    col I K k x = rowsOf I K ((Rect.unit (s := S128x1280) ![0, n] ![128, 128] inb).emb x) := by
  subst hn
  have h1 : (x 1).val < 128 := (x 1).isLt
  have e : ∀ (k' : Fin 10) (r l : Fin 128), k' = k → r = x 0 → l = x 1 → col I K k x = col I K k' (ix2 r l) := by
    rintro _ _ _ rfl rfl rfl
    exact congrArg _ (ix2_eta x).symm
  refine e _ _ _ (Fin.ext ?_) (Fin.ext ?_) (Fin.ext ?_)
  · show (128 * k.val + 1 * (x 1).val) / 128 = k.val
    omega
  · show 0 + 1 * (x 0).val = (x 0).val
    omega
  · show (128 * k.val + 1 * (x 1).val) % 128 = (x 1).val
    omega

theorem sumPay_apply (w : M Ideal) (o : FVec Ideal S1x128 .f32) (x : S1x128.Idx) : k0_pay413 w o x = (o x + ∑ r : Fin 128, w (ix2 r (x 1)) : EReal) := by
  pointwise [k0_pay413]

theorem sums_emb (k : Fin 10) {n : ℕ} (hn : n = 128 * k.val) (inb : ∀ a, (![0, n] : Fin 2 → ℕ) a + (![1, 128] : Fin 2 → ℕ) a ≤ S1x1280.size a) (x : S1x128.Idx) :
    k0_pay413 (col I K k) (View.ld (Val := Elt Ideal) (e' := .f32) old (Rect.unit (s := S1x1280) ![0, n] S1x128.size inb)) x = sumsOf I K old ((Rect.unit (s := S1x1280) ![0, n] ![1, 128] inb).emb x) := by
  rw [sumPay_apply]
  refine congrArg (old ((Rect.unit (s := S1x1280) ![0, n] ![1, 128] inb).emb x) + ·) (Finset.sum_congr rfl fun r _ => ?_)
  have inb' : ∀ a, (![0, n] : Fin 2 → ℕ) a + (![128, 128] : Fin 2 → ℕ) a ≤ S128x1280.size a := by
    intro a
    fin_cases a
    · show 0 + 128 ≤ 128
      omega
    · exact inb 1
  refine (rows_emb I K k hn inb' (ix2 r (x 1))).trans (congrArg (rowsOf I K) ?_)
  refine idx_ext2 ?_ rfl
  show 0 + 1 * r.val = r.val
  omega

/-- The stores of the block of rows. -/
def list7 : List (View.Piece (Elt Ideal) S128x1280 .bf16) :=
  [⟨Rect.unit ![0, 1152] ![128, 128] inb_S128x1280_S128x128_0_1152, k0_pay427 (col I K 9)⟩,
   ⟨Rect.unit ![0, 1024] ![128, 128] inb_S128x1280_S128x128_0_1024, k0_pay424 (col I K 8)⟩,
   ⟨Rect.unit ![0, 896] ![128, 128] inb_S128x1280_S128x128_0_896, k0_pay422 (col I K 7)⟩,
   ⟨Rect.unit ![0, 768] ![128, 128] inb_S128x1280_S128x128_0_768, k0_pay420 (col I K 6)⟩,
   ⟨Rect.unit ![0, 640] ![128, 128] inb_S128x1280_S128x128_0_640, k0_pay418 (col I K 5)⟩,
   ⟨Rect.unit ![0, 512] ![128, 128] inb_S128x1280_S128x128_0_512, k0_pay416 (col I K 4)⟩,
   ⟨Rect.unit ![0, 384] ![128, 128] inb_S128x1280_S128x128_0_384, k0_pay414 (col I K 3)⟩,
   ⟨Rect.unit ![0, 256] ![128, 128] inb_S128x1280_S128x128_0_256, k0_pay412 (col I K 2)⟩,
   ⟨Rect.unit ![0, 128] ![128, 128] inb_S128x1280_S128x128_0_128, k0_pay409 (col I K 1)⟩,
   ⟨Rect.unit ![0, 0] ![128, 128] inb_S128x1280_S128x128_0_0, k0_pay407 (col I K 0)⟩]

theorem pieces7 : View.PiecesOf (rowsOf I K) (list7 I K) :=
  ⟨rows_emb I K 9 rfl inb_S128x1280_S128x128_0_1152, rows_emb I K 8 rfl inb_S128x1280_S128x128_0_1024, rows_emb I K 7 rfl inb_S128x1280_S128x128_0_896, rows_emb I K 6 rfl inb_S128x1280_S128x128_0_768, rows_emb I K 5 rfl inb_S128x1280_S128x128_0_640, rows_emb I K 4 rfl inb_S128x1280_S128x128_0_512, rows_emb I K 3 rfl inb_S128x1280_S128x128_0_384, rows_emb I K 2 rfl inb_S128x1280_S128x128_0_256, rows_emb I K 1 rfl inb_S128x1280_S128x128_0_128, rows_emb I K 0 rfl inb_S128x1280_S128x128_0_0, trivial⟩

/-- The stores of the sums. -/
def list9 : List (View.Piece (Elt Ideal) S1x1280 .f32) :=
  [⟨Rect.unit ![0, 1152] ![1, 128] inb_S1x1280_S1x128_0_1152, k0_pay428 (col I K 9) (View.ld (Val := Elt Ideal) (e' := .f32) old (Rect.unit (s := S1x1280) ![0, 1152] S1x128.size inb_S1x1280_S1x128_0_1152))⟩,
   ⟨Rect.unit ![0, 1024] ![1, 128] inb_S1x1280_S1x128_0_1024, k0_pay426 (col I K 8) (k0_pay425 (View.ld (Val := Elt Ideal) (e' := .f32) old (Rect.unit (s := S1x1280) ![0, 1024] S1x128.size inb_S1x1280_S1x128_0_1024)))⟩,
   ⟨Rect.unit ![0, 896] ![1, 128] inb_S1x1280_S1x128_0_896, k0_pay423 (col I K 7) (View.ld (Val := Elt Ideal) (e' := .f32) old (Rect.unit (s := S1x1280) ![0, 896] S1x128.size inb_S1x1280_S1x128_0_896))⟩,
   ⟨Rect.unit ![0, 768] ![1, 128] inb_S1x1280_S1x128_0_768, k0_pay421 (col I K 6) (View.ld (Val := Elt Ideal) (e' := .f32) old (Rect.unit (s := S1x1280) ![0, 768] S1x128.size inb_S1x1280_S1x128_0_768))⟩,
   ⟨Rect.unit ![0, 640] ![1, 128] inb_S1x1280_S1x128_0_640, k0_pay419 (col I K 5) (View.ld (Val := Elt Ideal) (e' := .f32) old (Rect.unit (s := S1x1280) ![0, 640] S1x128.size inb_S1x1280_S1x128_0_640))⟩,
   ⟨Rect.unit ![0, 512] ![1, 128] inb_S1x1280_S1x128_0_512, k0_pay417 (col I K 4) (View.ld (Val := Elt Ideal) (e' := .f32) old (Rect.unit (s := S1x1280) ![0, 512] S1x128.size inb_S1x1280_S1x128_0_512))⟩,
   ⟨Rect.unit ![0, 384] ![1, 128] inb_S1x1280_S1x128_0_384, k0_pay415 (col I K 3) (View.ld (Val := Elt Ideal) (e' := .f32) old (Rect.unit (s := S1x1280) ![0, 384] S1x128.size inb_S1x1280_S1x128_0_384))⟩,
   ⟨Rect.unit ![0, 256] ![1, 128] inb_S1x1280_S1x128_0_256, k0_pay413 (col I K 2) (View.ld (Val := Elt Ideal) (e' := .f32) old (Rect.unit (s := S1x1280) ![0, 256] S1x128.size inb_S1x1280_S1x128_0_256))⟩,
   ⟨Rect.unit ![0, 128] ![1, 128] inb_S1x1280_S1x128_0_128, k0_pay411 (col I K 1) (k0_pay410 (View.ld (Val := Elt Ideal) (e' := .f32) old (Rect.unit (s := S1x1280) ![0, 128] S1x128.size inb_S1x1280_S1x128_0_128)))⟩,
   ⟨Rect.unit ![0, 0] ![1, 128] inb_S1x1280_S1x128_0_0, k0_pay408 (col I K 0) (View.ld (Val := Elt Ideal) (e' := .f32) old (Rect.unit (s := S1x1280) ![0, 0] S1x128.size inb_S1x1280_S1x128_0_0))⟩]

theorem pieces9 : View.PiecesOf (sumsOf I K old) (list9 I K old) :=
  ⟨sums_emb I K old 9 rfl inb_S1x1280_S1x128_0_1152, sums_emb I K old 8 rfl inb_S1x1280_S1x128_0_1024, sums_emb I K old 7 rfl inb_S1x1280_S1x128_0_896, sums_emb I K old 6 rfl inb_S1x1280_S1x128_0_768, sums_emb I K old 5 rfl inb_S1x1280_S1x128_0_640, sums_emb I K old 4 rfl inb_S1x1280_S1x128_0_512, sums_emb I K old 3 rfl inb_S1x1280_S1x128_0_384, sums_emb I K old 2 rfl inb_S1x1280_S1x128_0_256, sums_emb I K old 1 rfl inb_S1x1280_S1x128_0_128, sums_emb I K old 0 rfl inb_S1x1280_S1x128_0_0, trivial⟩

/-- The stores of the two slabs. -/
def listS : List (View.Piece (Elt Ideal) S2x128x128 .f32) :=
  [⟨Rect.unit ![1, 0, 0] ![1, 128, 128] inb_S2x128x128_S1x128x128_1_0_0, k0_pay3 I.first I.dvp 1#1⟩,
   ⟨Rect.unit ![0, 0, 0] ![1, 128, 128] inb_S2x128x128_S1x128x128_0_0_0, k0_pay2 I.first I.dkp 1#1⟩]

theorem slabPay_apply (b : BitVec 1) (w : M Ideal) (x : S1x128x128.Idx) : k0_pay3 b w 1#1 x = (w (ix2 (x 1) (x 2)) * k0_pay1 (F := Ideal) b 1#1 : EReal) := by
  generalize hb : k0_pay1 (F := Ideal) b 1#1 = f
  unfold k0_pay3
  rw [hb]
  pointwise []

theorem piecesS : View.PiecesOf (carryOf I) (listS I) := by
  refine ⟨fun x => (slabPay_apply _ _ x).trans ?_, fun x => (slabPay_apply _ _ x).trans ?_, trivial⟩
  · have h0 : (x 0).val < 1 := (x 0).isLt
    have e : ((Rect.unit (s := S2x128x128) ![1, 0, 0] ![1, 128, 128] inb_S2x128x128_S1x128x128_1_0_0).emb x : S2x128x128.Idx) = ix3 1 (x 1) (x 2) := by
      refine Mlp.idx_ext3 ?_ ?_ ?_
      · show 1 + 1 * (x 0).val = 1
        omega
      · show 0 + 1 * (x 1).val = (x 1).val
        omega
      · show 0 + 1 * (x 2).val = (x 2).val
        omega
    rw [e]
    unfold carryOf
    simp
  · have h0 : (x 0).val < 1 := (x 0).isLt
    have e : ((Rect.unit (s := S2x128x128) ![0, 0, 0] ![1, 128, 128] inb_S2x128x128_S1x128x128_0_0_0).emb x : S2x128x128.Idx) = ix3 0 (x 1) (x 2) := by
      refine Mlp.idx_ext3 ?_ ?_ ?_
      · show 0 + 1 * (x 0).val = 0
        omega
      · show 0 + 1 * (x 1).val = (x 1).val
        omega
      · show 0 + 1 * (x 2).val = (x 2).val
        omega
    rw [e]
    unfold carryOf
    simp

theorem cover7 (y : S128x1280.Idx) : ∃ p ∈ list7 I K, y ∈ p.1.set := View.cover_of_tiledL (list7 I K) S128x128.size (by sl_kernel_rfl) y
theorem cover9 (y : S1x1280.Idx) : ∃ p ∈ list9 I K old, y ∈ p.1.set := View.cover_of_tiledL (list9 I K old) S1x128.size (by sl_kernel_rfl) y
theorem coverS (y : S2x128x128.Idx) : ∃ p ∈ listS I, y ∈ p.1.set := View.cover_of_tiledL (listS I) S1x128x128.size (by sl_kernel_rfl) y

/-- What a slab of the carried block is, as the body loads it. -/
theorem keys_eq : k0_pay405 k0_pay8 I.h1.dkc I.h0.dkc (View.ld (Val := Elt Ideal) (e' := .f32) K (Rect.unit (s := S2x128x128) ![0, 0, 0] S1x128x128.size inb_S2x128x128_S1x128x128_0_0_0)) = col I K 8 := by
  have e : shapeCast S128x128 (View.ld (Val := Elt Ideal) (e' := .f32) K (Rect.unit (s := S2x128x128) ![0, 0, 0] S1x128x128.size inb_S2x128x128_S1x128x128_0_0_0)) shapeCasts_S1x128x128_S128x128 = (slabOf K 0 : S128x128.Idx → Ideal .f32) := by
    funext z
    pointwise [slabOf]
  exact congrArg (addf I.dkc) e

theorem values_eq : k0_pay406 I.dvc (View.ld (Val := Elt Ideal) (e' := .f32) K (Rect.unit (s := S2x128x128) ![1, 0, 0] S1x128x128.size inb_S2x128x128_S1x128x128_1_0_0)) = col I K 9 := by
  have e : shapeCast S128x128 (View.ld (Val := Elt Ideal) (e' := .f32) K (Rect.unit (s := S2x128x128) ![1, 0, 0] S1x128x128.size inb_S2x128x128_S1x128x128_1_0_0)) shapeCasts_S1x128x128_S128x128 = (slabOf K 1 : S128x128.Idx → Ideal .f32) := by
    funext z
    pointwise [slabOf]
  exact congrArg (addf I.dvc) e

end

section
variable (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x1024 .bf16) (harg7 : arg7.IsWhole) (arg8 : Memref sig .tc .vmem S128x1280 .bf16) (harg8 : arg8.IsWhole) (arg9 : Memref sig .tc .vmem S1x128 .f32) (harg9 : arg9.IsWhole) (arg10 : Memref sig .tc .vmem S1x1280 .f32) (harg10 : arg10.IsWhole) (arg11 : Memref sig .tc .vmem S2x128x128 .f32) (harg11 : arg11.IsWhole)
  (x0 : Vec Ideal S128x1024 .f32) (x1 : Vec Ideal S128x128 .f32) (x2 : Vec Ideal S128x128 .f32) (x3 : Vec Ideal S128x128 .f32) (x4 : Vec Ideal S128x128 .f32) (x5 : Vec Ideal S1x128 .f32) (x6 : Vec Ideal S128x1024 .bf16)

section
variable (hc0 : ¬cond0_0 i) (xo8 : Vec Ideal S1x128 .f32) (xo9 : Vec Ideal S1x1280 .f32) (xs0 : Vec Ideal S2x128x128 .f32)
  (I : In Ideal) (hI : I = loaded i arg1 harg1 arg2 harg2 arg3 harg3 arg4 harg4 arg5 harg5 arg6 harg6 arg7 harg7 x0 x1 x2 x3 x4 x5 x6)

include hI

theorem keysB : kernelRun0_B.sl.r_290 c i arg1 harg1 arg2 harg2 arg3 harg3 arg4 harg4 arg5 harg5 arg6 harg6 arg7 harg7 arg11 harg11 x0 x1 x2 x3 x4 x5 x6 xs0 = col I xs0 8 := by
  obtain ⟨-, -, -, -, -, -, -, -, -, -, -, e220, e273, -⟩ := wordsB c i arg1 harg1 arg2 harg2 arg3 harg3 arg4 harg4 arg5 harg5 arg6 harg6 arg7 harg7 x0 x1 x2 x3 x4 x5 x6 I hI
  unfold kernelRun0_B.sl.r_290
  rw [e220, e273, View.readAt_eq_ld, harg11.read_unread]
  exact keys_eq I xs0

theorem valuesB : kernelRun0_B.sl.r_291 c i arg1 harg1 arg2 harg2 arg3 harg3 arg6 harg6 arg7 harg7 arg11 harg11 x0 x1 x2 x5 x6 xs0 = col I xs0 9 := by
  obtain ⟨-, -, -, -, -, -, -, -, -, e286, -⟩ := wordsB c i arg1 harg1 arg2 harg2 arg3 harg3 arg4 harg4 arg5 harg5 arg6 harg6 arg7 harg7 x0 x1 x2 x3 x4 x5 x6 I hI
  unfold kernelRun0_B.sl.r_291
  rw [e286, View.readAt_eq_ld, harg11.read_unread]
  exact values_eq I xs0

theorem out_B_7 : out0_B_7 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0 = rowsOf I xs0 := by
  obtain ⟨e284, e283, e282, e281, e226, e225, e224, e223, -⟩ := wordsB c i arg1 harg1 arg2 harg2 arg3 harg3 arg4 harg4 arg5 harg5 arg6 harg6 arg7 harg7 x0 x1 x2 x3 x4 x5 x6 I hI
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0)]
  funext y
  unfold kernelRun0_B
  dsimp only
  rw [keysB c i arg1 harg1 arg2 harg2 arg3 harg3 arg4 harg4 arg5 harg5 arg6 harg6 arg7 harg7 arg11 harg11 x0 x1 x2 x3 x4 x5 x6 xs0 I hI, valuesB c i arg1 harg1 arg2 harg2 arg3 harg3 arg4 harg4 arg5 harg5 arg6 harg6 arg7 harg7 arg11 harg11 x0 x1 x2 x3 x4 x5 x6 xs0 I hI, kernelRun0_B.sl.r_293,
    e284, e283, e282, e281, e226, e225, e224, e223]
  exact View.canon_apply_of_pieces (rowsOf I xs0) (list7 I xs0) (pieces7 I xs0).mem y (cover7 I xs0 y)

theorem out_B_9 : out0_B_9 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0 = sumsOf I xs0 xo9 := by
  obtain ⟨e284, e283, e282, e281, e226, e225, e224, e223, -⟩ := wordsB c i arg1 harg1 arg2 harg2 arg3 harg3 arg4 harg4 arg5 harg5 arg6 harg6 arg7 harg7 x0 x1 x2 x3 x4 x5 x6 I hI
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0)]
  funext y
  unfold kernelRun0_B
  dsimp only
  rw [keysB c i arg1 harg1 arg2 harg2 arg3 harg3 arg4 harg4 arg5 harg5 arg6 harg6 arg7 harg7 arg11 harg11 x0 x1 x2 x3 x4 x5 x6 xs0 I hI, valuesB c i arg1 harg1 arg2 harg2 arg3 harg3 arg4 harg4 arg5 harg5 arg6 harg6 arg7 harg7 arg11 harg11 x0 x1 x2 x3 x4 x5 x6 xs0 I hI, kernelRun0_B.sl.r_292, kernelRun0_B.sl.r_294,
    e284, e283, e282, e281, e226, e225, e224, e223]
  simp only [kernelRun0_B.sl.v1521, kernelRun0_B.sl.v1529, kernelRun0_B.sl.v1537, kernelRun0_B.sl.v1545, kernelRun0_B.sl.v1553, kernelRun0_B.sl.v1561, kernelRun0_B.sl.v1569, kernelRun0_B.sl.v1577, kernelRun0_B.sl.v1585,
    View.readAt_eq_ld, harg10.read_unread]
  exact View.canon_apply_of_pieces (sumsOf I xs0 xo9) (list9 I xs0 xo9) (pieces9 I xs0 xo9).mem y (cover9 I xs0 xo9 y)

theorem out_B_8 : out0_B_8 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0 = addf xo8 I.dsink := by
  obtain ⟨-, -, -, -, -, -, -, -, -, -, -, -, -, e271⟩ := wordsB c i arg1 harg1 arg2 harg2 arg3 harg3 arg4 harg4 arg5 harg5 arg6 harg6 arg7 harg7 x0 x1 x2 x3 x4 x5 x6 I hI
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0)]
  unfold kernelRun0_B
  dsimp only
  rw [View.canon_unit_zero (funext fun a => by fin_cases a <;> rfl), e271, View.readAt_eq_ld, harg9.read_unread, View.ld_unit_zero (funext fun a => by fin_cases a <;> rfl)]
  exact congrArg (addf · I.dsink) (shapeCast_self xo8 shapeCasts_S1x128_S1x128)

theorem sout_B_0 : sout0_B_0 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0 = carryOf I := by
  have hf : kernelRun0_B.sl.v12 i = I.first := by rw [hI]; rfl
  obtain ⟨-, -, -, -, -, -, -, -, e285, -, e289, -⟩ := wordsB c i arg1 harg1 arg2 harg2 arg3 harg3 arg4 harg4 arg5 harg5 arg6 harg6 arg7 harg7 x0 x1 x2 x3 x4 x5 x6 I hI
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo8 xo9 xs0)]
  funext y
  unfold kernelRun0_B
  dsimp only
  rw [e285, e289, hf]
  exact View.canon_apply_of_pieces (carryOf I) (listS I) (piecesS I).mem y (coverS I y)

end

section
variable (hc0 : cond0_0 i) (I : In Ideal) (hI : I = loaded i arg1 harg1 arg2 harg2 arg3 harg3 arg4 harg4 arg5 harg5 arg6 harg6 arg7 harg7 x0 x1 x2 x3 x4 x5 x6)

include hI

theorem keysA : kernelRun0_A.sl.r_290 c i arg1 harg1 arg2 harg2 arg3 harg3 arg4 harg4 arg5 harg5 arg6 harg6 arg7 harg7 arg11 x0 x1 x2 x3 x4 x5 x6 = col I k0_pay7 8 := by
  obtain ⟨-, -, -, -, -, -, -, -, -, -, -, e220, e273, -⟩ := wordsA c i arg1 harg1 arg2 harg2 arg3 harg3 arg4 harg4 arg5 harg5 arg6 harg6 arg7 harg7 x0 x1 x2 x3 x4 x5 x6 I hI
  unfold kernelRun0_A.sl.r_290 kernelRun0_A.sl.v1505 kernelRun0_A.sl.HS0_1
  rw [e220, e273, View.readCov_fill _ _ _ _ _ (fun a => by fin_cases a <;> rfl)]
  exact keys_eq I _

theorem valuesA : kernelRun0_A.sl.r_291 c i arg1 harg1 arg2 harg2 arg3 harg3 arg6 harg6 arg7 harg7 arg11 x0 x1 x2 x5 x6 = col I k0_pay7 9 := by
  obtain ⟨-, -, -, -, -, -, -, -, -, e286, -⟩ := wordsA c i arg1 harg1 arg2 harg2 arg3 harg3 arg4 harg4 arg5 harg5 arg6 harg6 arg7 harg7 x0 x1 x2 x3 x4 x5 x6 I hI
  unfold kernelRun0_A.sl.r_291 kernelRun0_A.sl.v1508 kernelRun0_A.sl.HS0_1
  rw [e286, View.readCov_fill _ _ _ _ _ (fun a => by fin_cases a <;> rfl)]
  exact values_eq I _

theorem out_A_7 : out0_A_7 c i arg1 harg1 arg2 harg2 arg3 harg3 arg4 harg4 arg5 harg5 arg6 harg6 arg7 harg7 arg8 harg8 arg9 harg9 arg10 harg10 arg11 harg11 hc0 x0 x1 x2 x3 x4 x5 x6 = rowsOf I k0_pay7 := by
  obtain ⟨e284, e283, e282, e281, e226, e225, e224, e223, -⟩ := wordsA c i arg1 harg1 arg2 harg2 arg3 harg3 arg4 harg4 arg5 harg5 arg6 harg6 arg7 harg7 x0 x1 x2 x3 x4 x5 x6 I hI
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6)]
  funext y
  unfold kernelRun0_A
  dsimp only
  rw [keysA c i arg1 harg1 arg2 harg2 arg3 harg3 arg4 harg4 arg5 harg5 arg6 harg6 arg7 harg7 arg11 x0 x1 x2 x3 x4 x5 x6 I hI, valuesA c i arg1 harg1 arg2 harg2 arg3 harg3 arg4 harg4 arg5 harg5 arg6 harg6 arg7 harg7 arg11 x0 x1 x2 x3 x4 x5 x6 I hI, kernelRun0_A.sl.r_293,
    e284, e283, e282, e281, e226, e225, e224, e223]
  exact View.canon_apply_of_pieces (rowsOf I k0_pay7) (list7 I k0_pay7) (pieces7 I k0_pay7).mem y (cover7 I k0_pay7 y)

theorem out_A_9 : out0_A_9 c i arg1 harg1 arg2 harg2 arg3 harg3 arg4 harg4 arg5 harg5 arg6 harg6 arg7 harg7 arg8 harg8 arg9 harg9 arg10 harg10 arg11 harg11 hc0 x0 x1 x2 x3 x4 x5 x6 = sumsOf I k0_pay7 k0_pay6 := by
  obtain ⟨e284, e283, e282, e281, e226, e225, e224, e223, -⟩ := wordsA c i arg1 harg1 arg2 harg2 arg3 harg3 arg4 harg4 arg5 harg5 arg6 harg6 arg7 harg7 x0 x1 x2 x3 x4 x5 x6 I hI
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6)]
  funext y
  unfold kernelRun0_A
  dsimp only
  have hk := keysA c i arg1 harg1 arg2 harg2 arg3 harg3 arg4 harg4 arg5 harg5 arg6 harg6 arg7 harg7 arg11 x0 x1 x2 x3 x4 x5 x6 I hI
  have hv := valuesA c i arg1 harg1 arg2 harg2 arg3 harg3 arg4 harg4 arg5 harg5 arg6 harg6 arg7 harg7 arg11 x0 x1 x2 x3 x4 x5 x6 I hI
  simp (disch := first | decide | (intro a; fin_cases a <;> rfl)) only [kernelRun0_A.sl.v1513, kernelRun0_A.sl.v1521, kernelRun0_A.sl.v1529, kernelRun0_A.sl.v1537, kernelRun0_A.sl.v1545, kernelRun0_A.sl.v1553, kernelRun0_A.sl.v1561, kernelRun0_A.sl.v1569, kernelRun0_A.sl.v1577, kernelRun0_A.sl.v1585, kernelRun0_A.sl.r_292, kernelRun0_A.sl.r_294, kernelRun0_A.sl.H9_10, kernelRun0_A.sl.H9_9, kernelRun0_A.sl.H9_8, kernelRun0_A.sl.H9_7, kernelRun0_A.sl.H9_6, kernelRun0_A.sl.H9_5, kernelRun0_A.sl.H9_4, kernelRun0_A.sl.H9_3, kernelRun0_A.sl.H9_2, kernelRun0_A.sl.H9_1, ↓View.readCov_skip, ↓View.readCov_fill, hk, hv, e284, e283, e282, e281, e226, e225, e224, e223]
  exact View.canon_append_of_piecesOf (sumsOf I k0_pay7 k0_pay6) [_] (list9 I k0_pay7 k0_pay6) (pieces9 I k0_pay7 k0_pay6) y (cover9 I k0_pay7 k0_pay6 y)

theorem out_A_8 : out0_A_8 c i arg1 harg1 arg2 harg2 arg3 harg3 arg4 harg4 arg5 harg5 arg6 harg6 arg7 harg7 arg8 harg8 arg9 harg9 arg10 harg10 arg11 harg11 hc0 x0 x1 x2 x3 x4 x5 x6 = addf k0_pay5 I.dsink := by
  obtain ⟨-, -, -, -, -, -, -, -, -, -, -, -, -, e271⟩ := wordsA c i arg1 harg1 arg2 harg2 arg3 harg3 arg4 harg4 arg5 harg5 arg6 harg6 arg7 harg7 x0 x1 x2 x3 x4 x5 x6 I hI
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  rw [View.canon_cons_unit_zero (funext fun a => by fin_cases a <;> rfl), e271]
  unfold kernelRun0_A.sl.v1604 kernelRun0_A.sl.H8_1
  rw [View.readCov_unit_zero _ (funext fun a => by fin_cases a <;> rfl)]
  exact congrArg (addf · I.dsink) (shapeCast_self k0_pay5 shapeCasts_S1x128_S1x128)

theorem sout_A_0 : sout0_A_0 c i arg1 harg1 arg2 harg2 arg3 harg3 arg4 harg4 arg5 harg5 arg6 harg6 arg7 harg7 arg8 harg8 arg9 harg9 arg10 harg10 arg11 harg11 hc0 x0 x1 x2 x3 x4 x5 x6 = carryOf I := by
  have hf : kernelRun0_A.sl.v12 i = I.first := by rw [hI]; rfl
  obtain ⟨-, -, -, -, -, -, -, -, e285, -, e289, -⟩ := wordsA c i arg1 harg1 arg2 harg2 arg3 harg3 arg4 harg4 arg5 harg5 arg6 harg6 arg7 harg7 x0 x1 x2 x3 x4 x5 x6 I hI
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6)]
  funext y
  unfold kernelRun0_A
  dsimp only
  rw [e285, e289, hf]
  exact View.canon_append_of_piecesOf (carryOf I) kernelRun0_A.sl.HS0_1 (listS I) (piecesS I) y (coverS I y)

end
end

end Cert.KernelIdeal.Att

end
-- ==== Proof.Attention.Grid.lean ====
module

public import proofs.«01_k».proof.Proof.Attention.Out
public import proofs.«01_k».proof.Proof.Attention.Band

/-! The grid: what the points leave in the arrays, from what the arrays held. -/

@[expose] public section

noncomputable section

open Idealize.ShloMosaic

namespace Cert.KernelIdeal.Att

open Cert.Att Cert.KernelIdeal Cert.KernelIdeal.Gen Idealize.ShloMosaic Idealize.ShloMosaic.TcCoe Idealize.SL.Sem
open Idealize.ShloMosaic.Pipeline (Dat)

/-- What the point of block `n` reads. -/
def blkIn (A : FVec Ideal S4096x1280 .f32) (s : FVec Ideal S1x128 .f32) (o : FVec Ideal S4096x1024 .bf16) (n : Fin 32) : In Ideal where
  first := BitVec.ofBool (decide (n.val = 0))
  q t := fun z => A (ix2 (rw4 n (z 0)) ⟨128 * t.val + (z 1).val, by have : (z 1).val < 128 := (z 1).isLt; omega⟩)
  o t := fun z => o (ix2 (rw4 n (z 0)) ⟨128 * t.val + (z 1).val, by have : (z 1).val < 128 := (z 1).isLt; omega⟩)
  kp := fun z => A (ix2 (rw4 (before n) (z 0)) ⟨1024 + (z 1).val, by have : (z 1).val < 128 := (z 1).isLt; omega⟩)
  kc := fun z => A (ix2 (rw4 n (z 0)) ⟨1024 + (z 1).val, by have : (z 1).val < 128 := (z 1).isLt; omega⟩)
  vp := fun z => A (ix2 (rw4 (before n) (z 0)) ⟨1152 + (z 1).val, by have : (z 1).val < 128 := (z 1).isLt; omega⟩)
  vc := fun z => A (ix2 (rw4 n (z 0)) ⟨1152 + (z 1).val, by have : (z 1).val < 128 := (z 1).isLt; omega⟩)
  sink := s

variable (m : (ℓ : Loc nD τ sig) → Buf (Elt Ideal) ℓ) (c : Dev nD)

abbrev qkvOf : FVec Ideal S4096x1280 .f32 := m ((c : Thread nD τ).loc main_arg0)
abbrev sinkOf : FVec Ideal S1x128 .f32 := m ((c : Thread nD τ).loc main_arg1)
abbrev doutOf : FVec Ideal S4096x1024 .bf16 := m ((c : Thread nD τ).loc main_arg2)

/-- Point `t` takes block `31 - t`. -/
theorem idx_facts : ∀ t : Fin cfg0.N, win0_0.index t 0 = 31 - t.val ∧ win0_0.index t 1 = 0 ∧
    win0_1.index t 0 = 31 - t.val - 1 ∧ win0_1.index t 1 = 8 ∧ win0_2.index t 0 = 31 - t.val ∧ win0_2.index t 1 = 8 ∧
    win0_3.index t 0 = 31 - t.val - 1 ∧ win0_3.index t 1 = 9 ∧ win0_4.index t 0 = 31 - t.val ∧ win0_4.index t 1 = 9 :=
  (by decide +kernel : ∀ t : Fin grid0.N, _)

theorem idx_rest : ∀ t : Fin cfg0.N, win0_5.index t 0 = 0 ∧ win0_5.index t 1 = 0 ∧ win0_6.index t 0 = 31 - t.val ∧ win0_6.index t 1 = 0 ∧
    win0_7.index t 0 = 31 - t.val ∧ win0_7.index t 1 = 0 ∧ win0_8.index t 0 = 0 ∧ win0_8.index t 1 = 0 ∧ win0_9.index t 0 = 0 ∧ win0_9.index t 1 = 0 :=
  (by decide +kernel : ∀ t : Fin grid0.N, _)

theorem first_eq : ∀ t : Fin cfg0.N, kernelRun0_B.sl.v12 (grid0.coords t) = BitVec.ofBool (decide (31 - t.val = 0)) :=
  (by decide +kernel : ∀ t : Fin grid0.N, _)

/-- The block of a point. -/
def blkOf (t : ℕ) : Fin 32 := ⟨31 - t, by omega⟩

theorem X_apply (t : Fin cfg0.N) (z : S128x1024.Idx) : X0_0 m c t z = qkvOf m c (ix2 (rw4 (blkOf t) (z 0)) ⟨(z 1).val, by have : (z 1).val < 1024 := (z 1).isLt; omega⟩) := by
  obtain ⟨a0, b0, -⟩ := idx_facts t
  unfold X0_0 Pipeline.Window.fill
  rw [dif_pos (moved0_0 t z)]
  refine congrArg (qkvOf m c) (idx_ext2 ((win0_0.rect_emb_val t _ 0).trans ?_) ((win0_0.rect_emb_val t _ 1).trans ?_))
  · rw [a0]
    show (31 - t.val) * 128 + (z 0).val = 128 * (31 - t.val) + (z 0).val
    omega
  · rw [b0]
    show 0 * 1024 + (z 1).val = (z 1).val
    omega

theorem kp_eq (t : Fin cfg0.N) : iblk m c 1 t = (blkIn (qkvOf m c) (sinkOf m c) (doutOf m c) (blkOf t)).kp := by
  obtain ⟨-, -, a, b, -⟩ := idx_facts t
  funext z
  refine congrArg (qkvOf m c) (idx_ext2 ((win0_1.rect_emb_val t z 0).trans ?_) ((win0_1.rect_emb_val t z 1).trans ?_))
  · rw [a]
    show (31 - t.val - 1) * 128 + (z 0).val = 128 * (31 - t.val - 1) + (z 0).val
    omega
  · rw [b]
    rfl

theorem kc_eq (t : Fin cfg0.N) : iblk m c 2 t = (blkIn (qkvOf m c) (sinkOf m c) (doutOf m c) (blkOf t)).kc := by
  obtain ⟨-, -, -, -, a, b, -⟩ := idx_facts t
  funext z
  refine congrArg (qkvOf m c) (idx_ext2 ((win0_2.rect_emb_val t z 0).trans ?_) ((win0_2.rect_emb_val t z 1).trans ?_))
  · rw [a]
    show (31 - t.val) * 128 + (z 0).val = 128 * (31 - t.val) + (z 0).val
    omega
  · rw [b]
    rfl

theorem vp_eq (t : Fin cfg0.N) : iblk m c 3 t = (blkIn (qkvOf m c) (sinkOf m c) (doutOf m c) (blkOf t)).vp := by
  obtain ⟨-, -, -, -, -, -, a, b, -⟩ := idx_facts t
  funext z
  refine congrArg (qkvOf m c) (idx_ext2 ((win0_3.rect_emb_val t z 0).trans ?_) ((win0_3.rect_emb_val t z 1).trans ?_))
  · rw [a]
    show (31 - t.val - 1) * 128 + (z 0).val = 128 * (31 - t.val - 1) + (z 0).val
    omega
  · rw [b]
    rfl

theorem vc_eq (t : Fin cfg0.N) : iblk m c 4 t = (blkIn (qkvOf m c) (sinkOf m c) (doutOf m c) (blkOf t)).vc := by
  obtain ⟨-, -, -, -, -, -, -, -, a, b⟩ := idx_facts t
  funext z
  refine congrArg (qkvOf m c) (idx_ext2 ((win0_4.rect_emb_val t z 0).trans ?_) ((win0_4.rect_emb_val t z 1).trans ?_))
  · rw [a]
    show (31 - t.val) * 128 + (z 0).val = 128 * (31 - t.val) + (z 0).val
    omega
  · rw [b]
    rfl

theorem sink_eq (t : Fin cfg0.N) : iblk m c 5 t = sinkOf m c := by
  obtain ⟨a, b, -⟩ := idx_rest t
  funext z
  exact congrArg (sinkOf m c) (idx_ext2 (win0_5.rect_emb_val_of_index_zero t 0 a z) (win0_5.rect_emb_val_of_index_zero t 1 b z))

theorem out_apply (t : Fin cfg0.N) (z : S128x1024.Idx) : iblk m c 6 t z = doutOf m c (ix2 (rw4 (blkOf t) (z 0)) (z 1)) := by
  obtain ⟨-, -, a, b, -⟩ := idx_rest t
  refine congrArg (doutOf m c) (idx_ext2 ((win0_6.rect_emb_val t z 0).trans ?_) ((win0_6.rect_emb_val t z 1).trans ?_))
  · rw [a]
    show (31 - t.val) * 128 + (z 0).val = 128 * (31 - t.val) + (z 0).val
    omega
  · rw [b]
    show 0 * 1024 + (z 1).val = (z 1).val
    omega

abbrev inAt (t : ℕ) : In Ideal := blkIn (qkvOf m c) (sinkOf m c) (doutOf m c) (blkOf t)

theorem loaded_eq (t : Fin cfg0.N) : inAt m c t = loaded (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (X0_0 m c t) (iblk m c 1 t) (iblk m c 2 t) (iblk m c 3 t) (iblk m c 4 t) (iblk m c 5 t) (iblk m c 6 t) := by
  have hz : (![0, 0] : Fin 2 → Nat) = fun _ => 0 := Mlp.zero2
  unfold loaded inAt
  rw [kp_eq, kc_eq, vp_eq, vc_eq, sink_eq, first_eq]
  simp only [View.readAt_eq_ld, (hs0_0 t).read_unread, (hs0_1 t).read_unread, (hs0_2 t).read_unread, (hs0_3 t).read_unread, (hs0_4 t).read_unread, (hs0_5 t).read_unread, (hs0_6 t).read_unread,
    View.ld_unit_zero (S := S128x128) hz, View.ld_unit_zero (S := S1x128) hz]
  have hq : ∀ t' : Fin 8, (inAt m c t).q t' = View.ld (Val := Elt Ideal) (e' := .f32) (X0_0 m c t) (Rect.unit (s := S128x1024) ![0, 128 * t'.val] S128x128.size (pair_inb t')) := fun t' => by
    funext z
    refine Eq.trans ?_ (X_apply m c t _).symm
    refine congrArg (qkvOf m c) (idx_ext2 ?_ ?_)
    · show 128 * (31 - t.val) + (z 0).val = 128 * (31 - t.val) + (0 + 1 * (z 0).val)
      omega
    · show 128 * t'.val + (z 1).val = 128 * t'.val + 1 * (z 1).val
      omega
  have ho : ∀ t' : Fin 8, (inAt m c t).o t' = View.ld (Val := Elt Ideal) (e' := .bf16) (iblk m c 6 t) (Rect.unit (s := S128x1024) ![0, 128 * t'.val] S128x128.size (pair_inb t')) := fun t' => by
    funext z
    refine Eq.trans ?_ (out_apply m c t _).symm
    refine congrArg (doutOf m c) (idx_ext2 ?_ ?_)
    · show 128 * (31 - t.val) + (z 0).val = 128 * (31 - t.val) + (0 + 1 * (z 0).val)
      omega
    · show 128 * t'.val + (z 1).val = 128 * t'.val + 1 * (z 1).val
      omega
  simp only [← hq, ← ho]
  rfl

/-- What the first point leaves. -/
theorem outs_zero (h : 0 < cfg0.N) : outsAt0 m c 0 h = (rowsOf (inAt m c 0) k0_pay7, addf k0_pay5 (inAt m c 0).dsink, sumsOf (inAt m c 0) k0_pay7 k0_pay6, carryOf (inAt m c 0)) := by
  have e := outsAt0_A m c ⟨0, h⟩ rfl
  rw [out_A_7 (I := inAt m c 0) (hI := loaded_eq m c ⟨0, h⟩), out_A_8 (I := inAt m c 0) (hI := loaded_eq m c ⟨0, h⟩), out_A_9 (I := inAt m c 0) (hI := loaded_eq m c ⟨0, h⟩), sout_A_0 (I := inAt m c 0) (hI := loaded_eq m c ⟨0, h⟩)] at e
  exact e

/-- What a later point leaves. -/
theorem outs_succ (n : ℕ) (h : n + 1 < cfg0.N) : outsAt0 m c (n + 1) h =
    (rowsOf (inAt m c (n + 1)) (outsAt0 m c n (Nat.lt_of_succ_lt h)).2.2.2, addf (outsAt0 m c n (Nat.lt_of_succ_lt h)).2.1 (inAt m c (n + 1)).dsink,
      sumsOf (inAt m c (n + 1)) (outsAt0 m c n (Nat.lt_of_succ_lt h)).2.2.2 (outsAt0 m c n (Nat.lt_of_succ_lt h)).2.2.1, carryOf (inAt m c (n + 1))) := by
  have hN : cfg0.N = 32 := N_0
  have e := outsAt0_B m c ⟨n + 1, h⟩ (by dsimp only; omega)
  rw [out_B_7 (I := inAt m c (n + 1)) (hI := loaded_eq m c ⟨n + 1, h⟩), out_B_8 (I := inAt m c (n + 1)) (hI := loaded_eq m c ⟨n + 1, h⟩), out_B_9 (I := inAt m c (n + 1)) (hI := loaded_eq m c ⟨n + 1, h⟩), sout_B_0 (I := inAt m c (n + 1)) (hI := loaded_eq m c ⟨n + 1, h⟩)] at e
  exact e

/-- What the point finds carried. -/
def found (t : ℕ) : FVec Ideal S2x128x128 .f32 := if t = 0 then k0_pay7 else carryOf (inAt m c (t - 1))

theorem carried_eq (n : ℕ) (h : n < cfg0.N) : (outsAt0 m c n h).2.2.2 = carryOf (inAt m c n) := by
  cases n with
  | zero => rw [outs_zero]
  | succ n => rw [outs_succ]

theorem rows_eq (n : ℕ) (h : n < cfg0.N) : (outsAt0 m c n h).1 = rowsOf (inAt m c n) (found m c n) := by
  cases n with
  | zero => rw [outs_zero]; rfl
  | succ n => rw [outs_succ, carried_eq]; rfl

theorem pay5_apply (z : S1x128.Idx) : (k0_pay5 (F := Ideal) z : EReal) = 0 := by pointwise [k0_pay5]
theorem pay6_apply (z : S1x1280.Idx) : (k0_pay6 (F := Ideal) z : EReal) = 0 := by pointwise [k0_pay6]
theorem pay7_apply (z : S2x128x128.Idx) : (k0_pay7 (F := Ideal) z : EReal) = 0 := by pointwise [k0_pay7]

theorem sinks_eq (n : ℕ) (h : n < cfg0.N) (z : S1x128.Idx) : (outsAt0 m c n h).2.1 z = (∑ t ∈ Finset.range (n + 1), (inAt m c t).dsink z : EReal) := by
  induction n with
  | zero =>
    rw [outs_zero, Finset.sum_range_one]
    exact (congrArg (· + ((inAt m c 0).dsink z : EReal)) (pay5_apply z)).trans (zero_add _)
  | succ n ih =>
    rw [outs_succ, Finset.sum_range_succ, ← ih (Nat.lt_of_succ_lt h)]
    rfl

theorem sums_eq (n : ℕ) (h : n < cfg0.N) (z : S1x1280.Idx) : (outsAt0 m c n h).2.2.1 z = (∑ t ∈ Finset.range (n + 1), ∑ r : Fin 128, rowsOf (inAt m c t) (found m c t) (ix2 r (z 1)) : EReal) := by
  induction n with
  | zero =>
    rw [outs_zero, Finset.sum_range_one]
    exact (congrArg (· + (∑ r : Fin 128, rowsOf (inAt m c 0) k0_pay7 (ix2 r (z 1)) : EReal)) (pay6_apply z)).trans (zero_add _)
  | succ n ih =>
    rw [outs_succ, Finset.sum_range_succ, ← ih (Nat.lt_of_succ_lt h), carried_eq]
    rfl

/-! ## The three arrays -/

/-- The gradient of the queries, keys and values, whole. -/
def rowsAll : FVec Ideal S4096x1280 .bf16 := fun z =>
  rowsOf (inAt m c (31 - (z 0).val / 128)) (found m c (31 - (z 0).val / 128)) (ix2 ⟨(z 0).val % 128, Nat.mod_lt _ (by omega)⟩ (z 1))

theorem flushed7 (t : Fin cfg0.N) : (dats m 0 c).flushed 7 t = (win0_7.blk t).view.read (Elt Ideal) (rowsAll m c) := by
  obtain ⟨-, -, -, -, a, b, -⟩ := idx_rest t
  have ht : t.val < 32 := Nat.lt_of_lt_of_eq t.isLt N_0
  rw [Value.flushed7, rows_eq]
  funext y
  have h0 : (y 0).val < 128 := (y 0).isLt
  have e0 : ((win0_7.rect t).emb y 0).val = (31 - t.val) * 128 + (y 0).val := (win0_7.rect_emb_val t y 0).trans (by rw [a]; rfl)
  have e1 : ((win0_7.rect t).emb y 1).val = (y 1).val := (win0_7.rect_emb_val_of_index_zero t 1 b y)
  have key : ∀ (t' : ℕ) (y' : S128x1280.Idx), t' = t.val → y' = y → rowsOf (inAt m c t) (found m c t) y = rowsOf (inAt m c t') (found m c t') y' := by
    rintro _ _ rfl rfl; rfl
  refine key (31 - ((win0_7.rect t).emb y 0).val / 128) (ix2 ⟨((win0_7.rect t).emb y 0).val % 128, Nat.mod_lt _ (by omega)⟩ ((win0_7.rect t).emb y 1)) ?_ (idx_ext2 ?_ ?_)
  · rw [e0]; omega
  · show ((win0_7.rect t).emb y 0).val % 128 = (y 0).val
    rw [e0]; omega
  · exact e1

theorem cover7' (i : S4096x1280.Idx) : ∃ t : Fin cfg0.N, (cfg0.win 7).flush t = true ∧ i ∈ ((cfg0.win 7).blk t).view.set := by
  have key : ∀ a : Fin 32, ∃ t : Fin grid0.N, win0_7.index t 0 = a.val ∧ win0_7.index t 1 = 0 := by decide +kernel
  have h0 : (i 0).val < 4096 := (i 0).isLt
  have h1 : (i 1).val < 1280 := (i 1).isLt
  obtain ⟨t, ha, hb⟩ := key ⟨(i 0).val / 128, by omega⟩
  refine ⟨t, flush0_7 t, ?_⟩
  show i ∈ ((View.whole main_v0_0).slice (win0_7.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final7 : (dats m 0 c).arrAt 7 cfg0.N = rowsAll m c :=
  (dats m 0 c).arrAt_eq_of_cover 7 _ (fun t _ => flushed7 m c t) cover7'

/-- The gradient of the sinks' row. -/
def sinkAll : FVec Ideal S1x128 .f32 := fun z => (∑ t ∈ Finset.range 32, (inAt m c t).dsink z : EReal)

theorem flushed8 (t : Fin cfg0.N) (hf : (cfg0.win 8).flush t = true) : (dats m 0 c).flushed 8 t = (win0_8.blk t).view.read (Elt Ideal) (sinkAll m c) := by
  obtain ⟨-, -, -, -, -, -, a, b, -⟩ := idx_rest t
  have ht : t.val < 32 := Nat.lt_of_lt_of_eq t.isLt N_0
  have hl : t.val = 31 := by have := (flush0_8 t).mp hf; omega
  rw [Value.flushed8]
  funext y
  refine (sinks_eq m c t.val t.isLt y).trans ?_
  rw [hl]
  exact congrArg (sinkAll m c) (idx_ext2 (win0_8.rect_emb_val_of_index_zero t 0 a y) (win0_8.rect_emb_val_of_index_zero t 1 b y)).symm

theorem last_point : ∃ t : Fin cfg0.N, t.val = 31 := ⟨⟨31, by rw [show cfg0.N = 32 from N_0]; decide⟩, rfl⟩

theorem final8 : (dats m 0 c).arrAt 8 cfg0.N = sinkAll m c :=
  (dats m 0 c).arrAt_eq_of_cover 8 _ (flushed8 m c) fun i => by
    obtain ⟨t, ht⟩ := last_point
    have h0 : (i 0).val < 1 := (i 0).isLt
    have h1 : (i 1).val < 128 := (i 1).isLt
    obtain ⟨-, -, -, -, -, -, a, b, -⟩ := idx_rest t
    refine ⟨t, (flush0_8 t).mpr (by rw [ht]), ?_⟩
    show i ∈ ((View.whole main_v0_1).slice (win0_8.rect t)).set
    rw [View.set_slice_whole, Rect.mem_set_unit]
    exact fun x => match x with
      | ⟨0, _⟩ => Mlp.tile_mem (a.trans (Nat.div_eq_of_lt h0).symm) (Nat.succ_pos _)
      | ⟨1, _⟩ => Mlp.tile_mem (b.trans (Nat.div_eq_of_lt h1).symm) (Nat.succ_pos _)

/-- The sum of the rows. -/
def sumsAll : FVec Ideal S1x1280 .f32 := fun z => (∑ t ∈ Finset.range 32, ∑ r : Fin 128, rowsOf (inAt m c t) (found m c t) (ix2 r (z 1)) : EReal)

theorem flushed9 (t : Fin cfg0.N) (hf : (cfg0.win 9).flush t = true) : (dats m 0 c).flushed 9 t = (win0_9.blk t).view.read (Elt Ideal) (sumsAll m c) := by
  obtain ⟨-, -, -, -, -, -, -, -, a, b⟩ := idx_rest t
  have ht : t.val < 32 := Nat.lt_of_lt_of_eq t.isLt N_0
  have hl : t.val = 31 := by have := (flush0_9 t).mp hf; omega
  rw [Value.flushed9]
  funext y
  refine (sums_eq m c t.val t.isLt y).trans ?_
  rw [hl]
  exact congrArg (sumsAll m c) (idx_ext2 (win0_9.rect_emb_val_of_index_zero t 0 a y) (win0_9.rect_emb_val_of_index_zero t 1 b y)).symm

theorem final9 : (dats m 0 c).arrAt 9 cfg0.N = sumsAll m c :=
  (dats m 0 c).arrAt_eq_of_cover 9 _ (flushed9 m c) fun i => by
    obtain ⟨t, ht⟩ := last_point
    have h0 : (i 0).val < 1 := (i 0).isLt
    have h1 : (i 1).val < 1280 := (i 1).isLt
    obtain ⟨-, -, -, -, -, -, -, -, a, b⟩ := idx_rest t
    refine ⟨t, (flush0_9 t).mpr (by rw [ht]), ?_⟩
    show i ∈ ((View.whole main_v0_2).slice (win0_9.rect t)).set
    rw [View.set_slice_whole, Rect.mem_set_unit]
    exact fun x => match x with
      | ⟨0, _⟩ => Mlp.tile_mem (a.trans (Nat.div_eq_of_lt h0).symm) (Nat.succ_pos _)
      | ⟨1, _⟩ => Mlp.tile_mem (b.trans (Nat.div_eq_of_lt h1).symm) (Nat.succ_pos _)

end Cert.KernelIdeal.Att

end
-- ==== Proof.Attention.Whole.lean ====
/- The three arrays of the attention's backward call, from the blocks: the kernel's rows, sums and sinks are the reference's. -/
module

public import proofs.«01_k».proof.Proof.Attention.Grads
public import proofs.«01_k».proof.Proof.Attention.Grid

@[expose] public section

noncomputable section

open Idealize.ShloMosaic

namespace Cert.Att

/-! ## Columns and rows -/

def qcol (j : Fin 2) (g : Fin 8) (d : Fin 64) : Fin 1280 := ⟨512 * j.val + 64 * g.val + d.val, by omega⟩
def kcol (j : Fin 2) (d : Fin 64) : Fin 1280 := ⟨1024 + (64 * j.val + d.val), by omega⟩
def vcol (j : Fin 2) (d : Fin 64) : Fin 1280 := ⟨1152 + (64 * j.val + d.val), by omega⟩

theorem col_cases (k : Fin 1280) : (∃ j g d, k = qcol j g d) ∨ (∃ j d, k = kcol j d) ∨ ∃ j d, k = vcol j d := by
  by_cases h : k.val < 1024
  · exact .inl ⟨⟨k.val / 512, by omega⟩, ⟨k.val % 512 / 64, by omega⟩, ⟨k.val % 64, by omega⟩, Fin.ext (by simp only [qcol]; omega)⟩
  · by_cases h' : k.val < 1152
    · exact .inr (.inl ⟨⟨(k.val - 1024) / 64, by omega⟩, ⟨k.val % 64, by omega⟩, Fin.ext (by simp only [kcol]; omega)⟩)
    · exact .inr (.inr ⟨⟨(k.val - 1152) / 64, by omega⟩, ⟨k.val % 64, by omega⟩, Fin.ext (by simp only [vcol]; omega)⟩)

theorem sum_4096 (f : Fin 4096 → EReal) : ∑ x, f x = ∑ n : Fin 32, ∑ r : Fin 128, f (rw4 n r) := by
  rw [← Fintype.sum_prod_type', ← (finProdFinEquiv (m := 32) (n := 128)).sum_comp]
  exact Finset.sum_congr rfl fun x _ => congrArg f (Fin.ext (by simp [rw4, finProdFinEquiv]; omega))

theorem at4 {a b c d : ℕ} (f : (⟨4, ![a, b, c, d]⟩ : Shape).Idx → EReal) {x x' : Fin a} {y y' : Fin b} {z z' : Fin c} {w w' : Fin d}
    (h0 : x.val = x'.val) (h1 : y.val = y'.val) (h2 : z.val = z'.val) (h3 : w.val = w'.val) : f (ix4 x y z w) = f (ix4 x' y' z' w') := by
  rw [Fin.ext h0, Fin.ext h1, Fin.ext h2, Fin.ext h3]

theorem at5 {a b c d e : ℕ} (f : (⟨5, ![a, b, c, d, e]⟩ : Shape).Idx → EReal) {x x' : Fin a} {y y' : Fin b} {z z' : Fin c} {w w' : Fin d} {u u' : Fin e}
    (h0 : x.val = x'.val) (h1 : y.val = y'.val) (h2 : z.val = z'.val) (h3 : w.val = w'.val) (h4 : u.val = u'.val) : f (ix5 x y z w u) = f (ix5 x' y' z' w' u') := by
  rw [Fin.ext h0, Fin.ext h1, Fin.ext h2, Fin.ext h3, Fin.ext h4]

end Cert.Att

namespace Cert.ReferenceIdeal.Att

open Cert.Att Cert.ReferenceIdeal.Read Cert.ReferenceIdeal Cert.ReferenceIdeal.Gen Idealize.ShloMosaic Idealize.ShloMosaic.TcCoe Idealize.SL.Sem

variable (A : FVec Ideal S4096x1280 .f32) (s : FVec Ideal S1x128 .f32) (o : FVec Ideal S4096x1024 .bf16)
variable (n : Fin 32) (j : Fin 2) (g : Fin 8) (r l : Fin 128) (d : Fin 64)

/-! ## The reference's layout -/

theorem shift_read (y : FVec Ideal S33x128x2x64 .f32) :
    (shapeCast S4096x128 (extractStridedSlice S4096x2x64 ![128, 0, 0] (shapeCast S4224x2x64 y shapeCasts_S33x128x2x64_S4224x2x64) slices_S4224x2x64_S4096x2x64_128_0_0) shapeCasts_S4096x2x64_S4096x128
      (ix2 (rw4 n l) ⟨64 * j.val + d.val, by omega⟩) : EReal) = y (ix4 ⟨n.val + 1, by omega⟩ l j d) := by
  pointwise []
  exact at4 y (by simp only [rw4] <;> omega) (by simp only [rw4] <;> omega) (by simp only [] <;> omega) (by simp only [] <;> omega)

theorem q174_apply : val_main_v174 (F := Ideal) A s o (ix2 (rw4 n r) ⟨512 * j.val + 64 * g.val + d.val, by omega⟩) = val_main_v149 (F := Ideal) A s o (ix5 n j r g d) := by
  unfold val_main_v174 val_main_v169 val_main_v150
  generalize val_main_v149 (F := Ideal) A s o = y
  pointwise []
  exact at5 y (by simp only [rw4] <;> omega) (by simp only [] <;> omega) (by simp only [rw4] <;> omega) (by simp only [] <;> omega) (by simp only [] <;> omega)

theorem k173_apply : val_main_v173 (F := Ideal) A s o (ix2 (rw4 n l) ⟨64 * j.val + d.val, by omega⟩) = val_main_v162 (F := Ideal) A s o (ix4 ⟨n.val + 1, by omega⟩ l j d) := by
  unfold val_main_v173 val_main_v168 val_main_v166
  exact shift_read n j l d _

theorem v172_apply : val_main_v172 (F := Ideal) A s o (ix2 (rw4 n l) ⟨64 * j.val + d.val, by omega⟩) = val_main_v157 (F := Ideal) A s o (ix4 ⟨n.val + 1, by omega⟩ l j d) := by
  unfold val_main_v172 val_main_v165 val_main_v163
  exact shift_read n j l d _

theorem cat_q : val_main_v175 (F := Ideal) A s o (ix2 (rw4 n r) (qcol j g d)) = val_main_v174 (F := Ideal) A s o (ix2 (rw4 n r) ⟨512 * j.val + 64 * g.val + d.val, by omega⟩) := by
  unfold val_main_v175
  generalize val_main_v174 (F := Ideal) A s o = a
  generalize val_main_v173 (F := Ideal) A s o = b
  generalize val_main_v172 (F := Ideal) A s o = c
  pointwise []
  rw [dif_pos (show (qcol j g d).val < 1024 by simp only [qcol]; omega)]
  rfl

theorem cat_k : val_main_v175 (F := Ideal) A s o (ix2 (rw4 n r) (kcol j d)) = val_main_v173 (F := Ideal) A s o (ix2 (rw4 n r) ⟨64 * j.val + d.val, by omega⟩) := by
  unfold val_main_v175
  generalize val_main_v174 (F := Ideal) A s o = a
  generalize val_main_v173 (F := Ideal) A s o = b
  generalize val_main_v172 (F := Ideal) A s o = c
  pointwise []
  rw [dif_neg (show ¬ (kcol j d).val < 1024 by simp only [kcol]; omega), dif_pos (show (kcol j d).val - 1024 < 128 by simp only [kcol]; omega)]
  exact at2 b rfl (by simp only [kcol]; omega)

theorem cat_v : val_main_v175 (F := Ideal) A s o (ix2 (rw4 n r) (vcol j d)) = val_main_v172 (F := Ideal) A s o (ix2 (rw4 n r) ⟨64 * j.val + d.val, by omega⟩) := by
  unfold val_main_v175
  generalize val_main_v174 (F := Ideal) A s o = a
  generalize val_main_v173 (F := Ideal) A s o = b
  generalize val_main_v172 (F := Ideal) A s o = c
  pointwise []
  rw [dif_neg (show ¬ (vcol j d).val < 1024 by simp only [vcol]; omega), dif_neg (show ¬ (vcol j d).val - 1024 < 128 by simp only [vcol]; omega)]
  exact at2 c rfl (by simp only [vcol]; omega)

theorem sums_read (z : S1x1280.Idx) : (val_main_v178 (F := Ideal) A s o z : EReal) = ∑ n, ∑ r, val_main_v175 (F := Ideal) A s o (ix2 (rw4 n r) (z 1)) := by
  unfold val_main_v178 val_main_v177
  generalize val_main_v175 (F := Ideal) A s o = y
  rw [← sum_4096 (fun x => y (ix2 x (z 1)))]
  pointwise [val_main_cst_33]

theorem sinks_read (z : S1x128.Idx) : (val_main_v171 (F := Ideal) A s o z : EReal) =
    if h : (z 1).val < 16 then val_main_v143 (F := Ideal) A s o (ix2 ⟨(z 1).val / 8, by omega⟩ ⟨(z 1).val % 8, by omega⟩) else 0 := by
  unfold val_main_v171 val_main_v170 val_main_v144
  generalize val_main_v143 (F := Ideal) A s o = y
  pointwise [val_main_cst_32]

end Cert.ReferenceIdeal.Att

namespace Cert.KernelIdeal.Att

open Cert.Att Cert.KernelIdeal Cert.KernelIdeal.Gen Idealize.ShloMosaic Idealize.ShloMosaic.TcCoe Idealize.SL.Sem

variable (A : FVec Ideal S4096x1280 .f32) (s : FVec Ideal S1x128 .f32) (o : FVec Ideal S4096x1024 .bf16)
variable (n : Fin 32) (j : Fin 2) (g : Fin 8) (r l : Fin 128) (d : Fin 64)
variable (I : In Ideal) (K : FVec Ideal S2x128x128 .f32)

/-! ## The kernel's blocks -/

theorem head_ext {H G : Head} (h1 : H.first = G.first) (h2 : H.q = G.q) (h3 : H.o = G.o) (h4 : H.kc = G.kc) (h5 : H.kp = G.kp) (h6 : H.vc = G.vc) (h7 : H.vp = G.vp)
    (h8 : H.c = G.c) : H = G := by
  cases H
  cases G
  simp only at h1 h2 h3 h4 h5 h6 h7 h8
  subst h1 h2 h3 h4 h5 h6 h7 h8
  rfl

theorem head_eq : (blkIn A s o n).head g j = headOf A s o n g j := by
  have hf' : (BitVec.ofBool (decide (n.val = 0)) = 1) = (n.val = 0) := by
    by_cases h : n.val = 0 <;> simp [h]
  have hq (f : (⟨2, ![4096, 1280]⟩ : Shape).Idx → EReal) (r : Fin 128) (d : Fin 64) : f (ix2 (rw4 n r) ⟨128 * (4 * j.val + g.val / 2) + (ln (hf g) d).val, by simp only [ln]; omega⟩) =
      f (ix2 (rw4 n r) ⟨512 * j.val + 64 * g.val + d.val, by omega⟩) := at2 f rfl (by simp only [ln, hf]; omega)
  have ho (f : (⟨2, ![4096, 1024]⟩ : Shape).Idx → EReal) (r : Fin 128) (d : Fin 64) : f (ix2 (rw4 n r) ⟨128 * (4 * j.val + g.val / 2) + (ln (hf g) d).val, by simp only [ln]; omega⟩) =
      f (ix2 (rw4 n r) ⟨512 * j.val + 64 * g.val + d.val, by omega⟩) := at2 f rfl (by simp only [ln, hf]; omega)
  exact head_ext hf' (funext fun r => funext fun d => hq A r d) (funext fun r => funext fun d => ho o r d) rfl rfl rfl rfl rfl

theorem col_q : col I K ⟨4 * j.val + g.val / 2, by omega⟩ = if j = 0 then I.h0.dq ⟨g.val / 2, by omega⟩ else I.h1.dq ⟨g.val / 2, by omega⟩ := by
  fin_cases j <;> fin_cases g <;> rfl

theorem rowsOf_at (k : Fin 1280) (b : Fin 10) (x : Fin 128) (h : k.val = 128 * b.val + x.val) : (rowsOf I K (ix2 r k) : EReal) = col I K b (ix2 r x) := by
  have key : ∀ (b' : Fin 10) (x' : Fin 128), b' = b → x' = x → (col I K b' (ix2 r x') : EReal) = col I K b (ix2 r x) := by
    rintro _ _ rfl rfl
    rfl
  exact key ⟨k.val / 128, by omega⟩ ⟨k.val % 128, by omega⟩ (Fin.ext (by simp only [] <;> omega)) (Fin.ext (by simp only [] <;> omega))

theorem rows_q : (rowsOf I K (ix2 r (qcol j g d)) : EReal) = (I.head g j).dq r d := by
  rw [rowsOf_at r I K _ ⟨4 * j.val + g.val / 2, by omega⟩ (ln (hf g) d) (by simp only [qcol, ln, hf]; omega), col_q]
  have e : hd ⟨g.val / 2, by omega⟩ (hf g) = g := Fin.ext (by simp only [hd, hf]; omega)
  by_cases h : j = 0
  · rw [if_pos h, dq0_apply, e, h]
  · rw [if_neg h, dq1_apply, e, show j = 1 by omega]

theorem rows_k : (rowsOf I K (ix2 l (kcol j d)) : EReal) = ∑ g, (I.head g j).dkc l d + K (ix3 0 l (ln j d)) := by
  rw [rowsOf_at l I K _ 8 (ln j d) (by simp only [kcol, ln]; omega), ← In.dkc_apply]
  rfl

theorem rows_v : (rowsOf I K (ix2 l (vcol j d)) : EReal) = ∑ g, (I.head g j).dvc l d + K (ix3 1 l (ln j d)) := by
  rw [rowsOf_at l I K _ 9 (ln j d) (by simp only [vcol, ln]; omega), ← In.dvc_apply]
  rfl

/-- A block that is not the first passes on what it has. -/
theorem pass : k0_pay1 (F := Ideal) 0#1 1#1 = (1 : EReal) := by
  have e : k0_pay1 (F := Ideal) 0#1 1#1 = (((BitVec.setWidth 32 (IntOp.xori 0#1 1#1)).toInt : ℝ) : EReal) := rfl
  rw [e, show (BitVec.setWidth 32 (IntOp.xori 0#1 1#1)).toInt = 1 by decide]
  simp

/-- What block `n` finds carried: what the next block passes on, and nothing for the last. -/
def carried : FVec Ideal S2x128x128 .f32 := if h : n.val + 1 < 32 then carryOf (blkIn A s o ⟨n.val + 1, h⟩) else k0_pay7

theorem carried_k : (carried A s o n (ix3 0 l (ln j d)) : EReal) = if h : n.val + 1 < 32 then ∑ g, (headOf A s o ⟨n.val + 1, h⟩ g j).dkp l d else 0 := by
  unfold carried
  split
  · next h =>
    show ((blkIn A s o ⟨n.val + 1, h⟩).dkp (ix2 l (ln j d)) * k0_pay1 (F := Ideal) 0#1 1#1 : EReal) = _
    rw [pass, mul_one, In.dkp_apply]
    simp only [head_eq]
  · exact pay7_apply _

theorem carried_v : (carried A s o n (ix3 1 l (ln j d)) : EReal) = if h : n.val + 1 < 32 then ∑ g, (headOf A s o ⟨n.val + 1, h⟩ g j).dvp l d else 0 := by
  unfold carried
  split
  · next h =>
    show ((blkIn A s o ⟨n.val + 1, h⟩).dvp (ix2 l (ln j d)) * k0_pay1 (F := Ideal) 0#1 1#1 : EReal) = _
    rw [pass, mul_one, In.dvp_apply]
    simp only [head_eq]
  · exact pay7_apply _

/-! ## Kernel and reference -/

section
variable (hA : ∀ i, IsReal (A i)) (hs : ∀ i, IsReal (s i)) (ho : ∀ i, IsReal (o i))
include hA hs ho

/-- The rows of a block. -/
theorem rows_block (k : Fin 1280) : (rowsOf (blkIn A s o n) (carried A s o n) (ix2 r k) : EReal) = ReferenceIdeal.Read.val_main_v175 (F := Ideal) A s o (ix2 (rw4 n r) k) := by
  rcases col_cases k with ⟨j, g, d, rfl⟩ | ⟨j, d, rfl⟩ | ⟨j, d, rfl⟩
  · rw [rows_q, head_eq, ReferenceIdeal.Att.cat_q, ReferenceIdeal.Att.q174_apply, ReferenceIdeal.Att.dq_apply A s o n j g r d hA hs ho]
  · rw [rows_k, carried_k, ReferenceIdeal.Att.cat_k, ReferenceIdeal.Att.k173_apply, ReferenceIdeal.Att.dk_apply A s o n j d r hA hs ho]
    simp only [head_eq]
  · rw [rows_v, carried_v, ReferenceIdeal.Att.cat_v, ReferenceIdeal.Att.v172_apply, ReferenceIdeal.Att.dv_apply A s o n j d r hA hs ho]
    simp only [head_eq]

end

theorem pick (f : Fin 2 → Fin 8 → EReal) : (∑ j', ∑ g', if sl j g = sl j' g' then f j' g' else 0) = f j g := by
  rw [Finset.sum_eq_single j, Finset.sum_eq_single g, if_pos rfl]
  · intro b _ hb
    exact if_neg fun h => hb (Fin.ext (by have := congrArg Fin.val h; simp only [sl] at this; omega))
  · simp
  · intro b _ hb
    exact Finset.sum_eq_zero fun g' _ => if_neg fun h => hb (Fin.ext (by have := congrArg Fin.val h; simp only [sl] at this; omega))
  · simp

end Cert.KernelIdeal.Att

end
-- ==== Proof.Attention.Final.lean ====
/- The attention's backward call computes the reference, when its three arrays are finite. -/
module

public import proofs.«01_k».proof.Defs
public import proofs.«01_k».proof.Proof.Attention.Whole

@[expose] public section

noncomputable section

open Idealize.ShloMosaic

namespace Cert.Att

/-! ## What the condition says -/

theorem real_of (x : EReal) (h : IntOp.andi (FloatOps.cmpf (F := Ideal) (φ := FTy.f32) .ogt x (⊥ : EReal)) (FloatOps.cmpf (F := Ideal) (φ := FTy.f32) .olt x (⊤ : EReal)) = 1#1) : IsReal x := by
  induction x with
  | bot => simp [FloatOps.cmpf, Ideal.cmp, IntOp.andi] at h
  | top => simp [FloatOps.cmpf, Ideal.cmp, IntOp.andi] at h
  | coe a => exact ⟨a, rfl⟩

theorem bot32 : Ideal.ofBits .f32 0xFF800000#32 = ⊥ := by simp [Ideal.ofBits, Ideal.ieee]
theorem top32 : Ideal.ofBits .f32 0x7F800000#32 = ⊤ := by simp [Ideal.ofBits, Ideal.ieee]
theorem bot16 : Ideal.ofBits .bf16 0xFF80#16 = ⊥ := by simp [Ideal.ofBits, Ideal.ieee]
theorem top16 : Ideal.ofBits .bf16 0x7F80#16 = ⊤ := by simp [Ideal.ofBits, Ideal.ieee]

variable [Pre_finite.Facts]
variable (A : FVec Ideal Pre_finite.S4096x1280 .f32) (s : FVec Ideal Pre_finite.S1x128 .f32) (o : FVec Ideal Pre_finite.S4096x1024 .bf16)

theorem fin_A (h : (Pre_finite.fn (F := Ideal) A s o).1 = fun _ => 1#1) (i : Pre_finite.S4096x1280.Idx) : IsReal (A i) := by
  refine real_of _ (Eq.trans ?_ (congrFun h i))
  rw [← bot32, ← top32]
  rfl

theorem fin_s (h : (Pre_finite.fn (F := Ideal) A s o).2.1 = fun _ => 1#1) (i : Pre_finite.S1x128.Idx) : IsReal (s i) := by
  refine real_of _ (Eq.trans ?_ (congrFun h i))
  rw [← bot32, ← top32]
  rfl

theorem fin_o (h : (Pre_finite.fn (F := Ideal) A s o).2.2 = fun _ => 1#1) (i : Pre_finite.S4096x1024.Idx) : IsReal (o i) := by
  refine real_of _ (Eq.trans ?_ (congrFun h i))
  rw [← bot16, ← top16]
  rfl

end Cert.Att

namespace Cert.KernelIdeal.Att

open Cert.Att Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The point's block finds what the next block passes on. -/
theorem found_eq (t : ℕ) (ht : t < 32) : found m c t = carried (qkvOf m c) (sinkOf m c) (doutOf m c) (blkOf t) := by
  unfold found carried
  by_cases h : t = 0
  · subst h
    rw [if_pos rfl, dif_neg (show ¬ (blkOf 0).val + 1 < 32 by decide)]
  · have e : (blkOf t).val = 31 - t := rfl
    have e' : blkOf (t - 1) = ⟨(blkOf t).val + 1, by omega⟩ := Fin.ext (by simp only [blkOf]; omega)
    rw [if_neg h, dif_pos (show (blkOf t).val + 1 < 32 by omega), inAt, e']

/-- The blocks in the order of the points. -/
theorem sum_points (f : Fin 32 → EReal) : ∑ t ∈ Finset.range 32, f (blkOf t) = ∑ n, f n := by
  rw [Finset.sum_range]
  exact Fintype.sum_equiv Fin.revPerm _ _ fun t => congrArg f (Fin.ext (by simp [blkOf]))

section
variable (hA : ∀ i, IsReal (qkvOf m c i)) (hs : ∀ i, IsReal (sinkOf m c i)) (ho : ∀ i, IsReal (doutOf m c i))
include hA hs ho

theorem rows_point (t : ℕ) (ht : t < 32) (r : Fin 128) (k : Fin 1280) : (rowsOf (inAt m c t) (found m c t) (ix2 r k) : EReal) =
    ReferenceIdeal.Read.val_main_v175 (F := Ideal) (qkvOf m c) (sinkOf m c) (doutOf m c) (ix2 (rw4 (blkOf t) r) k) := by
  rw [found_eq m c t ht]
  exact rows_block _ _ _ _ r hA hs ho k

theorem rows_ref : rowsAll m c = ReferenceIdeal.Read.val_main_v176 (F := Ideal) (qkvOf m c) (sinkOf m c) (doutOf m c) := by
  funext z
  have h0 : (z 0).val < 4096 := (z 0).isLt
  refine (rows_point m c hA hs ho _ (by omega) _ _).trans ?_
  show _ = (ReferenceIdeal.Read.val_main_v175 (F := Ideal) (qkvOf m c) (sinkOf m c) (doutOf m c) z : EReal)
  generalize ReferenceIdeal.Read.val_main_v175 (F := Ideal) (qkvOf m c) (sinkOf m c) (doutOf m c) = y
  exact congrArg y (idx_ext2 (by show 128 * (31 - (31 - (z 0).val / 128)) + (z 0).val % 128 = (z 0).val; omega) rfl)

theorem sums_ref : sumsAll m c = ReferenceIdeal.Read.val_main_v178 (F := Ideal) (qkvOf m c) (sinkOf m c) (doutOf m c) := by
  funext z
  refine Eq.trans ?_ (ReferenceIdeal.Att.sums_read (qkvOf m c) (sinkOf m c) (doutOf m c) z).symm
  refine Eq.trans (Finset.sum_congr rfl fun t ht => Finset.sum_congr rfl fun r _ => ?_)
    (sum_points fun n => ∑ r, ReferenceIdeal.Read.val_main_v175 (F := Ideal) (qkvOf m c) (sinkOf m c) (doutOf m c) (ix2 (rw4 n r) (z 1)))
  exact rows_point m c hA hs ho t (Finset.mem_range.mp ht) r (z 1)

theorem sinks_ref : sinkAll m c = ReferenceIdeal.Read.val_main_v171 (F := Ideal) (qkvOf m c) (sinkOf m c) (doutOf m c) := by
  funext z
  obtain ⟨l, rfl⟩ : ∃ l : Fin 128, z = ix2 0 l := ⟨z 1, idx_ext2 (by have : (z 0).val < 1 := (z 0).isLt; show (z 0).val = 0; omega) rfl⟩
  refine Eq.trans ?_ (ReferenceIdeal.Att.sinks_read (qkvOf m c) (sinkOf m c) (doutOf m c) _).symm
  have e : (sinkAll m c (ix2 0 l) : EReal) = ∑ n, ∑ j, ∑ g, if l = sl j g then (headOf (qkvOf m c) (sinkOf m c) (doutOf m c) n g j).dsink else (0 : EReal) := by
    rw [← sum_points]
    refine Finset.sum_congr rfl fun t _ => ?_
    refine (In.dsink_apply l _).trans ?_
    simp only [inAt, head_eq]
  rw [e]
  show _ = if h : l.val < 16 then ReferenceIdeal.Read.val_main_v143 (F := Ideal) (qkvOf m c) (sinkOf m c) (doutOf m c) (ix2 ⟨l.val / 8, by omega⟩ ⟨l.val % 8, by omega⟩) else (0 : EReal)
  split
  · next h =>
    rw [ReferenceIdeal.Att.dsink_apply _ _ _ _ _ hA hs ho]
    refine Finset.sum_congr rfl fun n _ => ?_
    have hk : l = sl ⟨l.val / 8, by omega⟩ ⟨l.val % 8, by omega⟩ := Fin.ext (by simp only [sl]; omega)
    refine Eq.trans ?_ (pick ⟨l.val / 8, by omega⟩ ⟨l.val % 8, by omega⟩ fun j g => (headOf (qkvOf m c) (sinkOf m c) (doutOf m c) n g j).dsink)
    rw [← hk]
  · next h =>
    exact Finset.sum_eq_zero fun n _ => Finset.sum_eq_zero fun j _ => Finset.sum_eq_zero fun g _ => if_neg fun h' => h (by have := congrArg Fin.val h'; simp only [sl] at this; omega)

end

end Cert.KernelIdeal.Att

end
-- ==== Proof.Attention.FwdGroups.lean ====
/- What each named operation group of the forward attention's grid point gives when its operands are the stages of what
   the point reads: the stage it is. -/
module

public import proofs.«01_k».proof.Proof.Attention.Groups
public import proofs.«01_k».proof.Proof.Gen.Kernel21Ideal.Value

@[expose] public section

set_option maxRecDepth 16384

noncomputable section

namespace Cert.Kernel21Ideal.Att

open Cert.Kernel21Ideal Cert.Kernel21Ideal.Gen Idealize.ShloMosaic Idealize.ShloMosaic.TcCoe Idealize.SL.Sem
open Cert.KernelIdeal.Att (In Half M M8 Col Row swap lanes lanes0 laneIs zRow zM zM8 zeroS eighthS L3 L9 blk maxV expV rowSumV expSinkV denV)

variable {F : FTy → Type} [FloatOps F] (I : In F)

/-- A block of scores scaled, the greatest of each row, and a sink beside each row. -/
def scaled (a : M F) : M F := mulf a (broadcast S128x128 eighthS)
def topCol (a : M F) : Col F :=
  shapeCast S128x1 (multiReduction .maximumf [1] S128 a 0xFF800000#32 reduces_S128x128_S128 (.inl rfl) rfl) shapeCasts_S128_S128x1
def cCol (c : FVec F S1x1 .f32) : Col F := broadcastTo S128x1 c broadcasts_S1x1_S128x1

/-- The product of eight blocks with one. -/
def prod (a : M8 F) (k : M F) : M8 F :=
  matmul dot_S1024x128_S128x128_S1024x128_1_0_0_1_n_n none (truncf .bf16 a bitsLt_bf16_f32) (truncf .bf16 k bitsLt_bf16_f32)
    (constant S1024x128 .f32 0x00000000#32)

/-- The part of the outputs from the own block's values, the outputs of one key head, and those of a pair of heads side by side. -/
def own8cur (H : Half F) : M8 F := prod (select k0_pay5 H.p8 zM8) H.vc
def out8 (H : Half F) : M8 F := addf (own8cur H) (prod (select k0_pay5 zM8 H.p8) H.vp)
def out (H : Half F) (t : Fin 4) : M F :=
  select k0_pay3 (blk ⟨2 * t.val, by omega⟩ (out8 H)) (blk ⟨2 * t.val + 1, by omega⟩ (out8 H))

theorem pay6 : k0_pay6 I.kc = (swap I.kc) := rfl
theorem pay7 : k0_pay7 I.kc = I.h0.kc := rfl
theorem pay8 : k0_pay8 I.kc = I.h1.kc := rfl
theorem pay9 : k0_pay9 I.kp = (swap I.kp) := rfl
theorem pay10 : k0_pay10 I.kp = I.h0.kp := rfl
theorem pay11 : k0_pay11 I.kp = I.h1.kp := rfl
theorem pay12 : k0_pay12 I.vc = (swap I.vc) := rfl
theorem pay13 : k0_pay13 I.vc = I.h0.vc := rfl
theorem pay14 : k0_pay14 I.vc k0_pay3 (swap I.vc) = I.h1.vc := rfl
theorem pay15 : k0_pay15 I.vp = (swap I.vp) := rfl
theorem pay16 : k0_pay16 I.vp k0_pay3 = I.h0.vp := rfl
theorem pay17 : k0_pay17 I.vp k0_pay3 = I.h1.vp := rfl
theorem pay18 : k0_pay18 (I.q 0) (I.q 1) (I.q 2) (I.q 3) k0_pay3 = I.h0.q8 := rfl
theorem pay19 : k0_pay19 (I.q 0) (I.q 1) (I.q 2) (I.q 3) k0_pay3 I.h0.kc = I.h0.sc8 := rfl
theorem pay20 : k0_pay20 (I.q 0) (I.q 1) (I.q 2) (I.q 3) k0_pay3 I.h0.kc = (blk 1 I.h0.sc8) := rfl
theorem pay21 : k0_pay21 (I.q 0) (I.q 1) (I.q 2) (I.q 3) k0_pay3 I.h0.kc = (blk 2 I.h0.sc8) := rfl
theorem pay22 : k0_pay22 (I.q 0) (I.q 1) (I.q 2) (I.q 3) k0_pay3 I.h0.kc = (blk 3 I.h0.sc8) := rfl
theorem pay23 : k0_pay23 (I.q 0) (I.q 1) (I.q 2) (I.q 3) k0_pay3 I.h0.kc = (blk 4 I.h0.sc8) := rfl
theorem pay24 : k0_pay24 (I.q 0) (I.q 1) (I.q 2) (I.q 3) k0_pay3 I.h0.kc = (blk 5 I.h0.sc8) := rfl
theorem pay25 : k0_pay25 (I.q 0) (I.q 1) (I.q 2) (I.q 3) k0_pay3 I.h0.kc = (blk 6 I.h0.sc8) := rfl
theorem pay26 : k0_pay26 (I.q 0) (I.q 1) (I.q 2) (I.q 3) k0_pay3 I.h0.kc = (blk 7 I.h0.sc8) := rfl
theorem pay27 : k0_pay27 (I.q 0) (I.q 1) (I.q 2) (I.q 3) k0_pay3 I.h0.kp = I.h0.sp8 := rfl
theorem pay28 : k0_pay28 (I.q 0) (I.q 1) (I.q 2) (I.q 3) k0_pay3 I.h0.kp = (blk 1 I.h0.sp8) := rfl
theorem pay29 : k0_pay29 (I.q 0) (I.q 1) (I.q 2) (I.q 3) k0_pay3 I.h0.kp = (blk 2 I.h0.sp8) := rfl
theorem pay30 : k0_pay30 (I.q 0) (I.q 1) (I.q 2) (I.q 3) k0_pay3 I.h0.kp = (blk 3 I.h0.sp8) := rfl
theorem pay31 : k0_pay31 (I.q 0) (I.q 1) (I.q 2) (I.q 3) k0_pay3 I.h0.kp = (blk 4 I.h0.sp8) := rfl
theorem pay32 : k0_pay32 (I.q 0) (I.q 1) (I.q 2) (I.q 3) k0_pay3 I.h0.kp = (blk 5 I.h0.sp8) := rfl
theorem pay33 : k0_pay33 (I.q 0) (I.q 1) (I.q 2) (I.q 3) k0_pay3 I.h0.kp = (blk 6 I.h0.sp8) := rfl
theorem pay34 : k0_pay34 (I.q 0) (I.q 1) (I.q 2) (I.q 3) k0_pay3 I.h0.kp = (blk 7 I.h0.sp8) := rfl
theorem pay35 : k0_pay35 (I.q 0) (I.q 1) (I.q 2) (I.q 3) k0_pay3 I.h0.kc = (scaled (blk 0 I.h0.sc8)) := rfl
theorem pay36 : k0_pay36 (I.q 0) (I.q 1) (I.q 2) (I.q 3) k0_pay3 I.h0.kp = (scaled (blk 0 I.h0.sp8)) := rfl
theorem pay37 : k0_pay37 I.sink I.first lanes k0_pay4 (scaled (blk 0 I.h0.sc8)) (scaled (blk 0 I.h0.sp8)) = (I.h0.p 0) := rfl
theorem pay38 : k0_pay38 I.first k0_pay4 (blk 1 I.h0.sc8) (blk 1 I.h0.sp8) = (I.h0.s 1) := rfl
theorem pay39 : k0_pay39 I.sink lanes = (I.h0.c 1) := rfl
theorem pay40 : k0_pay40 I.sink I.first lanes k0_pay4 (blk 1 I.h0.sc8) (blk 1 I.h0.sp8) = (maxV (I.h0.s 1) (I.h0.c 1)) := rfl
theorem pay41 : k0_pay41 I.sink I.first lanes k0_pay4 (blk 1 I.h0.sc8) (blk 1 I.h0.sp8) = (expV (I.h0.s 1) (I.h0.c 1)) := rfl
theorem pay42 : k0_pay42 (I.h0.c 1) (maxV (I.h0.s 1) (I.h0.c 1)) (expV (I.h0.s 1) (I.h0.c 1)) = (I.h0.p 1) := rfl
theorem pay43 : k0_pay43 I.sink I.first lanes k0_pay4 (blk 2 I.h0.sc8) (blk 2 I.h0.sp8) = (I.h0.p 2) := rfl
theorem pay44 : k0_pay44 I.first k0_pay4 (blk 3 I.h0.sc8) (blk 3 I.h0.sp8) = (I.h0.s 3) := rfl
theorem pay45 : k0_pay45 lanes = (laneIs L3) := rfl
theorem pay46 : k0_pay46 I.sink (I.h0.s 3) (laneIs L3) zeroS = (I.h0.p 3) := rfl
theorem pay47 : k0_pay47 I.sink I.first lanes k0_pay4 (blk 4 I.h0.sc8) (blk 4 I.h0.sp8) = (I.h0.p 4) := rfl
theorem pay48 : k0_pay48 I.sink I.first lanes k0_pay4 (blk 5 I.h0.sc8) (blk 5 I.h0.sp8) eighthS = (I.h0.p 5) := rfl
theorem pay49 : k0_pay49 I.first k0_pay4 (blk 6 I.h0.sc8) (blk 6 I.h0.sp8) = (I.h0.s 6) := rfl
theorem pay50 : k0_pay50 I.sink lanes = (I.h0.c 6) := rfl
theorem pay51 : k0_pay51 I.first k0_pay4 (blk 6 I.h0.sc8) (blk 6 I.h0.sp8) = (topCol (I.h0.s 6)) := rfl
theorem pay52 : k0_pay52 I.sink lanes = (cCol (I.h0.c 6)) := rfl
theorem pay53 : k0_pay53 I.sink I.first lanes k0_pay4 (blk 7 I.h0.sc8) (blk 7 I.h0.sp8) (I.h0.p 0) (I.h0.p 1) (I.h0.p 2) (I.h0.p 3) (I.h0.p 4) (I.h0.p 5) (I.h0.s 6) (I.h0.c 6) (topCol (I.h0.s 6)) (cCol (I.h0.c 6)) = I.h0.p8 := rfl
theorem pay54 : k0_pay54 I.sink I.first lanes k0_pay4 k0_pay5 I.h0.vc (blk 7 I.h0.sc8) (blk 7 I.h0.sp8) (I.h0.p 0) (I.h0.p 1) (I.h0.p 2) (I.h0.p 3) (I.h0.p 4) (I.h0.p 5) (I.h0.s 6) (I.h0.c 6) (topCol (I.h0.s 6)) (cCol (I.h0.c 6)) = (own8cur I.h0) := rfl
theorem pay55 : k0_pay55 (F := F) = zM8 := rfl
theorem pay56 : k0_pay56 k0_pay5 I.h0.vp I.h0.p8 (own8cur I.h0) zM8 = (out8 I.h0) := rfl
theorem pay57 : k0_pay57 k0_pay3 k0_pay5 I.h0.vp I.h0.p8 (own8cur I.h0) zM8 = (out I.h0 0) := rfl
theorem pay58 : k0_pay58 k0_pay3 k0_pay5 I.h0.vp I.h0.p8 (own8cur I.h0) zM8 = (out I.h0 1) := rfl
theorem pay59 : k0_pay59 k0_pay3 k0_pay5 I.h0.vp I.h0.p8 (own8cur I.h0) zM8 = (out I.h0 2) := rfl
theorem pay60 : k0_pay60 k0_pay3 k0_pay5 I.h0.vp I.h0.p8 (own8cur I.h0) zM8 = (out I.h0 3) := rfl
theorem pay61 : k0_pay61 (I.q 4) (I.q 5) (I.q 6) (I.q 7) k0_pay3 = I.h1.q8 := rfl
theorem pay62 : k0_pay62 (I.q 4) (I.q 5) (I.q 6) (I.q 7) k0_pay3 I.h1.kc = I.h1.sc8 := rfl
theorem pay63 : k0_pay63 (I.q 4) (I.q 5) (I.q 6) (I.q 7) k0_pay3 I.h1.kc = (blk 0 I.h1.sc8) := rfl
theorem pay64 : k0_pay64 (I.q 4) (I.q 5) (I.q 6) (I.q 7) k0_pay3 I.h1.kc = (blk 1 I.h1.sc8) := rfl
theorem pay65 : k0_pay65 (I.q 4) (I.q 5) (I.q 6) (I.q 7) k0_pay3 I.h1.kc = (blk 2 I.h1.sc8) := rfl
theorem pay66 : k0_pay66 (I.q 4) (I.q 5) (I.q 6) (I.q 7) k0_pay3 I.h1.kc = (blk 3 I.h1.sc8) := rfl
theorem pay67 : k0_pay67 (I.q 4) (I.q 5) (I.q 6) (I.q 7) k0_pay3 I.h1.kc = (blk 4 I.h1.sc8) := rfl
theorem pay68 : k0_pay68 (I.q 4) (I.q 5) (I.q 6) (I.q 7) k0_pay3 I.h1.kc = (blk 5 I.h1.sc8) := rfl
theorem pay69 : k0_pay69 (I.q 4) (I.q 5) (I.q 6) (I.q 7) k0_pay3 I.h1.kc = (blk 6 I.h1.sc8) := rfl
theorem pay70 : k0_pay70 (I.q 4) (I.q 5) (I.q 6) (I.q 7) k0_pay3 I.h1.kc = (blk 7 I.h1.sc8) := rfl
theorem pay71 : k0_pay71 (I.q 4) (I.q 5) (I.q 6) (I.q 7) k0_pay3 I.h1.kp = I.h1.sp8 := rfl
theorem pay72 : k0_pay72 (I.q 4) (I.q 5) (I.q 6) (I.q 7) k0_pay3 I.h1.kp = (blk 0 I.h1.sp8) := rfl
theorem pay73 : k0_pay73 I.h1.sp8 = (blk 2 I.h1.sp8) := rfl
theorem pay74 : k0_pay74 I.h1.sp8 = (blk 3 I.h1.sp8) := rfl
theorem pay75 : k0_pay75 I.h1.sp8 = (blk 4 I.h1.sp8) := rfl
theorem pay76 : k0_pay76 I.h1.sp8 = (blk 5 I.h1.sp8) := rfl
theorem pay77 : k0_pay77 I.h1.sp8 = (blk 6 I.h1.sp8) := rfl
theorem pay78 : k0_pay78 I.h1.sp8 = (blk 7 I.h1.sp8) := rfl
theorem pay79 : k0_pay79 I.sink I.first lanes k0_pay4 (blk 0 I.h1.sc8) (blk 0 I.h1.sp8) = (I.h1.p 0) := rfl
theorem pay80 : k0_pay80 I.first k0_pay4 (blk 1 I.h1.sc8) I.h1.sp8 = (I.h1.s 1) := rfl
theorem pay81 : k0_pay81 lanes = (laneIs L9) := rfl
theorem pay82 : k0_pay82 (F := F) = zRow := rfl
theorem pay83 : k0_pay83 I.sink (I.h1.s 1) (laneIs L9) zRow = (I.h1.p 1) := rfl
theorem pay84 : k0_pay84 I.sink I.first lanes k0_pay4 (blk 2 I.h1.sc8) (blk 2 I.h1.sp8) = (I.h1.p 2) := rfl
theorem pay85 : k0_pay85 (F := F) = (broadcast S128x128 eighthS) := rfl
theorem pay86 : k0_pay86 I.sink I.first lanes k0_pay4 (blk 3 I.h1.sc8) (blk 3 I.h1.sp8) (broadcast S128x128 eighthS) = (I.h1.p 3) := rfl
theorem pay87 : k0_pay87 I.first k0_pay4 (blk 4 I.h1.sc8) (blk 4 I.h1.sp8) = (I.h1.s 4) := rfl
theorem pay88 : k0_pay88 I.sink lanes = (I.h1.c 4) := rfl
theorem pay89 : k0_pay89 I.sink I.first lanes k0_pay4 (blk 4 I.h1.sc8) (blk 4 I.h1.sp8) = (maxV (I.h1.s 4) (I.h1.c 4)) := rfl
theorem pay90 : k0_pay90 (I.h1.s 4) (I.h1.c 4) (maxV (I.h1.s 4) (I.h1.c 4)) = (I.h1.p 4) := rfl
theorem pay91 : k0_pay91 I.sink I.first lanes k0_pay4 (blk 5 I.h1.sc8) (blk 5 I.h1.sp8) = (I.h1.p 5) := rfl
theorem pay92 : k0_pay92 I.first k0_pay4 (blk 6 I.h1.sc8) (blk 6 I.h1.sp8) = (I.h1.s 6) := rfl
theorem pay93 : k0_pay93 lanes = lanes0 := rfl
theorem pay94 : k0_pay94 I.sink (I.h1.s 6) lanes0 = (I.h1.p 6) := rfl
theorem pay95 : k0_pay95 I.first k0_pay4 (blk 7 I.h1.sc8) (blk 7 I.h1.sp8) = (I.h1.s 7) := rfl
theorem pay96 : k0_pay96 I.sink lanes = (I.h1.c 7) := rfl
theorem pay97 : k0_pay97 I.sink I.first lanes k0_pay4 (blk 7 I.h1.sc8) (blk 7 I.h1.sp8) = (maxV (I.h1.s 7) (I.h1.c 7)) := rfl
theorem pay98 : k0_pay98 I.sink I.first lanes k0_pay4 (blk 7 I.h1.sc8) (blk 7 I.h1.sp8) = (expV (I.h1.s 7) (I.h1.c 7)) := rfl
theorem pay99 : k0_pay99 I.sink I.first lanes k0_pay4 (blk 7 I.h1.sc8) (blk 7 I.h1.sp8) = (rowSumV (expV (I.h1.s 7) (I.h1.c 7))) := rfl
theorem pay100 : k0_pay100 I.sink I.first lanes k0_pay4 (blk 7 I.h1.sc8) (blk 7 I.h1.sp8) = (expSinkV (I.h1.s 7) (I.h1.c 7)) := rfl
theorem pay101 : k0_pay101 k0_pay5 I.h1.vc I.h1.vp (I.h1.p 0) (I.h1.p 1) (I.h1.p 2) (I.h1.p 3) (I.h1.p 4) (I.h1.p 5) (I.h1.p 6) (expV (I.h1.s 7) (I.h1.c 7)) (rowSumV (expV (I.h1.s 7) (I.h1.c 7))) (expSinkV (I.h1.s 7) (I.h1.c 7)) = (out8 I.h1) := rfl
theorem pay102 : k0_pay102 k0_pay3 k0_pay5 I.h1.vc I.h1.vp (I.h1.p 0) (I.h1.p 1) (I.h1.p 2) (I.h1.p 3) (I.h1.p 4) (I.h1.p 5) (I.h1.p 6) (expV (I.h1.s 7) (I.h1.c 7)) (rowSumV (expV (I.h1.s 7) (I.h1.c 7))) (expSinkV (I.h1.s 7) (I.h1.c 7)) = (out I.h1 2) := rfl
theorem pay103 : k0_pay103 k0_pay3 k0_pay5 I.h1.vc I.h1.vp (I.h1.p 0) (I.h1.p 1) (I.h1.p 2) (I.h1.p 3) (I.h1.p 4) (I.h1.p 5) (I.h1.p 6) (expV (I.h1.s 7) (I.h1.c 7)) (rowSumV (expV (I.h1.s 7) (I.h1.c 7))) (expSinkV (I.h1.s 7) (I.h1.c 7)) = (out I.h1 3) := rfl
theorem pay108 : k0_pay108 k0_pay3 k0_pay5 I.h1.vc I.h1.vp (I.h1.p 0) (I.h1.p 1) (I.h1.p 2) (I.h1.p 3) (I.h1.p 4) (I.h1.p 5) (I.h1.p 6) (expV (I.h1.s 7) (I.h1.c 7)) (rowSumV (expV (I.h1.s 7) (I.h1.c 7))) (expSinkV (I.h1.s 7) (I.h1.c 7)) = (truncf .bf16 (out I.h1 0) bitsLt_bf16_f32) := rfl
theorem pay109 : k0_pay109 k0_pay3 k0_pay5 I.h1.vc I.h1.vp (I.h1.p 0) (I.h1.p 1) (I.h1.p 2) (I.h1.p 3) (I.h1.p 4) (I.h1.p 5) (I.h1.p 6) (expV (I.h1.s 7) (I.h1.c 7)) (rowSumV (expV (I.h1.s 7) (I.h1.c 7))) (expSinkV (I.h1.s 7) (I.h1.c 7)) = (truncf .bf16 (out I.h1 1) bitsLt_bf16_f32) := rfl

end Cert.Kernel21Ideal.Att

end
-- ==== Proof.Attention.FwdRef.lean ====
/- The reference of the forward attention, by coordinates: the outputs of the sixteen heads, when the arrays are finite. -/
module

public import proofs.«01_k».proof.Proof.Attention.Whole
public import proofs.«01_k».proof.Proof.Gen.Reference21Ideal.Read

@[expose] public section

noncomputable section

open Idealize.ShloMosaic

namespace Cert.Att

/-- What the head gives out: its own block's values and those of the block before, each lane's probability with the one it saw. -/
def Head.out (H : Head) (r : Fin 128) (d : Fin 64) : EReal :=
  ∑ l, (if l ≤ r then H.p r l else 0) * H.vc l d + ∑ l, (if l ≤ r then 0 else H.p r l) * H.vp l d

end Cert.Att

namespace Cert.Reference21Ideal.Att

open Cert.Att Cert.Reference21Ideal.Read Cert.Reference21Ideal Cert.Reference21Ideal.Gen Idealize.ShloMosaic Idealize.ShloMosaic.TcCoe Idealize.SL.Sem

variable (A : FVec Ideal S4096x1280 .f32) (s : FVec Ideal S1x128 .f32) (o : FVec Ideal S4096x1024 .bf16)
variable (n : Fin 32) (j : Fin 2) (g : Fin 8) (r : Fin 128) (t : Fin 256) (d : Fin 64)

theorem mask_apply : val_main_v40 (F := Ideal) (ix3 n r t) = BitVec.ofBool (decide (t.val ≤ r.val + 128 ∧ r.val < t.val ∧ 128 ≤ 128 * n.val + t.val)) := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_c, val_main_c_0, val_main_c_1, val_main_c_2, val_main_c_3, val_main_c_4]
  have c0 : (0#32) = BitVec.ofInt 32 0 := rfl
  have c1 : (128#32) = BitVec.ofInt 32 128 := rfl
  simp only [IntOp.addi, IntOp.subi, IntOp.muli, c0, c1, BitVec.sub_eq_add_neg, ← BitVec.ofInt_natCast, ← BitVec.ofInt_mul, ← BitVec.ofInt_neg, ← BitVec.ofInt_add]
  rw [ReferenceIdeal.Att.int_sge _ _ (by omega) (by omega), ReferenceIdeal.Att.int_slt _ _ (by omega) (by omega), ReferenceIdeal.Att.int_sge _ _ (by omega) (by omega)]
  simp only [IntOp.andi, BitVec.ofBool_and_ofBool, ← Bool.decide_and]
  refine congrArg BitVec.ofBool (decide_eq_decide.mpr ?_)
  omega

variable (l : Fin 128)
theorem kband_hi : val_main_v49 (F := Ideal) A (ix4 n (hi l) j d) = (headOf A s o n g j).kc l d := by
  pointwise [val_main_v49, val_main_v48, val_main_v47, val_main_v43, val_main_v42, val_main_v41, val_main_v4, val_main_v1, val_main_cst]
  have h : (hi l).val = 128 + l.val := rfl
  rw [dif_neg (by omega), dif_neg (by omega)]
  exact at2 A (by simp only [rw4]; omega) (by simp only []; omega)

theorem kband_lo : val_main_v49 (F := Ideal) A (ix4 n (lo l) j d) = if n.val = 0 then 0 else (headOf A s o n g j).kp l d := by
  pointwise [val_main_v49, val_main_v48, val_main_v47, val_main_v43, val_main_v42, val_main_v41, val_main_v4, val_main_v1, val_main_cst]
  have h : (lo l).val = l.val := rfl
  rw [dif_pos (by omega)]
  by_cases h0 : n.val = 0
  · rw [dif_pos (by omega), if_pos h0]
  · rw [dif_neg (by omega), if_neg h0]
    exact at2 A (by simp only [rw4, before]; omega) (by simp only []; omega)

theorem vband_hi : val_main_v52 (F := Ideal) A (ix4 n (hi l) j d) = (headOf A s o n g j).vc l d := by
  pointwise [val_main_v52, val_main_v51, val_main_v50, val_main_v46, val_main_v45, val_main_v44, val_main_v5, val_main_v2, val_main_cst_5]
  have h : (hi l).val = 128 + l.val := rfl
  rw [dif_neg (by omega), dif_neg (by omega)]
  exact at2 A (by simp only [rw4]; omega) (by simp only []; omega)

theorem vband_lo : val_main_v52 (F := Ideal) A (ix4 n (lo l) j d) = if n.val = 0 then 0 else (headOf A s o n g j).vp l d := by
  pointwise [val_main_v52, val_main_v51, val_main_v50, val_main_v46, val_main_v45, val_main_v44, val_main_v5, val_main_v2, val_main_cst_5]
  have h : (lo l).val = l.val := rfl
  rw [dif_pos (by omega)]
  by_cases h0 : n.val = 0
  · rw [dif_pos (by omega), if_pos h0]
  · rw [dif_neg (by omega), if_neg h0]
    exact at2 A (by simp only [rw4, before]; omega) (by simp only []; omega)

theorem q_apply : val_main_v8 (F := Ideal) A (ix5 n r j g d) = (headOf A s o n g j).q r d := by
  pointwise [val_main_v8, val_main_v3, val_main_v0]
  exact at2 A (by simp only [rw4]; omega) (by simp only []; omega)

theorem c_apply (n' : Fin 32) : val_main_v60 (F := Ideal) s (ix5 0 j g 0 0) = (headOf A s o n g j).c := by
  pointwise [val_main_v60, val_main_v59, val_main_v7, val_main_v6]
  exact at2 s rfl (by simp only []; omega)

/-- The masked scores and the gradients of the probabilities, over both blocks; the latter play no part here. -/
def S : Fin 256 → EReal := fun t => val_main_v58 (F := Ideal) A (ix5 n j g r t)
def D : Fin 256 → EReal := fun t => (headOf A s o n g j).dp r ⟨t.val % 128, Nat.mod_lt _ (by omega)⟩

theorem S_eq : S A n j g r t = if t.val ≤ r.val + 128 ∧ r.val < t.val ∧ 128 ≤ 128 * n.val + t.val then (∑ x, val_main_v49 (F := Ideal) A (ix4 n t j x) * val_main_v8 (F := Ideal) A (ix5 n r j g x)) * eighth else ⊥ := by
  unfold S
  pointwise [val_main_v58, val_main_call0_v1, val_main_v57, val_main_v56, val_main_v55, val_main_v54, val_main_v53, val_main_cst_6, val_main_call0_v2, val_main_call0_v0, val_main_cst_7]
  rw [mask_apply, Scalar.select_ofBool]
  have e : (id (constant (F := Ideal) S_ FTy.f32 4286578688#32) ix0 : EReal) = ⊥ := neg_inf
  rw [e]
  simp only [decide_eq_true_eq]
  rfl

theorem D_hi (l : Fin 128) : D A s o n j g r (hi l) = (headOf A s o n g j).dp r l :=
  have e : (⟨(hi l).val % 128, Nat.mod_lt _ (by omega)⟩ : Fin 128) = l := Fin.ext (by show (128 + l.val) % 128 = l.val; omega)
  congrArg ((headOf A s o n g j).dp r) e

theorem D_lo (l : Fin 128) : D A s o n j g r (lo l) = (headOf A s o n g j).dp r l :=
  have e : (⟨(lo l).val % 128, Nat.mod_lt _ (by omega)⟩ : Fin 128) = l := Fin.ext (by show l.val % 128 = l.val; omega)
  congrArg ((headOf A s o n g j).dp r) e

open Classical in
theorem band : Band r (S A n j g r) (D A s o n j g r) ((headOf A s o n g j).s r) ((headOf A s o n g j).dp r) where
  own l h := by
    have h' : l.val ≤ r.val := h
    have eh : (hi l).val = 128 + l.val := rfl
    have el : (lo l).val = l.val := rfl
    refine ⟨?_, ?_, ?_⟩
    · rw [S_eq, if_pos (by omega), Head.s, if_pos h]
      simp only [kband_hi A s o n j g, q_apply A s o]
      simp only [mul_comm (Head.kc _ _ _)]
    · exact D_hi A s o n j g r l
    · rw [S_eq, if_neg (by omega)]
  past l h := by
    have h' : ¬ l.val ≤ r.val := h
    have eh : (hi l).val = 128 + l.val := rfl
    have el : (lo l).val = l.val := rfl
    by_cases h0 : n.val = 0
    · have e : (headOf A s o n g j).s r l = ⊥ := by
        rw [Head.s, if_neg h, if_pos (show (headOf A s o n g j).first from h0)]
      refine ⟨?_, .inr e, ?_⟩
      · rw [S_eq, if_neg (by omega), e]
      · rw [S_eq, if_neg (by omega)]
    · refine ⟨?_, .inl ?_, ?_⟩
      · rw [S_eq, if_pos (by omega), Head.s, if_neg h, if_neg (show ¬ (headOf A s o n g j).first from h0)]
        simp only [kband_lo A s o n j g, q_apply A s o, if_neg h0]
        simp only [mul_comm (Head.kp _ _ _)]
      · exact D_lo A s o n j g r l
      · rw [S_eq, if_neg (by omega)]

/-! ## The forward pass, by row -/

theorem fold_sup (f : Fin 256 → EReal) : Finset.univ.fold max ⊥ f = Finset.univ.sup f := rfl

theorem fold_apply : val_main_v61 (F := Ideal) A (ix4 n j g r) = Finset.univ.fold max ⊥ (S A n j g r) := by
  pointwise [val_main_v61, val_main_cst_8]
  rw [neg_inf]
  rfl

theorem top_apply : val_main_v61 (F := Ideal) A (ix4 n j g r) = Finset.univ.sup (S A n j g r) := (fold_apply A n j g r).trans (fold_sup _)

theorem max_apply' (y : FVec Ideal S32x2x8x128 .f32) (w : FVec Ideal S1x2x8x1x1 .f32) :
    (maximumf (F := Ideal) (broadcastInDim S32x2x8x128x1 ![0, 1, 2, 3] bcast_S32x2x8x128_S32x2x8x128x1_0_1_2_3 y)
      (broadcastInDim S32x2x8x128x1 ![0, 1, 2, 3, 4] bcast_S1x2x8x1x1_S32x2x8x128x1_0_1_2_3_4 w) (ix5 n j g r 0) : EReal) = max (y (ix4 n j g r)) (w (ix5 0 j g 0 0)) := by
  pointwise []

theorem max_apply : val_main_v64 (F := Ideal) A s (ix5 n j g r 0) = max (val_main_v61 (F := Ideal) A (ix4 n j g r)) (val_main_v60 (F := Ideal) s (ix5 0 j g 0 0)) := by
  unfold val_main_v64 val_main_v63 val_main_v62
  exact max_apply' n j g r _ _

theorem m_apply : val_main_v64 (F := Ideal) A s (ix5 n j g r 0) = mx (S A n j g r) (headOf A s o n g j).c := by
  rw [max_apply, fold_apply, c_apply A s o n j g n, mx]

theorem e_apply : val_main_v67 (F := Ideal) A s (ix5 n j g r t) = ex (S A n j g r) (headOf A s o n g j).c t := by
  pointwise [val_main_v67, val_main_v66, val_main_v65]
  rw [m_apply A s o]
  rfl

theorem es_apply : val_main_v72 (F := Ideal) A s (ix5 n j g r 0) = exs (S A n j g r) (headOf A s o n g j).c := by
  pointwise [val_main_v72, val_main_v71, val_main_v70]
  rw [m_apply A s o, c_apply A s o n j g n]
  rfl

theorem den_apply : val_main_v73 (F := Ideal) A s (ix5 n j g r 0) = den (S A n j g r) (headOf A s o n g j).c := by
  pointwise [val_main_v73, val_main_v69, val_main_v68, val_main_cst_9]
  simp only [e_apply A s o, es_apply A s o]
  rfl

theorem p_apply : val_main_v75 (F := Ideal) A s (ix5 n j g r t) = prob (S A n j g r) (headOf A s o n g j).c t := by
  pointwise [val_main_v75, val_main_v74]
  rw [e_apply A s o, den_apply A s o]
  rfl

/-! ## With finite arrays -/

section
variable (hA : ∀ i, IsReal (A i)) (hs : ∀ i, IsReal (s i))

include hA in
theorem k_fin : IsReal (val_main_v49 (F := Ideal) A (ix4 n t j d)) := by
  rcases lo_or_hi t with ⟨l, rfl⟩ | ⟨l, rfl⟩
  · rw [kband_lo A (fun _ => 0) (fun _ => 0) n j 0]
    split
    · exact ⟨0, rfl⟩
    · exact hA _
  · rw [kband_hi A (fun _ => 0) (fun _ => 0) n j 0]
    exact hA _

include hA in
theorem S_fin : S A n j g r t = ⊥ ∨ IsReal (S A n j g r t) := by
  rw [S_eq]
  split
  · refine .inr (fin_mul (fin_sum _ _ fun x => fin_mul (k_fin A n j t x hA) ?_) ReferenceIdeal.Att.eighth_fin)
    rw [q_apply A (fun _ => 0) (fun _ => 0)]
    exact hA _
  · exact .inl rfl

include hA hs in
theorem den_ne' : den ((headOf A s o n g j).s r) (headOf A s o n g j).c ≠ 0 := by
  rw [← (band A s o n j g r).den_eq]
  exact den_ne (fun t => S_fin A n j g r t hA) (hs _)

/-! ## The outputs -/

omit hA hs in
theorem out_read (x : FVec Ideal S32x256x2x64 .f32) (y : FVec Ideal S32x2x8x128x256 .f32) :
    (shapeCast S4096x1024 (transpose S32x128x2x8x64 [0, 4, 1, 3, 2] (Host.dotGeneral (F := Ideal) dot_S32x256x2x64_S32x2x8x128x256_S32x2x64x8x128_1_4_3_23_02_01 none x y)
      transposes_S32x2x64x8x128_S32x128x2x8x64_0_4_1_3_2) shapeCasts_S32x128x2x8x64_S4096x1024 (ix2 (rw4 n r) ⟨512 * j.val + 64 * g.val + d.val, by omega⟩) : EReal) =
      ∑ t, x (ix4 n t j d) * y (ix5 n j g r t) := by
  pointwise []
  refine Finset.sum_congr rfl fun t _ => congrArg₂ (· * ·) (at4 x ?_ ?_ ?_ ?_) (at5 y ?_ ?_ ?_ ?_ ?_) <;> simp only [rw4] <;> omega

omit hA hs in
theorem out_sum : (val_main_v79 (F := Ideal) A s (ix2 (rw4 n r) ⟨512 * j.val + 64 * g.val + d.val, by omega⟩) : EReal) =
    ∑ t, val_main_v52 (F := Ideal) A (ix4 n t j d) * val_main_v75 (F := Ideal) A s (ix5 n j g r t) := by
  unfold val_main_v79 val_main_v78 val_main_v77 val_main_v76
  exact out_read n j g r d _ _

include hA hs in
/-- One lane of one head's output. -/
theorem out_apply : (val_main_v79 (F := Ideal) A s (ix2 (rw4 n r) ⟨512 * j.val + 64 * g.val + d.val, by omega⟩) : EReal) = (headOf A s o n g j).out r d := by
  have hd := den_ne' A s o n j g r hA hs
  rw [out_sum, sum_two, add_comm, Head.out]
  refine congrArg₂ (· + ·) (Finset.sum_congr rfl fun l _ => ?_) (Finset.sum_congr rfl fun l _ => ?_)
  · rw [vband_hi A s o n j g, p_apply A s o, (band A s o n j g r).prob_hi _ _ hd, mul_comm]
    rfl
  · rw [vband_lo A s o n j g, p_apply A s o, (band A s o n j g r).prob_lo _ _ hd, mul_comm]
    by_cases h0 : n.val = 0
    · rw [if_pos h0, mul_zero]
      by_cases h : l ≤ r
      · rw [if_pos h, zero_mul]
      · have e : (headOf A s o n g j).s r l = ⊥ := by
          rw [Head.s, if_neg h, if_pos (show (headOf A s o n g j).first from h0)]
        rw [if_neg h, Head.p, prob, ex_bot _ _ _ e, Ideal.div, if_neg hd, zero_mul, zero_mul]
    · rw [if_neg h0]
      rfl

end

end Cert.Reference21Ideal.Att

end
-- ==== Proof.Attention.FwdPoint.lean ====
/- What a grid point of the forward attention computes, by coordinates: the outputs of its sixteen heads. -/
module

public import proofs.«01_k».proof.Proof.Attention.FwdGroups
public import proofs.«01_k».proof.Proof.Attention.FwdRef

@[expose] public section

set_option maxRecDepth 16384

noncomputable section

open Idealize.ShloMosaic

namespace Cert.Kernel21Ideal.Att

open Cert.Att Cert.Kernel21Ideal Cert.Kernel21Ideal.Gen Idealize.ShloMosaic.TcCoe Idealize.SL.Sem
open Cert.KernelIdeal.Att (In Half M M8 zM8 left own8 blk hd p8_apply own8_apply blk_apply left_ln0 left_ln1)

variable (g : Fin 8) (r l : Fin 128) (b : Fin 2) (d : Fin 64) (H : Half Ideal)

theorem prod_apply (a : M8 Ideal) (k : M Ideal) (x : Fin 1024) : prod a k (ix2 x l) = ∑ y, (a (ix2 x y) * k (ix2 y l) : EReal) := by
  pointwise [prod]

theorem own_eq : (k0_pay5 : IVec S1024x128 1) = own8 := rfl
theorem left_eq : (k0_pay3 : IVec S128x128 1) = left := rfl

theorem own_part (k : M Ideal) (hB : H.Both) : (prod (select k0_pay5 H.p8 zM8) k (ix2 (row g r) l) : EReal) = ∑ y, (if y ≤ r then (H.head g).p r y else 0) * (k (ix2 y l) : EReal) := by
  rw [prod_apply]
  refine Finset.sum_congr rfl fun y _ => congrArg (· * (k (ix2 y l) : EReal)) ?_
  rw [own_eq]
  show Scalar.select (own8 (ix2 (row g r) y)) (H.p8 (ix2 (row g r) y)) (zM8 (ix2 (row g r) y)) = _
  rw [own8_apply, Scalar.select_ofBool, p8_apply H g r y hB]
  have e : (zM8 (F := Ideal) (ix2 (row g r) y) : EReal) = 0 := by pointwise [zM8]
  rw [e]
  by_cases h : y ≤ r <;> simp [h]

theorem far_part (k : M Ideal) (hB : H.Both) : (prod (select k0_pay5 zM8 H.p8) k (ix2 (row g r) l) : EReal) = ∑ y, (if y ≤ r then 0 else (H.head g).p r y) * (k (ix2 y l) : EReal) := by
  rw [prod_apply]
  refine Finset.sum_congr rfl fun y _ => congrArg (· * (k (ix2 y l) : EReal)) ?_
  rw [own_eq]
  show Scalar.select (own8 (ix2 (row g r) y)) (zM8 (ix2 (row g r) y)) (H.p8 (ix2 (row g r) y)) = _
  rw [own8_apply, Scalar.select_ofBool, p8_apply H g r y hB]
  have e : (zM8 (F := Ideal) (ix2 (row g r) y) : EReal) = 0 := by pointwise [zM8]
  rw [e]
  by_cases h : y ≤ r <;> simp [h]

theorem out8_apply (hB : H.Both) : out8 H (ix2 (row g r) (ln b d)) = (H.head g).out r d := by
  refine (congrArg₂ (fun u v : EReal => u + v) (own_part g r (ln b d) H H.vc hB) (far_part g r (ln b d) H H.vp hB)).trans ?_
  rw [Head.out]
  simp only [hB.vc _ b d, hB.vp _ b d]
  rfl

theorem out_apply (hB : H.Both) (t : Fin 4) : out H t (ix2 r (ln b d)) = (H.head (hd t b)).out r d := by
  show Scalar.select ((k0_pay3 : IVec S128x128 1) (ix2 r (ln b d))) (blk ⟨2 * t.val, by omega⟩ (out8 H) (ix2 r (ln b d))) (blk ⟨2 * t.val + 1, by omega⟩ (out8 H) (ix2 r (ln b d))) = _
  rw [left_eq, blk_apply, blk_apply, out8_apply _ r b d H hB, out8_apply _ r b d H hB]
  fin_cases b
  · exact (congrArg (Scalar.select · _ _) (left_ln0 r d)).trans rfl
  · exact (congrArg (Scalar.select · _ _) (left_ln1 r d)).trans rfl

end Cert.Kernel21Ideal.Att

end
-- ==== Proof.Attention.FwdOut.lean ====
/- What a grid point of the forward attention stores: the outputs of its sixteen heads. -/
module

public import proofs.«01_k».proof.Proof.Attention.FwdPoint
public import Idealize.ShloMosaic.Lib.Pipeline.ReadBack

@[expose] public section

set_option maxRecDepth 16384

noncomputable section

open Idealize.ShloMosaic

namespace Cert.Kernel21Ideal.Att

open Cert.Att Cert.Kernel21Ideal Cert.Kernel21Ideal.Gen Idealize.ShloMosaic Idealize.ShloMosaic.TcCoe Idealize.SL.Sem
open Cert.KernelIdeal.Att (In Half M lanes zeroS eighthS idx_ext2)

/-- The eight column blocks of the outputs. -/
def col (I : In Ideal) : Fin 8 → M Ideal := ![out I.h0 0, out I.h0 1, out I.h0 2, out I.h0 3, out I.h1 0, out I.h1 1, out I.h1 2, out I.h1 3]

/-- The block of rows the point leaves. -/
def outRows (I : In Ideal) : FVec Ideal S128x1024 .bf16 := fun z =>
  (col I ⟨(z 1).val / 128, by have : (z 1).val < 1024 := (z 1).isLt; omega⟩ (ix2 (z 0) ⟨(z 1).val % 128, Nat.mod_lt _ (by omega)⟩) : EReal)

section
variable (I : In Ideal)

theorem rows_emb (k : Fin 8) {n : ℕ} (hn : n = 128 * k.val) (inb : ∀ a, (![0, n] : Fin 2 → ℕ) a + (![128, 128] : Fin 2 → ℕ) a ≤ S128x1024.size a) (x : S128x128.Idx) :
    col I k x = outRows I ((Rect.unit (s := S128x1024) ![0, n] ![128, 128] inb).emb x) := by
  subst hn
  have h1 : (x 1).val < 128 := (x 1).isLt
  have e : ∀ (k' : Fin 8) (r l : Fin 128), k' = k → r = x 0 → l = x 1 → col I k x = col I k' (ix2 r l) := by
    rintro _ _ _ rfl rfl rfl
    exact congrArg _ (ix2_eta x).symm
  refine e _ _ _ (Fin.ext ?_) (Fin.ext ?_) (Fin.ext ?_)
  · show (128 * k.val + 1 * (x 1).val) / 128 = k.val
    omega
  · show 0 + 1 * (x 0).val = (x 0).val
    omega
  · show (128 * k.val + 1 * (x 1).val) % 128 = (x 1).val
    omega

/-- The stores of the block of rows. -/
def stores : List (View.Piece (Elt Ideal) S128x1024 .bf16) :=
  [⟨Rect.unit ![0, 896] ![128, 128] inb_S128x1024_S128x128_0_896, truncf .bf16 (col I 7 : M Ideal) bitsLt_bf16_f32⟩,
   ⟨Rect.unit ![0, 768] ![128, 128] inb_S128x1024_S128x128_0_768, truncf .bf16 (col I 6 : M Ideal) bitsLt_bf16_f32⟩,
   ⟨Rect.unit ![0, 640] ![128, 128] inb_S128x1024_S128x128_0_640, truncf .bf16 (col I 5 : M Ideal) bitsLt_bf16_f32⟩,
   ⟨Rect.unit ![0, 512] ![128, 128] inb_S128x1024_S128x128_0_512, truncf .bf16 (col I 4 : M Ideal) bitsLt_bf16_f32⟩,
   ⟨Rect.unit ![0, 384] ![128, 128] inb_S128x1024_S128x128_0_384, truncf .bf16 (col I 3 : M Ideal) bitsLt_bf16_f32⟩,
   ⟨Rect.unit ![0, 256] ![128, 128] inb_S128x1024_S128x128_0_256, truncf .bf16 (col I 2 : M Ideal) bitsLt_bf16_f32⟩,
   ⟨Rect.unit ![0, 128] ![128, 128] inb_S128x1024_S128x128_0_128, truncf .bf16 (col I 1 : M Ideal) bitsLt_bf16_f32⟩,
   ⟨Rect.unit ![0, 0] ![128, 128] inb_S128x1024_S128x128_0_0, truncf .bf16 (col I 0 : M Ideal) bitsLt_bf16_f32⟩]

theorem pieces : View.PiecesOf (outRows I) (stores I) :=
  ⟨rows_emb I 7 rfl inb_S128x1024_S128x128_0_896, rows_emb I 6 rfl inb_S128x1024_S128x128_0_768, rows_emb I 5 rfl inb_S128x1024_S128x128_0_640, rows_emb I 4 rfl inb_S128x1024_S128x128_0_512, rows_emb I 3 rfl inb_S128x1024_S128x128_0_384, rows_emb I 2 rfl inb_S128x1024_S128x128_0_256, rows_emb I 1 rfl inb_S128x1024_S128x128_0_128, rows_emb I 0 rfl inb_S128x1024_S128x128_0_0, trivial⟩

theorem tiles (y : S128x1024.Idx) : ∃ p ∈ stores I, y ∈ p.1.set := View.cover_of_tiledL (stores I) S128x128.size (by sl_kernel_rfl) y

end

section
variable (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x1024 .bf16) (harg7 : arg7.IsWhole)
  (x0 : Vec Ideal S128x1024 .f32) (x1 : Vec Ideal S128x128 .f32) (x2 : Vec Ideal S128x128 .f32) (x3 : Vec Ideal S128x128 .f32) (x4 : Vec Ideal S128x128 .f32) (x5 : Vec Ideal S1x128 .f32)

theorem pair_inb (t : Fin 8) : ∀ a, (![0, 128 * t.val] : Fin 2 → Nat) a + S128x128.size a ≤ S128x1024.size a := by
  revert t; decide

/-- Whether the point is the first. -/
abbrev firstWord : BitVec 1 := kernelRun0_A.sl.v13 i

/-- What the point reads, as the body loads it. -/
def loaded : In Ideal where
  first := firstWord i
  q t := View.readAt (Elt Ideal) arg1.view (Rect.unit (s := S128x1024) ![0, 128 * t.val] S128x128.size (pair_inb t)).toLoadRect (harg1.unread x0)
  o _ := fun _ => (0 : EReal)
  kp := View.readAt (Elt Ideal) arg2.view (Rect.unit (s := S128x128) ![0, 0] S128x128.size inb_S128x128_S128x128_0_0).toLoadRect (harg2.unread x1)
  kc := View.readAt (Elt Ideal) arg3.view (Rect.unit (s := S128x128) ![0, 0] S128x128.size inb_S128x128_S128x128_0_0).toLoadRect (harg3.unread x2)
  vp := View.readAt (Elt Ideal) arg4.view (Rect.unit (s := S128x128) ![0, 0] S128x128.size inb_S128x128_S128x128_0_0).toLoadRect (harg4.unread x3)
  vc := View.readAt (Elt Ideal) arg5.view (Rect.unit (s := S128x128) ![0, 0] S128x128.size inb_S128x128_S128x128_0_0).toLoadRect (harg5.unread x4)
  sink := View.readAt (Elt Ideal) arg6.view (Rect.unit (s := S1x128) ![0, 0] S1x128.size inb_S1x128_S1x128_0_0).toLoadRect (harg6.unread x5)

theorem out_A_6 (I : In Ideal) (hI : I = loaded i arg1 harg1 arg2 harg2 arg3 harg3 arg4 harg4 arg5 harg5 arg6 harg6 x0 x1 x2 x3 x4 x5) :
    out0_A_6 c i arg1 harg1 arg2 harg2 arg3 harg3 arg4 harg4 arg5 harg5 arg6 harg6 arg7 harg7 x0 x1 x2 x3 x4 x5 = outRows I := by
  have q0 : kernelRun0_A.sl.r (F := Ideal) c arg1 harg1 x0 = I.q 0 := by rw [hI]; rfl
  have q1 : kernelRun0_A.sl.r_1 (F := Ideal) c arg1 harg1 x0 = I.q 1 := by rw [hI]; rfl
  have q2 : kernelRun0_A.sl.r_2 (F := Ideal) c arg1 harg1 x0 = I.q 2 := by rw [hI]; rfl
  have q3 : kernelRun0_A.sl.r_3 (F := Ideal) c arg1 harg1 x0 = I.q 3 := by rw [hI]; rfl
  have q4 : kernelRun0_A.sl.r_4 (F := Ideal) c arg1 harg1 x0 = I.q 4 := by rw [hI]; rfl
  have q5 : kernelRun0_A.sl.r_5 (F := Ideal) c arg1 harg1 x0 = I.q 5 := by rw [hI]; rfl
  have q6 : kernelRun0_A.sl.r_6 (F := Ideal) c arg1 harg1 x0 = I.q 6 := by rw [hI]; rfl
  have q7 : kernelRun0_A.sl.r_7 (F := Ideal) c arg1 harg1 x0 = I.q 7 := by rw [hI]; rfl
  have e8 : kernelRun0_A.sl.r_8 (F := Ideal) c arg4 harg4 x3 = I.vp := by rw [hI]; rfl
  have e9 : kernelRun0_A.sl.r_9 (F := Ideal) c arg5 harg5 x4 = I.vc := by rw [hI]; rfl
  have e10 : kernelRun0_A.sl.r_10 (F := Ideal) c arg6 harg6 x5 = I.sink := by rw [hI]; rfl
  have f2 : View.readAt (Elt Ideal) arg2.view (Rect.unit (s := S128x128) ![0, 0] S128x128.size inb_S128x128_S128x128_0_0).toLoadRect (harg2.unread x1) = I.kp := by rw [hI]; rfl
  have f3 : View.readAt (Elt Ideal) arg3.view (Rect.unit (s := S128x128) ![0, 0] S128x128.size inb_S128x128_S128x128_0_0).toLoadRect (harg3.unread x2) = I.kc := by rw [hI]; rfl
  have f4 : View.readAt (Elt Ideal) arg4.view (Rect.unit (s := S128x128) ![0, 0] S128x128.size inb_S128x128_S128x128_0_0).toLoadRect (harg4.unread x3) = I.vp := by rw [hI]; rfl
  have f5 : View.readAt (Elt Ideal) arg5.view (Rect.unit (s := S128x128) ![0, 0] S128x128.size inb_S128x128_S128x128_0_0).toLoadRect (harg5.unread x4) = I.vc := by rw [hI]; rfl
  have f6 : View.readAt (Elt Ideal) arg6.view (Rect.unit (s := S1x128) ![0, 0] S1x128.size inb_S1x128_S1x128_0_0).toLoadRect (harg6.unread x5) = I.sink := by rw [hI]; rfl
  have e0 : kernelRun0_A.sl.v13 i = I.first := by rw [hI]; rfl
  clear hI
  have ec : kernelRun0_A.sl.cst_56 (F := Ideal) = zeroS := rfl
  have ed : kernelRun0_A.sl.cst_67 (F := Ideal) = eighthS := rfl
  have e14 : kernelRun0_A.sl.v14 = lanes := rfl
  unfold out0_A_6
  rw [View.read_writes_eq_canon _ _ _ (cover0_A_6 (F := Ideal) c i arg1 harg1 arg2 harg2 arg3 harg3 arg4 harg4 arg5 harg5 arg6 harg6 arg7 harg7 x0 x1 x2 x3 x4 x5)]
  funext y
  unfold kernelRun0_A
  dsimp only
  simp only [q0, q1, q2, q3, q4, q5, q6, q7, e0, e8, e9, e10, e14, ec, ed, f2, f3, f4, f5, f6,
    kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89,
    pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay108, pay109]
  exact View.canon_apply_of_pieces (outRows I) (stores I) (pieces I).mem y (tiles I y)

end

end Cert.Kernel21Ideal.Att

end
-- ==== Proof.Attention.FwdGrid.lean ====
/- What the points of the forward attention leave in the array, from what the arrays held. -/
module

public import proofs.«01_k».proof.Proof.Attention.FwdOut

@[expose] public section

noncomputable section

open Idealize.ShloMosaic

namespace Cert.Kernel21Ideal.Att

open Cert.Att Cert.Kernel21Ideal Cert.Kernel21Ideal.Gen Idealize.ShloMosaic Idealize.ShloMosaic.TcCoe Idealize.SL.Sem
open Cert.KernelIdeal.Att (In blkIn idx_ext2)
open Idealize.ShloMosaic.Pipeline (Dat)

variable (m : (ℓ : Loc nD τ sig) → Buf (Elt Ideal) ℓ) (c : Dev nD)

abbrev qkvOf : FVec Ideal S4096x1280 .f32 := m ((c : Thread nD τ).loc main_arg0)
abbrev sinkOf : FVec Ideal S1x128 .f32 := m ((c : Thread nD τ).loc main_arg1)

theorem idx_facts : ∀ t : Fin cfg0.N, win0_0.index t 0 = t.val ∧ win0_0.index t 1 = 0 ∧
    win0_1.index t 0 = t.val - 1 ∧ win0_1.index t 1 = 8 ∧ win0_2.index t 0 = t.val ∧ win0_2.index t 1 = 8 ∧
    win0_3.index t 0 = t.val - 1 ∧ win0_3.index t 1 = 9 ∧ win0_4.index t 0 = t.val ∧ win0_4.index t 1 = 9 :=
  (by decide +kernel : ∀ t : Fin grid0.N, _)

theorem idx_rest : ∀ t : Fin cfg0.N, win0_5.index t 0 = 0 ∧ win0_5.index t 1 = 0 ∧ win0_6.index t 0 = t.val ∧ win0_6.index t 1 = 0 :=
  (by decide +kernel : ∀ t : Fin grid0.N, _)

theorem first_eq : ∀ t : Fin cfg0.N, firstWord (grid0.coords t) = BitVec.ofBool (decide (t.val = 0)) :=
  (by decide +kernel : ∀ t : Fin grid0.N, _)

/-- The block of a point. -/
def blkOf (t : ℕ) : Fin 32 := ⟨t % 32, Nat.mod_lt _ (by omega)⟩

theorem lt_points (t : Fin cfg0.N) : t.val < 32 := Nat.lt_of_lt_of_eq t.isLt N_0

theorem blkOf_val (t : Fin cfg0.N) : (blkOf t).val = t.val := Nat.mod_eq_of_lt (lt_points t)

theorem before_val (t : Fin cfg0.N) : (before (blkOf t)).val = t.val - 1 := by
  show (blkOf t).val - 1 = _
  rw [blkOf_val]

theorem X_apply (t : Fin cfg0.N) (z : S128x1024.Idx) : X0_0 m c t z = qkvOf m c (ix2 (rw4 (blkOf t) (z 0)) ⟨(z 1).val, by have : (z 1).val < 1024 := (z 1).isLt; omega⟩) := by
  obtain ⟨a0, b0, -⟩ := idx_facts t
  have hb := blkOf_val t
  unfold X0_0 Pipeline.Window.fill
  rw [dif_pos (moved0_0 t z)]
  refine congrArg (qkvOf m c) (idx_ext2 ((win0_0.rect_emb_val t _ 0).trans ?_) ((win0_0.rect_emb_val t _ 1).trans ?_))
  · rw [a0]
    show t.val * 128 + (z 0).val = 128 * (blkOf t).val + (z 0).val
    omega
  · rw [b0]
    show 0 * 1024 + (z 1).val = (z 1).val
    omega

/-- What the point of block `n` reads. -/
abbrev inAt (t : ℕ) : In Ideal := blkIn (qkvOf m c) (sinkOf m c) (fun _ => (0 : EReal)) (blkOf t)

theorem kp_eq (t : Fin cfg0.N) : iblk m c 1 t = (inAt m c t).kp := by
  obtain ⟨-, -, a, b, -⟩ := idx_facts t
  have hb := before_val t
  funext z
  refine congrArg (qkvOf m c) (idx_ext2 ((win0_1.rect_emb_val t z 0).trans ?_) ((win0_1.rect_emb_val t z 1).trans ?_))
  · rw [a]
    show (t.val - 1) * 128 + (z 0).val = 128 * (before (blkOf t)).val + (z 0).val
    omega
  · rw [b]
    rfl

theorem kc_eq (t : Fin cfg0.N) : iblk m c 2 t = (inAt m c t).kc := by
  obtain ⟨-, -, -, -, a, b, -⟩ := idx_facts t
  have hb := blkOf_val t
  funext z
  refine congrArg (qkvOf m c) (idx_ext2 ((win0_2.rect_emb_val t z 0).trans ?_) ((win0_2.rect_emb_val t z 1).trans ?_))
  · rw [a]
    show t.val * 128 + (z 0).val = 128 * (blkOf t).val + (z 0).val
    omega
  · rw [b]
    rfl

theorem vp_eq (t : Fin cfg0.N) : iblk m c 3 t = (inAt m c t).vp := by
  obtain ⟨-, -, -, -, -, -, a, b, -⟩ := idx_facts t
  have hb := before_val t
  funext z
  refine congrArg (qkvOf m c) (idx_ext2 ((win0_3.rect_emb_val t z 0).trans ?_) ((win0_3.rect_emb_val t z 1).trans ?_))
  · rw [a]
    show (t.val - 1) * 128 + (z 0).val = 128 * (before (blkOf t)).val + (z 0).val
    omega
  · rw [b]
    rfl

theorem vc_eq (t : Fin cfg0.N) : iblk m c 4 t = (inAt m c t).vc := by
  obtain ⟨-, -, -, -, -, -, -, -, a, b⟩ := idx_facts t
  have hb := blkOf_val t
  funext z
  refine congrArg (qkvOf m c) (idx_ext2 ((win0_4.rect_emb_val t z 0).trans ?_) ((win0_4.rect_emb_val t z 1).trans ?_))
  · rw [a]
    show t.val * 128 + (z 0).val = 128 * (blkOf t).val + (z 0).val
    omega
  · rw [b]
    rfl

theorem sink_eq (t : Fin cfg0.N) : iblk m c 5 t = sinkOf m c := by
  obtain ⟨a, b, -⟩ := idx_rest t
  funext z
  exact congrArg (sinkOf m c) (idx_ext2 (win0_5.rect_emb_val_of_index_zero t 0 a z) (win0_5.rect_emb_val_of_index_zero t 1 b z))

theorem loaded_eq (t : Fin cfg0.N) : inAt m c t = loaded (grid0.coords t) (ms0_0 t) (hs0_0 t) (ms0_1 t) (hs0_1 t) (ms0_2 t) (hs0_2 t) (ms0_3 t) (hs0_3 t) (ms0_4 t) (hs0_4 t) (ms0_5 t) (hs0_5 t)
    (X0_0 m c t) (iblk m c 1 t) (iblk m c 2 t) (iblk m c 3 t) (iblk m c 4 t) (iblk m c 5 t) := by
  have hz : (![0, 0] : Fin 2 → Nat) = fun _ => 0 := Mlp.zero2
  have hf : BitVec.ofBool (decide (t.val = 0)) = (inAt m c t).first := by
    show _ = BitVec.ofBool (decide ((blkOf t).val = 0))
    rw [blkOf_val]
  unfold loaded
  rw [kp_eq, kc_eq, vp_eq, vc_eq, sink_eq, first_eq, hf]
  simp only [View.readAt_eq_ld, (hs0_0 t).read_unread, (hs0_1 t).read_unread, (hs0_2 t).read_unread, (hs0_3 t).read_unread, (hs0_4 t).read_unread, (hs0_5 t).read_unread,
    View.ld_unit_zero (S := S128x128) hz, View.ld_unit_zero (S := S1x128) hz]
  have hq : ∀ t' : Fin 8, (inAt m c t).q t' = View.ld (Val := Elt Ideal) (e' := .f32) (X0_0 m c t) (Rect.unit (s := S128x1024) ![0, 128 * t'.val] S128x128.size (pair_inb t')) := fun t' => by
    funext z
    refine Eq.trans ?_ (X_apply m c t _).symm
    refine congrArg (qkvOf m c) (idx_ext2 ?_ ?_)
    · show 128 * (blkOf t).val + (z 0).val = 128 * (blkOf t).val + (0 + 1 * (z 0).val)
      omega
    · show 128 * t'.val + (z 1).val = 128 * t'.val + 1 * (z 1).val
      omega
  simp only [← hq]
  rfl

/-- The outputs, whole. -/
def rowsAll : FVec Ideal S4096x1024 .bf16 := fun z =>
  outRows (inAt m c ((z 0).val / 128)) (ix2 ⟨(z 0).val % 128, Nat.mod_lt _ (by omega)⟩ (z 1))

theorem flushed (t : Fin cfg0.N) : (dats m 0 c).flushed 6 t = (win0_6.blk t).view.read (Elt Ideal) (rowsAll m c) := by
  obtain ⟨-, -, a, b⟩ := idx_rest t
  have ht := lt_points t
  rw [Value.flushed6_A, out_A_6 (I := inAt m c t) (hI := loaded_eq m c t)]
  funext y
  have h0 : (y 0).val < 128 := (y 0).isLt
  have e0 : ((win0_6.rect t).emb y 0).val = t.val * 128 + (y 0).val := (win0_6.rect_emb_val t y 0).trans (by rw [a]; rfl)
  have e1 : ((win0_6.rect t).emb y 1).val = (y 1).val := (win0_6.rect_emb_val_of_index_zero t 1 b y)
  have key : ∀ (t' : ℕ) (y' : S128x1024.Idx), t' = t.val → y' = y → outRows (inAt m c t) y = outRows (inAt m c t') y' := by
    rintro _ _ rfl rfl; rfl
  refine key (((win0_6.rect t).emb y 0).val / 128) (ix2 ⟨((win0_6.rect t).emb y 0).val % 128, Nat.mod_lt _ (by omega)⟩ ((win0_6.rect t).emb y 1)) ?_ (idx_ext2 ?_ ?_)
  · rw [e0]; omega
  · show ((win0_6.rect t).emb y 0).val % 128 = (y 0).val
    rw [e0]; omega
  · exact e1

theorem cover (i : S4096x1024.Idx) : ∃ t : Fin cfg0.N, (cfg0.win 6).flush t = true ∧ i ∈ ((cfg0.win 6).blk t).view.set := by
  have key : ∀ a : Fin 32, ∃ t : Fin grid0.N, win0_6.index t 0 = a.val ∧ win0_6.index t 1 = 0 := by decide +kernel
  have h0 : (i 0).val < 4096 := (i 0).isLt
  have h1 : (i 1).val < 1024 := (i 1).isLt
  obtain ⟨t, ha, hb⟩ := key ⟨(i 0).val / 128, by omega⟩
  refine ⟨t, flush0_6 t, ?_⟩
  show i ∈ ((View.whole main_v0).slice (win0_6.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final6 : (dats m 0 c).arrAt 6 cfg0.N = rowsAll m c :=
  (dats m 0 c).arrAt_eq_of_cover 6 _ (fun t _ => flushed m c t) cover

end Cert.Kernel21Ideal.Att

end
-- ==== Proof.Attention.FwdFinal.lean ====
/- The forward attention computes its reference, when its two arrays are finite. -/
module

public import proofs.«01_k».proof.Defs
public import proofs.«01_k».proof.Proof.Attention.FwdGrid
public import proofs.«01_k».proof.Proof.Attention.Final

@[expose] public section

noncomputable section

open Idealize.ShloMosaic

namespace Cert.Att

variable [Pre_finite21.Facts]
variable (A : FVec Ideal Pre_finite21.S4096x1280 .f32) (s : FVec Ideal Pre_finite21.S1x128 .f32)

theorem fwd_fin_A (h : (Pre_finite21.fn (F := Ideal) A s).1 = fun _ => 1#1) (i : Pre_finite21.S4096x1280.Idx) : IsReal (A i) := by
  refine real_of _ (Eq.trans ?_ (congrFun h i))
  rw [← bot32, ← top32]
  rfl

theorem fwd_fin_s (h : (Pre_finite21.fn (F := Ideal) A s).2 = fun _ => 1#1) (i : Pre_finite21.S1x128.Idx) : IsReal (s i) := by
  refine real_of _ (Eq.trans ?_ (congrFun h i))
  rw [← bot32, ← top32]
  rfl

end Cert.Att

namespace Cert.Kernel21Ideal.Att

open Cert.Att Cert.Kernel21Ideal Cert.Kernel21Ideal.Gen Idealize.ShloMosaic Idealize.ShloMosaic.TcCoe Idealize.SL.Sem
open Cert.KernelIdeal.Att (In blkIn idx_ext2 hd h0_both h1_both h0_head h1_head head_eq)

/-- A lane of a column block is a lane of one head's output. -/
theorem col_lane (I : In Ideal) (j b : Fin 2) (t : Fin 4) (r : Fin 128) (d : Fin 64) : (col I ⟨4 * j.val + t.val, by omega⟩ (ix2 r (ln b d)) : EReal) = (I.head (hd t b) j).out r d := by
  have e0 : ∀ (t : Fin 4) (k : Fin 8), k.val = t.val → col I k = out I.h0 t := by
    intro t k hk
    rw [show k = ⟨t.val, Nat.lt_of_lt_of_le t.isLt (by decide)⟩ from Fin.ext hk]
    clear hk
    fin_cases t <;> rfl
  have e1 : ∀ (t : Fin 4) (k : Fin 8), k.val = 4 + t.val → col I k = out I.h1 t := by
    intro t k hk
    rw [show k = ⟨4 + t.val, Nat.add_lt_add_left t.isLt 4⟩ from Fin.ext hk]
    clear hk
    fin_cases t <;> rfl
  obtain rfl | rfl : j = 0 ∨ j = 1 := by omega
  · rw [e0 t _ (by show 4 * 0 + t.val = t.val; omega), out_apply r b d I.h0 (h0_both I) t, h0_head]
  · rw [e1 t _ (by show 4 * 1 + t.val = 4 + t.val; omega), out_apply r b d I.h1 (h1_both I) t, h1_head]

variable (m : (ℓ : Loc nD τ sig) → Buf (Elt Ideal) ℓ) (c : Dev nD)
variable (hA : ∀ i, IsReal (qkvOf m c i)) (hs : ∀ i, IsReal (sinkOf m c i))
include hA hs

/-- One lane of a pair of heads. -/
theorem lane (n : Fin 32) (j b : Fin 2) (t : Fin 4) (r : Fin 128) (d : Fin 64) (z : S4096x1024.Idx) (h0 : (z 0).val = 128 * n.val + r.val)
    (h1 : (z 1).val = 512 * j.val + 128 * t.val + 64 * b.val + d.val) : (rowsAll m c z : EReal) = Reference21Ideal.Read.val_main_v79 (F := Ideal) (qkvOf m c) (sinkOf m c) z := by
  have ez : z = ix2 (rw4 n r) ⟨512 * j.val + 64 * (hd t b).val + d.val, by omega⟩ := by
    refine idx_ext2 h0 ?_
    show (z 1).val = 512 * j.val + 64 * (2 * t.val + b.val) + d.val
    omega
  have key : ∀ (q : ℕ) (k : Fin 8) (r' l : Fin 128), q = n.val → k = ⟨4 * j.val + t.val, by omega⟩ → r' = r → l = ln b d →
      (col (inAt m c q) k (ix2 r' l) : EReal) = ((inAt m c n.val).head (hd t b) j).out r d := by
    intro q k r' l e1 e2 e3 e4
    rw [e1, e2, e3, e4]
    exact col_lane _ j b t r d
  have hn : blkOf n.val = n := Fin.ext (Nat.mod_eq_of_lt n.isLt)
  refine (key ((z 0).val / 128) ⟨(z 1).val / 128, by omega⟩ ⟨(z 0).val % 128, by omega⟩ ⟨(z 1).val % 128, by omega⟩ (by omega) (Fin.ext ?_) (Fin.ext ?_) (Fin.ext ?_)).trans ?_
  · show (z 1).val / 128 = 4 * j.val + t.val
    omega
  · show (z 0).val % 128 = r.val
    omega
  · show (z 1).val % 128 = 64 * b.val + d.val
    omega
  · rw [ez, Reference21Ideal.Att.out_apply _ _ (fun _ => (0 : EReal)) n j (hd t b) r d hA hs, inAt, hn, head_eq]

theorem rows_ref : rowsAll m c = Reference21Ideal.Read.val_main_v79 (F := Ideal) (qkvOf m c) (sinkOf m c) := by
  funext z
  have h0 : (z 0).val < 4096 := (z 0).isLt
  have h1 : (z 1).val < 1024 := (z 1).isLt
  refine lane m c hA hs ⟨(z 0).val / 128, by omega⟩ ⟨(z 1).val / 512, by omega⟩ ⟨(z 1).val / 64 % 2, by omega⟩ ⟨(z 1).val / 128 % 4, by omega⟩ ⟨(z 0).val % 128, by omega⟩ ⟨(z 1).val % 64, by omega⟩ z ?_ ?_
  · show (z 0).val = 128 * ((z 0).val / 128) + (z 0).val % 128
    omega
  · show (z 1).val = 512 * ((z 1).val / 512) + 128 * ((z 1).val / 128 % 4) + 64 * ((z 1).val / 64 % 2) + (z 1).val % 64
    omega

end Cert.Kernel21Ideal.Att

end
-- ==== Proof.Mlp.Up.lean ====
/- The first product of the squared-ReLU layer: what the pipelined product leaves in its result array is, index by index, what
   the reference computes. -/
module

public import proofs.«01_k».proof.Proof.Mlp.Base
public import proofs.«01_k».proof.Proof.Gen.Kernel5Ideal.Value
public import proofs.«01_k».proof.Proof.Gen.Reference5Ideal.Read

@[expose] public section

noncomputable section

namespace Cert.Kernel5Ideal.Up

open Cert.Kernel5Ideal Cert.Kernel5Ideal.Gen Idealize.ShloMosaic Idealize.ShloMosaic.TcCoe Idealize.SL.Sem
open Idealize.ShloMosaic.Pipeline (Dat)

/-- One block's result at an index. -/
theorem pay_apply (a : FVec Ideal S2048x1024 .bf16) (w : FVec Ideal S1x1024x1024 .bf16) (y : S2048x1024.Idx) :
    (k0_pay1 (F := Ideal) a w y : EReal) = ∑ k : Fin 1024, a (ix2 (y 0) k) * w (ix3 (0 : Fin 1) k (y 1)) := by
  pointwise [k0_pay1]

/-- The block of columns a column of the product lies in. -/
def blkOf (q : Fin 4096) : Fin 4 := ⟨q.val / 1024, by omega⟩

/-- Its column there. -/
def colOf (q : Fin 4096) : Fin 1024 := ⟨q.val % 1024, by omega⟩

/-- The whole array the blocks are cut from. -/
def G (a : FVec Ideal S4096x1024 .bf16) (w : FVec Ideal S4x1024x1024 .bf16) : FVec Ideal S4096x4096 .bf16 :=
  fun i => ((∑ k : Fin 1024, a (ix2 (i 0) k) * w (ix3 (blkOf (i 1)) k (colOf (i 1))) : EReal))

variable (m : (ℓ : Loc nD τ sig) → Buf (Elt Ideal) ℓ) (c : Dev nD)

/-- Where each window's block stands against the result's. -/
theorem idx_facts : ∀ t : Fin cfg0.N, win0_0.index t 0 = win0_2.index t 0 ∧ win0_0.index t 1 = 0 ∧ win0_1.index t 0 = win0_2.index t 1
    ∧ win0_1.index t 1 = 0 ∧ win0_1.index t 2 = 0 :=
  (by decide +kernel : ∀ t : Fin grid0.N, _)

theorem flushed_eq (t : Fin cfg0.N) :
    (dats m 0 c).flushed 2 t = (win0_2.blk t).view.read (Elt Ideal)
      (G (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero3]
  obtain ⟨e0, e1, e2, e3, e4⟩ := idx_facts t
  funext y
  refine (pay_apply _ _ _).trans ?_
  show _ = G _ _ ((win0_2.rect t).emb y)
  unfold G
  have q0 : ((win0_2.rect t).emb y 0).val = win0_2.index t 0 * 2048 + (y 0).val := win0_2.rect_emb_val t y 0
  have q1 : ((win0_2.rect t).emb y 1).val = win0_2.index t 1 * 1024 + (y 1).val := win0_2.rect_emb_val t y 1
  have y1 : (y 1).val < 1024 := (y 1).isLt
  have h0 : ∀ k : Fin 1024, iblk m c 0 t (ix2 (y 0) k) = m ((c : Thread nD τ).loc main_arg0) (ix2 ((win0_2.rect t).emb y 0) k) := fun k =>
    congrArg (m ((c : Thread nD τ).loc main_arg0)) (Shape.idx_ext₂ (x := (win0_0.rect t).emb (ix2 (y 0) k))
      ((win0_0.rect_emb_val t (ix2 (y 0) k) 0).trans ((congrArg (fun n => n * 2048 + (y 0).val) e0).trans q0.symm))
      (win0_0.rect_emb_val_of_index_zero t 1 e1 (ix2 (y 0) k)))
  have b0 : win0_1.index t 0 * 1 + 0 = (blkOf ((win0_2.rect t).emb y 1)).val := by
    show _ = ((win0_2.rect t).emb y 1).val / 1024
    rw [q1, e2]; omega
  have b1 : (y 1).val = (colOf ((win0_2.rect t).emb y 1)).val := by
    show _ = ((win0_2.rect t).emb y 1).val % 1024
    rw [q1]; omega
  have h1 : ∀ k : Fin 1024, iblk m c 1 t (ix3 (0 : Fin 1) k (y 1)) = m ((c : Thread nD τ).loc main_arg1) (ix3 (blkOf ((win0_2.rect t).emb y 1)) k (colOf ((win0_2.rect t).emb y 1))) := fun k =>
    congrArg (m ((c : Thread nD τ).loc main_arg1)) (Mlp.idx_ext3 (x := (win0_1.rect t).emb (ix3 (0 : Fin 1) k (y 1)))
      ((win0_1.rect_emb_val t (ix3 (0 : Fin 1) k (y 1)) 0).trans b0)
      (win0_1.rect_emb_val_of_index_zero t 1 e3 (ix3 (0 : Fin 1) k (y 1)))
      ((win0_1.rect_emb_val_of_index_zero t 2 e4 (ix3 (0 : Fin 1) k (y 1))).trans b1))
  exact Finset.sum_congr rfl fun k _ => congrArg₂ (· * ·) (h0 k) (h1 k)

/-- Which indices a point's block holds. -/
theorem mem_blk (t : Fin cfg0.N) (i : S4096x4096.Idx) :
    i ∈ ((cfg0.win 2).blk t).view.set ↔ ∀ a, win0_2.index t a * S2048x1024.size a ≤ (i a).val ∧ (i a).val < win0_2.index t a * S2048x1024.size a + S2048x1024.size a := by
  show i ∈ ((View.whole main_v0).slice (win0_2.rect t)).set ↔ _
  rw [View.set_slice_whole, Rect.mem_set_unit]

theorem cover (i : S4096x4096.Idx) : ∃ t : Fin cfg0.N, (cfg0.win 2).flush t = true ∧ i ∈ ((cfg0.win 2).blk t).view.set := by
  have key : ∀ (a : Fin 2) (b : Fin 4), ∃ t : Fin grid0.N, win0_2.index t 0 = a.val ∧ win0_2.index t 1 = b.val := by decide +kernel
  have h0 : (i 0).val < 4096 := (i 0).isLt
  have h1 : (i 1).val < 4096 := (i 1).isLt
  obtain ⟨t, ha, hb⟩ := key ⟨(i 0).val / 2048, by omega⟩ ⟨(i 1).val / 1024, by omega⟩
  refine ⟨t, flush0_2 t, (mem_blk t i).mpr fun a => ?_⟩
  match a with
  | ⟨0, _⟩ => show win0_2.index t 0 * 2048 ≤ (i 0).val ∧ (i 0).val < win0_2.index t 0 * 2048 + 2048; rw [ha]; dsimp only; constructor <;> omega
  | ⟨1, _⟩ => show win0_2.index t 1 * 1024 ≤ (i 1).val ∧ (i 1).val < win0_2.index t 1 * 1024 + 1024; rw [hb]; dsimp only; constructor <;> omega

theorem final : (dats m 0 c).arrAt 2 cfg0.N
    = G (m ((c : Thread nD τ).loc main_arg0)) (m ((c : Thread nD τ).loc main_arg1)) :=
  (dats m 0 c).arrAt_eq_of_cover 2 _ (fun t _ => flushed_eq m c t) cover

open Cert.Reference5Ideal.Read in
/-- The reference's value is the same function. -/
theorem ref (a : FVec Ideal S4096x1024 .bf16) (w : FVec Ideal S4x1024x1024 .bf16) : val_main_v12 (F := Ideal) a w = G a w := by
  funext i
  unfold G
  pointwise [val_main_v12, val_main_v11, val_main_v10, val_main_v9, val_main_v8, val_main_v7, val_main_v6, val_main_v5, val_main_v4, val_main_v3,
    val_main_v2, val_main_v1, val_main_v0]
  have h : (i 1).val < 4096 := (i 1).isLt
  refine Finset.sum_congr rfl fun k _ => congrArg (a (ix2 (i 0) k) * ·) ?_
  by_cases h0 : (i 1).val < 1024
  · rw [dif_pos h0]
    refine congrArg w (Mlp.idx_ext3 ?_ rfl ?_)
    · show 0 = (i 1).val / 1024; omega
    · show (i 1).val = (i 1).val % 1024; omega
  rw [dif_neg h0]
  by_cases h1 : (i 1).val - 1024 < 1024
  · rw [dif_pos h1]
    refine congrArg w (Mlp.idx_ext3 ?_ rfl ?_)
    · show 1 = (i 1).val / 1024; omega
    · show (i 1).val - 1024 = (i 1).val % 1024; omega
  rw [dif_neg h1]
  by_cases h2 : (i 1).val - 1024 - 1024 < 1024
  · rw [dif_pos h2]
    refine congrArg w (Mlp.idx_ext3 ?_ rfl ?_)
    · show 2 = (i 1).val / 1024; omega
    · show (i 1).val - 1024 - 1024 = (i 1).val % 1024; omega
  rw [dif_neg h2]
  refine congrArg w (Mlp.idx_ext3 ?_ rfl ?_)
  · show 3 = (i 1).val / 1024; omega
  · show (i 1).val - 1024 - 1024 - 1024 = (i 1).val % 1024; omega

end Cert.Kernel5Ideal.Up

end
-- ==== Proof.Mlp.InProj.lean ====
/- The product of the first layer with its input weight. What the pipelined product leaves in its result array is what the reference computes. -/
module

public import proofs.«01_k».proof.Proof.Mlp.Base
public import proofs.«01_k».proof.Proof.Gen.Kernel6Ideal.Value
public import proofs.«01_k».proof.Proof.Gen.Reference6Ideal.Read

@[expose] public section

noncomputable section

namespace Cert.Kernel6Ideal.InProj

open Cert.Kernel6Ideal Cert.Kernel6Ideal.Gen Idealize.ShloMosaic Idealize.ShloMosaic.TcCoe Idealize.SL.Sem
open Idealize.ShloMosaic.Pipeline (Dat)

/-- One block's result at an index. -/
theorem pay_apply (x : FVec Ideal S2048x1024 .bf16) (w : FVec Ideal S1024x768 .bf16) (y : S2048x768.Idx) :
    (k0_pay1 (F := Ideal) x w y : EReal) = Mlp.nn x w y := by
  unfold Mlp.nn
  pointwise [k0_pay1]

variable (m : (ℓ : Loc nD τ sig) → Buf (Elt Ideal) ℓ) (c : Dev nD)

/-- Where each operand's block stands against the result's. -/
theorem idx_facts : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, _)

theorem flushed_eq (t : Fin cfg0.N) :
    (dats m 0 c).flushed 2 t = (win0_2.blk t).view.read (Elt Ideal)
      (Mlp.nn (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  exact (pay_apply _ _ _).trans (Mlp.nn_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_2.rect t).emb) ⟨fun z => win0_2.rect_emb_val t z 0, fun z => win0_2.rect_emb_val t z 1⟩ e0 e1 e2 e3 y)

theorem cover (i : S4096x5376.Idx) : ∃ t : Fin cfg0.N, (cfg0.win 2).flush t = true ∧ i ∈ ((cfg0.win 2).blk t).view.set := by
  have key : ∀ (a : Fin 2) (b : Fin 7), ∃ t : Fin grid0.N, win0_2.index t 0 = a.val ∧ win0_2.index t 1 = b.val := by decide +kernel
  have h0 : (i 0).val < 4096 := (i 0).isLt
  have h1 : (i 1).val < 5376 := (i 1).isLt
  obtain ⟨t, ha, hb⟩ := key ⟨(i 0).val / 2048, by omega⟩ ⟨(i 1).val / 768, by omega⟩
  refine ⟨t, flush0_2 t, ?_⟩
  show i ∈ ((View.whole main_v0).slice (win0_2.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 2 cfg0.N = Mlp.nn (m ((c : Thread nD τ).loc main_arg0)) (m ((c : Thread nD τ).loc main_arg1)) :=
  (dats m 0 c).arrAt_eq_of_cover 2 _ (fun t _ => flushed_eq m c t) cover

open Cert.Reference6Ideal.Read in
/-- The reference's value is the same product. -/
theorem ref (x : FVec Ideal S4096x1024 .bf16) (w : FVec Ideal S1024x5376 .bf16) : val_main_v2 (F := Ideal) x w = Mlp.nn x w := by
  funext i
  unfold Mlp.nn
  pointwise [val_main_v2, val_main_v1, val_main_v0]

end Cert.Kernel6Ideal.InProj

end
-- ==== Proof.Mlp.DwIn.lean ====
/- The gradient of the first layer by its input weight, transposed. What the pipelined product leaves in its result array is what the reference computes. -/
module

public import proofs.«01_k».proof.Proof.Mlp.Base
public import proofs.«01_k».proof.Proof.Gen.Kernel7Ideal.Value
public import proofs.«01_k».proof.Proof.Gen.Reference7Ideal.Read

@[expose] public section

noncomputable section

namespace Cert.Kernel7Ideal.DwIn

open Cert.Kernel7Ideal Cert.Kernel7Ideal.Gen Idealize.ShloMosaic Idealize.ShloMosaic.TcCoe Idealize.SL.Sem
open Idealize.ShloMosaic.Pipeline (Dat)

/-- One block's result at an index. -/
theorem pay_apply (x : FVec Ideal S4096x768 .bf16) (w : FVec Ideal S4096x1024 .bf16) (y : S768x1024.Idx) :
    (k0_pay1 (F := Ideal) x w y : EReal) = Mlp.tn x w y := by
  unfold Mlp.tn
  pointwise [k0_pay1]

variable (m : (ℓ : Loc nD τ sig) → Buf (Elt Ideal) ℓ) (c : Dev nD)

/-- Where each operand's block stands against the result's. -/
theorem idx_facts : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, _)

theorem flushed_eq (t : Fin cfg0.N) :
    (dats m 0 c).flushed 2 t = (win0_2.blk t).view.read (Elt Ideal)
      (Mlp.tn (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  exact (pay_apply _ _ _).trans (Mlp.tn_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_2.rect t).emb) ⟨fun z => win0_2.rect_emb_val t z 0, fun z => win0_2.rect_emb_val t z 1⟩ e0 e1 e2 e3 y)

theorem cover (i : S5376x1024.Idx) : ∃ t : Fin cfg0.N, (cfg0.win 2).flush t = true ∧ i ∈ ((cfg0.win 2).blk t).view.set := by
  have key : ∀ (a : Fin 7) (b : Fin 1), ∃ t : Fin grid0.N, win0_2.index t 0 = a.val ∧ win0_2.index t 1 = b.val := by decide +kernel
  have h0 : (i 0).val < 5376 := (i 0).isLt
  have h1 : (i 1).val < 1024 := (i 1).isLt
  obtain ⟨t, ha, hb⟩ := key ⟨(i 0).val / 768, by omega⟩ ⟨(i 1).val / 1024, by omega⟩
  refine ⟨t, flush0_2 t, ?_⟩
  show i ∈ ((View.whole main_v0).slice (win0_2.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 2 cfg0.N = Mlp.tn (m ((c : Thread nD τ).loc main_arg0)) (m ((c : Thread nD τ).loc main_arg1)) :=
  (dats m 0 c).arrAt_eq_of_cover 2 _ (fun t _ => flushed_eq m c t) cover

open Cert.Reference7Ideal.Read in
/-- The reference's value is the same product. -/
theorem ref (x : FVec Ideal S4096x5376 .bf16) (w : FVec Ideal S4096x1024 .bf16) : val_main_v7 (F := Ideal) x w = Mlp.tn x w := by
  funext i
  unfold Mlp.tn
  pointwise [val_main_v7, val_main_v6, val_main_v5, val_main_v4, val_main_v3, val_main_v2, val_main_v1, val_main_v0, val_main_cst]

end Cert.Kernel7Ideal.DwIn

end
-- ==== Proof.Mlp.QkvProj.lean ====
/- The product of the second layer with its input weight, and the bias of each column. What the pipelined product leaves in its result array is what the reference computes. -/
module

public import proofs.«01_k».proof.Proof.Mlp.Base
public import proofs.«01_k».proof.Proof.Gen.Kernel8Ideal.Value
public import proofs.«01_k».proof.Proof.Gen.Reference8Ideal.Read

@[expose] public section

noncomputable section

namespace Cert.Kernel8Ideal.QkvProj

open Cert.Kernel8Ideal Cert.Kernel8Ideal.Gen Idealize.ShloMosaic Idealize.ShloMosaic.TcCoe Idealize.SL.Sem
open Idealize.ShloMosaic.Pipeline (Dat)

/-- The product with the bias row added. -/
def G (x : FVec Ideal S4096x1024 .bf16) (w : FVec Ideal S1024x1280 .bf16) (b : FVec Ideal S1x1280 .f32) : FVec Ideal S4096x1280 .f32 :=
  fun i => Mlp.nn x w i + b (ix2 0 (i 1))

/-- One block's result at an index. -/
theorem pay_apply (x : FVec Ideal S1024x1024 .bf16) (w : FVec Ideal S1024x1280 .bf16) (b : FVec Ideal S1x1280 .f32) (y : S1024x1280.Idx) :
    (k0_pay1 (F := Ideal) x w b y : EReal) = Mlp.nn x w y + b (ix2 0 (y 1)) := by
  unfold Mlp.nn
  pointwise [k0_pay1]

variable (m : (ℓ : Loc nD τ sig) → Buf (Elt Ideal) ℓ) (c : Dev nD)

/-- Where each operand's block stands against the result's. -/
theorem idx_facts : ∀ t : Fin cfg0.N, win0_0.index t 0 = win0_3.index t 0 ∧ win0_0.index t 1 = 0 ∧ win0_1.index t 0 = 0 ∧ win0_1.index t 1 = win0_3.index t 1 ∧
    win0_2.index t 0 = 0 ∧ win0_2.index t 1 = win0_3.index t 1 :=
  (by decide +kernel : ∀ t : Fin grid0.N, _)

theorem flushed_eq (t : Fin cfg0.N) :
    (dats m 0 c).flushed 3 t = (win0_3.blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero Mlp.zero2, View.ld_unit_zero Mlp.zero2, View.ld_unit_zero Mlp.zero2, View.ld_unit_zero Mlp.zero2]
  obtain ⟨e0, e1, e2, e3, e4, e5⟩ := idx_facts t
  have ao : Mlp.At (win0_3.index t 0) (win0_3.index t 1) (win0_3.rect t).emb := ⟨fun z => win0_3.rect_emb_val t z 0, fun z => win0_3.rect_emb_val t z 1⟩
  have ab : Mlp.At (win0_2.index t 0) (win0_2.index t 1) (win0_2.rect t).emb := ⟨fun z => win0_2.rect_emb_val t z 0, fun z => win0_2.rect_emb_val t z 1⟩
  funext y
  refine (pay_apply _ _ _ _).trans (congrArg₂ (· + ·) (Mlp.nn_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_3.rect t).emb) ao e0 e1 e2 e3 y)
    (congrArg (m ((c : Thread nD τ).loc main_arg2)) (ab.row_eq ao e4 e5 y)))

theorem cover (i : S4096x1280.Idx) : ∃ t : Fin cfg0.N, (cfg0.win 3).flush t = true ∧ i ∈ ((cfg0.win 3).blk t).view.set := by
  have key : ∀ (a : Fin 4) (b : Fin 1), ∃ t : Fin grid0.N, win0_3.index t 0 = a.val ∧ win0_3.index t 1 = b.val := by decide +kernel
  have h0 : (i 0).val < 4096 := (i 0).isLt
  have h1 : (i 1).val < 1280 := (i 1).isLt
  obtain ⟨t, ha, hb⟩ := key ⟨(i 0).val / 1024, by omega⟩ ⟨(i 1).val / 1280, by omega⟩
  refine ⟨t, flush0_3 t, ?_⟩
  show i ∈ ((View.whole main_v0).slice (win0_3.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t _ => flushed_eq m c t) cover

open Cert.Reference8Ideal.Read in
/-- The reference's value is the same product. -/
theorem ref (x : FVec Ideal S4096x1024 .bf16) (w : FVec Ideal S1024x1280 .bf16) (b : FVec Ideal S1x1280 .f32) : val_main_v6 (F := Ideal) x w b = G x w b := by
  funext i
  unfold G Mlp.nn
  pointwise [val_main_v6, val_main_v5, val_main_v4, val_main_v3, val_main_v2, val_main_v1, val_main_v0]

end Cert.Kernel8Ideal.QkvProj

end
-- ==== Proof.Mlp.DwQkv.lean ====
/- The gradient of the second layer by its input weight. What the pipelined product leaves in its result array is what the reference computes. -/
module

public import proofs.«01_k».proof.Proof.Mlp.Base
public import proofs.«01_k».proof.Proof.Gen.Kernel9Ideal.Value
public import proofs.«01_k».proof.Proof.Gen.Reference9Ideal.Read

@[expose] public section

noncomputable section

namespace Cert.Kernel9Ideal.DwQkv

open Cert.Kernel9Ideal Cert.Kernel9Ideal.Gen Idealize.ShloMosaic Idealize.ShloMosaic.TcCoe Idealize.SL.Sem
open Idealize.ShloMosaic.Pipeline (Dat)

/-- One block's result at an index. -/
theorem pay_apply (x : FVec Ideal S4096x1024 .bf16) (w : FVec Ideal S4096x1280 .bf16) (y : S1024x1280.Idx) :
    (k0_pay1 (F := Ideal) x w y : EReal) = Mlp.tn x w y := by
  unfold Mlp.tn
  pointwise [k0_pay1]

variable (m : (ℓ : Loc nD τ sig) → Buf (Elt Ideal) ℓ) (c : Dev nD)

/-- Where each operand's block stands against the result's. -/
theorem idx_facts : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, _)

theorem flushed_eq (t : Fin cfg0.N) :
    (dats m 0 c).flushed 2 t = (win0_2.blk t).view.read (Elt Ideal)
      (Mlp.tn (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  exact (pay_apply _ _ _).trans (Mlp.tn_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_2.rect t).emb) ⟨fun z => win0_2.rect_emb_val t z 0, fun z => win0_2.rect_emb_val t z 1⟩ e0 e1 e2 e3 y)

theorem cover (i : S1024x1280.Idx) : ∃ t : Fin cfg0.N, (cfg0.win 2).flush t = true ∧ i ∈ ((cfg0.win 2).blk t).view.set := by
  have key : ∀ (a : Fin 1) (b : Fin 1), ∃ t : Fin grid0.N, win0_2.index t 0 = a.val ∧ win0_2.index t 1 = b.val := by decide +kernel
  have h0 : (i 0).val < 1024 := (i 0).isLt
  have h1 : (i 1).val < 1280 := (i 1).isLt
  obtain ⟨t, ha, hb⟩ := key ⟨(i 0).val / 1024, by omega⟩ ⟨(i 1).val / 1280, by omega⟩
  refine ⟨t, flush0_2 t, ?_⟩
  show i ∈ ((View.whole main_v0).slice (win0_2.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 2 cfg0.N = Mlp.tn (m ((c : Thread nD τ).loc main_arg0)) (m ((c : Thread nD τ).loc main_arg1)) :=
  (dats m 0 c).arrAt_eq_of_cover 2 _ (fun t _ => flushed_eq m c t) cover

open Cert.Reference9Ideal.Read in
/-- The reference's value is the same product. -/
theorem ref (x : FVec Ideal S4096x1024 .bf16) (w : FVec Ideal S4096x1280 .bf16) : val_main_v6 (F := Ideal) x w = Mlp.tn x w := by
  funext i
  unfold Mlp.tn
  pointwise [val_main_v6, val_main_v5, val_main_v4, val_main_v3, val_main_v2, val_main_v1, val_main_v0, val_main_cst]
  exact Finset.sum_congr rfl fun k _ => mul_comm _ _

end Cert.Kernel9Ideal.DwQkv

end
-- ==== Proof.Mlp.AttnDout.lean ====
/- The gradient of the attention output. What the pipelined product leaves in its result array is what the reference computes. -/
module

public import proofs.«01_k».proof.Proof.Mlp.Base
public import proofs.«01_k».proof.Proof.Gen.Kernel10Ideal.Value
public import proofs.«01_k».proof.Proof.Gen.Reference10Ideal.Read

@[expose] public section

noncomputable section

namespace Cert.Kernel10Ideal.AttnDout

open Cert.Kernel10Ideal Cert.Kernel10Ideal.Gen Idealize.ShloMosaic Idealize.ShloMosaic.TcCoe Idealize.SL.Sem
open Idealize.ShloMosaic.Pipeline (Dat)

/-- One block's result at an index. -/
theorem pay_apply (x : FVec Ideal S2048x1024 .f32) (w : FVec Ideal S512x1024 .bf16) (y : S2048x512.Idx) :
    (k0_pay1 (F := Ideal) x w y : EReal) = Mlp.nt x w y := by
  unfold Mlp.nt
  pointwise [k0_pay1]

variable (m : (ℓ : Loc nD τ sig) → Buf (Elt Ideal) ℓ) (c : Dev nD)

/-- Where each operand's block stands against the result's. -/
theorem idx_facts : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, _)

theorem flushed_eq (t : Fin cfg0.N) :
    (dats m 0 c).flushed 2 t = (win0_2.blk t).view.read (Elt Ideal)
      (Mlp.nt (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  exact (pay_apply _ _ _).trans (Mlp.nt_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_2.rect t).emb) ⟨fun z => win0_2.rect_emb_val t z 0, fun z => win0_2.rect_emb_val t z 1⟩ e0 e1 e2 e3 y)

theorem cover (i : S4096x1024.Idx) : ∃ t : Fin cfg0.N, (cfg0.win 2).flush t = true ∧ i ∈ ((cfg0.win 2).blk t).view.set := by
  have key : ∀ (a : Fin 2) (b : Fin 2), ∃ t : Fin grid0.N, win0_2.index t 0 = a.val ∧ win0_2.index t 1 = b.val := by decide +kernel
  have h0 : (i 0).val < 4096 := (i 0).isLt
  have h1 : (i 1).val < 1024 := (i 1).isLt
  obtain ⟨t, ha, hb⟩ := key ⟨(i 0).val / 2048, by omega⟩ ⟨(i 1).val / 512, by omega⟩
  refine ⟨t, flush0_2 t, ?_⟩
  show i ∈ ((View.whole main_v0).slice (win0_2.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 2 cfg0.N = Mlp.nt (m ((c : Thread nD τ).loc main_arg0)) (m ((c : Thread nD τ).loc main_arg1)) :=
  (dats m 0 c).arrAt_eq_of_cover 2 _ (fun t _ => flushed_eq m c t) cover

open Cert.Reference10Ideal.Read in
/-- The reference's value is the same product. -/
theorem ref (x : FVec Ideal S4096x1024 .f32) (w : FVec Ideal S1024x1024 .bf16) : val_main_v4 (F := Ideal) x w = Mlp.nt x w := by
  funext i
  unfold Mlp.nt
  pointwise [val_main_v4, val_main_v3, val_main_v2, val_main_v1, val_main_v0, val_main_cst]

end Cert.Kernel10Ideal.AttnDout

end
-- ==== Proof.Mlp.DwO.lean ====
/- The gradient of the second layer by its output weight. What the pipelined product leaves in its result array is what the reference computes. -/
module

public import proofs.«01_k».proof.Proof.Mlp.Base
public import proofs.«01_k».proof.Proof.Gen.Kernel11Ideal.Value
public import proofs.«01_k».proof.Proof.Gen.Reference11Ideal.Read

@[expose] public section

noncomputable section

namespace Cert.Kernel11Ideal.DwO

open Cert.Kernel11Ideal Cert.Kernel11Ideal.Gen Idealize.ShloMosaic Idealize.ShloMosaic.TcCoe Idealize.SL.Sem
open Idealize.ShloMosaic.Pipeline (Dat)

/-- One block's result at an index. -/
theorem pay_apply (x : FVec Ideal S4096x1024 .bf16) (w : FVec Ideal S4096x512 .f32) (y : S1024x512.Idx) :
    (k0_pay1 (F := Ideal) x w y : EReal) = Mlp.tn x w y := by
  unfold Mlp.tn
  pointwise [k0_pay1]

variable (m : (ℓ : Loc nD τ sig) → Buf (Elt Ideal) ℓ) (c : Dev nD)

/-- Where each operand's block stands against the result's. -/
theorem idx_facts : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, _)

theorem flushed_eq (t : Fin cfg0.N) :
    (dats m 0 c).flushed 2 t = (win0_2.blk t).view.read (Elt Ideal)
      (Mlp.tn (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  exact (pay_apply _ _ _).trans (Mlp.tn_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_2.rect t).emb) ⟨fun z => win0_2.rect_emb_val t z 0, fun z => win0_2.rect_emb_val t z 1⟩ e0 e1 e2 e3 y)

theorem cover (i : S1024x1024.Idx) : ∃ t : Fin cfg0.N, (cfg0.win 2).flush t = true ∧ i ∈ ((cfg0.win 2).blk t).view.set := by
  have key : ∀ (a : Fin 1) (b : Fin 2), ∃ t : Fin grid0.N, win0_2.index t 0 = a.val ∧ win0_2.index t 1 = b.val := by decide +kernel
  have h0 : (i 0).val < 1024 := (i 0).isLt
  have h1 : (i 1).val < 1024 := (i 1).isLt
  obtain ⟨t, ha, hb⟩ := key ⟨(i 0).val / 1024, by omega⟩ ⟨(i 1).val / 512, by omega⟩
  refine ⟨t, flush0_2 t, ?_⟩
  show i ∈ ((View.whole main_v0).slice (win0_2.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 2 cfg0.N = Mlp.tn (m ((c : Thread nD τ).loc main_arg0)) (m ((c : Thread nD τ).loc main_arg1)) :=
  (dats m 0 c).arrAt_eq_of_cover 2 _ (fun t _ => flushed_eq m c t) cover

open Cert.Reference11Ideal.Read in
/-- The reference's value is the same product. -/
theorem ref (x : FVec Ideal S4096x1024 .bf16) (w : FVec Ideal S4096x1024 .f32) : val_main_v5 (F := Ideal) x w = Mlp.tn x w := by
  funext i
  unfold Mlp.tn
  pointwise [val_main_v5, val_main_v4, val_main_v3, val_main_v2, val_main_v1, val_main_v0, val_main_cst]
  exact Finset.sum_congr rfl fun k _ => mul_comm _ _

end Cert.Kernel11Ideal.DwO

end
-- ==== Proof.Mlp.DwOut.lean ====
/- The gradient of the first layer by its output weight. What the pipelined product leaves in its result array is what the reference computes. -/
module

public import proofs.«01_k».proof.Proof.Mlp.Base
public import proofs.«01_k».proof.Proof.Gen.Kernel12Ideal.Value
public import proofs.«01_k».proof.Proof.Gen.Reference12Ideal.Read

@[expose] public section

noncomputable section

namespace Cert.Kernel12Ideal.DwOut

open Cert.Kernel12Ideal Cert.Kernel12Ideal.Gen Idealize.ShloMosaic Idealize.ShloMosaic.TcCoe Idealize.SL.Sem
open Idealize.ShloMosaic.Pipeline (Dat)

/-- One block's result at an index. -/
theorem pay_apply (x : FVec Ideal S4096x1024 .bf16) (w : FVec Ideal S4096x512 .f32) (y : S1024x512.Idx) :
    (k0_pay1 (F := Ideal) x w y : EReal) = Mlp.tn x w y := by
  unfold Mlp.tn
  pointwise [k0_pay1]

variable (m : (ℓ : Loc nD τ sig) → Buf (Elt Ideal) ℓ) (c : Dev nD)

/-- Where each operand's block stands against the result's. -/
theorem idx_facts : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, _)

theorem flushed_eq (t : Fin cfg0.N) :
    (dats m 0 c).flushed 2 t = (win0_2.blk t).view.read (Elt Ideal)
      (Mlp.tn (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  exact (pay_apply _ _ _).trans (Mlp.tn_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_2.rect t).emb) ⟨fun z => win0_2.rect_emb_val t z 0, fun z => win0_2.rect_emb_val t z 1⟩ e0 e1 e2 e3 y)

theorem cover (i : S2048x1024.Idx) : ∃ t : Fin cfg0.N, (cfg0.win 2).flush t = true ∧ i ∈ ((cfg0.win 2).blk t).view.set := by
  have key : ∀ (a : Fin 2) (b : Fin 2), ∃ t : Fin grid0.N, win0_2.index t 0 = a.val ∧ win0_2.index t 1 = b.val := by decide +kernel
  have h0 : (i 0).val < 2048 := (i 0).isLt
  have h1 : (i 1).val < 1024 := (i 1).isLt
  obtain ⟨t, ha, hb⟩ := key ⟨(i 0).val / 1024, by omega⟩ ⟨(i 1).val / 512, by omega⟩
  refine ⟨t, flush0_2 t, ?_⟩
  show i ∈ ((View.whole main_v0).slice (win0_2.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 2 cfg0.N = Mlp.tn (m ((c : Thread nD τ).loc main_arg0)) (m ((c : Thread nD τ).loc main_arg1)) :=
  (dats m 0 c).arrAt_eq_of_cover 2 _ (fun t _ => flushed_eq m c t) cover

open Cert.Reference12Ideal.Read in
/-- The reference's value is the same product. -/
theorem ref (x : FVec Ideal S4096x2048 .bf16) (w : FVec Ideal S4096x1024 .f32) : val_main_v5 (F := Ideal) x w = Mlp.tn x w := by
  funext i
  unfold Mlp.tn
  pointwise [val_main_v5, val_main_v4, val_main_v3, val_main_v2, val_main_v1, val_main_v0, val_main_cst]
  exact Finset.sum_congr rfl fun k _ => mul_comm _ _

end Cert.Kernel12Ideal.DwOut

end
-- ==== Proof.Mlp.MixerDout.lean ====
/- The gradient of the first layer by the input of its output product. What the pipelined product leaves in its result array is what the reference computes. -/
module

public import proofs.«01_k».proof.Proof.Mlp.Base
public import proofs.«01_k».proof.Proof.Gen.Kernel13Ideal.Value
public import proofs.«01_k».proof.Proof.Gen.Reference13Ideal.Read

@[expose] public section

noncomputable section

namespace Cert.Kernel13Ideal.MixerDout

open Cert.Kernel13Ideal Cert.Kernel13Ideal.Gen Idealize.ShloMosaic Idealize.ShloMosaic.TcCoe Idealize.SL.Sem
open Idealize.ShloMosaic.Pipeline (Dat)

/-- One block's result at an index. -/
theorem pay_apply (x : FVec Ideal S2048x1024 .f32) (w : FVec Ideal S1024x1024 .bf16) (y : S2048x1024.Idx) :
    (k0_pay1 (F := Ideal) x w y : EReal) = Mlp.nt x w y := by
  unfold Mlp.nt
  pointwise [k0_pay1]

variable (m : (ℓ : Loc nD τ sig) → Buf (Elt Ideal) ℓ) (c : Dev nD)

/-- Where each operand's block stands against the result's. -/
theorem idx_facts : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, _)

theorem flushed_eq (t : Fin cfg0.N) :
    (dats m 0 c).flushed 2 t = (win0_2.blk t).view.read (Elt Ideal)
      (Mlp.nt (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨e0, e1, e2, e3⟩ := idx_facts t
  funext y
  exact (pay_apply _ _ _).trans (Mlp.nt_blk (win0_0.rect t).emb (win0_1.rect t).emb (fun _ => rfl) (fun _ => rfl)
    ⟨fun z => win0_0.rect_emb_val t z 0, fun z => win0_0.rect_emb_val t z 1⟩ ⟨fun z => win0_1.rect_emb_val t z 0, fun z => win0_1.rect_emb_val t z 1⟩
    (eo := (win0_2.rect t).emb) ⟨fun z => win0_2.rect_emb_val t z 0, fun z => win0_2.rect_emb_val t z 1⟩ e0 e1 e2 e3 y)

theorem cover (i : S4096x2048.Idx) : ∃ t : Fin cfg0.N, (cfg0.win 2).flush t = true ∧ i ∈ ((cfg0.win 2).blk t).view.set := by
  have key : ∀ (a : Fin 2) (b : Fin 2), ∃ t : Fin grid0.N, win0_2.index t 0 = a.val ∧ win0_2.index t 1 = b.val := by decide +kernel
  have h0 : (i 0).val < 4096 := (i 0).isLt
  have h1 : (i 1).val < 2048 := (i 1).isLt
  obtain ⟨t, ha, hb⟩ := key ⟨(i 0).val / 2048, by omega⟩ ⟨(i 1).val / 1024, by omega⟩
  refine ⟨t, flush0_2 t, ?_⟩
  show i ∈ ((View.whole main_v0).slice (win0_2.rect t)).set
  rw [View.set_slice_whole, Rect.mem_set_unit]
  exact fun a => match a with | ⟨0, _⟩ => Mlp.tile_mem ha (Nat.succ_pos _) | ⟨1, _⟩ => Mlp.tile_mem hb (Nat.succ_pos _)

/-- The result array after the run. -/
theorem final : (dats m 0 c).arrAt 2 cfg0.N = Mlp.nt (m ((c : Thread nD τ).loc main_arg0)) (m ((c : Thread nD τ).loc main_arg1)) :=
  (dats m 0 c).arrAt_eq_of_cover 2 _ (fun t _ => flushed_eq m c t) cover

open Cert.Reference13Ideal.Read in
/-- The reference's value is the same product. -/
theorem ref (x : FVec Ideal S4096x1024 .f32) (w : FVec Ideal S2048x1024 .bf16) : val_main_v3 (F := Ideal) x w = Mlp.nt x w := by
  funext i
  unfold Mlp.nt
  pointwise [val_main_v3, val_main_v2, val_main_v1, val_main_v0, val_main_cst]

end Cert.Kernel13Ideal.MixerDout

end
-- ==== Proof.Mlp.Rows.lean ====
/- What the value proofs of the row kernels share. A row kernel takes a block of whole rows at each grid point: `Rows p xb x`
   says that `xb` is the `p`-th block of rows of `x`. Every operation that acts on the rows one by one keeps this, and a sum
   over all rows is the sum over the blocks, added in their order. -/
module

public import proofs.«01_k».proof.Proof.Mlp.Base

@[expose] public section

noncomputable section

namespace Cert.Mlp

open Idealize.ShloMosaic

variable {M K N m : ℕ}

/-! ## The operations -/

/-- The squared positive part. -/
def relu2 (a : Arr M K) : Arr M K := fun i => max (a i) 0 * max (a i) 0

/-- The sum of two arrays. -/
def plus (x y : Arr M N) : Arr M N := fun i => x i + y i

/-- A row added to every row. -/
def plusRow (x : Arr M N) (b : Arr 1 N) : Arr M N := fun i => x i + b (ix2 0 (i 1))

/-- The mean of a row's squares over 1024 columns, and the small constant. -/
def ms (h : Arr M N) (r : Fin M) : EReal :=
  Ideal.div (∑ k, h (ix2 r k) * h (ix2 r k)) (Ideal.ofBits .f32 0x44800000#32) + Ideal.ofBits .f32 0x3727C5AC#32

/-- Every row over its root mean square. -/
def unitRows (h : Arr M N) : Arr M N := fun i => h i * Ideal.rsqrt (ms h (i 0))

/-- The scaled norm of every row. -/
def norm (h : Arr M N) (g : Arr 1 N) : Arr M N := fun i => unitRows h i * g (ix2 0 (i 1))

/-- What reaches a row through its mean square: half of its gradient, for each of the two factors of the square. -/
def halfMs (h : Arr M N) (g : Arr 1 N) (d : Arr M N) (r : Fin M) : EReal :=
  Ideal.div ((∑ k, h (ix2 r k) * (d (ix2 r k) * g (ix2 0 k))) *
    (Ideal.ofBits .f32 0xBF000000#32 * Ideal.div (Ideal.rsqrt (ms h r)) (ms h r))) (Ideal.ofBits .f32 0x44800000#32)

/-- The gradient of the norm by its input. -/
def normDx (h : Arr M N) (g : Arr 1 N) (d : Arr M N) : Arr M N := fun i =>
  d i * g (ix2 0 (i 1)) * Ideal.rsqrt (ms h (i 0)) + h i * halfMs h g d (i 0) + halfMs h g d (i 0) * h i

/-- What every row gives to the gradient of the norm by its scale. -/
def normDg (h : Arr M N) (d : Arr M N) : Arr M N := fun i => unitRows h i * d i

/-- The sum of the rows. -/
def colsum (x : Arr M N) : Arr 1 N := fun i => ∑ r, x (ix2 r (i 1))

/-! ## Blocks of rows -/

/-- `xb` is block `p` of the rows of `x`. -/
def Rows (p : ℕ) (xb : Arr m N) (x : Arr M N) : Prop :=
  ∀ (r : Fin m) (R : Fin M) (k : Fin N), R.val = p * m + r.val → xb (ix2 r k) = x (ix2 R k)

section
variable {p : ℕ}

/-- A block of rows read through its indices. -/
theorem Rows.of_at {q : ℕ} {xb : Arr m N} {x : Arr M N} {e : Ix m N → Ix M N} (hx : ∀ z, xb z = x (e z)) {p' : ℕ} (he : At p' q e) (hp : p' = p) (hq : q = 0) :
    Rows p xb x := fun r R k h => by
  subst hp hq
  exact (hx _).trans (congrArg x (he.eq _ h (tile_zero _ _)))

/-- A block of rows at an index of the block. -/
theorem Rows.apply {xb : Arr m N} {x : Arr M N} (h : Rows p xb x) {q : ℕ} {e : Ix m N → Ix M N} {p' : ℕ} (he : At p' q e) (hp : p' = p) (hq : q = 0) (y : Ix m N) :
    xb y = x (e y) := by
  subst hp hq
  have h1 : e y = ix2 (e y 0) (y 1) := he.eq _ (he.row y) (tile_zero _ _)
  have h2 : y = ix2 (y 0) (y 1) := Shape.idx_ext₂ rfl rfl
  have h3 := h (y 0) (e y 0) (y 1) (he.row y)
  exact (congrArg xb h2).trans (h3.trans (congrArg x h1.symm))

/-- A whole operand. -/
theorem whole {q r : ℕ} {wb w : Arr M N} {e : Ix M N → Ix M N} (hw : ∀ z, wb z = w (e z)) (he : At q r e) (hq : q = 0) (hr : r = 0) : wb = w := funext fun z => by
  subst hq hr
  exact (hw z).trans (congrArg w (he.eq z (tile_zero _ _) (tile_zero _ _)))

theorem Rows.relu2 {ab : Arr m K} {a : Arr M K} (h : Rows p ab a) : Rows p (relu2 ab) (relu2 a) := fun r R k e => by
  unfold Mlp.relu2; rw [h r R k e]

theorem Rows.plus {xb yb : Arr m N} {x y : Arr M N} (hx : Rows p xb x) (hy : Rows p yb y) : Rows p (plus xb yb) (plus x y) := fun r R k e => by
  unfold Mlp.plus; rw [hx r R k e, hy r R k e]

theorem Rows.plusRow {xb : Arr m N} {x : Arr M N} (hx : Rows p xb x) (b : Arr 1 N) : Rows p (plusRow xb b) (plusRow x b) := fun r R k e => by
  unfold Mlp.plusRow; rw [hx r R k e]; rfl

theorem Rows.nn {xb : Arr m K} {x : Arr M K} (hx : Rows p xb x) (w : Arr K N) : Rows p (nn xb w) (nn x w) := fun _ R _ e =>
  Finset.sum_congr rfl fun k _ => congrArg (· * _) (hx _ R k e)

theorem Rows.nt {xb : Arr m K} {x : Arr M K} (hx : Rows p xb x) (w : Arr N K) : Rows p (nt xb w) (nt x w) := fun _ R _ e =>
  Finset.sum_congr rfl fun k _ => congrArg (· * _) (hx _ R k e)

theorem Rows.ms {hb : Arr m N} {h : Arr M N} (hh : Rows p hb h) {r : Fin m} {R : Fin M} (e : R.val = p * m + r.val) : ms hb r = ms h R := by
  unfold Mlp.ms
  simp only [fun k => hh r R k e]

theorem Rows.unitRows {hb : Arr m N} {h : Arr M N} (hh : Rows p hb h) : Rows p (unitRows hb) (unitRows h) := fun r R k e =>
  congrArg₂ (fun a b => a * Ideal.rsqrt b) (hh r R k e) (hh.ms e)

theorem Rows.norm {hb : Arr m N} {h : Arr M N} (hh : Rows p hb h) (g : Arr 1 N) : Rows p (norm hb g) (norm h g) := fun r R k e =>
  congrArg (· * g (ix2 0 k)) (hh.unitRows r R k e)

theorem Rows.halfMs {hb db : Arr m N} {h d : Arr M N} (hh : Rows p hb h) (hd : Rows p db d) (g : Arr 1 N) {r : Fin m} {R : Fin M} (e : R.val = p * m + r.val) :
    halfMs hb g db r = halfMs h g d R := by
  unfold Mlp.halfMs
  simp only [fun k => hh r R k e, fun k => hd r R k e, hh.ms e]

theorem Rows.normDx {hb db : Arr m N} {h d : Arr M N} (hh : Rows p hb h) (hd : Rows p db d) (g : Arr 1 N) : Rows p (normDx hb g db) (normDx h g d) := fun r R k e => by
  show db (ix2 r k) * g (ix2 0 k) * Ideal.rsqrt (Mlp.ms hb r) + hb (ix2 r k) * Mlp.halfMs hb g db r + Mlp.halfMs hb g db r * hb (ix2 r k) = _
  rw [hh r R k e, hd r R k e, hh.ms e, hh.halfMs hd g e]
  rfl

theorem Rows.normDg {hb db : Arr m N} {h d : Arr M N} (hh : Rows p hb h) (hd : Rows p db d) : Rows p (normDg hb db) (normDg h d) := fun r R k e =>
  congrArg₂ (· * ·) (hh.unitRows r R k e) (hd r R k e)

end

/-! ## Sums over all rows -/

/-- A column of `x` by its row's number, zero past the end. -/
def colAt (x : Arr M N) (k : Fin N) (n : ℕ) : EReal := if h : n < M then x (ix2 ⟨n, h⟩ k) else 0

theorem colAt_val (x : Arr M N) (k : Fin N) (r : Fin M) : colAt x k r.val = x (ix2 r k) := by
  unfold colAt
  rw [dif_pos r.isLt]

theorem colsum_eq (x : Arr M N) (i : Ix 1 N) : colsum x i = ∑ n ∈ Finset.range M, colAt x (i 1) n := by
  rw [← Fin.sum_univ_eq_sum_range]
  exact Finset.sum_congr rfl fun r _ => (colAt_val x (i 1) r).symm

/-- One block's sum is its stretch of the column. -/
theorem Rows.colsum_eq {p : ℕ} {xb : Arr m N} {x : Arr M N} (h : Rows p xb x) (hp : p * m + m ≤ M) (i : Ix 1 N) :
    colsum xb i = ∑ n ∈ Finset.range m, colAt x (i 1) (p * m + n) := by
  rw [← Fin.sum_univ_eq_sum_range (fun n => colAt x (i 1) (p * m + n))]
  exact Finset.sum_congr rfl fun r _ => (h r ⟨p * m + r.val, by omega⟩ (i 1) rfl).trans (colAt_val x (i 1) _).symm

/-- A running sum over the blocks of rows, from the first block on, is the sum of all rows once the last block is in. -/
theorem colsum_of_blocks {P : ℕ} {x : Arr M N} (hM : P * m = M) {acc : (n : ℕ) → n < P → Arr 1 N} {xb : (n : ℕ) → n < P → Arr m N}
    (hr : ∀ n h, Rows n (xb n h) x) (h0 : ∀ h, acc 0 h = colsum (xb 0 h))
    (hs : ∀ n h, acc (n + 1) h = plus (acc n (Nat.lt_of_succ_lt h)) (colsum (xb (n + 1) h))) (n : ℕ) (h : n < P) (hn : n + 1 = P) :
    acc n h = colsum x := by
  have bound : ∀ n, n < P → n * m + m ≤ M := fun n h => by
    rw [← hM, ← Nat.succ_mul]; exact Nat.mul_le_mul_right m h
  have key : ∀ n (h : n < P) i, acc n h i = ∑ k ∈ Finset.range (n * m + m), colAt x (i 1) k := by
    intro n
    induction n with
    | zero =>
      intro h i
      rw [h0 h, (hr 0 h).colsum_eq (bound 0 h), Nat.zero_mul, Nat.zero_add]
      simp only [Nat.zero_add]
    | succ n ih =>
      intro h i
      rw [hs n h]
      show acc n _ i + colsum (xb (n + 1) h) i = _
      rw [ih _ i, (hr (n + 1) h).colsum_eq (bound _ h), Finset.sum_range_add _ ((n + 1) * m), Nat.succ_mul]
  funext i
  have e : n * m + m = M := by rw [← hM, ← hn, Nat.succ_mul]
  rw [key n h i, colsum_eq, e]

end Cert.Mlp

end
-- ==== Proof.Mlp.Slabs.lean ====
/- A weight held as four square slabs, read as one wide matrix: its columns lie side by side. -/
module

public import proofs.«01_k».proof.Proof.Mlp.Base

@[expose] public section

noncomputable section

namespace Cert.Mlp

open Idealize.ShloMosaic

/-- Four slabs of 1024 rows and 1024 columns. -/
abbrev Slabs : Type := (⟨3, ![4, 1024, 1024]⟩ : Shape).Idx → EReal

/-- One slab. -/
abbrev Slab : Type := (⟨3, ![1, 1024, 1024]⟩ : Shape).Idx → EReal

/-- The slab with number `j`. -/
def slab (w : Slabs) (j : Fin 4) : Slab := fun z => w (ix3 j (z 1) (z 2))

/-- The slabs side by side. -/
def wide (w : Slabs) : Arr 1024 4096 := fun i =>
  w (ix3 ⟨(i 1).val / 1024, by have : (i 1).val < 4096 := (i 1).isLt; omega⟩ (i 0) ⟨(i 1).val % 1024, Nat.mod_lt _ (by decide)⟩)

theorem wide_at (w : Slabs) (r : Fin 1024) (c : Fin 4096) (j : Fin 4) (k : Fin 1024) (h : c.val = j.val * 1024 + k.val) : wide w (ix2 r c) = w (ix3 j r k) :=
  congrArg w (idx_ext3 (show c.val / 1024 = j.val by omega) rfl (show c.val % 1024 = k.val by omega))

/-- A sum over 4096 columns, in four stretches of 1024. -/
theorem sum_four (f : Fin 4096 → EReal) : ∑ k, f k = (∑ k : Fin 1024, f ⟨k.val, by omega⟩) + (∑ k : Fin 1024, f ⟨1024 + k.val, by omega⟩) +
    (∑ k : Fin 1024, f ⟨2048 + k.val, by omega⟩) + (∑ k : Fin 1024, f ⟨3072 + k.val, by omega⟩) := by
  refine (Fin.sum_univ_add (a := 3072) (b := 1024) f).trans (congrArg₂ (· + ·) ?_ rfl)
  refine (Fin.sum_univ_add (a := 2048) (b := 1024) _).trans (congrArg₂ (· + ·) ?_ rfl)
  exact Fin.sum_univ_add (a := 1024) (b := 1024) _

/-- The product with the wide matrix is the sum of the products with its slabs. -/
theorem nt_wide {M : ℕ} (x : Arr M 4096) (w : Slabs) (y : Ix M 1024) : nt x (wide w) y =
    (∑ k : Fin 1024, x (ix2 (y 0) ⟨k.val, by omega⟩) * slab w 0 (ix3 0 (y 1) k)) + (∑ k : Fin 1024, x (ix2 (y 0) ⟨1024 + k.val, by omega⟩) * slab w 1 (ix3 0 (y 1) k)) +
    (∑ k : Fin 1024, x (ix2 (y 0) ⟨2048 + k.val, by omega⟩) * slab w 2 (ix3 0 (y 1) k)) + (∑ k : Fin 1024, x (ix2 (y 0) ⟨3072 + k.val, by omega⟩) * slab w 3 (ix3 0 (y 1) k)) := by
  have term : ∀ (j : Fin 4) (c : Fin 4096) (k : Fin 1024), c.val = j.val * 1024 + k.val →
      x (ix2 (y 0) c) * wide w (ix2 (y 1) c) = x (ix2 (y 0) c) * slab w j (ix3 0 (y 1) k) := fun j c k h => congrArg (_ * ·) (wide_at w (y 1) c j k h)
  unfold nt
  rw [sum_four]
  exact congrArg₂ (· + ·) (congrArg₂ (· + ·) (congrArg₂ (· + ·)
    (Finset.sum_congr rfl fun k _ => term 0 _ k (by show k.val = 0 * 1024 + k.val; omega))
    (Finset.sum_congr rfl fun k _ => term 1 _ k (by show 1024 + k.val = 1 * 1024 + k.val; omega)))
    (Finset.sum_congr rfl fun k _ => term 2 _ k (by show 2048 + k.val = 2 * 1024 + k.val; omega)))
    (Finset.sum_congr rfl fun k _ => term 3 _ k (by show 3072 + k.val = 3 * 1024 + k.val; omega))

end Cert.Mlp

end
-- ==== Proof.Mlp.Dy1.lean ====
/- The gradient of the second layer's block by its input: the product with the slabs of the weight, back through the norm, the gradient of the norm by its scale, and the sum of the rows. -/
module

public import proofs.«01_k».proof.Proof.Mlp.Rows
public import proofs.«01_k».proof.Proof.Mlp.Slabs
public import proofs.«01_k».proof.Proof.Gen.Kernel14Ideal.Value
public import proofs.«01_k».proof.Proof.Gen.Reference14Ideal.Read

@[expose] public section

noncomputable section

namespace Cert.Kernel14Ideal.Dy1

open Cert.Kernel14Ideal Cert.Kernel14Ideal.Gen Idealize.ShloMosaic Idealize.ShloMosaic.TcCoe Idealize.SL.Sem
open Idealize.ShloMosaic.Pipeline (Dat)

/-- The gradient that reaches the norm. -/
def D {M : ℕ} (x : Mlp.Arr M 4096) (w : Mlp.Slabs) : Mlp.Arr M 1024 := Mlp.nt x (Mlp.wide w)

theorem rows_D {M m p : ℕ} {xb : Mlp.Arr m 4096} {x : Mlp.Arr M 4096} (h : Mlp.Rows p xb x) (w : Mlp.Slabs) : Mlp.Rows p (D xb w) (D x w) := h.nt _

/-- The gradient of the block's input: the stream's own, and what comes back through the norm. -/
def Dx {M : ℕ} (x : Mlp.Arr M 4096) (w : Mlp.Slabs) (h : Mlp.Arr M 1024) (g : Mlp.Arr 1 1024) (dh : Mlp.Arr M 1024) : Mlp.Arr M 1024 :=
  Mlp.plus dh (Mlp.normDx h g (D x w))

theorem rows_Dx {M m p : ℕ} {xb : Mlp.Arr m 4096} {x : Mlp.Arr M 4096} (hx : Mlp.Rows p xb x) (w : Mlp.Slabs) {hb : Mlp.Arr m 1024} {h : Mlp.Arr M 1024} (hh : Mlp.Rows p hb h)
    (g : Mlp.Arr 1 1024) {db : Mlp.Arr m 1024} {d : Mlp.Arr M 1024} (hd : Mlp.Rows p db d) : Mlp.Rows p (Dx xb w hb g db) (Dx x w h g d) :=
  hd.plus (hh.normDx (rows_D hx w) g)

/-- What every row gives to the gradient of the norm's scale. -/
def Dn {M : ℕ} (x : Mlp.Arr M 4096) (w : Mlp.Slabs) (h : Mlp.Arr M 1024) : Mlp.Arr M 1024 := Mlp.normDg h (D x w)

/-! ## One block -/

theorem pay3_apply (x0 : FVec Ideal S512x4096 .bf16) (s0 s1 s2 s3 : FVec Ideal S1x1024x1024 .bf16) (y : S512x1024.Idx) : (k0_pay3 (F := Ideal) x0 s0 s1 s2 s3 y : EReal) =
    (∑ k : Fin 1024, x0 (ix2 (y 0) ⟨k.val, by omega⟩) * s0 (ix3 0 (y 1) k)) + (∑ k : Fin 1024, x0 (ix2 (y 0) ⟨1024 + k.val, by omega⟩) * s1 (ix3 0 (y 1) k)) +
    (∑ k : Fin 1024, x0 (ix2 (y 0) ⟨2048 + k.val, by omega⟩) * s2 (ix3 0 (y 1) k)) + (∑ k : Fin 1024, x0 (ix2 (y 0) ⟨3072 + k.val, by omega⟩) * s3 (ix3 0 (y 1) k)) := by
  pointwise [k0_pay3]

theorem pay3_eq (x0 : FVec Ideal S512x4096 .bf16) (x1 : FVec Ideal S4x1024x1024 .bf16) :
    k0_pay3 (F := Ideal) x0 (Mlp.slab x1 0) (Mlp.slab x1 1) (Mlp.slab x1 2) (Mlp.slab x1 3) = D x0 x1 := by
  funext y
  exact (pay3_apply _ _ _ _ _ y).trans (Mlp.nt_wide x0 x1 y).symm

/-- A load of one slab. -/
theorem ld_slab (x1 : FVec Ideal S4x1024x1024 .bf16) (j : Fin 4) {n : ℕ} (h : n = j.val) (inb : ∀ a, (![n, 0, 0] : Fin 3 → ℕ) a + (![1, 1024, 1024] : Fin 3 → ℕ) a ≤ S4x1024x1024.size a) :
    View.ld (Val := Elt Ideal) (e' := .bf16) x1 (Rect.unit (s := S4x1024x1024) ![n, 0, 0] ![1, 1024, 1024] inb) = Mlp.slab x1 j := by
  subst h
  funext z
  have h0 : (z 0).val < 1 := (z 0).isLt
  have e1 : (ix3 j (z 1) (z 2) : S4x1024x1024.Idx) = (Rect.unit (s := S4x1024x1024) ![j.val, 0, 0] ![1, 1024, 1024] inb).emb z := by
    refine Mlp.idx_ext3 ?_ ?_ ?_
    · show j.val = j.val + 1 * (z 0).val
      omega
    · show (z 1).val = 0 + 1 * (z 1).val
      omega
    · show (z 2).val = 0 + 1 * (z 2).val
      omega
  exact congrArg x1 e1.symm

theorem pay6_apply (x2 : FVec Ideal S512x1024 .f32) (y : S512x1.Idx) : (k0_pay6 (F := Ideal) (k0_pay4 x2) k0_pay5 y : EReal) = Mlp.ms x2 (y 0) := by
  unfold Mlp.ms
  pointwise [k0_pay6, k0_pay5, k0_pay4]

section
variable (d x2 : FVec Ideal S512x1024 .f32) (x3 : FVec Ideal S1x1024 .f32) (x4 : FVec Ideal S512x1024 .f32)

theorem pay8_eq : (k0_pay8 (F := Ideal) d x2 x3 x4 (k0_pay4 x2) k0_pay5 : Mlp.Arr 512 1024) = Mlp.plus x4 (Mlp.normDx x2 x3 d) := by
  funext y
  unfold Mlp.plus Mlp.normDx Mlp.halfMs
  pointwise [k0_pay8, k0_pay7]
  simp only [Finset.univ_unique, Finset.sum_singleton, pay6_apply]
  rfl

theorem pay9_eq : (k0_pay9 (F := Ideal) d x2 x3 x4 (k0_pay4 x2) k0_pay5 : Mlp.Arr 1 1024) = Mlp.colsum (Mlp.plus x4 (Mlp.normDx x2 x3 d)) := by
  rw [← pay8_eq]
  funext y
  unfold Mlp.colsum
  pointwise [k0_pay9]

theorem pay11_apply (old : FVec Ideal S1x1024 .f32) (y : S1x1024.Idx) :
    (k0_pay11 (F := Ideal) d x2 (k0_pay4 x2) k0_pay5 old y : EReal) = old y + Mlp.colsum (Mlp.normDg x2 d) y := by
  refine Eq.trans (b := old y + ∑ r : Fin 512, (x2 (ix2 r (y 1)) * Ideal.rsqrt (k0_pay6 (F := Ideal) (k0_pay4 x2) k0_pay5 (ix2 r 0)) * d (ix2 r (y 1)) : EReal)) ?_ ?_
  · pointwise [k0_pay11, k0_pay7]
  · simp only [pay6_apply]
    rfl

end

theorem pay11_eq (d x2 : FVec Ideal S512x1024 .f32) (old : FVec Ideal S1x1024 .f32) :
    (k0_pay11 (F := Ideal) d x2 (k0_pay4 x2) k0_pay5 old : Mlp.Arr 1 1024) = Mlp.plus old (Mlp.colsum (Mlp.normDg x2 d)) := funext fun y => pay11_apply d x2 old y

theorem pay11_zero (d x2 : FVec Ideal S512x1024 .f32) :
    (k0_pay11 (F := Ideal) d x2 (k0_pay4 x2) k0_pay5 (k0_pay10 (F := Ideal)) : Mlp.Arr 1 1024) = Mlp.colsum (Mlp.normDg x2 d) := funext fun y => by
  refine (pay11_apply d x2 _ y).trans ?_
  pointwise [k0_pay10]

theorem pay2_eq (x old : FVec Ideal S1x1024 .f32) : (k0_pay2 (F := Ideal) x old : Mlp.Arr 1 1024) = Mlp.plus old x := by
  funext y
  unfold Mlp.plus
  pointwise [k0_pay2]

theorem pay2_zero (x : FVec Ideal S1x1024 .f32) : (k0_pay2 (F := Ideal) x (k0_pay1 (F := Ideal)) : Mlp.Arr 1 1024) = x := by
  funext y
  pointwise [k0_pay2, k0_pay1]

section
variable (c : Dev nD) (i : grid0.Coords) (a1 : Memref sig .tc .vmem S512x4096 .bf16) (h1 : a1.IsWhole) (a2 : Memref sig .tc .vmem S4x1024x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole) (a8 : Memref sig .tc .vmem S1x1024 .f32) (h8 : a8.IsWhole)
  (x0 : FVec Ideal S512x4096 .bf16) (x1 : FVec Ideal S4x1024x1024 .bf16) (x2 : FVec Ideal S512x1024 .f32) (x3 : FVec Ideal S1x1024 .f32) (x4 : FVec Ideal S512x1024 .f32) (old old' : FVec Ideal S1x1024 .f32)

theorem out_A_5 (hc0 : cond0_0 i) (hc1 : cond0_1 i) : out0_A_5 (F := Ideal) c i a1 h1 a2 h2 a3 h3 a4 h4 a5 h5 a6 h6 a7 h7 a8 h8 hc0 hc1 x0 x1 x2 x3 x4 = k0_pay8 (F := Ideal) (D x0 x1) x2 x3 x4 (k0_pay4 x2) k0_pay5 := by
  unfold out0_A_5
  rw [View.read_writes_eq_canon _ _ _ (cover0_A_5 (F := Ideal) c i a1 h1 a2 h2 a3 h3 a4 h4 a5 h5 a6 h6 a7 h7 a8 h8 hc0 hc1 x0 x1 x2 x3 x4)]
  unfold kernelRun0_A
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S512x1024) Mlp.zero2, View.ld_unit_zero (S := S1x1024) Mlp.zero2, ld_slab x1 0 (n := 0) rfl, ld_slab x1 1 (n := 1) rfl, ld_slab x1 2 (n := 2) rfl, ld_slab x1 3 (n := 3) rfl, pay3_eq]

theorem out_A_6 (hc0 : cond0_0 i) (hc1 : cond0_1 i) : out0_A_6 (F := Ideal) c i a1 h1 a2 h2 a3 h3 a4 h4 a5 h5 a6 h6 a7 h7 a8 h8 hc0 hc1 x0 x1 x2 x3 x4 = k0_pay11 (F := Ideal) (D x0 x1) x2 (k0_pay4 x2) k0_pay5 (k0_pay10 (F := Ideal)) := by
  unfold out0_A_6
  rw [View.read_writes_eq_canon _ _ _ (cover0_A_6 (F := Ideal) c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S1x1024) Mlp.zero2, View.readCov_unit_zero (S := S1x1024) _ Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S512x1024) Mlp.zero2, View.ld_unit_zero (S := S1x1024) Mlp.zero2, ld_slab x1 0 (n := 0) rfl, ld_slab x1 1 (n := 1) rfl, ld_slab x1 2 (n := 2) rfl, ld_slab x1 3 (n := 3) rfl, pay3_eq]

theorem out_A_7 (hc0 : cond0_0 i) (hc1 : cond0_1 i) : out0_A_7 (F := Ideal) c i a1 h1 a2 h2 a3 h3 a4 h4 a5 h5 a6 h6 a7 h7 a8 h8 hc0 hc1 x0 x1 x2 x3 x4 = k0_pay2 (F := Ideal) (k0_pay9 (D x0 x1) x2 x3 x4 (k0_pay4 x2) k0_pay5) (k0_pay1 (F := Ideal)) := by
  unfold out0_A_7
  rw [View.read_writes_eq_canon _ _ _ (cover0_A_7 (F := Ideal) c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S1x1024) Mlp.zero2, View.readCov_unit_zero (S := S1x1024) _ Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S512x1024) Mlp.zero2, View.ld_unit_zero (S := S1x1024) Mlp.zero2, ld_slab x1 0 (n := 0) rfl, ld_slab x1 1 (n := 1) rfl, ld_slab x1 2 (n := 2) rfl, ld_slab x1 3 (n := 3) rfl, pay3_eq]

theorem out_B_5 (hc0 : ¬cond0_0 i) (hc1 : ¬cond0_1 i) : out0_B_5 (F := Ideal) c i a1 h1 a2 h2 a3 h3 a4 h4 a5 h5 a6 h6 a7 h7 a8 h8 hc0 hc1 x0 x1 x2 x3 x4 old old' = k0_pay8 (F := Ideal) (D x0 x1) x2 x3 x4 (k0_pay4 x2) k0_pay5 := by
  unfold out0_B_5
  rw [View.read_writes_eq_canon _ _ _ (cover0_B_5 (F := Ideal) c i a1 h1 a2 h2 a3 h3 a4 h4 a5 h5 a6 h6 a7 h7 a8 h8 hc0 hc1 x0 x1 x2 x3 x4 old old')]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S512x1024) Mlp.zero2, View.ld_unit_zero (S := S1x1024) Mlp.zero2, ld_slab x1 0 (n := 0) rfl, ld_slab x1 1 (n := 1) rfl, ld_slab x1 2 (n := 2) rfl, ld_slab x1 3 (n := 3) rfl, pay3_eq]

theorem out_B_6 (hc0 : ¬cond0_0 i) (hc1 : ¬cond0_1 i) : out0_B_6 (F := Ideal) c i a1 h1 a2 h2 a3 h3 a4 h4 a5 h5 a6 h6 a7 h7 a8 h8 hc0 hc1 x0 x1 x2 x3 x4 old old' = k0_pay11 (F := Ideal) (D x0 x1) x2 (k0_pay4 x2) k0_pay5 old := by
  unfold out0_B_6
  rw [View.read_writes_eq_canon _ _ _ (cover0_B_6 (F := Ideal) c i a1 h1 a2 h2 a3 h3 a4 h4 a5 h5 a6 h6 a7 h7 a8 h8 hc0 hc1 x0 x1 x2 x3 x4 old old')]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S512x1024) Mlp.zero2, View.ld_unit_zero (S := S1x1024) Mlp.zero2, ld_slab x1 0 (n := 0) rfl, ld_slab x1 1 (n := 1) rfl, ld_slab x1 2 (n := 2) rfl, ld_slab x1 3 (n := 3) rfl, pay3_eq]

theorem out_B_7 (hc0 : ¬cond0_0 i) (hc1 : ¬cond0_1 i) : out0_B_7 (F := Ideal) c i a1 h1 a2 h2 a3 h3 a4 h4 a5 h5 a6 h6 a7 h7 a8 h8 hc0 hc1 x0 x1 x2 x3 x4 old old' = k0_pay2 (F := Ideal) (k0_pay9 (D x0 x1) x2 x3 x4 (k0_pay4 x2) k0_pay5) old' := by
  unfold out0_B_7
  rw [View.read_writes_eq_canon _ _ _ (cover0_B_7 (F := Ideal) c i a1 h1 a2 h2 a3 h3 a4 h4 a5 h5 a6 h6 a7 h7 a8 h8 hc0 hc1 x0 x1 x2 x3 x4 old old')]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S512x1024) Mlp.zero2, View.ld_unit_zero (S := S1x1024) Mlp.zero2, ld_slab x1 0 (n := 0) rfl, ld_slab x1 1 (n := 1) rfl, ld_slab x1 2 (n := 2) rfl, ld_slab x1 3 (n := 3) rfl, pay3_eq]

end

/-! ## The blocks of the arrays -/

variable (m : (ℓ : Loc nD τ sig) → Buf (Elt Ideal) ℓ) (c : Dev nD)

/-- Point `t` takes block `t` of the rows; the other operands are whole. -/
theorem idx_facts : ∀ t : Fin cfg0.N, win0_0.index t 0 = t.val ∧ win0_0.index t 1 = 0 ∧
    win0_2.index t 0 = t.val ∧ win0_2.index t 1 = 0 ∧ win0_3.index t 0 = 0 ∧ win0_3.index t 1 = 0 ∧
    win0_4.index t 0 = t.val ∧ win0_4.index t 1 = 0 ∧ win0_5.index t 0 = t.val ∧ win0_5.index t 1 = 0 ∧
    win0_6.index t 0 = 0 ∧ win0_6.index t 1 = 0 ∧ win0_7.index t 0 = 0 ∧ win0_7.index t 1 = 0 :=
  (by decide +kernel : ∀ t : Fin grid0.N, _)

theorem idx_slabs : ∀ t : Fin cfg0.N, win0_1.index t 0 = 0 ∧ win0_1.index t 1 = 0 ∧ win0_1.index t 2 = 0 :=
  (by decide +kernel : ∀ t : Fin grid0.N, _)

theorem slabs_eq (t : Fin cfg0.N) : iblk m c 1 t = m ((c : Thread nD τ).loc main_arg1) := funext fun z => by
  obtain ⟨e0, e1, e2⟩ := idx_slabs t
  exact congrArg (m ((c : Thread nD τ).loc main_arg1)) (Mlp.idx_ext3 (x := (win0_1.rect t).emb z) (win0_1.rect_emb_val_of_index_zero t 0 e0 z)
    (win0_1.rect_emb_val_of_index_zero t 1 e1 z) (win0_1.rect_emb_val_of_index_zero t 2 e2 z))

theorem blk_Dx (t : Fin cfg0.N) : Mlp.Rows t.val (Dx (iblk m c 0 t) (iblk m c 1 t) (iblk m c 2 t) (iblk m c 3 t) (iblk m c 4 t) : Mlp.Arr 512 1024) (Dx (m ((c : Thread nD τ).loc main_arg0)) (m ((c : Thread nD τ).loc main_arg1)) (m ((c : Thread nD τ).loc main_arg2)) (m ((c : Thread nD τ).loc main_arg3)) (m ((c : Thread nD τ).loc main_arg4)) : Mlp.Arr 4096 1024) := by
  obtain ⟨a0, b0, a2, b2, a3, b3, a4, b4, a5, b5, a6, b6, a7, b7⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  have w3 : iblk m c 3 t = (m ((c : Thread nD τ).loc main_arg3)) := Mlp.whole (e := (win0_3.rect t).emb) (fun _ => rfl)
    ⟨fun z => win0_3.rect_emb_val t z 0, fun z => win0_3.rect_emb_val t z 1⟩ a3 b3
  have r4 : Mlp.Rows t.val (iblk m c 4 t) (m ((c : Thread nD τ).loc main_arg4)) := Mlp.Rows.of_at (e := (win0_4.rect t).emb) (fun _ => rfl)
    ⟨fun z => win0_4.rect_emb_val t z 0, fun z => win0_4.rect_emb_val t z 1⟩ a4 b4
  rw [slabs_eq, w3]
  exact rows_Dx r0 _ r2 _ r4

theorem blk_Dn (t : Fin cfg0.N) : Mlp.Rows t.val (Dn (iblk m c 0 t) (iblk m c 1 t) (iblk m c 2 t) : Mlp.Arr 512 1024) (Dn (m ((c : Thread nD τ).loc main_arg0)) (m ((c : Thread nD τ).loc main_arg1)) (m ((c : Thread nD τ).loc main_arg2)) : Mlp.Arr 4096 1024) := by
  obtain ⟨a0, b0, a2, b2, a3, b3, a4, b4, a5, b5, a6, b6, a7, b7⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  rw [slabs_eq]
  exact r2.normDg (rows_D r0 _)

/-! ## The first result, block by block -/

/-- The gradient of the block's input, whole. -/
abbrev H : Mlp.Arr 4096 1024 := Dx (m ((c : Thread nD τ).loc main_arg0)) (m ((c : Thread nD τ).loc main_arg1)) (m ((c : Thread nD τ).loc main_arg2)) (m ((c : Thread nD τ).loc main_arg3)) (m ((c : Thread nD τ).loc main_arg4))

theorem flushed5 (t : Fin cfg0.N) : (dats m 0 c).flushed 5 t = (win0_5.blk t).view.read (Elt Ideal) (H m c) := by
  obtain ⟨a0, b0, a2, b2, a3, b3, a4, b4, a5, b5, a6, b6, a7, b7⟩ := idx_facts t
  by_cases h0 : t.val % 8 = 0
  · rw [Value.flushed5_A m c t h0 h0, out_A_5, pay8_eq]
    funext y
    exact (blk_Dx m c t).apply (e := (win0_5.rect t).emb) ⟨fun z => win0_5.rect_emb_val t z 0, fun z => win0_5.rect_emb_val t z 1⟩ a5 b5 y
  · rw [Value.flushed5_B m c t h0 h0, out_B_5, pay8_eq]
    funext y
    exact (blk_Dx m c t).apply (e := (win0_5.rect t).emb) ⟨fun z => win0_5.rect_emb_val t z 0, fun z => win0_5.rect_emb_val t z 1⟩ a5 b5 y

theorem cover5 (i : S4096x1024.Idx) : ∃ t : Fin cfg0.N, (cfg0.win 5).flush t = true ∧ i ∈ ((cfg0.win 5).blk t).view.set := by
  have key : ∀ a : Fin 8, ∃ t : Fin grid0.N, win0_5.index t 0 = a.val ∧ win0_5.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_5 t, ?_⟩
  show i ∈ ((View.whole main_v0_0).slice (win0_5.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final5 : (dats m 0 c).arrAt 5 cfg0.N = H m c :=
  (dats m 0 c).arrAt_eq_of_cover 5 _ (fun t _ => flushed5 m c t) cover5

/-! ## The sums over the points -/

/-- The gradient of the norm's scale, whole. -/
abbrev Dg : Mlp.Arr 1 1024 := Mlp.colsum (Dn (m ((c : Thread nD τ).loc main_arg0)) (m ((c : Thread nD τ).loc main_arg1)) (m ((c : Thread nD τ).loc main_arg2)) : Mlp.Arr 4096 1024)

/-- The sum of the rows of the first result. -/
abbrev Db : Mlp.Arr 1 1024 := Mlp.colsum (H m c)

theorem acc6 (n : ℕ) (h : n < cfg0.N) (hn : n + 1 = cfg0.N) : (outsAt0 m c n h).2.1 = Dg m c := by
  have hN : cfg0.N = 8 := N_0
  refine Mlp.colsum_of_blocks (m := 512) (by rw [hN]) (acc := fun n h => (outsAt0 m c n h).2.1) (fun n h => blk_Dn m c ⟨n, h⟩) (fun h => ?_) (fun n h => ?_) n h hn
  · have e := congrArg (fun p => p.2.1) (outsAt0_A m c ⟨0, h⟩ rfl rfl)
    dsimp only at e
    rw [out_A_6, pay11_zero] at e
    exact e
  · have h1 : ¬(⟨n + 1, h⟩ : Fin cfg0.N).val % 8 = 0 := by dsimp only; omega
    have e := congrArg (fun p => p.2.1) (outsAt0_B m c ⟨n + 1, h⟩ h1 h1)
    dsimp only at e
    rw [out_B_6, pay11_eq] at e
    exact e

theorem flushed6 (t : Fin cfg0.N) (hf : (cfg0.win 6).flush t = true) :
    (dats m 0 c).flushed 6 t = (win0_6.blk t).view.read (Elt Ideal) (Dg m c) := by
  obtain ⟨a0, b0, a2, b2, a3, b3, a4, b4, a5, b5, a6, b6, a7, b7⟩ := idx_facts t
  have hN : cfg0.N = 8 := N_0
  have hl : t.val + 1 = cfg0.N := by have := (flush0_6 t).mp hf; have := t.isLt; omega
  rw [Value.flushed6, acc6 m c t.val t.isLt hl]
  funext y
  exact congrArg (Dg m c) (Mlp.At.eq (e := (win0_6.rect t).emb) ⟨fun z => win0_6.rect_emb_val t z 0, fun z => win0_6.rect_emb_val t z 1⟩ y
    (by rw [a6]; exact Mlp.tile_zero _ _) (by rw [b6]; exact Mlp.tile_zero _ _)).symm

theorem final6 : (dats m 0 c).arrAt 6 cfg0.N = Dg m c :=
  (dats m 0 c).arrAt_eq_of_cover 6 _ (flushed6 m c) fun i => by
    have key : ∃ t : Fin cfg0.N, t.val = 7 := ⟨⟨7, by rw [show cfg0.N = 8 from N_0]; decide⟩, rfl⟩
    obtain ⟨t, ht⟩ := key
    have h0 : (i 0).val < 1 := (i 0).isLt
    have h1 : (i 1).val < 1024 := (i 1).isLt
    obtain ⟨a0, b0, a2, b2, a3, b3, a4, b4, a5, b5, a6, b6, a7, b7⟩ := idx_facts t
    refine ⟨t, (flush0_6 t).mpr (by rw [ht]), ?_⟩
    show i ∈ ((View.whole main_v0_1).slice (win0_6.rect t)).set
    rw [View.set_slice_whole, Rect.mem_set_unit]
    exact fun a => match a with
      | ⟨0, _⟩ => Mlp.tile_mem (a6.trans (Nat.div_eq_of_lt h0).symm) (Nat.succ_pos _)
      | ⟨1, _⟩ => Mlp.tile_mem (b6.trans (Nat.div_eq_of_lt h1).symm) (Nat.succ_pos _)

theorem acc7 (n : ℕ) (h : n < cfg0.N) (hn : n + 1 = cfg0.N) : (outsAt0 m c n h).2.2 = Db m c := by
  have hN : cfg0.N = 8 := N_0
  refine Mlp.colsum_of_blocks (m := 512) (by rw [hN]) (acc := fun n h => (outsAt0 m c n h).2.2) (fun n h => blk_Dx m c ⟨n, h⟩) (fun h => ?_) (fun n h => ?_) n h hn
  · have e := congrArg (fun p => p.2.2) (outsAt0_A m c ⟨0, h⟩ rfl rfl)
    dsimp only at e
    rw [out_A_7, pay2_zero, pay9_eq] at e
    exact e
  · have h1 : ¬(⟨n + 1, h⟩ : Fin cfg0.N).val % 8 = 0 := by dsimp only; omega
    have e := congrArg (fun p => p.2.2) (outsAt0_B m c ⟨n + 1, h⟩ h1 h1)
    dsimp only at e
    rw [out_B_7, pay2_eq, pay9_eq] at e
    exact e

theorem flushed7 (t : Fin cfg0.N) (hf : (cfg0.win 7).flush t = true) :
    (dats m 0 c).flushed 7 t = (win0_7.blk t).view.read (Elt Ideal) (Db m c) := by
  obtain ⟨a0, b0, a2, b2, a3, b3, a4, b4, a5, b5, a6, b6, a7, b7⟩ := idx_facts t
  have hN : cfg0.N = 8 := N_0
  have hl : t.val + 1 = cfg0.N := by have := (flush0_7 t).mp hf; have := t.isLt; omega
  rw [Value.flushed7, acc7 m c t.val t.isLt hl]
  funext y
  exact congrArg (Db m c) (Mlp.At.eq (e := (win0_7.rect t).emb) ⟨fun z => win0_7.rect_emb_val t z 0, fun z => win0_7.rect_emb_val t z 1⟩ y
    (by rw [a7]; exact Mlp.tile_zero _ _) (by rw [b7]; exact Mlp.tile_zero _ _)).symm

theorem final7 : (dats m 0 c).arrAt 7 cfg0.N = Db m c :=
  (dats m 0 c).arrAt_eq_of_cover 7 _ (flushed7 m c) fun i => by
    have key : ∃ t : Fin cfg0.N, t.val = 7 := ⟨⟨7, by rw [show cfg0.N = 8 from N_0]; decide⟩, rfl⟩
    obtain ⟨t, ht⟩ := key
    have h0 : (i 0).val < 1 := (i 0).isLt
    have h1 : (i 1).val < 1024 := (i 1).isLt
    obtain ⟨a0, b0, a2, b2, a3, b3, a4, b4, a5, b5, a6, b6, a7, b7⟩ := idx_facts t
    refine ⟨t, (flush0_7 t).mpr (by rw [ht]), ?_⟩
    show i ∈ ((View.whole main_v0_2).slice (win0_7.rect t)).set
    rw [View.set_slice_whole, Rect.mem_set_unit]
    exact fun a => match a with
      | ⟨0, _⟩ => Mlp.tile_mem (a7.trans (Nat.div_eq_of_lt h0).symm) (Nat.succ_pos _)
      | ⟨1, _⟩ => Mlp.tile_mem (b7.trans (Nat.div_eq_of_lt h1).symm) (Nat.succ_pos _)

/-! ## The reference -/

section
open Cert.Reference14Ideal.Read
variable (x : FVec Ideal S4096x4096 .bf16) (w : FVec Ideal S4x1024x1024 .bf16) (h : FVec Ideal S4096x1024 .f32) (g : FVec Ideal S1x1024 .f32) (dh : FVec Ideal S4096x1024 .f32)

theorem ref_wide : (val_main_v8 (F := Ideal) w : Mlp.Arr 1024 4096) = Mlp.wide w := by
  funext i
  refine Eq.trans ?_ (congrArg (Mlp.wide w) (Shape.idx_ext₂ (x := ix2 (i 0) (i 1)) (y := i) rfl rfl))
  pointwise [val_main_v8, val_main_v7, val_main_v6, val_main_v5, val_main_v4, val_main_v3, val_main_v2, val_main_v1, val_main_v0]
  have hi : (i 1).val < 4096 := (i 1).isLt
  by_cases h0 : (i 1).val < 1024
  · rw [dif_pos h0]
    exact (Mlp.wide_at w (i 0) (i 1) 0 ⟨_, h0⟩ (by show (i 1).val = 0 * 1024 + (i 1).val; omega)).symm
  rw [dif_neg h0]
  by_cases h1 : (i 1).val - 1024 < 1024
  · rw [dif_pos h1]
    exact (Mlp.wide_at w (i 0) (i 1) 1 ⟨_, h1⟩ (by show (i 1).val = 1 * 1024 + ((i 1).val - 1024); omega)).symm
  rw [dif_neg h1]
  by_cases h2 : (i 1).val - 1024 - 1024 < 1024
  · rw [dif_pos h2]
    exact (Mlp.wide_at w (i 0) (i 1) 2 ⟨_, h2⟩ (by show (i 1).val = 2 * 1024 + ((i 1).val - 1024 - 1024); omega)).symm
  rw [dif_neg h2]
  exact (Mlp.wide_at w (i 0) (i 1) 3 ⟨(i 1).val - 1024 - 1024 - 1024, by omega⟩ (by show (i 1).val = 3 * 1024 + ((i 1).val - 1024 - 1024 - 1024); omega)).symm

theorem ref_D : (val_main_v13 (F := Ideal) x w : Mlp.Arr 4096 1024) = D x w := by
  unfold D
  rw [← ref_wide]
  funext i
  unfold Mlp.nt
  pointwise [val_main_v13, val_main_v12, val_main_v10]

theorem ref_Dx : (val_main_v52 (F := Ideal) x w h g dh : Mlp.Arr 4096 1024) = Dx x w h g dh := by
  unfold Dx
  rw [← ref_D]
  funext i
  unfold Mlp.plus Mlp.normDx Mlp.halfMs Mlp.ms
  pointwise [val_main_v54, val_main_v53, val_main_cst_9, val_main_v52, val_main_v51, val_main_v50, val_main_v49, val_main_v48, val_main_v47, val_main_v46, val_main_v45, val_main_cst_8, val_main_v44, val_main_v43, val_main_cst_7, val_main_v42, val_main_v41, val_main_v40, val_main_v39, val_main_v38, val_main_cst_6, val_main_v37, val_main_v36, val_main_cst_5, val_main_v35, val_main_v34, val_main_v33, val_main_v32, val_main_cst_4, val_main_v31, val_main_v30, val_main_v29, val_main_v28, val_main_v27, val_main_v26, val_main_v25, val_main_v24, val_main_cst_3, val_main_v23, val_main_v22, val_main_v21, val_main_v20, val_main_cst_2, val_main_v19, val_main_v18, val_main_cst_1, val_main_v17, val_main_v16, val_main_cst_0, val_main_v15, val_main_v14]
  simp only [Finset.univ_unique, Finset.sum_singleton]

theorem ref_Dg : (val_main_v51 (F := Ideal) x w h : Mlp.Arr 1 1024) = Mlp.colsum (Dn x w h : Mlp.Arr 4096 1024) := by
  unfold Dn
  rw [← ref_D]
  funext i
  unfold Mlp.colsum Mlp.normDg Mlp.unitRows Mlp.ms
  pointwise [val_main_v54, val_main_v53, val_main_cst_9, val_main_v52, val_main_v51, val_main_v50, val_main_v49, val_main_v48, val_main_v47, val_main_v46, val_main_v45, val_main_cst_8, val_main_v44, val_main_v43, val_main_cst_7, val_main_v42, val_main_v41, val_main_v40, val_main_v39, val_main_v38, val_main_cst_6, val_main_v37, val_main_v36, val_main_cst_5, val_main_v35, val_main_v34, val_main_v33, val_main_v32, val_main_cst_4, val_main_v31, val_main_v30, val_main_v29, val_main_v28, val_main_v27, val_main_v26, val_main_v25, val_main_v24, val_main_cst_3, val_main_v23, val_main_v22, val_main_v21, val_main_v20, val_main_cst_2, val_main_v19, val_main_v18, val_main_cst_1, val_main_v17, val_main_v16, val_main_cst_0, val_main_v15, val_main_v14]
  simp only [Finset.univ_unique, Finset.sum_singleton]

theorem ref_Db : (val_main_v54 (F := Ideal) x w h g dh : Mlp.Arr 1 1024) = Mlp.colsum (Dx x w h g dh : Mlp.Arr 4096 1024) := by
  rw [← ref_Dx]
  funext i
  unfold Mlp.colsum
  pointwise [val_main_v54, val_main_v53, val_main_cst_9]

end

end Cert.Kernel14Ideal.Dy1

end
-- ==== Proof.Mlp.Down0.lean ====
/- The product of the squared positive part with the lower weight, added to its input, and the scaled norm of the sum. -/
module

public import proofs.«01_k».proof.Proof.Mlp.Rows
public import proofs.«01_k».proof.Proof.Gen.Kernel15Ideal.Value
public import proofs.«01_k».proof.Proof.Gen.Reference15Ideal.Read

@[expose] public section

noncomputable section

namespace Cert.Kernel15Ideal.Down0

open Cert.Kernel15Ideal Cert.Kernel15Ideal.Gen Idealize.ShloMosaic Idealize.ShloMosaic.TcCoe Idealize.SL.Sem
open Idealize.ShloMosaic.Pipeline (Dat)

/-- The sum stream after the product. -/
def H (a : FVec Ideal S4096x4096 .bf16) (w : FVec Ideal S4096x1024 .bf16) (h : FVec Ideal S4096x1024 .f32) : FVec Ideal S4096x1024 .f32 :=
  Mlp.plus (Mlp.nn (Mlp.relu2 a) w) h

/-- Its scaled norm. -/
def Y (a : FVec Ideal S4096x4096 .bf16) (w : FVec Ideal S4096x1024 .bf16) (h : FVec Ideal S4096x1024 .f32) (g : FVec Ideal S1x1024 .f32) : FVec Ideal S4096x1024 .bf16 := Mlp.norm (H a w h) g

/-- One block of the sum stream. -/
theorem pay1_eq (a : FVec Ideal S512x4096 .bf16) (w : FVec Ideal S4096x1024 .bf16) (h : FVec Ideal S512x1024 .f32) :
    (k0_pay1 (F := Ideal) a w h : Mlp.Arr 512 1024) = Mlp.plus (Mlp.nn (Mlp.relu2 a) w) h := by
  funext y
  unfold Mlp.plus Mlp.nn Mlp.relu2
  pointwise [k0_pay1]

/-- One block of the norm. -/
theorem pay2_eq (a : FVec Ideal S512x4096 .bf16) (w : FVec Ideal S4096x1024 .bf16) (h : FVec Ideal S512x1024 .f32) (g : FVec Ideal S1x1024 .f32) :
    (k0_pay2 (F := Ideal) a w h g : Mlp.Arr 512 1024) = Mlp.norm (k0_pay1 (F := Ideal) a w h) g := by
  funext y
  unfold Mlp.norm Mlp.unitRows Mlp.ms
  pointwise [k0_pay2]

variable (m : (ℓ : Loc nD τ sig) → Buf (Elt Ideal) ℓ) (c : Dev nD)

/-- Point `t` takes block `t` of the rows; the other operands are whole. -/
theorem idx_facts : ∀ t : Fin cfg0.N, win0_0.index t 0 = t.val ∧ win0_0.index t 1 = 0 ∧
    win0_1.index t 0 = 0 ∧ win0_1.index t 1 = 0 ∧
    win0_2.index t 0 = t.val ∧ win0_2.index t 1 = 0 ∧
    win0_3.index t 0 = 0 ∧ win0_3.index t 1 = 0 ∧
    win0_4.index t 0 = t.val ∧ win0_4.index t 1 = 0 ∧
    win0_5.index t 0 = t.val ∧ win0_5.index t 1 = 0 :=
  (by decide +kernel : ∀ t : Fin grid0.N, _)

theorem rows_H (t : Fin cfg0.N) : Mlp.Rows t.val (k0_pay1 (F := Ideal) (iblk m c 0 t) (iblk m c 1 t) (iblk m c 2 t))
    (H (m ((c : Thread nD τ).loc main_arg0)) (m ((c : Thread nD τ).loc main_arg1)) (m ((c : Thread nD τ).loc main_arg2))) := by
  obtain ⟨a0, b0, a1, b1, a2, b2, a3, b3, a4, b4, a5, b5⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  rw [pay1_eq, w1]
  exact (r0.relu2.nn _).plus r2

theorem rows_Y (t : Fin cfg0.N) : Mlp.Rows t.val (k0_pay2 (F := Ideal) (iblk m c 0 t) (iblk m c 1 t) (iblk m c 2 t) (iblk m c 3 t))
    (Y (m ((c : Thread nD τ).loc main_arg0)) (m ((c : Thread nD τ).loc main_arg1)) (m ((c : Thread nD τ).loc main_arg2)) (m ((c : Thread nD τ).loc main_arg3))) := by
  obtain ⟨a0, b0, a1, b1, a2, b2, a3, b3, a4, b4, a5, b5⟩ := idx_facts t
  have w3 : iblk m c 3 t = (m ((c : Thread nD τ).loc main_arg3)) := Mlp.whole (e := (win0_3.rect t).emb) (fun _ => rfl)
    ⟨fun z => win0_3.rect_emb_val t z 0, fun z => win0_3.rect_emb_val t z 1⟩ a3 b3
  rw [pay2_eq, w3]
  exact (rows_H m c t).norm _

theorem flushed4 (t : Fin cfg0.N) : (dats m 0 c).flushed 4 t = (win0_4.blk t).view.read (Elt Ideal) (H (m ((c : Thread nD τ).loc main_arg0)) (m ((c : Thread nD τ).loc main_arg1)) (m ((c : Thread nD τ).loc main_arg2))) := by
  rw [Value.flushed4]
  unfold out0_4
  rw [View.canon_unit_zero Mlp.zero2, View.ld_unit_zero Mlp.zero2, View.ld_unit_zero Mlp.zero2, View.ld_unit_zero Mlp.zero2]
  obtain ⟨a0, b0, a1, b1, a2, b2, a3, b3, a4, b4, a5, b5⟩ := idx_facts t
  funext y
  exact (rows_H m c t).apply (e := (win0_4.rect t).emb) ⟨fun z => win0_4.rect_emb_val t z 0, fun z => win0_4.rect_emb_val t z 1⟩ a4 b4 y

theorem cover4 (i : S4096x1024.Idx) : ∃ t : Fin cfg0.N, (cfg0.win 4).flush t = true ∧ i ∈ ((cfg0.win 4).blk t).view.set := by
  have key : ∀ a : Fin 8, ∃ t : Fin grid0.N, win0_4.index t 0 = a.val ∧ win0_4.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_4 t, ?_⟩
  show i ∈ ((View.whole main_v0_0).slice (win0_4.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final4 : (dats m 0 c).arrAt 4 cfg0.N = H (m ((c : Thread nD τ).loc main_arg0)) (m ((c : Thread nD τ).loc main_arg1)) (m ((c : Thread nD τ).loc main_arg2)) :=
  (dats m 0 c).arrAt_eq_of_cover 4 _ (fun t _ => flushed4 m c t) cover4

theorem flushed5 (t : Fin cfg0.N) : (dats m 0 c).flushed 5 t = (win0_5.blk t).view.read (Elt Ideal) (Y (m ((c : Thread nD τ).loc main_arg0)) (m ((c : Thread nD τ).loc main_arg1)) (m ((c : Thread nD τ).loc main_arg2)) (m ((c : Thread nD τ).loc main_arg3))) := by
  rw [Value.flushed5]
  unfold out0_5
  rw [View.canon_unit_zero Mlp.zero2, View.ld_unit_zero Mlp.zero2, View.ld_unit_zero Mlp.zero2, View.ld_unit_zero Mlp.zero2, View.ld_unit_zero Mlp.zero2]
  obtain ⟨a0, b0, a1, b1, a2, b2, a3, b3, a4, b4, a5, b5⟩ := idx_facts t
  funext y
  exact (rows_Y m c t).apply (e := (win0_5.rect t).emb) ⟨fun z => win0_5.rect_emb_val t z 0, fun z => win0_5.rect_emb_val t z 1⟩ a5 b5 y

theorem cover5 (i : S4096x1024.Idx) : ∃ t : Fin cfg0.N, (cfg0.win 5).flush t = true ∧ i ∈ ((cfg0.win 5).blk t).view.set := by
  have key : ∀ a : Fin 8, ∃ t : Fin grid0.N, win0_5.index t 0 = a.val ∧ win0_5.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_5 t, ?_⟩
  show i ∈ ((View.whole main_v0_1).slice (win0_5.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final5 : (dats m 0 c).arrAt 5 cfg0.N = Y (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5 m c t) cover5

open Cert.Reference15Ideal.Read in
theorem ref_H (a : FVec Ideal S4096x4096 .bf16) (w : FVec Ideal S4096x1024 .bf16) (h : FVec Ideal S4096x1024 .f32) : val_main_v5 (F := Ideal) a w h = H a w h := by
  funext i
  unfold H Mlp.plus Mlp.nn Mlp.relu2
  pointwise [val_main_v5, val_main_v4, val_main_v3, val_main_v2, val_main_call0_v0, val_main_call0_cst, val_main_v1, val_main_v0]
  exact add_comm _ _

open Cert.Reference15Ideal.Read in
theorem ref_Y (a : FVec Ideal S4096x4096 .bf16) (w : FVec Ideal S4096x1024 .bf16) (h : FVec Ideal S4096x1024 .f32) (g : FVec Ideal S1x1024 .f32) : val_main_v20 (F := Ideal) a w h g = Y a w h g := by
  refine Eq.trans (b := Mlp.norm (val_main_v5 (F := Ideal) a w h) g) ?_ (congrArg (Mlp.norm · g) (ref_H _ _ _))
  funext i
  unfold Mlp.norm Mlp.unitRows Mlp.ms
  pointwise [val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v6]

end Cert.Kernel15Ideal.Down0

end
-- ==== Proof.Mlp.Down1.lean ====
/- The end of the second block with the loss: the sum stream, the loss of its scaled norm against the target, and the gradients of the loss by the stream and by the norm's scale. -/
module

public import proofs.«01_k».proof.Proof.Mlp.Rows
public import proofs.«01_k».proof.Proof.Gen.Kernel16Ideal.Value
public import proofs.«01_k».proof.Proof.Gen.Reference16Ideal.Read

@[expose] public section

noncomputable section

namespace Cert.Kernel16Ideal.Down1

open Cert.Kernel16Ideal Cert.Kernel16Ideal.Gen Idealize.ShloMosaic Idealize.ShloMosaic.TcCoe Idealize.SL.Sem
open Idealize.ShloMosaic.Pipeline (Dat)

/-! ## What is computed -/

/-- The sum stream. -/
def O {M : ℕ} (a : Mlp.Arr M 4096) (w : Mlp.Arr 4096 1024) (h : Mlp.Arr M 1024) : Mlp.Arr M 1024 := Mlp.plus (Mlp.nn (Mlp.relu2 a) w) h

/-- How far the scaled norm is from the target. -/
def diff {M : ℕ} (o : Mlp.Arr M 1024) (g : Mlp.Arr 1 1024) (t : Mlp.Arr M 1024) : Mlp.Arr M 1024 := fun i => Mlp.norm o g i - t i

/-- The gradient of the loss by the scaled norm. -/
def cot {M : ℕ} (d : Mlp.Arr M 1024) : Mlp.Arr M 1024 := fun i =>
  Ideal.div (Ideal.ofBits .f32 0x3F000000#32 * Ideal.ofBits .f32 0x3F800000#32) (Ideal.ofBits .f32 0x44800000#32) * (Ideal.ofBits .f32 0x40000000#32 * d i)

/-- What every row gives to the loss, in each of 128 columns. -/
def rowLoss {M : ℕ} (d : Mlp.Arr M 1024) : Mlp.Arr M 128 := fun i =>
  Ideal.ofBits .f32 0x3F000000#32 * Ideal.div (∑ k, d (ix2 (i 0) k) * d (ix2 (i 0) k)) (Ideal.ofBits .f32 0x44800000#32)

/-- The loss, in each of 128 columns. -/
def loss {M : ℕ} (d : Mlp.Arr M 1024) : Mlp.Arr 1 128 := fun _ =>
  Ideal.ofBits .f32 0x3F000000#32 * ∑ r, Ideal.div (∑ k, d (ix2 r k) * d (ix2 r k)) (Ideal.ofBits .f32 0x44800000#32)

theorem half_eq : Ideal.ofBits .f32 0x3F000000#32 = (((1 : ℝ) / 2 : ℝ) : EReal) := by
  simp [Ideal.ofBits, Ideal.ieee, -EReal.coe_mul]
  norm_num

/-- Half of a sum is the sum of the halves. -/
theorem half_sum {ι : Type} (s : Finset ι) (f : ι → EReal) : Ideal.ofBits .f32 0x3F000000#32 * ∑ r ∈ s, f r = ∑ r ∈ s, Ideal.ofBits .f32 0x3F000000#32 * f r := by
  classical
  rw [half_eq]
  induction s using Finset.induction_on with
  | empty => rw [Finset.sum_empty, Finset.sum_empty, mul_zero]
  | insert a s ha ih =>
    rw [Finset.sum_insert ha, Finset.sum_insert ha, ← ih]
    exact EReal.left_distrib_of_nonneg_of_ne_top (EReal.coe_nonneg.mpr (by norm_num)) (EReal.coe_ne_top _) _ _

theorem loss_eq {M : ℕ} (d : Mlp.Arr M 1024) : loss d = Mlp.colsum (rowLoss d) := funext fun _ => half_sum _ _

theorem rows_diff {M m p : ℕ} {ob : Mlp.Arr m 1024} {o : Mlp.Arr M 1024} (ho : Mlp.Rows p ob o) (g : Mlp.Arr 1 1024) {tb : Mlp.Arr m 1024} {t : Mlp.Arr M 1024} (ht : Mlp.Rows p tb t) : Mlp.Rows p (diff ob g tb) (diff o g t) := fun r R k e =>
  congrArg₂ (· - ·) (ho.norm g r R k e) (ht r R k e)

theorem rows_cot {M m p : ℕ} {ob : Mlp.Arr m 1024} {o : Mlp.Arr M 1024} (ho : Mlp.Rows p ob o) : Mlp.Rows p (cot ob) (cot o) := fun r R k e => by
  unfold cot
  rw [ho r R k e]

theorem rows_loss {M m p : ℕ} {ob : Mlp.Arr m 1024} {o : Mlp.Arr M 1024} (ho : Mlp.Rows p ob o) : Mlp.Rows p (rowLoss ob) (rowLoss o) := fun r R k e => by
  unfold rowLoss
  exact congrArg (Ideal.ofBits .f32 0x3F000000#32 * ·) (congrArg (Ideal.div · _) (Finset.sum_congr rfl fun k _ => congrArg₂ (· * ·) (ho r R k e) (ho r R k e)))

/-! ## One block -/

section
variable (x0 : FVec Ideal S512x4096 .bf16) (x1 : FVec Ideal S4096x1024 .bf16) (x2 : FVec Ideal S512x1024 .f32) (x3 : FVec Ideal S1x1024 .f32) (x4 : FVec Ideal S512x1024 .f32)

theorem pay4_eq : k0_pay4 (F := Ideal) x0 x1 x2 = O x0 x1 x2 := by
  funext y
  unfold O Mlp.plus Mlp.nn Mlp.relu2
  pointwise [k0_pay4]

theorem pay5_apply (y : S512x1.Idx) : (k0_pay5 (F := Ideal) x0 x1 x2 y : EReal) = Mlp.ms (O x0 x1 x2) (y 0) := by
  rw [← pay4_eq]
  unfold Mlp.ms
  pointwise [k0_pay5]

theorem pay8_eq : k0_pay8 (F := Ideal) x0 x1 x2 = Mlp.unitRows (O x0 x1 x2) := by
  rw [← pay4_eq]
  funext y
  refine Eq.trans (b := (k0_pay4 (F := Ideal) x0 x1 x2 y * Ideal.rsqrt (k0_pay5 (F := Ideal) x0 x1 x2 (ix2 (y 0) 0)) : EReal)) ?_ ?_
  · pointwise [k0_pay8, k0_pay6]
  · rw [pay5_apply, pay4_eq]
    rfl

theorem pay9_eq : k0_pay9 (F := Ideal) x0 x1 x2 x3 x4 = diff (O x0 x1 x2) x3 x4 := by
  funext y
  unfold diff Mlp.norm
  rw [← pay8_eq]
  pointwise [k0_pay9]

theorem pay13_eq : k0_pay13 (F := Ideal) (k0_pay10 x0 x1 x2 x3 x4) = cot (diff (O x0 x1 x2) x3 x4) := by
  rw [← pay9_eq]
  funext y
  unfold cot
  pointwise [k0_pay13, k0_pay10]
  simp only [Finset.univ_unique, Finset.sum_singleton]

theorem pay14_eq : (k0_pay14 (F := Ideal) (k0_pay8 x0 x1 x2) (k0_pay10 x0 x1 x2 x3 x4) : Mlp.Arr 1 1024) =
    Mlp.colsum (Mlp.normDg (O x0 x1 x2) (cot (diff (O x0 x1 x2) x3 x4))) := by
  unfold Mlp.normDg
  rw [← pay13_eq, ← pay8_eq]
  funext y
  unfold Mlp.colsum
  pointwise [k0_pay14]

theorem pay15_eq : (k0_pay15 (F := Ideal) x3 (k0_pay4 x0 x1 x2) (k0_pay6 x0 x1 x2) (k0_pay7 x0 x1 x2) (k0_pay10 x0 x1 x2 x3 x4) : Mlp.Arr 512 1024) =
    Mlp.normDx (O x0 x1 x2) x3 (cot (diff (O x0 x1 x2) x3 x4)) := by
  rw [← pay13_eq]
  funext y
  unfold Mlp.normDx Mlp.halfMs
  pointwise [k0_pay15, k0_pay7, k0_pay6]
  simp only [Finset.univ_unique, Finset.sum_singleton, pay5_apply, pay4_eq]
  rfl

theorem pay16_eq : (k0_pay16 (F := Ideal) (k0_pay11 x0 x1 x2 x3 x4) k0_pay12 : Mlp.Arr 1 128) = loss (diff (O x0 x1 x2) x3 x4) := by
  rw [← pay9_eq]
  funext y
  unfold loss
  pointwise [k0_pay16, k0_pay11, k0_pay12]

end

theorem pay1_eq (x old : FVec Ideal S1x1024 .f32) : (k0_pay1 (F := Ideal) x old : Mlp.Arr 1 1024) = Mlp.plus old x := by
  funext y
  unfold Mlp.plus
  pointwise [k0_pay1]

theorem pay1_zero (x : FVec Ideal S1x1024 .f32) : (k0_pay1 (F := Ideal) x (k0_pay17 (F := Ideal)) : Mlp.Arr 1 1024) = x := by
  funext y
  pointwise [k0_pay1, k0_pay17]

theorem pay3_eq (x old : FVec Ideal S1x128 .f32) : (k0_pay3 (F := Ideal) x old : Mlp.Arr 1 128) = Mlp.plus old x := by
  funext y
  unfold Mlp.plus
  pointwise [k0_pay3]

theorem pay3_zero (x : FVec Ideal S1x128 .f32) : (k0_pay3 (F := Ideal) x (k0_pay2 (F := Ideal)) : Mlp.Arr 1 128) = x := by
  funext y
  pointwise [k0_pay3, k0_pay2]

section
variable (c : Dev nD) (i : grid0.Coords) (a1 : Memref sig .tc .vmem S512x4096 .bf16) (h1 : a1.IsWhole) (a2 : Memref sig .tc .vmem S4096x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole) (a8 : Memref sig .tc .vmem S1x128 .f32) (h8 : a8.IsWhole)
  (x0 : FVec Ideal S512x4096 .bf16) (x1 : FVec Ideal S4096x1024 .bf16) (x2 : FVec Ideal S512x1024 .f32) (x3 : FVec Ideal S1x1024 .f32) (x4 : FVec Ideal S512x1024 .f32) (old : FVec Ideal S1x1024 .f32) (old' : FVec Ideal S1x128 .f32)

theorem out_A_5 (hc0 : cond0_0 i) (hc1 : cond0_1 i) : out0_A_5 (F := Ideal) c i a1 h1 a2 h2 a3 h3 a4 h4 a5 h5 a6 h6 a7 h7 a8 h8 hc0 hc1 x0 x1 x2 x3 x4 = k0_pay15 (F := Ideal) x3 (k0_pay4 x0 x1 x2) (k0_pay6 x0 x1 x2) (k0_pay7 x0 x1 x2) (k0_pay10 x0 x1 x2 x3 x4) := by
  unfold out0_A_5
  rw [View.read_writes_eq_canon _ _ _ (cover0_A_5 (F := Ideal) c i a1 h1 a2 h2 a3 h3 a4 h4 a5 h5 a6 h6 a7 h7 a8 h8 hc0 hc1 x0 x1 x2 x3 x4)]
  unfold kernelRun0_A
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S4096x1024) Mlp.zero2, View.ld_unit_zero (S := S512x1024) Mlp.zero2, View.ld_unit_zero (S := S1x1024) Mlp.zero2, View.ld_unit_zero (S := S1x128) Mlp.zero2]

theorem out_A_6 (hc0 : cond0_0 i) (hc1 : cond0_1 i) : out0_A_6 (F := Ideal) c i a1 h1 a2 h2 a3 h3 a4 h4 a5 h5 a6 h6 a7 h7 a8 h8 hc0 hc1 x0 x1 x2 x3 x4 = k0_pay1 (F := Ideal) (k0_pay14 (k0_pay8 x0 x1 x2) (k0_pay10 x0 x1 x2 x3 x4)) (k0_pay17 (F := Ideal)) := by
  unfold out0_A_6
  rw [View.read_writes_eq_canon _ _ _ (cover0_A_6 (F := Ideal) c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S1x1024) Mlp.zero2, View.readCov_unit_zero (S := S1x1024) _ Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S4096x1024) Mlp.zero2, View.ld_unit_zero (S := S512x1024) Mlp.zero2, View.ld_unit_zero (S := S1x1024) Mlp.zero2, View.ld_unit_zero (S := S1x128) Mlp.zero2]

theorem out_A_7 (hc0 : cond0_0 i) (hc1 : cond0_1 i) : out0_A_7 (F := Ideal) c i a1 h1 a2 h2 a3 h3 a4 h4 a5 h5 a6 h6 a7 h7 a8 h8 hc0 hc1 x0 x1 x2 x3 x4 = k0_pay3 (F := Ideal) (k0_pay16 (k0_pay11 x0 x1 x2 x3 x4) k0_pay12) (k0_pay2 (F := Ideal)) := by
  unfold out0_A_7
  rw [View.read_writes_eq_canon _ _ _ (cover0_A_7 (F := Ideal) c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S1x128) Mlp.zero2, View.readCov_unit_zero (S := S1x128) _ Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S4096x1024) Mlp.zero2, View.ld_unit_zero (S := S512x1024) Mlp.zero2, View.ld_unit_zero (S := S1x1024) Mlp.zero2, View.ld_unit_zero (S := S1x128) Mlp.zero2]

theorem out_B_5 (hc0 : ¬cond0_0 i) (hc1 : ¬cond0_1 i) : out0_B_5 (F := Ideal) c i a1 h1 a2 h2 a3 h3 a4 h4 a5 h5 a6 h6 a7 h7 a8 h8 hc0 hc1 x0 x1 x2 x3 x4 old old' = k0_pay15 (F := Ideal) x3 (k0_pay4 x0 x1 x2) (k0_pay6 x0 x1 x2) (k0_pay7 x0 x1 x2) (k0_pay10 x0 x1 x2 x3 x4) := by
  unfold out0_B_5
  rw [View.read_writes_eq_canon _ _ _ (cover0_B_5 (F := Ideal) c i a1 h1 a2 h2 a3 h3 a4 h4 a5 h5 a6 h6 a7 h7 a8 h8 hc0 hc1 x0 x1 x2 x3 x4 old old')]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S4096x1024) Mlp.zero2, View.ld_unit_zero (S := S512x1024) Mlp.zero2, View.ld_unit_zero (S := S1x1024) Mlp.zero2, View.ld_unit_zero (S := S1x128) Mlp.zero2]

theorem out_B_6 (hc0 : ¬cond0_0 i) (hc1 : ¬cond0_1 i) : out0_B_6 (F := Ideal) c i a1 h1 a2 h2 a3 h3 a4 h4 a5 h5 a6 h6 a7 h7 a8 h8 hc0 hc1 x0 x1 x2 x3 x4 old old' = k0_pay1 (F := Ideal) (k0_pay14 (k0_pay8 x0 x1 x2) (k0_pay10 x0 x1 x2 x3 x4)) old := by
  unfold out0_B_6
  rw [View.read_writes_eq_canon _ _ _ (cover0_B_6 (F := Ideal) c i a1 h1 a2 h2 a3 h3 a4 h4 a5 h5 a6 h6 a7 h7 a8 h8 hc0 hc1 x0 x1 x2 x3 x4 old old')]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S4096x1024) Mlp.zero2, View.ld_unit_zero (S := S512x1024) Mlp.zero2, View.ld_unit_zero (S := S1x1024) Mlp.zero2, View.ld_unit_zero (S := S1x128) Mlp.zero2]

theorem out_B_7 (hc0 : ¬cond0_0 i) (hc1 : ¬cond0_1 i) : out0_B_7 (F := Ideal) c i a1 h1 a2 h2 a3 h3 a4 h4 a5 h5 a6 h6 a7 h7 a8 h8 hc0 hc1 x0 x1 x2 x3 x4 old old' = k0_pay3 (F := Ideal) (k0_pay16 (k0_pay11 x0 x1 x2 x3 x4) k0_pay12) old' := by
  unfold out0_B_7
  rw [View.read_writes_eq_canon _ _ _ (cover0_B_7 (F := Ideal) c i a1 h1 a2 h2 a3 h3 a4 h4 a5 h5 a6 h6 a7 h7 a8 h8 hc0 hc1 x0 x1 x2 x3 x4 old old')]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, h8.read_unread, View.ld_unit_zero (S := S512x4096) Mlp.zero2, View.ld_unit_zero (S := S4096x1024) Mlp.zero2, View.ld_unit_zero (S := S512x1024) Mlp.zero2, View.ld_unit_zero (S := S1x1024) Mlp.zero2, View.ld_unit_zero (S := S1x128) Mlp.zero2]

end

/-! ## The blocks of the arrays -/

variable (m : (ℓ : Loc nD τ sig) → Buf (Elt Ideal) ℓ) (c : Dev nD)

/-- Point `t` takes block `t` of the rows; the other operands are whole. -/
theorem idx_facts : ∀ t : Fin cfg0.N, win0_0.index t 0 = t.val ∧ win0_0.index t 1 = 0 ∧ win0_1.index t 0 = 0 ∧ win0_1.index t 1 = 0 ∧
    win0_2.index t 0 = t.val ∧ win0_2.index t 1 = 0 ∧ win0_3.index t 0 = 0 ∧ win0_3.index t 1 = 0 ∧
    win0_4.index t 0 = t.val ∧ win0_4.index t 1 = 0 ∧ win0_5.index t 0 = t.val ∧ win0_5.index t 1 = 0 ∧
    win0_6.index t 0 = 0 ∧ win0_6.index t 1 = 0 ∧ win0_7.index t 0 = 0 ∧ win0_7.index t 1 = 0 :=
  (by decide +kernel : ∀ t : Fin grid0.N, _)

theorem blk_O (t : Fin cfg0.N) : Mlp.Rows t.val (O (iblk m c 0 t) (iblk m c 1 t) (iblk m c 2 t) : Mlp.Arr 512 1024) (O (m ((c : Thread nD τ).loc main_arg0)) (m ((c : Thread nD τ).loc main_arg1)) (m ((c : Thread nD τ).loc main_arg2)) : Mlp.Arr 4096 1024) := by
  obtain ⟨a0, b0, a1, b1, a2, b2, a3, b3, a4, b4, a5, b5, a6, b6, a7, b7⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  rw [w1]
  exact (r0.relu2.nn _).plus r2

theorem blk_diff (t : Fin cfg0.N) : Mlp.Rows t.val (diff (O (iblk m c 0 t) (iblk m c 1 t) (iblk m c 2 t) : Mlp.Arr 512 1024) (iblk m c 3 t) (iblk m c 4 t)) (diff (O (m ((c : Thread nD τ).loc main_arg0)) (m ((c : Thread nD τ).loc main_arg1)) (m ((c : Thread nD τ).loc main_arg2)) : Mlp.Arr 4096 1024) (m ((c : Thread nD τ).loc main_arg3)) (m ((c : Thread nD τ).loc main_arg4))) := by
  obtain ⟨a0, b0, a1, b1, a2, b2, a3, b3, a4, b4, a5, b5, a6, b6, a7, b7⟩ := idx_facts t
  have w3 : iblk m c 3 t = (m ((c : Thread nD τ).loc main_arg3)) := Mlp.whole (e := (win0_3.rect t).emb) (fun _ => rfl)
    ⟨fun z => win0_3.rect_emb_val t z 0, fun z => win0_3.rect_emb_val t z 1⟩ a3 b3
  have r4 : Mlp.Rows t.val (iblk m c 4 t) (m ((c : Thread nD τ).loc main_arg4)) := Mlp.Rows.of_at (e := (win0_4.rect t).emb) (fun _ => rfl)
    ⟨fun z => win0_4.rect_emb_val t z 0, fun z => win0_4.rect_emb_val t z 1⟩ a4 b4
  rw [w3]
  exact rows_diff (blk_O m c t) _ r4

/-- What is computed of the whole arrays. -/
abbrev D : Mlp.Arr 4096 1024 := diff (O (m ((c : Thread nD τ).loc main_arg0)) (m ((c : Thread nD τ).loc main_arg1)) (m ((c : Thread nD τ).loc main_arg2)) : Mlp.Arr 4096 1024) (m ((c : Thread nD τ).loc main_arg3)) (m ((c : Thread nD τ).loc main_arg4))

/-- The gradient by the sum stream, whole. -/
abbrev H : Mlp.Arr 4096 1024 := Mlp.normDx (O (m ((c : Thread nD τ).loc main_arg0)) (m ((c : Thread nD τ).loc main_arg1)) (m ((c : Thread nD τ).loc main_arg2)) : Mlp.Arr 4096 1024) (m ((c : Thread nD τ).loc main_arg3)) (cot (D m c))

/-- The gradient by the norm's scale, whole. -/
abbrev Dg : Mlp.Arr 1 1024 := Mlp.colsum (Mlp.normDg (O (m ((c : Thread nD τ).loc main_arg0)) (m ((c : Thread nD τ).loc main_arg1)) (m ((c : Thread nD τ).loc main_arg2)) : Mlp.Arr 4096 1024) (cot (D m c)))

/-- The loss, whole. -/
abbrev L : Mlp.Arr 1 128 := loss (D m c)

theorem blk_H (t : Fin cfg0.N) : Mlp.Rows t.val (Mlp.normDx (O (iblk m c 0 t) (iblk m c 1 t) (iblk m c 2 t) : Mlp.Arr 512 1024) (iblk m c 3 t) (cot (diff (O (iblk m c 0 t) (iblk m c 1 t) (iblk m c 2 t) : Mlp.Arr 512 1024) (iblk m c 3 t) (iblk m c 4 t)))) (H m c) := by
  obtain ⟨a0, b0, a1, b1, a2, b2, a3, b3, a4, b4, a5, b5, a6, b6, a7, b7⟩ := idx_facts t
  have w3 : iblk m c 3 t = (m ((c : Thread nD τ).loc main_arg3)) := Mlp.whole (e := (win0_3.rect t).emb) (fun _ => rfl)
    ⟨fun z => win0_3.rect_emb_val t z 0, fun z => win0_3.rect_emb_val t z 1⟩ a3 b3
  have hd := rows_cot (blk_diff m c t)
  rw [w3] at hd ⊢
  exact (blk_O m c t).normDx hd _

theorem blk_Dg (t : Fin cfg0.N) : Mlp.Rows t.val (Mlp.normDg (O (iblk m c 0 t) (iblk m c 1 t) (iblk m c 2 t) : Mlp.Arr 512 1024) (cot (diff (O (iblk m c 0 t) (iblk m c 1 t) (iblk m c 2 t) : Mlp.Arr 512 1024) (iblk m c 3 t) (iblk m c 4 t)))) (Mlp.normDg (O (m ((c : Thread nD τ).loc main_arg0)) (m ((c : Thread nD τ).loc main_arg1)) (m ((c : Thread nD τ).loc main_arg2)) : Mlp.Arr 4096 1024) (cot (D m c))) :=
  (blk_O m c t).normDg (rows_cot (blk_diff m c t))

/-! ## The first result, block by block -/

theorem flushed5 (t : Fin cfg0.N) : (dats m 0 c).flushed 5 t = (win0_5.blk t).view.read (Elt Ideal) (H m c) := by
  obtain ⟨a0, b0, a1, b1, a2, b2, a3, b3, a4, b4, a5, b5, a6, b6, a7, b7⟩ := idx_facts t
  by_cases h0 : t.val % 8 = 0
  · rw [Value.flushed5_A m c t h0 h0, out_A_5, pay15_eq]
    funext y
    exact (blk_H m c t).apply (e := (win0_5.rect t).emb) ⟨fun z => win0_5.rect_emb_val t z 0, fun z => win0_5.rect_emb_val t z 1⟩ a5 b5 y
  · rw [Value.flushed5_B m c t h0 h0, out_B_5, pay15_eq]
    funext y
    exact (blk_H m c t).apply (e := (win0_5.rect t).emb) ⟨fun z => win0_5.rect_emb_val t z 0, fun z => win0_5.rect_emb_val t z 1⟩ a5 b5 y

theorem cover5 (i : S4096x1024.Idx) : ∃ t : Fin cfg0.N, (cfg0.win 5).flush t = true ∧ i ∈ ((cfg0.win 5).blk t).view.set := by
  have key : ∀ a : Fin 8, ∃ t : Fin grid0.N, win0_5.index t 0 = a.val ∧ win0_5.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_5 t, ?_⟩
  show i ∈ ((View.whole main_v0_0).slice (win0_5.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final5 : (dats m 0 c).arrAt 5 cfg0.N = H m c :=
  (dats m 0 c).arrAt_eq_of_cover 5 _ (fun t _ => flushed5 m c t) cover5

/-! ## The sums over the points -/

theorem acc6 (n : ℕ) (h : n < cfg0.N) (hn : n + 1 = cfg0.N) : (outsAt0 m c n h).2.1 = Dg m c := by
  have hN : cfg0.N = 8 := N_0
  refine Mlp.colsum_of_blocks (m := 512) (by rw [hN]) (acc := fun n h => (outsAt0 m c n h).2.1) (fun n h => blk_Dg m c ⟨n, h⟩) (fun h => ?_) (fun n h => ?_) n h hn
  · have e := congrArg (fun p => p.2.1) (outsAt0_A m c ⟨0, h⟩ rfl rfl)
    dsimp only at e
    rw [out_A_6, pay1_zero, pay14_eq] at e
    exact e
  · have h1 : ¬(⟨n + 1, h⟩ : Fin cfg0.N).val % 8 = 0 := by dsimp only; omega
    have e := congrArg (fun p => p.2.1) (outsAt0_B m c ⟨n + 1, h⟩ h1 h1)
    dsimp only at e
    rw [out_B_6, pay1_eq, pay14_eq] at e
    exact e

theorem flushed6 (t : Fin cfg0.N) (hf : (cfg0.win 6).flush t = true) :
    (dats m 0 c).flushed 6 t = (win0_6.blk t).view.read (Elt Ideal) (Dg m c) := by
  obtain ⟨a0, b0, a1, b1, a2, b2, a3, b3, a4, b4, a5, b5, a6, b6, a7, b7⟩ := idx_facts t
  have hN : cfg0.N = 8 := N_0
  have hl : t.val + 1 = cfg0.N := by have := (flush0_6 t).mp hf; have := t.isLt; omega
  rw [Value.flushed6, acc6 m c t.val t.isLt hl]
  funext y
  exact congrArg (Dg m c) (Mlp.At.eq (e := (win0_6.rect t).emb) ⟨fun z => win0_6.rect_emb_val t z 0, fun z => win0_6.rect_emb_val t z 1⟩ y
    (by rw [a6]; exact Mlp.tile_zero _ _) (by rw [b6]; exact Mlp.tile_zero _ _)).symm

theorem final6 : (dats m 0 c).arrAt 6 cfg0.N = Dg m c :=
  (dats m 0 c).arrAt_eq_of_cover 6 _ (flushed6 m c) fun i => by
    have key : ∃ t : Fin cfg0.N, t.val = 7 := ⟨⟨7, by rw [show cfg0.N = 8 from N_0]; decide⟩, rfl⟩
    obtain ⟨t, ht⟩ := key
    have h0 : (i 0).val < 1 := (i 0).isLt
    have h1 : (i 1).val < 1024 := (i 1).isLt
    obtain ⟨a0, b0, a1, b1, a2, b2, a3, b3, a4, b4, a5, b5, a6, b6, a7, b7⟩ := idx_facts t
    refine ⟨t, (flush0_6 t).mpr (by rw [ht]), ?_⟩
    show i ∈ ((View.whole main_v0_1).slice (win0_6.rect t)).set
    rw [View.set_slice_whole, Rect.mem_set_unit]
    exact fun a => match a with
      | ⟨0, _⟩ => Mlp.tile_mem (a6.trans (Nat.div_eq_of_lt h0).symm) (Nat.succ_pos _)
      | ⟨1, _⟩ => Mlp.tile_mem (b6.trans (Nat.div_eq_of_lt h1).symm) (Nat.succ_pos _)

theorem acc7 (n : ℕ) (h : n < cfg0.N) (hn : n + 1 = cfg0.N) : (outsAt0 m c n h).2.2 = L m c := by
  have hN : cfg0.N = 8 := N_0
  rw [show L m c = Mlp.colsum (rowLoss (D m c)) from loss_eq _]
  refine Mlp.colsum_of_blocks (m := 512) (by rw [hN]) (acc := fun n h => (outsAt0 m c n h).2.2) (fun n h => rows_loss (blk_diff m c ⟨n, h⟩)) (fun h => ?_) (fun n h => ?_) n h hn
  · have e := congrArg (fun p => p.2.2) (outsAt0_A m c ⟨0, h⟩ rfl rfl)
    dsimp only at e
    rw [out_A_7, pay3_zero, pay16_eq, loss_eq] at e
    exact e
  · have h1 : ¬(⟨n + 1, h⟩ : Fin cfg0.N).val % 8 = 0 := by dsimp only; omega
    have e := congrArg (fun p => p.2.2) (outsAt0_B m c ⟨n + 1, h⟩ h1 h1)
    dsimp only at e
    rw [out_B_7, pay3_eq, pay16_eq, loss_eq] at e
    exact e

theorem flushed7 (t : Fin cfg0.N) (hf : (cfg0.win 7).flush t = true) :
    (dats m 0 c).flushed 7 t = (win0_7.blk t).view.read (Elt Ideal) (L m c) := by
  obtain ⟨a0, b0, a1, b1, a2, b2, a3, b3, a4, b4, a5, b5, a6, b6, a7, b7⟩ := idx_facts t
  have hN : cfg0.N = 8 := N_0
  have hl : t.val + 1 = cfg0.N := by have := (flush0_7 t).mp hf; have := t.isLt; omega
  rw [Value.flushed7, acc7 m c t.val t.isLt hl]
  funext y
  exact congrArg (L m c) (Mlp.At.eq (e := (win0_7.rect t).emb) ⟨fun z => win0_7.rect_emb_val t z 0, fun z => win0_7.rect_emb_val t z 1⟩ y
    (by rw [a7]; exact Mlp.tile_zero _ _) (by rw [b7]; exact Mlp.tile_zero _ _)).symm

theorem final7 : (dats m 0 c).arrAt 7 cfg0.N = L m c :=
  (dats m 0 c).arrAt_eq_of_cover 7 _ (flushed7 m c) fun i => by
    have key : ∃ t : Fin cfg0.N, t.val = 7 := ⟨⟨7, by rw [show cfg0.N = 8 from N_0]; decide⟩, rfl⟩
    obtain ⟨t, ht⟩ := key
    have h0 : (i 0).val < 1 := (i 0).isLt
    have h1 : (i 1).val < 128 := (i 1).isLt
    obtain ⟨a0, b0, a1, b1, a2, b2, a3, b3, a4, b4, a5, b5, a6, b6, a7, b7⟩ := idx_facts t
    refine ⟨t, (flush0_7 t).mpr (by rw [ht]), ?_⟩
    show i ∈ ((View.whole main_v0_2).slice (win0_7.rect t)).set
    rw [View.set_slice_whole, Rect.mem_set_unit]
    exact fun a => match a with
      | ⟨0, _⟩ => Mlp.tile_mem (a7.trans (Nat.div_eq_of_lt h0).symm) (Nat.succ_pos _)
      | ⟨1, _⟩ => Mlp.tile_mem (b7.trans (Nat.div_eq_of_lt h1).symm) (Nat.succ_pos _)

/-! ## The reference -/

section
open Cert.Reference16Ideal.Read
variable (a : FVec Ideal S4096x4096 .bf16) (w : FVec Ideal S4096x1024 .bf16) (h : FVec Ideal S4096x1024 .f32) (g : FVec Ideal S1x1024 .f32) (t : FVec Ideal S4096x1024 .f32)

theorem ref_O : (val_main_v5 (F := Ideal) a w h : Mlp.Arr 4096 1024) = O a w h := by
  funext i
  unfold O Mlp.plus Mlp.nn Mlp.relu2
  pointwise [val_main_v5, val_main_v4, val_main_v3, val_main_v2, val_main_call0_v0, val_main_call0_cst, val_main_v1, val_main_v0]
  exact add_comm _ _

theorem ref_diff : (val_main_v23 (F := Ideal) a w h g t : Mlp.Arr 4096 1024) = diff (O a w h) g t := by
  rw [← ref_O]
  funext i
  unfold diff Mlp.norm Mlp.unitRows Mlp.ms
  pointwise [val_main_v23, val_main_v22, val_main_v21, val_main_v20, val_main_v19, val_main_v18, val_main_v17, val_main_v16, val_main_cst_2, val_main_v15, val_main_v14, val_main_v13, val_main_v12, val_main_cst_1, val_main_v11, val_main_v10, val_main_cst_0, val_main_v9, val_main_v8, val_main_cst, val_main_v7, val_main_v6]

theorem ref_cot : (val_main_v37 (F := Ideal) a w h g t : Mlp.Arr 4096 1024) = cot (diff (O a w h) g t) := by
  rw [← ref_diff]
  funext i
  unfold cot
  pointwise [val_main_v59, val_main_v58, val_main_v57, val_main_v56, val_main_v55, val_main_v54, val_main_v53, val_main_v52, val_main_cst_15, val_main_v51, val_main_v50, val_main_cst_14, val_main_v49, val_main_v48, val_main_v47, val_main_v46, val_main_v45, val_main_cst_13, val_main_v44, val_main_v43, val_main_cst_12, val_main_v42, val_main_v41, val_main_v40, val_main_v39, val_main_cst_11, val_main_v38, val_main_v37, val_main_v36, val_main_v35, val_main_v34, val_main_cst_10, val_main_v33, val_main_v32, val_main_cst_9, val_main_cst_8, val_main_v31, val_main_cst_7, val_main_v30, val_main_cst_6, val_main_v29, val_main_v28, val_main_cst_5, val_main_v27, val_main_cst_4, val_main_v26, val_main_v25, val_main_cst_3, val_main_v24]

theorem ref_H : (val_main_v57 (F := Ideal) a w h g t : Mlp.Arr 4096 1024) = Mlp.normDx (O a w h) g (cot (diff (O a w h) g t)) := by
  rw [← ref_cot, ← ref_O]
  funext i
  unfold Mlp.normDx Mlp.halfMs Mlp.ms
  pointwise [val_main_v59, val_main_v58, val_main_v57, val_main_v56, val_main_v55, val_main_v54, val_main_v53, val_main_v52, val_main_cst_15, val_main_v51, val_main_v50, val_main_cst_14, val_main_v49, val_main_v48, val_main_v47, val_main_v46, val_main_v45, val_main_cst_13, val_main_v44, val_main_v43, val_main_cst_12, val_main_v42, val_main_v41, val_main_v40, val_main_v39, val_main_cst_11, val_main_v38, val_main_v23, val_main_v22, val_main_v21, val_main_v20, val_main_v19, val_main_v18, val_main_v17, val_main_v16, val_main_cst_2, val_main_v15, val_main_v14, val_main_v13, val_main_v12, val_main_cst_1, val_main_v11, val_main_v10, val_main_cst_0, val_main_v9, val_main_v8, val_main_cst, val_main_v7, val_main_v6]
  simp only [Finset.univ_unique, Finset.sum_singleton]

theorem ref_Dg : (val_main_v58 (F := Ideal) a w h g t : Mlp.Arr 1 1024) = Mlp.colsum (Mlp.normDg (O a w h) (cot (diff (O a w h) g t))) := by
  rw [← ref_cot, ← ref_O]
  funext i
  unfold Mlp.colsum Mlp.normDg Mlp.unitRows Mlp.ms
  pointwise [val_main_v59, val_main_v58, val_main_v57, val_main_v56, val_main_v55, val_main_v54, val_main_v53, val_main_v52, val_main_cst_15, val_main_v51, val_main_v50, val_main_cst_14, val_main_v49, val_main_v48, val_main_v47, val_main_v46, val_main_v45, val_main_cst_13, val_main_v44, val_main_v43, val_main_cst_12, val_main_v42, val_main_v41, val_main_v40, val_main_v39, val_main_cst_11, val_main_v38, val_main_v23, val_main_v22, val_main_v21, val_main_v20, val_main_v19, val_main_v18, val_main_v17, val_main_v16, val_main_cst_2, val_main_v15, val_main_v14, val_main_v13, val_main_v12, val_main_cst_1, val_main_v11, val_main_v10, val_main_cst_0, val_main_v9, val_main_v8, val_main_cst, val_main_v7, val_main_v6]
  simp only [Finset.univ_unique, Finset.sum_singleton]

theorem ref_L : (val_main_v59 (F := Ideal) a w h g t : Mlp.Arr 1 128) = loss (diff (O a w h) g t) := by
  rw [← ref_diff]
  funext i
  unfold loss
  pointwise [val_main_v59, val_main_v58, val_main_v57, val_main_v56, val_main_v55, val_main_v54, val_main_v53, val_main_v52, val_main_cst_15, val_main_v51, val_main_v50, val_main_cst_14, val_main_v49, val_main_v48, val_main_v47, val_main_v46, val_main_v45, val_main_cst_13, val_main_v44, val_main_v43, val_main_cst_12, val_main_v42, val_main_v41, val_main_v40, val_main_v39, val_main_cst_11, val_main_v38, val_main_v37, val_main_v36, val_main_v35, val_main_v34, val_main_cst_10, val_main_v33, val_main_v32, val_main_cst_9, val_main_cst_8, val_main_v31, val_main_cst_7, val_main_v30, val_main_cst_6, val_main_v29, val_main_v28, val_main_cst_5, val_main_v27, val_main_cst_4, val_main_v26, val_main_v25, val_main_cst_3, val_main_v24]

end

end Cert.Kernel16Ideal.Down1

end
-- ==== Proof.Mlp.DyQkv.lean ====
/- The gradient of the second layer by its input: the product with the input weight, back through the norm, and the gradient of the norm by its scale. -/
module

public import proofs.«01_k».proof.Proof.Mlp.Rows
public import proofs.«01_k».proof.Proof.Gen.Kernel17Ideal.Value
public import proofs.«01_k».proof.Proof.Gen.Reference17Ideal.Read

@[expose] public section

noncomputable section

namespace Cert.Kernel17Ideal.DyQkv

open Cert.Kernel17Ideal Cert.Kernel17Ideal.Gen Idealize.ShloMosaic Idealize.ShloMosaic.TcCoe Idealize.SL.Sem
open Idealize.ShloMosaic.Pipeline (Dat)

/-- The gradient of the layer's input: the stream's own, and what comes back through the norm. -/
def Dx (dp : FVec Ideal S4096x1280 .bf16) (w : FVec Ideal S1024x1280 .bf16) (h : FVec Ideal S4096x1024 .f32) (g : FVec Ideal S1x1024 .f32)
    (dh : FVec Ideal S4096x1024 .f32) : FVec Ideal S4096x1024 .f32 :=
  Mlp.plus dh (Mlp.normDx h g (Mlp.nt dp w))

/-- The gradient of the norm's scale. -/
def Dg (dp : FVec Ideal S4096x1280 .bf16) (w : FVec Ideal S1024x1280 .bf16) (h : FVec Ideal S4096x1024 .f32) : FVec Ideal S1x1024 .f32 :=
  Mlp.colsum (Mlp.normDg h (Mlp.nt dp w))

/-! ## One block -/

theorem pay3_eq (x0 : FVec Ideal S512x1280 .bf16) (x1 : FVec Ideal S1024x1280 .bf16) : (k0_pay3 (F := Ideal) x0 x1 : Mlp.Arr 512 1024) = Mlp.nt x0 x1 := by
  funext y
  unfold Mlp.nt
  pointwise [k0_pay3]

theorem pay4_apply (x2 : FVec Ideal S512x1024 .f32) (y : S512x1.Idx) : (k0_pay4 (F := Ideal) x2 y : EReal) = Mlp.ms x2 (y 0) := by
  unfold Mlp.ms
  pointwise [k0_pay4]

theorem pay6_eq (x0 : FVec Ideal S512x1280 .bf16) (x1 : FVec Ideal S1024x1280 .bf16) (x2 : FVec Ideal S512x1024 .f32) :
    (k0_pay6 (F := Ideal) x0 x1 x2 : Mlp.Arr 1 1024) = Mlp.colsum (Mlp.normDg x2 (Mlp.nt x0 x1)) := by
  rw [← pay3_eq]
  funext y
  refine Eq.trans (b := ∑ r : Fin 512, (x2 (ix2 r (y 1)) * Ideal.rsqrt (k0_pay4 (F := Ideal) x2 (ix2 r 0)) * k0_pay3 (F := Ideal) x0 x1 (ix2 r (y 1)) : EReal)) ?_ ?_
  · pointwise [k0_pay6, k0_pay5]
  · simp only [pay4_apply]
    rfl

theorem pay7_eq (x0 : FVec Ideal S512x1280 .bf16) (x1 : FVec Ideal S1024x1280 .bf16) (x2 : FVec Ideal S512x1024 .f32) (x3 : FVec Ideal S1x1024 .f32) (x4 : FVec Ideal S512x1024 .f32) :
    (k0_pay7 (F := Ideal) x0 x1 x2 x3 x4 : Mlp.Arr 512 1024) = Mlp.plus x4 (Mlp.normDx x2 x3 (Mlp.nt x0 x1)) := by
  rw [← pay3_eq]
  funext y
  unfold Mlp.plus Mlp.normDx Mlp.halfMs
  pointwise [k0_pay7, k0_pay5]
  simp only [Finset.univ_unique, Finset.sum_singleton, pay4_apply]
  rfl

theorem pay2_eq (x old : FVec Ideal S1x1024 .f32) : (k0_pay2 (F := Ideal) x old : Mlp.Arr 1 1024) = Mlp.plus old x := by
  funext y
  unfold Mlp.plus
  pointwise [k0_pay2]

theorem pay2_zero (x : FVec Ideal S1x1024 .f32) : (k0_pay2 (F := Ideal) x (k0_pay1 (F := Ideal)) : Mlp.Arr 1 1024) = x := by
  funext y
  pointwise [k0_pay2, k0_pay1]

section
variable (c : Dev nD) (i : grid0.Coords) (a1 : Memref sig .tc .vmem S512x1280 .bf16) (h1 : a1.IsWhole) (a2 : Memref sig .tc .vmem S1024x1280 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole)
  (x0 : FVec Ideal S512x1280 .bf16) (x1 : FVec Ideal S1024x1280 .bf16) (x2 : FVec Ideal S512x1024 .f32) (x3 : FVec Ideal S1x1024 .f32) (x4 : FVec Ideal S512x1024 .f32) (old : FVec Ideal S1x1024 .f32)

theorem out_A_5 (hc : cond0_0 i) : out0_A_5 (F := Ideal) c i a1 h1 a2 h2 a3 h3 a4 h4 a5 h5 a6 h6 a7 h7 hc x0 x1 x2 x3 x4 = k0_pay7 (F := Ideal) x0 x1 x2 x3 x4 := by
  unfold out0_A_5
  rw [View.read_writes_eq_canon _ _ _ (cover0_A_5 (F := Ideal) c i a1 h1 a2 h2 a3 h3 a4 h4 a5 h5 a6 h6 a7 h7 hc x0 x1 x2 x3 x4)]
  unfold kernelRun0_A
  dsimp only
  sl_unfold_words
  rw [View.canon_unit_zero Mlp.zero2]
  simp only [View.readAt_eq_ld, h1.read_unread, h2.read_unread, h3.read_unread, h4.read_unread, h5.read_unread, h6.read_unread, h7.read_unread, View.ld_unit_zero (S := S512x1280) Mlp.zero2, View.ld_unit_zero (S := S1024x1280) Mlp.zero2, View.ld_unit_zero (S := S512x1024) Mlp.zero2, View.ld_unit_zero (S := S1x1024) Mlp.zero2]

theorem out_A_6 (hc : cond0_0 i) : out0_A_6 (F := Ideal) c i a1 h1 a2 h2 a3 h3 a4 h4 a5 h5 a6 h6 a7 h7 hc x0 x1 x2 x3 x4 = k0_pay2 (F := Ideal) (k0_pay6 x0 x1 x2) (k0_pay1 (F := Ideal)) := by
  unfold out0_A_6
  rw [View.read_writes_eq_canon _ _ _ (cover0_A_6 (F := Ideal) c i a1 h1 a2 h2 a3 h3 a4 h4 a5 h5 a6 h6 a7 h7 hc x0 x1 x2 x3 x4)]
  unfold kernelRun0_A
  dsimp only
  sl_unfold_words
  rw [View.canon_cons_unit_zero (S := S1x1024) Mlp.zero2, View.readCov_unit_zero (S := S1x1024) _ Mlp.zero2]
  simp only [View.readAt_eq_ld, h1.read_unread, h2.read_unread, h3.read_unread, h4.read_unread, h5.read_unread, h6.read_unread, h7.read_unread, View.ld_unit_zero (S := S512x1280) Mlp.zero2, View.ld_unit_zero (S := S1024x1280) Mlp.zero2, View.ld_unit_zero (S := S512x1024) Mlp.zero2, View.ld_unit_zero (S := S1x1024) Mlp.zero2]

theorem out_B_5 (hc : ¬cond0_0 i) : out0_B_5 (F := Ideal) c i a1 h1 a2 h2 a3 h3 a4 h4 a5 h5 a6 h6 a7 h7 hc x0 x1 x2 x3 x4 old = k0_pay7 (F := Ideal) x0 x1 x2 x3 x4 := by
  unfold out0_B_5
  rw [View.read_writes_eq_canon _ _ _ (cover0_B_5 (F := Ideal) c i a1 h1 a2 h2 a3 h3 a4 h4 a5 h5 a6 h6 a7 h7 hc x0 x1 x2 x3 x4 old)]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, View.ld_unit_zero (S := S512x1280) Mlp.zero2, View.ld_unit_zero (S := S1024x1280) Mlp.zero2, View.ld_unit_zero (S := S512x1024) Mlp.zero2, View.ld_unit_zero (S := S1x1024) Mlp.zero2]

theorem out_B_6 (hc : ¬cond0_0 i) : out0_B_6 (F := Ideal) c i a1 h1 a2 h2 a3 h3 a4 h4 a5 h5 a6 h6 a7 h7 hc x0 x1 x2 x3 x4 old = k0_pay2 (F := Ideal) (k0_pay6 x0 x1 x2) old := by
  unfold out0_B_6
  rw [View.read_writes_eq_canon _ _ _ (cover0_B_6 (F := Ideal) c i a1 h1 a2 h2 a3 h3 a4 h4 a5 h5 a6 h6 a7 h7 hc x0 x1 x2 x3 x4 old)]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, View.ld_unit_zero (S := S512x1280) Mlp.zero2, View.ld_unit_zero (S := S1024x1280) Mlp.zero2, View.ld_unit_zero (S := S512x1024) Mlp.zero2, View.ld_unit_zero (S := S1x1024) Mlp.zero2]

end

/-! ## The blocks of the arrays -/

variable (m : (ℓ : Loc nD τ sig) → Buf (Elt Ideal) ℓ) (c : Dev nD)

/-- Point `t` takes block `t` of the rows; the other operands are whole. -/
theorem idx_facts : ∀ t : Fin cfg0.N, win0_0.index t 0 = t.val ∧ win0_0.index t 1 = 0 ∧ win0_1.index t 0 = 0 ∧ win0_1.index t 1 = 0 ∧
    win0_2.index t 0 = t.val ∧ win0_2.index t 1 = 0 ∧ win0_3.index t 0 = 0 ∧ win0_3.index t 1 = 0 ∧
    win0_4.index t 0 = t.val ∧ win0_4.index t 1 = 0 ∧ win0_5.index t 0 = t.val ∧ win0_5.index t 1 = 0 ∧
    win0_6.index t 0 = 0 ∧ win0_6.index t 1 = 0 :=
  (by decide +kernel : ∀ t : Fin grid0.N, _)

theorem rows_Dx (t : Fin cfg0.N) : Mlp.Rows t.val (k0_pay7 (F := Ideal) (iblk m c 0 t) (iblk m c 1 t) (iblk m c 2 t) (iblk m c 3 t) (iblk m c 4 t))
    (Dx (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨a0, b0, a1, b1, a2, b2, a3, b3, a4, b4, a5, b5, a6, b6⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  have w3 : iblk m c 3 t = (m ((c : Thread nD τ).loc main_arg3)) := Mlp.whole (e := (win0_3.rect t).emb) (fun _ => rfl)
    ⟨fun z => win0_3.rect_emb_val t z 0, fun z => win0_3.rect_emb_val t z 1⟩ a3 b3
  have r4 : Mlp.Rows t.val (iblk m c 4 t) (m ((c : Thread nD τ).loc main_arg4)) := Mlp.Rows.of_at (e := (win0_4.rect t).emb) (fun _ => rfl)
    ⟨fun z => win0_4.rect_emb_val t z 0, fun z => win0_4.rect_emb_val t z 1⟩ a4 b4
  rw [pay7_eq, w1, w3]
  exact r4.plus (r2.normDx (r0.nt _) _)

theorem rows_Dg (t : Fin cfg0.N) : Mlp.Rows t.val (Mlp.normDg (iblk m c 2 t : Mlp.Arr 512 1024) (Mlp.nt (iblk m c 0 t : Mlp.Arr 512 1280) (iblk m c 1 t : Mlp.Arr 1024 1280)))
    (Mlp.normDg (m ((c : Thread nD τ).loc main_arg2) : Mlp.Arr 4096 1024) (Mlp.nt (m ((c : Thread nD τ).loc main_arg0) : Mlp.Arr 4096 1280) (m ((c : Thread nD τ).loc main_arg1) : Mlp.Arr 1024 1280))) := by
  obtain ⟨a0, b0, a1, b1, a2, b2, a3, b3, a4, b4, a5, b5, a6, b6⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  rw [w1]
  exact r2.normDg (r0.nt _)

/-! ## The first result, block by block -/

theorem flushed5 (t : Fin cfg0.N) : (dats m 0 c).flushed 5 t = (win0_5.blk t).view.read (Elt Ideal) (Dx (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨a0, b0, a1, b1, a2, b2, a3, b3, a4, b4, a5, b5, a6, b6⟩ := idx_facts t
  by_cases h0 : t.val % 8 = 0
  · rw [Value.flushed5_A m c t h0, out_A_5]
    funext y
    exact (rows_Dx m c t).apply (e := (win0_5.rect t).emb) ⟨fun z => win0_5.rect_emb_val t z 0, fun z => win0_5.rect_emb_val t z 1⟩ a5 b5 y
  · rw [Value.flushed5_B m c t h0, out_B_5]
    funext y
    exact (rows_Dx m c t).apply (e := (win0_5.rect t).emb) ⟨fun z => win0_5.rect_emb_val t z 0, fun z => win0_5.rect_emb_val t z 1⟩ a5 b5 y

theorem cover5 (i : S4096x1024.Idx) : ∃ t : Fin cfg0.N, (cfg0.win 5).flush t = true ∧ i ∈ ((cfg0.win 5).blk t).view.set := by
  have key : ∀ a : Fin 8, ∃ t : Fin grid0.N, win0_5.index t 0 = a.val ∧ win0_5.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_5 t, ?_⟩
  show i ∈ ((View.whole main_v0_0).slice (win0_5.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final5 : (dats m 0 c).arrAt 5 cfg0.N = Dx (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5 m c t) cover5

/-! ## The second result, summed over the points -/

theorem acc (n : ℕ) (h : n < cfg0.N) (hn : n + 1 = cfg0.N) : (outsAt0 m c n h).2 = Dg (m ((c : Thread nD τ).loc main_arg0)) (m ((c : Thread nD τ).loc main_arg1)) (m ((c : Thread nD τ).loc main_arg2)) := by
  have hN : cfg0.N = 8 := N_0
  refine Mlp.colsum_of_blocks (m := 512) (by rw [hN]) (acc := fun n h => (outsAt0 m c n h).2) (fun n h => rows_Dg m c ⟨n, h⟩) (fun h => ?_) (fun n h => ?_) n h hn
  · have e := congrArg Prod.snd (outsAt0_A m c ⟨0, h⟩ rfl)
    rw [out_A_6, pay2_zero, pay6_eq] at e
    exact e
  · have h1 : ¬(⟨n + 1, h⟩ : Fin cfg0.N).val % 8 = 0 := by dsimp only; omega
    have e := congrArg Prod.snd (outsAt0_B m c ⟨n + 1, h⟩ h1)
    rw [out_B_6, pay2_eq, pay6_eq] at e
    exact e

theorem flushed6 (t : Fin cfg0.N) (hf : (cfg0.win 6).flush t = true) :
    (dats m 0 c).flushed 6 t = (win0_6.blk t).view.read (Elt Ideal) (Dg (m ((c : Thread nD τ).loc main_arg0)) (m ((c : Thread nD τ).loc main_arg1)) (m ((c : Thread nD τ).loc main_arg2))) := by
  obtain ⟨a0, b0, a1, b1, a2, b2, a3, b3, a4, b4, a5, b5, a6, b6⟩ := idx_facts t
  have hN : cfg0.N = 8 := N_0
  have h7 : t.val + 1 = cfg0.N := by have := (flush0_6 t).mp hf; have := t.isLt; omega
  rw [Value.flushed6, acc m c t.val t.isLt h7]
  funext y
  exact congrArg (Dg (m ((c : Thread nD τ).loc main_arg0)) (m ((c : Thread nD τ).loc main_arg1)) (m ((c : Thread nD τ).loc main_arg2))) (Mlp.At.eq (e := (win0_6.rect t).emb) ⟨fun z => win0_6.rect_emb_val t z 0, fun z => win0_6.rect_emb_val t z 1⟩ y
    (by rw [a6]; exact Mlp.tile_zero _ _) (by rw [b6]; exact Mlp.tile_zero _ _)).symm

theorem final6 : (dats m 0 c).arrAt 6 cfg0.N = Dg (m ((c : Thread nD τ).loc main_arg0)) (m ((c : Thread nD τ).loc main_arg1)) (m ((c : Thread nD τ).loc main_arg2)) :=
  (dats m 0 c).arrAt_eq_of_cover 6 _ (flushed6 m c) fun i => by
    have key : ∃ t : Fin cfg0.N, t.val = 7 := ⟨⟨7, by rw [show cfg0.N = 8 from N_0]; decide⟩, rfl⟩
    obtain ⟨t, ht⟩ := key
    have h0 : (i 0).val < 1 := (i 0).isLt
    have h1 : (i 1).val < 1024 := (i 1).isLt
    obtain ⟨a0, b0, a1, b1, a2, b2, a3, b3, a4, b4, a5, b5, a6, b6⟩ := idx_facts t
    refine ⟨t, (flush0_6 t).mpr (by rw [ht]), ?_⟩
    show i ∈ ((View.whole main_v0_1).slice (win0_6.rect t)).set
    rw [View.set_slice_whole, Rect.mem_set_unit]
    exact fun a => match a with
      | ⟨0, _⟩ => Mlp.tile_mem (a6.trans (Nat.div_eq_of_lt h0).symm) (Nat.succ_pos _)
      | ⟨1, _⟩ => Mlp.tile_mem (b6.trans (Nat.div_eq_of_lt h1).symm) (Nat.succ_pos _)

/-! ## The reference -/

open Cert.Reference17Ideal.Read in
theorem ref_Dx (dp : FVec Ideal S4096x1280 .bf16) (w : FVec Ideal S1024x1280 .bf16) (h : FVec Ideal S4096x1024 .f32) (g : FVec Ideal S1x1024 .f32) (dh : FVec Ideal S4096x1024 .f32) :
    val_main_v43 (F := Ideal) dp w h g dh = Dx dp w h g dh := by
  funext i
  unfold Dx Mlp.plus Mlp.normDx Mlp.halfMs Mlp.ms Mlp.nt
  pointwise [val_main_v43, val_main_v42, val_main_v41, val_main_v40, val_main_v39, val_main_v38, val_main_v37, val_main_v36, val_main_cst_8, val_main_v35, val_main_v34, val_main_cst_7, val_main_v33, val_main_v32, val_main_v31, val_main_v30, val_main_v29, val_main_cst_6, val_main_v28, val_main_v27, val_main_cst_5, val_main_v26, val_main_v25, val_main_v24, val_main_v23, val_main_cst_4, val_main_v22, val_main_v21, val_main_v20, val_main_v19, val_main_v18, val_main_v17, val_main_v16, val_main_v15, val_main_cst_3, val_main_v14, val_main_v13, val_main_v12, val_main_v11, val_main_cst_2, val_main_v10, val_main_v9, val_main_cst_1, val_main_v8, val_main_v7, val_main_cst_0, val_main_v6, val_main_v5, val_main_v4, val_main_v3, val_main_v2, val_main_v1, val_main_v0, val_main_cst]
  simp only [Finset.univ_unique, Finset.sum_singleton]

open Cert.Reference17Ideal.Read in
theorem ref_Dg (dp : FVec Ideal S4096x1280 .bf16) (w : FVec Ideal S1024x1280 .bf16) (h : FVec Ideal S4096x1024 .f32) :
    val_main_v42 (F := Ideal) dp w h = Dg dp w h := by
  funext i
  unfold Dg Mlp.colsum Mlp.normDg Mlp.unitRows Mlp.ms Mlp.nt
  pointwise [val_main_v43, val_main_v42, val_main_v41, val_main_v40, val_main_v39, val_main_v38, val_main_v37, val_main_v36, val_main_cst_8, val_main_v35, val_main_v34, val_main_cst_7, val_main_v33, val_main_v32, val_main_v31, val_main_v30, val_main_v29, val_main_cst_6, val_main_v28, val_main_v27, val_main_cst_5, val_main_v26, val_main_v25, val_main_v24, val_main_v23, val_main_cst_4, val_main_v22, val_main_v21, val_main_v20, val_main_v19, val_main_v18, val_main_v17, val_main_v16, val_main_v15, val_main_cst_3, val_main_v14, val_main_v13, val_main_v12, val_main_v11, val_main_cst_2, val_main_v10, val_main_v9, val_main_cst_1, val_main_v8, val_main_v7, val_main_cst_0, val_main_v6, val_main_v5, val_main_v4, val_main_v3, val_main_v2, val_main_v1, val_main_v0, val_main_cst]
  simp only [Finset.univ_unique, Finset.sum_singleton]

end Cert.Kernel17Ideal.DyQkv

end
-- ==== Proof.Mlp.DyIn.lean ====
/- The gradient of the first layer by its input: the product with the input weight, back through the norm, and the gradient of the norm by its scale. -/
module

public import proofs.«01_k».proof.Proof.Mlp.Rows
public import proofs.«01_k».proof.Proof.Gen.Kernel18Ideal.Value
public import proofs.«01_k».proof.Proof.Gen.Reference18Ideal.Read

@[expose] public section

noncomputable section

namespace Cert.Kernel18Ideal.DyIn

open Cert.Kernel18Ideal Cert.Kernel18Ideal.Gen Idealize.ShloMosaic Idealize.ShloMosaic.TcCoe Idealize.SL.Sem
open Idealize.ShloMosaic.Pipeline (Dat)

/-- The gradient of the layer's input: the stream's own, and what comes back through the norm. -/
def Dx (dp : FVec Ideal S4096x5376 .bf16) (w : FVec Ideal S1024x5376 .bf16) (h : FVec Ideal S4096x1024 .f32) (g : FVec Ideal S1x1024 .f32)
    (dh : FVec Ideal S4096x1024 .f32) : FVec Ideal S4096x1024 .f32 :=
  Mlp.plus dh (Mlp.normDx h g (Mlp.nt dp w))

/-- The gradient of the norm's scale. -/
def Dg (dp : FVec Ideal S4096x5376 .bf16) (w : FVec Ideal S1024x5376 .bf16) (h : FVec Ideal S4096x1024 .f32) : FVec Ideal S1x1024 .f32 :=
  Mlp.colsum (Mlp.normDg h (Mlp.nt dp w))

/-! ## One block -/

theorem pay3_eq (x0 : FVec Ideal S256x5376 .bf16) (x1 : FVec Ideal S1024x5376 .bf16) : (k0_pay3 (F := Ideal) x0 x1 : Mlp.Arr 256 1024) = Mlp.nt x0 x1 := by
  funext y
  unfold Mlp.nt
  pointwise [k0_pay3]

theorem pay4_apply (x2 : FVec Ideal S256x1024 .f32) (y : S256x1.Idx) : (k0_pay4 (F := Ideal) x2 y : EReal) = Mlp.ms x2 (y 0) := by
  unfold Mlp.ms
  pointwise [k0_pay4]

theorem pay6_eq (x0 : FVec Ideal S256x5376 .bf16) (x1 : FVec Ideal S1024x5376 .bf16) (x2 : FVec Ideal S256x1024 .f32) :
    (k0_pay6 (F := Ideal) x0 x1 x2 : Mlp.Arr 1 1024) = Mlp.colsum (Mlp.normDg x2 (Mlp.nt x0 x1)) := by
  rw [← pay3_eq]
  funext y
  refine Eq.trans (b := ∑ r : Fin 256, (x2 (ix2 r (y 1)) * Ideal.rsqrt (k0_pay4 (F := Ideal) x2 (ix2 r 0)) * k0_pay3 (F := Ideal) x0 x1 (ix2 r (y 1)) : EReal)) ?_ ?_
  · pointwise [k0_pay6, k0_pay5]
  · simp only [pay4_apply]
    rfl

theorem pay7_eq (x0 : FVec Ideal S256x5376 .bf16) (x1 : FVec Ideal S1024x5376 .bf16) (x2 : FVec Ideal S256x1024 .f32) (x3 : FVec Ideal S1x1024 .f32) (x4 : FVec Ideal S256x1024 .f32) :
    (k0_pay7 (F := Ideal) x0 x1 x2 x3 x4 : Mlp.Arr 256 1024) = Mlp.plus x4 (Mlp.normDx x2 x3 (Mlp.nt x0 x1)) := by
  rw [← pay3_eq]
  funext y
  unfold Mlp.plus Mlp.normDx Mlp.halfMs
  pointwise [k0_pay7, k0_pay5]
  simp only [Finset.univ_unique, Finset.sum_singleton, pay4_apply]
  rfl

theorem pay2_eq (x old : FVec Ideal S1x1024 .f32) : (k0_pay2 (F := Ideal) x old : Mlp.Arr 1 1024) = Mlp.plus old x := by
  funext y
  unfold Mlp.plus
  pointwise [k0_pay2]

theorem pay2_zero (x : FVec Ideal S1x1024 .f32) : (k0_pay2 (F := Ideal) x (k0_pay1 (F := Ideal)) : Mlp.Arr 1 1024) = x := by
  funext y
  pointwise [k0_pay2, k0_pay1]

section
variable (c : Dev nD) (i : grid0.Coords) (a1 : Memref sig .tc .vmem S256x5376 .bf16) (h1 : a1.IsWhole) (a2 : Memref sig .tc .vmem S1024x5376 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole)
  (x0 : FVec Ideal S256x5376 .bf16) (x1 : FVec Ideal S1024x5376 .bf16) (x2 : FVec Ideal S256x1024 .f32) (x3 : FVec Ideal S1x1024 .f32) (x4 : FVec Ideal S256x1024 .f32) (old : FVec Ideal S1x1024 .f32)

theorem out_A_5 (hc : cond0_0 i) : out0_A_5 (F := Ideal) c i a1 h1 a2 h2 a3 h3 a4 h4 a5 h5 a6 h6 a7 h7 hc x0 x1 x2 x3 x4 = k0_pay7 (F := Ideal) x0 x1 x2 x3 x4 := by
  unfold out0_A_5
  rw [View.read_writes_eq_canon _ _ _ (cover0_A_5 (F := Ideal) c i a1 h1 a2 h2 a3 h3 a4 h4 a5 h5 a6 h6 a7 h7 hc x0 x1 x2 x3 x4)]
  unfold kernelRun0_A
  dsimp only
  sl_unfold_words
  rw [View.canon_unit_zero Mlp.zero2]
  simp only [View.readAt_eq_ld, h1.read_unread, h2.read_unread, h3.read_unread, h4.read_unread, h5.read_unread, h6.read_unread, h7.read_unread, View.ld_unit_zero (S := S256x5376) Mlp.zero2, View.ld_unit_zero (S := S1024x5376) Mlp.zero2, View.ld_unit_zero (S := S256x1024) Mlp.zero2, View.ld_unit_zero (S := S1x1024) Mlp.zero2]

theorem out_A_6 (hc : cond0_0 i) : out0_A_6 (F := Ideal) c i a1 h1 a2 h2 a3 h3 a4 h4 a5 h5 a6 h6 a7 h7 hc x0 x1 x2 x3 x4 = k0_pay2 (F := Ideal) (k0_pay6 x0 x1 x2) (k0_pay1 (F := Ideal)) := by
  unfold out0_A_6
  rw [View.read_writes_eq_canon _ _ _ (cover0_A_6 (F := Ideal) c i a1 h1 a2 h2 a3 h3 a4 h4 a5 h5 a6 h6 a7 h7 hc x0 x1 x2 x3 x4)]
  unfold kernelRun0_A
  dsimp only
  sl_unfold_words
  rw [View.canon_cons_unit_zero (S := S1x1024) Mlp.zero2, View.readCov_unit_zero (S := S1x1024) _ Mlp.zero2]
  simp only [View.readAt_eq_ld, h1.read_unread, h2.read_unread, h3.read_unread, h4.read_unread, h5.read_unread, h6.read_unread, h7.read_unread, View.ld_unit_zero (S := S256x5376) Mlp.zero2, View.ld_unit_zero (S := S1024x5376) Mlp.zero2, View.ld_unit_zero (S := S256x1024) Mlp.zero2, View.ld_unit_zero (S := S1x1024) Mlp.zero2]

theorem out_B_5 (hc : ¬cond0_0 i) : out0_B_5 (F := Ideal) c i a1 h1 a2 h2 a3 h3 a4 h4 a5 h5 a6 h6 a7 h7 hc x0 x1 x2 x3 x4 old = k0_pay7 (F := Ideal) x0 x1 x2 x3 x4 := by
  unfold out0_B_5
  rw [View.read_writes_eq_canon _ _ _ (cover0_B_5 (F := Ideal) c i a1 h1 a2 h2 a3 h3 a4 h4 a5 h5 a6 h6 a7 h7 hc x0 x1 x2 x3 x4 old)]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, View.ld_unit_zero (S := S256x5376) Mlp.zero2, View.ld_unit_zero (S := S1024x5376) Mlp.zero2, View.ld_unit_zero (S := S256x1024) Mlp.zero2, View.ld_unit_zero (S := S1x1024) Mlp.zero2]

theorem out_B_6 (hc : ¬cond0_0 i) : out0_B_6 (F := Ideal) c i a1 h1 a2 h2 a3 h3 a4 h4 a5 h5 a6 h6 a7 h7 hc x0 x1 x2 x3 x4 old = k0_pay2 (F := Ideal) (k0_pay6 x0 x1 x2) old := by
  unfold out0_B_6
  rw [View.read_writes_eq_canon _ _ _ (cover0_B_6 (F := Ideal) c i a1 h1 a2 h2 a3 h3 a4 h4 a5 h5 a6 h6 a7 h7 hc x0 x1 x2 x3 x4 old)]
  unfold kernelRun0_B
  dsimp only
  sl_unfold_words
  rw [View.canon_unit_zero Mlp.zero2]
  simp only [View.readAt_eq_ld, h1.read_unread, h2.read_unread, h3.read_unread, h4.read_unread, h5.read_unread, h6.read_unread, h7.read_unread, View.ld_unit_zero (S := S256x5376) Mlp.zero2, View.ld_unit_zero (S := S1024x5376) Mlp.zero2, View.ld_unit_zero (S := S256x1024) Mlp.zero2, View.ld_unit_zero (S := S1x1024) Mlp.zero2]

end

/-! ## The blocks of the arrays -/

variable (m : (ℓ : Loc nD τ sig) → Buf (Elt Ideal) ℓ) (c : Dev nD)

/-- Point `t` takes block `t` of the rows; the other operands are whole. -/
theorem idx_facts : ∀ t : Fin cfg0.N, win0_0.index t 0 = t.val ∧ win0_0.index t 1 = 0 ∧ win0_1.index t 0 = 0 ∧ win0_1.index t 1 = 0 ∧
    win0_2.index t 0 = t.val ∧ win0_2.index t 1 = 0 ∧ win0_3.index t 0 = 0 ∧ win0_3.index t 1 = 0 ∧
    win0_4.index t 0 = t.val ∧ win0_4.index t 1 = 0 ∧ win0_5.index t 0 = t.val ∧ win0_5.index t 1 = 0 ∧
    win0_6.index t 0 = 0 ∧ win0_6.index t 1 = 0 :=
  (by decide +kernel : ∀ t : Fin grid0.N, _)

theorem rows_Dx (t : Fin cfg0.N) : Mlp.Rows t.val (k0_pay7 (F := Ideal) (iblk m c 0 t) (iblk m c 1 t) (iblk m c 2 t) (iblk m c 3 t) (iblk m c 4 t))
    (Dx (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨a0, b0, a1, b1, a2, b2, a3, b3, a4, b4, a5, b5, a6, b6⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  have w3 : iblk m c 3 t = (m ((c : Thread nD τ).loc main_arg3)) := Mlp.whole (e := (win0_3.rect t).emb) (fun _ => rfl)
    ⟨fun z => win0_3.rect_emb_val t z 0, fun z => win0_3.rect_emb_val t z 1⟩ a3 b3
  have r4 : Mlp.Rows t.val (iblk m c 4 t) (m ((c : Thread nD τ).loc main_arg4)) := Mlp.Rows.of_at (e := (win0_4.rect t).emb) (fun _ => rfl)
    ⟨fun z => win0_4.rect_emb_val t z 0, fun z => win0_4.rect_emb_val t z 1⟩ a4 b4
  rw [pay7_eq, w1, w3]
  exact r4.plus (r2.normDx (r0.nt _) _)

theorem rows_Dg (t : Fin cfg0.N) : Mlp.Rows t.val (Mlp.normDg (iblk m c 2 t : Mlp.Arr 256 1024) (Mlp.nt (iblk m c 0 t : Mlp.Arr 256 5376) (iblk m c 1 t : Mlp.Arr 1024 5376)))
    (Mlp.normDg (m ((c : Thread nD τ).loc main_arg2) : Mlp.Arr 4096 1024) (Mlp.nt (m ((c : Thread nD τ).loc main_arg0) : Mlp.Arr 4096 5376) (m ((c : Thread nD τ).loc main_arg1) : Mlp.Arr 1024 5376))) := by
  obtain ⟨a0, b0, a1, b1, a2, b2, a3, b3, a4, b4, a5, b5, a6, b6⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  rw [w1]
  exact r2.normDg (r0.nt _)

/-! ## The first result, block by block -/

theorem flushed5 (t : Fin cfg0.N) : (dats m 0 c).flushed 5 t = (win0_5.blk t).view.read (Elt Ideal) (Dx (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨a0, b0, a1, b1, a2, b2, a3, b3, a4, b4, a5, b5, a6, b6⟩ := idx_facts t
  by_cases h0 : t.val % 16 = 0
  · rw [Value.flushed5_A m c t h0, out_A_5]
    funext y
    exact (rows_Dx m c t).apply (e := (win0_5.rect t).emb) ⟨fun z => win0_5.rect_emb_val t z 0, fun z => win0_5.rect_emb_val t z 1⟩ a5 b5 y
  · rw [Value.flushed5_B m c t h0, out_B_5]
    funext y
    exact (rows_Dx m c t).apply (e := (win0_5.rect t).emb) ⟨fun z => win0_5.rect_emb_val t z 0, fun z => win0_5.rect_emb_val t z 1⟩ a5 b5 y

theorem cover5 (i : S4096x1024.Idx) : ∃ t : Fin cfg0.N, (cfg0.win 5).flush t = true ∧ i ∈ ((cfg0.win 5).blk t).view.set := by
  have key : ∀ a : Fin 16, ∃ t : Fin grid0.N, win0_5.index t 0 = a.val ∧ win0_5.index t 1 = 0 := by decide +kernel
  have h0 : (i 0).val < 4096 := (i 0).isLt
  have h1 : (i 1).val < 1024 := (i 1).isLt
  obtain ⟨t, ha, hb⟩ := key ⟨(i 0).val / 256, by omega⟩
  refine ⟨t, flush0_5 t, ?_⟩
  show i ∈ ((View.whole main_v0_0).slice (win0_5.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final5 : (dats m 0 c).arrAt 5 cfg0.N = Dx (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5 m c t) cover5

/-! ## The second result, summed over the points -/

theorem acc (n : ℕ) (h : n < cfg0.N) (hn : n + 1 = cfg0.N) : (outsAt0 m c n h).2 = Dg (m ((c : Thread nD τ).loc main_arg0)) (m ((c : Thread nD τ).loc main_arg1)) (m ((c : Thread nD τ).loc main_arg2)) := by
  have hN : cfg0.N = 16 := N_0
  refine Mlp.colsum_of_blocks (m := 256) (by rw [hN]) (acc := fun n h => (outsAt0 m c n h).2) (fun n h => rows_Dg m c ⟨n, h⟩) (fun h => ?_) (fun n h => ?_) n h hn
  · have e := congrArg Prod.snd (outsAt0_A m c ⟨0, h⟩ rfl)
    rw [out_A_6, pay2_zero, pay6_eq] at e
    exact e
  · have h1 : ¬(⟨n + 1, h⟩ : Fin cfg0.N).val % 16 = 0 := by dsimp only; omega
    have e := congrArg Prod.snd (outsAt0_B m c ⟨n + 1, h⟩ h1)
    rw [out_B_6, pay2_eq, pay6_eq] at e
    exact e

theorem flushed6 (t : Fin cfg0.N) (hf : (cfg0.win 6).flush t = true) :
    (dats m 0 c).flushed 6 t = (win0_6.blk t).view.read (Elt Ideal) (Dg (m ((c : Thread nD τ).loc main_arg0)) (m ((c : Thread nD τ).loc main_arg1)) (m ((c : Thread nD τ).loc main_arg2))) := by
  obtain ⟨a0, b0, a1, b1, a2, b2, a3, b3, a4, b4, a5, b5, a6, b6⟩ := idx_facts t
  have hN : cfg0.N = 16 := N_0
  have h7 : t.val + 1 = cfg0.N := by have := (flush0_6 t).mp hf; have := t.isLt; omega
  rw [Value.flushed6, acc m c t.val t.isLt h7]
  funext y
  exact congrArg (Dg (m ((c : Thread nD τ).loc main_arg0)) (m ((c : Thread nD τ).loc main_arg1)) (m ((c : Thread nD τ).loc main_arg2))) (Mlp.At.eq (e := (win0_6.rect t).emb) ⟨fun z => win0_6.rect_emb_val t z 0, fun z => win0_6.rect_emb_val t z 1⟩ y
    (by rw [a6]; exact Mlp.tile_zero _ _) (by rw [b6]; exact Mlp.tile_zero _ _)).symm

theorem final6 : (dats m 0 c).arrAt 6 cfg0.N = Dg (m ((c : Thread nD τ).loc main_arg0)) (m ((c : Thread nD τ).loc main_arg1)) (m ((c : Thread nD τ).loc main_arg2)) :=
  (dats m 0 c).arrAt_eq_of_cover 6 _ (flushed6 m c) fun i => by
    have key : ∃ t : Fin cfg0.N, t.val = 15 := ⟨⟨15, by rw [show cfg0.N = 16 from N_0]; decide⟩, rfl⟩
    obtain ⟨t, ht⟩ := key
    have h0 : (i 0).val < 1 := (i 0).isLt
    have h1 : (i 1).val < 1024 := (i 1).isLt
    obtain ⟨a0, b0, a1, b1, a2, b2, a3, b3, a4, b4, a5, b5, a6, b6⟩ := idx_facts t
    refine ⟨t, (flush0_6 t).mpr (by rw [ht]), ?_⟩
    show i ∈ ((View.whole main_v0_1).slice (win0_6.rect t)).set
    rw [View.set_slice_whole, Rect.mem_set_unit]
    exact fun a => match a with
      | ⟨0, _⟩ => Mlp.tile_mem (a6.trans (Nat.div_eq_of_lt h0).symm) (Nat.succ_pos _)
      | ⟨1, _⟩ => Mlp.tile_mem (b6.trans (Nat.div_eq_of_lt h1).symm) (Nat.succ_pos _)

/-! ## The reference -/

open Cert.Reference18Ideal.Read in
theorem ref_Dx (dp : FVec Ideal S4096x5376 .bf16) (w : FVec Ideal S1024x5376 .bf16) (h : FVec Ideal S4096x1024 .f32) (g : FVec Ideal S1x1024 .f32) (dh : FVec Ideal S4096x1024 .f32) :
    val_main_v43 (F := Ideal) dp w h g dh = Dx dp w h g dh := by
  funext i
  unfold Dx Mlp.plus Mlp.normDx Mlp.halfMs Mlp.ms Mlp.nt
  pointwise [val_main_v43, val_main_v42, val_main_v41, val_main_v40, val_main_v39, val_main_v38, val_main_v37, val_main_v36, val_main_cst_8, val_main_v35, val_main_v34, val_main_cst_7, val_main_v33, val_main_v32, val_main_v31, val_main_v30, val_main_v29, val_main_cst_6, val_main_v28, val_main_v27, val_main_cst_5, val_main_v26, val_main_v25, val_main_v24, val_main_v23, val_main_cst_4, val_main_v22, val_main_v21, val_main_v20, val_main_v19, val_main_v18, val_main_v17, val_main_v16, val_main_v15, val_main_cst_3, val_main_v14, val_main_v13, val_main_v12, val_main_v11, val_main_cst_2, val_main_v10, val_main_v9, val_main_cst_1, val_main_v8, val_main_v7, val_main_cst_0, val_main_v6, val_main_v5, val_main_v4, val_main_v3, val_main_v2, val_main_v1, val_main_v0, val_main_cst]
  simp only [Finset.univ_unique, Finset.sum_singleton]

open Cert.Reference18Ideal.Read in
theorem ref_Dg (dp : FVec Ideal S4096x5376 .bf16) (w : FVec Ideal S1024x5376 .bf16) (h : FVec Ideal S4096x1024 .f32) :
    val_main_v42 (F := Ideal) dp w h = Dg dp w h := by
  funext i
  unfold Dg Mlp.colsum Mlp.normDg Mlp.unitRows Mlp.ms Mlp.nt
  pointwise [val_main_v43, val_main_v42, val_main_v41, val_main_v40, val_main_v39, val_main_v38, val_main_v37, val_main_v36, val_main_cst_8, val_main_v35, val_main_v34, val_main_cst_7, val_main_v33, val_main_v32, val_main_v31, val_main_v30, val_main_v29, val_main_cst_6, val_main_v28, val_main_v27, val_main_cst_5, val_main_v26, val_main_v25, val_main_v24, val_main_v23, val_main_cst_4, val_main_v22, val_main_v21, val_main_v20, val_main_v19, val_main_v18, val_main_v17, val_main_v16, val_main_v15, val_main_cst_3, val_main_v14, val_main_v13, val_main_v12, val_main_v11, val_main_cst_2, val_main_v10, val_main_v9, val_main_cst_1, val_main_v8, val_main_v7, val_main_cst_0, val_main_v6, val_main_v5, val_main_v4, val_main_v3, val_main_v2, val_main_v1, val_main_v0, val_main_cst]
  simp only [Finset.univ_unique, Finset.sum_singleton]

end Cert.Kernel18Ideal.DyIn

end
-- ==== Proof.Mlp.OutProj.lean ====
/- The output product of the first layer, added to its input, and the scaled norm of the sum. -/
module

public import proofs.«01_k».proof.Proof.Mlp.Rows
public import proofs.«01_k».proof.Proof.Gen.Kernel19Ideal.Value
public import proofs.«01_k».proof.Proof.Gen.Reference19Ideal.Read

@[expose] public section

noncomputable section

namespace Cert.Kernel19Ideal.OutProj

open Cert.Kernel19Ideal Cert.Kernel19Ideal.Gen Idealize.ShloMosaic Idealize.ShloMosaic.TcCoe Idealize.SL.Sem
open Idealize.ShloMosaic.Pipeline (Dat)

/-- The sum stream after the product. -/
def H (ab : FVec Ideal S4096x2048 .bf16) (w : FVec Ideal S2048x1024 .bf16) (x : FVec Ideal S4096x1024 .f32) : FVec Ideal S4096x1024 .f32 :=
  Mlp.plus (Mlp.nn ab w) x

/-- Its scaled norm. -/
def Y (ab : FVec Ideal S4096x2048 .bf16) (w : FVec Ideal S2048x1024 .bf16) (x : FVec Ideal S4096x1024 .f32) (g : FVec Ideal S1x1024 .f32) : FVec Ideal S4096x1024 .bf16 := Mlp.norm (H ab w x) g

/-- One block of the sum stream. -/
theorem pay1_eq (ab : FVec Ideal S512x2048 .bf16) (w : FVec Ideal S2048x1024 .bf16) (x : FVec Ideal S512x1024 .f32) :
    (k0_pay1 (F := Ideal) ab w x : Mlp.Arr 512 1024) = Mlp.plus (Mlp.nn ab w) x := by
  funext y
  unfold Mlp.plus Mlp.nn
  pointwise [k0_pay1]

/-- One block of the norm. -/
theorem pay2_eq (ab : FVec Ideal S512x2048 .bf16) (w : FVec Ideal S2048x1024 .bf16) (x : FVec Ideal S512x1024 .f32) (g : FVec Ideal S1x1024 .f32) :
    (k0_pay2 (F := Ideal) ab w x g : Mlp.Arr 512 1024) = Mlp.norm (k0_pay1 (F := Ideal) ab w x) g := by
  funext y
  unfold Mlp.norm Mlp.unitRows Mlp.ms
  pointwise [k0_pay2]

variable (m : (ℓ : Loc nD τ sig) → Buf (Elt Ideal) ℓ) (c : Dev nD)

/-- Point `t` takes block `t` of the rows; the other operands are whole. -/
theorem idx_facts : ∀ t : Fin cfg0.N, win0_0.index t 0 = t.val ∧ win0_0.index t 1 = 0 ∧
    win0_1.index t 0 = 0 ∧ win0_1.index t 1 = 0 ∧
    win0_2.index t 0 = t.val ∧ win0_2.index t 1 = 0 ∧
    win0_3.index t 0 = 0 ∧ win0_3.index t 1 = 0 ∧
    win0_4.index t 0 = t.val ∧ win0_4.index t 1 = 0 ∧
    win0_5.index t 0 = t.val ∧ win0_5.index t 1 = 0 :=
  (by decide +kernel : ∀ t : Fin grid0.N, _)

theorem rows_H (t : Fin cfg0.N) : Mlp.Rows t.val (k0_pay1 (F := Ideal) (iblk m c 0 t) (iblk m c 1 t) (iblk m c 2 t))
    (H (m ((c : Thread nD τ).loc main_arg0)) (m ((c : Thread nD τ).loc main_arg1)) (m ((c : Thread nD τ).loc main_arg2))) := by
  obtain ⟨a0, b0, a1, b1, a2, b2, a3, b3, a4, b4, a5, b5⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have r2 : Mlp.Rows t.val (iblk m c 2 t) (m ((c : Thread nD τ).loc main_arg2)) := Mlp.Rows.of_at (e := (win0_2.rect t).emb) (fun _ => rfl)
    ⟨fun z => win0_2.rect_emb_val t z 0, fun z => win0_2.rect_emb_val t z 1⟩ a2 b2
  rw [pay1_eq, w1]
  exact (r0.nn _).plus r2

theorem rows_Y (t : Fin cfg0.N) : Mlp.Rows t.val (k0_pay2 (F := Ideal) (iblk m c 0 t) (iblk m c 1 t) (iblk m c 2 t) (iblk m c 3 t))
    (Y (m ((c : Thread nD τ).loc main_arg0)) (m ((c : Thread nD τ).loc main_arg1)) (m ((c : Thread nD τ).loc main_arg2)) (m ((c : Thread nD τ).loc main_arg3))) := by
  obtain ⟨a0, b0, a1, b1, a2, b2, a3, b3, a4, b4, a5, b5⟩ := idx_facts t
  have w3 : iblk m c 3 t = (m ((c : Thread nD τ).loc main_arg3)) := Mlp.whole (e := (win0_3.rect t).emb) (fun _ => rfl)
    ⟨fun z => win0_3.rect_emb_val t z 0, fun z => win0_3.rect_emb_val t z 1⟩ a3 b3
  rw [pay2_eq, w3]
  exact (rows_H m c t).norm _

theorem flushed4 (t : Fin cfg0.N) : (dats m 0 c).flushed 4 t = (win0_4.blk t).view.read (Elt Ideal) (H (m ((c : Thread nD τ).loc main_arg0)) (m ((c : Thread nD τ).loc main_arg1)) (m ((c : Thread nD τ).loc main_arg2))) := by
  rw [Value.flushed4]
  unfold out0_4
  rw [View.canon_unit_zero Mlp.zero2, View.ld_unit_zero Mlp.zero2, View.ld_unit_zero Mlp.zero2, View.ld_unit_zero Mlp.zero2]
  obtain ⟨a0, b0, a1, b1, a2, b2, a3, b3, a4, b4, a5, b5⟩ := idx_facts t
  funext y
  exact (rows_H m c t).apply (e := (win0_4.rect t).emb) ⟨fun z => win0_4.rect_emb_val t z 0, fun z => win0_4.rect_emb_val t z 1⟩ a4 b4 y

theorem cover4 (i : S4096x1024.Idx) : ∃ t : Fin cfg0.N, (cfg0.win 4).flush t = true ∧ i ∈ ((cfg0.win 4).blk t).view.set := by
  have key : ∀ a : Fin 8, ∃ t : Fin grid0.N, win0_4.index t 0 = a.val ∧ win0_4.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_4 t, ?_⟩
  show i ∈ ((View.whole main_v0_0).slice (win0_4.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final4 : (dats m 0 c).arrAt 4 cfg0.N = H (m ((c : Thread nD τ).loc main_arg0)) (m ((c : Thread nD τ).loc main_arg1)) (m ((c : Thread nD τ).loc main_arg2)) :=
  (dats m 0 c).arrAt_eq_of_cover 4 _ (fun t _ => flushed4 m c t) cover4

theorem flushed5 (t : Fin cfg0.N) : (dats m 0 c).flushed 5 t = (win0_5.blk t).view.read (Elt Ideal) (Y (m ((c : Thread nD τ).loc main_arg0)) (m ((c : Thread nD τ).loc main_arg1)) (m ((c : Thread nD τ).loc main_arg2)) (m ((c : Thread nD τ).loc main_arg3))) := by
  rw [Value.flushed5]
  unfold out0_5
  rw [View.canon_unit_zero Mlp.zero2, View.ld_unit_zero Mlp.zero2, View.ld_unit_zero Mlp.zero2, View.ld_unit_zero Mlp.zero2, View.ld_unit_zero Mlp.zero2]
  obtain ⟨a0, b0, a1, b1, a2, b2, a3, b3, a4, b4, a5, b5⟩ := idx_facts t
  funext y
  exact (rows_Y m c t).apply (e := (win0_5.rect t).emb) ⟨fun z => win0_5.rect_emb_val t z 0, fun z => win0_5.rect_emb_val t z 1⟩ a5 b5 y

theorem cover5 (i : S4096x1024.Idx) : ∃ t : Fin cfg0.N, (cfg0.win 5).flush t = true ∧ i ∈ ((cfg0.win 5).blk t).view.set := by
  have key : ∀ a : Fin 8, ∃ t : Fin grid0.N, win0_5.index t 0 = a.val ∧ win0_5.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_5 t, ?_⟩
  show i ∈ ((View.whole main_v0_1).slice (win0_5.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final5 : (dats m 0 c).arrAt 5 cfg0.N = Y (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5 m c t) cover5

open Cert.Reference19Ideal.Read in
theorem ref_H (ab : FVec Ideal S4096x2048 .bf16) (w : FVec Ideal S2048x1024 .bf16) (x : FVec Ideal S4096x1024 .f32) : val_main_v3 (F := Ideal) ab w x = H ab w x := by
  funext i
  unfold H Mlp.plus Mlp.nn
  pointwise [val_main_v3, val_main_v2, val_main_v1, val_main_v0]
  exact add_comm _ _

open Cert.Reference19Ideal.Read in
theorem ref_Y (ab : FVec Ideal S4096x2048 .bf16) (w : FVec Ideal S2048x1024 .bf16) (x : FVec Ideal S4096x1024 .f32) (g : FVec Ideal S1x1024 .f32) : val_main_v18 (F := Ideal) ab w x g = Y ab w x g := by
  refine Eq.trans (b := Mlp.norm (val_main_v3 (F := Ideal) ab w x) g) ?_ (congrArg (Mlp.norm · g) (ref_H _ _ _))
  funext i
  unfold Mlp.norm Mlp.unitRows Mlp.ms
  pointwise [val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v4]

end Cert.Kernel19Ideal.OutProj

end
-- ==== Proof.Mlp.OProj.lean ====
/- The output product of the second layer with its bias, added to its input, and the scaled norm of the sum. -/
module

public import proofs.«01_k».proof.Proof.Mlp.Rows
public import proofs.«01_k».proof.Proof.Gen.Kernel20Ideal.Value
public import proofs.«01_k».proof.Proof.Gen.Reference20Ideal.Read

@[expose] public section

noncomputable section

namespace Cert.Kernel20Ideal.OProj

open Cert.Kernel20Ideal Cert.Kernel20Ideal.Gen Idealize.ShloMosaic Idealize.ShloMosaic.TcCoe Idealize.SL.Sem
open Idealize.ShloMosaic.Pipeline (Dat)

/-- The sum stream after the product. -/
def H (att : FVec Ideal S4096x1024 .bf16) (w : FVec Ideal S1024x1024 .bf16) (b : FVec Ideal S1x1024 .f32) (h : FVec Ideal S4096x1024 .f32) : FVec Ideal S4096x1024 .f32 :=
  Mlp.plus (Mlp.plusRow (Mlp.nn att w) b) h

/-- Its scaled norm. -/
def Y (att : FVec Ideal S4096x1024 .bf16) (w : FVec Ideal S1024x1024 .bf16) (b : FVec Ideal S1x1024 .f32) (h : FVec Ideal S4096x1024 .f32) (g : FVec Ideal S1x1024 .f32) : FVec Ideal S4096x1024 .bf16 := Mlp.norm (H att w b h) g

/-- One block of the sum stream. -/
theorem pay1_eq (att : FVec Ideal S512x1024 .bf16) (w : FVec Ideal S1024x1024 .bf16) (b : FVec Ideal S1x1024 .f32) (h : FVec Ideal S512x1024 .f32) :
    (k0_pay1 (F := Ideal) att w b h : Mlp.Arr 512 1024) = Mlp.plus (Mlp.plusRow (Mlp.nn att w) b) h := by
  funext y
  unfold Mlp.plus Mlp.plusRow Mlp.nn
  pointwise [k0_pay1]

/-- One block of the norm. -/
theorem pay2_eq (att : FVec Ideal S512x1024 .bf16) (w : FVec Ideal S1024x1024 .bf16) (b : FVec Ideal S1x1024 .f32) (h : FVec Ideal S512x1024 .f32) (g : FVec Ideal S1x1024 .f32) :
    (k0_pay2 (F := Ideal) att w b h g : Mlp.Arr 512 1024) = Mlp.norm (k0_pay1 (F := Ideal) att w b h) g := by
  funext y
  unfold Mlp.norm Mlp.unitRows Mlp.ms
  pointwise [k0_pay2]

variable (m : (ℓ : Loc nD τ sig) → Buf (Elt Ideal) ℓ) (c : Dev nD)

/-- Point `t` takes block `t` of the rows; the other operands are whole. -/
theorem idx_facts : ∀ t : Fin cfg0.N, win0_0.index t 0 = t.val ∧ win0_0.index t 1 = 0 ∧
    win0_1.index t 0 = 0 ∧ win0_1.index t 1 = 0 ∧
    win0_2.index t 0 = 0 ∧ win0_2.index t 1 = 0 ∧
    win0_3.index t 0 = t.val ∧ win0_3.index t 1 = 0 ∧
    win0_4.index t 0 = 0 ∧ win0_4.index t 1 = 0 ∧
    win0_5.index t 0 = t.val ∧ win0_5.index t 1 = 0 ∧
    win0_6.index t 0 = t.val ∧ win0_6.index t 1 = 0 :=
  (by decide +kernel : ∀ t : Fin grid0.N, _)

theorem rows_H (t : Fin cfg0.N) : Mlp.Rows t.val (k0_pay1 (F := Ideal) (iblk m c 0 t) (iblk m c 1 t) (iblk m c 2 t) (iblk m c 3 t))
    (H (m ((c : Thread nD τ).loc main_arg0)) (m ((c : Thread nD τ).loc main_arg1)) (m ((c : Thread nD τ).loc main_arg2)) (m ((c : Thread nD τ).loc main_arg3))) := by
  obtain ⟨a0, b0, a1, b1, a2, b2, a3, b3, a4, b4, a5, b5, a6, b6⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  have w2 : iblk m c 2 t = (m ((c : Thread nD τ).loc main_arg2)) := Mlp.whole (e := (win0_2.rect t).emb) (fun _ => rfl)
    ⟨fun z => win0_2.rect_emb_val t z 0, fun z => win0_2.rect_emb_val t z 1⟩ a2 b2
  have r3 : Mlp.Rows t.val (iblk m c 3 t) (m ((c : Thread nD τ).loc main_arg3)) := Mlp.Rows.of_at (e := (win0_3.rect t).emb) (fun _ => rfl)
    ⟨fun z => win0_3.rect_emb_val t z 0, fun z => win0_3.rect_emb_val t z 1⟩ a3 b3
  rw [pay1_eq, w1, w2]
  exact ((r0.nn _).plusRow _).plus r3

theorem rows_Y (t : Fin cfg0.N) : Mlp.Rows t.val (k0_pay2 (F := Ideal) (iblk m c 0 t) (iblk m c 1 t) (iblk m c 2 t) (iblk m c 3 t) (iblk m c 4 t))
    (Y (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨a0, b0, a1, b1, a2, b2, a3, b3, a4, b4, a5, b5, a6, b6⟩ := idx_facts t
  have w4 : iblk m c 4 t = (m ((c : Thread nD τ).loc main_arg4)) := Mlp.whole (e := (win0_4.rect t).emb) (fun _ => rfl)
    ⟨fun z => win0_4.rect_emb_val t z 0, fun z => win0_4.rect_emb_val t z 1⟩ a4 b4
  rw [pay2_eq, w4]
  exact (rows_H m c t).norm _

theorem flushed5 (t : Fin cfg0.N) : (dats m 0 c).flushed 5 t = (win0_5.blk t).view.read (Elt Ideal) (H (m ((c : Thread nD τ).loc main_arg0)) (m ((c : Thread nD τ).loc main_arg1)) (m ((c : Thread nD τ).loc main_arg2)) (m ((c : Thread nD τ).loc main_arg3))) := by
  rw [Value.flushed5]
  unfold out0_5
  rw [View.canon_unit_zero Mlp.zero2, View.ld_unit_zero Mlp.zero2, View.ld_unit_zero Mlp.zero2, View.ld_unit_zero Mlp.zero2, View.ld_unit_zero Mlp.zero2]
  obtain ⟨a0, b0, a1, b1, a2, b2, a3, b3, a4, b4, a5, b5, a6, b6⟩ := idx_facts t
  funext y
  exact (rows_H m c t).apply (e := (win0_5.rect t).emb) ⟨fun z => win0_5.rect_emb_val t z 0, fun z => win0_5.rect_emb_val t z 1⟩ a5 b5 y

theorem cover5 (i : S4096x1024.Idx) : ∃ t : Fin cfg0.N, (cfg0.win 5).flush t = true ∧ i ∈ ((cfg0.win 5).blk t).view.set := by
  have key : ∀ a : Fin 8, ∃ t : Fin grid0.N, win0_5.index t 0 = a.val ∧ win0_5.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_5 t, ?_⟩
  show i ∈ ((View.whole main_v0_0).slice (win0_5.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final5 : (dats m 0 c).arrAt 5 cfg0.N = H (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5 m c t) cover5

theorem flushed6 (t : Fin cfg0.N) : (dats m 0 c).flushed 6 t = (win0_6.blk t).view.read (Elt Ideal) (Y (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6]
  unfold out0_6
  rw [View.canon_unit_zero Mlp.zero2, View.ld_unit_zero Mlp.zero2, View.ld_unit_zero Mlp.zero2, View.ld_unit_zero Mlp.zero2, View.ld_unit_zero Mlp.zero2, View.ld_unit_zero Mlp.zero2]
  obtain ⟨a0, b0, a1, b1, a2, b2, a3, b3, a4, b4, a5, b5, a6, b6⟩ := idx_facts t
  funext y
  exact (rows_Y m c t).apply (e := (win0_6.rect t).emb) ⟨fun z => win0_6.rect_emb_val t z 0, fun z => win0_6.rect_emb_val t z 1⟩ a6 b6 y

theorem cover6 (i : S4096x1024.Idx) : ∃ t : Fin cfg0.N, (cfg0.win 6).flush t = true ∧ i ∈ ((cfg0.win 6).blk t).view.set := by
  have key : ∀ a : Fin 8, ∃ t : Fin grid0.N, win0_6.index t 0 = a.val ∧ win0_6.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_6 t, ?_⟩
  show i ∈ ((View.whole main_v0_1).slice (win0_6.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final6 : (dats m 0 c).arrAt 6 cfg0.N = Y (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed6 m c t) cover6

open Cert.Reference20Ideal.Read in
theorem ref_H (att : FVec Ideal S4096x1024 .bf16) (w : FVec Ideal S1024x1024 .bf16) (b : FVec Ideal S1x1024 .f32) (h : FVec Ideal S4096x1024 .f32) : val_main_v7 (F := Ideal) att w b h = H att w b h := by
  funext i
  unfold H Mlp.plus Mlp.plusRow Mlp.nn
  pointwise [val_main_v7, val_main_v6, val_main_v5, val_main_v4, val_main_v3, val_main_v2, val_main_v1, val_main_v0]
  exact add_comm _ _

open Cert.Reference20Ideal.Read in
theorem ref_Y (att : FVec Ideal S4096x1024 .bf16) (w : FVec Ideal S1024x1024 .bf16) (b : FVec Ideal S1x1024 .f32) (h : FVec Ideal S4096x1024 .f32) (g : FVec Ideal S1x1024 .f32) : val_main_v22 (F := Ideal) att w b h g = Y att w b h g := by
  refine Eq.trans (b := Mlp.norm (val_main_v7 (F := Ideal) att w b h) g) ?_ (congrArg (Mlp.norm · g) (ref_H _ _ _ _))
  funext i
  unfold Mlp.norm Mlp.unitRows Mlp.ms
  pointwise [val_main_v22, val_main_v21, val_main_v20, val_main_v19, val_main_v18, val_main_v17, val_main_v16, val_main_v15, val_main_v14, val_main_cst_1, val_main_v13, val_main_v12, val_main_cst_0, val_main_v11, val_main_v10, val_main_cst, val_main_v9, val_main_v8]

end Cert.Kernel20Ideal.OProj

end
-- ==== Proof.Mlp.MixNorm.lean ====
/- The scaled norm of the step's input, before the first layer. -/
module

public import proofs.«01_k».proof.Proof.Mlp.Rows
public import proofs.«01_k».proof.Proof.Gen.Kernel22Ideal.Value
public import proofs.«01_k».proof.Proof.Gen.Reference22Ideal.Read

@[expose] public section

noncomputable section

namespace Cert.Kernel22Ideal.MixNorm

open Cert.Kernel22Ideal Cert.Kernel22Ideal.Gen Idealize.ShloMosaic Idealize.ShloMosaic.TcCoe Idealize.SL.Sem
open Idealize.ShloMosaic.Pipeline (Dat)

/-- The scaled norm of the input's rows. -/
def Y (x : FVec Ideal S4096x1024 .f32) (g : FVec Ideal S1x1024 .f32) : FVec Ideal S4096x1024 .bf16 := Mlp.norm x g

/-- One block of the norm. -/
theorem pay1_eq (x : FVec Ideal S512x1024 .f32) (g : FVec Ideal S1x1024 .f32) :
    (k0_pay1 (F := Ideal) x g : Mlp.Arr 512 1024) = Mlp.norm x g := by
  funext y
  unfold Mlp.norm Mlp.unitRows Mlp.ms
  pointwise [k0_pay1]

variable (m : (ℓ : Loc nD τ sig) → Buf (Elt Ideal) ℓ) (c : Dev nD)

/-- Point `t` takes block `t` of the rows; the scale is whole. -/
theorem idx_facts : ∀ t : Fin cfg0.N, win0_0.index t 0 = t.val ∧ win0_0.index t 1 = 0 ∧
    win0_1.index t 0 = 0 ∧ win0_1.index t 1 = 0 ∧
    win0_2.index t 0 = t.val ∧ win0_2.index t 1 = 0 :=
  (by decide +kernel : ∀ t : Fin grid0.N, _)

theorem rows_Y (t : Fin cfg0.N) : Mlp.Rows t.val (k0_pay1 (F := Ideal) (iblk m c 0 t) (iblk m c 1 t))
    (Y (m ((c : Thread nD τ).loc main_arg0)) (m ((c : Thread nD τ).loc main_arg1))) := by
  obtain ⟨a0, b0, a1, b1, a2, b2⟩ := idx_facts t
  have r0 : Mlp.Rows t.val (iblk m c 0 t) (m ((c : Thread nD τ).loc main_arg0)) := Mlp.Rows.of_at (e := (win0_0.rect t).emb) (fun _ => rfl)
    ⟨fun z => win0_0.rect_emb_val t z 0, fun z => win0_0.rect_emb_val t z 1⟩ a0 b0
  have w1 : iblk m c 1 t = (m ((c : Thread nD τ).loc main_arg1)) := Mlp.whole (e := (win0_1.rect t).emb) (fun _ => rfl)
    ⟨fun z => win0_1.rect_emb_val t z 0, fun z => win0_1.rect_emb_val t z 1⟩ a1 b1
  rw [pay1_eq, w1]
  exact r0.norm _

theorem flushed2 (t : Fin cfg0.N) : (dats m 0 c).flushed 2 t = (win0_2.blk t).view.read (Elt Ideal) (Y (m ((c : Thread nD τ).loc main_arg0)) (m ((c : Thread nD τ).loc main_arg1))) := by
  rw [Value.flushed2]
  unfold out0_2
  rw [View.canon_unit_zero Mlp.zero2, View.ld_unit_zero Mlp.zero2, View.ld_unit_zero Mlp.zero2]
  obtain ⟨a0, b0, a1, b1, a2, b2⟩ := idx_facts t
  funext y
  exact (rows_Y m c t).apply (e := (win0_2.rect t).emb) ⟨fun z => win0_2.rect_emb_val t z 0, fun z => win0_2.rect_emb_val t z 1⟩ a2 b2 y

theorem cover2 (i : S4096x1024.Idx) : ∃ t : Fin cfg0.N, (cfg0.win 2).flush t = true ∧ i ∈ ((cfg0.win 2).blk t).view.set := by
  have key : ∀ a : Fin 8, ∃ t : Fin grid0.N, win0_2.index t 0 = a.val ∧ win0_2.index t 1 = 0 := by decide +kernel
  have h0 : (i 0).val < 4096 := (i 0).isLt
  have h1 : (i 1).val < 1024 := (i 1).isLt
  obtain ⟨t, ha, hb⟩ := key ⟨(i 0).val / 512, by omega⟩
  refine ⟨t, flush0_2 t, ?_⟩
  show i ∈ ((View.whole main_v0).slice (win0_2.rect t)).set
  rw [View.set_slice_whole, Rect.mem_set_unit]
  exact fun a => match a with
    | ⟨0, _⟩ => Mlp.tile_mem ha (Nat.succ_pos _)
    | ⟨1, _⟩ => Mlp.tile_mem (hb.trans (Nat.div_eq_of_lt h1).symm) (Nat.succ_pos _)

theorem final2 : (dats m 0 c).arrAt 2 cfg0.N = Y (m ((c : Thread nD τ).loc main_arg0)) (m ((c : Thread nD τ).loc main_arg1)) :=
  (dats m 0 c).arrAt_eq_of_cover 2 _ (fun t _ => flushed2 m c t) cover2

open Cert.Reference22Ideal.Read in
theorem ref_Y (x : FVec Ideal S4096x1024 .f32) (g : FVec Ideal S1x1024 .f32) : val_main_v14 (F := Ideal) x g = Y x g := by
  funext i
  unfold Y Mlp.norm Mlp.unitRows Mlp.ms
  pointwise [val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]

end Cert.Kernel22Ideal.MixNorm

end
-- ==== Proof.Update.Base.lean ====
/- One step of the optimiser at an index, and over an array. -/
module

public import proofs.«01_k».proof.Proof.Mlp.Base

@[expose] public section

noncomputable section

namespace Cert.Update

open Idealize.ShloMosaic

/-- The new first moment of one element. -/
def mean1 (g m : Ideal .f32) : Ideal .f32 :=
  FloatOps.addf (FloatOps.mulf (Scalar.ofBits .f32 0x3F666666#32) m) (FloatOps.mulf (Scalar.ofBits .f32 0x3DCCCCCD#32) g)

/-- The new second moment of one element. -/
def square1 (g v : Ideal .f32) : Ideal .f32 :=
  FloatOps.addf (FloatOps.mulf (Scalar.ofBits .f32 0x3F7FBE77#32) v) (FloatOps.mulf (Scalar.ofBits .f32 0x3A83126F#32) (FloatOps.mulf g g))

/-- What is added to one element of the weight. -/
def delta1 (w g m v : Ideal .f32) : Ideal .f32 :=
  FloatOps.mulf (Scalar.ofBits .f32 0xBA83126F#32) (FloatOps.addf
    (FloatOps.divf (FloatOps.divf (mean1 g m) (Scalar.ofBits .f32 0x3F26BD02#32))
      (FloatOps.addf (FloatOps.sqrt (FloatOps.divf (square1 g v) (Scalar.ofBits .f32 0x3C231ACC#32))) (Scalar.ofBits .f32 0x322BCC77#32)))
    (FloatOps.mulf (Scalar.ofBits .f32 0x3C23D70A#32) w))

/-- The new first moments of an array. -/
def mean {S : Shape} (g m : FVec Ideal S .f32) : FVec Ideal S .f32 := fun i => mean1 (g i) (m i)

/-- The new second moments of an array. -/
def square {S : Shape} (g v : FVec Ideal S .f32) : FVec Ideal S .f32 := fun i => square1 (g i) (v i)

/-- What is added to an array of weights. -/
def delta {S : Shape} (w g m v : FVec Ideal S .f32) : FVec Ideal S .f32 := fun i => delta1 (w i) (g i) (m i) (v i)

/-- A block of rows of a flat array, from row `o`, as an array with a leading axis of length one. -/
def rows {n k : ℕ} (o : ℕ) (h : o + k ≤ n) (r : FVec Ideal ⟨2, ![n, 1024]⟩ .f32) : FVec Ideal ⟨3, ![1, k, 1024]⟩ .f32 :=
  fun i => r (ix2 ⟨o + (i 1).val, Nat.lt_of_lt_of_le (Nat.add_lt_add_left (i 1).isLt o) h⟩ (i 2))

end Cert.Update

end
-- ==== Proof.Update.WOut.lean ====
/- The optimiser's step of the mixer's output weight, whose gradient is a block of rows of a flat array: what the pipelined call
   leaves in its four result arrays is, index by index, what the reference computes. -/
module

public import proofs.«01_k».proof.Proof.Update.Base
public import proofs.«01_k».proof.Proof.Gen.Kernel23Ideal.Value
public import proofs.«01_k».proof.Proof.Gen.Reference23Ideal.Read

@[expose] public section

noncomputable section

namespace Cert.Kernel23Ideal.WOut

open Cert.Kernel23Ideal Cert.Kernel23Ideal.Gen Idealize.ShloMosaic Idealize.ShloMosaic.TcCoe Idealize.SL.Sem
open Idealize.ShloMosaic.Pipeline (Dat)

/-- The gradient: the rows from row 2048. -/
abbrev grad (r : FVec Ideal S2816x1024 .f32) : FVec Ideal S1x512x1024 .f32 := Update.rows (k := 512) 2048 (by decide) r

variable (m : (ℓ : Loc nD τ sig) → Buf (Elt Ideal) ℓ) (c : Dev nD)

/-- The argument arrays as the region finds them. -/
abbrev W : FVec Ideal S1x512x1024 .f32 := m ((c : Thread nD τ).loc main_arg0)
abbrev R : FVec Ideal S2816x1024 .f32 := m ((c : Thread nD τ).loc main_arg1)
abbrev M : FVec Ideal S1x512x1024 .f32 := m ((c : Thread nD τ).loc main_arg2)
abbrev N : FVec Ideal S1x512x1024 .f32 := m ((c : Thread nD τ).loc main_arg3)

/-- Point `t` takes block `t` of the rows of every array, and of the flat array the block that is eight further on. -/
theorem idx_facts : ∀ t : Fin cfg0.N, (∀ a, win0_0.index t a = (![0, t.val, 0] : Fin 3 → ℕ) a) ∧ (∀ a, win0_1.index t a = (![8 + t.val, 0] : Fin 2 → ℕ) a)
    ∧ (∀ a, win0_2.index t a = (![0, t.val, 0] : Fin 3 → ℕ) a) ∧ (∀ a, win0_3.index t a = (![0, t.val, 0] : Fin 3 → ℕ) a)
    ∧ (∀ a, win0_4.index t a = (![0, t.val, 0] : Fin 3 → ℕ) a) ∧ (∀ a, win0_5.index t a = (![0, t.val, 0] : Fin 3 → ℕ) a)
    ∧ (∀ a, win0_6.index t a = (![0, t.val, 0] : Fin 3 → ℕ) a) ∧ (∀ a, win0_7.index t a = (![0, t.val, 0] : Fin 3 → ℕ) a) :=
  (by decide +kernel : ∀ t : Fin grid0.N, _)

/-- Where index `y` of block `t` stands in the array. -/
def pos (t : Fin cfg0.N) (y : S1x256x1024.Idx) : S1x512x1024.Idx :=
  ix3 0 ⟨t.val * 256 + (y 1).val, by have h : (y 1).val < 256 := (y 1).isLt; have h' : t.val < 2 := t.isLt; omega⟩ (y 2)

theorem pos_of (t : Fin cfg0.N) (y : S1x256x1024.Idx) (e : S1x512x1024.Idx) (n : Fin 3 → ℕ) (hn : ∀ a, n a = (![0, t.val, 0] : Fin 3 → ℕ) a)
    (q1 : (e 1).val = n 1 * 256 + (y 1).val) (q2 : (e 2).val = n 2 * 1024 + (y 2).val) : e = pos t y := by
  have h0 : (e 0).val < 1 := (e 0).isLt
  have n1 : n 1 = t.val := hn 1
  have n2 : n 2 = 0 := hn 2
  refine Mlp.idx_ext3 ?_ ?_ ?_
  · show (e 0).val = 0; omega
  · show (e 1).val = t.val * 256 + (y 1).val; rw [q1, n1]
  · show (e 2).val = (y 2).val; rw [q2, n2]; omega

section
variable (t : Fin cfg0.N) (y : S1x256x1024.Idx)

theorem w_apply : iblk m c 0 t (Value.ix5_5 y) = W m c (pos t y) :=
  congrArg (W m c) (pos_of t (Value.ix5_5 y) ((win0_0.rect t).emb (Value.ix5_5 y)) (win0_0.index t) (idx_facts t).1 (win0_0.rect_emb_val t (Value.ix5_5 y) 1) (win0_0.rect_emb_val t (Value.ix5_5 y) 2))

theorem m_apply : iblk m c 2 t (Value.ix5_5 y) = M m c (pos t y) :=
  congrArg (M m c) (pos_of t (Value.ix5_5 y) ((win0_2.rect t).emb (Value.ix5_5 y)) (win0_2.index t) (idx_facts t).2.2.1 (win0_2.rect_emb_val t (Value.ix5_5 y) 1) (win0_2.rect_emb_val t (Value.ix5_5 y) 2))

theorem v_apply : iblk m c 3 t (Value.ix5_5 y) = N m c (pos t y) :=
  congrArg (N m c) (pos_of t (Value.ix5_5 y) ((win0_3.rect t).emb (Value.ix5_5 y)) (win0_3.index t) (idx_facts t).2.2.2.1 (win0_3.rect_emb_val t (Value.ix5_5 y) 1) (win0_3.rect_emb_val t (Value.ix5_5 y) 2))

theorem g_apply : iblk m c 1 t (Value.ix5_1 y) = grad (R m c) (pos t y) := by
  have q0 : ((win0_1.rect t).emb (Value.ix5_1 y) 0).val = win0_1.index t 0 * 256 + (y 1).val := win0_1.rect_emb_val t (Value.ix5_1 y) 0
  have q1 : ((win0_1.rect t).emb (Value.ix5_1 y) 1).val = win0_1.index t 1 * 1024 + (y 2).val := win0_1.rect_emb_val t (Value.ix5_1 y) 1
  have n0 : win0_1.index t 0 = 8 + t.val := (idx_facts t).2.1 0
  have n1 : win0_1.index t 1 = 0 := (idx_facts t).2.1 1
  refine congrArg (R m c) (Shape.idx_ext₂ (x := (win0_1.rect t).emb (Value.ix5_1 y)) ?_ ?_)
  · show _ = 2048 + (t.val * 256 + (y 1).val); rw [q0, n0]; omega
  · show _ = (y 2).val; rw [q1, n1]; omega

end

theorem flushed4 (t : Fin cfg0.N) : (dats m 0 c).flushed 4 t = (win0_4.blk t).view.read (Elt Ideal) (grad (R m c)) := by
  rw [Value.flushed4]
  funext y
  have e : (win0_4.rect t).emb y = pos t y := pos_of t y _ (win0_4.index t) (idx_facts t).2.2.2.2.1 (win0_4.rect_emb_val t y 1) (win0_4.rect_emb_val t y 2)
  show out0_4 (F := Ideal) _ _ _ _ y = grad _ ((win0_4.rect t).emb y)
  unfold out0_4
  rw [Value.canon4_eq, View.ld_unit_zero (S := S256x1024) Mlp.zero2, e]
  exact g_apply m c t y

theorem flushed5 (t : Fin cfg0.N) : (dats m 0 c).flushed 5 t = (win0_5.blk t).view.read (Elt Ideal) (Update.delta (W m c) (grad (R m c)) (M m c) (N m c)) := by
  rw [Value.flushed5]
  funext y
  have e : (win0_5.rect t).emb y = pos t y := pos_of t y _ (win0_5.index t) (idx_facts t).2.2.2.2.2.1 (win0_5.rect_emb_val t y 1) (win0_5.rect_emb_val t y 2)
  show out0_5 (F := Ideal) _ _ _ _ y = Update.delta1 (W m c ((win0_5.rect t).emb y)) (grad (R m c) ((win0_5.rect t).emb y)) (M m c ((win0_5.rect t).emb y)) (N m c ((win0_5.rect t).emb y))
  unfold out0_5
  rw [Value.canon5_eq, View.ld_unit_zero (S := S256x1024) Mlp.zero2, View.ld_unit_zero (S := S1x256x1024) Mlp.zero3, View.ld_unit_zero (S := S1x256x1024) Mlp.zero3, View.ld_unit_zero (S := S1x256x1024) Mlp.zero3, e,
    ← w_apply, ← g_apply, ← m_apply, ← v_apply]
  rfl

theorem flushed6 (t : Fin cfg0.N) : (dats m 0 c).flushed 6 t = (win0_6.blk t).view.read (Elt Ideal) (Update.mean (grad (R m c)) (M m c)) := by
  rw [Value.flushed6]
  funext y
  have e : (win0_6.rect t).emb y = pos t y := pos_of t y _ (win0_6.index t) (idx_facts t).2.2.2.2.2.2.1 (win0_6.rect_emb_val t y 1) (win0_6.rect_emb_val t y 2)
  show out0_6 (F := Ideal) _ _ _ _ y = Update.mean1 (grad (R m c) ((win0_6.rect t).emb y)) (M m c ((win0_6.rect t).emb y))
  unfold out0_6
  rw [Value.canon6_eq, View.ld_unit_zero (S := S256x1024) Mlp.zero2, View.ld_unit_zero (S := S1x256x1024) Mlp.zero3, e, ← g_apply, ← m_apply]
  rfl

theorem flushed7 (t : Fin cfg0.N) : (dats m 0 c).flushed 7 t = (win0_7.blk t).view.read (Elt Ideal) (Update.square (grad (R m c)) (N m c)) := by
  rw [Value.flushed7]
  funext y
  have e : (win0_7.rect t).emb y = pos t y := pos_of t y _ (win0_7.index t) (idx_facts t).2.2.2.2.2.2.2 (win0_7.rect_emb_val t y 1) (win0_7.rect_emb_val t y 2)
  show out0_7 (F := Ideal) _ _ _ _ y = Update.square1 (grad (R m c) ((win0_7.rect t).emb y)) (N m c ((win0_7.rect t).emb y))
  unfold out0_7
  rw [Value.canon7_eq, View.ld_unit_zero (S := S256x1024) Mlp.zero2, View.ld_unit_zero (S := S1x256x1024) Mlp.zero3, e, ← g_apply, ← v_apply]
  rfl

/-- Every index of the array lies in the block of some point. -/
theorem at_pos (i : S1x512x1024.Idx) : ∃ (t : Fin cfg0.N) (y : S1x256x1024.Idx), pos t y = i := by
  have h0 : (i 0).val < 1 := (i 0).isLt
  have h1 : (i 1).val < 512 := (i 1).isLt
  refine ⟨⟨(i 1).val / 256, by show _ < 2; omega⟩, ix3 0 ⟨(i 1).val % 256, Nat.mod_lt _ (by omega)⟩ (i 2), Mlp.idx_ext3 ?_ ?_ rfl⟩
  · show 0 = (i 0).val; omega
  · show (i 1).val / 256 * 256 + (i 1).val % 256 = (i 1).val; omega

theorem cover4 (i : S1x512x1024.Idx) : ∃ t : Fin cfg0.N, (cfg0.win 4).flush t = true ∧ i ∈ ((cfg0.win 4).blk t).view.set := by
  obtain ⟨t, y, rfl⟩ := at_pos i
  refine ⟨t, flush0_4 t, ?_⟩
  rw [← pos_of t y ((win0_4.rect t).emb y) (win0_4.index t) (idx_facts t).2.2.2.2.1 (win0_4.rect_emb_val t y 1) (win0_4.rect_emb_val t y 2)]
  exact View.emb_mem_set _ y

theorem cover5 (i : S1x512x1024.Idx) : ∃ t : Fin cfg0.N, (cfg0.win 5).flush t = true ∧ i ∈ ((cfg0.win 5).blk t).view.set := by
  obtain ⟨t, y, rfl⟩ := at_pos i
  refine ⟨t, flush0_5 t, ?_⟩
  rw [← pos_of t y ((win0_5.rect t).emb y) (win0_5.index t) (idx_facts t).2.2.2.2.2.1 (win0_5.rect_emb_val t y 1) (win0_5.rect_emb_val t y 2)]
  exact View.emb_mem_set _ y

theorem cover6 (i : S1x512x1024.Idx) : ∃ t : Fin cfg0.N, (cfg0.win 6).flush t = true ∧ i ∈ ((cfg0.win 6).blk t).view.set := by
  obtain ⟨t, y, rfl⟩ := at_pos i
  refine ⟨t, flush0_6 t, ?_⟩
  rw [← pos_of t y ((win0_6.rect t).emb y) (win0_6.index t) (idx_facts t).2.2.2.2.2.2.1 (win0_6.rect_emb_val t y 1) (win0_6.rect_emb_val t y 2)]
  exact View.emb_mem_set _ y

theorem cover7 (i : S1x512x1024.Idx) : ∃ t : Fin cfg0.N, (cfg0.win 7).flush t = true ∧ i ∈ ((cfg0.win 7).blk t).view.set := by
  obtain ⟨t, y, rfl⟩ := at_pos i
  refine ⟨t, flush0_7 t, ?_⟩
  rw [← pos_of t y ((win0_7.rect t).emb y) (win0_7.index t) (idx_facts t).2.2.2.2.2.2.2 (win0_7.rect_emb_val t y 1) (win0_7.rect_emb_val t y 2)]
  exact View.emb_mem_set _ y

theorem final4 : (dats m 0 c).arrAt 4 cfg0.N = grad (R m c) := (dats m 0 c).arrAt_eq_of_cover 4 _ (fun t _ => flushed4 m c t) cover4
theorem final5 : (dats m 0 c).arrAt 5 cfg0.N = Update.delta (W m c) (grad (R m c)) (M m c) (N m c) :=
  (dats m 0 c).arrAt_eq_of_cover 5 _ (fun t _ => flushed5 m c t) cover5
theorem final6 : (dats m 0 c).arrAt 6 cfg0.N = Update.mean (grad (R m c)) (M m c) := (dats m 0 c).arrAt_eq_of_cover 6 _ (fun t _ => flushed6 m c t) cover6
theorem final7 : (dats m 0 c).arrAt 7 cfg0.N = Update.square (grad (R m c)) (N m c) := (dats m 0 c).arrAt_eq_of_cover 7 _ (fun t _ => flushed7 m c t) cover7

section
open Cert.Reference23Ideal.Read
variable (w x v : FVec Ideal S1x512x1024 .f32) (r : FVec Ideal S2816x1024 .f32)

/-- The reference's gradient is the same rows. -/
theorem ref_g : val_main_v1 (F := Ideal) r = grad r := by
  funext i
  unfold grad Update.rows
  pointwise [val_main_v1, val_main_v0]

theorem ref_d : val_main_v25 (F := Ideal) w r x v = Update.delta w (grad r) x v := by rw [← ref_g]; rfl
theorem ref_m : val_main_v6 (F := Ideal) r x = Update.mean (grad r) x := by rw [← ref_g]; rfl
theorem ref_v : val_main_v12 (F := Ideal) r v = Update.square (grad r) v := by rw [← ref_g]; rfl

end

end Cert.Kernel23Ideal.WOut

end
-- ==== Proof.Update.WO.lean ====
/- The optimiser's step of the attention's output weight, whose gradient is a block of rows of a flat array: what the pipelined call
   leaves in its four result arrays is, index by index, what the reference computes. -/
module

public import proofs.«01_k».proof.Proof.Update.Base
public import proofs.«01_k».proof.Proof.Gen.Kernel24Ideal.Value
public import proofs.«01_k».proof.Proof.Gen.Reference24Ideal.Read

@[expose] public section

noncomputable section

namespace Cert.Kernel24Ideal.WO

open Cert.Kernel24Ideal Cert.Kernel24Ideal.Gen Idealize.ShloMosaic Idealize.ShloMosaic.TcCoe Idealize.SL.Sem
open Idealize.ShloMosaic.Pipeline (Dat)

/-- The gradient: the rows from row 2560. -/
abbrev grad (r : FVec Ideal S2816x1024 .f32) : FVec Ideal S1x256x1024 .f32 := Update.rows (k := 256) 2560 (by decide) r

variable (m : (ℓ : Loc nD τ sig) → Buf (Elt Ideal) ℓ) (c : Dev nD)

/-- The argument arrays as the region finds them. -/
abbrev W : FVec Ideal S1x256x1024 .f32 := m ((c : Thread nD τ).loc main_arg0)
abbrev R : FVec Ideal S2816x1024 .f32 := m ((c : Thread nD τ).loc main_arg1)
abbrev M : FVec Ideal S1x256x1024 .f32 := m ((c : Thread nD τ).loc main_arg2)
abbrev N : FVec Ideal S1x256x1024 .f32 := m ((c : Thread nD τ).loc main_arg3)

/-- Point `t` takes block `t` of the rows of every array, and of the flat array the block that is ten further on. -/
theorem idx_facts : ∀ t : Fin cfg0.N, (∀ a, win0_0.index t a = (![0, t.val, 0] : Fin 3 → ℕ) a) ∧ (∀ a, win0_1.index t a = (![10 + t.val, 0] : Fin 2 → ℕ) a)
    ∧ (∀ a, win0_2.index t a = (![0, t.val, 0] : Fin 3 → ℕ) a) ∧ (∀ a, win0_3.index t a = (![0, t.val, 0] : Fin 3 → ℕ) a)
    ∧ (∀ a, win0_4.index t a = (![0, t.val, 0] : Fin 3 → ℕ) a) ∧ (∀ a, win0_5.index t a = (![0, t.val, 0] : Fin 3 → ℕ) a)
    ∧ (∀ a, win0_6.index t a = (![0, t.val, 0] : Fin 3 → ℕ) a) ∧ (∀ a, win0_7.index t a = (![0, t.val, 0] : Fin 3 → ℕ) a) :=
  (by decide +kernel : ∀ t : Fin grid0.N, _)

/-- Where index `y` of block `t` stands in the array. -/
def pos (t : Fin cfg0.N) (y : S1x256x1024.Idx) : S1x256x1024.Idx :=
  ix3 0 ⟨t.val * 256 + (y 1).val, by have h : (y 1).val < 256 := (y 1).isLt; have h' : t.val < 1 := t.isLt; omega⟩ (y 2)

theorem pos_of (t : Fin cfg0.N) (y : S1x256x1024.Idx) (e : S1x256x1024.Idx) (n : Fin 3 → ℕ) (hn : ∀ a, n a = (![0, t.val, 0] : Fin 3 → ℕ) a)
    (q1 : (e 1).val = n 1 * 256 + (y 1).val) (q2 : (e 2).val = n 2 * 1024 + (y 2).val) : e = pos t y := by
  have h0 : (e 0).val < 1 := (e 0).isLt
  have n1 : n 1 = t.val := hn 1
  have n2 : n 2 = 0 := hn 2
  refine Mlp.idx_ext3 ?_ ?_ ?_
  · show (e 0).val = 0; omega
  · show (e 1).val = t.val * 256 + (y 1).val; rw [q1, n1]
  · show (e 2).val = (y 2).val; rw [q2, n2]; omega

section
variable (t : Fin cfg0.N) (y : S1x256x1024.Idx)

theorem w_apply : iblk m c 0 t (Value.ix5_5 y) = W m c (pos t y) :=
  congrArg (W m c) (pos_of t (Value.ix5_5 y) ((win0_0.rect t).emb (Value.ix5_5 y)) (win0_0.index t) (idx_facts t).1 (win0_0.rect_emb_val t (Value.ix5_5 y) 1) (win0_0.rect_emb_val t (Value.ix5_5 y) 2))

theorem m_apply : iblk m c 2 t (Value.ix5_5 y) = M m c (pos t y) :=
  congrArg (M m c) (pos_of t (Value.ix5_5 y) ((win0_2.rect t).emb (Value.ix5_5 y)) (win0_2.index t) (idx_facts t).2.2.1 (win0_2.rect_emb_val t (Value.ix5_5 y) 1) (win0_2.rect_emb_val t (Value.ix5_5 y) 2))

theorem v_apply : iblk m c 3 t (Value.ix5_5 y) = N m c (pos t y) :=
  congrArg (N m c) (pos_of t (Value.ix5_5 y) ((win0_3.rect t).emb (Value.ix5_5 y)) (win0_3.index t) (idx_facts t).2.2.2.1 (win0_3.rect_emb_val t (Value.ix5_5 y) 1) (win0_3.rect_emb_val t (Value.ix5_5 y) 2))

theorem g_apply : iblk m c 1 t (Value.ix5_1 y) = grad (R m c) (pos t y) := by
  have q0 : ((win0_1.rect t).emb (Value.ix5_1 y) 0).val = win0_1.index t 0 * 256 + (y 1).val := win0_1.rect_emb_val t (Value.ix5_1 y) 0
  have q1 : ((win0_1.rect t).emb (Value.ix5_1 y) 1).val = win0_1.index t 1 * 1024 + (y 2).val := win0_1.rect_emb_val t (Value.ix5_1 y) 1
  have n0 : win0_1.index t 0 = 10 + t.val := (idx_facts t).2.1 0
  have n1 : win0_1.index t 1 = 0 := (idx_facts t).2.1 1
  refine congrArg (R m c) (Shape.idx_ext₂ (x := (win0_1.rect t).emb (Value.ix5_1 y)) ?_ ?_)
  · show _ = 2560 + (t.val * 256 + (y 1).val); rw [q0, n0]; omega
  · show _ = (y 2).val; rw [q1, n1]; omega

end

theorem flushed4 (t : Fin cfg0.N) : (dats m 0 c).flushed 4 t = (win0_4.blk t).view.read (Elt Ideal) (grad (R m c)) := by
  rw [Value.flushed4]
  funext y
  have e : (win0_4.rect t).emb y = pos t y := pos_of t y _ (win0_4.index t) (idx_facts t).2.2.2.2.1 (win0_4.rect_emb_val t y 1) (win0_4.rect_emb_val t y 2)
  show out0_4 (F := Ideal) _ _ _ _ y = grad _ ((win0_4.rect t).emb y)
  unfold out0_4
  rw [Value.canon4_eq, View.ld_unit_zero (S := S256x1024) Mlp.zero2, e]
  exact g_apply m c t y

theorem flushed5 (t : Fin cfg0.N) : (dats m 0 c).flushed 5 t = (win0_5.blk t).view.read (Elt Ideal) (Update.delta (W m c) (grad (R m c)) (M m c) (N m c)) := by
  rw [Value.flushed5]
  funext y
  have e : (win0_5.rect t).emb y = pos t y := pos_of t y _ (win0_5.index t) (idx_facts t).2.2.2.2.2.1 (win0_5.rect_emb_val t y 1) (win0_5.rect_emb_val t y 2)
  show out0_5 (F := Ideal) _ _ _ _ y = Update.delta1 (W m c ((win0_5.rect t).emb y)) (grad (R m c) ((win0_5.rect t).emb y)) (M m c ((win0_5.rect t).emb y)) (N m c ((win0_5.rect t).emb y))
  unfold out0_5
  rw [Value.canon5_eq, View.ld_unit_zero (S := S256x1024) Mlp.zero2, View.ld_unit_zero (S := S1x256x1024) Mlp.zero3, View.ld_unit_zero (S := S1x256x1024) Mlp.zero3, View.ld_unit_zero (S := S1x256x1024) Mlp.zero3, e,
    ← w_apply, ← g_apply, ← m_apply, ← v_apply]
  rfl

theorem flushed6 (t : Fin cfg0.N) : (dats m 0 c).flushed 6 t = (win0_6.blk t).view.read (Elt Ideal) (Update.mean (grad (R m c)) (M m c)) := by
  rw [Value.flushed6]
  funext y
  have e : (win0_6.rect t).emb y = pos t y := pos_of t y _ (win0_6.index t) (idx_facts t).2.2.2.2.2.2.1 (win0_6.rect_emb_val t y 1) (win0_6.rect_emb_val t y 2)
  show out0_6 (F := Ideal) _ _ _ _ y = Update.mean1 (grad (R m c) ((win0_6.rect t).emb y)) (M m c ((win0_6.rect t).emb y))
  unfold out0_6
  rw [Value.canon6_eq, View.ld_unit_zero (S := S256x1024) Mlp.zero2, View.ld_unit_zero (S := S1x256x1024) Mlp.zero3, e, ← g_apply, ← m_apply]
  rfl

theorem flushed7 (t : Fin cfg0.N) : (dats m 0 c).flushed 7 t = (win0_7.blk t).view.read (Elt Ideal) (Update.square (grad (R m c)) (N m c)) := by
  rw [Value.flushed7]
  funext y
  have e : (win0_7.rect t).emb y = pos t y := pos_of t y _ (win0_7.index t) (idx_facts t).2.2.2.2.2.2.2 (win0_7.rect_emb_val t y 1) (win0_7.rect_emb_val t y 2)
  show out0_7 (F := Ideal) _ _ _ _ y = Update.square1 (grad (R m c) ((win0_7.rect t).emb y)) (N m c ((win0_7.rect t).emb y))
  unfold out0_7
  rw [Value.canon7_eq, View.ld_unit_zero (S := S256x1024) Mlp.zero2, View.ld_unit_zero (S := S1x256x1024) Mlp.zero3, e, ← g_apply, ← v_apply]
  rfl

/-- Every index of the array lies in the block of some point. -/
theorem at_pos (i : S1x256x1024.Idx) : ∃ (t : Fin cfg0.N) (y : S1x256x1024.Idx), pos t y = i := by
  have h0 : (i 0).val < 1 := (i 0).isLt
  have h1 : (i 1).val < 256 := (i 1).isLt
  refine ⟨⟨(i 1).val / 256, by show _ < 1; omega⟩, ix3 0 ⟨(i 1).val % 256, Nat.mod_lt _ (by omega)⟩ (i 2), Mlp.idx_ext3 ?_ ?_ rfl⟩
  · show 0 = (i 0).val; omega
  · show (i 1).val / 256 * 256 + (i 1).val % 256 = (i 1).val; omega

theorem cover4 (i : S1x256x1024.Idx) : ∃ t : Fin cfg0.N, (cfg0.win 4).flush t = true ∧ i ∈ ((cfg0.win 4).blk t).view.set := by
  obtain ⟨t, y, rfl⟩ := at_pos i
  refine ⟨t, flush0_4 t, ?_⟩
  rw [← pos_of t y ((win0_4.rect t).emb y) (win0_4.index t) (idx_facts t).2.2.2.2.1 (win0_4.rect_emb_val t y 1) (win0_4.rect_emb_val t y 2)]
  exact View.emb_mem_set _ y

theorem cover5 (i : S1x256x1024.Idx) : ∃ t : Fin cfg0.N, (cfg0.win 5).flush t = true ∧ i ∈ ((cfg0.win 5).blk t).view.set := by
  obtain ⟨t, y, rfl⟩ := at_pos i
  refine ⟨t, flush0_5 t, ?_⟩
  rw [← pos_of t y ((win0_5.rect t).emb y) (win0_5.index t) (idx_facts t).2.2.2.2.2.1 (win0_5.rect_emb_val t y 1) (win0_5.rect_emb_val t y 2)]
  exact View.emb_mem_set _ y

theorem cover6 (i : S1x256x1024.Idx) : ∃ t : Fin cfg0.N, (cfg0.win 6).flush t = true ∧ i ∈ ((cfg0.win 6).blk t).view.set := by
  obtain ⟨t, y, rfl⟩ := at_pos i
  refine ⟨t, flush0_6 t, ?_⟩
  rw [← pos_of t y ((win0_6.rect t).emb y) (win0_6.index t) (idx_facts t).2.2.2.2.2.2.1 (win0_6.rect_emb_val t y 1) (win0_6.rect_emb_val t y 2)]
  exact View.emb_mem_set _ y

theorem cover7 (i : S1x256x1024.Idx) : ∃ t : Fin cfg0.N, (cfg0.win 7).flush t = true ∧ i ∈ ((cfg0.win 7).blk t).view.set := by
  obtain ⟨t, y, rfl⟩ := at_pos i
  refine ⟨t, flush0_7 t, ?_⟩
  rw [← pos_of t y ((win0_7.rect t).emb y) (win0_7.index t) (idx_facts t).2.2.2.2.2.2.2 (win0_7.rect_emb_val t y 1) (win0_7.rect_emb_val t y 2)]
  exact View.emb_mem_set _ y

theorem final4 : (dats m 0 c).arrAt 4 cfg0.N = grad (R m c) := (dats m 0 c).arrAt_eq_of_cover 4 _ (fun t _ => flushed4 m c t) cover4
theorem final5 : (dats m 0 c).arrAt 5 cfg0.N = Update.delta (W m c) (grad (R m c)) (M m c) (N m c) :=
  (dats m 0 c).arrAt_eq_of_cover 5 _ (fun t _ => flushed5 m c t) cover5
theorem final6 : (dats m 0 c).arrAt 6 cfg0.N = Update.mean (grad (R m c)) (M m c) := (dats m 0 c).arrAt_eq_of_cover 6 _ (fun t _ => flushed6 m c t) cover6
theorem final7 : (dats m 0 c).arrAt 7 cfg0.N = Update.square (grad (R m c)) (N m c) := (dats m 0 c).arrAt_eq_of_cover 7 _ (fun t _ => flushed7 m c t) cover7

section
open Cert.Reference24Ideal.Read
variable (w x v : FVec Ideal S1x256x1024 .f32) (r : FVec Ideal S2816x1024 .f32)

/-- The reference's gradient is the same rows. -/
theorem ref_g : val_main_v1 (F := Ideal) r = grad r := by
  funext i
  unfold grad Update.rows
  pointwise [val_main_v1, val_main_v0]

theorem ref_d : val_main_v25 (F := Ideal) w r x v = Update.delta w (grad r) x v := by rw [← ref_g]; rfl
theorem ref_m : val_main_v6 (F := Ideal) r x = Update.mean (grad r) x := by rw [← ref_g]; rfl
theorem ref_v : val_main_v12 (F := Ideal) r v = Update.square (grad r) v := by rw [← ref_g]; rfl

end

end Cert.Kernel24Ideal.WO

end
-- ==== Proof.Update.Up.lean ====
/- The optimiser's step of the second layer's slice of a stacked weight, whose gradient is a block of rows of a flat array: the
   call writes the second slice of its four result arrays and leaves the first slice as the call before it left it. -/
module

public import proofs.«01_k».proof.Proof.Update.Base
public import proofs.«01_k».proof.Proof.Gen.Kernel25Ideal.Value
public import proofs.«01_k».proof.Proof.Gen.Reference25Ideal.Read

@[expose] public section

set_option maxRecDepth 16384

noncomputable section

namespace Cert.Kernel25Ideal.Up

open Cert.Kernel25Ideal Cert.Kernel25Ideal.Gen Idealize.ShloMosaic Idealize.ShloMosaic.TcCoe Idealize.SL.Sem
open Idealize.ShloMosaic.Pipeline (Dat)

/-- One layer's slice. -/
abbrev Slice := FVec Ideal ⟨3, ![1, 1024, 1024]⟩ .f32

/-- The gradient of the second layer: the first 1024 rows. -/
abbrev grad (r : FVec Ideal S2048x1024 .f32) : Slice := Update.rows (k := 1024) 0 (by decide) r

/-- The second layer's slice of a stacked array. -/
def layer (w : FVec Ideal S2x1024x1024 .f32) : Slice := fun i => w (ix3 1 (i 1) (i 2))

/-- A stacked array with its second slice replaced. -/
def stack (old : FVec Ideal S2x1024x1024 .f32) (new : Slice) : FVec Ideal S2x1024x1024 .f32 :=
  fun i => if (i 0).val = 0 then old i else new (ix3 0 (i 1) (i 2))

theorem stack_zero (old : FVec Ideal S2x1024x1024 .f32) (new : Slice) (i : S2x1024x1024.Idx) (h : (i 0).val = 0) : stack old new i = old i := if_pos h

theorem stack_one (old : FVec Ideal S2x1024x1024 .f32) (new : Slice) (p q : Fin 1024) : stack old new (ix3 1 p q) = new (ix3 0 p q) := if_neg (show ¬(1 : ℕ) = 0 by decide)

section
/- What a point leaves in each of its four blocks, from the blocks it reads. -/
variable (c : Dev nD) (i : grid0.Coords) (a1 : Memref sig .tc .vmem S1x256x1024 .f32) (h1 : a1.IsWhole) (a2 : Memref sig .tc .vmem S256x1024 .f32) (h2 : a2.IsWhole) (a3 : Memref sig .tc .vmem S1x256x1024 .f32) (h3 : a3.IsWhole) (a4 : Memref sig .tc .vmem S1x256x1024 .f32) (h4 : a4.IsWhole) (a9 : Memref sig .tc .vmem S1x256x1024 .f32) (h9 : a9.IsWhole) (a10 : Memref sig .tc .vmem S1x256x1024 .f32) (h10 : a10.IsWhole) (a11 : Memref sig .tc .vmem S1x256x1024 .f32) (h11 : a11.IsWhole) (a12 : Memref sig .tc .vmem S1x256x1024 .f32) (h12 : a12.IsWhole)
  (x0 : FVec Ideal S1x256x1024 .f32) (x1 : FVec Ideal S256x1024 .f32) (x2 : FVec Ideal S1x256x1024 .f32) (x3 : FVec Ideal S1x256x1024 .f32)

theorem out_A_4 : out0_A_4 (F := Ideal) c i a1 h1 a2 h2 a3 h3 a4 h4 a9 h9 a10 h10 a11 h11 a12 h12 x0 x1 x2 x3 = k0_pay4 (F := Ideal) x1 := by
  unfold out0_A_4
  rw [View.read_writes_eq_canon _ _ _ (cover0_A_4 (F := Ideal) c i a1 h1 a2 h2 a3 h3 a4 h4 a9 h9 a10 h10 a11 h11 a12 h12 x0 x1 x2 x3)]
  unfold kernelRun0_A
  dsimp only
  sl_unfold_words
  rw [View.canon_unit_zero Mlp.zero3]
  simp only [View.readAt_eq_ld, h1.read_unread, h2.read_unread, h3.read_unread, h4.read_unread, View.ld_unit_zero (S := S256x1024) Mlp.zero2, View.ld_unit_zero (S := S1x256x1024) Mlp.zero3]

theorem out_A_5 : out0_A_5 (F := Ideal) c i a1 h1 a2 h2 a3 h3 a4 h4 a9 h9 a10 h10 a11 h11 a12 h12 x0 x1 x2 x3 = k0_pay1 (F := Ideal) (k0_pay7 x1 x0 x2 x3) := by
  unfold out0_A_5
  rw [View.read_writes_eq_canon _ _ _ (cover0_A_5 (F := Ideal) c i a1 h1 a2 h2 a3 h3 a4 h4 a9 h9 a10 h10 a11 h11 a12 h12 x0 x1 x2 x3)]
  unfold kernelRun0_A
  dsimp only
  sl_unfold_words
  rw [View.canon_unit_zero Mlp.zero3]
  simp only [View.readAt_eq_ld, h1.read_unread, h2.read_unread, h3.read_unread, h4.read_unread, View.ld_unit_zero (S := S256x1024) Mlp.zero2, View.ld_unit_zero (S := S1x256x1024) Mlp.zero3]

theorem out_A_6 : out0_A_6 (F := Ideal) c i a1 h1 a2 h2 a3 h3 a4 h4 a9 h9 a10 h10 a11 h11 a12 h12 x0 x1 x2 x3 = k0_pay2 (F := Ideal) (k0_pay5 x1 x2) := by
  unfold out0_A_6
  rw [View.read_writes_eq_canon _ _ _ (cover0_A_6 (F := Ideal) c i a1 h1 a2 h2 a3 h3 a4 h4 a9 h9 a10 h10 a11 h11 a12 h12 x0 x1 x2 x3)]
  unfold kernelRun0_A
  dsimp only
  sl_unfold_words
  rw [View.canon_unit_zero Mlp.zero3]
  simp only [View.readAt_eq_ld, h1.read_unread, h2.read_unread, h3.read_unread, h4.read_unread, View.ld_unit_zero (S := S256x1024) Mlp.zero2, View.ld_unit_zero (S := S1x256x1024) Mlp.zero3]

theorem out_A_7 : out0_A_7 (F := Ideal) c i a1 h1 a2 h2 a3 h3 a4 h4 a9 h9 a10 h10 a11 h11 a12 h12 x0 x1 x2 x3 = k0_pay3 (F := Ideal) (k0_pay6 x1 x3) := by
  unfold out0_A_7
  rw [View.read_writes_eq_canon _ _ _ (cover0_A_7 (F := Ideal) c i a1 h1 a2 h2 a3 h3 a4 h4 a9 h9 a10 h10 a11 h11 a12 h12 x0 x1 x2 x3)]
  unfold kernelRun0_A
  dsimp only
  sl_unfold_words
  rw [View.canon_unit_zero Mlp.zero3]
  simp only [View.readAt_eq_ld, h1.read_unread, h2.read_unread, h3.read_unread, h4.read_unread, View.ld_unit_zero (S := S256x1024) Mlp.zero2, View.ld_unit_zero (S := S1x256x1024) Mlp.zero3]

end

section
/- The same at an index. -/
variable (x0 : FVec Ideal S1x256x1024 .f32) (x1 : FVec Ideal S256x1024 .f32) (x2 : FVec Ideal S1x256x1024 .f32) (x3 : FVec Ideal S1x256x1024 .f32) (y : S1x256x1024.Idx)

theorem pay4_apply : k0_pay4 (F := Ideal) x1 y = x1 (ix2 (y 1) (y 2)) := by
  pointwise [k0_pay4]

theorem pay2_apply : k0_pay2 (F := Ideal) (k0_pay5 x1 x2) y = Update.mean1 (x1 (ix2 (y 1) (y 2))) (x2 y) := by
  unfold Update.mean1
  pointwise [k0_pay2, k0_pay5]

theorem pay3_apply : k0_pay3 (F := Ideal) (k0_pay6 x1 x3) y = Update.square1 (x1 (ix2 (y 1) (y 2))) (x3 y) := by
  unfold Update.square1
  pointwise [k0_pay3, k0_pay6]

theorem pay1_apply : k0_pay1 (F := Ideal) (k0_pay7 x1 x0 x2 x3) y
    = Update.delta1 (x0 y) (x1 (ix2 (y 1) (y 2))) (x2 y) (x3 y) := by
  unfold Update.delta1 Update.mean1 Update.square1
  pointwise [k0_pay1, k0_pay7, k0_pay5, k0_pay6]

end

variable (m : (ℓ : Loc nD τ sig) → Buf (Elt Ideal) ℓ) (c : Dev nD)

/-- The weight, the flat gradients and the moments, and the four arrays that the first layer's call left. -/
abbrev W : FVec Ideal S2x1024x1024 .f32 := m ((c : Thread nD τ).loc main_arg0)
abbrev R : FVec Ideal S2048x1024 .f32 := m ((c : Thread nD τ).loc main_arg1)
abbrev M : FVec Ideal S2x1024x1024 .f32 := m ((c : Thread nD τ).loc main_arg2)
abbrev N : FVec Ideal S2x1024x1024 .f32 := m ((c : Thread nD τ).loc main_arg3)
abbrev G0 : FVec Ideal S2x1024x1024 .f32 := m ((c : Thread nD τ).loc main_arg4)
abbrev D0 : FVec Ideal S2x1024x1024 .f32 := m ((c : Thread nD τ).loc main_arg5)
abbrev M0 : FVec Ideal S2x1024x1024 .f32 := m ((c : Thread nD τ).loc main_arg6)
abbrev N0 : FVec Ideal S2x1024x1024 .f32 := m ((c : Thread nD τ).loc main_arg7)

/-- Point `t` takes block `t` of the rows of the second slices, and of the flat array. -/
theorem idx_facts : ∀ t : Fin cfg0.N, (∀ a, win0_0.index t a = (![1, t.val, 0] : Fin 3 → ℕ) a) ∧ (∀ a, win0_1.index t a = (![t.val, 0] : Fin 2 → ℕ) a)
    ∧ (∀ a, win0_2.index t a = (![1, t.val, 0] : Fin 3 → ℕ) a) ∧ (∀ a, win0_3.index t a = (![1, t.val, 0] : Fin 3 → ℕ) a)
    ∧ (∀ a, win0_4.index t a = (![1, t.val, 0] : Fin 3 → ℕ) a) ∧ (∀ a, win0_5.index t a = (![1, t.val, 0] : Fin 3 → ℕ) a)
    ∧ (∀ a, win0_6.index t a = (![1, t.val, 0] : Fin 3 → ℕ) a) ∧ (∀ a, win0_7.index t a = (![1, t.val, 0] : Fin 3 → ℕ) a) :=
  (by decide +kernel : ∀ t : Fin grid0.N, _)

/-- The row of the slice at which row `y` of block `t` stands. -/
def row (t : Fin cfg0.N) (y : S1x256x1024.Idx) : Fin 1024 :=
  ⟨t.val * 256 + (y 1).val, by have h : (y 1).val < 256 := (y 1).isLt; have h' : t.val < 4 := t.isLt; omega⟩

/-- Where index `y` of block `t` stands in the array. -/
abbrev pos (t : Fin cfg0.N) (y : S1x256x1024.Idx) : S2x1024x1024.Idx := ix3 1 (row t y) (y 2)

theorem pos_of (t : Fin cfg0.N) (y : S1x256x1024.Idx) (e : S2x1024x1024.Idx) (n : Fin 3 → ℕ) (hn : ∀ a, n a = (![1, t.val, 0] : Fin 3 → ℕ) a)
    (q0 : (e 0).val = n 0 * 1 + (y 0).val) (q1 : (e 1).val = n 1 * 256 + (y 1).val) (q2 : (e 2).val = n 2 * 1024 + (y 2).val) : e = pos t y := by
  have y0 : (y 0).val < 1 := (y 0).isLt
  have n0 : n 0 = 1 := hn 0
  have n1 : n 1 = t.val := hn 1
  have n2 : n 2 = 0 := hn 2
  refine Mlp.idx_ext3 ?_ ?_ ?_
  · show (e 0).val = 1; omega
  · show (e 1).val = t.val * 256 + (y 1).val; rw [q1, n1]
  · show (e 2).val = (y 2).val; rw [q2, n2]; omega

section
variable (t : Fin cfg0.N) (y : S1x256x1024.Idx)

theorem w_apply : iblk m c 0 t y = layer (W m c) (ix3 0 (row t y) (y 2)) :=
  congrArg (W m c) (pos_of t y ((win0_0.rect t).emb y) (win0_0.index t) (idx_facts t).1 (win0_0.rect_emb_val t y 0) (win0_0.rect_emb_val t y 1) (win0_0.rect_emb_val t y 2))

theorem m_apply : iblk m c 2 t y = layer (M m c) (ix3 0 (row t y) (y 2)) :=
  congrArg (M m c) (pos_of t y ((win0_2.rect t).emb y) (win0_2.index t) (idx_facts t).2.2.1 (win0_2.rect_emb_val t y 0) (win0_2.rect_emb_val t y 1) (win0_2.rect_emb_val t y 2))

theorem v_apply : iblk m c 3 t y = layer (N m c) (ix3 0 (row t y) (y 2)) :=
  congrArg (N m c) (pos_of t y ((win0_3.rect t).emb y) (win0_3.index t) (idx_facts t).2.2.2.1 (win0_3.rect_emb_val t y 0) (win0_3.rect_emb_val t y 1) (win0_3.rect_emb_val t y 2))

theorem g_apply : iblk m c 1 t (ix2 (y 1) (y 2)) = grad (R m c) (ix3 0 (row t y) (y 2)) := by
  have q0 : ((win0_1.rect t).emb (ix2 (y 1) (y 2)) 0).val = win0_1.index t 0 * 256 + (y 1).val := win0_1.rect_emb_val t (ix2 (y 1) (y 2)) 0
  have q1 : ((win0_1.rect t).emb (ix2 (y 1) (y 2)) 1).val = win0_1.index t 1 * 1024 + (y 2).val := win0_1.rect_emb_val t (ix2 (y 1) (y 2)) 1
  have n0 : win0_1.index t 0 = t.val := (idx_facts t).2.1 0
  have n1 : win0_1.index t 1 = 0 := (idx_facts t).2.1 1
  refine congrArg (R m c) (Shape.idx_ext₂ (x := (win0_1.rect t).emb (ix2 (y 1) (y 2))) ?_ ?_)
  · show _ = 0 + (t.val * 256 + (y 1).val); rw [q0, n0]; omega
  · show _ = (y 2).val; rw [q1, n1]; omega

end

/-- Every index of the second slice lies in the block of some point. -/
theorem at_pos (i : S2x1024x1024.Idx) (hi : (i 0).val ≠ 0) : ∃ (t : Fin cfg0.N) (y : S1x256x1024.Idx), pos t y = i := by
  have h0 : (i 0).val < 2 := (i 0).isLt
  have h1 : (i 1).val < 1024 := (i 1).isLt
  refine ⟨⟨(i 1).val / 256, by show _ < 4; omega⟩, ix3 0 ⟨(i 1).val % 256, Nat.mod_lt _ (by omega)⟩ (i 2), Mlp.idx_ext3 ?_ ?_ rfl⟩
  · show 1 = (i 0).val; omega
  · show (i 1).val / 256 * 256 + (i 1).val % 256 = (i 1).val; omega

theorem emb4 (t : Fin cfg0.N) (y : S1x256x1024.Idx) : (win0_4.rect t).emb y = pos t y :=
  pos_of t y _ (win0_4.index t) (idx_facts t).2.2.2.2.1 (win0_4.rect_emb_val t y 0) (win0_4.rect_emb_val t y 1) (win0_4.rect_emb_val t y 2)

theorem final4 : (dats m 0 c).arrAt 4 cfg0.N = stack (G0 m c) (grad (R m c)) := by
  funext i
  by_cases hi : (i 0).val = 0
  · rw [Value.entry4 m c i (fun t _ h => ?_), stack_zero _ _ _ hi]
    · show V m c main_v0_0 i = _
      entry_read
      rfl
    · have n0 : win0_4.index t 0 = 1 := ((idx_facts t).2.2.2.2.1) 0
      have h' : i ∈ ((View.whole main_v0_0).slice (win0_4.rect t)).set := h
      rw [View.set_slice_whole, Rect.mem_set_unit] at h'
      have h0 : win0_4.index t 0 * 1 ≤ (i 0).val := (h' 0).1
      omega
  · obtain ⟨t, y, rfl⟩ := at_pos i hi
    have h : (dats m 0 c).arrAt 4 cfg0.N ((win0_4.rect t).emb y) = (dats m 0 c).flushed 4 t y := congrFun (Value.blocks4 m c t (flush0_4 t)) y
    rw [emb4] at h
    rw [h, Value.flushed4_A, out_A_4]
    refine Eq.trans ?_ (stack_one _ _ _ _).symm
    refine (pay4_apply _ _).trans ?_
    rw [g_apply]
    rfl

theorem emb5 (t : Fin cfg0.N) (y : S1x256x1024.Idx) : (win0_5.rect t).emb y = pos t y :=
  pos_of t y _ (win0_5.index t) (idx_facts t).2.2.2.2.2.1 (win0_5.rect_emb_val t y 0) (win0_5.rect_emb_val t y 1) (win0_5.rect_emb_val t y 2)

theorem final5 : (dats m 0 c).arrAt 5 cfg0.N = stack (D0 m c) (Update.delta (layer (W m c)) (grad (R m c)) (layer (M m c)) (layer (N m c))) := by
  funext i
  by_cases hi : (i 0).val = 0
  · rw [Value.entry5 m c i (fun t _ h => ?_), stack_zero _ _ _ hi]
    · show V m c main_v0_1 i = _
      entry_read
      rfl
    · have n0 : win0_5.index t 0 = 1 := ((idx_facts t).2.2.2.2.2.1) 0
      have h' : i ∈ ((View.whole main_v0_1).slice (win0_5.rect t)).set := h
      rw [View.set_slice_whole, Rect.mem_set_unit] at h'
      have h0 : win0_5.index t 0 * 1 ≤ (i 0).val := (h' 0).1
      omega
  · obtain ⟨t, y, rfl⟩ := at_pos i hi
    have h : (dats m 0 c).arrAt 5 cfg0.N ((win0_5.rect t).emb y) = (dats m 0 c).flushed 5 t y := congrFun (Value.blocks5 m c t (flush0_5 t)) y
    rw [emb5] at h
    rw [h, Value.flushed5_A, out_A_5]
    refine Eq.trans ?_ (stack_one _ _ _ _).symm
    refine (pay1_apply _ _ _ _ _).trans ?_
    rw [w_apply, g_apply, m_apply, v_apply]
    rfl

theorem emb6 (t : Fin cfg0.N) (y : S1x256x1024.Idx) : (win0_6.rect t).emb y = pos t y :=
  pos_of t y _ (win0_6.index t) (idx_facts t).2.2.2.2.2.2.1 (win0_6.rect_emb_val t y 0) (win0_6.rect_emb_val t y 1) (win0_6.rect_emb_val t y 2)

theorem final6 : (dats m 0 c).arrAt 6 cfg0.N = stack (M0 m c) (Update.mean (grad (R m c)) (layer (M m c))) := by
  funext i
  by_cases hi : (i 0).val = 0
  · rw [Value.entry6 m c i (fun t _ h => ?_), stack_zero _ _ _ hi]
    · show V m c main_v0_2 i = _
      entry_read
      rfl
    · have n0 : win0_6.index t 0 = 1 := ((idx_facts t).2.2.2.2.2.2.1) 0
      have h' : i ∈ ((View.whole main_v0_2).slice (win0_6.rect t)).set := h
      rw [View.set_slice_whole, Rect.mem_set_unit] at h'
      have h0 : win0_6.index t 0 * 1 ≤ (i 0).val := (h' 0).1
      omega
  · obtain ⟨t, y, rfl⟩ := at_pos i hi
    have h : (dats m 0 c).arrAt 6 cfg0.N ((win0_6.rect t).emb y) = (dats m 0 c).flushed 6 t y := congrFun (Value.blocks6 m c t (flush0_6 t)) y
    rw [emb6] at h
    rw [h, Value.flushed6_A, out_A_6]
    refine Eq.trans ?_ (stack_one _ _ _ _).symm
    refine (pay2_apply _ _ _).trans ?_
    rw [g_apply, m_apply]
    rfl

theorem emb7 (t : Fin cfg0.N) (y : S1x256x1024.Idx) : (win0_7.rect t).emb y = pos t y :=
  pos_of t y _ (win0_7.index t) (idx_facts t).2.2.2.2.2.2.2 (win0_7.rect_emb_val t y 0) (win0_7.rect_emb_val t y 1) (win0_7.rect_emb_val t y 2)

theorem final7 : (dats m 0 c).arrAt 7 cfg0.N = stack (N0 m c) (Update.square (grad (R m c)) (layer (N m c))) := by
  funext i
  by_cases hi : (i 0).val = 0
  · rw [Value.entry7 m c i (fun t _ h => ?_), stack_zero _ _ _ hi]
    · show V m c main_v0_3 i = _
      entry_read
      rfl
    · have n0 : win0_7.index t 0 = 1 := ((idx_facts t).2.2.2.2.2.2.2) 0
      have h' : i ∈ ((View.whole main_v0_3).slice (win0_7.rect t)).set := h
      rw [View.set_slice_whole, Rect.mem_set_unit] at h'
      have h0 : win0_7.index t 0 * 1 ≤ (i 0).val := (h' 0).1
      omega
  · obtain ⟨t, y, rfl⟩ := at_pos i hi
    have h : (dats m 0 c).arrAt 7 cfg0.N ((win0_7.rect t).emb y) = (dats m 0 c).flushed 7 t y := congrFun (Value.blocks7 m c t (flush0_7 t)) y
    rw [emb7] at h
    rw [h, Value.flushed7_A, out_A_7]
    refine Eq.trans ?_ (stack_one _ _ _ _).symm
    refine (pay3_apply _ _ _).trans ?_
    rw [g_apply, v_apply]
    rfl

section
open Cert.Reference25Ideal.Read
variable (w x v g0 d0 m0 v0 : FVec Ideal S2x1024x1024 .f32) (r : FVec Ideal S2048x1024 .f32)

/-- The gradient, and the second slices as the reference reads them. -/
theorem ref_row (p q : Fin 1024) : val_main_v0 (F := Ideal) r (ix2 p q) = grad r (ix3 0 p q) := by
  unfold grad Update.rows
  pointwise [val_main_v0]

theorem ref_w (p q : Fin 1024) : val_main_v2 (F := Ideal) w (ix2 p q) = layer w (ix3 0 p q) := by
  unfold layer
  pointwise [val_main_v2, val_main_v1]

theorem ref_x (p q : Fin 1024) : val_main_v4 (F := Ideal) x (ix2 p q) = layer x (ix3 0 p q) := ref_w x p q

theorem ref_v (p q : Fin 1024) : val_main_v6 (F := Ideal) v (ix2 p q) = layer v (ix3 0 p q) := ref_w v p q

/-- A first slice kept and a second slice set beside it. -/
theorem stack_of (old : FVec Ideal S2x1024x1024 .f32) (new : Slice) (f : FVec Ideal ⟨2, ![1024, 1024]⟩ .f32) (h : ∀ p q, f (ix2 p q) = new (ix3 0 p q)) (i : S2x1024x1024.Idx) :
    (if _h : (i 0).val < 1 then old (ix3 0 (i 1) (i 2)) else f (ix2 (i 1) (i 2)) : EReal) = stack old new i := by
  by_cases hi : (i 0).val = 0
  · rw [dif_pos (by omega), stack_zero _ _ _ hi]
    exact congrArg old (Mlp.idx_ext3 hi.symm rfl rfl)
  · rw [dif_neg (by omega)]
    exact (h _ _).trans (if_neg hi).symm

theorem ref_g : val_main_v35 (F := Ideal) r g0 = stack g0 (grad r) := by
  funext i
  refine Eq.trans ?_ (stack_of g0 _ _ (ref_row r) i)
  pointwise [val_main_v35, val_main_v34, val_main_v33, val_main_v32, val_main_v31]

theorem ref_d : val_main_v40 (F := Ideal) w r x v d0 = stack d0 (Update.delta (layer w) (grad r) (layer x) (layer v)) := by
  funext i
  refine Eq.trans ?_ (stack_of d0 _ (val_main_v30 (F := Ideal) w r x v) (fun p q => ?_) i)
  · pointwise [val_main_v40, val_main_v39, val_main_v38, val_main_v37, val_main_v36]
  · show _ = Update.delta1 (layer w (ix3 0 p q)) (grad r (ix3 0 p q)) (layer x (ix3 0 p q)) (layer v (ix3 0 p q))
    rw [← ref_w, ← ref_row, ← ref_x, ← ref_v]
    rfl

theorem ref_m : val_main_v45 (F := Ideal) r x m0 = stack m0 (Update.mean (grad r) (layer x)) := by
  funext i
  refine Eq.trans ?_ (stack_of m0 _ (val_main_v11 (F := Ideal) r x) (fun p q => ?_) i)
  · pointwise [val_main_v45, val_main_v44, val_main_v43, val_main_v42, val_main_v41]
  · refine Eq.trans ?_ (congrArg₂ Update.mean1 (ref_row r p q) (ref_x x p q))
    rfl

theorem ref_s : val_main_v50 (F := Ideal) r v v0 = stack v0 (Update.square (grad r) (layer v)) := by
  funext i
  refine Eq.trans ?_ (stack_of v0 _ (val_main_v17 (F := Ideal) r v) (fun p q => ?_) i)
  · pointwise [val_main_v50, val_main_v49, val_main_v48, val_main_v47, val_main_v46]
  · refine Eq.trans ?_ (congrArg₂ Update.square1 (ref_row r p q) (ref_v v p q))
    rfl

end

end Cert.Kernel25Ideal.Up

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference2Ideal
public import proofs.«01_k».proof.Proof.Gen.Reference2Ideal.Read
public import proofs.«01_k».proof.Proof.Gen.Reference3Ideal
public import proofs.«01_k».proof.Proof.Gen.Reference3Ideal.Read
public import proofs.«01_k».proof.Proof.Gen.Reference4Ideal
public import proofs.«01_k».proof.Proof.Gen.Reference4Ideal.Read
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Read
public import proofs.«01_k».proof.Proof.Gen.Pre_finite21
public import proofs.«01_k».proof.Proof.Mlp.Da
public import proofs.«01_k».proof.Proof.Mlp.Dwdown
public import proofs.«01_k».proof.Proof.Mlp.Dwup
public import proofs.«01_k».proof.Proof.Gen.Pre_finite
public import proofs.«01_k».proof.Proof.Attention.Final
public import proofs.«01_k».proof.Proof.Attention.FwdFinal
public import proofs.«01_k».proof.Proof.Mlp.Up
public import proofs.«01_k».proof.Proof.Mlp.InProj
public import proofs.«01_k».proof.Proof.Mlp.DwIn
public import proofs.«01_k».proof.Proof.Mlp.QkvProj
public import proofs.«01_k».proof.Proof.Mlp.DwQkv
public import proofs.«01_k».proof.Proof.Mlp.AttnDout
public import proofs.«01_k».proof.Proof.Mlp.DwO
public import proofs.«01_k».proof.Proof.Mlp.DwOut
public import proofs.«01_k».proof.Proof.Mlp.MixerDout
public import proofs.«01_k».proof.Proof.Mlp.Dy1
public import proofs.«01_k».proof.Proof.Mlp.Down0
public import proofs.«01_k».proof.Proof.Mlp.Down1
public import proofs.«01_k».proof.Proof.Mlp.DyQkv
public import proofs.«01_k».proof.Proof.Mlp.DyIn
public import proofs.«01_k».proof.Proof.Mlp.OutProj
public import proofs.«01_k».proof.Proof.Mlp.OProj
public import proofs.«01_k».proof.Proof.Mlp.MixNorm
public import proofs.«01_k».proof.Proof.Update.WOut
public import proofs.«01_k».proof.Proof.Update.WO
public import proofs.«01_k».proof.Proof.Update.Up
public import Idealize.ShloMosaic.Adequacy
public import Idealize.ShloMosaic.Init

@[expose] public section

noncomputable section

namespace Cert.Proof

open Idealize.ShloMosaic Idealize.SL.Sem

set_option maxHeartbeats 4000000 in
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Pre_finite.Gen.facts, Cert.Pre_finite21.Gen.facts, by
  refine ⟨fun m ρ _ => Cert.Kernel.Gen.frame m ρ, fun m ρ _ => Cert.KernelIdeal.Gen.frame m ρ, fun m ρ _ => Cert.KernelIdeal.Gen.frame m ρ,
    fun m ρ _ => (θ_run Cert.ReferenceIdeal.defs _ _).mono (fun r h => ⟨fun c => (h c).2.2.2,
        sem_eq_zero_of_no_sems (by decide) r.2⟩) (Cert.ReferenceIdeal.Value.run m ρ),
    fun m ρ _ => (θ_run Cert.ReferenceIdeal.defs _ _).mono (fun r h => ⟨fun c => (h c).2.2.2,
        sem_eq_zero_of_no_sems (by decide) r.2⟩) (Cert.ReferenceIdeal.Value.run m ρ),
    fun m ρ _ => Cert.Kernel2.Gen.frame m ρ, fun m ρ _ => Cert.Kernel2Ideal.Gen.frame m ρ,
    fun m ρ _ => (θ_run Cert.Reference2Ideal.defs _ _).mono (fun r h => ⟨fun c => (h c).2,
        sem_eq_zero_of_no_sems (by decide) r.2⟩) (Cert.Reference2Ideal.Value.run m ρ),
    fun m ρ _ => Cert.Kernel3.Gen.frame m ρ, fun m ρ _ => Cert.Kernel3Ideal.Gen.frame m ρ,
    fun m ρ _ => (θ_run Cert.Reference3Ideal.defs _ _).mono (fun r h => ⟨fun c => (h c).2,
        sem_eq_zero_of_no_sems (by decide) r.2⟩) (Cert.Reference3Ideal.Value.run m ρ),
    fun m ρ _ => Cert.Kernel4.Gen.frame m ρ, fun m ρ _ => Cert.Kernel4Ideal.Gen.frame m ρ,
    fun m ρ _ => (θ_run Cert.Reference4Ideal.defs _ _).mono (fun r h => ⟨fun c => (h c).2,
        sem_eq_zero_of_no_sems (by decide) r.2⟩) (Cert.Reference4Ideal.Value.run m ρ),
    fun m ρ _ => Cert.Kernel5.Gen.frame m ρ, fun m ρ _ => Cert.Kernel5Ideal.Gen.frame m ρ,
    fun m ρ _ => (θ_run Cert.Reference5Ideal.defs _ _).mono (fun r h => ⟨fun c => (h c).2,
        sem_eq_zero_of_no_sems (by decide) r.2⟩) (Cert.Reference5Ideal.Value.run m ρ),
    fun m ρ _ => Cert.Kernel6.Gen.frame m ρ, fun m ρ _ => Cert.Kernel6Ideal.Gen.frame m ρ,
    fun m ρ _ => (θ_run Cert.Reference6Ideal.defs _ _).mono (fun r h => ⟨fun c => (h c).2,
        sem_eq_zero_of_no_sems (by decide) r.2⟩) (Cert.Reference6Ideal.Value.run m ρ),
    fun m ρ _ => Cert.Kernel7.Gen.frame m ρ, fun m ρ _ => Cert.Kernel7Ideal.Gen.frame m ρ,
    fun m ρ _ => (θ_run Cert.Reference7Ideal.defs _ _).mono (fun r h => ⟨fun c => (h c).2,
        sem_eq_zero_of_no_sems (by decide) r.2⟩) (Cert.Reference7Ideal.Value.run m ρ),
    fun m ρ _ => Cert.Kernel8.Gen.frame m ρ, fun m ρ _ => Cert.Kernel8Ideal.Gen.frame m ρ,
    fun m ρ _ => (θ_run Cert.Reference8Ideal.defs _ _).mono (fun r h => ⟨fun c => (h c).2,
        sem_eq_zero_of_no_sems (by decide) r.2⟩) (Cert.Reference8Ideal.Value.run m ρ),
    fun m ρ _ => Cert.Kernel9.Gen.frame m ρ, fun m ρ _ => Cert.Kernel9Ideal.Gen.frame m ρ,
    fun m ρ _ => (θ_run Cert.Reference9Ideal.defs _ _).mono (fun r h => ⟨fun c => (h c).2,
        sem_eq_zero_of_no_sems (by decide) r.2⟩) (Cert.Reference9Ideal.Value.run m ρ),
    fun m ρ _ => Cert.Kernel10.Gen.frame m ρ, fun m ρ _ => Cert.Kernel10Ideal.Gen.frame m ρ,
    fun m ρ _ => (θ_run Cert.Reference10Ideal.defs _ _).mono (fun r h => ⟨fun c => (h c).2,
        sem_eq_zero_of_no_sems (by decide) r.2⟩) (Cert.Reference10Ideal.Value.run m ρ),
    fun m ρ _ => Cert.Kernel11.Gen.frame m ρ, fun m ρ _ => Cert.Kernel11Ideal.Gen.frame m ρ,
    fun m ρ _ => (θ_run Cert.Reference11Ideal.defs _ _).mono (fun r h => ⟨fun c => (h c).2,
        sem_eq_zero_of_no_sems (by decide) r.2⟩) (Cert.Reference11Ideal.Value.run m ρ),
    fun m ρ _ => Cert.Kernel12.Gen.frame m ρ, fun m ρ _ => Cert.Kernel12Ideal.Gen.frame m ρ,
    fun m ρ _ => (θ_run Cert.Reference12Ideal.defs _ _).mono (fun r h => ⟨fun c => (h c).2,
        sem_eq_zero_of_no_sems (by decide) r.2⟩) (Cert.Reference12Ideal.Value.run m ρ),
    fun m ρ _ => Cert.Kernel13.Gen.frame m ρ, fun m ρ _ => Cert.Kernel13Ideal.Gen.frame m ρ,
    fun m ρ _ => (θ_run Cert.Reference13Ideal.defs _ _).mono (fun r h => ⟨fun c => (h c).2,
        sem_eq_zero_of_no_sems (by decide) r.2⟩) (Cert.Reference13Ideal.Value.run m ρ),
    fun m ρ _ => Cert.Kernel14.Gen.frame m ρ, fun m ρ _ => Cert.Kernel14Ideal.Gen.frame m ρ,
    fun m ρ _ => (θ_run Cert.Reference14Ideal.defs _ _).mono (fun r h => ⟨fun c => (h c).2.2.2,
        sem_eq_zero_of_no_sems (by decide) r.2⟩) (Cert.Reference14Ideal.Value.run m ρ),
    fun m ρ _ => Cert.Kernel15.Gen.frame m ρ, fun m ρ _ => Cert.Kernel15Ideal.Gen.frame m ρ,
    fun m ρ _ => (θ_run Cert.Reference15Ideal.defs _ _).mono (fun r h => ⟨fun c => (h c).2.2,
        sem_eq_zero_of_no_sems (by decide) r.2⟩) (Cert.Reference15Ideal.Value.run m ρ),
    fun m ρ _ => Cert.Kernel16.Gen.frame m ρ, fun m ρ _ => Cert.Kernel16Ideal.Gen.frame m ρ,
    fun m ρ _ => (θ_run Cert.Reference16Ideal.defs _ _).mono (fun r h => ⟨fun c => (h c).2.2.2,
        sem_eq_zero_of_no_sems (by decide) r.2⟩) (Cert.Reference16Ideal.Value.run m ρ),
    fun m ρ _ => Cert.Kernel17.Gen.frame m ρ, fun m ρ _ => Cert.Kernel17Ideal.Gen.frame m ρ,
    fun m ρ _ => (θ_run Cert.Reference17Ideal.defs _ _).mono (fun r h => ⟨fun c => (h c).2.2,
        sem_eq_zero_of_no_sems (by decide) r.2⟩) (Cert.Reference17Ideal.Value.run m ρ),
    fun m ρ _ => Cert.Kernel18.Gen.frame m ρ, fun m ρ _ => Cert.Kernel18Ideal.Gen.frame m ρ,
    fun m ρ _ => (θ_run Cert.Reference18Ideal.defs _ _).mono (fun r h => ⟨fun c => (h c).2.2,
        sem_eq_zero_of_no_sems (by decide) r.2⟩) (Cert.Reference18Ideal.Value.run m ρ),
    fun m ρ _ => Cert.Kernel19.Gen.frame m ρ, fun m ρ _ => Cert.Kernel19Ideal.Gen.frame m ρ,
    fun m ρ _ => (θ_run Cert.Reference19Ideal.defs _ _).mono (fun r h => ⟨fun c => (h c).2.2,
        sem_eq_zero_of_no_sems (by decide) r.2⟩) (Cert.Reference19Ideal.Value.run m ρ),
    fun m ρ _ => Cert.Kernel20.Gen.frame m ρ, fun m ρ _ => Cert.Kernel20Ideal.Gen.frame m ρ,
    fun m ρ _ => (θ_run Cert.Reference20Ideal.defs _ _).mono (fun r h => ⟨fun c => (h c).2.2,
        sem_eq_zero_of_no_sems (by decide) r.2⟩) (Cert.Reference20Ideal.Value.run m ρ),
    fun m ρ _ => Cert.Kernel21.Gen.frame m ρ, fun m ρ _ => Cert.Kernel21Ideal.Gen.frame m ρ, fun m ρ _ => Cert.Kernel21Ideal.Gen.frame m ρ,
    fun m ρ _ => (θ_run Cert.Reference21Ideal.defs _ _).mono (fun r h => ⟨fun c => (h c).2,
        sem_eq_zero_of_no_sems (by decide) r.2⟩) (Cert.Reference21Ideal.Value.run m ρ),
    fun m ρ _ => (θ_run Cert.Reference21Ideal.defs _ _).mono (fun r h => ⟨fun c => (h c).2,
        sem_eq_zero_of_no_sems (by decide) r.2⟩) (Cert.Reference21Ideal.Value.run m ρ),
    fun m ρ _ => Cert.Kernel22.Gen.frame m ρ, fun m ρ _ => Cert.Kernel22Ideal.Gen.frame m ρ,
    fun m ρ _ => (θ_run Cert.Reference22Ideal.defs _ _).mono (fun r h => ⟨fun c => (h c).2,
        sem_eq_zero_of_no_sems (by decide) r.2⟩) (Cert.Reference22Ideal.Value.run m ρ),
    fun m ρ _ => Cert.Kernel23.Gen.frame m ρ, fun m ρ _ => Cert.Kernel23Ideal.Gen.frame m ρ,
    fun m ρ _ => (θ_run Cert.Reference23Ideal.defs _ _).mono (fun r h => ⟨fun c => (h c).2.2.2.2,
        sem_eq_zero_of_no_sems (by decide) r.2⟩) (Cert.Reference23Ideal.Value.run m ρ),
    fun m ρ _ => Cert.Kernel24.Gen.frame m ρ, fun m ρ _ => Cert.Kernel24Ideal.Gen.frame m ρ,
    fun m ρ _ => (θ_run Cert.Reference24Ideal.defs _ _).mono (fun r h => ⟨fun c => (h c).2.2.2.2,
        sem_eq_zero_of_no_sems (by decide) r.2⟩) (Cert.Reference24Ideal.Value.run m ρ),
    fun m ρ _ => Cert.Kernel25.Gen.frame m ρ, fun m ρ _ => Cert.Kernel25Ideal.Gen.frame m ρ,
    fun m ρ _ => (θ_run Cert.Reference25Ideal.defs _ _).mono (fun r h => ⟨fun c => (h c).2.2.2.2,
        sem_eq_zero_of_no_sems (by decide) r.2⟩) (Cert.Reference25Ideal.Value.run m ρ),
    fun m ρ _ => Cert.Kernel26.Gen.frame m ρ, fun m ρ _ => Cert.Kernel26Ideal.Gen.frame m ρ,
    fun m ρ _ => (θ_run Cert.Reference26Ideal.defs _ _).mono (fun r h => ⟨fun c => (h c).2.2.2,
        sem_eq_zero_of_no_sems (by decide) r.2⟩) (Cert.Reference26Ideal.Value.run m ρ),
    fun m ρ _ => Cert.Kernel27.Gen.frame m ρ, fun m ρ _ => Cert.Kernel27Ideal.Gen.frame m ρ,
    fun m ρ _ => (θ_run Cert.Reference27Ideal.defs _ _).mono (fun r h => ⟨fun c => (h c).2.2.2,
        sem_eq_zero_of_no_sems (by decide) r.2⟩) (Cert.Reference27Ideal.Value.run m ρ),
    fun m ρ _ => Cert.Kernel28.Gen.frame m ρ, fun m ρ _ => Cert.Kernel28Ideal.Gen.frame m ρ,
    fun m ρ _ => (θ_run Cert.Reference28Ideal.defs _ _).mono (fun r h => ⟨fun c => (h c).2.2.2,
        sem_eq_zero_of_no_sems (by decide) r.2⟩) (Cert.Reference28Ideal.Value.run m ρ),
    fun m ρ _ => Cert.Kernel29.Gen.frame m ρ, fun m ρ _ => Cert.Kernel29Ideal.Gen.frame m ρ,
    fun m ρ _ => (θ_run Cert.Reference29Ideal.defs _ _).mono (fun r h => ⟨fun c => (h c).2.2.2,
        sem_eq_zero_of_no_sems (by decide) r.2⟩) (Cert.Reference29Ideal.Value.run m ρ),
    fun m ρ _ => Cert.Kernel30.Gen.frame m ρ, fun m ρ _ => Cert.Kernel30Ideal.Gen.frame m ρ,
    fun m ρ _ => (θ_run Cert.Reference30Ideal.defs _ _).mono (fun r h => ⟨fun c => (h c).2.2.2,
        sem_eq_zero_of_no_sems (by decide) r.2⟩) (Cert.Reference30Ideal.Value.run m ρ),
    fun m ρ _ => Cert.Kernel31.Gen.frame m ρ, fun m ρ _ => Cert.Kernel31Ideal.Gen.frame m ρ,
    fun m ρ _ => (θ_run Cert.Reference31Ideal.defs _ _).mono (fun r h => ⟨fun c => (h c).2.2.2,
        sem_eq_zero_of_no_sems (by decide) r.2⟩) (Cert.Reference31Ideal.Value.run m ρ),
    fun m ρ _ => Cert.Kernel32.Gen.frame m ρ, fun m ρ _ => Cert.Kernel32Ideal.Gen.frame m ρ,
    fun m ρ _ => (θ_run Cert.Reference32Ideal.defs _ _).mono (fun r h => ⟨fun c => (h c).2.2.2,
        sem_eq_zero_of_no_sems (by decide) r.2⟩) (Cert.Reference32Ideal.Value.run m ρ),
    fun m ρ _ => Cert.Kernel33.Gen.frame m ρ, fun m ρ _ => Cert.Kernel33Ideal.Gen.frame m ρ,
    fun m ρ _ => (θ_run Cert.Reference33Ideal.defs _ _).mono (fun r h => ⟨fun c => (h c).2.2.2,
        sem_eq_zero_of_no_sems (by decide) r.2⟩) (Cert.Reference33Ideal.Value.run m ρ),
    fun m ρ _ => Cert.Kernel34.Gen.frame m ρ, fun m ρ _ => Cert.Kernel34Ideal.Gen.frame m ρ,
    fun m ρ _ => (θ_run Cert.Reference34Ideal.defs _ _).mono (fun r h => ⟨fun c => (h c).2.2.2,
        sem_eq_zero_of_no_sems (by decide) r.2⟩) (Cert.Reference34Ideal.Value.run m ρ),
    fun m ρ _ => Cert.Kernel35.Gen.frame m ρ, fun m ρ _ => Cert.Kernel35Ideal.Gen.frame m ρ,
    fun m ρ _ => (θ_run Cert.Reference35Ideal.defs _ _).mono (fun r h => ⟨fun c => (h c).2.2.2,
        sem_eq_zero_of_no_sems (by decide) r.2⟩) (Cert.Reference35Ideal.Value.run m ρ),
    fun m ρ _ => Cert.Kernel36.Gen.frame m ρ, fun m ρ _ => Cert.Kernel36Ideal.Gen.frame m ρ,
    fun m ρ _ => (θ_run Cert.Reference36Ideal.defs _ _).mono (fun r h => ⟨fun c => (h c).2.2.2,
        sem_eq_zero_of_no_sems (by decide) r.2⟩) (Cert.Reference36Ideal.Value.run m ρ),
    trivial, fun m g m' g' hp hag => ⟨fun c => Cert.KernelIdeal.Att.rowsAll m c, fun c => Cert.KernelIdeal.Att.sinkAll m c, fun c => Cert.KernelIdeal.Att.sumsAll m c,
      (θ_run Cert.KernelIdeal.defs _ _).mono (fun r h c => ⟨(h c).1.trans (Cert.KernelIdeal.Att.final7 m c), (h c).2.1.trans (Cert.KernelIdeal.Att.final8 m c),
          (h c).2.2.1.trans (Cert.KernelIdeal.Att.final9 m c), (h c).2.2.2⟩)
        (Cert.KernelIdeal.Value.run_blocks m g),
      (θ_run Cert.ReferenceIdeal.defs _ _).mono (fun r h c => ⟨(h c).1.trans
          ((Cert.ReferenceIdeal.Read.val_main_v176_eq _).trans (Eq.trans (congr (congrArg₂ (Cert.ReferenceIdeal.Read.val_main_v176 (F := Ideal)) (hag c).1 (hag c).2.1) (hag c).2.2) (Cert.KernelIdeal.Att.rows_ref m c (Cert.Att.fin_A _ _ _ (hp c).1) (Cert.Att.fin_s _ _ _ (hp c).2.1) (Cert.Att.fin_o _ _ _ (hp c).2.2)).symm)),
        (h c).2.1.trans
          ((Cert.ReferenceIdeal.Read.val_main_v171_eq _).trans (Eq.trans (congr (congrArg₂ (Cert.ReferenceIdeal.Read.val_main_v171 (F := Ideal)) (hag c).1 (hag c).2.1) (hag c).2.2) (Cert.KernelIdeal.Att.sinks_ref m c (Cert.Att.fin_A _ _ _ (hp c).1) (Cert.Att.fin_s _ _ _ (hp c).2.1) (Cert.Att.fin_o _ _ _ (hp c).2.2)).symm)),
        (h c).2.2.1.trans
          ((Cert.ReferenceIdeal.Read.val_main_v178_eq _).trans (Eq.trans (congr (congrArg₂ (Cert.ReferenceIdeal.Read.val_main_v178 (F := Ideal)) (hag c).1 (hag c).2.1) (hag c).2.2) (Cert.KernelIdeal.Att.sums_ref m c (Cert.Att.fin_A _ _ _ (hp c).1) (Cert.Att.fin_s _ _ _ (hp c).2.1) (Cert.Att.fin_o _ _ _ (hp c).2.2)).symm)), (h c).2.2.2⟩)
        (Cert.ReferenceIdeal.Value.run m' g')⟩,
    trivial, fun m g m' g' _ hag => ⟨fun c => Cert.Kernel2Ideal.Da.G (m (c.tc.loc Cert.Kernel2Ideal.main_arg0)) (m (c.tc.loc Cert.Kernel2Ideal.main_arg1)) (m (c.tc.loc Cert.Kernel2Ideal.main_arg2)),
      (θ_run Cert.Kernel2Ideal.defs _ _).mono (fun r h c => ⟨(h c).1.trans (Cert.Kernel2Ideal.Da.final m c), (h c).2⟩)
        (Cert.Kernel2Ideal.Value.run_blocks m g),
      (θ_run Cert.Reference2Ideal.defs _ _).mono (fun r h c => ⟨(h c).1.trans
          ((Cert.Reference2Ideal.Read.val_main_v14_eq _ _ _).trans ((Cert.Kernel2Ideal.Da.ref _ _ _).trans (by rw [(hag c).1, (hag c).2.1, (hag c).2.2]))), (h c).2⟩)
        (Cert.Reference2Ideal.Value.run m' g')⟩,
    trivial, fun m g m' g' _ hag => ⟨fun c => Cert.Kernel3Ideal.Dwdown.G (m (c.tc.loc Cert.Kernel3Ideal.main_arg0)) (m (c.tc.loc Cert.Kernel3Ideal.main_arg1)),
      (θ_run Cert.Kernel3Ideal.defs _ _).mono (fun r h c => ⟨(h c).1.trans (Cert.Kernel3Ideal.Dwdown.final m c), (h c).2⟩)
        (Cert.Kernel3Ideal.Value.run_blocks m g),
      (θ_run Cert.Reference3Ideal.defs _ _).mono (fun r h c => ⟨(h c).1.trans
          ((Cert.Reference3Ideal.Read.val_main_v7_eq _ _).trans ((Cert.Kernel3Ideal.Dwdown.ref _ _).trans (by rw [(hag c).1, (hag c).2]))), (h c).2⟩)
        (Cert.Reference3Ideal.Value.run m' g')⟩,
    trivial, fun m g m' g' _ hag => ⟨fun c => Cert.Kernel4Ideal.Dwup.G (m (c.tc.loc Cert.Kernel4Ideal.main_arg0)) (m (c.tc.loc Cert.Kernel4Ideal.main_arg1)),
      (θ_run Cert.Kernel4Ideal.defs _ _).mono (fun r h c => ⟨(h c).1.trans (Cert.Kernel4Ideal.Dwup.final m c), (h c).2⟩)
        (Cert.Kernel4Ideal.Value.run_blocks m g),
      (θ_run Cert.Reference4Ideal.defs _ _).mono (fun r h c => ⟨(h c).1.trans
          ((Cert.Reference4Ideal.Read.val_main_v8_eq _ _).trans ((Cert.Kernel4Ideal.Dwup.ref _ _).trans (by rw [(hag c).1, (hag c).2]))), (h c).2⟩)
        (Cert.Reference4Ideal.Value.run m' g')⟩,
    trivial, fun m g m' g' _ hag => ⟨fun c => Cert.Kernel5Ideal.Up.G (m (c.tc.loc Cert.Kernel5Ideal.main_arg0)) (m (c.tc.loc Cert.Kernel5Ideal.main_arg1)),
      (θ_run Cert.Kernel5Ideal.defs _ _).mono (fun r h c => ⟨(h c).1.trans (Cert.Kernel5Ideal.Up.final m c), (h c).2⟩)
        (Cert.Kernel5Ideal.Value.run_blocks m g),
      (θ_run Cert.Reference5Ideal.defs _ _).mono (fun r h c => ⟨(h c).1.trans
          ((Cert.Reference5Ideal.Read.val_main_v12_eq _ _).trans ((Cert.Kernel5Ideal.Up.ref _ _).trans (by rw [(hag c).1, (hag c).2]))), (h c).2⟩)
        (Cert.Reference5Ideal.Value.run m' g')⟩,
    trivial, fun m g m' g' _ hag => ⟨fun c => Cert.Mlp.nn (m (c.tc.loc Cert.Kernel6Ideal.main_arg0)) (m (c.tc.loc Cert.Kernel6Ideal.main_arg1)),
      (θ_run Cert.Kernel6Ideal.defs _ _).mono (fun r h c => ⟨(h c).1.trans (Cert.Kernel6Ideal.InProj.final m c), (h c).2⟩)
        (Cert.Kernel6Ideal.Value.run_blocks m g),
      (θ_run Cert.Reference6Ideal.defs _ _).mono (fun r h c => ⟨(h c).1.trans
          ((Cert.Reference6Ideal.Read.val_main_v2_eq _ _).trans ((Cert.Kernel6Ideal.InProj.ref _ _).trans (by rw [(hag c).1, (hag c).2]))), (h c).2⟩)
        (Cert.Reference6Ideal.Value.run m' g')⟩,
    trivial, fun m g m' g' _ hag => ⟨fun c => Cert.Mlp.tn (m (c.tc.loc Cert.Kernel7Ideal.main_arg0)) (m (c.tc.loc Cert.Kernel7Ideal.main_arg1)),
      (θ_run Cert.Kernel7Ideal.defs _ _).mono (fun r h c => ⟨(h c).1.trans (Cert.Kernel7Ideal.DwIn.final m c), (h c).2⟩)
        (Cert.Kernel7Ideal.Value.run_blocks m g),
      (θ_run Cert.Reference7Ideal.defs _ _).mono (fun r h c => ⟨(h c).1.trans
          ((Cert.Reference7Ideal.Read.val_main_v7_eq _ _).trans ((Cert.Kernel7Ideal.DwIn.ref _ _).trans (by rw [(hag c).1, (hag c).2]))), (h c).2⟩)
        (Cert.Reference7Ideal.Value.run m' g')⟩,
    trivial, fun m g m' g' _ hag => ⟨fun c => Cert.Kernel8Ideal.QkvProj.G (m (c.tc.loc Cert.Kernel8Ideal.main_arg0)) (m (c.tc.loc Cert.Kernel8Ideal.main_arg1)) (m (c.tc.loc Cert.Kernel8Ideal.main_arg2)),
      (θ_run Cert.Kernel8Ideal.defs _ _).mono (fun r h c => ⟨(h c).1.trans (Cert.Kernel8Ideal.QkvProj.final m c), (h c).2⟩)
        (Cert.Kernel8Ideal.Value.run_blocks m g),
      (θ_run Cert.Reference8Ideal.defs _ _).mono (fun r h c => ⟨(h c).1.trans
          ((Cert.Reference8Ideal.Read.val_main_v6_eq _ _ _).trans ((Cert.Kernel8Ideal.QkvProj.ref _ _ _).trans (by rw [(hag c).1, (hag c).2.1, (hag c).2.2]))), (h c).2⟩)
        (Cert.Reference8Ideal.Value.run m' g')⟩,
    trivial, fun m g m' g' _ hag => ⟨fun c => Cert.Mlp.tn (m (c.tc.loc Cert.Kernel9Ideal.main_arg0)) (m (c.tc.loc Cert.Kernel9Ideal.main_arg1)),
      (θ_run Cert.Kernel9Ideal.defs _ _).mono (fun r h c => ⟨(h c).1.trans (Cert.Kernel9Ideal.DwQkv.final m c), (h c).2⟩)
        (Cert.Kernel9Ideal.Value.run_blocks m g),
      (θ_run Cert.Reference9Ideal.defs _ _).mono (fun r h c => ⟨(h c).1.trans
          ((Cert.Reference9Ideal.Read.val_main_v6_eq _ _).trans ((Cert.Kernel9Ideal.DwQkv.ref _ _).trans (by rw [(hag c).1, (hag c).2]))), (h c).2⟩)
        (Cert.Reference9Ideal.Value.run m' g')⟩,
    trivial, fun m g m' g' _ hag => ⟨fun c => Cert.Mlp.nt (m (c.tc.loc Cert.Kernel10Ideal.main_arg0)) (m (c.tc.loc Cert.Kernel10Ideal.main_arg1)),
      (θ_run Cert.Kernel10Ideal.defs _ _).mono (fun r h c => ⟨(h c).1.trans (Cert.Kernel10Ideal.AttnDout.final m c), (h c).2⟩)
        (Cert.Kernel10Ideal.Value.run_blocks m g),
      (θ_run Cert.Reference10Ideal.defs _ _).mono (fun r h c => ⟨(h c).1.trans
          ((Cert.Reference10Ideal.Read.val_main_v4_eq _ _).trans ((Cert.Kernel10Ideal.AttnDout.ref _ _).trans (by rw [(hag c).1, (hag c).2]))), (h c).2⟩)
        (Cert.Reference10Ideal.Value.run m' g')⟩,
    trivial, fun m g m' g' _ hag => ⟨fun c => Cert.Mlp.tn (m (c.tc.loc Cert.Kernel11Ideal.main_arg0)) (m (c.tc.loc Cert.Kernel11Ideal.main_arg1)),
      (θ_run Cert.Kernel11Ideal.defs _ _).mono (fun r h c => ⟨(h c).1.trans (Cert.Kernel11Ideal.DwO.final m c), (h c).2⟩)
        (Cert.Kernel11Ideal.Value.run_blocks m g),
      (θ_run Cert.Reference11Ideal.defs _ _).mono (fun r h c => ⟨(h c).1.trans
          ((Cert.Reference11Ideal.Read.val_main_v5_eq _ _).trans ((Cert.Kernel11Ideal.DwO.ref _ _).trans (by rw [(hag c).1, (hag c).2]))), (h c).2⟩)
        (Cert.Reference11Ideal.Value.run m' g')⟩,
    trivial, fun m g m' g' _ hag => ⟨fun c => Cert.Mlp.tn (m (c.tc.loc Cert.Kernel12Ideal.main_arg0)) (m (c.tc.loc Cert.Kernel12Ideal.main_arg1)),
      (θ_run Cert.Kernel12Ideal.defs _ _).mono (fun r h c => ⟨(h c).1.trans (Cert.Kernel12Ideal.DwOut.final m c), (h c).2⟩)
        (Cert.Kernel12Ideal.Value.run_blocks m g),
      (θ_run Cert.Reference12Ideal.defs _ _).mono (fun r h c => ⟨(h c).1.trans
          ((Cert.Reference12Ideal.Read.val_main_v5_eq _ _).trans ((Cert.Kernel12Ideal.DwOut.ref _ _).trans (by rw [(hag c).1, (hag c).2]))), (h c).2⟩)
        (Cert.Reference12Ideal.Value.run m' g')⟩,
    trivial, fun m g m' g' _ hag => ⟨fun c => Cert.Mlp.nt (m (c.tc.loc Cert.Kernel13Ideal.main_arg0)) (m (c.tc.loc Cert.Kernel13Ideal.main_arg1)),
      (θ_run Cert.Kernel13Ideal.defs _ _).mono (fun r h c => ⟨(h c).1.trans (Cert.Kernel13Ideal.MixerDout.final m c), (h c).2⟩)
        (Cert.Kernel13Ideal.Value.run_blocks m g),
      (θ_run Cert.Reference13Ideal.defs _ _).mono (fun r h c => ⟨(h c).1.trans
          ((Cert.Reference13Ideal.Read.val_main_v3_eq _ _).trans ((Cert.Kernel13Ideal.MixerDout.ref _ _).trans (by rw [(hag c).1, (hag c).2]))), (h c).2⟩)
        (Cert.Reference13Ideal.Value.run m' g')⟩,
    trivial, fun m g m' g' _ hag => ⟨fun c => Cert.Kernel14Ideal.Dy1.H m c, fun c => Cert.Kernel14Ideal.Dy1.Dg m c, fun c => Cert.Kernel14Ideal.Dy1.Db m c,
      (θ_run Cert.Kernel14Ideal.defs _ _).mono (fun r h c => ⟨(h c).1.trans (Cert.Kernel14Ideal.Dy1.final5 m c), (h c).2.1.trans (Cert.Kernel14Ideal.Dy1.final6 m c), (h c).2.2.1.trans (Cert.Kernel14Ideal.Dy1.final7 m c), (h c).2.2.2⟩)
        (Cert.Kernel14Ideal.Value.run_blocks m g),
      (θ_run Cert.Reference14Ideal.defs _ _).mono (fun r h c => ⟨(h c).1.trans
          ((Cert.Reference14Ideal.Read.val_main_v52_eq m' c).trans ((Cert.Kernel14Ideal.Dy1.ref_Dx _ _ _ _ _).trans (by rw [(hag c).1, (hag c).2.1, (hag c).2.2.1, (hag c).2.2.2.1, (hag c).2.2.2.2]))), (h c).2.1.trans
          ((Cert.Reference14Ideal.Read.val_main_v51_eq _ _ _).trans ((Cert.Kernel14Ideal.Dy1.ref_Dg _ _ _).trans (by rw [(hag c).1, (hag c).2.1, (hag c).2.2.1]))), (h c).2.2.1.trans
          ((Cert.Reference14Ideal.Read.val_main_v54_eq m' c).trans ((Cert.Kernel14Ideal.Dy1.ref_Db _ _ _ _ _).trans (by rw [(hag c).1, (hag c).2.1, (hag c).2.2.1, (hag c).2.2.2.1, (hag c).2.2.2.2]))), (h c).2.2.2⟩)
        (Cert.Reference14Ideal.Value.run m' g')⟩,
    trivial, fun m g m' g' _ hag => ⟨fun c => Cert.Kernel15Ideal.Down0.H (m (c.tc.loc Cert.Kernel15Ideal.main_arg0)) (m (c.tc.loc Cert.Kernel15Ideal.main_arg1)) (m (c.tc.loc Cert.Kernel15Ideal.main_arg2)), fun c => Cert.Kernel15Ideal.Down0.Y (m (c.tc.loc Cert.Kernel15Ideal.main_arg0)) (m (c.tc.loc Cert.Kernel15Ideal.main_arg1)) (m (c.tc.loc Cert.Kernel15Ideal.main_arg2)) (m (c.tc.loc Cert.Kernel15Ideal.main_arg3)),
      (θ_run Cert.Kernel15Ideal.defs _ _).mono (fun r h c => ⟨(h c).1.trans (Cert.Kernel15Ideal.Down0.final4 m c), (h c).2.1.trans (Cert.Kernel15Ideal.Down0.final5 m c), (h c).2.2⟩)
        (Cert.Kernel15Ideal.Value.run_blocks m g),
      (θ_run Cert.Reference15Ideal.defs _ _).mono (fun r h c => ⟨(h c).1.trans
          ((Cert.Reference15Ideal.Read.val_main_v5_eq _ _ _).trans ((Cert.Kernel15Ideal.Down0.ref_H _ _ _).trans (by rw [(hag c).1, (hag c).2.1, (hag c).2.2.1]))), (h c).2.1.trans
          ((Cert.Reference15Ideal.Read.val_main_v20_eq _ _ _ _).trans ((Cert.Kernel15Ideal.Down0.ref_Y _ _ _ _).trans (by rw [(hag c).1, (hag c).2.1, (hag c).2.2.1, (hag c).2.2.2]))), (h c).2.2⟩)
        (Cert.Reference15Ideal.Value.run m' g')⟩,
    trivial, fun m g m' g' _ hag => ⟨fun c => Cert.Kernel16Ideal.Down1.H m c, fun c => Cert.Kernel16Ideal.Down1.Dg m c, fun c => Cert.Kernel16Ideal.Down1.L m c,
      (θ_run Cert.Kernel16Ideal.defs _ _).mono (fun r h c => ⟨(h c).1.trans (Cert.Kernel16Ideal.Down1.final5 m c), (h c).2.1.trans (Cert.Kernel16Ideal.Down1.final6 m c), (h c).2.2.1.trans (Cert.Kernel16Ideal.Down1.final7 m c), (h c).2.2.2⟩)
        (Cert.Kernel16Ideal.Value.run_blocks m g),
      (θ_run Cert.Reference16Ideal.defs _ _).mono (fun r h c => ⟨(h c).1.trans
          ((Cert.Reference16Ideal.Read.val_main_v57_eq m' c).trans ((Cert.Kernel16Ideal.Down1.ref_H _ _ _ _ _).trans (by rw [(hag c).1, (hag c).2.1, (hag c).2.2.1, (hag c).2.2.2.1, (hag c).2.2.2.2]))), (h c).2.1.trans
          ((Cert.Reference16Ideal.Read.val_main_v58_eq m' c).trans ((Cert.Kernel16Ideal.Down1.ref_Dg _ _ _ _ _).trans (by rw [(hag c).1, (hag c).2.1, (hag c).2.2.1, (hag c).2.2.2.1, (hag c).2.2.2.2]))), (h c).2.2.1.trans
          ((Cert.Reference16Ideal.Read.val_main_v59_eq m' c).trans ((Cert.Kernel16Ideal.Down1.ref_L _ _ _ _ _).trans (by rw [(hag c).1, (hag c).2.1, (hag c).2.2.1, (hag c).2.2.2.1, (hag c).2.2.2.2]))), (h c).2.2.2⟩)
        (Cert.Reference16Ideal.Value.run m' g')⟩,
    trivial, fun m g m' g' _ hag => ⟨fun c => Cert.Kernel17Ideal.DyQkv.Dx (m (c.tc.loc Cert.Kernel17Ideal.main_arg0)) (m (c.tc.loc Cert.Kernel17Ideal.main_arg1)) (m (c.tc.loc Cert.Kernel17Ideal.main_arg2)) (m (c.tc.loc Cert.Kernel17Ideal.main_arg3)) (m (c.tc.loc Cert.Kernel17Ideal.main_arg4)), fun c => Cert.Kernel17Ideal.DyQkv.Dg (m (c.tc.loc Cert.Kernel17Ideal.main_arg0)) (m (c.tc.loc Cert.Kernel17Ideal.main_arg1)) (m (c.tc.loc Cert.Kernel17Ideal.main_arg2)),
      (θ_run Cert.Kernel17Ideal.defs _ _).mono (fun r h c => ⟨(h c).1.trans (Cert.Kernel17Ideal.DyQkv.final5 m c), (h c).2.1.trans (Cert.Kernel17Ideal.DyQkv.final6 m c), (h c).2.2⟩)
        (Cert.Kernel17Ideal.Value.run_blocks m g),
      (θ_run Cert.Reference17Ideal.defs _ _).mono (fun r h c => ⟨(h c).1.trans
          ((Cert.Reference17Ideal.Read.val_main_v43_eq m' c).trans ((Cert.Kernel17Ideal.DyQkv.ref_Dx _ _ _ _ _).trans (by rw [(hag c).1, (hag c).2.1, (hag c).2.2.1, (hag c).2.2.2.1, (hag c).2.2.2.2]))), (h c).2.1.trans
          ((Cert.Reference17Ideal.Read.val_main_v42_eq _ _ _).trans ((Cert.Kernel17Ideal.DyQkv.ref_Dg _ _ _).trans (by rw [(hag c).1, (hag c).2.1, (hag c).2.2.1]))), (h c).2.2⟩)
        (Cert.Reference17Ideal.Value.run m' g')⟩,
    trivial, fun m g m' g' _ hag => ⟨fun c => Cert.Kernel18Ideal.DyIn.Dx (m (c.tc.loc Cert.Kernel18Ideal.main_arg0)) (m (c.tc.loc Cert.Kernel18Ideal.main_arg1)) (m (c.tc.loc Cert.Kernel18Ideal.main_arg2)) (m (c.tc.loc Cert.Kernel18Ideal.main_arg3)) (m (c.tc.loc Cert.Kernel18Ideal.main_arg4)), fun c => Cert.Kernel18Ideal.DyIn.Dg (m (c.tc.loc Cert.Kernel18Ideal.main_arg0)) (m (c.tc.loc Cert.Kernel18Ideal.main_arg1)) (m (c.tc.loc Cert.Kernel18Ideal.main_arg2)),
      (θ_run Cert.Kernel18Ideal.defs _ _).mono (fun r h c => ⟨(h c).1.trans (Cert.Kernel18Ideal.DyIn.final5 m c), (h c).2.1.trans (Cert.Kernel18Ideal.DyIn.final6 m c), (h c).2.2⟩)
        (Cert.Kernel18Ideal.Value.run_blocks m g),
      (θ_run Cert.Reference18Ideal.defs _ _).mono (fun r h c => ⟨(h c).1.trans
          ((Cert.Reference18Ideal.Read.val_main_v43_eq m' c).trans ((Cert.Kernel18Ideal.DyIn.ref_Dx _ _ _ _ _).trans (by rw [(hag c).1, (hag c).2.1, (hag c).2.2.1, (hag c).2.2.2.1, (hag c).2.2.2.2]))), (h c).2.1.trans
          ((Cert.Reference18Ideal.Read.val_main_v42_eq _ _ _).trans ((Cert.Kernel18Ideal.DyIn.ref_Dg _ _ _).trans (by rw [(hag c).1, (hag c).2.1, (hag c).2.2.1]))), (h c).2.2⟩)
        (Cert.Reference18Ideal.Value.run m' g')⟩,
    trivial, fun m g m' g' _ hag => ⟨fun c => Cert.Kernel19Ideal.OutProj.H (m (c.tc.loc Cert.Kernel19Ideal.main_arg0)) (m (c.tc.loc Cert.Kernel19Ideal.main_arg1)) (m (c.tc.loc Cert.Kernel19Ideal.main_arg2)), fun c => Cert.Kernel19Ideal.OutProj.Y (m (c.tc.loc Cert.Kernel19Ideal.main_arg0)) (m (c.tc.loc Cert.Kernel19Ideal.main_arg1)) (m (c.tc.loc Cert.Kernel19Ideal.main_arg2)) (m (c.tc.loc Cert.Kernel19Ideal.main_arg3)),
      (θ_run Cert.Kernel19Ideal.defs _ _).mono (fun r h c => ⟨(h c).1.trans (Cert.Kernel19Ideal.OutProj.final4 m c), (h c).2.1.trans (Cert.Kernel19Ideal.OutProj.final5 m c), (h c).2.2⟩)
        (Cert.Kernel19Ideal.Value.run_blocks m g),
      (θ_run Cert.Reference19Ideal.defs _ _).mono (fun r h c => ⟨(h c).1.trans
          ((Cert.Reference19Ideal.Read.val_main_v3_eq _ _ _).trans ((Cert.Kernel19Ideal.OutProj.ref_H _ _ _).trans (by rw [(hag c).1, (hag c).2.1, (hag c).2.2.1]))), (h c).2.1.trans
          ((Cert.Reference19Ideal.Read.val_main_v18_eq _ _ _ _).trans ((Cert.Kernel19Ideal.OutProj.ref_Y _ _ _ _).trans (by rw [(hag c).1, (hag c).2.1, (hag c).2.2.1, (hag c).2.2.2]))), (h c).2.2⟩)
        (Cert.Reference19Ideal.Value.run m' g')⟩,
    trivial, fun m g m' g' _ hag => ⟨fun c => Cert.Kernel20Ideal.OProj.H (m (c.tc.loc Cert.Kernel20Ideal.main_arg0)) (m (c.tc.loc Cert.Kernel20Ideal.main_arg1)) (m (c.tc.loc Cert.Kernel20Ideal.main_arg2)) (m (c.tc.loc Cert.Kernel20Ideal.main_arg3)), fun c => Cert.Kernel20Ideal.OProj.Y (m (c.tc.loc Cert.Kernel20Ideal.main_arg0)) (m (c.tc.loc Cert.Kernel20Ideal.main_arg1)) (m (c.tc.loc Cert.Kernel20Ideal.main_arg2)) (m (c.tc.loc Cert.Kernel20Ideal.main_arg3)) (m (c.tc.loc Cert.Kernel20Ideal.main_arg4)),
      (θ_run Cert.Kernel20Ideal.defs _ _).mono (fun r h c => ⟨(h c).1.trans (Cert.Kernel20Ideal.OProj.final5 m c), (h c).2.1.trans (Cert.Kernel20Ideal.OProj.final6 m c), (h c).2.2⟩)
        (Cert.Kernel20Ideal.Value.run_blocks m g),
      (θ_run Cert.Reference20Ideal.defs _ _).mono (fun r h c => ⟨(h c).1.trans
          ((Cert.Reference20Ideal.Read.val_main_v7_eq _ _ _ _).trans ((Cert.Kernel20Ideal.OProj.ref_H _ _ _ _).trans (by rw [(hag c).1, (hag c).2.1, (hag c).2.2.1, (hag c).2.2.2.1]))), (h c).2.1.trans
          ((Cert.Reference20Ideal.Read.val_main_v22_eq _ _ _ _ _).trans ((Cert.Kernel20Ideal.OProj.ref_Y _ _ _ _ _).trans (by rw [(hag c).1, (hag c).2.1, (hag c).2.2.1, (hag c).2.2.2.1, (hag c).2.2.2.2]))), (h c).2.2⟩)
        (Cert.Reference20Ideal.Value.run m' g')⟩,
    trivial, fun m g m' g' hp hag => ⟨fun c => Cert.Kernel21Ideal.Att.rowsAll m c,
      (θ_run Cert.Kernel21Ideal.defs _ _).mono (fun r h c => ⟨(h c).1.trans (Cert.Kernel21Ideal.Att.final6 m c), (h c).2⟩)
        (Cert.Kernel21Ideal.Value.run_blocks m g),
      (θ_run Cert.Reference21Ideal.defs _ _).mono (fun r h c => ⟨(h c).1.trans
          ((Cert.Reference21Ideal.Read.val_main_v79_eq _ _).trans (Eq.trans (congrArg₂ (Cert.Reference21Ideal.Read.val_main_v79 (F := Ideal)) (hag c).1 (hag c).2) (Cert.Kernel21Ideal.Att.rows_ref m c (Cert.Att.fwd_fin_A _ _ (hp c).1) (Cert.Att.fwd_fin_s _ _ (hp c).2)).symm)), (h c).2⟩)
        (Cert.Reference21Ideal.Value.run m' g')⟩,
    trivial, fun m g m' g' _ hag => ⟨fun c => Cert.Kernel22Ideal.MixNorm.Y (m (c.tc.loc Cert.Kernel22Ideal.main_arg0)) (m (c.tc.loc Cert.Kernel22Ideal.main_arg1)),
      (θ_run Cert.Kernel22Ideal.defs _ _).mono (fun r h c => ⟨(h c).1.trans (Cert.Kernel22Ideal.MixNorm.final2 m c), (h c).2⟩)
        (Cert.Kernel22Ideal.Value.run_blocks m g),
      (θ_run Cert.Reference22Ideal.defs _ _).mono (fun r h c => ⟨(h c).1.trans
          ((Cert.Reference22Ideal.Read.val_main_v14_eq _ _).trans ((Cert.Kernel22Ideal.MixNorm.ref_Y _ _).trans (by rw [(hag c).1, (hag c).2]))), (h c).2⟩)
        (Cert.Reference22Ideal.Value.run m' g')⟩,
    trivial, fun m g m' g' _ hag => ⟨fun c => Cert.Kernel23Ideal.WOut.grad (m (c.tc.loc Cert.Kernel23Ideal.main_arg1)), fun c => Cert.Update.delta (m (c.tc.loc Cert.Kernel23Ideal.main_arg0)) (Cert.Kernel23Ideal.WOut.grad (m (c.tc.loc Cert.Kernel23Ideal.main_arg1))) (m (c.tc.loc Cert.Kernel23Ideal.main_arg2)) (m (c.tc.loc Cert.Kernel23Ideal.main_arg3)), fun c => Cert.Update.mean (Cert.Kernel23Ideal.WOut.grad (m (c.tc.loc Cert.Kernel23Ideal.main_arg1))) (m (c.tc.loc Cert.Kernel23Ideal.main_arg2)), fun c => Cert.Update.square (Cert.Kernel23Ideal.WOut.grad (m (c.tc.loc Cert.Kernel23Ideal.main_arg1))) (m (c.tc.loc Cert.Kernel23Ideal.main_arg3)),
      (θ_run Cert.Kernel23Ideal.defs _ _).mono (fun r h c => ⟨(h c).1.trans (Cert.Kernel23Ideal.WOut.final4 m c), (h c).2.1.trans (Cert.Kernel23Ideal.WOut.final5 m c), (h c).2.2.1.trans (Cert.Kernel23Ideal.WOut.final6 m c), (h c).2.2.2.1.trans (Cert.Kernel23Ideal.WOut.final7 m c), (h c).2.2.2.2⟩)
        (Cert.Kernel23Ideal.Value.run_blocks m g),
      (θ_run Cert.Reference23Ideal.defs _ _).mono (fun r h c => ⟨(h c).1.trans
          ((Cert.Reference23Ideal.Read.val_main_v1_eq _).trans ((congrArg (Cert.Reference23Ideal.Read.val_main_v1 (F := Ideal)) (hag c).2.1).trans (Cert.Kernel23Ideal.WOut.ref_g _))), (h c).2.1.trans
          ((Cert.Reference23Ideal.Read.val_main_v25_eq _ _ _ _).trans ((congr (congr (congrArg₂ (Cert.Reference23Ideal.Read.val_main_v25 (F := Ideal)) (hag c).1 (hag c).2.1) (hag c).2.2.1) (hag c).2.2.2).trans (Cert.Kernel23Ideal.WOut.ref_d _ _ _ _))), (h c).2.2.1.trans
          ((Cert.Reference23Ideal.Read.val_main_v6_eq _ _).trans ((congrArg₂ (Cert.Reference23Ideal.Read.val_main_v6 (F := Ideal)) (hag c).2.1 (hag c).2.2.1).trans (Cert.Kernel23Ideal.WOut.ref_m _ _))), (h c).2.2.2.1.trans
          ((Cert.Reference23Ideal.Read.val_main_v12_eq _ _).trans ((congrArg₂ (Cert.Reference23Ideal.Read.val_main_v12 (F := Ideal)) (hag c).2.1 (hag c).2.2.2).trans (Cert.Kernel23Ideal.WOut.ref_v _ _))), (h c).2.2.2.2⟩)
        (Cert.Reference23Ideal.Value.run m' g')⟩,
    trivial, fun m g m' g' _ hag => ⟨fun c => Cert.Kernel24Ideal.WO.grad (m (c.tc.loc Cert.Kernel24Ideal.main_arg1)), fun c => Cert.Update.delta (m (c.tc.loc Cert.Kernel24Ideal.main_arg0)) (Cert.Kernel24Ideal.WO.grad (m (c.tc.loc Cert.Kernel24Ideal.main_arg1))) (m (c.tc.loc Cert.Kernel24Ideal.main_arg2)) (m (c.tc.loc Cert.Kernel24Ideal.main_arg3)), fun c => Cert.Update.mean (Cert.Kernel24Ideal.WO.grad (m (c.tc.loc Cert.Kernel24Ideal.main_arg1))) (m (c.tc.loc Cert.Kernel24Ideal.main_arg2)), fun c => Cert.Update.square (Cert.Kernel24Ideal.WO.grad (m (c.tc.loc Cert.Kernel24Ideal.main_arg1))) (m (c.tc.loc Cert.Kernel24Ideal.main_arg3)),
      (θ_run Cert.Kernel24Ideal.defs _ _).mono (fun r h c => ⟨(h c).1.trans (Cert.Kernel24Ideal.WO.final4 m c), (h c).2.1.trans (Cert.Kernel24Ideal.WO.final5 m c), (h c).2.2.1.trans (Cert.Kernel24Ideal.WO.final6 m c), (h c).2.2.2.1.trans (Cert.Kernel24Ideal.WO.final7 m c), (h c).2.2.2.2⟩)
        (Cert.Kernel24Ideal.Value.run_blocks m g),
      (θ_run Cert.Reference24Ideal.defs _ _).mono (fun r h c => ⟨(h c).1.trans
          ((Cert.Reference24Ideal.Read.val_main_v1_eq _).trans ((congrArg (Cert.Reference24Ideal.Read.val_main_v1 (F := Ideal)) (hag c).2.1).trans (Cert.Kernel24Ideal.WO.ref_g _))), (h c).2.1.trans
          ((Cert.Reference24Ideal.Read.val_main_v25_eq _ _ _ _).trans ((congr (congr (congrArg₂ (Cert.Reference24Ideal.Read.val_main_v25 (F := Ideal)) (hag c).1 (hag c).2.1) (hag c).2.2.1) (hag c).2.2.2).trans (Cert.Kernel24Ideal.WO.ref_d _ _ _ _))), (h c).2.2.1.trans
          ((Cert.Reference24Ideal.Read.val_main_v6_eq _ _).trans ((congrArg₂ (Cert.Reference24Ideal.Read.val_main_v6 (F := Ideal)) (hag c).2.1 (hag c).2.2.1).trans (Cert.Kernel24Ideal.WO.ref_m _ _))), (h c).2.2.2.1.trans
          ((Cert.Reference24Ideal.Read.val_main_v12_eq _ _).trans ((congrArg₂ (Cert.Reference24Ideal.Read.val_main_v12 (F := Ideal)) (hag c).2.1 (hag c).2.2.2).trans (Cert.Kernel24Ideal.WO.ref_v _ _))), (h c).2.2.2.2⟩)
        (Cert.Reference24Ideal.Value.run m' g')⟩,
    trivial, fun m g m' g' _ hag => ⟨fun c => Cert.Kernel25Ideal.Up.stack (m (c.tc.loc Cert.Kernel25Ideal.main_arg4)) (Cert.Kernel25Ideal.Up.grad (m (c.tc.loc Cert.Kernel25Ideal.main_arg1))), fun c => Cert.Kernel25Ideal.Up.stack (m (c.tc.loc Cert.Kernel25Ideal.main_arg5)) (Cert.Update.delta (Cert.Kernel25Ideal.Up.layer (m (c.tc.loc Cert.Kernel25Ideal.main_arg0))) (Cert.Kernel25Ideal.Up.grad (m (c.tc.loc Cert.Kernel25Ideal.main_arg1))) (Cert.Kernel25Ideal.Up.layer (m (c.tc.loc Cert.Kernel25Ideal.main_arg2))) (Cert.Kernel25Ideal.Up.layer (m (c.tc.loc Cert.Kernel25Ideal.main_arg3)))), fun c => Cert.Kernel25Ideal.Up.stack (m (c.tc.loc Cert.Kernel25Ideal.main_arg6)) (Cert.Update.mean (Cert.Kernel25Ideal.Up.grad (m (c.tc.loc Cert.Kernel25Ideal.main_arg1))) (Cert.Kernel25Ideal.Up.layer (m (c.tc.loc Cert.Kernel25Ideal.main_arg2)))), fun c => Cert.Kernel25Ideal.Up.stack (m (c.tc.loc Cert.Kernel25Ideal.main_arg7)) (Cert.Update.square (Cert.Kernel25Ideal.Up.grad (m (c.tc.loc Cert.Kernel25Ideal.main_arg1))) (Cert.Kernel25Ideal.Up.layer (m (c.tc.loc Cert.Kernel25Ideal.main_arg3)))),
      (θ_run Cert.Kernel25Ideal.defs _ _).mono (fun r h c => ⟨(h c).1.trans (Cert.Kernel25Ideal.Up.final4 m c), (h c).2.1.trans (Cert.Kernel25Ideal.Up.final5 m c), (h c).2.2.1.trans (Cert.Kernel25Ideal.Up.final6 m c), (h c).2.2.2.1.trans (Cert.Kernel25Ideal.Up.final7 m c), (h c).2.2.2.2⟩)
        (Cert.Kernel25Ideal.Value.run_blocks m g),
      (θ_run Cert.Reference25Ideal.defs _ _).mono (fun r h c => ⟨(h c).1.trans
          ((Cert.Reference25Ideal.Read.val_main_v35_eq _ _).trans ((congrArg₂ (Cert.Reference25Ideal.Read.val_main_v35 (F := Ideal)) (hag c).2.1 (hag c).2.2.2.2.1).trans (Cert.Kernel25Ideal.Up.ref_g _ _))), (h c).2.1.trans
          ((Cert.Reference25Ideal.Read.val_main_v40_eq _ _ _ _ _).trans ((congr (congr (congr (congrArg₂ (Cert.Reference25Ideal.Read.val_main_v40 (F := Ideal)) (hag c).1 (hag c).2.1) (hag c).2.2.1) (hag c).2.2.2.1) (hag c).2.2.2.2.2.1).trans (Cert.Kernel25Ideal.Up.ref_d _ _ _ _ _))), (h c).2.2.1.trans
          ((Cert.Reference25Ideal.Read.val_main_v45_eq _ _ _).trans ((congr (congrArg₂ (Cert.Reference25Ideal.Read.val_main_v45 (F := Ideal)) (hag c).2.1 (hag c).2.2.1) (hag c).2.2.2.2.2.2.1).trans (Cert.Kernel25Ideal.Up.ref_m _ _ _))), (h c).2.2.2.1.trans
          ((Cert.Reference25Ideal.Read.val_main_v50_eq _ _ _).trans ((congr (congrArg₂ (Cert.Reference25Ideal.Read.val_main_v50 (F := Ideal)) (hag c).2.1 (hag c).2.2.2.1) (hag c).2.2.2.2.2.2.2).trans (Cert.Kernel25Ideal.Up.ref_s _ _ _))), (h c).2.2.2.2⟩)
        (Cert.Reference25Ideal.Value.run m' g')⟩,
    trivial, fun m g m' g' _ hag => ⟨fun c => Cert.Update.delta (m (c.tc.loc Cert.Kernel26Ideal.main_arg0)) (m (c.tc.loc Cert.Kernel26Ideal.main_arg1)) (m (c.tc.loc Cert.Kernel26Ideal.main_arg2)) (m (c.tc.loc Cert.Kernel26Ideal.main_arg3)), fun c => Cert.Update.mean (m (c.tc.loc Cert.Kernel26Ideal.main_arg1)) (m (c.tc.loc Cert.Kernel26Ideal.main_arg2)), fun c => Cert.Update.square (m (c.tc.loc Cert.Kernel26Ideal.main_arg1)) (m (c.tc.loc Cert.Kernel26Ideal.main_arg3)),
      (θ_run Cert.Kernel26Ideal.defs _ _).mono (fun r h c => ⟨(h c).1, (h c).2.1, (h c).2.2.1, (h c).2.2.2⟩)
        (Cert.Kernel26Ideal.Value.run m g),
      (θ_run Cert.Reference26Ideal.defs _ _).mono (fun r h c => ⟨(h c).1.trans
          ((Cert.Reference26Ideal.Read.val_main_v23_eq _ _ _ _).trans ((congr (congr (congrArg₂ (Cert.Reference26Ideal.Read.val_main_v23 (F := Ideal)) (hag c).1 (hag c).2.1) (hag c).2.2.1) (hag c).2.2.2).trans (rfl))), (h c).2.1.trans
          ((Cert.Reference26Ideal.Read.val_main_v4_eq _ _).trans ((congrArg₂ (Cert.Reference26Ideal.Read.val_main_v4 (F := Ideal)) (hag c).2.1 (hag c).2.2.1).trans (rfl))), (h c).2.2.1.trans
          ((Cert.Reference26Ideal.Read.val_main_v10_eq _ _).trans ((congrArg₂ (Cert.Reference26Ideal.Read.val_main_v10 (F := Ideal)) (hag c).2.1 (hag c).2.2.2).trans (rfl))), (h c).2.2.2⟩)
        (Cert.Reference26Ideal.Value.run m' g')⟩,
    trivial, fun m g m' g' _ hag => ⟨fun c => Cert.Update.delta (m (c.tc.loc Cert.Kernel27Ideal.main_arg0)) (m (c.tc.loc Cert.Kernel27Ideal.main_arg1)) (m (c.tc.loc Cert.Kernel27Ideal.main_arg2)) (m (c.tc.loc Cert.Kernel27Ideal.main_arg3)), fun c => Cert.Update.mean (m (c.tc.loc Cert.Kernel27Ideal.main_arg1)) (m (c.tc.loc Cert.Kernel27Ideal.main_arg2)), fun c => Cert.Update.square (m (c.tc.loc Cert.Kernel27Ideal.main_arg1)) (m (c.tc.loc Cert.Kernel27Ideal.main_arg3)),
      (θ_run Cert.Kernel27Ideal.defs _ _).mono (fun r h c => ⟨(h c).1, (h c).2.1, (h c).2.2.1, (h c).2.2.2⟩)
        (Cert.Kernel27Ideal.Value.run m g),
      (θ_run Cert.Reference27Ideal.defs _ _).mono (fun r h c => ⟨(h c).1.trans
          ((Cert.Reference27Ideal.Read.val_main_v23_eq _ _ _ _).trans ((congr (congr (congrArg₂ (Cert.Reference27Ideal.Read.val_main_v23 (F := Ideal)) (hag c).1 (hag c).2.1) (hag c).2.2.1) (hag c).2.2.2).trans (rfl))), (h c).2.1.trans
          ((Cert.Reference27Ideal.Read.val_main_v4_eq _ _).trans ((congrArg₂ (Cert.Reference27Ideal.Read.val_main_v4 (F := Ideal)) (hag c).2.1 (hag c).2.2.1).trans (rfl))), (h c).2.2.1.trans
          ((Cert.Reference27Ideal.Read.val_main_v10_eq _ _).trans ((congrArg₂ (Cert.Reference27Ideal.Read.val_main_v10 (F := Ideal)) (hag c).2.1 (hag c).2.2.2).trans (rfl))), (h c).2.2.2⟩)
        (Cert.Reference27Ideal.Value.run m' g')⟩,
    trivial, fun m g m' g' _ hag => ⟨fun c => Cert.Update.delta (m (c.tc.loc Cert.Kernel28Ideal.main_arg0)) (m (c.tc.loc Cert.Kernel28Ideal.main_arg1)) (m (c.tc.loc Cert.Kernel28Ideal.main_arg2)) (m (c.tc.loc Cert.Kernel28Ideal.main_arg3)), fun c => Cert.Update.mean (m (c.tc.loc Cert.Kernel28Ideal.main_arg1)) (m (c.tc.loc Cert.Kernel28Ideal.main_arg2)), fun c => Cert.Update.square (m (c.tc.loc Cert.Kernel28Ideal.main_arg1)) (m (c.tc.loc Cert.Kernel28Ideal.main_arg3)),
      (θ_run Cert.Kernel28Ideal.defs _ _).mono (fun r h c => ⟨(h c).1, (h c).2.1, (h c).2.2.1, (h c).2.2.2⟩)
        (Cert.Kernel28Ideal.Value.run m g),
      (θ_run Cert.Reference28Ideal.defs _ _).mono (fun r h c => ⟨(h c).1.trans
          ((Cert.Reference28Ideal.Read.val_main_v23_eq _ _ _ _).trans ((congr (congr (congrArg₂ (Cert.Reference28Ideal.Read.val_main_v23 (F := Ideal)) (hag c).1 (hag c).2.1) (hag c).2.2.1) (hag c).2.2.2).trans (rfl))), (h c).2.1.trans
          ((Cert.Reference28Ideal.Read.val_main_v4_eq _ _).trans ((congrArg₂ (Cert.Reference28Ideal.Read.val_main_v4 (F := Ideal)) (hag c).2.1 (hag c).2.2.1).trans (rfl))), (h c).2.2.1.trans
          ((Cert.Reference28Ideal.Read.val_main_v10_eq _ _).trans ((congrArg₂ (Cert.Reference28Ideal.Read.val_main_v10 (F := Ideal)) (hag c).2.1 (hag c).2.2.2).trans (rfl))), (h c).2.2.2⟩)
        (Cert.Reference28Ideal.Value.run m' g')⟩,
    trivial, fun m g m' g' _ hag => ⟨fun c => Cert.Update.delta (m (c.tc.loc Cert.Kernel29Ideal.main_arg0)) (m (c.tc.loc Cert.Kernel29Ideal.main_arg1)) (m (c.tc.loc Cert.Kernel29Ideal.main_arg2)) (m (c.tc.loc Cert.Kernel29Ideal.main_arg3)), fun c => Cert.Update.mean (m (c.tc.loc Cert.Kernel29Ideal.main_arg1)) (m (c.tc.loc Cert.Kernel29Ideal.main_arg2)), fun c => Cert.Update.square (m (c.tc.loc Cert.Kernel29Ideal.main_arg1)) (m (c.tc.loc Cert.Kernel29Ideal.main_arg3)),
      (θ_run Cert.Kernel29Ideal.defs _ _).mono (fun r h c => ⟨(h c).1, (h c).2.1, (h c).2.2.1, (h c).2.2.2⟩)
        (Cert.Kernel29Ideal.Value.run m g),
      (θ_run Cert.Reference29Ideal.defs _ _).mono (fun r h c => ⟨(h c).1.trans
          ((Cert.Reference29Ideal.Read.val_main_v23_eq _ _ _ _).trans ((congr (congr (congrArg₂ (Cert.Reference29Ideal.Read.val_main_v23 (F := Ideal)) (hag c).1 (hag c).2.1) (hag c).2.2.1) (hag c).2.2.2).trans (rfl))), (h c).2.1.trans
          ((Cert.Reference29Ideal.Read.val_main_v4_eq _ _).trans ((congrArg₂ (Cert.Reference29Ideal.Read.val_main_v4 (F := Ideal)) (hag c).2.1 (hag c).2.2.1).trans (rfl))), (h c).2.2.1.trans
          ((Cert.Reference29Ideal.Read.val_main_v10_eq _ _).trans ((congrArg₂ (Cert.Reference29Ideal.Read.val_main_v10 (F := Ideal)) (hag c).2.1 (hag c).2.2.2).trans (rfl))), (h c).2.2.2⟩)
        (Cert.Reference29Ideal.Value.run m' g')⟩,
    trivial, fun m g m' g' _ hag => ⟨fun c => Cert.Update.delta (m (c.tc.loc Cert.Kernel30Ideal.main_arg0)) (m (c.tc.loc Cert.Kernel30Ideal.main_arg1)) (m (c.tc.loc Cert.Kernel30Ideal.main_arg2)) (m (c.tc.loc Cert.Kernel30Ideal.main_arg3)), fun c => Cert.Update.mean (m (c.tc.loc Cert.Kernel30Ideal.main_arg1)) (m (c.tc.loc Cert.Kernel30Ideal.main_arg2)), fun c => Cert.Update.square (m (c.tc.loc Cert.Kernel30Ideal.main_arg1)) (m (c.tc.loc Cert.Kernel30Ideal.main_arg3)),
      (θ_run Cert.Kernel30Ideal.defs _ _).mono (fun r h c => ⟨(h c).1, (h c).2.1, (h c).2.2.1, (h c).2.2.2⟩)
        (Cert.Kernel30Ideal.Value.run m g),
      (θ_run Cert.Reference30Ideal.defs _ _).mono (fun r h c => ⟨(h c).1.trans
          ((Cert.Reference30Ideal.Read.val_main_v23_eq _ _ _ _).trans ((congr (congr (congrArg₂ (Cert.Reference30Ideal.Read.val_main_v23 (F := Ideal)) (hag c).1 (hag c).2.1) (hag c).2.2.1) (hag c).2.2.2).trans (rfl))), (h c).2.1.trans
          ((Cert.Reference30Ideal.Read.val_main_v4_eq _ _).trans ((congrArg₂ (Cert.Reference30Ideal.Read.val_main_v4 (F := Ideal)) (hag c).2.1 (hag c).2.2.1).trans (rfl))), (h c).2.2.1.trans
          ((Cert.Reference30Ideal.Read.val_main_v10_eq _ _).trans ((congrArg₂ (Cert.Reference30Ideal.Read.val_main_v10 (F := Ideal)) (hag c).2.1 (hag c).2.2.2).trans (rfl))), (h c).2.2.2⟩)
        (Cert.Reference30Ideal.Value.run m' g')⟩,
    trivial, fun m g m' g' _ hag => ⟨fun c => Cert.Update.delta (m (c.tc.loc Cert.Kernel31Ideal.main_arg0)) (m (c.tc.loc Cert.Kernel31Ideal.main_arg1)) (m (c.tc.loc Cert.Kernel31Ideal.main_arg2)) (m (c.tc.loc Cert.Kernel31Ideal.main_arg3)), fun c => Cert.Update.mean (m (c.tc.loc Cert.Kernel31Ideal.main_arg1)) (m (c.tc.loc Cert.Kernel31Ideal.main_arg2)), fun c => Cert.Update.square (m (c.tc.loc Cert.Kernel31Ideal.main_arg1)) (m (c.tc.loc Cert.Kernel31Ideal.main_arg3)),
      (θ_run Cert.Kernel31Ideal.defs _ _).mono (fun r h c => ⟨(h c).1, (h c).2.1, (h c).2.2.1, (h c).2.2.2⟩)
        (Cert.Kernel31Ideal.Value.run m g),
      (θ_run Cert.Reference31Ideal.defs _ _).mono (fun r h c => ⟨(h c).1.trans
          ((Cert.Reference31Ideal.Read.val_main_v23_eq _ _ _ _).trans ((congr (congr (congrArg₂ (Cert.Reference31Ideal.Read.val_main_v23 (F := Ideal)) (hag c).1 (hag c).2.1) (hag c).2.2.1) (hag c).2.2.2).trans (rfl))), (h c).2.1.trans
          ((Cert.Reference31Ideal.Read.val_main_v4_eq _ _).trans ((congrArg₂ (Cert.Reference31Ideal.Read.val_main_v4 (F := Ideal)) (hag c).2.1 (hag c).2.2.1).trans (rfl))), (h c).2.2.1.trans
          ((Cert.Reference31Ideal.Read.val_main_v10_eq _ _).trans ((congrArg₂ (Cert.Reference31Ideal.Read.val_main_v10 (F := Ideal)) (hag c).2.1 (hag c).2.2.2).trans (rfl))), (h c).2.2.2⟩)
        (Cert.Reference31Ideal.Value.run m' g')⟩,
    trivial, fun m g m' g' _ hag => ⟨fun c => Cert.Update.delta (m (c.tc.loc Cert.Kernel32Ideal.main_arg0)) (m (c.tc.loc Cert.Kernel32Ideal.main_arg1)) (m (c.tc.loc Cert.Kernel32Ideal.main_arg2)) (m (c.tc.loc Cert.Kernel32Ideal.main_arg3)), fun c => Cert.Update.mean (m (c.tc.loc Cert.Kernel32Ideal.main_arg1)) (m (c.tc.loc Cert.Kernel32Ideal.main_arg2)), fun c => Cert.Update.square (m (c.tc.loc Cert.Kernel32Ideal.main_arg1)) (m (c.tc.loc Cert.Kernel32Ideal.main_arg3)),
      (θ_run Cert.Kernel32Ideal.defs _ _).mono (fun r h c => ⟨(h c).1, (h c).2.1, (h c).2.2.1, (h c).2.2.2⟩)
        (Cert.Kernel32Ideal.Value.run m g),
      (θ_run Cert.Reference32Ideal.defs _ _).mono (fun r h c => ⟨(h c).1.trans
          ((Cert.Reference32Ideal.Read.val_main_v23_eq _ _ _ _).trans ((congr (congr (congrArg₂ (Cert.Reference32Ideal.Read.val_main_v23 (F := Ideal)) (hag c).1 (hag c).2.1) (hag c).2.2.1) (hag c).2.2.2).trans (rfl))), (h c).2.1.trans
          ((Cert.Reference32Ideal.Read.val_main_v4_eq _ _).trans ((congrArg₂ (Cert.Reference32Ideal.Read.val_main_v4 (F := Ideal)) (hag c).2.1 (hag c).2.2.1).trans (rfl))), (h c).2.2.1.trans
          ((Cert.Reference32Ideal.Read.val_main_v10_eq _ _).trans ((congrArg₂ (Cert.Reference32Ideal.Read.val_main_v10 (F := Ideal)) (hag c).2.1 (hag c).2.2.2).trans (rfl))), (h c).2.2.2⟩)
        (Cert.Reference32Ideal.Value.run m' g')⟩,
    trivial, fun m g m' g' _ hag => ⟨fun c => Cert.Update.delta (m (c.tc.loc Cert.Kernel33Ideal.main_arg0)) (m (c.tc.loc Cert.Kernel33Ideal.main_arg1)) (m (c.tc.loc Cert.Kernel33Ideal.main_arg2)) (m (c.tc.loc Cert.Kernel33Ideal.main_arg3)), fun c => Cert.Update.mean (m (c.tc.loc Cert.Kernel33Ideal.main_arg1)) (m (c.tc.loc Cert.Kernel33Ideal.main_arg2)), fun c => Cert.Update.square (m (c.tc.loc Cert.Kernel33Ideal.main_arg1)) (m (c.tc.loc Cert.Kernel33Ideal.main_arg3)),
      (θ_run Cert.Kernel33Ideal.defs _ _).mono (fun r h c => ⟨(h c).1, (h c).2.1, (h c).2.2.1, (h c).2.2.2⟩)
        (Cert.Kernel33Ideal.Value.run m g),
      (θ_run Cert.Reference33Ideal.defs _ _).mono (fun r h c => ⟨(h c).1.trans
          ((Cert.Reference33Ideal.Read.val_main_v23_eq _ _ _ _).trans ((congr (congr (congrArg₂ (Cert.Reference33Ideal.Read.val_main_v23 (F := Ideal)) (hag c).1 (hag c).2.1) (hag c).2.2.1) (hag c).2.2.2).trans (rfl))), (h c).2.1.trans
          ((Cert.Reference33Ideal.Read.val_main_v4_eq _ _).trans ((congrArg₂ (Cert.Reference33Ideal.Read.val_main_v4 (F := Ideal)) (hag c).2.1 (hag c).2.2.1).trans (rfl))), (h c).2.2.1.trans
          ((Cert.Reference33Ideal.Read.val_main_v10_eq _ _).trans ((congrArg₂ (Cert.Reference33Ideal.Read.val_main_v10 (F := Ideal)) (hag c).2.1 (hag c).2.2.2).trans (rfl))), (h c).2.2.2⟩)
        (Cert.Reference33Ideal.Value.run m' g')⟩,
    trivial, fun m g m' g' _ hag => ⟨fun c => Cert.Update.delta (m (c.tc.loc Cert.Kernel34Ideal.main_arg0)) (m (c.tc.loc Cert.Kernel34Ideal.main_arg1)) (m (c.tc.loc Cert.Kernel34Ideal.main_arg2)) (m (c.tc.loc Cert.Kernel34Ideal.main_arg3)), fun c => Cert.Update.mean (m (c.tc.loc Cert.Kernel34Ideal.main_arg1)) (m (c.tc.loc Cert.Kernel34Ideal.main_arg2)), fun c => Cert.Update.square (m (c.tc.loc Cert.Kernel34Ideal.main_arg1)) (m (c.tc.loc Cert.Kernel34Ideal.main_arg3)),
      (θ_run Cert.Kernel34Ideal.defs _ _).mono (fun r h c => ⟨(h c).1, (h c).2.1, (h c).2.2.1, (h c).2.2.2⟩)
        (Cert.Kernel34Ideal.Value.run m g),
      (θ_run Cert.Reference34Ideal.defs _ _).mono (fun r h c => ⟨(h c).1.trans
          ((Cert.Reference34Ideal.Read.val_main_v23_eq _ _ _ _).trans ((congr (congr (congrArg₂ (Cert.Reference34Ideal.Read.val_main_v23 (F := Ideal)) (hag c).1 (hag c).2.1) (hag c).2.2.1) (hag c).2.2.2).trans (rfl))), (h c).2.1.trans
          ((Cert.Reference34Ideal.Read.val_main_v4_eq _ _).trans ((congrArg₂ (Cert.Reference34Ideal.Read.val_main_v4 (F := Ideal)) (hag c).2.1 (hag c).2.2.1).trans (rfl))), (h c).2.2.1.trans
          ((Cert.Reference34Ideal.Read.val_main_v10_eq _ _).trans ((congrArg₂ (Cert.Reference34Ideal.Read.val_main_v10 (F := Ideal)) (hag c).2.1 (hag c).2.2.2).trans (rfl))), (h c).2.2.2⟩)
        (Cert.Reference34Ideal.Value.run m' g')⟩,
    trivial, fun m g m' g' _ hag => ⟨fun c => Cert.Update.delta (m (c.tc.loc Cert.Kernel35Ideal.main_arg0)) (m (c.tc.loc Cert.Kernel35Ideal.main_arg1)) (m (c.tc.loc Cert.Kernel35Ideal.main_arg2)) (m (c.tc.loc Cert.Kernel35Ideal.main_arg3)), fun c => Cert.Update.mean (m (c.tc.loc Cert.Kernel35Ideal.main_arg1)) (m (c.tc.loc Cert.Kernel35Ideal.main_arg2)), fun c => Cert.Update.square (m (c.tc.loc Cert.Kernel35Ideal.main_arg1)) (m (c.tc.loc Cert.Kernel35Ideal.main_arg3)),
      (θ_run Cert.Kernel35Ideal.defs _ _).mono (fun r h c => ⟨(h c).1, (h c).2.1, (h c).2.2.1, (h c).2.2.2⟩)
        (Cert.Kernel35Ideal.Value.run m g),
      (θ_run Cert.Reference35Ideal.defs _ _).mono (fun r h c => ⟨(h c).1.trans
          ((Cert.Reference35Ideal.Read.val_main_v23_eq _ _ _ _).trans ((congr (congr (congrArg₂ (Cert.Reference35Ideal.Read.val_main_v23 (F := Ideal)) (hag c).1 (hag c).2.1) (hag c).2.2.1) (hag c).2.2.2).trans (rfl))), (h c).2.1.trans
          ((Cert.Reference35Ideal.Read.val_main_v4_eq _ _).trans ((congrArg₂ (Cert.Reference35Ideal.Read.val_main_v4 (F := Ideal)) (hag c).2.1 (hag c).2.2.1).trans (rfl))), (h c).2.2.1.trans
          ((Cert.Reference35Ideal.Read.val_main_v10_eq _ _).trans ((congrArg₂ (Cert.Reference35Ideal.Read.val_main_v10 (F := Ideal)) (hag c).2.1 (hag c).2.2.2).trans (rfl))), (h c).2.2.2⟩)
        (Cert.Reference35Ideal.Value.run m' g')⟩,
    trivial, fun m g m' g' _ hag => ⟨fun c => Cert.Update.delta (m (c.tc.loc Cert.Kernel36Ideal.main_arg0)) (m (c.tc.loc Cert.Kernel36Ideal.main_arg1)) (m (c.tc.loc Cert.Kernel36Ideal.main_arg2)) (m (c.tc.loc Cert.Kernel36Ideal.main_arg3)), fun c => Cert.Update.mean (m (c.tc.loc Cert.Kernel36Ideal.main_arg1)) (m (c.tc.loc Cert.Kernel36Ideal.main_arg2)), fun c => Cert.Update.square (m (c.tc.loc Cert.Kernel36Ideal.main_arg1)) (m (c.tc.loc Cert.Kernel36Ideal.main_arg3)),
      (θ_run Cert.Kernel36Ideal.defs _ _).mono (fun r h c => ⟨(h c).1, (h c).2.1, (h c).2.2.1, (h c).2.2.2⟩)
        (Cert.Kernel36Ideal.Value.run m g),
      (θ_run Cert.Reference36Ideal.defs _ _).mono (fun r h c => ⟨(h c).1.trans
          ((Cert.Reference36Ideal.Read.val_main_v23_eq _ _ _ _).trans ((congr (congr (congrArg₂ (Cert.Reference36Ideal.Read.val_main_v23 (F := Ideal)) (hag c).1 (hag c).2.1) (hag c).2.2.1) (hag c).2.2.2).trans (rfl))), (h c).2.1.trans
          ((Cert.Reference36Ideal.Read.val_main_v4_eq _ _).trans ((congrArg₂ (Cert.Reference36Ideal.Read.val_main_v4 (F := Ideal)) (hag c).2.1 (hag c).2.2.1).trans (rfl))), (h c).2.2.1.trans
          ((Cert.Reference36Ideal.Read.val_main_v10_eq _ _).trans ((congrArg₂ (Cert.Reference36Ideal.Read.val_main_v10 (F := Ideal)) (hag c).2.1 (hag c).2.2.2).trans (rfl))), (h c).2.2.2⟩)
        (Cert.Reference36Ideal.Value.run m' g')⟩⟩⟩

end Cert.Proof

end
